-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KDownDgrad (m : (ℓ : Loc Cert.KDownDgrad.nD Cert.KDownDgrad.τ Cert.KDownDgrad.sig) → Buf (Elt Bits) ℓ) : Prop :=
  True

def Pre_KDownDgradIdeal (m : (ℓ : Loc Cert.KDownDgradIdeal.nD Cert.KDownDgradIdeal.τ Cert.KDownDgradIdeal.sig) → Buf (Elt Ideal) ℓ) : Prop :=
  True

def Pre_RDownDgradIdeal (m : (ℓ : Loc Cert.RDownDgradIdeal.nD Cert.RDownDgradIdeal.τ Cert.RDownDgradIdeal.sig) → Buf (Elt Ideal) ℓ) : Prop :=
  True

def Pre_KUpDgrad (m : (ℓ : Loc Cert.KUpDgrad.nD Cert.KUpDgrad.τ Cert.KUpDgrad.sig) → Buf (Elt Bits) ℓ) : Prop :=
  True

def Pre_KUpDgradIdeal (m : (ℓ : Loc Cert.KUpDgradIdeal.nD Cert.KUpDgradIdeal.τ Cert.KUpDgradIdeal.sig) → Buf (Elt Ideal) ℓ) : Prop :=
  True

def Pre_RUpDgradIdeal (m : (ℓ : Loc Cert.RUpDgradIdeal.nD Cert.RUpDgradIdeal.τ Cert.RUpDgradIdeal.sig) → Buf (Elt Ideal) ℓ) : Prop :=
  True

def Pre_KODgrad (m : (ℓ : Loc Cert.KODgrad.nD Cert.KODgrad.τ Cert.KODgrad.sig) → Buf (Elt Bits) ℓ) : Prop :=
  True

def Pre_KODgradIdeal (m : (ℓ : Loc Cert.KODgradIdeal.nD Cert.KODgradIdeal.τ Cert.KODgradIdeal.sig) → Buf (Elt Ideal) ℓ) : Prop :=
  True

def Pre_RODgradIdeal (m : (ℓ : Loc Cert.RODgradIdeal.nD Cert.RODgradIdeal.τ Cert.RODgradIdeal.sig) → Buf (Elt Ideal) ℓ) : Prop :=
  True

def Pre_KOutDgrad (m : (ℓ : Loc Cert.KOutDgrad.nD Cert.KOutDgrad.τ Cert.KOutDgrad.sig) → Buf (Elt Bits) ℓ) : Prop :=
  True

def Pre_KOutDgradIdeal (m : (ℓ : Loc Cert.KOutDgradIdeal.nD Cert.KOutDgradIdeal.τ Cert.KOutDgradIdeal.sig) → Buf (Elt Ideal) ℓ) : Prop :=
  True

def Pre_ROutDgradIdeal (m : (ℓ : Loc Cert.ROutDgradIdeal.nD Cert.ROutDgradIdeal.τ Cert.ROutDgradIdeal.sig) → Buf (Elt Ideal) ℓ) : Prop :=
  True

def Pre_KInDgrad (m : (ℓ : Loc Cert.KInDgrad.nD Cert.KInDgrad.τ Cert.KInDgrad.sig) → Buf (Elt Bits) ℓ) : Prop :=
  True

def Pre_KInDgradIdeal (m : (ℓ : Loc Cert.KInDgradIdeal.nD Cert.KInDgradIdeal.τ Cert.KInDgradIdeal.sig) → Buf (Elt Ideal) ℓ) : Prop :=
  True

def Pre_RInDgradIdeal (m : (ℓ : Loc Cert.RInDgradIdeal.nD Cert.RInDgradIdeal.τ Cert.RInDgradIdeal.sig) → Buf (Elt Ideal) ℓ) : Prop :=
  True

def Pre_KInProj (m : (ℓ : Loc Cert.KInProj.nD Cert.KInProj.τ Cert.KInProj.sig) → Buf (Elt Bits) ℓ) : Prop :=
  True

def Pre_KInProjIdeal (m : (ℓ : Loc Cert.KInProjIdeal.nD Cert.KInProjIdeal.τ Cert.KInProjIdeal.sig) → Buf (Elt Ideal) ℓ) : Prop :=
  True

def Pre_RInProjIdeal (m : (ℓ : Loc Cert.RInProjIdeal.nD Cert.RInProjIdeal.τ Cert.RInProjIdeal.sig) → Buf (Elt Ideal) ℓ) : Prop :=
  True

def Pre_KOutProj (m : (ℓ : Loc Cert.KOutProj.nD Cert.KOutProj.τ Cert.KOutProj.sig) → Buf (Elt Bits) ℓ) : Prop :=
  True

def Pre_KOutProjIdeal (m : (ℓ : Loc Cert.KOutProjIdeal.nD Cert.KOutProjIdeal.τ Cert.KOutProjIdeal.sig) → Buf (Elt Ideal) ℓ) : Prop :=
  True

def Pre_ROutProjIdeal (m : (ℓ : Loc Cert.ROutProjIdeal.nD Cert.ROutProjIdeal.τ Cert.ROutProjIdeal.sig) → Buf (Elt Ideal) ℓ) : Prop :=
  True

def Pre_KOProj (m : (ℓ : Loc Cert.KOProj.nD Cert.KOProj.τ Cert.KOProj.sig) → Buf (Elt Bits) ℓ) : Prop :=
  True

def Pre_KOProjIdeal (m : (ℓ : Loc Cert.KOProjIdeal.nD Cert.KOProjIdeal.τ Cert.KOProjIdeal.sig) → Buf (Elt Ideal) ℓ) : Prop :=
  True

def Pre_ROProjIdeal (m : (ℓ : Loc Cert.ROProjIdeal.nD Cert.ROProjIdeal.τ Cert.ROProjIdeal.sig) → Buf (Elt Ideal) ℓ) : Prop :=
  True

def Pre_KUpProj (m : (ℓ : Loc Cert.KUpProj.nD Cert.KUpProj.τ Cert.KUpProj.sig) → Buf (Elt Bits) ℓ) : Prop :=
  True

def Pre_KUpProjIdeal (m : (ℓ : Loc Cert.KUpProjIdeal.nD Cert.KUpProjIdeal.τ Cert.KUpProjIdeal.sig) → Buf (Elt Ideal) ℓ) : Prop :=
  True

def Pre_RUpProjIdeal (m : (ℓ : Loc Cert.RUpProjIdeal.nD Cert.RUpProjIdeal.τ Cert.RUpProjIdeal.sig) → Buf (Elt Ideal) ℓ) : Prop :=
  True

def Pre_KDownProj (m : (ℓ : Loc Cert.KDownProj.nD Cert.KDownProj.τ Cert.KDownProj.sig) → Buf (Elt Bits) ℓ) : Prop :=
  True

def Pre_KDownProjIdeal (m : (ℓ : Loc Cert.KDownProjIdeal.nD Cert.KDownProjIdeal.τ Cert.KDownProjIdeal.sig) → Buf (Elt Ideal) ℓ) : Prop :=
  True

def Pre_RDownProjIdeal (m : (ℓ : Loc Cert.RDownProjIdeal.nD Cert.RDownProjIdeal.τ Cert.RDownProjIdeal.sig) → Buf (Elt Ideal) ℓ) : Prop :=
  True

def Pre_KDownWgrad (m : (ℓ : Loc Cert.KDownWgrad.nD Cert.KDownWgrad.τ Cert.KDownWgrad.sig) → Buf (Elt Bits) ℓ) : Prop :=
  True

def Pre_KDownWgradIdeal (m : (ℓ : Loc Cert.KDownWgradIdeal.nD Cert.KDownWgradIdeal.τ Cert.KDownWgradIdeal.sig) → Buf (Elt Ideal) ℓ) : Prop :=
  True

def Pre_RDownWgradIdeal (m : (ℓ : Loc Cert.RDownWgradIdeal.nD Cert.RDownWgradIdeal.τ Cert.RDownWgradIdeal.sig) → Buf (Elt Ideal) ℓ) : Prop :=
  True

def Pre_KOWgrad (m : (ℓ : Loc Cert.KOWgrad.nD Cert.KOWgrad.τ Cert.KOWgrad.sig) → Buf (Elt Bits) ℓ) : Prop :=
  True

def Pre_KOWgradIdeal (m : (ℓ : Loc Cert.KOWgradIdeal.nD Cert.KOWgradIdeal.τ Cert.KOWgradIdeal.sig) → Buf (Elt Ideal) ℓ) : Prop :=
  True

def Pre_ROWgradIdeal (m : (ℓ : Loc Cert.ROWgradIdeal.nD Cert.ROWgradIdeal.τ Cert.ROWgradIdeal.sig) → Buf (Elt Ideal) ℓ) : Prop :=
  True

def Pre_KOutWgrad (m : (ℓ : Loc Cert.KOutWgrad.nD Cert.KOutWgrad.τ Cert.KOutWgrad.sig) → Buf (Elt Bits) ℓ) : Prop :=
  True

def Pre_KOutWgradIdeal (m : (ℓ : Loc Cert.KOutWgradIdeal.nD Cert.KOutWgradIdeal.τ Cert.KOutWgradIdeal.sig) → Buf (Elt Ideal) ℓ) : Prop :=
  True

def Pre_ROutWgradIdeal (m : (ℓ : Loc Cert.ROutWgradIdeal.nD Cert.ROutWgradIdeal.τ Cert.ROutWgradIdeal.sig) → Buf (Elt Ideal) ℓ) : Prop :=
  True

def Pre_KInWgradA (m : (ℓ : Loc Cert.KInWgradA.nD Cert.KInWgradA.τ Cert.KInWgradA.sig) → Buf (Elt Bits) ℓ) : Prop :=
  True

def Pre_KInWgradAIdeal (m : (ℓ : Loc Cert.KInWgradAIdeal.nD Cert.KInWgradAIdeal.τ Cert.KInWgradAIdeal.sig) → Buf (Elt Ideal) ℓ) : Prop :=
  True

def Pre_RInWgradAIdeal (m : (ℓ : Loc Cert.RInWgradAIdeal.nD Cert.RInWgradAIdeal.τ Cert.RInWgradAIdeal.sig) → Buf (Elt Ideal) ℓ) : Prop :=
  True

def Pre_KInWgradB (m : (ℓ : Loc Cert.KInWgradB.nD Cert.KInWgradB.τ Cert.KInWgradB.sig) → Buf (Elt Bits) ℓ) : Prop :=
  True

def Pre_KInWgradBIdeal (m : (ℓ : Loc Cert.KInWgradBIdeal.nD Cert.KInWgradBIdeal.τ Cert.KInWgradBIdeal.sig) → Buf (Elt Ideal) ℓ) : Prop :=
  True

def Pre_RInWgradBIdeal (m : (ℓ : Loc Cert.RInWgradBIdeal.nD Cert.RInWgradBIdeal.τ Cert.RInWgradBIdeal.sig) → Buf (Elt Ideal) ℓ) : Prop :=
  True

def Pre_KUpWgradA (m : (ℓ : Loc Cert.KUpWgradA.nD Cert.KUpWgradA.τ Cert.KUpWgradA.sig) → Buf (Elt Bits) ℓ) : Prop :=
  True

def Pre_KUpWgradAIdeal (m : (ℓ : Loc Cert.KUpWgradAIdeal.nD Cert.KUpWgradAIdeal.τ Cert.KUpWgradAIdeal.sig) → Buf (Elt Ideal) ℓ) : Prop :=
  True

def Pre_RUpWgradAIdeal (m : (ℓ : Loc Cert.RUpWgradAIdeal.nD Cert.RUpWgradAIdeal.τ Cert.RUpWgradAIdeal.sig) → Buf (Elt Ideal) ℓ) : Prop :=
  True

def Pre_KUpWgradB (m : (ℓ : Loc Cert.KUpWgradB.nD Cert.KUpWgradB.τ Cert.KUpWgradB.sig) → Buf (Elt Bits) ℓ) : Prop :=
  True

def Pre_KUpWgradBIdeal (m : (ℓ : Loc Cert.KUpWgradBIdeal.nD Cert.KUpWgradBIdeal.τ Cert.KUpWgradBIdeal.sig) → Buf (Elt Ideal) ℓ) : Prop :=
  True

def Pre_RUpWgradBIdeal (m : (ℓ : Loc Cert.RUpWgradBIdeal.nD Cert.RUpWgradBIdeal.τ Cert.RUpWgradBIdeal.sig) → Buf (Elt Ideal) ℓ) : Prop :=
  True

def Pre_KAdamAdaB (m : (ℓ : Loc Cert.KAdamAdaB.nD Cert.KAdamAdaB.τ Cert.KAdamAdaB.sig) → Buf (Elt Bits) ℓ) : Prop :=
  True

def Pre_KAdamAdaBIdeal (m : (ℓ : Loc Cert.KAdamAdaBIdeal.nD Cert.KAdamAdaBIdeal.τ Cert.KAdamAdaBIdeal.sig) → Buf (Elt Ideal) ℓ) : Prop :=
  True

def Pre_RAdamAdaBIdeal (m : (ℓ : Loc Cert.RAdamAdaBIdeal.nD Cert.RAdamAdaBIdeal.τ Cert.RAdamAdaBIdeal.sig) → Buf (Elt Ideal) ℓ) : Prop :=
  True

def Pre_KAdamNormG (m : (ℓ : Loc Cert.KAdamNormG.nD Cert.KAdamNormG.τ Cert.KAdamNormG.sig) → Buf (Elt Bits) ℓ) : Prop :=
  True

def Pre_KAdamNormGIdeal (m : (ℓ : Loc Cert.KAdamNormGIdeal.nD Cert.KAdamNormGIdeal.τ Cert.KAdamNormGIdeal.sig) → Buf (Elt Ideal) ℓ) : Prop :=
  True

def Pre_RAdamNormGIdeal (m : (ℓ : Loc Cert.RAdamNormGIdeal.nD Cert.RAdamNormGIdeal.τ Cert.RAdamNormGIdeal.sig) → Buf (Elt Ideal) ℓ) : Prop :=
  True

def Pre_KAdamGateW (m : (ℓ : Loc Cert.KAdamGateW.nD Cert.KAdamGateW.τ Cert.KAdamGateW.sig) → Buf (Elt Bits) ℓ) : Prop :=
  True

def Pre_KAdamGateWIdeal (m : (ℓ : Loc Cert.KAdamGateWIdeal.nD Cert.KAdamGateWIdeal.τ Cert.KAdamGateWIdeal.sig) → Buf (Elt Ideal) ℓ) : Prop :=
  True

def Pre_RAdamGateWIdeal (m : (ℓ : Loc Cert.RAdamGateWIdeal.nD Cert.RAdamGateWIdeal.τ Cert.RAdamGateWIdeal.sig) → Buf (Elt Ideal) ℓ) : Prop :=
  True

def Pre_KAdamGateB (m : (ℓ : Loc Cert.KAdamGateB.nD Cert.KAdamGateB.τ Cert.KAdamGateB.sig) → Buf (Elt Bits) ℓ) : Prop :=
  True

def Pre_KAdamGateBIdeal (m : (ℓ : Loc Cert.KAdamGateBIdeal.nD Cert.KAdamGateBIdeal.τ Cert.KAdamGateBIdeal.sig) → Buf (Elt Ideal) ℓ) : Prop :=
  True

def Pre_RAdamGateBIdeal (m : (ℓ : Loc Cert.RAdamGateBIdeal.nD Cert.RAdamGateBIdeal.τ Cert.RAdamGateBIdeal.sig) → Buf (Elt Ideal) ℓ) : Prop :=
  True

def Pre_KAdamGlaNorm (m : (ℓ : Loc Cert.KAdamGlaNorm.nD Cert.KAdamGlaNorm.τ Cert.KAdamGlaNorm.sig) → Buf (Elt Bits) ℓ) : Prop :=
  True

def Pre_KAdamGlaNormIdeal (m : (ℓ : Loc Cert.KAdamGlaNormIdeal.nD Cert.KAdamGlaNormIdeal.τ Cert.KAdamGlaNormIdeal.sig) → Buf (Elt Ideal) ℓ) : Prop :=
  True

def Pre_RAdamGlaNormIdeal (m : (ℓ : Loc Cert.RAdamGlaNormIdeal.nD Cert.RAdamGlaNormIdeal.τ Cert.RAdamGlaNormIdeal.sig) → Buf (Elt Ideal) ℓ) : Prop :=
  True

def Pre_KAdamConvW (m : (ℓ : Loc Cert.KAdamConvW.nD Cert.KAdamConvW.τ Cert.KAdamConvW.sig) → Buf (Elt Bits) ℓ) : Prop :=
  True

def Pre_KAdamConvWIdeal (m : (ℓ : Loc Cert.KAdamConvWIdeal.nD Cert.KAdamConvWIdeal.τ Cert.KAdamConvWIdeal.sig) → Buf (Elt Ideal) ℓ) : Prop :=
  True

def Pre_RAdamConvWIdeal (m : (ℓ : Loc Cert.RAdamConvWIdeal.nD Cert.RAdamConvWIdeal.τ Cert.RAdamConvWIdeal.sig) → Buf (Elt Ideal) ℓ) : Prop :=
  True

def Pre_KAdamFfnConv (m : (ℓ : Loc Cert.KAdamFfnConv.nD Cert.KAdamFfnConv.τ Cert.KAdamFfnConv.sig) → Buf (Elt Bits) ℓ) : Prop :=
  True

def Pre_KAdamFfnConvIdeal (m : (ℓ : Loc Cert.KAdamFfnConvIdeal.nD Cert.KAdamFfnConvIdeal.τ Cert.KAdamFfnConvIdeal.sig) → Buf (Elt Ideal) ℓ) : Prop :=
  True

def Pre_RAdamFfnConvIdeal (m : (ℓ : Loc Cert.RAdamFfnConvIdeal.nD Cert.RAdamFfnConvIdeal.τ Cert.RAdamFfnConvIdeal.sig) → Buf (Elt Ideal) ℓ) : Prop :=
  True

def Pre_KAdamO (m : (ℓ : Loc Cert.KAdamO.nD Cert.KAdamO.τ Cert.KAdamO.sig) → Buf (Elt Bits) ℓ) : Prop :=
  True

def Pre_KAdamOIdeal (m : (ℓ : Loc Cert.KAdamOIdeal.nD Cert.KAdamOIdeal.τ Cert.KAdamOIdeal.sig) → Buf (Elt Ideal) ℓ) : Prop :=
  True

def Pre_RAdamOIdeal (m : (ℓ : Loc Cert.RAdamOIdeal.nD Cert.RAdamOIdeal.τ Cert.RAdamOIdeal.sig) → Buf (Elt Ideal) ℓ) : Prop :=
  True

def Pre_KAdamDown (m : (ℓ : Loc Cert.KAdamDown.nD Cert.KAdamDown.τ Cert.KAdamDown.sig) → Buf (Elt Bits) ℓ) : Prop :=
  True

def Pre_KAdamDownIdeal (m : (ℓ : Loc Cert.KAdamDownIdeal.nD Cert.KAdamDownIdeal.τ Cert.KAdamDownIdeal.sig) → Buf (Elt Ideal) ℓ) : Prop :=
  True

def Pre_RAdamDownIdeal (m : (ℓ : Loc Cert.RAdamDownIdeal.nD Cert.RAdamDownIdeal.τ Cert.RAdamDownIdeal.sig) → Buf (Elt Ideal) ℓ) : Prop :=
  True

def Pre_KAdamOut (m : (ℓ : Loc Cert.KAdamOut.nD Cert.KAdamOut.τ Cert.KAdamOut.sig) → Buf (Elt Bits) ℓ) : Prop :=
  True

def Pre_KAdamOutIdeal (m : (ℓ : Loc Cert.KAdamOutIdeal.nD Cert.KAdamOutIdeal.τ Cert.KAdamOutIdeal.sig) → Buf (Elt Ideal) ℓ) : Prop :=
  True

def Pre_RAdamOutIdeal (m : (ℓ : Loc Cert.RAdamOutIdeal.nD Cert.RAdamOutIdeal.τ Cert.RAdamOutIdeal.sig) → Buf (Elt Ideal) ℓ) : Prop :=
  True

def Pre_KAdamAda (m : (ℓ : Loc Cert.KAdamAda.nD Cert.KAdamAda.τ Cert.KAdamAda.sig) → Buf (Elt Bits) ℓ) : Prop :=
  True

def Pre_KAdamAdaIdeal (m : (ℓ : Loc Cert.KAdamAdaIdeal.nD Cert.KAdamAdaIdeal.τ Cert.KAdamAdaIdeal.sig) → Buf (Elt Ideal) ℓ) : Prop :=
  True

def Pre_RAdamAdaIdeal (m : (ℓ : Loc Cert.RAdamAdaIdeal.nD Cert.RAdamAdaIdeal.τ Cert.RAdamAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KDownDgrad [hKDownDgrad : Cert.KDownDgrad.Facts] : Prop :=
  ∀ (m : (ℓ : Loc Cert.KDownDgrad.nD Cert.KDownDgrad.τ Cert.KDownDgrad.sig) → Buf (Elt Bits) ℓ) (g : Dev Cert.KDownDgrad.nD → PrngReg), Pre_KDownDgrad m →
    θ_run (Cert.KDownDgrad.defs (F := Bits)) (onTc (τ := Cert.KDownDgrad.τ) (Cert.KDownDgrad.main (F := Bits))) ⟨m, fun _ => 0, g⟩ (fun r => (∀ c : Dev Cert.KDownDgrad.nD,
      r.2.mem ((c.tc : Thread Cert.KDownDgrad.nD Cert.KDownDgrad.τ).loc Cert.KDownDgrad.main_arg0) = m ((c.tc : Thread Cert.KDownDgrad.nD Cert.KDownDgrad.τ).loc Cert.KDownDgrad.main_arg0)
      ∧ r.2.mem ((c.tc : Thread Cert.KDownDgrad.nD Cert.KDownDgrad.τ).loc Cert.KDownDgrad.main_arg1) = m ((c.tc : Thread Cert.KDownDgrad.nD Cert.KDownDgrad.τ).loc Cert.KDownDgrad.main_arg1))
      ∧ r.2.sem = fun _ => 0)

def quiescent_KDownDgradIdeal [hKDownDgradIdeal : Cert.KDownDgradIdeal.Facts] : Prop :=
  ∀ (m : (ℓ : Loc Cert.KDownDgradIdeal.nD Cert.KDownDgradIdeal.τ Cert.KDownDgradIdeal.sig) → Buf (Elt Ideal) ℓ) (g : Dev Cert.KDownDgradIdeal.nD → PrngReg), Pre_KDownDgradIdeal m →
    θ_run (Cert.KDownDgradIdeal.defs (F := Ideal)) (onTc (τ := Cert.KDownDgradIdeal.τ) (Cert.KDownDgradIdeal.main (F := Ideal))) ⟨m, fun _ => 0, g⟩ (fun r => (∀ c : Dev Cert.KDownDgradIdeal.nD,
      r.2.mem ((c.tc : Thread Cert.KDownDgradIdeal.nD Cert.KDownDgradIdeal.τ).loc Cert.KDownDgradIdeal.main_arg0) = m ((c.tc : Thread Cert.KDownDgradIdeal.nD Cert.KDownDgradIdeal.τ).loc Cert.KDownDgradIdeal.main_arg0)
      ∧ r.2.mem ((c.tc : Thread Cert.KDownDgradIdeal.nD Cert.KDownDgradIdeal.τ).loc Cert.KDownDgradIdeal.main_arg1) = m ((c.tc : Thread Cert.KDownDgradIdeal.nD Cert.KDownDgradIdeal.τ).loc Cert.KDownDgradIdeal.main_arg1))
      ∧ r.2.sem = fun _ => 0)

def quiescent_RDownDgradIdeal [hRDownDgradIdeal : Cert.RDownDgradIdeal.Facts] : Prop :=
  ∀ (m : (ℓ : Loc Cert.RDownDgradIdeal.nD Cert.RDownDgradIdeal.τ Cert.RDownDgradIdeal.sig) → Buf (Elt Ideal) ℓ) (g : Dev Cert.RDownDgradIdeal.nD → PrngReg), Pre_RDownDgradIdeal m →
    θ_run (Cert.RDownDgradIdeal.defs (F := Ideal)) (onTc (τ := Cert.RDownDgradIdeal.τ) (Cert.RDownDgradIdeal.main (F := Ideal))) ⟨m, fun _ => 0, g⟩ (fun r => (∀ c : Dev Cert.RDownDgradIdeal.nD,
      r.2.mem ((c.tc : Thread Cert.RDownDgradIdeal.nD Cert.RDownDgradIdeal.τ).loc Cert.RDownDgradIdeal.main_arg0) = m ((c.tc : Thread Cert.RDownDgradIdeal.nD Cert.RDownDgradIdeal.τ).loc Cert.RDownDgradIdeal.main_arg0)
      ∧ r.2.mem ((c.tc : Thread Cert.RDownDgradIdeal.nD Cert.RDownDgradIdeal.τ).loc Cert.RDownDgradIdeal.main_arg1) = m ((c.tc : Thread Cert.RDownDgradIdeal.nD Cert.RDownDgradIdeal.τ).loc Cert.RDownDgradIdeal.main_arg1))
      ∧ r.2.sem = fun _ => 0)

def quiescent_KUpDgrad [hKUpDgrad : Cert.KUpDgrad.Facts] : Prop :=
  ∀ (m : (ℓ : Loc Cert.KUpDgrad.nD Cert.KUpDgrad.τ Cert.KUpDgrad.sig) → Buf (Elt Bits) ℓ) (g : Dev Cert.KUpDgrad.nD → PrngReg), Pre_KUpDgrad m →
    θ_run (Cert.KUpDgrad.defs (F := Bits)) (onTc (τ := Cert.KUpDgrad.τ) (Cert.KUpDgrad.main (F := Bits))) ⟨m, fun _ => 0, g⟩ (fun r => (∀ c : Dev Cert.KUpDgrad.nD,
      r.2.mem ((c.tc : Thread Cert.KUpDgrad.nD Cert.KUpDgrad.τ).loc Cert.KUpDgrad.main_arg0) = m ((c.tc : Thread Cert.KUpDgrad.nD Cert.KUpDgrad.τ).loc Cert.KUpDgrad.main_arg0)
      ∧ r.2.mem ((c.tc : Thread Cert.KUpDgrad.nD Cert.KUpDgrad.τ).loc Cert.KUpDgrad.main_arg1) = m ((c.tc : Thread Cert.KUpDgrad.nD Cert.KUpDgrad.τ).loc Cert.KUpDgrad.main_arg1))
      ∧ r.2.sem = fun _ => 0)

def quiescent_KUpDgradIdeal [hKUpDgradIdeal : Cert.KUpDgradIdeal.Facts] : Prop :=
  ∀ (m : (ℓ : Loc Cert.KUpDgradIdeal.nD Cert.KUpDgradIdeal.τ Cert.KUpDgradIdeal.sig) → Buf (Elt Ideal) ℓ) (g : Dev Cert.KUpDgradIdeal.nD → PrngReg), Pre_KUpDgradIdeal m →
    θ_run (Cert.KUpDgradIdeal.defs (F := Ideal)) (onTc (τ := Cert.KUpDgradIdeal.τ) (Cert.KUpDgradIdeal.main (F := Ideal))) ⟨m, fun _ => 0, g⟩ (fun r => (∀ c : Dev Cert.KUpDgradIdeal.nD,
      r.2.mem ((c.tc : Thread Cert.KUpDgradIdeal.nD Cert.KUpDgradIdeal.τ).loc Cert.KUpDgradIdeal.main_arg0) = m ((c.tc : Thread Cert.KUpDgradIdeal.nD Cert.KUpDgradIdeal.τ).loc Cert.KUpDgradIdeal.main_arg0)
      ∧ r.2.mem ((c.tc : Thread Cert.KUpDgradIdeal.nD Cert.KUpDgradIdeal.τ).loc Cert.KUpDgradIdeal.main_arg1) = m ((c.tc : Thread Cert.KUpDgradIdeal.nD Cert.KUpDgradIdeal.τ).loc Cert.KUpDgradIdeal.main_arg1))
      ∧ r.2.sem = fun _ => 0)

def quiescent_RUpDgradIdeal [hRUpDgradIdeal : Cert.RUpDgradIdeal.Facts] : Prop :=
  ∀ (m : (ℓ : Loc Cert.RUpDgradIdeal.nD Cert.RUpDgradIdeal.τ Cert.RUpDgradIdeal.sig) → Buf (Elt Ideal) ℓ) (g : Dev Cert.RUpDgradIdeal.nD → PrngReg), Pre_RUpDgradIdeal m →
    θ_run (Cert.RUpDgradIdeal.defs (F := Ideal)) (onTc (τ := Cert.RUpDgradIdeal.τ) (Cert.RUpDgradIdeal.main (F := Ideal))) ⟨m, fun _ => 0, g⟩ (fun r => (∀ c : Dev Cert.RUpDgradIdeal.nD,
      r.2.mem ((c.tc : Thread Cert.RUpDgradIdeal.nD Cert.RUpDgradIdeal.τ).loc Cert.RUpDgradIdeal.main_arg0) = m ((c.tc : Thread Cert.RUpDgradIdeal.nD Cert.RUpDgradIdeal.τ).loc Cert.RUpDgradIdeal.main_arg0)
      ∧ r.2.mem ((c.tc : Thread Cert.RUpDgradIdeal.nD Cert.RUpDgradIdeal.τ).loc Cert.RUpDgradIdeal.main_arg1) = m ((c.tc : Thread Cert.RUpDgradIdeal.nD Cert.RUpDgradIdeal.τ).loc Cert.RUpDgradIdeal.main_arg1))
      ∧ r.2.sem = fun _ => 0)

def quiescent_KODgrad [hKODgrad : Cert.KODgrad.Facts] : Prop :=
  ∀ (m : (ℓ : Loc Cert.KODgrad.nD Cert.KODgrad.τ Cert.KODgrad.sig) → Buf (Elt Bits) ℓ) (g : Dev Cert.KODgrad.nD → PrngReg), Pre_KODgrad m →
    θ_run (Cert.KODgrad.defs (F := Bits)) (onTc (τ := Cert.KODgrad.τ) (Cert.KODgrad.main (F := Bits))) ⟨m, fun _ => 0, g⟩ (fun r => (∀ c : Dev Cert.KODgrad.nD,
      r.2.mem ((c.tc : Thread Cert.KODgrad.nD Cert.KODgrad.τ).loc Cert.KODgrad.main_arg0) = m ((c.tc : Thread Cert.KODgrad.nD Cert.KODgrad.τ).loc Cert.KODgrad.main_arg0)
      ∧ r.2.mem ((c.tc : Thread Cert.KODgrad.nD Cert.KODgrad.τ).loc Cert.KODgrad.main_arg1) = m ((c.tc : Thread Cert.KODgrad.nD Cert.KODgrad.τ).loc Cert.KODgrad.main_arg1))
      ∧ r.2.sem = fun _ => 0)

def quiescent_KODgradIdeal [hKODgradIdeal : Cert.KODgradIdeal.Facts] : Prop :=
  ∀ (m : (ℓ : Loc Cert.KODgradIdeal.nD Cert.KODgradIdeal.τ Cert.KODgradIdeal.sig) → Buf (Elt Ideal) ℓ) (g : Dev Cert.KODgradIdeal.nD → PrngReg), Pre_KODgradIdeal m →
    θ_run (Cert.KODgradIdeal.defs (F := Ideal)) (onTc (τ := Cert.KODgradIdeal.τ) (Cert.KODgradIdeal.main (F := Ideal))) ⟨m, fun _ => 0, g⟩ (fun r => (∀ c : Dev Cert.KODgradIdeal.nD,
      r.2.mem ((c.tc : Thread Cert.KODgradIdeal.nD Cert.KODgradIdeal.τ).loc Cert.KODgradIdeal.main_arg0) = m ((c.tc : Thread Cert.KODgradIdeal.nD Cert.KODgradIdeal.τ).loc Cert.KODgradIdeal.main_arg0)
      ∧ r.2.mem ((c.tc : Thread Cert.KODgradIdeal.nD Cert.KODgradIdeal.τ).loc Cert.KODgradIdeal.main_arg1) = m ((c.tc : Thread Cert.KODgradIdeal.nD Cert.KODgradIdeal.τ).loc Cert.KODgradIdeal.main_arg1))
      ∧ r.2.sem = fun _ => 0)

def quiescent_RODgradIdeal [hRODgradIdeal : Cert.RODgradIdeal.Facts] : Prop :=
  ∀ (m : (ℓ : Loc Cert.RODgradIdeal.nD Cert.RODgradIdeal.τ Cert.RODgradIdeal.sig) → Buf (Elt Ideal) ℓ) (g : Dev Cert.RODgradIdeal.nD → PrngReg), Pre_RODgradIdeal m →
    θ_run (Cert.RODgradIdeal.defs (F := Ideal)) (onTc (τ := Cert.RODgradIdeal.τ) (Cert.RODgradIdeal.main (F := Ideal))) ⟨m, fun _ => 0, g⟩ (fun r => (∀ c : Dev Cert.RODgradIdeal.nD,
      r.2.mem ((c.tc : Thread Cert.RODgradIdeal.nD Cert.RODgradIdeal.τ).loc Cert.RODgradIdeal.main_arg0) = m ((c.tc : Thread Cert.RODgradIdeal.nD Cert.RODgradIdeal.τ).loc Cert.RODgradIdeal.main_arg0)
      ∧ r.2.mem ((c.tc : Thread Cert.RODgradIdeal.nD Cert.RODgradIdeal.τ).loc Cert.RODgradIdeal.main_arg1) = m ((c.tc : Thread Cert.RODgradIdeal.nD Cert.RODgradIdeal.τ).loc Cert.RODgradIdeal.main_arg1))
      ∧ r.2.sem = fun _ => 0)

def quiescent_KOutDgrad [hKOutDgrad : Cert.KOutDgrad.Facts] : Prop :=
  ∀ (m : (ℓ : Loc Cert.KOutDgrad.nD Cert.KOutDgrad.τ Cert.KOutDgrad.sig) → Buf (Elt Bits) ℓ) (g : Dev Cert.KOutDgrad.nD → PrngReg), Pre_KOutDgrad m →
    θ_run (Cert.KOutDgrad.defs (F := Bits)) (onTc (τ := Cert.KOutDgrad.τ) (Cert.KOutDgrad.main (F := Bits))) ⟨m, fun _ => 0, g⟩ (fun r => (∀ c : Dev Cert.KOutDgrad.nD,
      r.2.mem ((c.tc : Thread Cert.KOutDgrad.nD Cert.KOutDgrad.τ).loc Cert.KOutDgrad.main_arg0) = m ((c.tc : Thread Cert.KOutDgrad.nD Cert.KOutDgrad.τ).loc Cert.KOutDgrad.main_arg0)
      ∧ r.2.mem ((c.tc : Thread Cert.KOutDgrad.nD Cert.KOutDgrad.τ).loc Cert.KOutDgrad.main_arg1) = m ((c.tc : Thread Cert.KOutDgrad.nD Cert.KOutDgrad.τ).loc Cert.KOutDgrad.main_arg1))
      ∧ r.2.sem = fun _ => 0)

def quiescent_KOutDgradIdeal [hKOutDgradIdeal : Cert.KOutDgradIdeal.Facts] : Prop :=
  ∀ (m : (ℓ : Loc Cert.KOutDgradIdeal.nD Cert.KOutDgradIdeal.τ Cert.KOutDgradIdeal.sig) → Buf (Elt Ideal) ℓ) (g : Dev Cert.KOutDgradIdeal.nD → PrngReg), Pre_KOutDgradIdeal m →
    θ_run (Cert.KOutDgradIdeal.defs (F := Ideal)) (onTc (τ := Cert.KOutDgradIdeal.τ) (Cert.KOutDgradIdeal.main (F := Ideal))) ⟨m, fun _ => 0, g⟩ (fun r => (∀ c : Dev Cert.KOutDgradIdeal.nD,
      r.2.mem ((c.tc : Thread Cert.KOutDgradIdeal.nD Cert.KOutDgradIdeal.τ).loc Cert.KOutDgradIdeal.main_arg0) = m ((c.tc : Thread Cert.KOutDgradIdeal.nD Cert.KOutDgradIdeal.τ).loc Cert.KOutDgradIdeal.main_arg0)
      ∧ r.2.mem ((c.tc : Thread Cert.KOutDgradIdeal.nD Cert.KOutDgradIdeal.τ).loc Cert.KOutDgradIdeal.main_arg1) = m ((c.tc : Thread Cert.KOutDgradIdeal.nD Cert.KOutDgradIdeal.τ).loc Cert.KOutDgradIdeal.main_arg1))
      ∧ r.2.sem = fun _ => 0)

def quiescent_ROutDgradIdeal [hROutDgradIdeal : Cert.ROutDgradIdeal.Facts] : Prop :=
  ∀ (m : (ℓ : Loc Cert.ROutDgradIdeal.nD Cert.ROutDgradIdeal.τ Cert.ROutDgradIdeal.sig) → Buf (Elt Ideal) ℓ) (g : Dev Cert.ROutDgradIdeal.nD → PrngReg), Pre_ROutDgradIdeal m →
    θ_run (Cert.ROutDgradIdeal.defs (F := Ideal)) (onTc (τ := Cert.ROutDgradIdeal.τ) (Cert.ROutDgradIdeal.main (F := Ideal))) ⟨m, fun _ => 0, g⟩ (fun r => (∀ c : Dev Cert.ROutDgradIdeal.nD,
      r.2.mem ((c.tc : Thread Cert.ROutDgradIdeal.nD Cert.ROutDgradIdeal.τ).loc Cert.ROutDgradIdeal.main_arg0) = m ((c.tc : Thread Cert.ROutDgradIdeal.nD Cert.ROutDgradIdeal.τ).loc Cert.ROutDgradIdeal.main_arg0)
      ∧ r.2.mem ((c.tc : Thread Cert.ROutDgradIdeal.nD Cert.ROutDgradIdeal.τ).loc Cert.ROutDgradIdeal.main_arg1) = m ((c.tc : Thread Cert.ROutDgradIdeal.nD Cert.ROutDgradIdeal.τ).loc Cert.ROutDgradIdeal.main_arg1))
      ∧ r.2.sem = fun _ => 0)

def quiescent_KInDgrad [hKInDgrad : Cert.KInDgrad.Facts] : Prop :=
  ∀ (m : (ℓ : Loc Cert.KInDgrad.nD Cert.KInDgrad.τ Cert.KInDgrad.sig) → Buf (Elt Bits) ℓ) (g : Dev Cert.KInDgrad.nD → PrngReg), Pre_KInDgrad m →
    θ_run (Cert.KInDgrad.defs (F := Bits)) (onTc (τ := Cert.KInDgrad.τ) (Cert.KInDgrad.main (F := Bits))) ⟨m, fun _ => 0, g⟩ (fun r => (∀ c : Dev Cert.KInDgrad.nD,
      r.2.mem ((c.tc : Thread Cert.KInDgrad.nD Cert.KInDgrad.τ).loc Cert.KInDgrad.main_arg0) = m ((c.tc : Thread Cert.KInDgrad.nD Cert.KInDgrad.τ).loc Cert.KInDgrad.main_arg0)
      ∧ r.2.mem ((c.tc : Thread Cert.KInDgrad.nD Cert.KInDgrad.τ).loc Cert.KInDgrad.main_arg1) = m ((c.tc : Thread Cert.KInDgrad.nD Cert.KInDgrad.τ).loc Cert.KInDgrad.main_arg1))
      ∧ r.2.sem = fun _ => 0)

def quiescent_KInDgradIdeal [hKInDgradIdeal : Cert.KInDgradIdeal.Facts] : Prop :=
  ∀ (m : (ℓ : Loc Cert.KInDgradIdeal.nD Cert.KInDgradIdeal.τ Cert.KInDgradIdeal.sig) → Buf (Elt Ideal) ℓ) (g : Dev Cert.KInDgradIdeal.nD → PrngReg), Pre_KInDgradIdeal m →
    θ_run (Cert.KInDgradIdeal.defs (F := Ideal)) (onTc (τ := Cert.KInDgradIdeal.τ) (Cert.KInDgradIdeal.main (F := Ideal))) ⟨m, fun _ => 0, g⟩ (fun r => (∀ c : Dev Cert.KInDgradIdeal.nD,
      r.2.mem ((c.tc : Thread Cert.KInDgradIdeal.nD Cert.KInDgradIdeal.τ).loc Cert.KInDgradIdeal.main_arg0) = m ((c.tc : Thread Cert.KInDgradIdeal.nD Cert.KInDgradIdeal.τ).loc Cert.KInDgradIdeal.main_arg0)
      ∧ r.2.mem ((c.tc : Thread Cert.KInDgradIdeal.nD Cert.KInDgradIdeal.τ).loc Cert.KInDgradIdeal.main_arg1) = m ((c.tc : Thread Cert.KInDgradIdeal.nD Cert.KInDgradIdeal.τ).loc Cert.KInDgradIdeal.main_arg1))
      ∧ r.2.sem = fun _ => 0)

def quiescent_RInDgradIdeal [hRInDgradIdeal : Cert.RInDgradIdeal.Facts] : Prop :=
  ∀ (m : (ℓ : Loc Cert.RInDgradIdeal.nD Cert.RInDgradIdeal.τ Cert.RInDgradIdeal.sig) → Buf (Elt Ideal) ℓ) (g : Dev Cert.RInDgradIdeal.nD → PrngReg), Pre_RInDgradIdeal m →
    θ_run (Cert.RInDgradIdeal.defs (F := Ideal)) (onTc (τ := Cert.RInDgradIdeal.τ) (Cert.RInDgradIdeal.main (F := Ideal))) ⟨m, fun _ => 0, g⟩ (fun r => (∀ c : Dev Cert.RInDgradIdeal.nD,
      r.2.mem ((c.tc : Thread Cert.RInDgradIdeal.nD Cert.RInDgradIdeal.τ).loc Cert.RInDgradIdeal.main_arg0) = m ((c.tc : Thread Cert.RInDgradIdeal.nD Cert.RInDgradIdeal.τ).loc Cert.RInDgradIdeal.main_arg0)
      ∧ r.2.mem ((c.tc : Thread Cert.RInDgradIdeal.nD Cert.RInDgradIdeal.τ).loc Cert.RInDgradIdeal.main_arg1) = m ((c.tc : Thread Cert.RInDgradIdeal.nD Cert.RInDgradIdeal.τ).loc Cert.RInDgradIdeal.main_arg1))
      ∧ r.2.sem = fun _ => 0)

def quiescent_KInProj [hKInProj : Cert.KInProj.Facts] : Prop :=
  ∀ (m : (ℓ : Loc Cert.KInProj.nD Cert.KInProj.τ Cert.KInProj.sig) → Buf (Elt Bits) ℓ) (g : Dev Cert.KInProj.nD → PrngReg), Pre_KInProj m →
    θ_run (Cert.KInProj.defs (F := Bits)) (onTc (τ := Cert.KInProj.τ) (Cert.KInProj.main (F := Bits))) ⟨m, fun _ => 0, g⟩ (fun r => (∀ c : Dev Cert.KInProj.nD,
      r.2.mem ((c.tc : Thread Cert.KInProj.nD Cert.KInProj.τ).loc Cert.KInProj.main_arg0) = m ((c.tc : Thread Cert.KInProj.nD Cert.KInProj.τ).loc Cert.KInProj.main_arg0)
      ∧ r.2.mem ((c.tc : Thread Cert.KInProj.nD Cert.KInProj.τ).loc Cert.KInProj.main_arg1) = m ((c.tc : Thread Cert.KInProj.nD Cert.KInProj.τ).loc Cert.KInProj.main_arg1))
      ∧ r.2.sem = fun _ => 0)

def quiescent_KInProjIdeal [hKInProjIdeal : Cert.KInProjIdeal.Facts] : Prop :=
  ∀ (m : (ℓ : Loc Cert.KInProjIdeal.nD Cert.KInProjIdeal.τ Cert.KInProjIdeal.sig) → Buf (Elt Ideal) ℓ) (g : Dev Cert.KInProjIdeal.nD → PrngReg), Pre_KInProjIdeal m →
    θ_run (Cert.KInProjIdeal.defs (F := Ideal)) (onTc (τ := Cert.KInProjIdeal.τ) (Cert.KInProjIdeal.main (F := Ideal))) ⟨m, fun _ => 0, g⟩ (fun r => (∀ c : Dev Cert.KInProjIdeal.nD,
      r.2.mem ((c.tc : Thread Cert.KInProjIdeal.nD Cert.KInProjIdeal.τ).loc Cert.KInProjIdeal.main_arg0) = m ((c.tc : Thread Cert.KInProjIdeal.nD Cert.KInProjIdeal.τ).loc Cert.KInProjIdeal.main_arg0)
      ∧ r.2.mem ((c.tc : Thread Cert.KInProjIdeal.nD Cert.KInProjIdeal.τ).loc Cert.KInProjIdeal.main_arg1) = m ((c.tc : Thread Cert.KInProjIdeal.nD Cert.KInProjIdeal.τ).loc Cert.KInProjIdeal.main_arg1))
      ∧ r.2.sem = fun _ => 0)

def quiescent_RInProjIdeal [hRInProjIdeal : Cert.RInProjIdeal.Facts] : Prop :=
  ∀ (m : (ℓ : Loc Cert.RInProjIdeal.nD Cert.RInProjIdeal.τ Cert.RInProjIdeal.sig) → Buf (Elt Ideal) ℓ) (g : Dev Cert.RInProjIdeal.nD → PrngReg), Pre_RInProjIdeal m →
    θ_run (Cert.RInProjIdeal.defs (F := Ideal)) (onTc (τ := Cert.RInProjIdeal.τ) (Cert.RInProjIdeal.main (F := Ideal))) ⟨m, fun _ => 0, g⟩ (fun r => (∀ c : Dev Cert.RInProjIdeal.nD,
      r.2.mem ((c.tc : Thread Cert.RInProjIdeal.nD Cert.RInProjIdeal.τ).loc Cert.RInProjIdeal.main_arg0) = m ((c.tc : Thread Cert.RInProjIdeal.nD Cert.RInProjIdeal.τ).loc Cert.RInProjIdeal.main_arg0)
      ∧ r.2.mem ((c.tc : Thread Cert.RInProjIdeal.nD Cert.RInProjIdeal.τ).loc Cert.RInProjIdeal.main_arg1) = m ((c.tc : Thread Cert.RInProjIdeal.nD Cert.RInProjIdeal.τ).loc Cert.RInProjIdeal.main_arg1))
      ∧ r.2.sem = fun _ => 0)

def quiescent_KOutProj [hKOutProj : Cert.KOutProj.Facts] : Prop :=
  ∀ (m : (ℓ : Loc Cert.KOutProj.nD Cert.KOutProj.τ Cert.KOutProj.sig) → Buf (Elt Bits) ℓ) (g : Dev Cert.KOutProj.nD → PrngReg), Pre_KOutProj m →
    θ_run (Cert.KOutProj.defs (F := Bits)) (onTc (τ := Cert.KOutProj.τ) (Cert.KOutProj.main (F := Bits))) ⟨m, fun _ => 0, g⟩ (fun r => (∀ c : Dev Cert.KOutProj.nD,
      r.2.mem ((c.tc : Thread Cert.KOutProj.nD Cert.KOutProj.τ).loc Cert.KOutProj.main_arg0) = m ((c.tc : Thread Cert.KOutProj.nD Cert.KOutProj.τ).loc Cert.KOutProj.main_arg0)
      ∧ r.2.mem ((c.tc : Thread Cert.KOutProj.nD Cert.KOutProj.τ).loc Cert.KOutProj.main_arg1) = m ((c.tc : Thread Cert.KOutProj.nD Cert.KOutProj.τ).loc Cert.KOutProj.main_arg1))
      ∧ r.2.sem = fun _ => 0)

def quiescent_KOutProjIdeal [hKOutProjIdeal : Cert.KOutProjIdeal.Facts] : Prop :=
  ∀ (m : (ℓ : Loc Cert.KOutProjIdeal.nD Cert.KOutProjIdeal.τ Cert.KOutProjIdeal.sig) → Buf (Elt Ideal) ℓ) (g : Dev Cert.KOutProjIdeal.nD → PrngReg), Pre_KOutProjIdeal m →
    θ_run (Cert.KOutProjIdeal.defs (F := Ideal)) (onTc (τ := Cert.KOutProjIdeal.τ) (Cert.KOutProjIdeal.main (F := Ideal))) ⟨m, fun _ => 0, g⟩ (fun r => (∀ c : Dev Cert.KOutProjIdeal.nD,
      r.2.mem ((c.tc : Thread Cert.KOutProjIdeal.nD Cert.KOutProjIdeal.τ).loc Cert.KOutProjIdeal.main_arg0) = m ((c.tc : Thread Cert.KOutProjIdeal.nD Cert.KOutProjIdeal.τ).loc Cert.KOutProjIdeal.main_arg0)
      ∧ r.2.mem ((c.tc : Thread Cert.KOutProjIdeal.nD Cert.KOutProjIdeal.τ).loc Cert.KOutProjIdeal.main_arg1) = m ((c.tc : Thread Cert.KOutProjIdeal.nD Cert.KOutProjIdeal.τ).loc Cert.KOutProjIdeal.main_arg1))
      ∧ r.2.sem = fun _ => 0)

def quiescent_ROutProjIdeal [hROutProjIdeal : Cert.ROutProjIdeal.Facts] : Prop :=
  ∀ (m : (ℓ : Loc Cert.ROutProjIdeal.nD Cert.ROutProjIdeal.τ Cert.ROutProjIdeal.sig) → Buf (Elt Ideal) ℓ) (g : Dev Cert.ROutProjIdeal.nD → PrngReg), Pre_ROutProjIdeal m →
    θ_run (Cert.ROutProjIdeal.defs (F := Ideal)) (onTc (τ := Cert.ROutProjIdeal.τ) (Cert.ROutProjIdeal.main (F := Ideal))) ⟨m, fun _ => 0, g⟩ (fun r => (∀ c : Dev Cert.ROutProjIdeal.nD,
      r.2.mem ((c.tc : Thread Cert.ROutProjIdeal.nD Cert.ROutProjIdeal.τ).loc Cert.ROutProjIdeal.main_arg0) = m ((c.tc : Thread Cert.ROutProjIdeal.nD Cert.ROutProjIdeal.τ).loc Cert.ROutProjIdeal.main_arg0)
      ∧ r.2.mem ((c.tc : Thread Cert.ROutProjIdeal.nD Cert.ROutProjIdeal.τ).loc Cert.ROutProjIdeal.main_arg1) = m ((c.tc : Thread Cert.ROutProjIdeal.nD Cert.ROutProjIdeal.τ).loc Cert.ROutProjIdeal.main_arg1))
      ∧ r.2.sem = fun _ => 0)

def quiescent_KOProj [hKOProj : Cert.KOProj.Facts] : Prop :=
  ∀ (m : (ℓ : Loc Cert.KOProj.nD Cert.KOProj.τ Cert.KOProj.sig) → Buf (Elt Bits) ℓ) (g : Dev Cert.KOProj.nD → PrngReg), Pre_KOProj m →
    θ_run (Cert.KOProj.defs (F := Bits)) (onTc (τ := Cert.KOProj.τ) (Cert.KOProj.main (F := Bits))) ⟨m, fun _ => 0, g⟩ (fun r => (∀ c : Dev Cert.KOProj.nD,
      r.2.mem ((c.tc : Thread Cert.KOProj.nD Cert.KOProj.τ).loc Cert.KOProj.main_arg0) = m ((c.tc : Thread Cert.KOProj.nD Cert.KOProj.τ).loc Cert.KOProj.main_arg0)
      ∧ r.2.mem ((c.tc : Thread Cert.KOProj.nD Cert.KOProj.τ).loc Cert.KOProj.main_arg1) = m ((c.tc : Thread Cert.KOProj.nD Cert.KOProj.τ).loc Cert.KOProj.main_arg1))
      ∧ r.2.sem = fun _ => 0)

def quiescent_KOProjIdeal [hKOProjIdeal : Cert.KOProjIdeal.Facts] : Prop :=
  ∀ (m : (ℓ : Loc Cert.KOProjIdeal.nD Cert.KOProjIdeal.τ Cert.KOProjIdeal.sig) → Buf (Elt Ideal) ℓ) (g : Dev Cert.KOProjIdeal.nD → PrngReg), Pre_KOProjIdeal m →
    θ_run (Cert.KOProjIdeal.defs (F := Ideal)) (onTc (τ := Cert.KOProjIdeal.τ) (Cert.KOProjIdeal.main (F := Ideal))) ⟨m, fun _ => 0, g⟩ (fun r => (∀ c : Dev Cert.KOProjIdeal.nD,
      r.2.mem ((c.tc : Thread Cert.KOProjIdeal.nD Cert.KOProjIdeal.τ).loc Cert.KOProjIdeal.main_arg0) = m ((c.tc : Thread Cert.KOProjIdeal.nD Cert.KOProjIdeal.τ).loc Cert.KOProjIdeal.main_arg0)
      ∧ r.2.mem ((c.tc : Thread Cert.KOProjIdeal.nD Cert.KOProjIdeal.τ).loc Cert.KOProjIdeal.main_arg1) = m ((c.tc : Thread Cert.KOProjIdeal.nD Cert.KOProjIdeal.τ).loc Cert.KOProjIdeal.main_arg1))
      ∧ r.2.sem = fun _ => 0)

def quiescent_ROProjIdeal [hROProjIdeal : Cert.ROProjIdeal.Facts] : Prop :=
  ∀ (m : (ℓ : Loc Cert.ROProjIdeal.nD Cert.ROProjIdeal.τ Cert.ROProjIdeal.sig) → Buf (Elt Ideal) ℓ) (g : Dev Cert.ROProjIdeal.nD → PrngReg), Pre_ROProjIdeal m →
    θ_run (Cert.ROProjIdeal.defs (F := Ideal)) (onTc (τ := Cert.ROProjIdeal.τ) (Cert.ROProjIdeal.main (F := Ideal))) ⟨m, fun _ => 0, g⟩ (fun r => (∀ c : Dev Cert.ROProjIdeal.nD,
      r.2.mem ((c.tc : Thread Cert.ROProjIdeal.nD Cert.ROProjIdeal.τ).loc Cert.ROProjIdeal.main_arg0) = m ((c.tc : Thread Cert.ROProjIdeal.nD Cert.ROProjIdeal.τ).loc Cert.ROProjIdeal.main_arg0)
      ∧ r.2.mem ((c.tc : Thread Cert.ROProjIdeal.nD Cert.ROProjIdeal.τ).loc Cert.ROProjIdeal.main_arg1) = m ((c.tc : Thread Cert.ROProjIdeal.nD Cert.ROProjIdeal.τ).loc Cert.ROProjIdeal.main_arg1))
      ∧ r.2.sem = fun _ => 0)

def quiescent_KUpProj [hKUpProj : Cert.KUpProj.Facts] : Prop :=
  ∀ (m : (ℓ : Loc Cert.KUpProj.nD Cert.KUpProj.τ Cert.KUpProj.sig) → Buf (Elt Bits) ℓ) (g : Dev Cert.KUpProj.nD → PrngReg), Pre_KUpProj m →
    θ_run (Cert.KUpProj.defs (F := Bits)) (onTc (τ := Cert.KUpProj.τ) (Cert.KUpProj.main (F := Bits))) ⟨m, fun _ => 0, g⟩ (fun r => (∀ c : Dev Cert.KUpProj.nD,
      r.2.mem ((c.tc : Thread Cert.KUpProj.nD Cert.KUpProj.τ).loc Cert.KUpProj.main_arg0) = m ((c.tc : Thread Cert.KUpProj.nD Cert.KUpProj.τ).loc Cert.KUpProj.main_arg0)
      ∧ r.2.mem ((c.tc : Thread Cert.KUpProj.nD Cert.KUpProj.τ).loc Cert.KUpProj.main_arg1) = m ((c.tc : Thread Cert.KUpProj.nD Cert.KUpProj.τ).loc Cert.KUpProj.main_arg1))
      ∧ r.2.sem = fun _ => 0)

def quiescent_KUpProjIdeal [hKUpProjIdeal : Cert.KUpProjIdeal.Facts] : Prop :=
  ∀ (m : (ℓ : Loc Cert.KUpProjIdeal.nD Cert.KUpProjIdeal.τ Cert.KUpProjIdeal.sig) → Buf (Elt Ideal) ℓ) (g : Dev Cert.KUpProjIdeal.nD → PrngReg), Pre_KUpProjIdeal m →
    θ_run (Cert.KUpProjIdeal.defs (F := Ideal)) (onTc (τ := Cert.KUpProjIdeal.τ) (Cert.KUpProjIdeal.main (F := Ideal))) ⟨m, fun _ => 0, g⟩ (fun r => (∀ c : Dev Cert.KUpProjIdeal.nD,
      r.2.mem ((c.tc : Thread Cert.KUpProjIdeal.nD Cert.KUpProjIdeal.τ).loc Cert.KUpProjIdeal.main_arg0) = m ((c.tc : Thread Cert.KUpProjIdeal.nD Cert.KUpProjIdeal.τ).loc Cert.KUpProjIdeal.main_arg0)
      ∧ r.2.mem ((c.tc : Thread Cert.KUpProjIdeal.nD Cert.KUpProjIdeal.τ).loc Cert.KUpProjIdeal.main_arg1) = m ((c.tc : Thread Cert.KUpProjIdeal.nD Cert.KUpProjIdeal.τ).loc Cert.KUpProjIdeal.main_arg1))
      ∧ r.2.sem = fun _ => 0)

def quiescent_RUpProjIdeal [hRUpProjIdeal : Cert.RUpProjIdeal.Facts] : Prop :=
  ∀ (m : (ℓ : Loc Cert.RUpProjIdeal.nD Cert.RUpProjIdeal.τ Cert.RUpProjIdeal.sig) → Buf (Elt Ideal) ℓ) (g : Dev Cert.RUpProjIdeal.nD → PrngReg), Pre_RUpProjIdeal m →
    θ_run (Cert.RUpProjIdeal.defs (F := Ideal)) (onTc (τ := Cert.RUpProjIdeal.τ) (Cert.RUpProjIdeal.main (F := Ideal))) ⟨m, fun _ => 0, g⟩ (fun r => (∀ c : Dev Cert.RUpProjIdeal.nD,
      r.2.mem ((c.tc : Thread Cert.RUpProjIdeal.nD Cert.RUpProjIdeal.τ).loc Cert.RUpProjIdeal.main_arg0) = m ((c.tc : Thread Cert.RUpProjIdeal.nD Cert.RUpProjIdeal.τ).loc Cert.RUpProjIdeal.main_arg0)
      ∧ r.2.mem ((c.tc : Thread Cert.RUpProjIdeal.nD Cert.RUpProjIdeal.τ).loc Cert.RUpProjIdeal.main_arg1) = m ((c.tc : Thread Cert.RUpProjIdeal.nD Cert.RUpProjIdeal.τ).loc Cert.RUpProjIdeal.main_arg1))
      ∧ r.2.sem = fun _ => 0)

def quiescent_KDownProj [hKDownProj : Cert.KDownProj.Facts] : Prop :=
  ∀ (m : (ℓ : Loc Cert.KDownProj.nD Cert.KDownProj.τ Cert.KDownProj.sig) → Buf (Elt Bits) ℓ) (g : Dev Cert.KDownProj.nD → PrngReg), Pre_KDownProj m →
    θ_run (Cert.KDownProj.defs (F := Bits)) (onTc (τ := Cert.KDownProj.τ) (Cert.KDownProj.main (F := Bits))) ⟨m, fun _ => 0, g⟩ (fun r => (∀ c : Dev Cert.KDownProj.nD,
      r.2.mem ((c.tc : Thread Cert.KDownProj.nD Cert.KDownProj.τ).loc Cert.KDownProj.main_arg0) = m ((c.tc : Thread Cert.KDownProj.nD Cert.KDownProj.τ).loc Cert.KDownProj.main_arg0)
      ∧ r.2.mem ((c.tc : Thread Cert.KDownProj.nD Cert.KDownProj.τ).loc Cert.KDownProj.main_arg1) = m ((c.tc : Thread Cert.KDownProj.nD Cert.KDownProj.τ).loc Cert.KDownProj.main_arg1))
      ∧ r.2.sem = fun _ => 0)

def quiescent_KDownProjIdeal [hKDownProjIdeal : Cert.KDownProjIdeal.Facts] : Prop :=
  ∀ (m : (ℓ : Loc Cert.KDownProjIdeal.nD Cert.KDownProjIdeal.τ Cert.KDownProjIdeal.sig) → Buf (Elt Ideal) ℓ) (g : Dev Cert.KDownProjIdeal.nD → PrngReg), Pre_KDownProjIdeal m →
    θ_run (Cert.KDownProjIdeal.defs (F := Ideal)) (onTc (τ := Cert.KDownProjIdeal.τ) (Cert.KDownProjIdeal.main (F := Ideal))) ⟨m, fun _ => 0, g⟩ (fun r => (∀ c : Dev Cert.KDownProjIdeal.nD,
      r.2.mem ((c.tc : Thread Cert.KDownProjIdeal.nD Cert.KDownProjIdeal.τ).loc Cert.KDownProjIdeal.main_arg0) = m ((c.tc : Thread Cert.KDownProjIdeal.nD Cert.KDownProjIdeal.τ).loc Cert.KDownProjIdeal.main_arg0)
      ∧ r.2.mem ((c.tc : Thread Cert.KDownProjIdeal.nD Cert.KDownProjIdeal.τ).loc Cert.KDownProjIdeal.main_arg1) = m ((c.tc : Thread Cert.KDownProjIdeal.nD Cert.KDownProjIdeal.τ).loc Cert.KDownProjIdeal.main_arg1))
      ∧ r.2.sem = fun _ => 0)

def quiescent_RDownProjIdeal [hRDownProjIdeal : Cert.RDownProjIdeal.Facts] : Prop :=
  ∀ (m : (ℓ : Loc Cert.RDownProjIdeal.nD Cert.RDownProjIdeal.τ Cert.RDownProjIdeal.sig) → Buf (Elt Ideal) ℓ) (g : Dev Cert.RDownProjIdeal.nD → PrngReg), Pre_RDownProjIdeal m →
    θ_run (Cert.RDownProjIdeal.defs (F := Ideal)) (onTc (τ := Cert.RDownProjIdeal.τ) (Cert.RDownProjIdeal.main (F := Ideal))) ⟨m, fun _ => 0, g⟩ (fun r => (∀ c : Dev Cert.RDownProjIdeal.nD,
      r.2.mem ((c.tc : Thread Cert.RDownProjIdeal.nD Cert.RDownProjIdeal.τ).loc Cert.RDownProjIdeal.main_arg0) = m ((c.tc : Thread Cert.RDownProjIdeal.nD Cert.RDownProjIdeal.τ).loc Cert.RDownProjIdeal.main_arg0)
      ∧ r.2.mem ((c.tc : Thread Cert.RDownProjIdeal.nD Cert.RDownProjIdeal.τ).loc Cert.RDownProjIdeal.main_arg1) = m ((c.tc : Thread Cert.RDownProjIdeal.nD Cert.RDownProjIdeal.τ).loc Cert.RDownProjIdeal.main_arg1))
      ∧ r.2.sem = fun _ => 0)

def quiescent_KDownWgrad [hKDownWgrad : Cert.KDownWgrad.Facts] : Prop :=
  ∀ (m : (ℓ : Loc Cert.KDownWgrad.nD Cert.KDownWgrad.τ Cert.KDownWgrad.sig) → Buf (Elt Bits) ℓ) (g : Dev Cert.KDownWgrad.nD → PrngReg), Pre_KDownWgrad m →
    θ_run (Cert.KDownWgrad.defs (F := Bits)) (onTc (τ := Cert.KDownWgrad.τ) (Cert.KDownWgrad.main (F := Bits))) ⟨m, fun _ => 0, g⟩ (fun r => (∀ c : Dev Cert.KDownWgrad.nD,
      r.2.mem ((c.tc : Thread Cert.KDownWgrad.nD Cert.KDownWgrad.τ).loc Cert.KDownWgrad.main_arg0) = m ((c.tc : Thread Cert.KDownWgrad.nD Cert.KDownWgrad.τ).loc Cert.KDownWgrad.main_arg0)
      ∧ r.2.mem ((c.tc : Thread Cert.KDownWgrad.nD Cert.KDownWgrad.τ).loc Cert.KDownWgrad.main_arg1) = m ((c.tc : Thread Cert.KDownWgrad.nD Cert.KDownWgrad.τ).loc Cert.KDownWgrad.main_arg1))
      ∧ r.2.sem = fun _ => 0)

def quiescent_KDownWgradIdeal [hKDownWgradIdeal : Cert.KDownWgradIdeal.Facts] : Prop :=
  ∀ (m : (ℓ : Loc Cert.KDownWgradIdeal.nD Cert.KDownWgradIdeal.τ Cert.KDownWgradIdeal.sig) → Buf (Elt Ideal) ℓ) (g : Dev Cert.KDownWgradIdeal.nD → PrngReg), Pre_KDownWgradIdeal m →
    θ_run (Cert.KDownWgradIdeal.defs (F := Ideal)) (onTc (τ := Cert.KDownWgradIdeal.τ) (Cert.KDownWgradIdeal.main (F := Ideal))) ⟨m, fun _ => 0, g⟩ (fun r => (∀ c : Dev Cert.KDownWgradIdeal.nD,
      r.2.mem ((c.tc : Thread Cert.KDownWgradIdeal.nD Cert.KDownWgradIdeal.τ).loc Cert.KDownWgradIdeal.main_arg0) = m ((c.tc : Thread Cert.KDownWgradIdeal.nD Cert.KDownWgradIdeal.τ).loc Cert.KDownWgradIdeal.main_arg0)
      ∧ r.2.mem ((c.tc : Thread Cert.KDownWgradIdeal.nD Cert.KDownWgradIdeal.τ).loc Cert.KDownWgradIdeal.main_arg1) = m ((c.tc : Thread Cert.KDownWgradIdeal.nD Cert.KDownWgradIdeal.τ).loc Cert.KDownWgradIdeal.main_arg1))
      ∧ r.2.sem = fun _ => 0)

def quiescent_RDownWgradIdeal [hRDownWgradIdeal : Cert.RDownWgradIdeal.Facts] : Prop :=
  ∀ (m : (ℓ : Loc Cert.RDownWgradIdeal.nD Cert.RDownWgradIdeal.τ Cert.RDownWgradIdeal.sig) → Buf (Elt Ideal) ℓ) (g : Dev Cert.RDownWgradIdeal.nD → PrngReg), Pre_RDownWgradIdeal m →
    θ_run (Cert.RDownWgradIdeal.defs (F := Ideal)) (onTc (τ := Cert.RDownWgradIdeal.τ) (Cert.RDownWgradIdeal.main (F := Ideal))) ⟨m, fun _ => 0, g⟩ (fun r => (∀ c : Dev Cert.RDownWgradIdeal.nD,
      r.2.mem ((c.tc : Thread Cert.RDownWgradIdeal.nD Cert.RDownWgradIdeal.τ).loc Cert.RDownWgradIdeal.main_arg0) = m ((c.tc : Thread Cert.RDownWgradIdeal.nD Cert.RDownWgradIdeal.τ).loc Cert.RDownWgradIdeal.main_arg0)
      ∧ r.2.mem ((c.tc : Thread Cert.RDownWgradIdeal.nD Cert.RDownWgradIdeal.τ).loc Cert.RDownWgradIdeal.main_arg1) = m ((c.tc : Thread Cert.RDownWgradIdeal.nD Cert.RDownWgradIdeal.τ).loc Cert.RDownWgradIdeal.main_arg1))
      ∧ r.2.sem = fun _ => 0)

def quiescent_KOWgrad [hKOWgrad : Cert.KOWgrad.Facts] : Prop :=
  ∀ (m : (ℓ : Loc Cert.KOWgrad.nD Cert.KOWgrad.τ Cert.KOWgrad.sig) → Buf (Elt Bits) ℓ) (g : Dev Cert.KOWgrad.nD → PrngReg), Pre_KOWgrad m →
    θ_run (Cert.KOWgrad.defs (F := Bits)) (onTc (τ := Cert.KOWgrad.τ) (Cert.KOWgrad.main (F := Bits))) ⟨m, fun _ => 0, g⟩ (fun r => (∀ c : Dev Cert.KOWgrad.nD,
      r.2.mem ((c.tc : Thread Cert.KOWgrad.nD Cert.KOWgrad.τ).loc Cert.KOWgrad.main_arg0) = m ((c.tc : Thread Cert.KOWgrad.nD Cert.KOWgrad.τ).loc Cert.KOWgrad.main_arg0)
      ∧ r.2.mem ((c.tc : Thread Cert.KOWgrad.nD Cert.KOWgrad.τ).loc Cert.KOWgrad.main_arg1) = m ((c.tc : Thread Cert.KOWgrad.nD Cert.KOWgrad.τ).loc Cert.KOWgrad.main_arg1))
      ∧ r.2.sem = fun _ => 0)

def quiescent_KOWgradIdeal [hKOWgradIdeal : Cert.KOWgradIdeal.Facts] : Prop :=
  ∀ (m : (ℓ : Loc Cert.KOWgradIdeal.nD Cert.KOWgradIdeal.τ Cert.KOWgradIdeal.sig) → Buf (Elt Ideal) ℓ) (g : Dev Cert.KOWgradIdeal.nD → PrngReg), Pre_KOWgradIdeal m →
    θ_run (Cert.KOWgradIdeal.defs (F := Ideal)) (onTc (τ := Cert.KOWgradIdeal.τ) (Cert.KOWgradIdeal.main (F := Ideal))) ⟨m, fun _ => 0, g⟩ (fun r => (∀ c : Dev Cert.KOWgradIdeal.nD,
      r.2.mem ((c.tc : Thread Cert.KOWgradIdeal.nD Cert.KOWgradIdeal.τ).loc Cert.KOWgradIdeal.main_arg0) = m ((c.tc : Thread Cert.KOWgradIdeal.nD Cert.KOWgradIdeal.τ).loc Cert.KOWgradIdeal.main_arg0)
      ∧ r.2.mem ((c.tc : Thread Cert.KOWgradIdeal.nD Cert.KOWgradIdeal.τ).loc Cert.KOWgradIdeal.main_arg1) = m ((c.tc : Thread Cert.KOWgradIdeal.nD Cert.KOWgradIdeal.τ).loc Cert.KOWgradIdeal.main_arg1))
      ∧ r.2.sem = fun _ => 0)

def quiescent_ROWgradIdeal [hROWgradIdeal : Cert.ROWgradIdeal.Facts] : Prop :=
  ∀ (m : (ℓ : Loc Cert.ROWgradIdeal.nD Cert.ROWgradIdeal.τ Cert.ROWgradIdeal.sig) → Buf (Elt Ideal) ℓ) (g : Dev Cert.ROWgradIdeal.nD → PrngReg), Pre_ROWgradIdeal m →
    θ_run (Cert.ROWgradIdeal.defs (F := Ideal)) (onTc (τ := Cert.ROWgradIdeal.τ) (Cert.ROWgradIdeal.main (F := Ideal))) ⟨m, fun _ => 0, g⟩ (fun r => (∀ c : Dev Cert.ROWgradIdeal.nD,
      r.2.mem ((c.tc : Thread Cert.ROWgradIdeal.nD Cert.ROWgradIdeal.τ).loc Cert.ROWgradIdeal.main_arg0) = m ((c.tc : Thread Cert.ROWgradIdeal.nD Cert.ROWgradIdeal.τ).loc Cert.ROWgradIdeal.main_arg0)
      ∧ r.2.mem ((c.tc : Thread Cert.ROWgradIdeal.nD Cert.ROWgradIdeal.τ).loc Cert.ROWgradIdeal.main_arg1) = m ((c.tc : Thread Cert.ROWgradIdeal.nD Cert.ROWgradIdeal.τ).loc Cert.ROWgradIdeal.main_arg1))
      ∧ r.2.sem = fun _ => 0)

def quiescent_KOutWgrad [hKOutWgrad : Cert.KOutWgrad.Facts] : Prop :=
  ∀ (m : (ℓ : Loc Cert.KOutWgrad.nD Cert.KOutWgrad.τ Cert.KOutWgrad.sig) → Buf (Elt Bits) ℓ) (g : Dev Cert.KOutWgrad.nD → PrngReg), Pre_KOutWgrad m →
    θ_run (Cert.KOutWgrad.defs (F := Bits)) (onTc (τ := Cert.KOutWgrad.τ) (Cert.KOutWgrad.main (F := Bits))) ⟨m, fun _ => 0, g⟩ (fun r => (∀ c : Dev Cert.KOutWgrad.nD,
      r.2.mem ((c.tc : Thread Cert.KOutWgrad.nD Cert.KOutWgrad.τ).loc Cert.KOutWgrad.main_arg0) = m ((c.tc : Thread Cert.KOutWgrad.nD Cert.KOutWgrad.τ).loc Cert.KOutWgrad.main_arg0)
      ∧ r.2.mem ((c.tc : Thread Cert.KOutWgrad.nD Cert.KOutWgrad.τ).loc Cert.KOutWgrad.main_arg1) = m ((c.tc : Thread Cert.KOutWgrad.nD Cert.KOutWgrad.τ).loc Cert.KOutWgrad.main_arg1))
      ∧ r.2.sem = fun _ => 0)

def quiescent_KOutWgradIdeal [hKOutWgradIdeal : Cert.KOutWgradIdeal.Facts] : Prop :=
  ∀ (m : (ℓ : Loc Cert.KOutWgradIdeal.nD Cert.KOutWgradIdeal.τ Cert.KOutWgradIdeal.sig) → Buf (Elt Ideal) ℓ) (g : Dev Cert.KOutWgradIdeal.nD → PrngReg), Pre_KOutWgradIdeal m →
    θ_run (Cert.KOutWgradIdeal.defs (F := Ideal)) (onTc (τ := Cert.KOutWgradIdeal.τ) (Cert.KOutWgradIdeal.main (F := Ideal))) ⟨m, fun _ => 0, g⟩ (fun r => (∀ c : Dev Cert.KOutWgradIdeal.nD,
      r.2.mem ((c.tc : Thread Cert.KOutWgradIdeal.nD Cert.KOutWgradIdeal.τ).loc Cert.KOutWgradIdeal.main_arg0) = m ((c.tc : Thread Cert.KOutWgradIdeal.nD Cert.KOutWgradIdeal.τ).loc Cert.KOutWgradIdeal.main_arg0)
      ∧ r.2.mem ((c.tc : Thread Cert.KOutWgradIdeal.nD Cert.KOutWgradIdeal.τ).loc Cert.KOutWgradIdeal.main_arg1) = m ((c.tc : Thread Cert.KOutWgradIdeal.nD Cert.KOutWgradIdeal.τ).loc Cert.KOutWgradIdeal.main_arg1))
      ∧ r.2.sem = fun _ => 0)

def quiescent_ROutWgradIdeal [hROutWgradIdeal : Cert.ROutWgradIdeal.Facts] : Prop :=
  ∀ (m : (ℓ : Loc Cert.ROutWgradIdeal.nD Cert.ROutWgradIdeal.τ Cert.ROutWgradIdeal.sig) → Buf (Elt Ideal) ℓ) (g : Dev Cert.ROutWgradIdeal.nD → PrngReg), Pre_ROutWgradIdeal m →
    θ_run (Cert.ROutWgradIdeal.defs (F := Ideal)) (onTc (τ := Cert.ROutWgradIdeal.τ) (Cert.ROutWgradIdeal.main (F := Ideal))) ⟨m, fun _ => 0, g⟩ (fun r => (∀ c : Dev Cert.ROutWgradIdeal.nD,
      r.2.mem ((c.tc : Thread Cert.ROutWgradIdeal.nD Cert.ROutWgradIdeal.τ).loc Cert.ROutWgradIdeal.main_arg0) = m ((c.tc : Thread Cert.ROutWgradIdeal.nD Cert.ROutWgradIdeal.τ).loc Cert.ROutWgradIdeal.main_arg0)
      ∧ r.2.mem ((c.tc : Thread Cert.ROutWgradIdeal.nD Cert.ROutWgradIdeal.τ).loc Cert.ROutWgradIdeal.main_arg1) = m ((c.tc : Thread Cert.ROutWgradIdeal.nD Cert.ROutWgradIdeal.τ).loc Cert.ROutWgradIdeal.main_arg1))
      ∧ r.2.sem = fun _ => 0)

def quiescent_KInWgradA [hKInWgradA : Cert.KInWgradA.Facts] : Prop :=
  ∀ (m : (ℓ : Loc Cert.KInWgradA.nD Cert.KInWgradA.τ Cert.KInWgradA.sig) → Buf (Elt Bits) ℓ) (g : Dev Cert.KInWgradA.nD → PrngReg), Pre_KInWgradA m →
    θ_run (Cert.KInWgradA.defs (F := Bits)) (onTc (τ := Cert.KInWgradA.τ) (Cert.KInWgradA.main (F := Bits))) ⟨m, fun _ => 0, g⟩ (fun r => (∀ c : Dev Cert.KInWgradA.nD,
      r.2.mem ((c.tc : Thread Cert.KInWgradA.nD Cert.KInWgradA.τ).loc Cert.KInWgradA.main_arg0) = m ((c.tc : Thread Cert.KInWgradA.nD Cert.KInWgradA.τ).loc Cert.KInWgradA.main_arg0)
      ∧ r.2.mem ((c.tc : Thread Cert.KInWgradA.nD Cert.KInWgradA.τ).loc Cert.KInWgradA.main_arg1) = m ((c.tc : Thread Cert.KInWgradA.nD Cert.KInWgradA.τ).loc Cert.KInWgradA.main_arg1))
      ∧ r.2.sem = fun _ => 0)

def quiescent_KInWgradAIdeal [hKInWgradAIdeal : Cert.KInWgradAIdeal.Facts] : Prop :=
  ∀ (m : (ℓ : Loc Cert.KInWgradAIdeal.nD Cert.KInWgradAIdeal.τ Cert.KInWgradAIdeal.sig) → Buf (Elt Ideal) ℓ) (g : Dev Cert.KInWgradAIdeal.nD → PrngReg), Pre_KInWgradAIdeal m →
    θ_run (Cert.KInWgradAIdeal.defs (F := Ideal)) (onTc (τ := Cert.KInWgradAIdeal.τ) (Cert.KInWgradAIdeal.main (F := Ideal))) ⟨m, fun _ => 0, g⟩ (fun r => (∀ c : Dev Cert.KInWgradAIdeal.nD,
      r.2.mem ((c.tc : Thread Cert.KInWgradAIdeal.nD Cert.KInWgradAIdeal.τ).loc Cert.KInWgradAIdeal.main_arg0) = m ((c.tc : Thread Cert.KInWgradAIdeal.nD Cert.KInWgradAIdeal.τ).loc Cert.KInWgradAIdeal.main_arg0)
      ∧ r.2.mem ((c.tc : Thread Cert.KInWgradAIdeal.nD Cert.KInWgradAIdeal.τ).loc Cert.KInWgradAIdeal.main_arg1) = m ((c.tc : Thread Cert.KInWgradAIdeal.nD Cert.KInWgradAIdeal.τ).loc Cert.KInWgradAIdeal.main_arg1))
      ∧ r.2.sem = fun _ => 0)

def quiescent_RInWgradAIdeal [hRInWgradAIdeal : Cert.RInWgradAIdeal.Facts] : Prop :=
  ∀ (m : (ℓ : Loc Cert.RInWgradAIdeal.nD Cert.RInWgradAIdeal.τ Cert.RInWgradAIdeal.sig) → Buf (Elt Ideal) ℓ) (g : Dev Cert.RInWgradAIdeal.nD → PrngReg), Pre_RInWgradAIdeal m →
    θ_run (Cert.RInWgradAIdeal.defs (F := Ideal)) (onTc (τ := Cert.RInWgradAIdeal.τ) (Cert.RInWgradAIdeal.main (F := Ideal))) ⟨m, fun _ => 0, g⟩ (fun r => (∀ c : Dev Cert.RInWgradAIdeal.nD,
      r.2.mem ((c.tc : Thread Cert.RInWgradAIdeal.nD Cert.RInWgradAIdeal.τ).loc Cert.RInWgradAIdeal.main_arg0) = m ((c.tc : Thread Cert.RInWgradAIdeal.nD Cert.RInWgradAIdeal.τ).loc Cert.RInWgradAIdeal.main_arg0)
      ∧ r.2.mem ((c.tc : Thread Cert.RInWgradAIdeal.nD Cert.RInWgradAIdeal.τ).loc Cert.RInWgradAIdeal.main_arg1) = m ((c.tc : Thread Cert.RInWgradAIdeal.nD Cert.RInWgradAIdeal.τ).loc Cert.RInWgradAIdeal.main_arg1))
      ∧ r.2.sem = fun _ => 0)

def quiescent_KInWgradB [hKInWgradB : Cert.KInWgradB.Facts] : Prop :=
  ∀ (m : (ℓ : Loc Cert.KInWgradB.nD Cert.KInWgradB.τ Cert.KInWgradB.sig) → Buf (Elt Bits) ℓ) (g : Dev Cert.KInWgradB.nD → PrngReg), Pre_KInWgradB m →
    θ_run (Cert.KInWgradB.defs (F := Bits)) (onTc (τ := Cert.KInWgradB.τ) (Cert.KInWgradB.main (F := Bits))) ⟨m, fun _ => 0, g⟩ (fun r => (∀ c : Dev Cert.KInWgradB.nD,
      r.2.mem ((c.tc : Thread Cert.KInWgradB.nD Cert.KInWgradB.τ).loc Cert.KInWgradB.main_arg0) = m ((c.tc : Thread Cert.KInWgradB.nD Cert.KInWgradB.τ).loc Cert.KInWgradB.main_arg0)
      ∧ r.2.mem ((c.tc : Thread Cert.KInWgradB.nD Cert.KInWgradB.τ).loc Cert.KInWgradB.main_arg1) = m ((c.tc : Thread Cert.KInWgradB.nD Cert.KInWgradB.τ).loc Cert.KInWgradB.main_arg1))
      ∧ r.2.sem = fun _ => 0)

def quiescent_KInWgradBIdeal [hKInWgradBIdeal : Cert.KInWgradBIdeal.Facts] : Prop :=
  ∀ (m : (ℓ : Loc Cert.KInWgradBIdeal.nD Cert.KInWgradBIdeal.τ Cert.KInWgradBIdeal.sig) → Buf (Elt Ideal) ℓ) (g : Dev Cert.KInWgradBIdeal.nD → PrngReg), Pre_KInWgradBIdeal m →
    θ_run (Cert.KInWgradBIdeal.defs (F := Ideal)) (onTc (τ := Cert.KInWgradBIdeal.τ) (Cert.KInWgradBIdeal.main (F := Ideal))) ⟨m, fun _ => 0, g⟩ (fun r => (∀ c : Dev Cert.KInWgradBIdeal.nD,
      r.2.mem ((c.tc : Thread Cert.KInWgradBIdeal.nD Cert.KInWgradBIdeal.τ).loc Cert.KInWgradBIdeal.main_arg0) = m ((c.tc : Thread Cert.KInWgradBIdeal.nD Cert.KInWgradBIdeal.τ).loc Cert.KInWgradBIdeal.main_arg0)
      ∧ r.2.mem ((c.tc : Thread Cert.KInWgradBIdeal.nD Cert.KInWgradBIdeal.τ).loc Cert.KInWgradBIdeal.main_arg1) = m ((c.tc : Thread Cert.KInWgradBIdeal.nD Cert.KInWgradBIdeal.τ).loc Cert.KInWgradBIdeal.main_arg1))
      ∧ r.2.sem = fun _ => 0)

def quiescent_RInWgradBIdeal [hRInWgradBIdeal : Cert.RInWgradBIdeal.Facts] : Prop :=
  ∀ (m : (ℓ : Loc Cert.RInWgradBIdeal.nD Cert.RInWgradBIdeal.τ Cert.RInWgradBIdeal.sig) → Buf (Elt Ideal) ℓ) (g : Dev Cert.RInWgradBIdeal.nD → PrngReg), Pre_RInWgradBIdeal m →
    θ_run (Cert.RInWgradBIdeal.defs (F := Ideal)) (onTc (τ := Cert.RInWgradBIdeal.τ) (Cert.RInWgradBIdeal.main (F := Ideal))) ⟨m, fun _ => 0, g⟩ (fun r => (∀ c : Dev Cert.RInWgradBIdeal.nD,
      r.2.mem ((c.tc : Thread Cert.RInWgradBIdeal.nD Cert.RInWgradBIdeal.τ).loc Cert.RInWgradBIdeal.main_arg0) = m ((c.tc : Thread Cert.RInWgradBIdeal.nD Cert.RInWgradBIdeal.τ).loc Cert.RInWgradBIdeal.main_arg0)
      ∧ r.2.mem ((c.tc : Thread Cert.RInWgradBIdeal.nD Cert.RInWgradBIdeal.τ).loc Cert.RInWgradBIdeal.main_arg1) = m ((c.tc : Thread Cert.RInWgradBIdeal.nD Cert.RInWgradBIdeal.τ).loc Cert.RInWgradBIdeal.main_arg1))
      ∧ r.2.sem = fun _ => 0)

def quiescent_KUpWgradA [hKUpWgradA : Cert.KUpWgradA.Facts] : Prop :=
  ∀ (m : (ℓ : Loc Cert.KUpWgradA.nD Cert.KUpWgradA.τ Cert.KUpWgradA.sig) → Buf (Elt Bits) ℓ) (g : Dev Cert.KUpWgradA.nD → PrngReg), Pre_KUpWgradA m →
    θ_run (Cert.KUpWgradA.defs (F := Bits)) (onTc (τ := Cert.KUpWgradA.τ) (Cert.KUpWgradA.main (F := Bits))) ⟨m, fun _ => 0, g⟩ (fun r => (∀ c : Dev Cert.KUpWgradA.nD,
      r.2.mem ((c.tc : Thread Cert.KUpWgradA.nD Cert.KUpWgradA.τ).loc Cert.KUpWgradA.main_arg0) = m ((c.tc : Thread Cert.KUpWgradA.nD Cert.KUpWgradA.τ).loc Cert.KUpWgradA.main_arg0)
      ∧ r.2.mem ((c.tc : Thread Cert.KUpWgradA.nD Cert.KUpWgradA.τ).loc Cert.KUpWgradA.main_arg1) = m ((c.tc : Thread Cert.KUpWgradA.nD Cert.KUpWgradA.τ).loc Cert.KUpWgradA.main_arg1))
      ∧ r.2.sem = fun _ => 0)

def quiescent_KUpWgradAIdeal [hKUpWgradAIdeal : Cert.KUpWgradAIdeal.Facts] : Prop :=
  ∀ (m : (ℓ : Loc Cert.KUpWgradAIdeal.nD Cert.KUpWgradAIdeal.τ Cert.KUpWgradAIdeal.sig) → Buf (Elt Ideal) ℓ) (g : Dev Cert.KUpWgradAIdeal.nD → PrngReg), Pre_KUpWgradAIdeal m →
    θ_run (Cert.KUpWgradAIdeal.defs (F := Ideal)) (onTc (τ := Cert.KUpWgradAIdeal.τ) (Cert.KUpWgradAIdeal.main (F := Ideal))) ⟨m, fun _ => 0, g⟩ (fun r => (∀ c : Dev Cert.KUpWgradAIdeal.nD,
      r.2.mem ((c.tc : Thread Cert.KUpWgradAIdeal.nD Cert.KUpWgradAIdeal.τ).loc Cert.KUpWgradAIdeal.main_arg0) = m ((c.tc : Thread Cert.KUpWgradAIdeal.nD Cert.KUpWgradAIdeal.τ).loc Cert.KUpWgradAIdeal.main_arg0)
      ∧ r.2.mem ((c.tc : Thread Cert.KUpWgradAIdeal.nD Cert.KUpWgradAIdeal.τ).loc Cert.KUpWgradAIdeal.main_arg1) = m ((c.tc : Thread Cert.KUpWgradAIdeal.nD Cert.KUpWgradAIdeal.τ).loc Cert.KUpWgradAIdeal.main_arg1))
      ∧ r.2.sem = fun _ => 0)

def quiescent_RUpWgradAIdeal [hRUpWgradAIdeal : Cert.RUpWgradAIdeal.Facts] : Prop :=
  ∀ (m : (ℓ : Loc Cert.RUpWgradAIdeal.nD Cert.RUpWgradAIdeal.τ Cert.RUpWgradAIdeal.sig) → Buf (Elt Ideal) ℓ) (g : Dev Cert.RUpWgradAIdeal.nD → PrngReg), Pre_RUpWgradAIdeal m →
    θ_run (Cert.RUpWgradAIdeal.defs (F := Ideal)) (onTc (τ := Cert.RUpWgradAIdeal.τ) (Cert.RUpWgradAIdeal.main (F := Ideal))) ⟨m, fun _ => 0, g⟩ (fun r => (∀ c : Dev Cert.RUpWgradAIdeal.nD,
      r.2.mem ((c.tc : Thread Cert.RUpWgradAIdeal.nD Cert.RUpWgradAIdeal.τ).loc Cert.RUpWgradAIdeal.main_arg0) = m ((c.tc : Thread Cert.RUpWgradAIdeal.nD Cert.RUpWgradAIdeal.τ).loc Cert.RUpWgradAIdeal.main_arg0)
      ∧ r.2.mem ((c.tc : Thread Cert.RUpWgradAIdeal.nD Cert.RUpWgradAIdeal.τ).loc Cert.RUpWgradAIdeal.main_arg1) = m ((c.tc : Thread Cert.RUpWgradAIdeal.nD Cert.RUpWgradAIdeal.τ).loc Cert.RUpWgradAIdeal.main_arg1))
      ∧ r.2.sem = fun _ => 0)

def quiescent_KUpWgradB [hKUpWgradB : Cert.KUpWgradB.Facts] : Prop :=
  ∀ (m : (ℓ : Loc Cert.KUpWgradB.nD Cert.KUpWgradB.τ Cert.KUpWgradB.sig) → Buf (Elt Bits) ℓ) (g : Dev Cert.KUpWgradB.nD → PrngReg), Pre_KUpWgradB m →
    θ_run (Cert.KUpWgradB.defs (F := Bits)) (onTc (τ := Cert.KUpWgradB.τ) (Cert.KUpWgradB.main (F := Bits))) ⟨m, fun _ => 0, g⟩ (fun r => (∀ c : Dev Cert.KUpWgradB.nD,
      r.2.mem ((c.tc : Thread Cert.KUpWgradB.nD Cert.KUpWgradB.τ).loc Cert.KUpWgradB.main_arg0) = m ((c.tc : Thread Cert.KUpWgradB.nD Cert.KUpWgradB.τ).loc Cert.KUpWgradB.main_arg0)
      ∧ r.2.mem ((c.tc : Thread Cert.KUpWgradB.nD Cert.KUpWgradB.τ).loc Cert.KUpWgradB.main_arg1) = m ((c.tc : Thread Cert.KUpWgradB.nD Cert.KUpWgradB.τ).loc Cert.KUpWgradB.main_arg1))
      ∧ r.2.sem = fun _ => 0)

def quiescent_KUpWgradBIdeal [hKUpWgradBIdeal : Cert.KUpWgradBIdeal.Facts] : Prop :=
  ∀ (m : (ℓ : Loc Cert.KUpWgradBIdeal.nD Cert.KUpWgradBIdeal.τ Cert.KUpWgradBIdeal.sig) → Buf (Elt Ideal) ℓ) (g : Dev Cert.KUpWgradBIdeal.nD → PrngReg), Pre_KUpWgradBIdeal m →
    θ_run (Cert.KUpWgradBIdeal.defs (F := Ideal)) (onTc (τ := Cert.KUpWgradBIdeal.τ) (Cert.KUpWgradBIdeal.main (F := Ideal))) ⟨m, fun _ => 0, g⟩ (fun r => (∀ c : Dev Cert.KUpWgradBIdeal.nD,
      r.2.mem ((c.tc : Thread Cert.KUpWgradBIdeal.nD Cert.KUpWgradBIdeal.τ).loc Cert.KUpWgradBIdeal.main_arg0) = m ((c.tc : Thread Cert.KUpWgradBIdeal.nD Cert.KUpWgradBIdeal.τ).loc Cert.KUpWgradBIdeal.main_arg0)
      ∧ r.2.mem ((c.tc : Thread Cert.KUpWgradBIdeal.nD Cert.KUpWgradBIdeal.τ).loc Cert.KUpWgradBIdeal.main_arg1) = m ((c.tc : Thread Cert.KUpWgradBIdeal.nD Cert.KUpWgradBIdeal.τ).loc Cert.KUpWgradBIdeal.main_arg1))
      ∧ r.2.sem = fun _ => 0)

def quiescent_RUpWgradBIdeal [hRUpWgradBIdeal : Cert.RUpWgradBIdeal.Facts] : Prop :=
  ∀ (m : (ℓ : Loc Cert.RUpWgradBIdeal.nD Cert.RUpWgradBIdeal.τ Cert.RUpWgradBIdeal.sig) → Buf (Elt Ideal) ℓ) (g : Dev Cert.RUpWgradBIdeal.nD → PrngReg), Pre_RUpWgradBIdeal m →
    θ_run (Cert.RUpWgradBIdeal.defs (F := Ideal)) (onTc (τ := Cert.RUpWgradBIdeal.τ) (Cert.RUpWgradBIdeal.main (F := Ideal))) ⟨m, fun _ => 0, g⟩ (fun r => (∀ c : Dev Cert.RUpWgradBIdeal.nD,
      r.2.mem ((c.tc : Thread Cert.RUpWgradBIdeal.nD Cert.RUpWgradBIdeal.τ).loc Cert.RUpWgradBIdeal.main_arg0) = m ((c.tc : Thread Cert.RUpWgradBIdeal.nD Cert.RUpWgradBIdeal.τ).loc Cert.RUpWgradBIdeal.main_arg0)
      ∧ r.2.mem ((c.tc : Thread Cert.RUpWgradBIdeal.nD Cert.RUpWgradBIdeal.τ).loc Cert.RUpWgradBIdeal.main_arg1) = m ((c.tc : Thread Cert.RUpWgradBIdeal.nD Cert.RUpWgradBIdeal.τ).loc Cert.RUpWgradBIdeal.main_arg1))
      ∧ r.2.sem = fun _ => 0)

def quiescent_KAdamAdaB [hKAdamAdaB : Cert.KAdamAdaB.Facts] : Prop :=
  ∀ (m : (ℓ : Loc Cert.KAdamAdaB.nD Cert.KAdamAdaB.τ Cert.KAdamAdaB.sig) → Buf (Elt Bits) ℓ) (g : Dev Cert.KAdamAdaB.nD → PrngReg), Pre_KAdamAdaB m →
    θ_run (Cert.KAdamAdaB.defs (F := Bits)) (onTc (τ := Cert.KAdamAdaB.τ) (Cert.KAdamAdaB.main (F := Bits))) ⟨m, fun _ => 0, g⟩ (fun r => (∀ c : Dev Cert.KAdamAdaB.nD,
      r.2.mem ((c.tc : Thread Cert.KAdamAdaB.nD Cert.KAdamAdaB.τ).loc Cert.KAdamAdaB.main_arg0) = m ((c.tc : Thread Cert.KAdamAdaB.nD Cert.KAdamAdaB.τ).loc Cert.KAdamAdaB.main_arg0)
      ∧ r.2.mem ((c.tc : Thread Cert.KAdamAdaB.nD Cert.KAdamAdaB.τ).loc Cert.KAdamAdaB.main_arg1) = m ((c.tc : Thread Cert.KAdamAdaB.nD Cert.KAdamAdaB.τ).loc Cert.KAdamAdaB.main_arg1)
      ∧ r.2.mem ((c.tc : Thread Cert.KAdamAdaB.nD Cert.KAdamAdaB.τ).loc Cert.KAdamAdaB.main_arg2) = m ((c.tc : Thread Cert.KAdamAdaB.nD Cert.KAdamAdaB.τ).loc Cert.KAdamAdaB.main_arg2)
      ∧ r.2.mem ((c.tc : Thread Cert.KAdamAdaB.nD Cert.KAdamAdaB.τ).loc Cert.KAdamAdaB.main_arg3) = m ((c.tc : Thread Cert.KAdamAdaB.nD Cert.KAdamAdaB.τ).loc Cert.KAdamAdaB.main_arg3))
      ∧ r.2.sem = fun _ => 0)

def quiescent_KAdamAdaBIdeal [hKAdamAdaBIdeal : Cert.KAdamAdaBIdeal.Facts] : Prop :=
  ∀ (m : (ℓ : Loc Cert.KAdamAdaBIdeal.nD Cert.KAdamAdaBIdeal.τ Cert.KAdamAdaBIdeal.sig) → Buf (Elt Ideal) ℓ) (g : Dev Cert.KAdamAdaBIdeal.nD → PrngReg), Pre_KAdamAdaBIdeal m →
    θ_run (Cert.KAdamAdaBIdeal.defs (F := Ideal)) (onTc (τ := Cert.KAdamAdaBIdeal.τ) (Cert.KAdamAdaBIdeal.main (F := Ideal))) ⟨m, fun _ => 0, g⟩ (fun r => (∀ c : Dev Cert.KAdamAdaBIdeal.nD,
      r.2.mem ((c.tc : Thread Cert.KAdamAdaBIdeal.nD Cert.KAdamAdaBIdeal.τ).loc Cert.KAdamAdaBIdeal.main_arg0) = m ((c.tc : Thread Cert.KAdamAdaBIdeal.nD Cert.KAdamAdaBIdeal.τ).loc Cert.KAdamAdaBIdeal.main_arg0)
      ∧ r.2.mem ((c.tc : Thread Cert.KAdamAdaBIdeal.nD Cert.KAdamAdaBIdeal.τ).loc Cert.KAdamAdaBIdeal.main_arg1) = m ((c.tc : Thread Cert.KAdamAdaBIdeal.nD Cert.KAdamAdaBIdeal.τ).loc Cert.KAdamAdaBIdeal.main_arg1)
      ∧ r.2.mem ((c.tc : Thread Cert.KAdamAdaBIdeal.nD Cert.KAdamAdaBIdeal.τ).loc Cert.KAdamAdaBIdeal.main_arg2) = m ((c.tc : Thread Cert.KAdamAdaBIdeal.nD Cert.KAdamAdaBIdeal.τ).loc Cert.KAdamAdaBIdeal.main_arg2)
      ∧ r.2.mem ((c.tc : Thread Cert.KAdamAdaBIdeal.nD Cert.KAdamAdaBIdeal.τ).loc Cert.KAdamAdaBIdeal.main_arg3) = m ((c.tc : Thread Cert.KAdamAdaBIdeal.nD Cert.KAdamAdaBIdeal.τ).loc Cert.KAdamAdaBIdeal.main_arg3))
      ∧ r.2.sem = fun _ => 0)

def quiescent_RAdamAdaBIdeal [hRAdamAdaBIdeal : Cert.RAdamAdaBIdeal.Facts] : Prop :=
  ∀ (m : (ℓ : Loc Cert.RAdamAdaBIdeal.nD Cert.RAdamAdaBIdeal.τ Cert.RAdamAdaBIdeal.sig) → Buf (Elt Ideal) ℓ) (g : Dev Cert.RAdamAdaBIdeal.nD → PrngReg), Pre_RAdamAdaBIdeal m →
    θ_run (Cert.RAdamAdaBIdeal.defs (F := Ideal)) (onTc (τ := Cert.RAdamAdaBIdeal.τ) (Cert.RAdamAdaBIdeal.main (F := Ideal))) ⟨m, fun _ => 0, g⟩ (fun r => (∀ c : Dev Cert.RAdamAdaBIdeal.nD,
      r.2.mem ((c.tc : Thread Cert.RAdamAdaBIdeal.nD Cert.RAdamAdaBIdeal.τ).loc Cert.RAdamAdaBIdeal.main_arg0) = m ((c.tc : Thread Cert.RAdamAdaBIdeal.nD Cert.RAdamAdaBIdeal.τ).loc Cert.RAdamAdaBIdeal.main_arg0)
      ∧ r.2.mem ((c.tc : Thread Cert.RAdamAdaBIdeal.nD Cert.RAdamAdaBIdeal.τ).loc Cert.RAdamAdaBIdeal.main_arg1) = m ((c.tc : Thread Cert.RAdamAdaBIdeal.nD Cert.RAdamAdaBIdeal.τ).loc Cert.RAdamAdaBIdeal.main_arg1)
      ∧ r.2.mem ((c.tc : Thread Cert.RAdamAdaBIdeal.nD Cert.RAdamAdaBIdeal.τ).loc Cert.RAdamAdaBIdeal.main_arg2) = m ((c.tc : Thread Cert.RAdamAdaBIdeal.nD Cert.RAdamAdaBIdeal.τ).loc Cert.RAdamAdaBIdeal.main_arg2)
      ∧ r.2.mem ((c.tc : Thread Cert.RAdamAdaBIdeal.nD Cert.RAdamAdaBIdeal.τ).loc Cert.RAdamAdaBIdeal.main_arg3) = m ((c.tc : Thread Cert.RAdamAdaBIdeal.nD Cert.RAdamAdaBIdeal.τ).loc Cert.RAdamAdaBIdeal.main_arg3))
      ∧ r.2.sem = fun _ => 0)

def quiescent_KAdamNormG [hKAdamNormG : Cert.KAdamNormG.Facts] : Prop :=
  ∀ (m : (ℓ : Loc Cert.KAdamNormG.nD Cert.KAdamNormG.τ Cert.KAdamNormG.sig) → Buf (Elt Bits) ℓ) (g : Dev Cert.KAdamNormG.nD → PrngReg), Pre_KAdamNormG m →
    θ_run (Cert.KAdamNormG.defs (F := Bits)) (onTc (τ := Cert.KAdamNormG.τ) (Cert.KAdamNormG.main (F := Bits))) ⟨m, fun _ => 0, g⟩ (fun r => (∀ c : Dev Cert.KAdamNormG.nD,
      r.2.mem ((c.tc : Thread Cert.KAdamNormG.nD Cert.KAdamNormG.τ).loc Cert.KAdamNormG.main_arg0) = m ((c.tc : Thread Cert.KAdamNormG.nD Cert.KAdamNormG.τ).loc Cert.KAdamNormG.main_arg0)
      ∧ r.2.mem ((c.tc : Thread Cert.KAdamNormG.nD Cert.KAdamNormG.τ).loc Cert.KAdamNormG.main_arg1) = m ((c.tc : Thread Cert.KAdamNormG.nD Cert.KAdamNormG.τ).loc Cert.KAdamNormG.main_arg1)
      ∧ r.2.mem ((c.tc : Thread Cert.KAdamNormG.nD Cert.KAdamNormG.τ).loc Cert.KAdamNormG.main_arg2) = m ((c.tc : Thread Cert.KAdamNormG.nD Cert.KAdamNormG.τ).loc Cert.KAdamNormG.main_arg2)
      ∧ r.2.mem ((c.tc : Thread Cert.KAdamNormG.nD Cert.KAdamNormG.τ).loc Cert.KAdamNormG.main_arg3) = m ((c.tc : Thread Cert.KAdamNormG.nD Cert.KAdamNormG.τ).loc Cert.KAdamNormG.main_arg3))
      ∧ r.2.sem = fun _ => 0)

def quiescent_KAdamNormGIdeal [hKAdamNormGIdeal : Cert.KAdamNormGIdeal.Facts] : Prop :=
  ∀ (m : (ℓ : Loc Cert.KAdamNormGIdeal.nD Cert.KAdamNormGIdeal.τ Cert.KAdamNormGIdeal.sig) → Buf (Elt Ideal) ℓ) (g : Dev Cert.KAdamNormGIdeal.nD → PrngReg), Pre_KAdamNormGIdeal m →
    θ_run (Cert.KAdamNormGIdeal.defs (F := Ideal)) (onTc (τ := Cert.KAdamNormGIdeal.τ) (Cert.KAdamNormGIdeal.main (F := Ideal))) ⟨m, fun _ => 0, g⟩ (fun r => (∀ c : Dev Cert.KAdamNormGIdeal.nD,
      r.2.mem ((c.tc : Thread Cert.KAdamNormGIdeal.nD Cert.KAdamNormGIdeal.τ).loc Cert.KAdamNormGIdeal.main_arg0) = m ((c.tc : Thread Cert.KAdamNormGIdeal.nD Cert.KAdamNormGIdeal.τ).loc Cert.KAdamNormGIdeal.main_arg0)
      ∧ r.2.mem ((c.tc : Thread Cert.KAdamNormGIdeal.nD Cert.KAdamNormGIdeal.τ).loc Cert.KAdamNormGIdeal.main_arg1) = m ((c.tc : Thread Cert.KAdamNormGIdeal.nD Cert.KAdamNormGIdeal.τ).loc Cert.KAdamNormGIdeal.main_arg1)
      ∧ r.2.mem ((c.tc : Thread Cert.KAdamNormGIdeal.nD Cert.KAdamNormGIdeal.τ).loc Cert.KAdamNormGIdeal.main_arg2) = m ((c.tc : Thread Cert.KAdamNormGIdeal.nD Cert.KAdamNormGIdeal.τ).loc Cert.KAdamNormGIdeal.main_arg2)
      ∧ r.2.mem ((c.tc : Thread Cert.KAdamNormGIdeal.nD Cert.KAdamNormGIdeal.τ).loc Cert.KAdamNormGIdeal.main_arg3) = m ((c.tc : Thread Cert.KAdamNormGIdeal.nD Cert.KAdamNormGIdeal.τ).loc Cert.KAdamNormGIdeal.main_arg3))
      ∧ r.2.sem = fun _ => 0)

def quiescent_RAdamNormGIdeal [hRAdamNormGIdeal : Cert.RAdamNormGIdeal.Facts] : Prop :=
  ∀ (m : (ℓ : Loc Cert.RAdamNormGIdeal.nD Cert.RAdamNormGIdeal.τ Cert.RAdamNormGIdeal.sig) → Buf (Elt Ideal) ℓ) (g : Dev Cert.RAdamNormGIdeal.nD → PrngReg), Pre_RAdamNormGIdeal m →
    θ_run (Cert.RAdamNormGIdeal.defs (F := Ideal)) (onTc (τ := Cert.RAdamNormGIdeal.τ) (Cert.RAdamNormGIdeal.main (F := Ideal))) ⟨m, fun _ => 0, g⟩ (fun r => (∀ c : Dev Cert.RAdamNormGIdeal.nD,
      r.2.mem ((c.tc : Thread Cert.RAdamNormGIdeal.nD Cert.RAdamNormGIdeal.τ).loc Cert.RAdamNormGIdeal.main_arg0) = m ((c.tc : Thread Cert.RAdamNormGIdeal.nD Cert.RAdamNormGIdeal.τ).loc Cert.RAdamNormGIdeal.main_arg0)
      ∧ r.2.mem ((c.tc : Thread Cert.RAdamNormGIdeal.nD Cert.RAdamNormGIdeal.τ).loc Cert.RAdamNormGIdeal.main_arg1) = m ((c.tc : Thread Cert.RAdamNormGIdeal.nD Cert.RAdamNormGIdeal.τ).loc Cert.RAdamNormGIdeal.main_arg1)
      ∧ r.2.mem ((c.tc : Thread Cert.RAdamNormGIdeal.nD Cert.RAdamNormGIdeal.τ).loc Cert.RAdamNormGIdeal.main_arg2) = m ((c.tc : Thread Cert.RAdamNormGIdeal.nD Cert.RAdamNormGIdeal.τ).loc Cert.RAdamNormGIdeal.main_arg2)
      ∧ r.2.mem ((c.tc : Thread Cert.RAdamNormGIdeal.nD Cert.RAdamNormGIdeal.τ).loc Cert.RAdamNormGIdeal.main_arg3) = m ((c.tc : Thread Cert.RAdamNormGIdeal.nD Cert.RAdamNormGIdeal.τ).loc Cert.RAdamNormGIdeal.main_arg3))
      ∧ r.2.sem = fun _ => 0)

def quiescent_KAdamGateW [hKAdamGateW : Cert.KAdamGateW.Facts] : Prop :=
  ∀ (m : (ℓ : Loc Cert.KAdamGateW.nD Cert.KAdamGateW.τ Cert.KAdamGateW.sig) → Buf (Elt Bits) ℓ) (g : Dev Cert.KAdamGateW.nD → PrngReg), Pre_KAdamGateW m →
    θ_run (Cert.KAdamGateW.defs (F := Bits)) (onTc (τ := Cert.KAdamGateW.τ) (Cert.KAdamGateW.main (F := Bits))) ⟨m, fun _ => 0, g⟩ (fun r => (∀ c : Dev Cert.KAdamGateW.nD,
      r.2.mem ((c.tc : Thread Cert.KAdamGateW.nD Cert.KAdamGateW.τ).loc Cert.KAdamGateW.main_arg0) = m ((c.tc : Thread Cert.KAdamGateW.nD Cert.KAdamGateW.τ).loc Cert.KAdamGateW.main_arg0)
      ∧ r.2.mem ((c.tc : Thread Cert.KAdamGateW.nD Cert.KAdamGateW.τ).loc Cert.KAdamGateW.main_arg1) = m ((c.tc : Thread Cert.KAdamGateW.nD Cert.KAdamGateW.τ).loc Cert.KAdamGateW.main_arg1)
      ∧ r.2.mem ((c.tc : Thread Cert.KAdamGateW.nD Cert.KAdamGateW.τ).loc Cert.KAdamGateW.main_arg2) = m ((c.tc : Thread Cert.KAdamGateW.nD Cert.KAdamGateW.τ).loc Cert.KAdamGateW.main_arg2)
      ∧ r.2.mem ((c.tc : Thread Cert.KAdamGateW.nD Cert.KAdamGateW.τ).loc Cert.KAdamGateW.main_arg3) = m ((c.tc : Thread Cert.KAdamGateW.nD Cert.KAdamGateW.τ).loc Cert.KAdamGateW.main_arg3))
      ∧ r.2.sem = fun _ => 0)

def quiescent_KAdamGateWIdeal [hKAdamGateWIdeal : Cert.KAdamGateWIdeal.Facts] : Prop :=
  ∀ (m : (ℓ : Loc Cert.KAdamGateWIdeal.nD Cert.KAdamGateWIdeal.τ Cert.KAdamGateWIdeal.sig) → Buf (Elt Ideal) ℓ) (g : Dev Cert.KAdamGateWIdeal.nD → PrngReg), Pre_KAdamGateWIdeal m →
    θ_run (Cert.KAdamGateWIdeal.defs (F := Ideal)) (onTc (τ := Cert.KAdamGateWIdeal.τ) (Cert.KAdamGateWIdeal.main (F := Ideal))) ⟨m, fun _ => 0, g⟩ (fun r => (∀ c : Dev Cert.KAdamGateWIdeal.nD,
      r.2.mem ((c.tc : Thread Cert.KAdamGateWIdeal.nD Cert.KAdamGateWIdeal.τ).loc Cert.KAdamGateWIdeal.main_arg0) = m ((c.tc : Thread Cert.KAdamGateWIdeal.nD Cert.KAdamGateWIdeal.τ).loc Cert.KAdamGateWIdeal.main_arg0)
      ∧ r.2.mem ((c.tc : Thread Cert.KAdamGateWIdeal.nD Cert.KAdamGateWIdeal.τ).loc Cert.KAdamGateWIdeal.main_arg1) = m ((c.tc : Thread Cert.KAdamGateWIdeal.nD Cert.KAdamGateWIdeal.τ).loc Cert.KAdamGateWIdeal.main_arg1)
      ∧ r.2.mem ((c.tc : Thread Cert.KAdamGateWIdeal.nD Cert.KAdamGateWIdeal.τ).loc Cert.KAdamGateWIdeal.main_arg2) = m ((c.tc : Thread Cert.KAdamGateWIdeal.nD Cert.KAdamGateWIdeal.τ).loc Cert.KAdamGateWIdeal.main_arg2)
      ∧ r.2.mem ((c.tc : Thread Cert.KAdamGateWIdeal.nD Cert.KAdamGateWIdeal.τ).loc Cert.KAdamGateWIdeal.main_arg3) = m ((c.tc : Thread Cert.KAdamGateWIdeal.nD Cert.KAdamGateWIdeal.τ).loc Cert.KAdamGateWIdeal.main_arg3))
      ∧ r.2.sem = fun _ => 0)

def quiescent_RAdamGateWIdeal [hRAdamGateWIdeal : Cert.RAdamGateWIdeal.Facts] : Prop :=
  ∀ (m : (ℓ : Loc Cert.RAdamGateWIdeal.nD Cert.RAdamGateWIdeal.τ Cert.RAdamGateWIdeal.sig) → Buf (Elt Ideal) ℓ) (g : Dev Cert.RAdamGateWIdeal.nD → PrngReg), Pre_RAdamGateWIdeal m →
    θ_run (Cert.RAdamGateWIdeal.defs (F := Ideal)) (onTc (τ := Cert.RAdamGateWIdeal.τ) (Cert.RAdamGateWIdeal.main (F := Ideal))) ⟨m, fun _ => 0, g⟩ (fun r => (∀ c : Dev Cert.RAdamGateWIdeal.nD,
      r.2.mem ((c.tc : Thread Cert.RAdamGateWIdeal.nD Cert.RAdamGateWIdeal.τ).loc Cert.RAdamGateWIdeal.main_arg0) = m ((c.tc : Thread Cert.RAdamGateWIdeal.nD Cert.RAdamGateWIdeal.τ).loc Cert.RAdamGateWIdeal.main_arg0)
      ∧ r.2.mem ((c.tc : Thread Cert.RAdamGateWIdeal.nD Cert.RAdamGateWIdeal.τ).loc Cert.RAdamGateWIdeal.main_arg1) = m ((c.tc : Thread Cert.RAdamGateWIdeal.nD Cert.RAdamGateWIdeal.τ).loc Cert.RAdamGateWIdeal.main_arg1)
      ∧ r.2.mem ((c.tc : Thread Cert.RAdamGateWIdeal.nD Cert.RAdamGateWIdeal.τ).loc Cert.RAdamGateWIdeal.main_arg2) = m ((c.tc : Thread Cert.RAdamGateWIdeal.nD Cert.RAdamGateWIdeal.τ).loc Cert.RAdamGateWIdeal.main_arg2)
      ∧ r.2.mem ((c.tc : Thread Cert.RAdamGateWIdeal.nD Cert.RAdamGateWIdeal.τ).loc Cert.RAdamGateWIdeal.main_arg3) = m ((c.tc : Thread Cert.RAdamGateWIdeal.nD Cert.RAdamGateWIdeal.τ).loc Cert.RAdamGateWIdeal.main_arg3))
      ∧ r.2.sem = fun _ => 0)

def quiescent_KAdamGateB [hKAdamGateB : Cert.KAdamGateB.Facts] : Prop :=
  ∀ (m : (ℓ : Loc Cert.KAdamGateB.nD Cert.KAdamGateB.τ Cert.KAdamGateB.sig) → Buf (Elt Bits) ℓ) (g : Dev Cert.KAdamGateB.nD → PrngReg), Pre_KAdamGateB m →
    θ_run (Cert.KAdamGateB.defs (F := Bits)) (onTc (τ := Cert.KAdamGateB.τ) (Cert.KAdamGateB.main (F := Bits))) ⟨m, fun _ => 0, g⟩ (fun r => (∀ c : Dev Cert.KAdamGateB.nD,
      r.2.mem ((c.tc : Thread Cert.KAdamGateB.nD Cert.KAdamGateB.τ).loc Cert.KAdamGateB.main_arg0) = m ((c.tc : Thread Cert.KAdamGateB.nD Cert.KAdamGateB.τ).loc Cert.KAdamGateB.main_arg0)
      ∧ r.2.mem ((c.tc : Thread Cert.KAdamGateB.nD Cert.KAdamGateB.τ).loc Cert.KAdamGateB.main_arg1) = m ((c.tc : Thread Cert.KAdamGateB.nD Cert.KAdamGateB.τ).loc Cert.KAdamGateB.main_arg1)
      ∧ r.2.mem ((c.tc : Thread Cert.KAdamGateB.nD Cert.KAdamGateB.τ).loc Cert.KAdamGateB.main_arg2) = m ((c.tc : Thread Cert.KAdamGateB.nD Cert.KAdamGateB.τ).loc Cert.KAdamGateB.main_arg2)
      ∧ r.2.mem ((c.tc : Thread Cert.KAdamGateB.nD Cert.KAdamGateB.τ).loc Cert.KAdamGateB.main_arg3) = m ((c.tc : Thread Cert.KAdamGateB.nD Cert.KAdamGateB.τ).loc Cert.KAdamGateB.main_arg3))
      ∧ r.2.sem = fun _ => 0)

def quiescent_KAdamGateBIdeal [hKAdamGateBIdeal : Cert.KAdamGateBIdeal.Facts] : Prop :=
  ∀ (m : (ℓ : Loc Cert.KAdamGateBIdeal.nD Cert.KAdamGateBIdeal.τ Cert.KAdamGateBIdeal.sig) → Buf (Elt Ideal) ℓ) (g : Dev Cert.KAdamGateBIdeal.nD → PrngReg), Pre_KAdamGateBIdeal m →
    θ_run (Cert.KAdamGateBIdeal.defs (F := Ideal)) (onTc (τ := Cert.KAdamGateBIdeal.τ) (Cert.KAdamGateBIdeal.main (F := Ideal))) ⟨m, fun _ => 0, g⟩ (fun r => (∀ c : Dev Cert.KAdamGateBIdeal.nD,
      r.2.mem ((c.tc : Thread Cert.KAdamGateBIdeal.nD Cert.KAdamGateBIdeal.τ).loc Cert.KAdamGateBIdeal.main_arg0) = m ((c.tc : Thread Cert.KAdamGateBIdeal.nD Cert.KAdamGateBIdeal.τ).loc Cert.KAdamGateBIdeal.main_arg0)
      ∧ r.2.mem ((c.tc : Thread Cert.KAdamGateBIdeal.nD Cert.KAdamGateBIdeal.τ).loc Cert.KAdamGateBIdeal.main_arg1) = m ((c.tc : Thread Cert.KAdamGateBIdeal.nD Cert.KAdamGateBIdeal.τ).loc Cert.KAdamGateBIdeal.main_arg1)
      ∧ r.2.mem ((c.tc : Thread Cert.KAdamGateBIdeal.nD Cert.KAdamGateBIdeal.τ).loc Cert.KAdamGateBIdeal.main_arg2) = m ((c.tc : Thread Cert.KAdamGateBIdeal.nD Cert.KAdamGateBIdeal.τ).loc Cert.KAdamGateBIdeal.main_arg2)
      ∧ r.2.mem ((c.tc : Thread Cert.KAdamGateBIdeal.nD Cert.KAdamGateBIdeal.τ).loc Cert.KAdamGateBIdeal.main_arg3) = m ((c.tc : Thread Cert.KAdamGateBIdeal.nD Cert.KAdamGateBIdeal.τ).loc Cert.KAdamGateBIdeal.main_arg3))
      ∧ r.2.sem = fun _ => 0)

def quiescent_RAdamGateBIdeal [hRAdamGateBIdeal : Cert.RAdamGateBIdeal.Facts] : Prop :=
  ∀ (m : (ℓ : Loc Cert.RAdamGateBIdeal.nD Cert.RAdamGateBIdeal.τ Cert.RAdamGateBIdeal.sig) → Buf (Elt Ideal) ℓ) (g : Dev Cert.RAdamGateBIdeal.nD → PrngReg), Pre_RAdamGateBIdeal m →
    θ_run (Cert.RAdamGateBIdeal.defs (F := Ideal)) (onTc (τ := Cert.RAdamGateBIdeal.τ) (Cert.RAdamGateBIdeal.main (F := Ideal))) ⟨m, fun _ => 0, g⟩ (fun r => (∀ c : Dev Cert.RAdamGateBIdeal.nD,
      r.2.mem ((c.tc : Thread Cert.RAdamGateBIdeal.nD Cert.RAdamGateBIdeal.τ).loc Cert.RAdamGateBIdeal.main_arg0) = m ((c.tc : Thread Cert.RAdamGateBIdeal.nD Cert.RAdamGateBIdeal.τ).loc Cert.RAdamGateBIdeal.main_arg0)
      ∧ r.2.mem ((c.tc : Thread Cert.RAdamGateBIdeal.nD Cert.RAdamGateBIdeal.τ).loc Cert.RAdamGateBIdeal.main_arg1) = m ((c.tc : Thread Cert.RAdamGateBIdeal.nD Cert.RAdamGateBIdeal.τ).loc Cert.RAdamGateBIdeal.main_arg1)
      ∧ r.2.mem ((c.tc : Thread Cert.RAdamGateBIdeal.nD Cert.RAdamGateBIdeal.τ).loc Cert.RAdamGateBIdeal.main_arg2) = m ((c.tc : Thread Cert.RAdamGateBIdeal.nD Cert.RAdamGateBIdeal.τ).loc Cert.RAdamGateBIdeal.main_arg2)
      ∧ r.2.mem ((c.tc : Thread Cert.RAdamGateBIdeal.nD Cert.RAdamGateBIdeal.τ).loc Cert.RAdamGateBIdeal.main_arg3) = m ((c.tc : Thread Cert.RAdamGateBIdeal.nD Cert.RAdamGateBIdeal.τ).loc Cert.RAdamGateBIdeal.main_arg3))
      ∧ r.2.sem = fun _ => 0)

def quiescent_KAdamGlaNorm [hKAdamGlaNorm : Cert.KAdamGlaNorm.Facts] : Prop :=
  ∀ (m : (ℓ : Loc Cert.KAdamGlaNorm.nD Cert.KAdamGlaNorm.τ Cert.KAdamGlaNorm.sig) → Buf (Elt Bits) ℓ) (g : Dev Cert.KAdamGlaNorm.nD → PrngReg), Pre_KAdamGlaNorm m →
    θ_run (Cert.KAdamGlaNorm.defs (F := Bits)) (onTc (τ := Cert.KAdamGlaNorm.τ) (Cert.KAdamGlaNorm.main (F := Bits))) ⟨m, fun _ => 0, g⟩ (fun r => (∀ c : Dev Cert.KAdamGlaNorm.nD,
      r.2.mem ((c.tc : Thread Cert.KAdamGlaNorm.nD Cert.KAdamGlaNorm.τ).loc Cert.KAdamGlaNorm.main_arg0) = m ((c.tc : Thread Cert.KAdamGlaNorm.nD Cert.KAdamGlaNorm.τ).loc Cert.KAdamGlaNorm.main_arg0)
      ∧ r.2.mem ((c.tc : Thread Cert.KAdamGlaNorm.nD Cert.KAdamGlaNorm.τ).loc Cert.KAdamGlaNorm.main_arg1) = m ((c.tc : Thread Cert.KAdamGlaNorm.nD Cert.KAdamGlaNorm.τ).loc Cert.KAdamGlaNorm.main_arg1)
      ∧ r.2.mem ((c.tc : Thread Cert.KAdamGlaNorm.nD Cert.KAdamGlaNorm.τ).loc Cert.KAdamGlaNorm.main_arg2) = m ((c.tc : Thread Cert.KAdamGlaNorm.nD Cert.KAdamGlaNorm.τ).loc Cert.KAdamGlaNorm.main_arg2)
      ∧ r.2.mem ((c.tc : Thread Cert.KAdamGlaNorm.nD Cert.KAdamGlaNorm.τ).loc Cert.KAdamGlaNorm.main_arg3) = m ((c.tc : Thread Cert.KAdamGlaNorm.nD Cert.KAdamGlaNorm.τ).loc Cert.KAdamGlaNorm.main_arg3))
      ∧ r.2.sem = fun _ => 0)

def quiescent_KAdamGlaNormIdeal [hKAdamGlaNormIdeal : Cert.KAdamGlaNormIdeal.Facts] : Prop :=
  ∀ (m : (ℓ : Loc Cert.KAdamGlaNormIdeal.nD Cert.KAdamGlaNormIdeal.τ Cert.KAdamGlaNormIdeal.sig) → Buf (Elt Ideal) ℓ) (g : Dev Cert.KAdamGlaNormIdeal.nD → PrngReg), Pre_KAdamGlaNormIdeal m →
    θ_run (Cert.KAdamGlaNormIdeal.defs (F := Ideal)) (onTc (τ := Cert.KAdamGlaNormIdeal.τ) (Cert.KAdamGlaNormIdeal.main (F := Ideal))) ⟨m, fun _ => 0, g⟩ (fun r => (∀ c : Dev Cert.KAdamGlaNormIdeal.nD,
      r.2.mem ((c.tc : Thread Cert.KAdamGlaNormIdeal.nD Cert.KAdamGlaNormIdeal.τ).loc Cert.KAdamGlaNormIdeal.main_arg0) = m ((c.tc : Thread Cert.KAdamGlaNormIdeal.nD Cert.KAdamGlaNormIdeal.τ).loc Cert.KAdamGlaNormIdeal.main_arg0)
      ∧ r.2.mem ((c.tc : Thread Cert.KAdamGlaNormIdeal.nD Cert.KAdamGlaNormIdeal.τ).loc Cert.KAdamGlaNormIdeal.main_arg1) = m ((c.tc : Thread Cert.KAdamGlaNormIdeal.nD Cert.KAdamGlaNormIdeal.τ).loc Cert.KAdamGlaNormIdeal.main_arg1)
      ∧ r.2.mem ((c.tc : Thread Cert.KAdamGlaNormIdeal.nD Cert.KAdamGlaNormIdeal.τ).loc Cert.KAdamGlaNormIdeal.main_arg2) = m ((c.tc : Thread Cert.KAdamGlaNormIdeal.nD Cert.KAdamGlaNormIdeal.τ).loc Cert.KAdamGlaNormIdeal.main_arg2)
      ∧ r.2.mem ((c.tc : Thread Cert.KAdamGlaNormIdeal.nD Cert.KAdamGlaNormIdeal.τ).loc Cert.KAdamGlaNormIdeal.main_arg3) = m ((c.tc : Thread Cert.KAdamGlaNormIdeal.nD Cert.KAdamGlaNormIdeal.τ).loc Cert.KAdamGlaNormIdeal.main_arg3))
      ∧ r.2.sem = fun _ => 0)

def quiescent_RAdamGlaNormIdeal [hRAdamGlaNormIdeal : Cert.RAdamGlaNormIdeal.Facts] : Prop :=
  ∀ (m : (ℓ : Loc Cert.RAdamGlaNormIdeal.nD Cert.RAdamGlaNormIdeal.τ Cert.RAdamGlaNormIdeal.sig) → Buf (Elt Ideal) ℓ) (g : Dev Cert.RAdamGlaNormIdeal.nD → PrngReg), Pre_RAdamGlaNormIdeal m →
    θ_run (Cert.RAdamGlaNormIdeal.defs (F := Ideal)) (onTc (τ := Cert.RAdamGlaNormIdeal.τ) (Cert.RAdamGlaNormIdeal.main (F := Ideal))) ⟨m, fun _ => 0, g⟩ (fun r => (∀ c : Dev Cert.RAdamGlaNormIdeal.nD,
      r.2.mem ((c.tc : Thread Cert.RAdamGlaNormIdeal.nD Cert.RAdamGlaNormIdeal.τ).loc Cert.RAdamGlaNormIdeal.main_arg0) = m ((c.tc : Thread Cert.RAdamGlaNormIdeal.nD Cert.RAdamGlaNormIdeal.τ).loc Cert.RAdamGlaNormIdeal.main_arg0)
      ∧ r.2.mem ((c.tc : Thread Cert.RAdamGlaNormIdeal.nD Cert.RAdamGlaNormIdeal.τ).loc Cert.RAdamGlaNormIdeal.main_arg1) = m ((c.tc : Thread Cert.RAdamGlaNormIdeal.nD Cert.RAdamGlaNormIdeal.τ).loc Cert.RAdamGlaNormIdeal.main_arg1)
      ∧ r.2.mem ((c.tc : Thread Cert.RAdamGlaNormIdeal.nD Cert.RAdamGlaNormIdeal.τ).loc Cert.RAdamGlaNormIdeal.main_arg2) = m ((c.tc : Thread Cert.RAdamGlaNormIdeal.nD Cert.RAdamGlaNormIdeal.τ).loc Cert.RAdamGlaNormIdeal.main_arg2)
      ∧ r.2.mem ((c.tc : Thread Cert.RAdamGlaNormIdeal.nD Cert.RAdamGlaNormIdeal.τ).loc Cert.RAdamGlaNormIdeal.main_arg3) = m ((c.tc : Thread Cert.RAdamGlaNormIdeal.nD Cert.RAdamGlaNormIdeal.τ).loc Cert.RAdamGlaNormIdeal.main_arg3))
      ∧ r.2.sem = fun _ => 0)

def quiescent_KAdamConvW [hKAdamConvW : Cert.KAdamConvW.Facts] : Prop :=
  ∀ (m : (ℓ : Loc Cert.KAdamConvW.nD Cert.KAdamConvW.τ Cert.KAdamConvW.sig) → Buf (Elt Bits) ℓ) (g : Dev Cert.KAdamConvW.nD → PrngReg), Pre_KAdamConvW m →
    θ_run (Cert.KAdamConvW.defs (F := Bits)) (onTc (τ := Cert.KAdamConvW.τ) (Cert.KAdamConvW.main (F := Bits))) ⟨m, fun _ => 0, g⟩ (fun r => (∀ c : Dev Cert.KAdamConvW.nD,
      r.2.mem ((c.tc : Thread Cert.KAdamConvW.nD Cert.KAdamConvW.τ).loc Cert.KAdamConvW.main_arg0) = m ((c.tc : Thread Cert.KAdamConvW.nD Cert.KAdamConvW.τ).loc Cert.KAdamConvW.main_arg0)
      ∧ r.2.mem ((c.tc : Thread Cert.KAdamConvW.nD Cert.KAdamConvW.τ).loc Cert.KAdamConvW.main_arg1) = m ((c.tc : Thread Cert.KAdamConvW.nD Cert.KAdamConvW.τ).loc Cert.KAdamConvW.main_arg1)
      ∧ r.2.mem ((c.tc : Thread Cert.KAdamConvW.nD Cert.KAdamConvW.τ).loc Cert.KAdamConvW.main_arg2) = m ((c.tc : Thread Cert.KAdamConvW.nD Cert.KAdamConvW.τ).loc Cert.KAdamConvW.main_arg2)
      ∧ r.2.mem ((c.tc : Thread Cert.KAdamConvW.nD Cert.KAdamConvW.τ).loc Cert.KAdamConvW.main_arg3) = m ((c.tc : Thread Cert.KAdamConvW.nD Cert.KAdamConvW.τ).loc Cert.KAdamConvW.main_arg3))
      ∧ r.2.sem = fun _ => 0)

def quiescent_KAdamConvWIdeal [hKAdamConvWIdeal : Cert.KAdamConvWIdeal.Facts] : Prop :=
  ∀ (m : (ℓ : Loc Cert.KAdamConvWIdeal.nD Cert.KAdamConvWIdeal.τ Cert.KAdamConvWIdeal.sig) → Buf (Elt Ideal) ℓ) (g : Dev Cert.KAdamConvWIdeal.nD → PrngReg), Pre_KAdamConvWIdeal m →
    θ_run (Cert.KAdamConvWIdeal.defs (F := Ideal)) (onTc (τ := Cert.KAdamConvWIdeal.τ) (Cert.KAdamConvWIdeal.main (F := Ideal))) ⟨m, fun _ => 0, g⟩ (fun r => (∀ c : Dev Cert.KAdamConvWIdeal.nD,
      r.2.mem ((c.tc : Thread Cert.KAdamConvWIdeal.nD Cert.KAdamConvWIdeal.τ).loc Cert.KAdamConvWIdeal.main_arg0) = m ((c.tc : Thread Cert.KAdamConvWIdeal.nD Cert.KAdamConvWIdeal.τ).loc Cert.KAdamConvWIdeal.main_arg0)
      ∧ r.2.mem ((c.tc : Thread Cert.KAdamConvWIdeal.nD Cert.KAdamConvWIdeal.τ).loc Cert.KAdamConvWIdeal.main_arg1) = m ((c.tc : Thread Cert.KAdamConvWIdeal.nD Cert.KAdamConvWIdeal.τ).loc Cert.KAdamConvWIdeal.main_arg1)
      ∧ r.2.mem ((c.tc : Thread Cert.KAdamConvWIdeal.nD Cert.KAdamConvWIdeal.τ).loc Cert.KAdamConvWIdeal.main_arg2) = m ((c.tc : Thread Cert.KAdamConvWIdeal.nD Cert.KAdamConvWIdeal.τ).loc Cert.KAdamConvWIdeal.main_arg2)
      ∧ r.2.mem ((c.tc : Thread Cert.KAdamConvWIdeal.nD Cert.KAdamConvWIdeal.τ).loc Cert.KAdamConvWIdeal.main_arg3) = m ((c.tc : Thread Cert.KAdamConvWIdeal.nD Cert.KAdamConvWIdeal.τ).loc Cert.KAdamConvWIdeal.main_arg3))
      ∧ r.2.sem = fun _ => 0)

def quiescent_RAdamConvWIdeal [hRAdamConvWIdeal : Cert.RAdamConvWIdeal.Facts] : Prop :=
  ∀ (m : (ℓ : Loc Cert.RAdamConvWIdeal.nD Cert.RAdamConvWIdeal.τ Cert.RAdamConvWIdeal.sig) → Buf (Elt Ideal) ℓ) (g : Dev Cert.RAdamConvWIdeal.nD → PrngReg), Pre_RAdamConvWIdeal m →
    θ_run (Cert.RAdamConvWIdeal.defs (F := Ideal)) (onTc (τ := Cert.RAdamConvWIdeal.τ) (Cert.RAdamConvWIdeal.main (F := Ideal))) ⟨m, fun _ => 0, g⟩ (fun r => (∀ c : Dev Cert.RAdamConvWIdeal.nD,
      r.2.mem ((c.tc : Thread Cert.RAdamConvWIdeal.nD Cert.RAdamConvWIdeal.τ).loc Cert.RAdamConvWIdeal.main_arg0) = m ((c.tc : Thread Cert.RAdamConvWIdeal.nD Cert.RAdamConvWIdeal.τ).loc Cert.RAdamConvWIdeal.main_arg0)
      ∧ r.2.mem ((c.tc : Thread Cert.RAdamConvWIdeal.nD Cert.RAdamConvWIdeal.τ).loc Cert.RAdamConvWIdeal.main_arg1) = m ((c.tc : Thread Cert.RAdamConvWIdeal.nD Cert.RAdamConvWIdeal.τ).loc Cert.RAdamConvWIdeal.main_arg1)
      ∧ r.2.mem ((c.tc : Thread Cert.RAdamConvWIdeal.nD Cert.RAdamConvWIdeal.τ).loc Cert.RAdamConvWIdeal.main_arg2) = m ((c.tc : Thread Cert.RAdamConvWIdeal.nD Cert.RAdamConvWIdeal.τ).loc Cert.RAdamConvWIdeal.main_arg2)
      ∧ r.2.mem ((c.tc : Thread Cert.RAdamConvWIdeal.nD Cert.RAdamConvWIdeal.τ).loc Cert.RAdamConvWIdeal.main_arg3) = m ((c.tc : Thread Cert.RAdamConvWIdeal.nD Cert.RAdamConvWIdeal.τ).loc Cert.RAdamConvWIdeal.main_arg3))
      ∧ r.2.sem = fun _ => 0)

def quiescent_KAdamFfnConv [hKAdamFfnConv : Cert.KAdamFfnConv.Facts] : Prop :=
  ∀ (m : (ℓ : Loc Cert.KAdamFfnConv.nD Cert.KAdamFfnConv.τ Cert.KAdamFfnConv.sig) → Buf (Elt Bits) ℓ) (g : Dev Cert.KAdamFfnConv.nD → PrngReg), Pre_KAdamFfnConv m →
    θ_run (Cert.KAdamFfnConv.defs (F := Bits)) (onTc (τ := Cert.KAdamFfnConv.τ) (Cert.KAdamFfnConv.main (F := Bits))) ⟨m, fun _ => 0, g⟩ (fun r => (∀ c : Dev Cert.KAdamFfnConv.nD,
      r.2.mem ((c.tc : Thread Cert.KAdamFfnConv.nD Cert.KAdamFfnConv.τ).loc Cert.KAdamFfnConv.main_arg0) = m ((c.tc : Thread Cert.KAdamFfnConv.nD Cert.KAdamFfnConv.τ).loc Cert.KAdamFfnConv.main_arg0)
      ∧ r.2.mem ((c.tc : Thread Cert.KAdamFfnConv.nD Cert.KAdamFfnConv.τ).loc Cert.KAdamFfnConv.main_arg1) = m ((c.tc : Thread Cert.KAdamFfnConv.nD Cert.KAdamFfnConv.τ).loc Cert.KAdamFfnConv.main_arg1)
      ∧ r.2.mem ((c.tc : Thread Cert.KAdamFfnConv.nD Cert.KAdamFfnConv.τ).loc Cert.KAdamFfnConv.main_arg2) = m ((c.tc : Thread Cert.KAdamFfnConv.nD Cert.KAdamFfnConv.τ).loc Cert.KAdamFfnConv.main_arg2)
      ∧ r.2.mem ((c.tc : Thread Cert.KAdamFfnConv.nD Cert.KAdamFfnConv.τ).loc Cert.KAdamFfnConv.main_arg3) = m ((c.tc : Thread Cert.KAdamFfnConv.nD Cert.KAdamFfnConv.τ).loc Cert.KAdamFfnConv.main_arg3))
      ∧ r.2.sem = fun _ => 0)

def quiescent_KAdamFfnConvIdeal [hKAdamFfnConvIdeal : Cert.KAdamFfnConvIdeal.Facts] : Prop :=
  ∀ (m : (ℓ : Loc Cert.KAdamFfnConvIdeal.nD Cert.KAdamFfnConvIdeal.τ Cert.KAdamFfnConvIdeal.sig) → Buf (Elt Ideal) ℓ) (g : Dev Cert.KAdamFfnConvIdeal.nD → PrngReg), Pre_KAdamFfnConvIdeal m →
    θ_run (Cert.KAdamFfnConvIdeal.defs (F := Ideal)) (onTc (τ := Cert.KAdamFfnConvIdeal.τ) (Cert.KAdamFfnConvIdeal.main (F := Ideal))) ⟨m, fun _ => 0, g⟩ (fun r => (∀ c : Dev Cert.KAdamFfnConvIdeal.nD,
      r.2.mem ((c.tc : Thread Cert.KAdamFfnConvIdeal.nD Cert.KAdamFfnConvIdeal.τ).loc Cert.KAdamFfnConvIdeal.main_arg0) = m ((c.tc : Thread Cert.KAdamFfnConvIdeal.nD Cert.KAdamFfnConvIdeal.τ).loc Cert.KAdamFfnConvIdeal.main_arg0)
      ∧ r.2.mem ((c.tc : Thread Cert.KAdamFfnConvIdeal.nD Cert.KAdamFfnConvIdeal.τ).loc Cert.KAdamFfnConvIdeal.main_arg1) = m ((c.tc : Thread Cert.KAdamFfnConvIdeal.nD Cert.KAdamFfnConvIdeal.τ).loc Cert.KAdamFfnConvIdeal.main_arg1)
      ∧ r.2.mem ((c.tc : Thread Cert.KAdamFfnConvIdeal.nD Cert.KAdamFfnConvIdeal.τ).loc Cert.KAdamFfnConvIdeal.main_arg2) = m ((c.tc : Thread Cert.KAdamFfnConvIdeal.nD Cert.KAdamFfnConvIdeal.τ).loc Cert.KAdamFfnConvIdeal.main_arg2)
      ∧ r.2.mem ((c.tc : Thread Cert.KAdamFfnConvIdeal.nD Cert.KAdamFfnConvIdeal.τ).loc Cert.KAdamFfnConvIdeal.main_arg3) = m ((c.tc : Thread Cert.KAdamFfnConvIdeal.nD Cert.KAdamFfnConvIdeal.τ).loc Cert.KAdamFfnConvIdeal.main_arg3))
      ∧ r.2.sem = fun _ => 0)

def quiescent_RAdamFfnConvIdeal [hRAdamFfnConvIdeal : Cert.RAdamFfnConvIdeal.Facts] : Prop :=
  ∀ (m : (ℓ : Loc Cert.RAdamFfnConvIdeal.nD Cert.RAdamFfnConvIdeal.τ Cert.RAdamFfnConvIdeal.sig) → Buf (Elt Ideal) ℓ) (g : Dev Cert.RAdamFfnConvIdeal.nD → PrngReg), Pre_RAdamFfnConvIdeal m →
    θ_run (Cert.RAdamFfnConvIdeal.defs (F := Ideal)) (onTc (τ := Cert.RAdamFfnConvIdeal.τ) (Cert.RAdamFfnConvIdeal.main (F := Ideal))) ⟨m, fun _ => 0, g⟩ (fun r => (∀ c : Dev Cert.RAdamFfnConvIdeal.nD,
      r.2.mem ((c.tc : Thread Cert.RAdamFfnConvIdeal.nD Cert.RAdamFfnConvIdeal.τ).loc Cert.RAdamFfnConvIdeal.main_arg0) = m ((c.tc : Thread Cert.RAdamFfnConvIdeal.nD Cert.RAdamFfnConvIdeal.τ).loc Cert.RAdamFfnConvIdeal.main_arg0)
      ∧ r.2.mem ((c.tc : Thread Cert.RAdamFfnConvIdeal.nD Cert.RAdamFfnConvIdeal.τ).loc Cert.RAdamFfnConvIdeal.main_arg1) = m ((c.tc : Thread Cert.RAdamFfnConvIdeal.nD Cert.RAdamFfnConvIdeal.τ).loc Cert.RAdamFfnConvIdeal.main_arg1)
      ∧ r.2.mem ((c.tc : Thread Cert.RAdamFfnConvIdeal.nD Cert.RAdamFfnConvIdeal.τ).loc Cert.RAdamFfnConvIdeal.main_arg2) = m ((c.tc : Thread Cert.RAdamFfnConvIdeal.nD Cert.RAdamFfnConvIdeal.τ).loc Cert.RAdamFfnConvIdeal.main_arg2)
      ∧ r.2.mem ((c.tc : Thread Cert.RAdamFfnConvIdeal.nD Cert.RAdamFfnConvIdeal.τ).loc Cert.RAdamFfnConvIdeal.main_arg3) = m ((c.tc : Thread Cert.RAdamFfnConvIdeal.nD Cert.RAdamFfnConvIdeal.τ).loc Cert.RAdamFfnConvIdeal.main_arg3))
      ∧ r.2.sem = fun _ => 0)

def quiescent_KAdamO [hKAdamO : Cert.KAdamO.Facts] : Prop :=
  ∀ (m : (ℓ : Loc Cert.KAdamO.nD Cert.KAdamO.τ Cert.KAdamO.sig) → Buf (Elt Bits) ℓ) (g : Dev Cert.KAdamO.nD → PrngReg), Pre_KAdamO m →
    θ_run (Cert.KAdamO.defs (F := Bits)) (onTc (τ := Cert.KAdamO.τ) (Cert.KAdamO.main (F := Bits))) ⟨m, fun _ => 0, g⟩ (fun r => (∀ c : Dev Cert.KAdamO.nD,
      r.2.mem ((c.tc : Thread Cert.KAdamO.nD Cert.KAdamO.τ).loc Cert.KAdamO.main_arg0) = m ((c.tc : Thread Cert.KAdamO.nD Cert.KAdamO.τ).loc Cert.KAdamO.main_arg0)
      ∧ r.2.mem ((c.tc : Thread Cert.KAdamO.nD Cert.KAdamO.τ).loc Cert.KAdamO.main_arg1) = m ((c.tc : Thread Cert.KAdamO.nD Cert.KAdamO.τ).loc Cert.KAdamO.main_arg1)
      ∧ r.2.mem ((c.tc : Thread Cert.KAdamO.nD Cert.KAdamO.τ).loc Cert.KAdamO.main_arg2) = m ((c.tc : Thread Cert.KAdamO.nD Cert.KAdamO.τ).loc Cert.KAdamO.main_arg2)
      ∧ r.2.mem ((c.tc : Thread Cert.KAdamO.nD Cert.KAdamO.τ).loc Cert.KAdamO.main_arg3) = m ((c.tc : Thread Cert.KAdamO.nD Cert.KAdamO.τ).loc Cert.KAdamO.main_arg3)
      ∧ r.2.mem ((c.tc : Thread Cert.KAdamO.nD Cert.KAdamO.τ).loc Cert.KAdamO.main_arg4) = m ((c.tc : Thread Cert.KAdamO.nD Cert.KAdamO.τ).loc Cert.KAdamO.main_arg4))
      ∧ r.2.sem = fun _ => 0)

def quiescent_KAdamOIdeal [hKAdamOIdeal : Cert.KAdamOIdeal.Facts] : Prop :=
  ∀ (m : (ℓ : Loc Cert.KAdamOIdeal.nD Cert.KAdamOIdeal.τ Cert.KAdamOIdeal.sig) → Buf (Elt Ideal) ℓ) (g : Dev Cert.KAdamOIdeal.nD → PrngReg), Pre_KAdamOIdeal m →
    θ_run (Cert.KAdamOIdeal.defs (F := Ideal)) (onTc (τ := Cert.KAdamOIdeal.τ) (Cert.KAdamOIdeal.main (F := Ideal))) ⟨m, fun _ => 0, g⟩ (fun r => (∀ c : Dev Cert.KAdamOIdeal.nD,
      r.2.mem ((c.tc : Thread Cert.KAdamOIdeal.nD Cert.KAdamOIdeal.τ).loc Cert.KAdamOIdeal.main_arg0) = m ((c.tc : Thread Cert.KAdamOIdeal.nD Cert.KAdamOIdeal.τ).loc Cert.KAdamOIdeal.main_arg0)
      ∧ r.2.mem ((c.tc : Thread Cert.KAdamOIdeal.nD Cert.KAdamOIdeal.τ).loc Cert.KAdamOIdeal.main_arg1) = m ((c.tc : Thread Cert.KAdamOIdeal.nD Cert.KAdamOIdeal.τ).loc Cert.KAdamOIdeal.main_arg1)
      ∧ r.2.mem ((c.tc : Thread Cert.KAdamOIdeal.nD Cert.KAdamOIdeal.τ).loc Cert.KAdamOIdeal.main_arg2) = m ((c.tc : Thread Cert.KAdamOIdeal.nD Cert.KAdamOIdeal.τ).loc Cert.KAdamOIdeal.main_arg2)
      ∧ r.2.mem ((c.tc : Thread Cert.KAdamOIdeal.nD Cert.KAdamOIdeal.τ).loc Cert.KAdamOIdeal.main_arg3) = m ((c.tc : Thread Cert.KAdamOIdeal.nD Cert.KAdamOIdeal.τ).loc Cert.KAdamOIdeal.main_arg3)
      ∧ r.2.mem ((c.tc : Thread Cert.KAdamOIdeal.nD Cert.KAdamOIdeal.τ).loc Cert.KAdamOIdeal.main_arg4) = m ((c.tc : Thread Cert.KAdamOIdeal.nD Cert.KAdamOIdeal.τ).loc Cert.KAdamOIdeal.main_arg4))
      ∧ r.2.sem = fun _ => 0)

def quiescent_RAdamOIdeal [hRAdamOIdeal : Cert.RAdamOIdeal.Facts] : Prop :=
  ∀ (m : (ℓ : Loc Cert.RAdamOIdeal.nD Cert.RAdamOIdeal.τ Cert.RAdamOIdeal.sig) → Buf (Elt Ideal) ℓ) (g : Dev Cert.RAdamOIdeal.nD → PrngReg), Pre_RAdamOIdeal m →
    θ_run (Cert.RAdamOIdeal.defs (F := Ideal)) (onTc (τ := Cert.RAdamOIdeal.τ) (Cert.RAdamOIdeal.main (F := Ideal))) ⟨m, fun _ => 0, g⟩ (fun r => (∀ c : Dev Cert.RAdamOIdeal.nD,
      r.2.mem ((c.tc : Thread Cert.RAdamOIdeal.nD Cert.RAdamOIdeal.τ).loc Cert.RAdamOIdeal.main_arg0) = m ((c.tc : Thread Cert.RAdamOIdeal.nD Cert.RAdamOIdeal.τ).loc Cert.RAdamOIdeal.main_arg0)
      ∧ r.2.mem ((c.tc : Thread Cert.RAdamOIdeal.nD Cert.RAdamOIdeal.τ).loc Cert.RAdamOIdeal.main_arg1) = m ((c.tc : Thread Cert.RAdamOIdeal.nD Cert.RAdamOIdeal.τ).loc Cert.RAdamOIdeal.main_arg1)
      ∧ r.2.mem ((c.tc : Thread Cert.RAdamOIdeal.nD Cert.RAdamOIdeal.τ).loc Cert.RAdamOIdeal.main_arg2) = m ((c.tc : Thread Cert.RAdamOIdeal.nD Cert.RAdamOIdeal.τ).loc Cert.RAdamOIdeal.main_arg2)
      ∧ r.2.mem ((c.tc : Thread Cert.RAdamOIdeal.nD Cert.RAdamOIdeal.τ).loc Cert.RAdamOIdeal.main_arg3) = m ((c.tc : Thread Cert.RAdamOIdeal.nD Cert.RAdamOIdeal.τ).loc Cert.RAdamOIdeal.main_arg3)
      ∧ r.2.mem ((c.tc : Thread Cert.RAdamOIdeal.nD Cert.RAdamOIdeal.τ).loc Cert.RAdamOIdeal.main_arg4) = m ((c.tc : Thread Cert.RAdamOIdeal.nD Cert.RAdamOIdeal.τ).loc Cert.RAdamOIdeal.main_arg4))
      ∧ r.2.sem = fun _ => 0)

def quiescent_KAdamDown [hKAdamDown : Cert.KAdamDown.Facts] : Prop :=
  ∀ (m : (ℓ : Loc Cert.KAdamDown.nD Cert.KAdamDown.τ Cert.KAdamDown.sig) → Buf (Elt Bits) ℓ) (g : Dev Cert.KAdamDown.nD → PrngReg), Pre_KAdamDown m →
    θ_run (Cert.KAdamDown.defs (F := Bits)) (onTc (τ := Cert.KAdamDown.τ) (Cert.KAdamDown.main (F := Bits))) ⟨m, fun _ => 0, g⟩ (fun r => (∀ c : Dev Cert.KAdamDown.nD,
      r.2.mem ((c.tc : Thread Cert.KAdamDown.nD Cert.KAdamDown.τ).loc Cert.KAdamDown.main_arg0) = m ((c.tc : Thread Cert.KAdamDown.nD Cert.KAdamDown.τ).loc Cert.KAdamDown.main_arg0)
      ∧ r.2.mem ((c.tc : Thread Cert.KAdamDown.nD Cert.KAdamDown.τ).loc Cert.KAdamDown.main_arg1) = m ((c.tc : Thread Cert.KAdamDown.nD Cert.KAdamDown.τ).loc Cert.KAdamDown.main_arg1)
      ∧ r.2.mem ((c.tc : Thread Cert.KAdamDown.nD Cert.KAdamDown.τ).loc Cert.KAdamDown.main_arg2) = m ((c.tc : Thread Cert.KAdamDown.nD Cert.KAdamDown.τ).loc Cert.KAdamDown.main_arg2)
      ∧ r.2.mem ((c.tc : Thread Cert.KAdamDown.nD Cert.KAdamDown.τ).loc Cert.KAdamDown.main_arg3) = m ((c.tc : Thread Cert.KAdamDown.nD Cert.KAdamDown.τ).loc Cert.KAdamDown.main_arg3)
      ∧ r.2.mem ((c.tc : Thread Cert.KAdamDown.nD Cert.KAdamDown.τ).loc Cert.KAdamDown.main_arg4) = m ((c.tc : Thread Cert.KAdamDown.nD Cert.KAdamDown.τ).loc Cert.KAdamDown.main_arg4))
      ∧ r.2.sem = fun _ => 0)

def quiescent_KAdamDownIdeal [hKAdamDownIdeal : Cert.KAdamDownIdeal.Facts] : Prop :=
  ∀ (m : (ℓ : Loc Cert.KAdamDownIdeal.nD Cert.KAdamDownIdeal.τ Cert.KAdamDownIdeal.sig) → Buf (Elt Ideal) ℓ) (g : Dev Cert.KAdamDownIdeal.nD → PrngReg), Pre_KAdamDownIdeal m →
    θ_run (Cert.KAdamDownIdeal.defs (F := Ideal)) (onTc (τ := Cert.KAdamDownIdeal.τ) (Cert.KAdamDownIdeal.main (F := Ideal))) ⟨m, fun _ => 0, g⟩ (fun r => (∀ c : Dev Cert.KAdamDownIdeal.nD,
      r.2.mem ((c.tc : Thread Cert.KAdamDownIdeal.nD Cert.KAdamDownIdeal.τ).loc Cert.KAdamDownIdeal.main_arg0) = m ((c.tc : Thread Cert.KAdamDownIdeal.nD Cert.KAdamDownIdeal.τ).loc Cert.KAdamDownIdeal.main_arg0)
      ∧ r.2.mem ((c.tc : Thread Cert.KAdamDownIdeal.nD Cert.KAdamDownIdeal.τ).loc Cert.KAdamDownIdeal.main_arg1) = m ((c.tc : Thread Cert.KAdamDownIdeal.nD Cert.KAdamDownIdeal.τ).loc Cert.KAdamDownIdeal.main_arg1)
      ∧ r.2.mem ((c.tc : Thread Cert.KAdamDownIdeal.nD Cert.KAdamDownIdeal.τ).loc Cert.KAdamDownIdeal.main_arg2) = m ((c.tc : Thread Cert.KAdamDownIdeal.nD Cert.KAdamDownIdeal.τ).loc Cert.KAdamDownIdeal.main_arg2)
      ∧ r.2.mem ((c.tc : Thread Cert.KAdamDownIdeal.nD Cert.KAdamDownIdeal.τ).loc Cert.KAdamDownIdeal.main_arg3) = m ((c.tc : Thread Cert.KAdamDownIdeal.nD Cert.KAdamDownIdeal.τ).loc Cert.KAdamDownIdeal.main_arg3)
      ∧ r.2.mem ((c.tc : Thread Cert.KAdamDownIdeal.nD Cert.KAdamDownIdeal.τ).loc Cert.KAdamDownIdeal.main_arg4) = m ((c.tc : Thread Cert.KAdamDownIdeal.nD Cert.KAdamDownIdeal.τ).loc Cert.KAdamDownIdeal.main_arg4))
      ∧ r.2.sem = fun _ => 0)

def quiescent_RAdamDownIdeal [hRAdamDownIdeal : Cert.RAdamDownIdeal.Facts] : Prop :=
  ∀ (m : (ℓ : Loc Cert.RAdamDownIdeal.nD Cert.RAdamDownIdeal.τ Cert.RAdamDownIdeal.sig) → Buf (Elt Ideal) ℓ) (g : Dev Cert.RAdamDownIdeal.nD → PrngReg), Pre_RAdamDownIdeal m →
    θ_run (Cert.RAdamDownIdeal.defs (F := Ideal)) (onTc (τ := Cert.RAdamDownIdeal.τ) (Cert.RAdamDownIdeal.main (F := Ideal))) ⟨m, fun _ => 0, g⟩ (fun r => (∀ c : Dev Cert.RAdamDownIdeal.nD,
      r.2.mem ((c.tc : Thread Cert.RAdamDownIdeal.nD Cert.RAdamDownIdeal.τ).loc Cert.RAdamDownIdeal.main_arg0) = m ((c.tc : Thread Cert.RAdamDownIdeal.nD Cert.RAdamDownIdeal.τ).loc Cert.RAdamDownIdeal.main_arg0)
      ∧ r.2.mem ((c.tc : Thread Cert.RAdamDownIdeal.nD Cert.RAdamDownIdeal.τ).loc Cert.RAdamDownIdeal.main_arg1) = m ((c.tc : Thread Cert.RAdamDownIdeal.nD Cert.RAdamDownIdeal.τ).loc Cert.RAdamDownIdeal.main_arg1)
      ∧ r.2.mem ((c.tc : Thread Cert.RAdamDownIdeal.nD Cert.RAdamDownIdeal.τ).loc Cert.RAdamDownIdeal.main_arg2) = m ((c.tc : Thread Cert.RAdamDownIdeal.nD Cert.RAdamDownIdeal.τ).loc Cert.RAdamDownIdeal.main_arg2)
      ∧ r.2.mem ((c.tc : Thread Cert.RAdamDownIdeal.nD Cert.RAdamDownIdeal.τ).loc Cert.RAdamDownIdeal.main_arg3) = m ((c.tc : Thread Cert.RAdamDownIdeal.nD Cert.RAdamDownIdeal.τ).loc Cert.RAdamDownIdeal.main_arg3)
      ∧ r.2.mem ((c.tc : Thread Cert.RAdamDownIdeal.nD Cert.RAdamDownIdeal.τ).loc Cert.RAdamDownIdeal.main_arg4) = m ((c.tc : Thread Cert.RAdamDownIdeal.nD Cert.RAdamDownIdeal.τ).loc Cert.RAdamDownIdeal.main_arg4))
      ∧ r.2.sem = fun _ => 0)

def quiescent_KAdamOut [hKAdamOut : Cert.KAdamOut.Facts] : Prop :=
  ∀ (m : (ℓ : Loc Cert.KAdamOut.nD Cert.KAdamOut.τ Cert.KAdamOut.sig) → Buf (Elt Bits) ℓ) (g : Dev Cert.KAdamOut.nD → PrngReg), Pre_KAdamOut m →
    θ_run (Cert.KAdamOut.defs (F := Bits)) (onTc (τ := Cert.KAdamOut.τ) (Cert.KAdamOut.main (F := Bits))) ⟨m, fun _ => 0, g⟩ (fun r => (∀ c : Dev Cert.KAdamOut.nD,
      r.2.mem ((c.tc : Thread Cert.KAdamOut.nD Cert.KAdamOut.τ).loc Cert.KAdamOut.main_arg0) = m ((c.tc : Thread Cert.KAdamOut.nD Cert.KAdamOut.τ).loc Cert.KAdamOut.main_arg0)
      ∧ r.2.mem ((c.tc : Thread Cert.KAdamOut.nD Cert.KAdamOut.τ).loc Cert.KAdamOut.main_arg1) = m ((c.tc : Thread Cert.KAdamOut.nD Cert.KAdamOut.τ).loc Cert.KAdamOut.main_arg1)
      ∧ r.2.mem ((c.tc : Thread Cert.KAdamOut.nD Cert.KAdamOut.τ).loc Cert.KAdamOut.main_arg2) = m ((c.tc : Thread Cert.KAdamOut.nD Cert.KAdamOut.τ).loc Cert.KAdamOut.main_arg2)
      ∧ r.2.mem ((c.tc : Thread Cert.KAdamOut.nD Cert.KAdamOut.τ).loc Cert.KAdamOut.main_arg3) = m ((c.tc : Thread Cert.KAdamOut.nD Cert.KAdamOut.τ).loc Cert.KAdamOut.main_arg3)
      ∧ r.2.mem ((c.tc : Thread Cert.KAdamOut.nD Cert.KAdamOut.τ).loc Cert.KAdamOut.main_arg4) = m ((c.tc : Thread Cert.KAdamOut.nD Cert.KAdamOut.τ).loc Cert.KAdamOut.main_arg4))
      ∧ r.2.sem = fun _ => 0)

def quiescent_KAdamOutIdeal [hKAdamOutIdeal : Cert.KAdamOutIdeal.Facts] : Prop :=
  ∀ (m : (ℓ : Loc Cert.KAdamOutIdeal.nD Cert.KAdamOutIdeal.τ Cert.KAdamOutIdeal.sig) → Buf (Elt Ideal) ℓ) (g : Dev Cert.KAdamOutIdeal.nD → PrngReg), Pre_KAdamOutIdeal m →
    θ_run (Cert.KAdamOutIdeal.defs (F := Ideal)) (onTc (τ := Cert.KAdamOutIdeal.τ) (Cert.KAdamOutIdeal.main (F := Ideal))) ⟨m, fun _ => 0, g⟩ (fun r => (∀ c : Dev Cert.KAdamOutIdeal.nD,
      r.2.mem ((c.tc : Thread Cert.KAdamOutIdeal.nD Cert.KAdamOutIdeal.τ).loc Cert.KAdamOutIdeal.main_arg0) = m ((c.tc : Thread Cert.KAdamOutIdeal.nD Cert.KAdamOutIdeal.τ).loc Cert.KAdamOutIdeal.main_arg0)
      ∧ r.2.mem ((c.tc : Thread Cert.KAdamOutIdeal.nD Cert.KAdamOutIdeal.τ).loc Cert.KAdamOutIdeal.main_arg1) = m ((c.tc : Thread Cert.KAdamOutIdeal.nD Cert.KAdamOutIdeal.τ).loc Cert.KAdamOutIdeal.main_arg1)
      ∧ r.2.mem ((c.tc : Thread Cert.KAdamOutIdeal.nD Cert.KAdamOutIdeal.τ).loc Cert.KAdamOutIdeal.main_arg2) = m ((c.tc : Thread Cert.KAdamOutIdeal.nD Cert.KAdamOutIdeal.τ).loc Cert.KAdamOutIdeal.main_arg2)
      ∧ r.2.mem ((c.tc : Thread Cert.KAdamOutIdeal.nD Cert.KAdamOutIdeal.τ).loc Cert.KAdamOutIdeal.main_arg3) = m ((c.tc : Thread Cert.KAdamOutIdeal.nD Cert.KAdamOutIdeal.τ).loc Cert.KAdamOutIdeal.main_arg3)
      ∧ r.2.mem ((c.tc : Thread Cert.KAdamOutIdeal.nD Cert.KAdamOutIdeal.τ).loc Cert.KAdamOutIdeal.main_arg4) = m ((c.tc : Thread Cert.KAdamOutIdeal.nD Cert.KAdamOutIdeal.τ).loc Cert.KAdamOutIdeal.main_arg4))
      ∧ r.2.sem = fun _ => 0)

def quiescent_RAdamOutIdeal [hRAdamOutIdeal : Cert.RAdamOutIdeal.Facts] : Prop :=
  ∀ (m : (ℓ : Loc Cert.RAdamOutIdeal.nD Cert.RAdamOutIdeal.τ Cert.RAdamOutIdeal.sig) → Buf (Elt Ideal) ℓ) (g : Dev Cert.RAdamOutIdeal.nD → PrngReg), Pre_RAdamOutIdeal m →
    θ_run (Cert.RAdamOutIdeal.defs (F := Ideal)) (onTc (τ := Cert.RAdamOutIdeal.τ) (Cert.RAdamOutIdeal.main (F := Ideal))) ⟨m, fun _ => 0, g⟩ (fun r => (∀ c : Dev Cert.RAdamOutIdeal.nD,
      r.2.mem ((c.tc : Thread Cert.RAdamOutIdeal.nD Cert.RAdamOutIdeal.τ).loc Cert.RAdamOutIdeal.main_arg0) = m ((c.tc : Thread Cert.RAdamOutIdeal.nD Cert.RAdamOutIdeal.τ).loc Cert.RAdamOutIdeal.main_arg0)
      ∧ r.2.mem ((c.tc : Thread Cert.RAdamOutIdeal.nD Cert.RAdamOutIdeal.τ).loc Cert.RAdamOutIdeal.main_arg1) = m ((c.tc : Thread Cert.RAdamOutIdeal.nD Cert.RAdamOutIdeal.τ).loc Cert.RAdamOutIdeal.main_arg1)
      ∧ r.2.mem ((c.tc : Thread Cert.RAdamOutIdeal.nD Cert.RAdamOutIdeal.τ).loc Cert.RAdamOutIdeal.main_arg2) = m ((c.tc : Thread Cert.RAdamOutIdeal.nD Cert.RAdamOutIdeal.τ).loc Cert.RAdamOutIdeal.main_arg2)
      ∧ r.2.mem ((c.tc : Thread Cert.RAdamOutIdeal.nD Cert.RAdamOutIdeal.τ).loc Cert.RAdamOutIdeal.main_arg3) = m ((c.tc : Thread Cert.RAdamOutIdeal.nD Cert.RAdamOutIdeal.τ).loc Cert.RAdamOutIdeal.main_arg3)
      ∧ r.2.mem ((c.tc : Thread Cert.RAdamOutIdeal.nD Cert.RAdamOutIdeal.τ).loc Cert.RAdamOutIdeal.main_arg4) = m ((c.tc : Thread Cert.RAdamOutIdeal.nD Cert.RAdamOutIdeal.τ).loc Cert.RAdamOutIdeal.main_arg4))
      ∧ r.2.sem = fun _ => 0)

def quiescent_KAdamAda [hKAdamAda : Cert.KAdamAda.Facts] : Prop :=
  ∀ (m : (ℓ : Loc Cert.KAdamAda.nD Cert.KAdamAda.τ Cert.KAdamAda.sig) → Buf (Elt Bits) ℓ) (g : Dev Cert.KAdamAda.nD → PrngReg), Pre_KAdamAda m →
    θ_run (Cert.KAdamAda.defs (F := Bits)) (onTc (τ := Cert.KAdamAda.τ) (Cert.KAdamAda.main (F := Bits))) ⟨m, fun _ => 0, g⟩ (fun r => (∀ c : Dev Cert.KAdamAda.nD,
      r.2.mem ((c.tc : Thread Cert.KAdamAda.nD Cert.KAdamAda.τ).loc Cert.KAdamAda.main_arg0) = m ((c.tc : Thread Cert.KAdamAda.nD Cert.KAdamAda.τ).loc Cert.KAdamAda.main_arg0)
      ∧ r.2.mem ((c.tc : Thread Cert.KAdamAda.nD Cert.KAdamAda.τ).loc Cert.KAdamAda.main_arg1) = m ((c.tc : Thread Cert.KAdamAda.nD Cert.KAdamAda.τ).loc Cert.KAdamAda.main_arg1)
      ∧ r.2.mem ((c.tc : Thread Cert.KAdamAda.nD Cert.KAdamAda.τ).loc Cert.KAdamAda.main_arg2) = m ((c.tc : Thread Cert.KAdamAda.nD Cert.KAdamAda.τ).loc Cert.KAdamAda.main_arg2)
      ∧ r.2.mem ((c.tc : Thread Cert.KAdamAda.nD Cert.KAdamAda.τ).loc Cert.KAdamAda.main_arg3) = m ((c.tc : Thread Cert.KAdamAda.nD Cert.KAdamAda.τ).loc Cert.KAdamAda.main_arg3)
      ∧ r.2.mem ((c.tc : Thread Cert.KAdamAda.nD Cert.KAdamAda.τ).loc Cert.KAdamAda.main_arg4) = m ((c.tc : Thread Cert.KAdamAda.nD Cert.KAdamAda.τ).loc Cert.KAdamAda.main_arg4))
      ∧ r.2.sem = fun _ => 0)

def quiescent_KAdamAdaIdeal [hKAdamAdaIdeal : Cert.KAdamAdaIdeal.Facts] : Prop :=
  ∀ (m : (ℓ : Loc Cert.KAdamAdaIdeal.nD Cert.KAdamAdaIdeal.τ Cert.KAdamAdaIdeal.sig) → Buf (Elt Ideal) ℓ) (g : Dev Cert.KAdamAdaIdeal.nD → PrngReg), Pre_KAdamAdaIdeal m →
    θ_run (Cert.KAdamAdaIdeal.defs (F := Ideal)) (onTc (τ := Cert.KAdamAdaIdeal.τ) (Cert.KAdamAdaIdeal.main (F := Ideal))) ⟨m, fun _ => 0, g⟩ (fun r => (∀ c : Dev Cert.KAdamAdaIdeal.nD,
      r.2.mem ((c.tc : Thread Cert.KAdamAdaIdeal.nD Cert.KAdamAdaIdeal.τ).loc Cert.KAdamAdaIdeal.main_arg0) = m ((c.tc : Thread Cert.KAdamAdaIdeal.nD Cert.KAdamAdaIdeal.τ).loc Cert.KAdamAdaIdeal.main_arg0)
      ∧ r.2.mem ((c.tc : Thread Cert.KAdamAdaIdeal.nD Cert.KAdamAdaIdeal.τ).loc Cert.KAdamAdaIdeal.main_arg1) = m ((c.tc : Thread Cert.KAdamAdaIdeal.nD Cert.KAdamAdaIdeal.τ).loc Cert.KAdamAdaIdeal.main_arg1)
      ∧ r.2.mem ((c.tc : Thread Cert.KAdamAdaIdeal.nD Cert.KAdamAdaIdeal.τ).loc Cert.KAdamAdaIdeal.main_arg2) = m ((c.tc : Thread Cert.KAdamAdaIdeal.nD Cert.KAdamAdaIdeal.τ).loc Cert.KAdamAdaIdeal.main_arg2)
      ∧ r.2.mem ((c.tc : Thread Cert.KAdamAdaIdeal.nD Cert.KAdamAdaIdeal.τ).loc Cert.KAdamAdaIdeal.main_arg3) = m ((c.tc : Thread Cert.KAdamAdaIdeal.nD Cert.KAdamAdaIdeal.τ).loc Cert.KAdamAdaIdeal.main_arg3)
      ∧ r.2.mem ((c.tc : Thread Cert.KAdamAdaIdeal.nD Cert.KAdamAdaIdeal.τ).loc Cert.KAdamAdaIdeal.main_arg4) = m ((c.tc : Thread Cert.KAdamAdaIdeal.nD Cert.KAdamAdaIdeal.τ).loc Cert.KAdamAdaIdeal.main_arg4))
      ∧ r.2.sem = fun _ => 0)

def quiescent_RAdamAdaIdeal [hRAdamAdaIdeal : Cert.RAdamAdaIdeal.Facts] : Prop :=
  ∀ (m : (ℓ : Loc Cert.RAdamAdaIdeal.nD Cert.RAdamAdaIdeal.τ Cert.RAdamAdaIdeal.sig) → Buf (Elt Ideal) ℓ) (g : Dev Cert.RAdamAdaIdeal.nD → PrngReg), Pre_RAdamAdaIdeal m →
    θ_run (Cert.RAdamAdaIdeal.defs (F := Ideal)) (onTc (τ := Cert.RAdamAdaIdeal.τ) (Cert.RAdamAdaIdeal.main (F := Ideal))) ⟨m, fun _ => 0, g⟩ (fun r => (∀ c : Dev Cert.RAdamAdaIdeal.nD,
      r.2.mem ((c.tc : Thread Cert.RAdamAdaIdeal.nD Cert.RAdamAdaIdeal.τ).loc Cert.RAdamAdaIdeal.main_arg0) = m ((c.tc : Thread Cert.RAdamAdaIdeal.nD Cert.RAdamAdaIdeal.τ).loc Cert.RAdamAdaIdeal.main_arg0)
      ∧ r.2.mem ((c.tc : Thread Cert.RAdamAdaIdeal.nD Cert.RAdamAdaIdeal.τ).loc Cert.RAdamAdaIdeal.main_arg1) = m ((c.tc : Thread Cert.RAdamAdaIdeal.nD Cert.RAdamAdaIdeal.τ).loc Cert.RAdamAdaIdeal.main_arg1)
      ∧ r.2.mem ((c.tc : Thread Cert.RAdamAdaIdeal.nD Cert.RAdamAdaIdeal.τ).loc Cert.RAdamAdaIdeal.main_arg2) = m ((c.tc : Thread Cert.RAdamAdaIdeal.nD Cert.RAdamAdaIdeal.τ).loc Cert.RAdamAdaIdeal.main_arg2)
      ∧ r.2.mem ((c.tc : Thread Cert.RAdamAdaIdeal.nD Cert.RAdamAdaIdeal.τ).loc Cert.RAdamAdaIdeal.main_arg3) = m ((c.tc : Thread Cert.RAdamAdaIdeal.nD Cert.RAdamAdaIdeal.τ).loc Cert.RAdamAdaIdeal.main_arg3)
      ∧ r.2.mem ((c.tc : Thread Cert.RAdamAdaIdeal.nD Cert.RAdamAdaIdeal.τ).loc Cert.RAdamAdaIdeal.main_arg4) = m ((c.tc : Thread Cert.RAdamAdaIdeal.nD Cert.RAdamAdaIdeal.τ).loc Cert.RAdamAdaIdeal.main_arg4))
      ∧ r.2.sem = fun _ => 0)

def preserves_Kernel_KernelIdeal : Prop :=
  IdealRules.named_const.Statement Cert.KernelIdeal.κ "scale" .bf16 0x3DB5#16 ((11863283 / 134217728 : ℝ) : EReal)
  ∧ IdealRules.named_const.Statement Cert.KernelIdeal.κ "scale" .f32 0x3DB504F3#32 ((11863283 / 134217728 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KDownDgrad_KDownDgradIdeal : Prop :=
  True

def algebraic_KDownDgradIdeal_RDownDgradIdeal [hKDownDgradIdeal : Cert.KDownDgradIdeal.Facts] [hRDownDgradIdeal : Cert.RDownDgradIdeal.Facts] : Prop :=
  ∀ (m : (ℓ : Loc Cert.KDownDgradIdeal.nD Cert.KDownDgradIdeal.τ Cert.KDownDgradIdeal.sig) → Buf (Elt Ideal) ℓ) (g : Dev Cert.KDownDgradIdeal.nD → PrngReg)
    (m' : (ℓ : Loc Cert.RDownDgradIdeal.nD Cert.RDownDgradIdeal.τ Cert.RDownDgradIdeal.sig) → Buf (Elt Ideal) ℓ) (g' : Dev Cert.RDownDgradIdeal.nD → PrngReg), Pre_KDownDgradIdeal m →
    (∀ c : Dev Cert.KDownDgradIdeal.nD,
      m' ((c.tc : Thread Cert.RDownDgradIdeal.nD Cert.RDownDgradIdeal.τ).loc Cert.RDownDgradIdeal.main_arg0) = m ((c.tc : Thread Cert.KDownDgradIdeal.nD Cert.KDownDgradIdeal.τ).loc Cert.KDownDgradIdeal.main_arg0)
      ∧ m' ((c.tc : Thread Cert.RDownDgradIdeal.nD Cert.RDownDgradIdeal.τ).loc Cert.RDownDgradIdeal.main_arg1) = m ((c.tc : Thread Cert.KDownDgradIdeal.nD Cert.KDownDgradIdeal.τ).loc Cert.KDownDgradIdeal.main_arg1)) →
    ∃ (v0 : (c : Dev Cert.KDownDgradIdeal.nD) → Buf (Elt Ideal) ((c.tc : Thread Cert.KDownDgradIdeal.nD Cert.KDownDgradIdeal.τ).loc Cert.KDownDgradIdeal.main_v0)),
      θ_run (Cert.KDownDgradIdeal.defs (F := Ideal)) (onTc (τ := Cert.KDownDgradIdeal.τ) (Cert.KDownDgradIdeal.main (F := Ideal))) ⟨m, fun _ => 0, g⟩ (fun r => ∀ c : Dev Cert.KDownDgradIdeal.nD,
          r.2.mem ((c.tc : Thread Cert.KDownDgradIdeal.nD Cert.KDownDgradIdeal.τ).loc Cert.KDownDgradIdeal.main_v0) = v0 c
          ∧ r.2.mem ((c.tc : Thread Cert.KDownDgradIdeal.nD Cert.KDownDgradIdeal.τ).loc Cert.KDownDgradIdeal.main_arg0) = m ((c.tc : Thread Cert.KDownDgradIdeal.nD Cert.KDownDgradIdeal.τ).loc Cert.KDownDgradIdeal.main_arg0)
          ∧ r.2.mem ((c.tc : Thread Cert.KDownDgradIdeal.nD Cert.KDownDgradIdeal.τ).loc Cert.KDownDgradIdeal.main_arg1) = m ((c.tc : Thread Cert.KDownDgradIdeal.nD Cert.KDownDgradIdeal.τ).loc Cert.KDownDgradIdeal.main_arg1))
      ∧ θ_run (Cert.RDownDgradIdeal.defs (F := Ideal)) (onTc (τ := Cert.RDownDgradIdeal.τ) (Cert.RDownDgradIdeal.main (F := Ideal))) ⟨m', fun _ => 0, g'⟩ (fun r => ∀ c : Dev Cert.RDownDgradIdeal.nD,
          r.2.mem ((c.tc : Thread Cert.RDownDgradIdeal.nD Cert.RDownDgradIdeal.τ).loc Cert.RDownDgradIdeal.main_v5) = v0 c
          ∧ r.2.mem ((c.tc : Thread Cert.RDownDgradIdeal.nD Cert.RDownDgradIdeal.τ).loc Cert.RDownDgradIdeal.main_arg0) = m' ((c.tc : Thread Cert.RDownDgradIdeal.nD Cert.RDownDgradIdeal.τ).loc Cert.RDownDgradIdeal.main_arg0)
          ∧ r.2.mem ((c.tc : Thread Cert.RDownDgradIdeal.nD Cert.RDownDgradIdeal.τ).loc Cert.RDownDgradIdeal.main_arg1) = m' ((c.tc : Thread Cert.RDownDgradIdeal.nD Cert.RDownDgradIdeal.τ).loc Cert.RDownDgradIdeal.main_arg1))

def preserves_KUpDgrad_KUpDgradIdeal : Prop :=
  True

def algebraic_KUpDgradIdeal_RUpDgradIdeal [hKUpDgradIdeal : Cert.KUpDgradIdeal.Facts] [hRUpDgradIdeal : Cert.RUpDgradIdeal.Facts] : Prop :=
  ∀ (m : (ℓ : Loc Cert.KUpDgradIdeal.nD Cert.KUpDgradIdeal.τ Cert.KUpDgradIdeal.sig) → Buf (Elt Ideal) ℓ) (g : Dev Cert.KUpDgradIdeal.nD → PrngReg)
    (m' : (ℓ : Loc Cert.RUpDgradIdeal.nD Cert.RUpDgradIdeal.τ Cert.RUpDgradIdeal.sig) → Buf (Elt Ideal) ℓ) (g' : Dev Cert.RUpDgradIdeal.nD → PrngReg), Pre_KUpDgradIdeal m →
    (∀ c : Dev Cert.KUpDgradIdeal.nD,
      m' ((c.tc : Thread Cert.RUpDgradIdeal.nD Cert.RUpDgradIdeal.τ).loc Cert.RUpDgradIdeal.main_arg0) = m ((c.tc : Thread Cert.KUpDgradIdeal.nD Cert.KUpDgradIdeal.τ).loc Cert.KUpDgradIdeal.main_arg0)
      ∧ m' ((c.tc : Thread Cert.RUpDgradIdeal.nD Cert.RUpDgradIdeal.τ).loc Cert.RUpDgradIdeal.main_arg1) = m ((c.tc : Thread Cert.KUpDgradIdeal.nD Cert.KUpDgradIdeal.τ).loc Cert.KUpDgradIdeal.main_arg1)) →
    ∃ (v0 : (c : Dev Cert.KUpDgradIdeal.nD) → Buf (Elt Ideal) ((c.tc : Thread Cert.KUpDgradIdeal.nD Cert.KUpDgradIdeal.τ).loc Cert.KUpDgradIdeal.main_v0)),
      θ_run (Cert.KUpDgradIdeal.defs (F := Ideal)) (onTc (τ := Cert.KUpDgradIdeal.τ) (Cert.KUpDgradIdeal.main (F := Ideal))) ⟨m, fun _ => 0, g⟩ (fun r => ∀ c : Dev Cert.KUpDgradIdeal.nD,
          r.2.mem ((c.tc : Thread Cert.KUpDgradIdeal.nD Cert.KUpDgradIdeal.τ).loc Cert.KUpDgradIdeal.main_v0) = v0 c
          ∧ r.2.mem ((c.tc : Thread Cert.KUpDgradIdeal.nD Cert.KUpDgradIdeal.τ).loc Cert.KUpDgradIdeal.main_arg0) = m ((c.tc : Thread Cert.KUpDgradIdeal.nD Cert.KUpDgradIdeal.τ).loc Cert.KUpDgradIdeal.main_arg0)
          ∧ r.2.mem ((c.tc : Thread Cert.KUpDgradIdeal.nD Cert.KUpDgradIdeal.τ).loc Cert.KUpDgradIdeal.main_arg1) = m ((c.tc : Thread Cert.KUpDgradIdeal.nD Cert.KUpDgradIdeal.τ).loc Cert.KUpDgradIdeal.main_arg1))
      ∧ θ_run (Cert.RUpDgradIdeal.defs (F := Ideal)) (onTc (τ := Cert.RUpDgradIdeal.τ) (Cert.RUpDgradIdeal.main (F := Ideal))) ⟨m', fun _ => 0, g'⟩ (fun r => ∀ c : Dev Cert.RUpDgradIdeal.nD,
          r.2.mem ((c.tc : Thread Cert.RUpDgradIdeal.nD Cert.RUpDgradIdeal.τ).loc Cert.RUpDgradIdeal.main_v7) = v0 c
          ∧ r.2.mem ((c.tc : Thread Cert.RUpDgradIdeal.nD Cert.RUpDgradIdeal.τ).loc Cert.RUpDgradIdeal.main_arg0) = m' ((c.tc : Thread Cert.RUpDgradIdeal.nD Cert.RUpDgradIdeal.τ).loc Cert.RUpDgradIdeal.main_arg0)
          ∧ r.2.mem ((c.tc : Thread Cert.RUpDgradIdeal.nD Cert.RUpDgradIdeal.τ).loc Cert.RUpDgradIdeal.main_arg1) = m' ((c.tc : Thread Cert.RUpDgradIdeal.nD Cert.RUpDgradIdeal.τ).loc Cert.RUpDgradIdeal.main_arg1))

def preserves_KODgrad_KODgradIdeal : Prop :=
  True

def algebraic_KODgradIdeal_RODgradIdeal [hKODgradIdeal : Cert.KODgradIdeal.Facts] [hRODgradIdeal : Cert.RODgradIdeal.Facts] : Prop :=
  ∀ (m : (ℓ : Loc Cert.KODgradIdeal.nD Cert.KODgradIdeal.τ Cert.KODgradIdeal.sig) → Buf (Elt Ideal) ℓ) (g : Dev Cert.KODgradIdeal.nD → PrngReg)
    (m' : (ℓ : Loc Cert.RODgradIdeal.nD Cert.RODgradIdeal.τ Cert.RODgradIdeal.sig) → Buf (Elt Ideal) ℓ) (g' : Dev Cert.RODgradIdeal.nD → PrngReg), Pre_KODgradIdeal m →
    (∀ c : Dev Cert.KODgradIdeal.nD,
      m' ((c.tc : Thread Cert.RODgradIdeal.nD Cert.RODgradIdeal.τ).loc Cert.RODgradIdeal.main_arg0) = m ((c.tc : Thread Cert.KODgradIdeal.nD Cert.KODgradIdeal.τ).loc Cert.KODgradIdeal.main_arg0)
      ∧ m' ((c.tc : Thread Cert.RODgradIdeal.nD Cert.RODgradIdeal.τ).loc Cert.RODgradIdeal.main_arg1) = m ((c.tc : Thread Cert.KODgradIdeal.nD Cert.KODgradIdeal.τ).loc Cert.KODgradIdeal.main_arg1)) →
    ∃ (v0 : (c : Dev Cert.KODgradIdeal.nD) → Buf (Elt Ideal) ((c.tc : Thread Cert.KODgradIdeal.nD Cert.KODgradIdeal.τ).loc Cert.KODgradIdeal.main_v0)),
      θ_run (Cert.KODgradIdeal.defs (F := Ideal)) (onTc (τ := Cert.KODgradIdeal.τ) (Cert.KODgradIdeal.main (F := Ideal))) ⟨m, fun _ => 0, g⟩ (fun r => ∀ c : Dev Cert.KODgradIdeal.nD,
          r.2.mem ((c.tc : Thread Cert.KODgradIdeal.nD Cert.KODgradIdeal.τ).loc Cert.KODgradIdeal.main_v0) = v0 c
          ∧ r.2.mem ((c.tc : Thread Cert.KODgradIdeal.nD Cert.KODgradIdeal.τ).loc Cert.KODgradIdeal.main_arg0) = m ((c.tc : Thread Cert.KODgradIdeal.nD Cert.KODgradIdeal.τ).loc Cert.KODgradIdeal.main_arg0)
          ∧ r.2.mem ((c.tc : Thread Cert.KODgradIdeal.nD Cert.KODgradIdeal.τ).loc Cert.KODgradIdeal.main_arg1) = m ((c.tc : Thread Cert.KODgradIdeal.nD Cert.KODgradIdeal.τ).loc Cert.KODgradIdeal.main_arg1))
      ∧ θ_run (Cert.RODgradIdeal.defs (F := Ideal)) (onTc (τ := Cert.RODgradIdeal.τ) (Cert.RODgradIdeal.main (F := Ideal))) ⟨m', fun _ => 0, g'⟩ (fun r => ∀ c : Dev Cert.RODgradIdeal.nD,
          r.2.mem ((c.tc : Thread Cert.RODgradIdeal.nD Cert.RODgradIdeal.τ).loc Cert.RODgradIdeal.main_v5) = v0 c
          ∧ r.2.mem ((c.tc : Thread Cert.RODgradIdeal.nD Cert.RODgradIdeal.τ).loc Cert.RODgradIdeal.main_arg0) = m' ((c.tc : Thread Cert.RODgradIdeal.nD Cert.RODgradIdeal.τ).loc Cert.RODgradIdeal.main_arg0)
          ∧ r.2.mem ((c.tc : Thread Cert.RODgradIdeal.nD Cert.RODgradIdeal.τ).loc Cert.RODgradIdeal.main_arg1) = m' ((c.tc : Thread Cert.RODgradIdeal.nD Cert.RODgradIdeal.τ).loc Cert.RODgradIdeal.main_arg1))

def preserves_KOutDgrad_KOutDgradIdeal : Prop :=
  True

def algebraic_KOutDgradIdeal_ROutDgradIdeal [hKOutDgradIdeal : Cert.KOutDgradIdeal.Facts] [hROutDgradIdeal : Cert.ROutDgradIdeal.Facts] : Prop :=
  ∀ (m : (ℓ : Loc Cert.KOutDgradIdeal.nD Cert.KOutDgradIdeal.τ Cert.KOutDgradIdeal.sig) → Buf (Elt Ideal) ℓ) (g : Dev Cert.KOutDgradIdeal.nD → PrngReg)
    (m' : (ℓ : Loc Cert.ROutDgradIdeal.nD Cert.ROutDgradIdeal.τ Cert.ROutDgradIdeal.sig) → Buf (Elt Ideal) ℓ) (g' : Dev Cert.ROutDgradIdeal.nD → PrngReg), Pre_KOutDgradIdeal m →
    (∀ c : Dev Cert.KOutDgradIdeal.nD,
      m' ((c.tc : Thread Cert.ROutDgradIdeal.nD Cert.ROutDgradIdeal.τ).loc Cert.ROutDgradIdeal.main_arg0) = m ((c.tc : Thread Cert.KOutDgradIdeal.nD Cert.KOutDgradIdeal.τ).loc Cert.KOutDgradIdeal.main_arg0)
      ∧ m' ((c.tc : Thread Cert.ROutDgradIdeal.nD Cert.ROutDgradIdeal.τ).loc Cert.ROutDgradIdeal.main_arg1) = m ((c.tc : Thread Cert.KOutDgradIdeal.nD Cert.KOutDgradIdeal.τ).loc Cert.KOutDgradIdeal.main_arg1)) →
    ∃ (v0 : (c : Dev Cert.KOutDgradIdeal.nD) → Buf (Elt Ideal) ((c.tc : Thread Cert.KOutDgradIdeal.nD Cert.KOutDgradIdeal.τ).loc Cert.KOutDgradIdeal.main_v0)),
      θ_run (Cert.KOutDgradIdeal.defs (F := Ideal)) (onTc (τ := Cert.KOutDgradIdeal.τ) (Cert.KOutDgradIdeal.main (F := Ideal))) ⟨m, fun _ => 0, g⟩ (fun r => ∀ c : Dev Cert.KOutDgradIdeal.nD,
          r.2.mem ((c.tc : Thread Cert.KOutDgradIdeal.nD Cert.KOutDgradIdeal.τ).loc Cert.KOutDgradIdeal.main_v0) = v0 c
          ∧ r.2.mem ((c.tc : Thread Cert.KOutDgradIdeal.nD Cert.KOutDgradIdeal.τ).loc Cert.KOutDgradIdeal.main_arg0) = m ((c.tc : Thread Cert.KOutDgradIdeal.nD Cert.KOutDgradIdeal.τ).loc Cert.KOutDgradIdeal.main_arg0)
          ∧ r.2.mem ((c.tc : Thread Cert.KOutDgradIdeal.nD Cert.KOutDgradIdeal.τ).loc Cert.KOutDgradIdeal.main_arg1) = m ((c.tc : Thread Cert.KOutDgradIdeal.nD Cert.KOutDgradIdeal.τ).loc Cert.KOutDgradIdeal.main_arg1))
      ∧ θ_run (Cert.ROutDgradIdeal.defs (F := Ideal)) (onTc (τ := Cert.ROutDgradIdeal.τ) (Cert.ROutDgradIdeal.main (F := Ideal))) ⟨m', fun _ => 0, g'⟩ (fun r => ∀ c : Dev Cert.ROutDgradIdeal.nD,
          r.2.mem ((c.tc : Thread Cert.ROutDgradIdeal.nD Cert.ROutDgradIdeal.τ).loc Cert.ROutDgradIdeal.main_v5) = v0 c
          ∧ r.2.mem ((c.tc : Thread Cert.ROutDgradIdeal.nD Cert.ROutDgradIdeal.τ).loc Cert.ROutDgradIdeal.main_arg0) = m' ((c.tc : Thread Cert.ROutDgradIdeal.nD Cert.ROutDgradIdeal.τ).loc Cert.ROutDgradIdeal.main_arg0)
          ∧ r.2.mem ((c.tc : Thread Cert.ROutDgradIdeal.nD Cert.ROutDgradIdeal.τ).loc Cert.ROutDgradIdeal.main_arg1) = m' ((c.tc : Thread Cert.ROutDgradIdeal.nD Cert.ROutDgradIdeal.τ).loc Cert.ROutDgradIdeal.main_arg1))

def preserves_KInDgrad_KInDgradIdeal : Prop :=
  True

def algebraic_KInDgradIdeal_RInDgradIdeal [hKInDgradIdeal : Cert.KInDgradIdeal.Facts] [hRInDgradIdeal : Cert.RInDgradIdeal.Facts] : Prop :=
  ∀ (m : (ℓ : Loc Cert.KInDgradIdeal.nD Cert.KInDgradIdeal.τ Cert.KInDgradIdeal.sig) → Buf (Elt Ideal) ℓ) (g : Dev Cert.KInDgradIdeal.nD → PrngReg)
    (m' : (ℓ : Loc Cert.RInDgradIdeal.nD Cert.RInDgradIdeal.τ Cert.RInDgradIdeal.sig) → Buf (Elt Ideal) ℓ) (g' : Dev Cert.RInDgradIdeal.nD → PrngReg), Pre_KInDgradIdeal m →
    (∀ c : Dev Cert.KInDgradIdeal.nD,
      m' ((c.tc : Thread Cert.RInDgradIdeal.nD Cert.RInDgradIdeal.τ).loc Cert.RInDgradIdeal.main_arg0) = m ((c.tc : Thread Cert.KInDgradIdeal.nD Cert.KInDgradIdeal.τ).loc Cert.KInDgradIdeal.main_arg0)
      ∧ m' ((c.tc : Thread Cert.RInDgradIdeal.nD Cert.RInDgradIdeal.τ).loc Cert.RInDgradIdeal.main_arg1) = m ((c.tc : Thread Cert.KInDgradIdeal.nD Cert.KInDgradIdeal.τ).loc Cert.KInDgradIdeal.main_arg1)) →
    ∃ (v0 : (c : Dev Cert.KInDgradIdeal.nD) → Buf (Elt Ideal) ((c.tc : Thread Cert.KInDgradIdeal.nD Cert.KInDgradIdeal.τ).loc Cert.KInDgradIdeal.main_v0)),
      θ_run (Cert.KInDgradIdeal.defs (F := Ideal)) (onTc (τ := Cert.KInDgradIdeal.τ) (Cert.KInDgradIdeal.main (F := Ideal))) ⟨m, fun _ => 0, g⟩ (fun r => ∀ c : Dev Cert.KInDgradIdeal.nD,
          r.2.mem ((c.tc : Thread Cert.KInDgradIdeal.nD Cert.KInDgradIdeal.τ).loc Cert.KInDgradIdeal.main_v0) = v0 c
          ∧ r.2.mem ((c.tc : Thread Cert.KInDgradIdeal.nD Cert.KInDgradIdeal.τ).loc Cert.KInDgradIdeal.main_arg0) = m ((c.tc : Thread Cert.KInDgradIdeal.nD Cert.KInDgradIdeal.τ).loc Cert.KInDgradIdeal.main_arg0)
          ∧ r.2.mem ((c.tc : Thread Cert.KInDgradIdeal.nD Cert.KInDgradIdeal.τ).loc Cert.KInDgradIdeal.main_arg1) = m ((c.tc : Thread Cert.KInDgradIdeal.nD Cert.KInDgradIdeal.τ).loc Cert.KInDgradIdeal.main_arg1))
      ∧ θ_run (Cert.RInDgradIdeal.defs (F := Ideal)) (onTc (τ := Cert.RInDgradIdeal.τ) (Cert.RInDgradIdeal.main (F := Ideal))) ⟨m', fun _ => 0, g'⟩ (fun r => ∀ c : Dev Cert.RInDgradIdeal.nD,
          r.2.mem ((c.tc : Thread Cert.RInDgradIdeal.nD Cert.RInDgradIdeal.τ).loc Cert.RInDgradIdeal.main_v5) = v0 c
          ∧ r.2.mem ((c.tc : Thread Cert.RInDgradIdeal.nD Cert.RInDgradIdeal.τ).loc Cert.RInDgradIdeal.main_arg0) = m' ((c.tc : Thread Cert.RInDgradIdeal.nD Cert.RInDgradIdeal.τ).loc Cert.RInDgradIdeal.main_arg0)
          ∧ r.2.mem ((c.tc : Thread Cert.RInDgradIdeal.nD Cert.RInDgradIdeal.τ).loc Cert.RInDgradIdeal.main_arg1) = m' ((c.tc : Thread Cert.RInDgradIdeal.nD Cert.RInDgradIdeal.τ).loc Cert.RInDgradIdeal.main_arg1))

def preserves_KInProj_KInProjIdeal : Prop :=
  True

def algebraic_KInProjIdeal_RInProjIdeal [hKInProjIdeal : Cert.KInProjIdeal.Facts] [hRInProjIdeal : Cert.RInProjIdeal.Facts] : Prop :=
  ∀ (m : (ℓ : Loc Cert.KInProjIdeal.nD Cert.KInProjIdeal.τ Cert.KInProjIdeal.sig) → Buf (Elt Ideal) ℓ) (g : Dev Cert.KInProjIdeal.nD → PrngReg)
    (m' : (ℓ : Loc Cert.RInProjIdeal.nD Cert.RInProjIdeal.τ Cert.RInProjIdeal.sig) → Buf (Elt Ideal) ℓ) (g' : Dev Cert.RInProjIdeal.nD → PrngReg), Pre_KInProjIdeal m →
    (∀ c : Dev Cert.KInProjIdeal.nD,
      m' ((c.tc : Thread Cert.RInProjIdeal.nD Cert.RInProjIdeal.τ).loc Cert.RInProjIdeal.main_arg0) = m ((c.tc : Thread Cert.KInProjIdeal.nD Cert.KInProjIdeal.τ).loc Cert.KInProjIdeal.main_arg0)
      ∧ m' ((c.tc : Thread Cert.RInProjIdeal.nD Cert.RInProjIdeal.τ).loc Cert.RInProjIdeal.main_arg1) = m ((c.tc : Thread Cert.KInProjIdeal.nD Cert.KInProjIdeal.τ).loc Cert.KInProjIdeal.main_arg1)) →
    ∃ (v0 : (c : Dev Cert.KInProjIdeal.nD) → Buf (Elt Ideal) ((c.tc : Thread Cert.KInProjIdeal.nD Cert.KInProjIdeal.τ).loc Cert.KInProjIdeal.main_v0)),
      θ_run (Cert.KInProjIdeal.defs (F := Ideal)) (onTc (τ := Cert.KInProjIdeal.τ) (Cert.KInProjIdeal.main (F := Ideal))) ⟨m, fun _ => 0, g⟩ (fun r => ∀ c : Dev Cert.KInProjIdeal.nD,
          r.2.mem ((c.tc : Thread Cert.KInProjIdeal.nD Cert.KInProjIdeal.τ).loc Cert.KInProjIdeal.main_v0) = v0 c
          ∧ r.2.mem ((c.tc : Thread Cert.KInProjIdeal.nD Cert.KInProjIdeal.τ).loc Cert.KInProjIdeal.main_arg0) = m ((c.tc : Thread Cert.KInProjIdeal.nD Cert.KInProjIdeal.τ).loc Cert.KInProjIdeal.main_arg0)
          ∧ r.2.mem ((c.tc : Thread Cert.KInProjIdeal.nD Cert.KInProjIdeal.τ).loc Cert.KInProjIdeal.main_arg1) = m ((c.tc : Thread Cert.KInProjIdeal.nD Cert.KInProjIdeal.τ).loc Cert.KInProjIdeal.main_arg1))
      ∧ θ_run (Cert.RInProjIdeal.defs (F := Ideal)) (onTc (τ := Cert.RInProjIdeal.τ) (Cert.RInProjIdeal.main (F := Ideal))) ⟨m', fun _ => 0, g'⟩ (fun r => ∀ c : Dev Cert.RInProjIdeal.nD,
          r.2.mem ((c.tc : Thread Cert.RInProjIdeal.nD Cert.RInProjIdeal.τ).loc Cert.RInProjIdeal.main_v1) = v0 c
          ∧ r.2.mem ((c.tc : Thread Cert.RInProjIdeal.nD Cert.RInProjIdeal.τ).loc Cert.RInProjIdeal.main_arg0) = m' ((c.tc : Thread Cert.RInProjIdeal.nD Cert.RInProjIdeal.τ).loc Cert.RInProjIdeal.main_arg0)
          ∧ r.2.mem ((c.tc : Thread Cert.RInProjIdeal.nD Cert.RInProjIdeal.τ).loc Cert.RInProjIdeal.main_arg1) = m' ((c.tc : Thread Cert.RInProjIdeal.nD Cert.RInProjIdeal.τ).loc Cert.RInProjIdeal.main_arg1))

def preserves_KOutProj_KOutProjIdeal : Prop :=
  True

def algebraic_KOutProjIdeal_ROutProjIdeal [hKOutProjIdeal : Cert.KOutProjIdeal.Facts] [hROutProjIdeal : Cert.ROutProjIdeal.Facts] : Prop :=
  ∀ (m : (ℓ : Loc Cert.KOutProjIdeal.nD Cert.KOutProjIdeal.τ Cert.KOutProjIdeal.sig) → Buf (Elt Ideal) ℓ) (g : Dev Cert.KOutProjIdeal.nD → PrngReg)
    (m' : (ℓ : Loc Cert.ROutProjIdeal.nD Cert.ROutProjIdeal.τ Cert.ROutProjIdeal.sig) → Buf (Elt Ideal) ℓ) (g' : Dev Cert.ROutProjIdeal.nD → PrngReg), Pre_KOutProjIdeal m →
    (∀ c : Dev Cert.KOutProjIdeal.nD,
      m' ((c.tc : Thread Cert.ROutProjIdeal.nD Cert.ROutProjIdeal.τ).loc Cert.ROutProjIdeal.main_arg0) = m ((c.tc : Thread Cert.KOutProjIdeal.nD Cert.KOutProjIdeal.τ).loc Cert.KOutProjIdeal.main_arg0)
      ∧ m' ((c.tc : Thread Cert.ROutProjIdeal.nD Cert.ROutProjIdeal.τ).loc Cert.ROutProjIdeal.main_arg1) = m ((c.tc : Thread Cert.KOutProjIdeal.nD Cert.KOutProjIdeal.τ).loc Cert.KOutProjIdeal.main_arg1)) →
    ∃ (v0 : (c : Dev Cert.KOutProjIdeal.nD) → Buf (Elt Ideal) ((c.tc : Thread Cert.KOutProjIdeal.nD Cert.KOutProjIdeal.τ).loc Cert.KOutProjIdeal.main_v0)),
      θ_run (Cert.KOutProjIdeal.defs (F := Ideal)) (onTc (τ := Cert.KOutProjIdeal.τ) (Cert.KOutProjIdeal.main (F := Ideal))) ⟨m, fun _ => 0, g⟩ (fun r => ∀ c : Dev Cert.KOutProjIdeal.nD,
          r.2.mem ((c.tc : Thread Cert.KOutProjIdeal.nD Cert.KOutProjIdeal.τ).loc Cert.KOutProjIdeal.main_v0) = v0 c
          ∧ r.2.mem ((c.tc : Thread Cert.KOutProjIdeal.nD Cert.KOutProjIdeal.τ).loc Cert.KOutProjIdeal.main_arg0) = m ((c.tc : Thread Cert.KOutProjIdeal.nD Cert.KOutProjIdeal.τ).loc Cert.KOutProjIdeal.main_arg0)
          ∧ r.2.mem ((c.tc : Thread Cert.KOutProjIdeal.nD Cert.KOutProjIdeal.τ).loc Cert.KOutProjIdeal.main_arg1) = m ((c.tc : Thread Cert.KOutProjIdeal.nD Cert.KOutProjIdeal.τ).loc Cert.KOutProjIdeal.main_arg1))
      ∧ θ_run (Cert.ROutProjIdeal.defs (F := Ideal)) (onTc (τ := Cert.ROutProjIdeal.τ) (Cert.ROutProjIdeal.main (F := Ideal))) ⟨m', fun _ => 0, g'⟩ (fun r => ∀ c : Dev Cert.ROutProjIdeal.nD,
          r.2.mem ((c.tc : Thread Cert.ROutProjIdeal.nD Cert.ROutProjIdeal.τ).loc Cert.ROutProjIdeal.main_v1) = v0 c
          ∧ r.2.mem ((c.tc : Thread Cert.ROutProjIdeal.nD Cert.ROutProjIdeal.τ).loc Cert.ROutProjIdeal.main_arg0) = m' ((c.tc : Thread Cert.ROutProjIdeal.nD Cert.ROutProjIdeal.τ).loc Cert.ROutProjIdeal.main_arg0)
          ∧ r.2.mem ((c.tc : Thread Cert.ROutProjIdeal.nD Cert.ROutProjIdeal.τ).loc Cert.ROutProjIdeal.main_arg1) = m' ((c.tc : Thread Cert.ROutProjIdeal.nD Cert.ROutProjIdeal.τ).loc Cert.ROutProjIdeal.main_arg1))

def preserves_KOProj_KOProjIdeal : Prop :=
  True

def algebraic_KOProjIdeal_ROProjIdeal [hKOProjIdeal : Cert.KOProjIdeal.Facts] [hROProjIdeal : Cert.ROProjIdeal.Facts] : Prop :=
  ∀ (m : (ℓ : Loc Cert.KOProjIdeal.nD Cert.KOProjIdeal.τ Cert.KOProjIdeal.sig) → Buf (Elt Ideal) ℓ) (g : Dev Cert.KOProjIdeal.nD → PrngReg)
    (m' : (ℓ : Loc Cert.ROProjIdeal.nD Cert.ROProjIdeal.τ Cert.ROProjIdeal.sig) → Buf (Elt Ideal) ℓ) (g' : Dev Cert.ROProjIdeal.nD → PrngReg), Pre_KOProjIdeal m →
    (∀ c : Dev Cert.KOProjIdeal.nD,
      m' ((c.tc : Thread Cert.ROProjIdeal.nD Cert.ROProjIdeal.τ).loc Cert.ROProjIdeal.main_arg0) = m ((c.tc : Thread Cert.KOProjIdeal.nD Cert.KOProjIdeal.τ).loc Cert.KOProjIdeal.main_arg0)
      ∧ m' ((c.tc : Thread Cert.ROProjIdeal.nD Cert.ROProjIdeal.τ).loc Cert.ROProjIdeal.main_arg1) = m ((c.tc : Thread Cert.KOProjIdeal.nD Cert.KOProjIdeal.τ).loc Cert.KOProjIdeal.main_arg1)) →
    ∃ (v0 : (c : Dev Cert.KOProjIdeal.nD) → Buf (Elt Ideal) ((c.tc : Thread Cert.KOProjIdeal.nD Cert.KOProjIdeal.τ).loc Cert.KOProjIdeal.main_v0)),
      θ_run (Cert.KOProjIdeal.defs (F := Ideal)) (onTc (τ := Cert.KOProjIdeal.τ) (Cert.KOProjIdeal.main (F := Ideal))) ⟨m, fun _ => 0, g⟩ (fun r => ∀ c : Dev Cert.KOProjIdeal.nD,
          r.2.mem ((c.tc : Thread Cert.KOProjIdeal.nD Cert.KOProjIdeal.τ).loc Cert.KOProjIdeal.main_v0) = v0 c
          ∧ r.2.mem ((c.tc : Thread Cert.KOProjIdeal.nD Cert.KOProjIdeal.τ).loc Cert.KOProjIdeal.main_arg0) = m ((c.tc : Thread Cert.KOProjIdeal.nD Cert.KOProjIdeal.τ).loc Cert.KOProjIdeal.main_arg0)
          ∧ r.2.mem ((c.tc : Thread Cert.KOProjIdeal.nD Cert.KOProjIdeal.τ).loc Cert.KOProjIdeal.main_arg1) = m ((c.tc : Thread Cert.KOProjIdeal.nD Cert.KOProjIdeal.τ).loc Cert.KOProjIdeal.main_arg1))
      ∧ θ_run (Cert.ROProjIdeal.defs (F := Ideal)) (onTc (τ := Cert.ROProjIdeal.τ) (Cert.ROProjIdeal.main (F := Ideal))) ⟨m', fun _ => 0, g'⟩ (fun r => ∀ c : Dev Cert.ROProjIdeal.nD,
          r.2.mem ((c.tc : Thread Cert.ROProjIdeal.nD Cert.ROProjIdeal.τ).loc Cert.ROProjIdeal.main_v2) = v0 c
          ∧ r.2.mem ((c.tc : Thread Cert.ROProjIdeal.nD Cert.ROProjIdeal.τ).loc Cert.ROProjIdeal.main_arg0) = m' ((c.tc : Thread Cert.ROProjIdeal.nD Cert.ROProjIdeal.τ).loc Cert.ROProjIdeal.main_arg0)
          ∧ r.2.mem ((c.tc : Thread Cert.ROProjIdeal.nD Cert.ROProjIdeal.τ).loc Cert.ROProjIdeal.main_arg1) = m' ((c.tc : Thread Cert.ROProjIdeal.nD Cert.ROProjIdeal.τ).loc Cert.ROProjIdeal.main_arg1))

def preserves_KUpProj_KUpProjIdeal : Prop :=
  True

def algebraic_KUpProjIdeal_RUpProjIdeal [hKUpProjIdeal : Cert.KUpProjIdeal.Facts] [hRUpProjIdeal : Cert.RUpProjIdeal.Facts] : Prop :=
  ∀ (m : (ℓ : Loc Cert.KUpProjIdeal.nD Cert.KUpProjIdeal.τ Cert.KUpProjIdeal.sig) → Buf (Elt Ideal) ℓ) (g : Dev Cert.KUpProjIdeal.nD → PrngReg)
    (m' : (ℓ : Loc Cert.RUpProjIdeal.nD Cert.RUpProjIdeal.τ Cert.RUpProjIdeal.sig) → Buf (Elt Ideal) ℓ) (g' : Dev Cert.RUpProjIdeal.nD → PrngReg), Pre_KUpProjIdeal m →
    (∀ c : Dev Cert.KUpProjIdeal.nD,
      m' ((c.tc : Thread Cert.RUpProjIdeal.nD Cert.RUpProjIdeal.τ).loc Cert.RUpProjIdeal.main_arg0) = m ((c.tc : Thread Cert.KUpProjIdeal.nD Cert.KUpProjIdeal.τ).loc Cert.KUpProjIdeal.main_arg0)
      ∧ m' ((c.tc : Thread Cert.RUpProjIdeal.nD Cert.RUpProjIdeal.τ).loc Cert.RUpProjIdeal.main_arg1) = m ((c.tc : Thread Cert.KUpProjIdeal.nD Cert.KUpProjIdeal.τ).loc Cert.KUpProjIdeal.main_arg1)) →
    ∃ (v0 : (c : Dev Cert.KUpProjIdeal.nD) → Buf (Elt Ideal) ((c.tc : Thread Cert.KUpProjIdeal.nD Cert.KUpProjIdeal.τ).loc Cert.KUpProjIdeal.main_v0)),
      θ_run (Cert.KUpProjIdeal.defs (F := Ideal)) (onTc (τ := Cert.KUpProjIdeal.τ) (Cert.KUpProjIdeal.main (F := Ideal))) ⟨m, fun _ => 0, g⟩ (fun r => ∀ c : Dev Cert.KUpProjIdeal.nD,
          r.2.mem ((c.tc : Thread Cert.KUpProjIdeal.nD Cert.KUpProjIdeal.τ).loc Cert.KUpProjIdeal.main_v0) = v0 c
          ∧ r.2.mem ((c.tc : Thread Cert.KUpProjIdeal.nD Cert.KUpProjIdeal.τ).loc Cert.KUpProjIdeal.main_arg0) = m ((c.tc : Thread Cert.KUpProjIdeal.nD Cert.KUpProjIdeal.τ).loc Cert.KUpProjIdeal.main_arg0)
          ∧ r.2.mem ((c.tc : Thread Cert.KUpProjIdeal.nD Cert.KUpProjIdeal.τ).loc Cert.KUpProjIdeal.main_arg1) = m ((c.tc : Thread Cert.KUpProjIdeal.nD Cert.KUpProjIdeal.τ).loc Cert.KUpProjIdeal.main_arg1))
      ∧ θ_run (Cert.RUpProjIdeal.defs (F := Ideal)) (onTc (τ := Cert.RUpProjIdeal.τ) (Cert.RUpProjIdeal.main (F := Ideal))) ⟨m', fun _ => 0, g'⟩ (fun r => ∀ c : Dev Cert.RUpProjIdeal.nD,
          r.2.mem ((c.tc : Thread Cert.RUpProjIdeal.nD Cert.RUpProjIdeal.τ).loc Cert.RUpProjIdeal.main_v3) = v0 c
          ∧ r.2.mem ((c.tc : Thread Cert.RUpProjIdeal.nD Cert.RUpProjIdeal.τ).loc Cert.RUpProjIdeal.main_arg0) = m' ((c.tc : Thread Cert.RUpProjIdeal.nD Cert.RUpProjIdeal.τ).loc Cert.RUpProjIdeal.main_arg0)
          ∧ r.2.mem ((c.tc : Thread Cert.RUpProjIdeal.nD Cert.RUpProjIdeal.τ).loc Cert.RUpProjIdeal.main_arg1) = m' ((c.tc : Thread Cert.RUpProjIdeal.nD Cert.RUpProjIdeal.τ).loc Cert.RUpProjIdeal.main_arg1))

def preserves_KDownProj_KDownProjIdeal : Prop :=
  True

def algebraic_KDownProjIdeal_RDownProjIdeal [hKDownProjIdeal : Cert.KDownProjIdeal.Facts] [hRDownProjIdeal : Cert.RDownProjIdeal.Facts] : Prop :=
  ∀ (m : (ℓ : Loc Cert.KDownProjIdeal.nD Cert.KDownProjIdeal.τ Cert.KDownProjIdeal.sig) → Buf (Elt Ideal) ℓ) (g : Dev Cert.KDownProjIdeal.nD → PrngReg)
    (m' : (ℓ : Loc Cert.RDownProjIdeal.nD Cert.RDownProjIdeal.τ Cert.RDownProjIdeal.sig) → Buf (Elt Ideal) ℓ) (g' : Dev Cert.RDownProjIdeal.nD → PrngReg), Pre_KDownProjIdeal m →
    (∀ c : Dev Cert.KDownProjIdeal.nD,
      m' ((c.tc : Thread Cert.RDownProjIdeal.nD Cert.RDownProjIdeal.τ).loc Cert.RDownProjIdeal.main_arg0) = m ((c.tc : Thread Cert.KDownProjIdeal.nD Cert.KDownProjIdeal.τ).loc Cert.KDownProjIdeal.main_arg0)
      ∧ m' ((c.tc : Thread Cert.RDownProjIdeal.nD Cert.RDownProjIdeal.τ).loc Cert.RDownProjIdeal.main_arg1) = m ((c.tc : Thread Cert.KDownProjIdeal.nD Cert.KDownProjIdeal.τ).loc Cert.KDownProjIdeal.main_arg1)) →
    ∃ (v0 : (c : Dev Cert.KDownProjIdeal.nD) → Buf (Elt Ideal) ((c.tc : Thread Cert.KDownProjIdeal.nD Cert.KDownProjIdeal.τ).loc Cert.KDownProjIdeal.main_v0)),
      θ_run (Cert.KDownProjIdeal.defs (F := Ideal)) (onTc (τ := Cert.KDownProjIdeal.τ) (Cert.KDownProjIdeal.main (F := Ideal))) ⟨m, fun _ => 0, g⟩ (fun r => ∀ c : Dev Cert.KDownProjIdeal.nD,
          r.2.mem ((c.tc : Thread Cert.KDownProjIdeal.nD Cert.KDownProjIdeal.τ).loc Cert.KDownProjIdeal.main_v0) = v0 c
          ∧ r.2.mem ((c.tc : Thread Cert.KDownProjIdeal.nD Cert.KDownProjIdeal.τ).loc Cert.KDownProjIdeal.main_arg0) = m ((c.tc : Thread Cert.KDownProjIdeal.nD Cert.KDownProjIdeal.τ).loc Cert.KDownProjIdeal.main_arg0)
          ∧ r.2.mem ((c.tc : Thread Cert.KDownProjIdeal.nD Cert.KDownProjIdeal.τ).loc Cert.KDownProjIdeal.main_arg1) = m ((c.tc : Thread Cert.KDownProjIdeal.nD Cert.KDownProjIdeal.τ).loc Cert.KDownProjIdeal.main_arg1))
      ∧ θ_run (Cert.RDownProjIdeal.defs (F := Ideal)) (onTc (τ := Cert.RDownProjIdeal.τ) (Cert.RDownProjIdeal.main (F := Ideal))) ⟨m', fun _ => 0, g'⟩ (fun r => ∀ c : Dev Cert.RDownProjIdeal.nD,
          r.2.mem ((c.tc : Thread Cert.RDownProjIdeal.nD Cert.RDownProjIdeal.τ).loc Cert.RDownProjIdeal.main_v2) = v0 c
          ∧ r.2.mem ((c.tc : Thread Cert.RDownProjIdeal.nD Cert.RDownProjIdeal.τ).loc Cert.RDownProjIdeal.main_arg0) = m' ((c.tc : Thread Cert.RDownProjIdeal.nD Cert.RDownProjIdeal.τ).loc Cert.RDownProjIdeal.main_arg0)
          ∧ r.2.mem ((c.tc : Thread Cert.RDownProjIdeal.nD Cert.RDownProjIdeal.τ).loc Cert.RDownProjIdeal.main_arg1) = m' ((c.tc : Thread Cert.RDownProjIdeal.nD Cert.RDownProjIdeal.τ).loc Cert.RDownProjIdeal.main_arg1))

def preserves_KDownWgrad_KDownWgradIdeal : Prop :=
  True

def algebraic_KDownWgradIdeal_RDownWgradIdeal [hKDownWgradIdeal : Cert.KDownWgradIdeal.Facts] [hRDownWgradIdeal : Cert.RDownWgradIdeal.Facts] : Prop :=
  ∀ (m : (ℓ : Loc Cert.KDownWgradIdeal.nD Cert.KDownWgradIdeal.τ Cert.KDownWgradIdeal.sig) → Buf (Elt Ideal) ℓ) (g : Dev Cert.KDownWgradIdeal.nD → PrngReg)
    (m' : (ℓ : Loc Cert.RDownWgradIdeal.nD Cert.RDownWgradIdeal.τ Cert.RDownWgradIdeal.sig) → Buf (Elt Ideal) ℓ) (g' : Dev Cert.RDownWgradIdeal.nD → PrngReg), Pre_KDownWgradIdeal m →
    (∀ c : Dev Cert.KDownWgradIdeal.nD,
      m' ((c.tc : Thread Cert.RDownWgradIdeal.nD Cert.RDownWgradIdeal.τ).loc Cert.RDownWgradIdeal.main_arg0) = m ((c.tc : Thread Cert.KDownWgradIdeal.nD Cert.KDownWgradIdeal.τ).loc Cert.KDownWgradIdeal.main_arg0)
      ∧ m' ((c.tc : Thread Cert.RDownWgradIdeal.nD Cert.RDownWgradIdeal.τ).loc Cert.RDownWgradIdeal.main_arg1) = m ((c.tc : Thread Cert.KDownWgradIdeal.nD Cert.KDownWgradIdeal.τ).loc Cert.KDownWgradIdeal.main_arg1)) →
    ∃ (v0 : (c : Dev Cert.KDownWgradIdeal.nD) → Buf (Elt Ideal) ((c.tc : Thread Cert.KDownWgradIdeal.nD Cert.KDownWgradIdeal.τ).loc Cert.KDownWgradIdeal.main_v0)),
      θ_run (Cert.KDownWgradIdeal.defs (F := Ideal)) (onTc (τ := Cert.KDownWgradIdeal.τ) (Cert.KDownWgradIdeal.main (F := Ideal))) ⟨m, fun _ => 0, g⟩ (fun r => ∀ c : Dev Cert.KDownWgradIdeal.nD,
          r.2.mem ((c.tc : Thread Cert.KDownWgradIdeal.nD Cert.KDownWgradIdeal.τ).loc Cert.KDownWgradIdeal.main_v0) = v0 c
          ∧ r.2.mem ((c.tc : Thread Cert.KDownWgradIdeal.nD Cert.KDownWgradIdeal.τ).loc Cert.KDownWgradIdeal.main_arg0) = m ((c.tc : Thread Cert.KDownWgradIdeal.nD Cert.KDownWgradIdeal.τ).loc Cert.KDownWgradIdeal.main_arg0)
          ∧ r.2.mem ((c.tc : Thread Cert.KDownWgradIdeal.nD Cert.KDownWgradIdeal.τ).loc Cert.KDownWgradIdeal.main_arg1) = m ((c.tc : Thread Cert.KDownWgradIdeal.nD Cert.KDownWgradIdeal.τ).loc Cert.KDownWgradIdeal.main_arg1))
      ∧ θ_run (Cert.RDownWgradIdeal.defs (F := Ideal)) (onTc (τ := Cert.RDownWgradIdeal.τ) (Cert.RDownWgradIdeal.main (F := Ideal))) ⟨m', fun _ => 0, g'⟩ (fun r => ∀ c : Dev Cert.RDownWgradIdeal.nD,
          r.2.mem ((c.tc : Thread Cert.RDownWgradIdeal.nD Cert.RDownWgradIdeal.τ).loc Cert.RDownWgradIdeal.main_v6) = v0 c
          ∧ r.2.mem ((c.tc : Thread Cert.RDownWgradIdeal.nD Cert.RDownWgradIdeal.τ).loc Cert.RDownWgradIdeal.main_arg0) = m' ((c.tc : Thread Cert.RDownWgradIdeal.nD Cert.RDownWgradIdeal.τ).loc Cert.RDownWgradIdeal.main_arg0)
          ∧ r.2.mem ((c.tc : Thread Cert.RDownWgradIdeal.nD Cert.RDownWgradIdeal.τ).loc Cert.RDownWgradIdeal.main_arg1) = m' ((c.tc : Thread Cert.RDownWgradIdeal.nD Cert.RDownWgradIdeal.τ).loc Cert.RDownWgradIdeal.main_arg1))

def preserves_KOWgrad_KOWgradIdeal : Prop :=
  True

def algebraic_KOWgradIdeal_ROWgradIdeal [hKOWgradIdeal : Cert.KOWgradIdeal.Facts] [hROWgradIdeal : Cert.ROWgradIdeal.Facts] : Prop :=
  ∀ (m : (ℓ : Loc Cert.KOWgradIdeal.nD Cert.KOWgradIdeal.τ Cert.KOWgradIdeal.sig) → Buf (Elt Ideal) ℓ) (g : Dev Cert.KOWgradIdeal.nD → PrngReg)
    (m' : (ℓ : Loc Cert.ROWgradIdeal.nD Cert.ROWgradIdeal.τ Cert.ROWgradIdeal.sig) → Buf (Elt Ideal) ℓ) (g' : Dev Cert.ROWgradIdeal.nD → PrngReg), Pre_KOWgradIdeal m →
    (∀ c : Dev Cert.KOWgradIdeal.nD,
      m' ((c.tc : Thread Cert.ROWgradIdeal.nD Cert.ROWgradIdeal.τ).loc Cert.ROWgradIdeal.main_arg0) = m ((c.tc : Thread Cert.KOWgradIdeal.nD Cert.KOWgradIdeal.τ).loc Cert.KOWgradIdeal.main_arg0)
      ∧ m' ((c.tc : Thread Cert.ROWgradIdeal.nD Cert.ROWgradIdeal.τ).loc Cert.ROWgradIdeal.main_arg1) = m ((c.tc : Thread Cert.KOWgradIdeal.nD Cert.KOWgradIdeal.τ).loc Cert.KOWgradIdeal.main_arg1)) →
    ∃ (v0 : (c : Dev Cert.KOWgradIdeal.nD) → Buf (Elt Ideal) ((c.tc : Thread Cert.KOWgradIdeal.nD Cert.KOWgradIdeal.τ).loc Cert.KOWgradIdeal.main_v0)),
      θ_run (Cert.KOWgradIdeal.defs (F := Ideal)) (onTc (τ := Cert.KOWgradIdeal.τ) (Cert.KOWgradIdeal.main (F := Ideal))) ⟨m, fun _ => 0, g⟩ (fun r => ∀ c : Dev Cert.KOWgradIdeal.nD,
          r.2.mem ((c.tc : Thread Cert.KOWgradIdeal.nD Cert.KOWgradIdeal.τ).loc Cert.KOWgradIdeal.main_v0) = v0 c
          ∧ r.2.mem ((c.tc : Thread Cert.KOWgradIdeal.nD Cert.KOWgradIdeal.τ).loc Cert.KOWgradIdeal.main_arg0) = m ((c.tc : Thread Cert.KOWgradIdeal.nD Cert.KOWgradIdeal.τ).loc Cert.KOWgradIdeal.main_arg0)
          ∧ r.2.mem ((c.tc : Thread Cert.KOWgradIdeal.nD Cert.KOWgradIdeal.τ).loc Cert.KOWgradIdeal.main_arg1) = m ((c.tc : Thread Cert.KOWgradIdeal.nD Cert.KOWgradIdeal.τ).loc Cert.KOWgradIdeal.main_arg1))
      ∧ θ_run (Cert.ROWgradIdeal.defs (F := Ideal)) (onTc (τ := Cert.ROWgradIdeal.τ) (Cert.ROWgradIdeal.main (F := Ideal))) ⟨m', fun _ => 0, g'⟩ (fun r => ∀ c : Dev Cert.ROWgradIdeal.nD,
          r.2.mem ((c.tc : Thread Cert.ROWgradIdeal.nD Cert.ROWgradIdeal.τ).loc Cert.ROWgradIdeal.main_v6) = v0 c
          ∧ r.2.mem ((c.tc : Thread Cert.ROWgradIdeal.nD Cert.ROWgradIdeal.τ).loc Cert.ROWgradIdeal.main_arg0) = m' ((c.tc : Thread Cert.ROWgradIdeal.nD Cert.ROWgradIdeal.τ).loc Cert.ROWgradIdeal.main_arg0)
          ∧ r.2.mem ((c.tc : Thread Cert.ROWgradIdeal.nD Cert.ROWgradIdeal.τ).loc Cert.ROWgradIdeal.main_arg1) = m' ((c.tc : Thread Cert.ROWgradIdeal.nD Cert.ROWgradIdeal.τ).loc Cert.ROWgradIdeal.main_arg1))

def preserves_KOutWgrad_KOutWgradIdeal : Prop :=
  True

def algebraic_KOutWgradIdeal_ROutWgradIdeal [hKOutWgradIdeal : Cert.KOutWgradIdeal.Facts] [hROutWgradIdeal : Cert.ROutWgradIdeal.Facts] : Prop :=
  ∀ (m : (ℓ : Loc Cert.KOutWgradIdeal.nD Cert.KOutWgradIdeal.τ Cert.KOutWgradIdeal.sig) → Buf (Elt Ideal) ℓ) (g : Dev Cert.KOutWgradIdeal.nD → PrngReg)
    (m' : (ℓ : Loc Cert.ROutWgradIdeal.nD Cert.ROutWgradIdeal.τ Cert.ROutWgradIdeal.sig) → Buf (Elt Ideal) ℓ) (g' : Dev Cert.ROutWgradIdeal.nD → PrngReg), Pre_KOutWgradIdeal m →
    (∀ c : Dev Cert.KOutWgradIdeal.nD,
      m' ((c.tc : Thread Cert.ROutWgradIdeal.nD Cert.ROutWgradIdeal.τ).loc Cert.ROutWgradIdeal.main_arg0) = m ((c.tc : Thread Cert.KOutWgradIdeal.nD Cert.KOutWgradIdeal.τ).loc Cert.KOutWgradIdeal.main_arg0)
      ∧ m' ((c.tc : Thread Cert.ROutWgradIdeal.nD Cert.ROutWgradIdeal.τ).loc Cert.ROutWgradIdeal.main_arg1) = m ((c.tc : Thread Cert.KOutWgradIdeal.nD Cert.KOutWgradIdeal.τ).loc Cert.KOutWgradIdeal.main_arg1)) →
    ∃ (v0 : (c : Dev Cert.KOutWgradIdeal.nD) → Buf (Elt Ideal) ((c.tc : Thread Cert.KOutWgradIdeal.nD Cert.KOutWgradIdeal.τ).loc Cert.KOutWgradIdeal.main_v0)),
      θ_run (Cert.KOutWgradIdeal.defs (F := Ideal)) (onTc (τ := Cert.KOutWgradIdeal.τ) (Cert.KOutWgradIdeal.main (F := Ideal))) ⟨m, fun _ => 0, g⟩ (fun r => ∀ c : Dev Cert.KOutWgradIdeal.nD,
          r.2.mem ((c.tc : Thread Cert.KOutWgradIdeal.nD Cert.KOutWgradIdeal.τ).loc Cert.KOutWgradIdeal.main_v0) = v0 c
          ∧ r.2.mem ((c.tc : Thread Cert.KOutWgradIdeal.nD Cert.KOutWgradIdeal.τ).loc Cert.KOutWgradIdeal.main_arg0) = m ((c.tc : Thread Cert.KOutWgradIdeal.nD Cert.KOutWgradIdeal.τ).loc Cert.KOutWgradIdeal.main_arg0)
          ∧ r.2.mem ((c.tc : Thread Cert.KOutWgradIdeal.nD Cert.KOutWgradIdeal.τ).loc Cert.KOutWgradIdeal.main_arg1) = m ((c.tc : Thread Cert.KOutWgradIdeal.nD Cert.KOutWgradIdeal.τ).loc Cert.KOutWgradIdeal.main_arg1))
      ∧ θ_run (Cert.ROutWgradIdeal.defs (F := Ideal)) (onTc (τ := Cert.ROutWgradIdeal.τ) (Cert.ROutWgradIdeal.main (F := Ideal))) ⟨m', fun _ => 0, g'⟩ (fun r => ∀ c : Dev Cert.ROutWgradIdeal.nD,
          r.2.mem ((c.tc : Thread Cert.ROutWgradIdeal.nD Cert.ROutWgradIdeal.τ).loc Cert.ROutWgradIdeal.main_v6) = v0 c
          ∧ r.2.mem ((c.tc : Thread Cert.ROutWgradIdeal.nD Cert.ROutWgradIdeal.τ).loc Cert.ROutWgradIdeal.main_arg0) = m' ((c.tc : Thread Cert.ROutWgradIdeal.nD Cert.ROutWgradIdeal.τ).loc Cert.ROutWgradIdeal.main_arg0)
          ∧ r.2.mem ((c.tc : Thread Cert.ROutWgradIdeal.nD Cert.ROutWgradIdeal.τ).loc Cert.ROutWgradIdeal.main_arg1) = m' ((c.tc : Thread Cert.ROutWgradIdeal.nD Cert.ROutWgradIdeal.τ).loc Cert.ROutWgradIdeal.main_arg1))

def preserves_KInWgradA_KInWgradAIdeal : Prop :=
  True

def algebraic_KInWgradAIdeal_RInWgradAIdeal [hKInWgradAIdeal : Cert.KInWgradAIdeal.Facts] [hRInWgradAIdeal : Cert.RInWgradAIdeal.Facts] : Prop :=
  ∀ (m : (ℓ : Loc Cert.KInWgradAIdeal.nD Cert.KInWgradAIdeal.τ Cert.KInWgradAIdeal.sig) → Buf (Elt Ideal) ℓ) (g : Dev Cert.KInWgradAIdeal.nD → PrngReg)
    (m' : (ℓ : Loc Cert.RInWgradAIdeal.nD Cert.RInWgradAIdeal.τ Cert.RInWgradAIdeal.sig) → Buf (Elt Ideal) ℓ) (g' : Dev Cert.RInWgradAIdeal.nD → PrngReg), Pre_KInWgradAIdeal m →
    (∀ c : Dev Cert.KInWgradAIdeal.nD,
      m' ((c.tc : Thread Cert.RInWgradAIdeal.nD Cert.RInWgradAIdeal.τ).loc Cert.RInWgradAIdeal.main_arg0) = m ((c.tc : Thread Cert.KInWgradAIdeal.nD Cert.KInWgradAIdeal.τ).loc Cert.KInWgradAIdeal.main_arg0)
      ∧ m' ((c.tc : Thread Cert.RInWgradAIdeal.nD Cert.RInWgradAIdeal.τ).loc Cert.RInWgradAIdeal.main_arg1) = m ((c.tc : Thread Cert.KInWgradAIdeal.nD Cert.KInWgradAIdeal.τ).loc Cert.KInWgradAIdeal.main_arg1)) →
    ∃ (v0 : (c : Dev Cert.KInWgradAIdeal.nD) → Buf (Elt Ideal) ((c.tc : Thread Cert.KInWgradAIdeal.nD Cert.KInWgradAIdeal.τ).loc Cert.KInWgradAIdeal.main_v0)),
      θ_run (Cert.KInWgradAIdeal.defs (F := Ideal)) (onTc (τ := Cert.KInWgradAIdeal.τ) (Cert.KInWgradAIdeal.main (F := Ideal))) ⟨m, fun _ => 0, g⟩ (fun r => ∀ c : Dev Cert.KInWgradAIdeal.nD,
          r.2.mem ((c.tc : Thread Cert.KInWgradAIdeal.nD Cert.KInWgradAIdeal.τ).loc Cert.KInWgradAIdeal.main_v0) = v0 c
          ∧ r.2.mem ((c.tc : Thread Cert.KInWgradAIdeal.nD Cert.KInWgradAIdeal.τ).loc Cert.KInWgradAIdeal.main_arg0) = m ((c.tc : Thread Cert.KInWgradAIdeal.nD Cert.KInWgradAIdeal.τ).loc Cert.KInWgradAIdeal.main_arg0)
          ∧ r.2.mem ((c.tc : Thread Cert.KInWgradAIdeal.nD Cert.KInWgradAIdeal.τ).loc Cert.KInWgradAIdeal.main_arg1) = m ((c.tc : Thread Cert.KInWgradAIdeal.nD Cert.KInWgradAIdeal.τ).loc Cert.KInWgradAIdeal.main_arg1))
      ∧ θ_run (Cert.RInWgradAIdeal.defs (F := Ideal)) (onTc (τ := Cert.RInWgradAIdeal.τ) (Cert.RInWgradAIdeal.main (F := Ideal))) ⟨m', fun _ => 0, g'⟩ (fun r => ∀ c : Dev Cert.RInWgradAIdeal.nD,
          r.2.mem ((c.tc : Thread Cert.RInWgradAIdeal.nD Cert.RInWgradAIdeal.τ).loc Cert.RInWgradAIdeal.main_v7) = v0 c
          ∧ r.2.mem ((c.tc : Thread Cert.RInWgradAIdeal.nD Cert.RInWgradAIdeal.τ).loc Cert.RInWgradAIdeal.main_arg0) = m' ((c.tc : Thread Cert.RInWgradAIdeal.nD Cert.RInWgradAIdeal.τ).loc Cert.RInWgradAIdeal.main_arg0)
          ∧ r.2.mem ((c.tc : Thread Cert.RInWgradAIdeal.nD Cert.RInWgradAIdeal.τ).loc Cert.RInWgradAIdeal.main_arg1) = m' ((c.tc : Thread Cert.RInWgradAIdeal.nD Cert.RInWgradAIdeal.τ).loc Cert.RInWgradAIdeal.main_arg1))

def preserves_KInWgradB_KInWgradBIdeal : Prop :=
  True

def algebraic_KInWgradBIdeal_RInWgradBIdeal [hKInWgradBIdeal : Cert.KInWgradBIdeal.Facts] [hRInWgradBIdeal : Cert.RInWgradBIdeal.Facts] : Prop :=
  ∀ (m : (ℓ : Loc Cert.KInWgradBIdeal.nD Cert.KInWgradBIdeal.τ Cert.KInWgradBIdeal.sig) → Buf (Elt Ideal) ℓ) (g : Dev Cert.KInWgradBIdeal.nD → PrngReg)
    (m' : (ℓ : Loc Cert.RInWgradBIdeal.nD Cert.RInWgradBIdeal.τ Cert.RInWgradBIdeal.sig) → Buf (Elt Ideal) ℓ) (g' : Dev Cert.RInWgradBIdeal.nD → PrngReg), Pre_KInWgradBIdeal m →
    (∀ c : Dev Cert.KInWgradBIdeal.nD,
      m' ((c.tc : Thread Cert.RInWgradBIdeal.nD Cert.RInWgradBIdeal.τ).loc Cert.RInWgradBIdeal.main_arg0) = m ((c.tc : Thread Cert.KInWgradBIdeal.nD Cert.KInWgradBIdeal.τ).loc Cert.KInWgradBIdeal.main_arg0)
      ∧ m' ((c.tc : Thread Cert.RInWgradBIdeal.nD Cert.RInWgradBIdeal.τ).loc Cert.RInWgradBIdeal.main_arg1) = m ((c.tc : Thread Cert.KInWgradBIdeal.nD Cert.KInWgradBIdeal.τ).loc Cert.KInWgradBIdeal.main_arg1)) →
    ∃ (v0 : (c : Dev Cert.KInWgradBIdeal.nD) → Buf (Elt Ideal) ((c.tc : Thread Cert.KInWgradBIdeal.nD Cert.KInWgradBIdeal.τ).loc Cert.KInWgradBIdeal.main_v0)),
      θ_run (Cert.KInWgradBIdeal.defs (F := Ideal)) (onTc (τ := Cert.KInWgradBIdeal.τ) (Cert.KInWgradBIdeal.main (F := Ideal))) ⟨m, fun _ => 0, g⟩ (fun r => ∀ c : Dev Cert.KInWgradBIdeal.nD,
          r.2.mem ((c.tc : Thread Cert.KInWgradBIdeal.nD Cert.KInWgradBIdeal.τ).loc Cert.KInWgradBIdeal.main_v0) = v0 c
          ∧ r.2.mem ((c.tc : Thread Cert.KInWgradBIdeal.nD Cert.KInWgradBIdeal.τ).loc Cert.KInWgradBIdeal.main_arg0) = m ((c.tc : Thread Cert.KInWgradBIdeal.nD Cert.KInWgradBIdeal.τ).loc Cert.KInWgradBIdeal.main_arg0)
          ∧ r.2.mem ((c.tc : Thread Cert.KInWgradBIdeal.nD Cert.KInWgradBIdeal.τ).loc Cert.KInWgradBIdeal.main_arg1) = m ((c.tc : Thread Cert.KInWgradBIdeal.nD Cert.KInWgradBIdeal.τ).loc Cert.KInWgradBIdeal.main_arg1))
      ∧ θ_run (Cert.RInWgradBIdeal.defs (F := Ideal)) (onTc (τ := Cert.RInWgradBIdeal.τ) (Cert.RInWgradBIdeal.main (F := Ideal))) ⟨m', fun _ => 0, g'⟩ (fun r => ∀ c : Dev Cert.RInWgradBIdeal.nD,
          r.2.mem ((c.tc : Thread Cert.RInWgradBIdeal.nD Cert.RInWgradBIdeal.τ).loc Cert.RInWgradBIdeal.main_v7) = v0 c
          ∧ r.2.mem ((c.tc : Thread Cert.RInWgradBIdeal.nD Cert.RInWgradBIdeal.τ).loc Cert.RInWgradBIdeal.main_arg0) = m' ((c.tc : Thread Cert.RInWgradBIdeal.nD Cert.RInWgradBIdeal.τ).loc Cert.RInWgradBIdeal.main_arg0)
          ∧ r.2.mem ((c.tc : Thread Cert.RInWgradBIdeal.nD Cert.RInWgradBIdeal.τ).loc Cert.RInWgradBIdeal.main_arg1) = m' ((c.tc : Thread Cert.RInWgradBIdeal.nD Cert.RInWgradBIdeal.τ).loc Cert.RInWgradBIdeal.main_arg1))

def preserves_KUpWgradA_KUpWgradAIdeal : Prop :=
  True

def algebraic_KUpWgradAIdeal_RUpWgradAIdeal [hKUpWgradAIdeal : Cert.KUpWgradAIdeal.Facts] [hRUpWgradAIdeal : Cert.RUpWgradAIdeal.Facts] : Prop :=
  ∀ (m : (ℓ : Loc Cert.KUpWgradAIdeal.nD Cert.KUpWgradAIdeal.τ Cert.KUpWgradAIdeal.sig) → Buf (Elt Ideal) ℓ) (g : Dev Cert.KUpWgradAIdeal.nD → PrngReg)
    (m' : (ℓ : Loc Cert.RUpWgradAIdeal.nD Cert.RUpWgradAIdeal.τ Cert.RUpWgradAIdeal.sig) → Buf (Elt Ideal) ℓ) (g' : Dev Cert.RUpWgradAIdeal.nD → PrngReg), Pre_KUpWgradAIdeal m →
    (∀ c : Dev Cert.KUpWgradAIdeal.nD,
      m' ((c.tc : Thread Cert.RUpWgradAIdeal.nD Cert.RUpWgradAIdeal.τ).loc Cert.RUpWgradAIdeal.main_arg0) = m ((c.tc : Thread Cert.KUpWgradAIdeal.nD Cert.KUpWgradAIdeal.τ).loc Cert.KUpWgradAIdeal.main_arg0)
      ∧ m' ((c.tc : Thread Cert.RUpWgradAIdeal.nD Cert.RUpWgradAIdeal.τ).loc Cert.RUpWgradAIdeal.main_arg1) = m ((c.tc : Thread Cert.KUpWgradAIdeal.nD Cert.KUpWgradAIdeal.τ).loc Cert.KUpWgradAIdeal.main_arg1)) →
    ∃ (v0 : (c : Dev Cert.KUpWgradAIdeal.nD) → Buf (Elt Ideal) ((c.tc : Thread Cert.KUpWgradAIdeal.nD Cert.KUpWgradAIdeal.τ).loc Cert.KUpWgradAIdeal.main_v0)),
      θ_run (Cert.KUpWgradAIdeal.defs (F := Ideal)) (onTc (τ := Cert.KUpWgradAIdeal.τ) (Cert.KUpWgradAIdeal.main (F := Ideal))) ⟨m, fun _ => 0, g⟩ (fun r => ∀ c : Dev Cert.KUpWgradAIdeal.nD,
          r.2.mem ((c.tc : Thread Cert.KUpWgradAIdeal.nD Cert.KUpWgradAIdeal.τ).loc Cert.KUpWgradAIdeal.main_v0) = v0 c
          ∧ r.2.mem ((c.tc : Thread Cert.KUpWgradAIdeal.nD Cert.KUpWgradAIdeal.τ).loc Cert.KUpWgradAIdeal.main_arg0) = m ((c.tc : Thread Cert.KUpWgradAIdeal.nD Cert.KUpWgradAIdeal.τ).loc Cert.KUpWgradAIdeal.main_arg0)
          ∧ r.2.mem ((c.tc : Thread Cert.KUpWgradAIdeal.nD Cert.KUpWgradAIdeal.τ).loc Cert.KUpWgradAIdeal.main_arg1) = m ((c.tc : Thread Cert.KUpWgradAIdeal.nD Cert.KUpWgradAIdeal.τ).loc Cert.KUpWgradAIdeal.main_arg1))
      ∧ θ_run (Cert.RUpWgradAIdeal.defs (F := Ideal)) (onTc (τ := Cert.RUpWgradAIdeal.τ) (Cert.RUpWgradAIdeal.main (F := Ideal))) ⟨m', fun _ => 0, g'⟩ (fun r => ∀ c : Dev Cert.RUpWgradAIdeal.nD,
          r.2.mem ((c.tc : Thread Cert.RUpWgradAIdeal.nD Cert.RUpWgradAIdeal.τ).loc Cert.RUpWgradAIdeal.main_v11) = v0 c
          ∧ r.2.mem ((c.tc : Thread Cert.RUpWgradAIdeal.nD Cert.RUpWgradAIdeal.τ).loc Cert.RUpWgradAIdeal.main_arg0) = m' ((c.tc : Thread Cert.RUpWgradAIdeal.nD Cert.RUpWgradAIdeal.τ).loc Cert.RUpWgradAIdeal.main_arg0)
          ∧ r.2.mem ((c.tc : Thread Cert.RUpWgradAIdeal.nD Cert.RUpWgradAIdeal.τ).loc Cert.RUpWgradAIdeal.main_arg1) = m' ((c.tc : Thread Cert.RUpWgradAIdeal.nD Cert.RUpWgradAIdeal.τ).loc Cert.RUpWgradAIdeal.main_arg1))

def preserves_KUpWgradB_KUpWgradBIdeal : Prop :=
  True

def algebraic_KUpWgradBIdeal_RUpWgradBIdeal [hKUpWgradBIdeal : Cert.KUpWgradBIdeal.Facts] [hRUpWgradBIdeal : Cert.RUpWgradBIdeal.Facts] : Prop :=
  ∀ (m : (ℓ : Loc Cert.KUpWgradBIdeal.nD Cert.KUpWgradBIdeal.τ Cert.KUpWgradBIdeal.sig) → Buf (Elt Ideal) ℓ) (g : Dev Cert.KUpWgradBIdeal.nD → PrngReg)
    (m' : (ℓ : Loc Cert.RUpWgradBIdeal.nD Cert.RUpWgradBIdeal.τ Cert.RUpWgradBIdeal.sig) → Buf (Elt Ideal) ℓ) (g' : Dev Cert.RUpWgradBIdeal.nD → PrngReg), Pre_KUpWgradBIdeal m →
    (∀ c : Dev Cert.KUpWgradBIdeal.nD,
      m' ((c.tc : Thread Cert.RUpWgradBIdeal.nD Cert.RUpWgradBIdeal.τ).loc Cert.RUpWgradBIdeal.main_arg0) = m ((c.tc : Thread Cert.KUpWgradBIdeal.nD Cert.KUpWgradBIdeal.τ).loc Cert.KUpWgradBIdeal.main_arg0)
      ∧ m' ((c.tc : Thread Cert.RUpWgradBIdeal.nD Cert.RUpWgradBIdeal.τ).loc Cert.RUpWgradBIdeal.main_arg1) = m ((c.tc : Thread Cert.KUpWgradBIdeal.nD Cert.KUpWgradBIdeal.τ).loc Cert.KUpWgradBIdeal.main_arg1)) →
    ∃ (v0 : (c : Dev Cert.KUpWgradBIdeal.nD) → Buf (Elt Ideal) ((c.tc : Thread Cert.KUpWgradBIdeal.nD Cert.KUpWgradBIdeal.τ).loc Cert.KUpWgradBIdeal.main_v0)),
      θ_run (Cert.KUpWgradBIdeal.defs (F := Ideal)) (onTc (τ := Cert.KUpWgradBIdeal.τ) (Cert.KUpWgradBIdeal.main (F := Ideal))) ⟨m, fun _ => 0, g⟩ (fun r => ∀ c : Dev Cert.KUpWgradBIdeal.nD,
          r.2.mem ((c.tc : Thread Cert.KUpWgradBIdeal.nD Cert.KUpWgradBIdeal.τ).loc Cert.KUpWgradBIdeal.main_v0) = v0 c
          ∧ r.2.mem ((c.tc : Thread Cert.KUpWgradBIdeal.nD Cert.KUpWgradBIdeal.τ).loc Cert.KUpWgradBIdeal.main_arg0) = m ((c.tc : Thread Cert.KUpWgradBIdeal.nD Cert.KUpWgradBIdeal.τ).loc Cert.KUpWgradBIdeal.main_arg0)
          ∧ r.2.mem ((c.tc : Thread Cert.KUpWgradBIdeal.nD Cert.KUpWgradBIdeal.τ).loc Cert.KUpWgradBIdeal.main_arg1) = m ((c.tc : Thread Cert.KUpWgradBIdeal.nD Cert.KUpWgradBIdeal.τ).loc Cert.KUpWgradBIdeal.main_arg1))
      ∧ θ_run (Cert.RUpWgradBIdeal.defs (F := Ideal)) (onTc (τ := Cert.RUpWgradBIdeal.τ) (Cert.RUpWgradBIdeal.main (F := Ideal))) ⟨m', fun _ => 0, g'⟩ (fun r => ∀ c : Dev Cert.RUpWgradBIdeal.nD,
          r.2.mem ((c.tc : Thread Cert.RUpWgradBIdeal.nD Cert.RUpWgradBIdeal.τ).loc Cert.RUpWgradBIdeal.main_v11) = v0 c
          ∧ r.2.mem ((c.tc : Thread Cert.RUpWgradBIdeal.nD Cert.RUpWgradBIdeal.τ).loc Cert.RUpWgradBIdeal.main_arg0) = m' ((c.tc : Thread Cert.RUpWgradBIdeal.nD Cert.RUpWgradBIdeal.τ).loc Cert.RUpWgradBIdeal.main_arg0)
          ∧ r.2.mem ((c.tc : Thread Cert.RUpWgradBIdeal.nD Cert.RUpWgradBIdeal.τ).loc Cert.RUpWgradBIdeal.main_arg1) = m' ((c.tc : Thread Cert.RUpWgradBIdeal.nD Cert.RUpWgradBIdeal.τ).loc Cert.RUpWgradBIdeal.main_arg1))

def preserves_KAdamAdaB_KAdamAdaBIdeal : Prop :=
  True

def algebraic_KAdamAdaBIdeal_RAdamAdaBIdeal [hKAdamAdaBIdeal : Cert.KAdamAdaBIdeal.Facts] [hRAdamAdaBIdeal : Cert.RAdamAdaBIdeal.Facts] : Prop :=
  ∀ (m : (ℓ : Loc Cert.KAdamAdaBIdeal.nD Cert.KAdamAdaBIdeal.τ Cert.KAdamAdaBIdeal.sig) → Buf (Elt Ideal) ℓ) (g : Dev Cert.KAdamAdaBIdeal.nD → PrngReg)
    (m' : (ℓ : Loc Cert.RAdamAdaBIdeal.nD Cert.RAdamAdaBIdeal.τ Cert.RAdamAdaBIdeal.sig) → Buf (Elt Ideal) ℓ) (g' : Dev Cert.RAdamAdaBIdeal.nD → PrngReg), Pre_KAdamAdaBIdeal m →
    (∀ c : Dev Cert.KAdamAdaBIdeal.nD,
      m' ((c.tc : Thread Cert.RAdamAdaBIdeal.nD Cert.RAdamAdaBIdeal.τ).loc Cert.RAdamAdaBIdeal.main_arg0) = m ((c.tc : Thread Cert.KAdamAdaBIdeal.nD Cert.KAdamAdaBIdeal.τ).loc Cert.KAdamAdaBIdeal.main_arg0)
      ∧ m' ((c.tc : Thread Cert.RAdamAdaBIdeal.nD Cert.RAdamAdaBIdeal.τ).loc Cert.RAdamAdaBIdeal.main_arg1) = m ((c.tc : Thread Cert.KAdamAdaBIdeal.nD Cert.KAdamAdaBIdeal.τ).loc Cert.KAdamAdaBIdeal.main_arg1)
      ∧ m' ((c.tc : Thread Cert.RAdamAdaBIdeal.nD Cert.RAdamAdaBIdeal.τ).loc Cert.RAdamAdaBIdeal.main_arg2) = m ((c.tc : Thread Cert.KAdamAdaBIdeal.nD Cert.KAdamAdaBIdeal.τ).loc Cert.KAdamAdaBIdeal.main_arg2)
      ∧ m' ((c.tc : Thread Cert.RAdamAdaBIdeal.nD Cert.RAdamAdaBIdeal.τ).loc Cert.RAdamAdaBIdeal.main_arg3) = m ((c.tc : Thread Cert.KAdamAdaBIdeal.nD Cert.KAdamAdaBIdeal.τ).loc Cert.KAdamAdaBIdeal.main_arg3)) →
    ∃ (v0 : (c : Dev Cert.KAdamAdaBIdeal.nD) → Buf (Elt Ideal) ((c.tc : Thread Cert.KAdamAdaBIdeal.nD Cert.KAdamAdaBIdeal.τ).loc Cert.KAdamAdaBIdeal.main_v0_0)) (v1 : (c : Dev Cert.KAdamAdaBIdeal.nD) → Buf (Elt Ideal) ((c.tc : Thread Cert.KAdamAdaBIdeal.nD Cert.KAdamAdaBIdeal.τ).loc Cert.KAdamAdaBIdeal.main_v0_1)) (v2 : (c : Dev Cert.KAdamAdaBIdeal.nD) → Buf (Elt Ideal) ((c.tc : Thread Cert.KAdamAdaBIdeal.nD Cert.KAdamAdaBIdeal.τ).loc Cert.KAdamAdaBIdeal.main_v0_2)) (v3 : (c : Dev Cert.KAdamAdaBIdeal.nD) → Buf (Elt Ideal) ((c.tc : Thread Cert.KAdamAdaBIdeal.nD Cert.KAdamAdaBIdeal.τ).loc Cert.KAdamAdaBIdeal.main_v0_3)),
      θ_run (Cert.KAdamAdaBIdeal.defs (F := Ideal)) (onTc (τ := Cert.KAdamAdaBIdeal.τ) (Cert.KAdamAdaBIdeal.main (F := Ideal))) ⟨m, fun _ => 0, g⟩ (fun r => ∀ c : Dev Cert.KAdamAdaBIdeal.nD,
          r.2.mem ((c.tc : Thread Cert.KAdamAdaBIdeal.nD Cert.KAdamAdaBIdeal.τ).loc Cert.KAdamAdaBIdeal.main_v0_0) = v0 c
          ∧ r.2.mem ((c.tc : Thread Cert.KAdamAdaBIdeal.nD Cert.KAdamAdaBIdeal.τ).loc Cert.KAdamAdaBIdeal.main_v0_1) = v1 c
          ∧ r.2.mem ((c.tc : Thread Cert.KAdamAdaBIdeal.nD Cert.KAdamAdaBIdeal.τ).loc Cert.KAdamAdaBIdeal.main_v0_2) = v2 c
          ∧ r.2.mem ((c.tc : Thread Cert.KAdamAdaBIdeal.nD Cert.KAdamAdaBIdeal.τ).loc Cert.KAdamAdaBIdeal.main_v0_3) = v3 c
          ∧ r.2.mem ((c.tc : Thread Cert.KAdamAdaBIdeal.nD Cert.KAdamAdaBIdeal.τ).loc Cert.KAdamAdaBIdeal.main_arg0) = m ((c.tc : Thread Cert.KAdamAdaBIdeal.nD Cert.KAdamAdaBIdeal.τ).loc Cert.KAdamAdaBIdeal.main_arg0)
          ∧ r.2.mem ((c.tc : Thread Cert.KAdamAdaBIdeal.nD Cert.KAdamAdaBIdeal.τ).loc Cert.KAdamAdaBIdeal.main_arg1) = m ((c.tc : Thread Cert.KAdamAdaBIdeal.nD Cert.KAdamAdaBIdeal.τ).loc Cert.KAdamAdaBIdeal.main_arg1)
          ∧ r.2.mem ((c.tc : Thread Cert.KAdamAdaBIdeal.nD Cert.KAdamAdaBIdeal.τ).loc Cert.KAdamAdaBIdeal.main_arg2) = m ((c.tc : Thread Cert.KAdamAdaBIdeal.nD Cert.KAdamAdaBIdeal.τ).loc Cert.KAdamAdaBIdeal.main_arg2)
          ∧ r.2.mem ((c.tc : Thread Cert.KAdamAdaBIdeal.nD Cert.KAdamAdaBIdeal.τ).loc Cert.KAdamAdaBIdeal.main_arg3) = m ((c.tc : Thread Cert.KAdamAdaBIdeal.nD Cert.KAdamAdaBIdeal.τ).loc Cert.KAdamAdaBIdeal.main_arg3))
      ∧ θ_run (Cert.RAdamAdaBIdeal.defs (F := Ideal)) (onTc (τ := Cert.RAdamAdaBIdeal.τ) (Cert.RAdamAdaBIdeal.main (F := Ideal))) ⟨m', fun _ => 0, g'⟩ (fun r => ∀ c : Dev Cert.RAdamAdaBIdeal.nD,
          r.2.mem ((c.tc : Thread Cert.RAdamAdaBIdeal.nD Cert.RAdamAdaBIdeal.τ).loc Cert.RAdamAdaBIdeal.main_v1) = v0 c
          ∧ r.2.mem ((c.tc : Thread Cert.RAdamAdaBIdeal.nD Cert.RAdamAdaBIdeal.τ).loc Cert.RAdamAdaBIdeal.main_v25) = v1 c
          ∧ r.2.mem ((c.tc : Thread Cert.RAdamAdaBIdeal.nD Cert.RAdamAdaBIdeal.τ).loc Cert.RAdamAdaBIdeal.main_v6) = v2 c
          ∧ r.2.mem ((c.tc : Thread Cert.RAdamAdaBIdeal.nD Cert.RAdamAdaBIdeal.τ).loc Cert.RAdamAdaBIdeal.main_v12) = v3 c
          ∧ r.2.mem ((c.tc : Thread Cert.RAdamAdaBIdeal.nD Cert.RAdamAdaBIdeal.τ).loc Cert.RAdamAdaBIdeal.main_arg0) = m' ((c.tc : Thread Cert.RAdamAdaBIdeal.nD Cert.RAdamAdaBIdeal.τ).loc Cert.RAdamAdaBIdeal.main_arg0)
          ∧ r.2.mem ((c.tc : Thread Cert.RAdamAdaBIdeal.nD Cert.RAdamAdaBIdeal.τ).loc Cert.RAdamAdaBIdeal.main_arg1) = m' ((c.tc : Thread Cert.RAdamAdaBIdeal.nD Cert.RAdamAdaBIdeal.τ).loc Cert.RAdamAdaBIdeal.main_arg1)
          ∧ r.2.mem ((c.tc : Thread Cert.RAdamAdaBIdeal.nD Cert.RAdamAdaBIdeal.τ).loc Cert.RAdamAdaBIdeal.main_arg2) = m' ((c.tc : Thread Cert.RAdamAdaBIdeal.nD Cert.RAdamAdaBIdeal.τ).loc Cert.RAdamAdaBIdeal.main_arg2)
          ∧ r.2.mem ((c.tc : Thread Cert.RAdamAdaBIdeal.nD Cert.RAdamAdaBIdeal.τ).loc Cert.RAdamAdaBIdeal.main_arg3) = m' ((c.tc : Thread Cert.RAdamAdaBIdeal.nD Cert.RAdamAdaBIdeal.τ).loc Cert.RAdamAdaBIdeal.main_arg3))

def preserves_KAdamNormG_KAdamNormGIdeal : Prop :=
  True

def algebraic_KAdamNormGIdeal_RAdamNormGIdeal [hKAdamNormGIdeal : Cert.KAdamNormGIdeal.Facts] [hRAdamNormGIdeal : Cert.RAdamNormGIdeal.Facts] : Prop :=
  ∀ (m : (ℓ : Loc Cert.KAdamNormGIdeal.nD Cert.KAdamNormGIdeal.τ Cert.KAdamNormGIdeal.sig) → Buf (Elt Ideal) ℓ) (g : Dev Cert.KAdamNormGIdeal.nD → PrngReg)
    (m' : (ℓ : Loc Cert.RAdamNormGIdeal.nD Cert.RAdamNormGIdeal.τ Cert.RAdamNormGIdeal.sig) → Buf (Elt Ideal) ℓ) (g' : Dev Cert.RAdamNormGIdeal.nD → PrngReg), Pre_KAdamNormGIdeal m →
    (∀ c : Dev Cert.KAdamNormGIdeal.nD,
      m' ((c.tc : Thread Cert.RAdamNormGIdeal.nD Cert.RAdamNormGIdeal.τ).loc Cert.RAdamNormGIdeal.main_arg0) = m ((c.tc : Thread Cert.KAdamNormGIdeal.nD Cert.KAdamNormGIdeal.τ).loc Cert.KAdamNormGIdeal.main_arg0)
      ∧ m' ((c.tc : Thread Cert.RAdamNormGIdeal.nD Cert.RAdamNormGIdeal.τ).loc Cert.RAdamNormGIdeal.main_arg1) = m ((c.tc : Thread Cert.KAdamNormGIdeal.nD Cert.KAdamNormGIdeal.τ).loc Cert.KAdamNormGIdeal.main_arg1)
      ∧ m' ((c.tc : Thread Cert.RAdamNormGIdeal.nD Cert.RAdamNormGIdeal.τ).loc Cert.RAdamNormGIdeal.main_arg2) = m ((c.tc : Thread Cert.KAdamNormGIdeal.nD Cert.KAdamNormGIdeal.τ).loc Cert.KAdamNormGIdeal.main_arg2)
      ∧ m' ((c.tc : Thread Cert.RAdamNormGIdeal.nD Cert.RAdamNormGIdeal.τ).loc Cert.RAdamNormGIdeal.main_arg3) = m ((c.tc : Thread Cert.KAdamNormGIdeal.nD Cert.KAdamNormGIdeal.τ).loc Cert.KAdamNormGIdeal.main_arg3)) →
    ∃ (v0 : (c : Dev Cert.KAdamNormGIdeal.nD) → Buf (Elt Ideal) ((c.tc : Thread Cert.KAdamNormGIdeal.nD Cert.KAdamNormGIdeal.τ).loc Cert.KAdamNormGIdeal.main_v0_0)) (v1 : (c : Dev Cert.KAdamNormGIdeal.nD) → Buf (Elt Ideal) ((c.tc : Thread Cert.KAdamNormGIdeal.nD Cert.KAdamNormGIdeal.τ).loc Cert.KAdamNormGIdeal.main_v0_1)) (v2 : (c : Dev Cert.KAdamNormGIdeal.nD) → Buf (Elt Ideal) ((c.tc : Thread Cert.KAdamNormGIdeal.nD Cert.KAdamNormGIdeal.τ).loc Cert.KAdamNormGIdeal.main_v0_2)) (v3 : (c : Dev Cert.KAdamNormGIdeal.nD) → Buf (Elt Ideal) ((c.tc : Thread Cert.KAdamNormGIdeal.nD Cert.KAdamNormGIdeal.τ).loc Cert.KAdamNormGIdeal.main_v0_3)),
      θ_run (Cert.KAdamNormGIdeal.defs (F := Ideal)) (onTc (τ := Cert.KAdamNormGIdeal.τ) (Cert.KAdamNormGIdeal.main (F := Ideal))) ⟨m, fun _ => 0, g⟩ (fun r => ∀ c : Dev Cert.KAdamNormGIdeal.nD,
          r.2.mem ((c.tc : Thread Cert.KAdamNormGIdeal.nD Cert.KAdamNormGIdeal.τ).loc Cert.KAdamNormGIdeal.main_v0_0) = v0 c
          ∧ r.2.mem ((c.tc : Thread Cert.KAdamNormGIdeal.nD Cert.KAdamNormGIdeal.τ).loc Cert.KAdamNormGIdeal.main_v0_1) = v1 c
          ∧ r.2.mem ((c.tc : Thread Cert.KAdamNormGIdeal.nD Cert.KAdamNormGIdeal.τ).loc Cert.KAdamNormGIdeal.main_v0_2) = v2 c
          ∧ r.2.mem ((c.tc : Thread Cert.KAdamNormGIdeal.nD Cert.KAdamNormGIdeal.τ).loc Cert.KAdamNormGIdeal.main_v0_3) = v3 c
          ∧ r.2.mem ((c.tc : Thread Cert.KAdamNormGIdeal.nD Cert.KAdamNormGIdeal.τ).loc Cert.KAdamNormGIdeal.main_arg0) = m ((c.tc : Thread Cert.KAdamNormGIdeal.nD Cert.KAdamNormGIdeal.τ).loc Cert.KAdamNormGIdeal.main_arg0)
          ∧ r.2.mem ((c.tc : Thread Cert.KAdamNormGIdeal.nD Cert.KAdamNormGIdeal.τ).loc Cert.KAdamNormGIdeal.main_arg1) = m ((c.tc : Thread Cert.KAdamNormGIdeal.nD Cert.KAdamNormGIdeal.τ).loc Cert.KAdamNormGIdeal.main_arg1)
          ∧ r.2.mem ((c.tc : Thread Cert.KAdamNormGIdeal.nD Cert.KAdamNormGIdeal.τ).loc Cert.KAdamNormGIdeal.main_arg2) = m ((c.tc : Thread Cert.KAdamNormGIdeal.nD Cert.KAdamNormGIdeal.τ).loc Cert.KAdamNormGIdeal.main_arg2)
          ∧ r.2.mem ((c.tc : Thread Cert.KAdamNormGIdeal.nD Cert.KAdamNormGIdeal.τ).loc Cert.KAdamNormGIdeal.main_arg3) = m ((c.tc : Thread Cert.KAdamNormGIdeal.nD Cert.KAdamNormGIdeal.τ).loc Cert.KAdamNormGIdeal.main_arg3))
      ∧ θ_run (Cert.RAdamNormGIdeal.defs (F := Ideal)) (onTc (τ := Cert.RAdamNormGIdeal.τ) (Cert.RAdamNormGIdeal.main (F := Ideal))) ⟨m', fun _ => 0, g'⟩ (fun r => ∀ c : Dev Cert.RAdamNormGIdeal.nD,
          r.2.mem ((c.tc : Thread Cert.RAdamNormGIdeal.nD Cert.RAdamNormGIdeal.τ).loc Cert.RAdamNormGIdeal.main_v1) = v0 c
          ∧ r.2.mem ((c.tc : Thread Cert.RAdamNormGIdeal.nD Cert.RAdamNormGIdeal.τ).loc Cert.RAdamNormGIdeal.main_v25) = v1 c
          ∧ r.2.mem ((c.tc : Thread Cert.RAdamNormGIdeal.nD Cert.RAdamNormGIdeal.τ).loc Cert.RAdamNormGIdeal.main_v6) = v2 c
          ∧ r.2.mem ((c.tc : Thread Cert.RAdamNormGIdeal.nD Cert.RAdamNormGIdeal.τ).loc Cert.RAdamNormGIdeal.main_v12) = v3 c
          ∧ r.2.mem ((c.tc : Thread Cert.RAdamNormGIdeal.nD Cert.RAdamNormGIdeal.τ).loc Cert.RAdamNormGIdeal.main_arg0) = m' ((c.tc : Thread Cert.RAdamNormGIdeal.nD Cert.RAdamNormGIdeal.τ).loc Cert.RAdamNormGIdeal.main_arg0)
          ∧ r.2.mem ((c.tc : Thread Cert.RAdamNormGIdeal.nD Cert.RAdamNormGIdeal.τ).loc Cert.RAdamNormGIdeal.main_arg1) = m' ((c.tc : Thread Cert.RAdamNormGIdeal.nD Cert.RAdamNormGIdeal.τ).loc Cert.RAdamNormGIdeal.main_arg1)
          ∧ r.2.mem ((c.tc : Thread Cert.RAdamNormGIdeal.nD Cert.RAdamNormGIdeal.τ).loc Cert.RAdamNormGIdeal.main_arg2) = m' ((c.tc : Thread Cert.RAdamNormGIdeal.nD Cert.RAdamNormGIdeal.τ).loc Cert.RAdamNormGIdeal.main_arg2)
          ∧ r.2.mem ((c.tc : Thread Cert.RAdamNormGIdeal.nD Cert.RAdamNormGIdeal.τ).loc Cert.RAdamNormGIdeal.main_arg3) = m' ((c.tc : Thread Cert.RAdamNormGIdeal.nD Cert.RAdamNormGIdeal.τ).loc Cert.RAdamNormGIdeal.main_arg3))

def preserves_KAdamGateW_KAdamGateWIdeal : Prop :=
  True

def algebraic_KAdamGateWIdeal_RAdamGateWIdeal [hKAdamGateWIdeal : Cert.KAdamGateWIdeal.Facts] [hRAdamGateWIdeal : Cert.RAdamGateWIdeal.Facts] : Prop :=
  ∀ (m : (ℓ : Loc Cert.KAdamGateWIdeal.nD Cert.KAdamGateWIdeal.τ Cert.KAdamGateWIdeal.sig) → Buf (Elt Ideal) ℓ) (g : Dev Cert.KAdamGateWIdeal.nD → PrngReg)
    (m' : (ℓ : Loc Cert.RAdamGateWIdeal.nD Cert.RAdamGateWIdeal.τ Cert.RAdamGateWIdeal.sig) → Buf (Elt Ideal) ℓ) (g' : Dev Cert.RAdamGateWIdeal.nD → PrngReg), Pre_KAdamGateWIdeal m →
    (∀ c : Dev Cert.KAdamGateWIdeal.nD,
      m' ((c.tc : Thread Cert.RAdamGateWIdeal.nD Cert.RAdamGateWIdeal.τ).loc Cert.RAdamGateWIdeal.main_arg0) = m ((c.tc : Thread Cert.KAdamGateWIdeal.nD Cert.KAdamGateWIdeal.τ).loc Cert.KAdamGateWIdeal.main_arg0)
      ∧ m' ((c.tc : Thread Cert.RAdamGateWIdeal.nD Cert.RAdamGateWIdeal.τ).loc Cert.RAdamGateWIdeal.main_arg1) = m ((c.tc : Thread Cert.KAdamGateWIdeal.nD Cert.KAdamGateWIdeal.τ).loc Cert.KAdamGateWIdeal.main_arg1)
      ∧ m' ((c.tc : Thread Cert.RAdamGateWIdeal.nD Cert.RAdamGateWIdeal.τ).loc Cert.RAdamGateWIdeal.main_arg2) = m ((c.tc : Thread Cert.KAdamGateWIdeal.nD Cert.KAdamGateWIdeal.τ).loc Cert.KAdamGateWIdeal.main_arg2)
      ∧ m' ((c.tc : Thread Cert.RAdamGateWIdeal.nD Cert.RAdamGateWIdeal.τ).loc Cert.RAdamGateWIdeal.main_arg3) = m ((c.tc : Thread Cert.KAdamGateWIdeal.nD Cert.KAdamGateWIdeal.τ).loc Cert.KAdamGateWIdeal.main_arg3)) →
    ∃ (v0 : (c : Dev Cert.KAdamGateWIdeal.nD) → Buf (Elt Ideal) ((c.tc : Thread Cert.KAdamGateWIdeal.nD Cert.KAdamGateWIdeal.τ).loc Cert.KAdamGateWIdeal.main_v0_0)) (v1 : (c : Dev Cert.KAdamGateWIdeal.nD) → Buf (Elt Ideal) ((c.tc : Thread Cert.KAdamGateWIdeal.nD Cert.KAdamGateWIdeal.τ).loc Cert.KAdamGateWIdeal.main_v0_1)) (v2 : (c : Dev Cert.KAdamGateWIdeal.nD) → Buf (Elt Ideal) ((c.tc : Thread Cert.KAdamGateWIdeal.nD Cert.KAdamGateWIdeal.τ).loc Cert.KAdamGateWIdeal.main_v0_2)) (v3 : (c : Dev Cert.KAdamGateWIdeal.nD) → Buf (Elt Ideal) ((c.tc : Thread Cert.KAdamGateWIdeal.nD Cert.KAdamGateWIdeal.τ).loc Cert.KAdamGateWIdeal.main_v0_3)),
      θ_run (Cert.KAdamGateWIdeal.defs (F := Ideal)) (onTc (τ := Cert.KAdamGateWIdeal.τ) (Cert.KAdamGateWIdeal.main (F := Ideal))) ⟨m, fun _ => 0, g⟩ (fun r => ∀ c : Dev Cert.KAdamGateWIdeal.nD,
          r.2.mem ((c.tc : Thread Cert.KAdamGateWIdeal.nD Cert.KAdamGateWIdeal.τ).loc Cert.KAdamGateWIdeal.main_v0_0) = v0 c
          ∧ r.2.mem ((c.tc : Thread Cert.KAdamGateWIdeal.nD Cert.KAdamGateWIdeal.τ).loc Cert.KAdamGateWIdeal.main_v0_1) = v1 c
          ∧ r.2.mem ((c.tc : Thread Cert.KAdamGateWIdeal.nD Cert.KAdamGateWIdeal.τ).loc Cert.KAdamGateWIdeal.main_v0_2) = v2 c
          ∧ r.2.mem ((c.tc : Thread Cert.KAdamGateWIdeal.nD Cert.KAdamGateWIdeal.τ).loc Cert.KAdamGateWIdeal.main_v0_3) = v3 c
          ∧ r.2.mem ((c.tc : Thread Cert.KAdamGateWIdeal.nD Cert.KAdamGateWIdeal.τ).loc Cert.KAdamGateWIdeal.main_arg0) = m ((c.tc : Thread Cert.KAdamGateWIdeal.nD Cert.KAdamGateWIdeal.τ).loc Cert.KAdamGateWIdeal.main_arg0)
          ∧ r.2.mem ((c.tc : Thread Cert.KAdamGateWIdeal.nD Cert.KAdamGateWIdeal.τ).loc Cert.KAdamGateWIdeal.main_arg1) = m ((c.tc : Thread Cert.KAdamGateWIdeal.nD Cert.KAdamGateWIdeal.τ).loc Cert.KAdamGateWIdeal.main_arg1)
          ∧ r.2.mem ((c.tc : Thread Cert.KAdamGateWIdeal.nD Cert.KAdamGateWIdeal.τ).loc Cert.KAdamGateWIdeal.main_arg2) = m ((c.tc : Thread Cert.KAdamGateWIdeal.nD Cert.KAdamGateWIdeal.τ).loc Cert.KAdamGateWIdeal.main_arg2)
          ∧ r.2.mem ((c.tc : Thread Cert.KAdamGateWIdeal.nD Cert.KAdamGateWIdeal.τ).loc Cert.KAdamGateWIdeal.main_arg3) = m ((c.tc : Thread Cert.KAdamGateWIdeal.nD Cert.KAdamGateWIdeal.τ).loc Cert.KAdamGateWIdeal.main_arg3))
      ∧ θ_run (Cert.RAdamGateWIdeal.defs (F := Ideal)) (onTc (τ := Cert.RAdamGateWIdeal.τ) (Cert.RAdamGateWIdeal.main (F := Ideal))) ⟨m', fun _ => 0, g'⟩ (fun r => ∀ c : Dev Cert.RAdamGateWIdeal.nD,
          r.2.mem ((c.tc : Thread Cert.RAdamGateWIdeal.nD Cert.RAdamGateWIdeal.τ).loc Cert.RAdamGateWIdeal.main_v1) = v0 c
          ∧ r.2.mem ((c.tc : Thread Cert.RAdamGateWIdeal.nD Cert.RAdamGateWIdeal.τ).loc Cert.RAdamGateWIdeal.main_v25) = v1 c
          ∧ r.2.mem ((c.tc : Thread Cert.RAdamGateWIdeal.nD Cert.RAdamGateWIdeal.τ).loc Cert.RAdamGateWIdeal.main_v6) = v2 c
          ∧ r.2.mem ((c.tc : Thread Cert.RAdamGateWIdeal.nD Cert.RAdamGateWIdeal.τ).loc Cert.RAdamGateWIdeal.main_v12) = v3 c
          ∧ r.2.mem ((c.tc : Thread Cert.RAdamGateWIdeal.nD Cert.RAdamGateWIdeal.τ).loc Cert.RAdamGateWIdeal.main_arg0) = m' ((c.tc : Thread Cert.RAdamGateWIdeal.nD Cert.RAdamGateWIdeal.τ).loc Cert.RAdamGateWIdeal.main_arg0)
          ∧ r.2.mem ((c.tc : Thread Cert.RAdamGateWIdeal.nD Cert.RAdamGateWIdeal.τ).loc Cert.RAdamGateWIdeal.main_arg1) = m' ((c.tc : Thread Cert.RAdamGateWIdeal.nD Cert.RAdamGateWIdeal.τ).loc Cert.RAdamGateWIdeal.main_arg1)
          ∧ r.2.mem ((c.tc : Thread Cert.RAdamGateWIdeal.nD Cert.RAdamGateWIdeal.τ).loc Cert.RAdamGateWIdeal.main_arg2) = m' ((c.tc : Thread Cert.RAdamGateWIdeal.nD Cert.RAdamGateWIdeal.τ).loc Cert.RAdamGateWIdeal.main_arg2)
          ∧ r.2.mem ((c.tc : Thread Cert.RAdamGateWIdeal.nD Cert.RAdamGateWIdeal.τ).loc Cert.RAdamGateWIdeal.main_arg3) = m' ((c.tc : Thread Cert.RAdamGateWIdeal.nD Cert.RAdamGateWIdeal.τ).loc Cert.RAdamGateWIdeal.main_arg3))

def preserves_KAdamGateB_KAdamGateBIdeal : Prop :=
  True

def algebraic_KAdamGateBIdeal_RAdamGateBIdeal [hKAdamGateBIdeal : Cert.KAdamGateBIdeal.Facts] [hRAdamGateBIdeal : Cert.RAdamGateBIdeal.Facts] : Prop :=
  ∀ (m : (ℓ : Loc Cert.KAdamGateBIdeal.nD Cert.KAdamGateBIdeal.τ Cert.KAdamGateBIdeal.sig) → Buf (Elt Ideal) ℓ) (g : Dev Cert.KAdamGateBIdeal.nD → PrngReg)
    (m' : (ℓ : Loc Cert.RAdamGateBIdeal.nD Cert.RAdamGateBIdeal.τ Cert.RAdamGateBIdeal.sig) → Buf (Elt Ideal) ℓ) (g' : Dev Cert.RAdamGateBIdeal.nD → PrngReg), Pre_KAdamGateBIdeal m →
    (∀ c : Dev Cert.KAdamGateBIdeal.nD,
      m' ((c.tc : Thread Cert.RAdamGateBIdeal.nD Cert.RAdamGateBIdeal.τ).loc Cert.RAdamGateBIdeal.main_arg0) = m ((c.tc : Thread Cert.KAdamGateBIdeal.nD Cert.KAdamGateBIdeal.τ).loc Cert.KAdamGateBIdeal.main_arg0)
      ∧ m' ((c.tc : Thread Cert.RAdamGateBIdeal.nD Cert.RAdamGateBIdeal.τ).loc Cert.RAdamGateBIdeal.main_arg1) = m ((c.tc : Thread Cert.KAdamGateBIdeal.nD Cert.KAdamGateBIdeal.τ).loc Cert.KAdamGateBIdeal.main_arg1)
      ∧ m' ((c.tc : Thread Cert.RAdamGateBIdeal.nD Cert.RAdamGateBIdeal.τ).loc Cert.RAdamGateBIdeal.main_arg2) = m ((c.tc : Thread Cert.KAdamGateBIdeal.nD Cert.KAdamGateBIdeal.τ).loc Cert.KAdamGateBIdeal.main_arg2)
      ∧ m' ((c.tc : Thread Cert.RAdamGateBIdeal.nD Cert.RAdamGateBIdeal.τ).loc Cert.RAdamGateBIdeal.main_arg3) = m ((c.tc : Thread Cert.KAdamGateBIdeal.nD Cert.KAdamGateBIdeal.τ).loc Cert.KAdamGateBIdeal.main_arg3)) →
    ∃ (v0 : (c : Dev Cert.KAdamGateBIdeal.nD) → Buf (Elt Ideal) ((c.tc : Thread Cert.KAdamGateBIdeal.nD Cert.KAdamGateBIdeal.τ).loc Cert.KAdamGateBIdeal.main_v0_0)) (v1 : (c : Dev Cert.KAdamGateBIdeal.nD) → Buf (Elt Ideal) ((c.tc : Thread Cert.KAdamGateBIdeal.nD Cert.KAdamGateBIdeal.τ).loc Cert.KAdamGateBIdeal.main_v0_1)) (v2 : (c : Dev Cert.KAdamGateBIdeal.nD) → Buf (Elt Ideal) ((c.tc : Thread Cert.KAdamGateBIdeal.nD Cert.KAdamGateBIdeal.τ).loc Cert.KAdamGateBIdeal.main_v0_2)) (v3 : (c : Dev Cert.KAdamGateBIdeal.nD) → Buf (Elt Ideal) ((c.tc : Thread Cert.KAdamGateBIdeal.nD Cert.KAdamGateBIdeal.τ).loc Cert.KAdamGateBIdeal.main_v0_3)),
      θ_run (Cert.KAdamGateBIdeal.defs (F := Ideal)) (onTc (τ := Cert.KAdamGateBIdeal.τ) (Cert.KAdamGateBIdeal.main (F := Ideal))) ⟨m, fun _ => 0, g⟩ (fun r => ∀ c : Dev Cert.KAdamGateBIdeal.nD,
          r.2.mem ((c.tc : Thread Cert.KAdamGateBIdeal.nD Cert.KAdamGateBIdeal.τ).loc Cert.KAdamGateBIdeal.main_v0_0) = v0 c
          ∧ r.2.mem ((c.tc : Thread Cert.KAdamGateBIdeal.nD Cert.KAdamGateBIdeal.τ).loc Cert.KAdamGateBIdeal.main_v0_1) = v1 c
          ∧ r.2.mem ((c.tc : Thread Cert.KAdamGateBIdeal.nD Cert.KAdamGateBIdeal.τ).loc Cert.KAdamGateBIdeal.main_v0_2) = v2 c
          ∧ r.2.mem ((c.tc : Thread Cert.KAdamGateBIdeal.nD Cert.KAdamGateBIdeal.τ).loc Cert.KAdamGateBIdeal.main_v0_3) = v3 c
          ∧ r.2.mem ((c.tc : Thread Cert.KAdamGateBIdeal.nD Cert.KAdamGateBIdeal.τ).loc Cert.KAdamGateBIdeal.main_arg0) = m ((c.tc : Thread Cert.KAdamGateBIdeal.nD Cert.KAdamGateBIdeal.τ).loc Cert.KAdamGateBIdeal.main_arg0)
          ∧ r.2.mem ((c.tc : Thread Cert.KAdamGateBIdeal.nD Cert.KAdamGateBIdeal.τ).loc Cert.KAdamGateBIdeal.main_arg1) = m ((c.tc : Thread Cert.KAdamGateBIdeal.nD Cert.KAdamGateBIdeal.τ).loc Cert.KAdamGateBIdeal.main_arg1)
          ∧ r.2.mem ((c.tc : Thread Cert.KAdamGateBIdeal.nD Cert.KAdamGateBIdeal.τ).loc Cert.KAdamGateBIdeal.main_arg2) = m ((c.tc : Thread Cert.KAdamGateBIdeal.nD Cert.KAdamGateBIdeal.τ).loc Cert.KAdamGateBIdeal.main_arg2)
          ∧ r.2.mem ((c.tc : Thread Cert.KAdamGateBIdeal.nD Cert.KAdamGateBIdeal.τ).loc Cert.KAdamGateBIdeal.main_arg3) = m ((c.tc : Thread Cert.KAdamGateBIdeal.nD Cert.KAdamGateBIdeal.τ).loc Cert.KAdamGateBIdeal.main_arg3))
      ∧ θ_run (Cert.RAdamGateBIdeal.defs (F := Ideal)) (onTc (τ := Cert.RAdamGateBIdeal.τ) (Cert.RAdamGateBIdeal.main (F := Ideal))) ⟨m', fun _ => 0, g'⟩ (fun r => ∀ c : Dev Cert.RAdamGateBIdeal.nD,
          r.2.mem ((c.tc : Thread Cert.RAdamGateBIdeal.nD Cert.RAdamGateBIdeal.τ).loc Cert.RAdamGateBIdeal.main_v1) = v0 c
          ∧ r.2.mem ((c.tc : Thread Cert.RAdamGateBIdeal.nD Cert.RAdamGateBIdeal.τ).loc Cert.RAdamGateBIdeal.main_v25) = v1 c
          ∧ r.2.mem ((c.tc : Thread Cert.RAdamGateBIdeal.nD Cert.RAdamGateBIdeal.τ).loc Cert.RAdamGateBIdeal.main_v6) = v2 c
          ∧ r.2.mem ((c.tc : Thread Cert.RAdamGateBIdeal.nD Cert.RAdamGateBIdeal.τ).loc Cert.RAdamGateBIdeal.main_v12) = v3 c
          ∧ r.2.mem ((c.tc : Thread Cert.RAdamGateBIdeal.nD Cert.RAdamGateBIdeal.τ).loc Cert.RAdamGateBIdeal.main_arg0) = m' ((c.tc : Thread Cert.RAdamGateBIdeal.nD Cert.RAdamGateBIdeal.τ).loc Cert.RAdamGateBIdeal.main_arg0)
          ∧ r.2.mem ((c.tc : Thread Cert.RAdamGateBIdeal.nD Cert.RAdamGateBIdeal.τ).loc Cert.RAdamGateBIdeal.main_arg1) = m' ((c.tc : Thread Cert.RAdamGateBIdeal.nD Cert.RAdamGateBIdeal.τ).loc Cert.RAdamGateBIdeal.main_arg1)
          ∧ r.2.mem ((c.tc : Thread Cert.RAdamGateBIdeal.nD Cert.RAdamGateBIdeal.τ).loc Cert.RAdamGateBIdeal.main_arg2) = m' ((c.tc : Thread Cert.RAdamGateBIdeal.nD Cert.RAdamGateBIdeal.τ).loc Cert.RAdamGateBIdeal.main_arg2)
          ∧ r.2.mem ((c.tc : Thread Cert.RAdamGateBIdeal.nD Cert.RAdamGateBIdeal.τ).loc Cert.RAdamGateBIdeal.main_arg3) = m' ((c.tc : Thread Cert.RAdamGateBIdeal.nD Cert.RAdamGateBIdeal.τ).loc Cert.RAdamGateBIdeal.main_arg3))

def preserves_KAdamGlaNorm_KAdamGlaNormIdeal : Prop :=
  True

def algebraic_KAdamGlaNormIdeal_RAdamGlaNormIdeal [hKAdamGlaNormIdeal : Cert.KAdamGlaNormIdeal.Facts] [hRAdamGlaNormIdeal : Cert.RAdamGlaNormIdeal.Facts] : Prop :=
  ∀ (m : (ℓ : Loc Cert.KAdamGlaNormIdeal.nD Cert.KAdamGlaNormIdeal.τ Cert.KAdamGlaNormIdeal.sig) → Buf (Elt Ideal) ℓ) (g : Dev Cert.KAdamGlaNormIdeal.nD → PrngReg)
    (m' : (ℓ : Loc Cert.RAdamGlaNormIdeal.nD Cert.RAdamGlaNormIdeal.τ Cert.RAdamGlaNormIdeal.sig) → Buf (Elt Ideal) ℓ) (g' : Dev Cert.RAdamGlaNormIdeal.nD → PrngReg), Pre_KAdamGlaNormIdeal m →
    (∀ c : Dev Cert.KAdamGlaNormIdeal.nD,
      m' ((c.tc : Thread Cert.RAdamGlaNormIdeal.nD Cert.RAdamGlaNormIdeal.τ).loc Cert.RAdamGlaNormIdeal.main_arg0) = m ((c.tc : Thread Cert.KAdamGlaNormIdeal.nD Cert.KAdamGlaNormIdeal.τ).loc Cert.KAdamGlaNormIdeal.main_arg0)
      ∧ m' ((c.tc : Thread Cert.RAdamGlaNormIdeal.nD Cert.RAdamGlaNormIdeal.τ).loc Cert.RAdamGlaNormIdeal.main_arg1) = m ((c.tc : Thread Cert.KAdamGlaNormIdeal.nD Cert.KAdamGlaNormIdeal.τ).loc Cert.KAdamGlaNormIdeal.main_arg1)
      ∧ m' ((c.tc : Thread Cert.RAdamGlaNormIdeal.nD Cert.RAdamGlaNormIdeal.τ).loc Cert.RAdamGlaNormIdeal.main_arg2) = m ((c.tc : Thread Cert.KAdamGlaNormIdeal.nD Cert.KAdamGlaNormIdeal.τ).loc Cert.KAdamGlaNormIdeal.main_arg2)
      ∧ m' ((c.tc : Thread Cert.RAdamGlaNormIdeal.nD Cert.RAdamGlaNormIdeal.τ).loc Cert.RAdamGlaNormIdeal.main_arg3) = m ((c.tc : Thread Cert.KAdamGlaNormIdeal.nD Cert.KAdamGlaNormIdeal.τ).loc Cert.KAdamGlaNormIdeal.main_arg3)) →
    ∃ (v0 : (c : Dev Cert.KAdamGlaNormIdeal.nD) → Buf (Elt Ideal) ((c.tc : Thread Cert.KAdamGlaNormIdeal.nD Cert.KAdamGlaNormIdeal.τ).loc Cert.KAdamGlaNormIdeal.main_v0_0)) (v1 : (c : Dev Cert.KAdamGlaNormIdeal.nD) → Buf (Elt Ideal) ((c.tc : Thread Cert.KAdamGlaNormIdeal.nD Cert.KAdamGlaNormIdeal.τ).loc Cert.KAdamGlaNormIdeal.main_v0_1)) (v2 : (c : Dev Cert.KAdamGlaNormIdeal.nD) → Buf (Elt Ideal) ((c.tc : Thread Cert.KAdamGlaNormIdeal.nD Cert.KAdamGlaNormIdeal.τ).loc Cert.KAdamGlaNormIdeal.main_v0_2)) (v3 : (c : Dev Cert.KAdamGlaNormIdeal.nD) → Buf (Elt Ideal) ((c.tc : Thread Cert.KAdamGlaNormIdeal.nD Cert.KAdamGlaNormIdeal.τ).loc Cert.KAdamGlaNormIdeal.main_v0_3)),
      θ_run (Cert.KAdamGlaNormIdeal.defs (F := Ideal)) (onTc (τ := Cert.KAdamGlaNormIdeal.τ) (Cert.KAdamGlaNormIdeal.main (F := Ideal))) ⟨m, fun _ => 0, g⟩ (fun r => ∀ c : Dev Cert.KAdamGlaNormIdeal.nD,
          r.2.mem ((c.tc : Thread Cert.KAdamGlaNormIdeal.nD Cert.KAdamGlaNormIdeal.τ).loc Cert.KAdamGlaNormIdeal.main_v0_0) = v0 c
          ∧ r.2.mem ((c.tc : Thread Cert.KAdamGlaNormIdeal.nD Cert.KAdamGlaNormIdeal.τ).loc Cert.KAdamGlaNormIdeal.main_v0_1) = v1 c
          ∧ r.2.mem ((c.tc : Thread Cert.KAdamGlaNormIdeal.nD Cert.KAdamGlaNormIdeal.τ).loc Cert.KAdamGlaNormIdeal.main_v0_2) = v2 c
          ∧ r.2.mem ((c.tc : Thread Cert.KAdamGlaNormIdeal.nD Cert.KAdamGlaNormIdeal.τ).loc Cert.KAdamGlaNormIdeal.main_v0_3) = v3 c
          ∧ r.2.mem ((c.tc : Thread Cert.KAdamGlaNormIdeal.nD Cert.KAdamGlaNormIdeal.τ).loc Cert.KAdamGlaNormIdeal.main_arg0) = m ((c.tc : Thread Cert.KAdamGlaNormIdeal.nD Cert.KAdamGlaNormIdeal.τ).loc Cert.KAdamGlaNormIdeal.main_arg0)
          ∧ r.2.mem ((c.tc : Thread Cert.KAdamGlaNormIdeal.nD Cert.KAdamGlaNormIdeal.τ).loc Cert.KAdamGlaNormIdeal.main_arg1) = m ((c.tc : Thread Cert.KAdamGlaNormIdeal.nD Cert.KAdamGlaNormIdeal.τ).loc Cert.KAdamGlaNormIdeal.main_arg1)
          ∧ r.2.mem ((c.tc : Thread Cert.KAdamGlaNormIdeal.nD Cert.KAdamGlaNormIdeal.τ).loc Cert.KAdamGlaNormIdeal.main_arg2) = m ((c.tc : Thread Cert.KAdamGlaNormIdeal.nD Cert.KAdamGlaNormIdeal.τ).loc Cert.KAdamGlaNormIdeal.main_arg2)
          ∧ r.2.mem ((c.tc : Thread Cert.KAdamGlaNormIdeal.nD Cert.KAdamGlaNormIdeal.τ).loc Cert.KAdamGlaNormIdeal.main_arg3) = m ((c.tc : Thread Cert.KAdamGlaNormIdeal.nD Cert.KAdamGlaNormIdeal.τ).loc Cert.KAdamGlaNormIdeal.main_arg3))
      ∧ θ_run (Cert.RAdamGlaNormIdeal.defs (F := Ideal)) (onTc (τ := Cert.RAdamGlaNormIdeal.τ) (Cert.RAdamGlaNormIdeal.main (F := Ideal))) ⟨m', fun _ => 0, g'⟩ (fun r => ∀ c : Dev Cert.RAdamGlaNormIdeal.nD,
          r.2.mem ((c.tc : Thread Cert.RAdamGlaNormIdeal.nD Cert.RAdamGlaNormIdeal.τ).loc Cert.RAdamGlaNormIdeal.main_v1) = v0 c
          ∧ r.2.mem ((c.tc : Thread Cert.RAdamGlaNormIdeal.nD Cert.RAdamGlaNormIdeal.τ).loc Cert.RAdamGlaNormIdeal.main_v25) = v1 c
          ∧ r.2.mem ((c.tc : Thread Cert.RAdamGlaNormIdeal.nD Cert.RAdamGlaNormIdeal.τ).loc Cert.RAdamGlaNormIdeal.main_v6) = v2 c
          ∧ r.2.mem ((c.tc : Thread Cert.RAdamGlaNormIdeal.nD Cert.RAdamGlaNormIdeal.τ).loc Cert.RAdamGlaNormIdeal.main_v12) = v3 c
          ∧ r.2.mem ((c.tc : Thread Cert.RAdamGlaNormIdeal.nD Cert.RAdamGlaNormIdeal.τ).loc Cert.RAdamGlaNormIdeal.main_arg0) = m' ((c.tc : Thread Cert.RAdamGlaNormIdeal.nD Cert.RAdamGlaNormIdeal.τ).loc Cert.RAdamGlaNormIdeal.main_arg0)
          ∧ r.2.mem ((c.tc : Thread Cert.RAdamGlaNormIdeal.nD Cert.RAdamGlaNormIdeal.τ).loc Cert.RAdamGlaNormIdeal.main_arg1) = m' ((c.tc : Thread Cert.RAdamGlaNormIdeal.nD Cert.RAdamGlaNormIdeal.τ).loc Cert.RAdamGlaNormIdeal.main_arg1)
          ∧ r.2.mem ((c.tc : Thread Cert.RAdamGlaNormIdeal.nD Cert.RAdamGlaNormIdeal.τ).loc Cert.RAdamGlaNormIdeal.main_arg2) = m' ((c.tc : Thread Cert.RAdamGlaNormIdeal.nD Cert.RAdamGlaNormIdeal.τ).loc Cert.RAdamGlaNormIdeal.main_arg2)
          ∧ r.2.mem ((c.tc : Thread Cert.RAdamGlaNormIdeal.nD Cert.RAdamGlaNormIdeal.τ).loc Cert.RAdamGlaNormIdeal.main_arg3) = m' ((c.tc : Thread Cert.RAdamGlaNormIdeal.nD Cert.RAdamGlaNormIdeal.τ).loc Cert.RAdamGlaNormIdeal.main_arg3))

def preserves_KAdamConvW_KAdamConvWIdeal : Prop :=
  True

def algebraic_KAdamConvWIdeal_RAdamConvWIdeal [hKAdamConvWIdeal : Cert.KAdamConvWIdeal.Facts] [hRAdamConvWIdeal : Cert.RAdamConvWIdeal.Facts] : Prop :=
  ∀ (m : (ℓ : Loc Cert.KAdamConvWIdeal.nD Cert.KAdamConvWIdeal.τ Cert.KAdamConvWIdeal.sig) → Buf (Elt Ideal) ℓ) (g : Dev Cert.KAdamConvWIdeal.nD → PrngReg)
    (m' : (ℓ : Loc Cert.RAdamConvWIdeal.nD Cert.RAdamConvWIdeal.τ Cert.RAdamConvWIdeal.sig) → Buf (Elt Ideal) ℓ) (g' : Dev Cert.RAdamConvWIdeal.nD → PrngReg), Pre_KAdamConvWIdeal m →
    (∀ c : Dev Cert.KAdamConvWIdeal.nD,
      m' ((c.tc : Thread Cert.RAdamConvWIdeal.nD Cert.RAdamConvWIdeal.τ).loc Cert.RAdamConvWIdeal.main_arg0) = m ((c.tc : Thread Cert.KAdamConvWIdeal.nD Cert.KAdamConvWIdeal.τ).loc Cert.KAdamConvWIdeal.main_arg0)
      ∧ m' ((c.tc : Thread Cert.RAdamConvWIdeal.nD Cert.RAdamConvWIdeal.τ).loc Cert.RAdamConvWIdeal.main_arg1) = m ((c.tc : Thread Cert.KAdamConvWIdeal.nD Cert.KAdamConvWIdeal.τ).loc Cert.KAdamConvWIdeal.main_arg1)
      ∧ m' ((c.tc : Thread Cert.RAdamConvWIdeal.nD Cert.RAdamConvWIdeal.τ).loc Cert.RAdamConvWIdeal.main_arg2) = m ((c.tc : Thread Cert.KAdamConvWIdeal.nD Cert.KAdamConvWIdeal.τ).loc Cert.KAdamConvWIdeal.main_arg2)
      ∧ m' ((c.tc : Thread Cert.RAdamConvWIdeal.nD Cert.RAdamConvWIdeal.τ).loc Cert.RAdamConvWIdeal.main_arg3) = m ((c.tc : Thread Cert.KAdamConvWIdeal.nD Cert.KAdamConvWIdeal.τ).loc Cert.KAdamConvWIdeal.main_arg3)) →
    ∃ (v0 : (c : Dev Cert.KAdamConvWIdeal.nD) → Buf (Elt Ideal) ((c.tc : Thread Cert.KAdamConvWIdeal.nD Cert.KAdamConvWIdeal.τ).loc Cert.KAdamConvWIdeal.main_v0_0)) (v1 : (c : Dev Cert.KAdamConvWIdeal.nD) → Buf (Elt Ideal) ((c.tc : Thread Cert.KAdamConvWIdeal.nD Cert.KAdamConvWIdeal.τ).loc Cert.KAdamConvWIdeal.main_v0_1)) (v2 : (c : Dev Cert.KAdamConvWIdeal.nD) → Buf (Elt Ideal) ((c.tc : Thread Cert.KAdamConvWIdeal.nD Cert.KAdamConvWIdeal.τ).loc Cert.KAdamConvWIdeal.main_v0_2)) (v3 : (c : Dev Cert.KAdamConvWIdeal.nD) → Buf (Elt Ideal) ((c.tc : Thread Cert.KAdamConvWIdeal.nD Cert.KAdamConvWIdeal.τ).loc Cert.KAdamConvWIdeal.main_v0_3)),
      θ_run (Cert.KAdamConvWIdeal.defs (F := Ideal)) (onTc (τ := Cert.KAdamConvWIdeal.τ) (Cert.KAdamConvWIdeal.main (F := Ideal))) ⟨m, fun _ => 0, g⟩ (fun r => ∀ c : Dev Cert.KAdamConvWIdeal.nD,
          r.2.mem ((c.tc : Thread Cert.KAdamConvWIdeal.nD Cert.KAdamConvWIdeal.τ).loc Cert.KAdamConvWIdeal.main_v0_0) = v0 c
          ∧ r.2.mem ((c.tc : Thread Cert.KAdamConvWIdeal.nD Cert.KAdamConvWIdeal.τ).loc Cert.KAdamConvWIdeal.main_v0_1) = v1 c
          ∧ r.2.mem ((c.tc : Thread Cert.KAdamConvWIdeal.nD Cert.KAdamConvWIdeal.τ).loc Cert.KAdamConvWIdeal.main_v0_2) = v2 c
          ∧ r.2.mem ((c.tc : Thread Cert.KAdamConvWIdeal.nD Cert.KAdamConvWIdeal.τ).loc Cert.KAdamConvWIdeal.main_v0_3) = v3 c
          ∧ r.2.mem ((c.tc : Thread Cert.KAdamConvWIdeal.nD Cert.KAdamConvWIdeal.τ).loc Cert.KAdamConvWIdeal.main_arg0) = m ((c.tc : Thread Cert.KAdamConvWIdeal.nD Cert.KAdamConvWIdeal.τ).loc Cert.KAdamConvWIdeal.main_arg0)
          ∧ r.2.mem ((c.tc : Thread Cert.KAdamConvWIdeal.nD Cert.KAdamConvWIdeal.τ).loc Cert.KAdamConvWIdeal.main_arg1) = m ((c.tc : Thread Cert.KAdamConvWIdeal.nD Cert.KAdamConvWIdeal.τ).loc Cert.KAdamConvWIdeal.main_arg1)
          ∧ r.2.mem ((c.tc : Thread Cert.KAdamConvWIdeal.nD Cert.KAdamConvWIdeal.τ).loc Cert.KAdamConvWIdeal.main_arg2) = m ((c.tc : Thread Cert.KAdamConvWIdeal.nD Cert.KAdamConvWIdeal.τ).loc Cert.KAdamConvWIdeal.main_arg2)
          ∧ r.2.mem ((c.tc : Thread Cert.KAdamConvWIdeal.nD Cert.KAdamConvWIdeal.τ).loc Cert.KAdamConvWIdeal.main_arg3) = m ((c.tc : Thread Cert.KAdamConvWIdeal.nD Cert.KAdamConvWIdeal.τ).loc Cert.KAdamConvWIdeal.main_arg3))
      ∧ θ_run (Cert.RAdamConvWIdeal.defs (F := Ideal)) (onTc (τ := Cert.RAdamConvWIdeal.τ) (Cert.RAdamConvWIdeal.main (F := Ideal))) ⟨m', fun _ => 0, g'⟩ (fun r => ∀ c : Dev Cert.RAdamConvWIdeal.nD,
          r.2.mem ((c.tc : Thread Cert.RAdamConvWIdeal.nD Cert.RAdamConvWIdeal.τ).loc Cert.RAdamConvWIdeal.main_v1) = v0 c
          ∧ r.2.mem ((c.tc : Thread Cert.RAdamConvWIdeal.nD Cert.RAdamConvWIdeal.τ).loc Cert.RAdamConvWIdeal.main_v25) = v1 c
          ∧ r.2.mem ((c.tc : Thread Cert.RAdamConvWIdeal.nD Cert.RAdamConvWIdeal.τ).loc Cert.RAdamConvWIdeal.main_v6) = v2 c
          ∧ r.2.mem ((c.tc : Thread Cert.RAdamConvWIdeal.nD Cert.RAdamConvWIdeal.τ).loc Cert.RAdamConvWIdeal.main_v12) = v3 c
          ∧ r.2.mem ((c.tc : Thread Cert.RAdamConvWIdeal.nD Cert.RAdamConvWIdeal.τ).loc Cert.RAdamConvWIdeal.main_arg0) = m' ((c.tc : Thread Cert.RAdamConvWIdeal.nD Cert.RAdamConvWIdeal.τ).loc Cert.RAdamConvWIdeal.main_arg0)
          ∧ r.2.mem ((c.tc : Thread Cert.RAdamConvWIdeal.nD Cert.RAdamConvWIdeal.τ).loc Cert.RAdamConvWIdeal.main_arg1) = m' ((c.tc : Thread Cert.RAdamConvWIdeal.nD Cert.RAdamConvWIdeal.τ).loc Cert.RAdamConvWIdeal.main_arg1)
          ∧ r.2.mem ((c.tc : Thread Cert.RAdamConvWIdeal.nD Cert.RAdamConvWIdeal.τ).loc Cert.RAdamConvWIdeal.main_arg2) = m' ((c.tc : Thread Cert.RAdamConvWIdeal.nD Cert.RAdamConvWIdeal.τ).loc Cert.RAdamConvWIdeal.main_arg2)
          ∧ r.2.mem ((c.tc : Thread Cert.RAdamConvWIdeal.nD Cert.RAdamConvWIdeal.τ).loc Cert.RAdamConvWIdeal.main_arg3) = m' ((c.tc : Thread Cert.RAdamConvWIdeal.nD Cert.RAdamConvWIdeal.τ).loc Cert.RAdamConvWIdeal.main_arg3))

def preserves_KAdamFfnConv_KAdamFfnConvIdeal : Prop :=
  True

def algebraic_KAdamFfnConvIdeal_RAdamFfnConvIdeal [hKAdamFfnConvIdeal : Cert.KAdamFfnConvIdeal.Facts] [hRAdamFfnConvIdeal : Cert.RAdamFfnConvIdeal.Facts] : Prop :=
  ∀ (m : (ℓ : Loc Cert.KAdamFfnConvIdeal.nD Cert.KAdamFfnConvIdeal.τ Cert.KAdamFfnConvIdeal.sig) → Buf (Elt Ideal) ℓ) (g : Dev Cert.KAdamFfnConvIdeal.nD → PrngReg)
    (m' : (ℓ : Loc Cert.RAdamFfnConvIdeal.nD Cert.RAdamFfnConvIdeal.τ Cert.RAdamFfnConvIdeal.sig) → Buf (Elt Ideal) ℓ) (g' : Dev Cert.RAdamFfnConvIdeal.nD → PrngReg), Pre_KAdamFfnConvIdeal m →
    (∀ c : Dev Cert.KAdamFfnConvIdeal.nD,
      m' ((c.tc : Thread Cert.RAdamFfnConvIdeal.nD Cert.RAdamFfnConvIdeal.τ).loc Cert.RAdamFfnConvIdeal.main_arg0) = m ((c.tc : Thread Cert.KAdamFfnConvIdeal.nD Cert.KAdamFfnConvIdeal.τ).loc Cert.KAdamFfnConvIdeal.main_arg0)
      ∧ m' ((c.tc : Thread Cert.RAdamFfnConvIdeal.nD Cert.RAdamFfnConvIdeal.τ).loc Cert.RAdamFfnConvIdeal.main_arg1) = m ((c.tc : Thread Cert.KAdamFfnConvIdeal.nD Cert.KAdamFfnConvIdeal.τ).loc Cert.KAdamFfnConvIdeal.main_arg1)
      ∧ m' ((c.tc : Thread Cert.RAdamFfnConvIdeal.nD Cert.RAdamFfnConvIdeal.τ).loc Cert.RAdamFfnConvIdeal.main_arg2) = m ((c.tc : Thread Cert.KAdamFfnConvIdeal.nD Cert.KAdamFfnConvIdeal.τ).loc Cert.KAdamFfnConvIdeal.main_arg2)
      ∧ m' ((c.tc : Thread Cert.RAdamFfnConvIdeal.nD Cert.RAdamFfnConvIdeal.τ).loc Cert.RAdamFfnConvIdeal.main_arg3) = m ((c.tc : Thread Cert.KAdamFfnConvIdeal.nD Cert.KAdamFfnConvIdeal.τ).loc Cert.KAdamFfnConvIdeal.main_arg3)) →
    ∃ (v0 : (c : Dev Cert.KAdamFfnConvIdeal.nD) → Buf (Elt Ideal) ((c.tc : Thread Cert.KAdamFfnConvIdeal.nD Cert.KAdamFfnConvIdeal.τ).loc Cert.KAdamFfnConvIdeal.main_v0_0)) (v1 : (c : Dev Cert.KAdamFfnConvIdeal.nD) → Buf (Elt Ideal) ((c.tc : Thread Cert.KAdamFfnConvIdeal.nD Cert.KAdamFfnConvIdeal.τ).loc Cert.KAdamFfnConvIdeal.main_v0_1)) (v2 : (c : Dev Cert.KAdamFfnConvIdeal.nD) → Buf (Elt Ideal) ((c.tc : Thread Cert.KAdamFfnConvIdeal.nD Cert.KAdamFfnConvIdeal.τ).loc Cert.KAdamFfnConvIdeal.main_v0_2)) (v3 : (c : Dev Cert.KAdamFfnConvIdeal.nD) → Buf (Elt Ideal) ((c.tc : Thread Cert.KAdamFfnConvIdeal.nD Cert.KAdamFfnConvIdeal.τ).loc Cert.KAdamFfnConvIdeal.main_v0_3)),
      θ_run (Cert.KAdamFfnConvIdeal.defs (F := Ideal)) (onTc (τ := Cert.KAdamFfnConvIdeal.τ) (Cert.KAdamFfnConvIdeal.main (F := Ideal))) ⟨m, fun _ => 0, g⟩ (fun r => ∀ c : Dev Cert.KAdamFfnConvIdeal.nD,
          r.2.mem ((c.tc : Thread Cert.KAdamFfnConvIdeal.nD Cert.KAdamFfnConvIdeal.τ).loc Cert.KAdamFfnConvIdeal.main_v0_0) = v0 c
          ∧ r.2.mem ((c.tc : Thread Cert.KAdamFfnConvIdeal.nD Cert.KAdamFfnConvIdeal.τ).loc Cert.KAdamFfnConvIdeal.main_v0_1) = v1 c
          ∧ r.2.mem ((c.tc : Thread Cert.KAdamFfnConvIdeal.nD Cert.KAdamFfnConvIdeal.τ).loc Cert.KAdamFfnConvIdeal.main_v0_2) = v2 c
          ∧ r.2.mem ((c.tc : Thread Cert.KAdamFfnConvIdeal.nD Cert.KAdamFfnConvIdeal.τ).loc Cert.KAdamFfnConvIdeal.main_v0_3) = v3 c
          ∧ r.2.mem ((c.tc : Thread Cert.KAdamFfnConvIdeal.nD Cert.KAdamFfnConvIdeal.τ).loc Cert.KAdamFfnConvIdeal.main_arg0) = m ((c.tc : Thread Cert.KAdamFfnConvIdeal.nD Cert.KAdamFfnConvIdeal.τ).loc Cert.KAdamFfnConvIdeal.main_arg0)
          ∧ r.2.mem ((c.tc : Thread Cert.KAdamFfnConvIdeal.nD Cert.KAdamFfnConvIdeal.τ).loc Cert.KAdamFfnConvIdeal.main_arg1) = m ((c.tc : Thread Cert.KAdamFfnConvIdeal.nD Cert.KAdamFfnConvIdeal.τ).loc Cert.KAdamFfnConvIdeal.main_arg1)
          ∧ r.2.mem ((c.tc : Thread Cert.KAdamFfnConvIdeal.nD Cert.KAdamFfnConvIdeal.τ).loc Cert.KAdamFfnConvIdeal.main_arg2) = m ((c.tc : Thread Cert.KAdamFfnConvIdeal.nD Cert.KAdamFfnConvIdeal.τ).loc Cert.KAdamFfnConvIdeal.main_arg2)
          ∧ r.2.mem ((c.tc : Thread Cert.KAdamFfnConvIdeal.nD Cert.KAdamFfnConvIdeal.τ).loc Cert.KAdamFfnConvIdeal.main_arg3) = m ((c.tc : Thread Cert.KAdamFfnConvIdeal.nD Cert.KAdamFfnConvIdeal.τ).loc Cert.KAdamFfnConvIdeal.main_arg3))
      ∧ θ_run (Cert.RAdamFfnConvIdeal.defs (F := Ideal)) (onTc (τ := Cert.RAdamFfnConvIdeal.τ) (Cert.RAdamFfnConvIdeal.main (F := Ideal))) ⟨m', fun _ => 0, g'⟩ (fun r => ∀ c : Dev Cert.RAdamFfnConvIdeal.nD,
          r.2.mem ((c.tc : Thread Cert.RAdamFfnConvIdeal.nD Cert.RAdamFfnConvIdeal.τ).loc Cert.RAdamFfnConvIdeal.main_v1) = v0 c
          ∧ r.2.mem ((c.tc : Thread Cert.RAdamFfnConvIdeal.nD Cert.RAdamFfnConvIdeal.τ).loc Cert.RAdamFfnConvIdeal.main_v25) = v1 c
          ∧ r.2.mem ((c.tc : Thread Cert.RAdamFfnConvIdeal.nD Cert.RAdamFfnConvIdeal.τ).loc Cert.RAdamFfnConvIdeal.main_v6) = v2 c
          ∧ r.2.mem ((c.tc : Thread Cert.RAdamFfnConvIdeal.nD Cert.RAdamFfnConvIdeal.τ).loc Cert.RAdamFfnConvIdeal.main_v12) = v3 c
          ∧ r.2.mem ((c.tc : Thread Cert.RAdamFfnConvIdeal.nD Cert.RAdamFfnConvIdeal.τ).loc Cert.RAdamFfnConvIdeal.main_arg0) = m' ((c.tc : Thread Cert.RAdamFfnConvIdeal.nD Cert.RAdamFfnConvIdeal.τ).loc Cert.RAdamFfnConvIdeal.main_arg0)
          ∧ r.2.mem ((c.tc : Thread Cert.RAdamFfnConvIdeal.nD Cert.RAdamFfnConvIdeal.τ).loc Cert.RAdamFfnConvIdeal.main_arg1) = m' ((c.tc : Thread Cert.RAdamFfnConvIdeal.nD Cert.RAdamFfnConvIdeal.τ).loc Cert.RAdamFfnConvIdeal.main_arg1)
          ∧ r.2.mem ((c.tc : Thread Cert.RAdamFfnConvIdeal.nD Cert.RAdamFfnConvIdeal.τ).loc Cert.RAdamFfnConvIdeal.main_arg2) = m' ((c.tc : Thread Cert.RAdamFfnConvIdeal.nD Cert.RAdamFfnConvIdeal.τ).loc Cert.RAdamFfnConvIdeal.main_arg2)
          ∧ r.2.mem ((c.tc : Thread Cert.RAdamFfnConvIdeal.nD Cert.RAdamFfnConvIdeal.τ).loc Cert.RAdamFfnConvIdeal.main_arg3) = m' ((c.tc : Thread Cert.RAdamFfnConvIdeal.nD Cert.RAdamFfnConvIdeal.τ).loc Cert.RAdamFfnConvIdeal.main_arg3))

def preserves_KAdamO_KAdamOIdeal : Prop :=
  True

def algebraic_KAdamOIdeal_RAdamOIdeal [hKAdamOIdeal : Cert.KAdamOIdeal.Facts] [hRAdamOIdeal : Cert.RAdamOIdeal.Facts] : Prop :=
  ∀ (m : (ℓ : Loc Cert.KAdamOIdeal.nD Cert.KAdamOIdeal.τ Cert.KAdamOIdeal.sig) → Buf (Elt Ideal) ℓ) (g : Dev Cert.KAdamOIdeal.nD → PrngReg)
    (m' : (ℓ : Loc Cert.RAdamOIdeal.nD Cert.RAdamOIdeal.τ Cert.RAdamOIdeal.sig) → Buf (Elt Ideal) ℓ) (g' : Dev Cert.RAdamOIdeal.nD → PrngReg), Pre_KAdamOIdeal m →
    (∀ c : Dev Cert.KAdamOIdeal.nD,
      m' ((c.tc : Thread Cert.RAdamOIdeal.nD Cert.RAdamOIdeal.τ).loc Cert.RAdamOIdeal.main_arg0) = m ((c.tc : Thread Cert.KAdamOIdeal.nD Cert.KAdamOIdeal.τ).loc Cert.KAdamOIdeal.main_arg0)
      ∧ m' ((c.tc : Thread Cert.RAdamOIdeal.nD Cert.RAdamOIdeal.τ).loc Cert.RAdamOIdeal.main_arg1) = m ((c.tc : Thread Cert.KAdamOIdeal.nD Cert.KAdamOIdeal.τ).loc Cert.KAdamOIdeal.main_arg1)
      ∧ m' ((c.tc : Thread Cert.RAdamOIdeal.nD Cert.RAdamOIdeal.τ).loc Cert.RAdamOIdeal.main_arg2) = m ((c.tc : Thread Cert.KAdamOIdeal.nD Cert.KAdamOIdeal.τ).loc Cert.KAdamOIdeal.main_arg2)
      ∧ m' ((c.tc : Thread Cert.RAdamOIdeal.nD Cert.RAdamOIdeal.τ).loc Cert.RAdamOIdeal.main_arg3) = m ((c.tc : Thread Cert.KAdamOIdeal.nD Cert.KAdamOIdeal.τ).loc Cert.KAdamOIdeal.main_arg3)
      ∧ m' ((c.tc : Thread Cert.RAdamOIdeal.nD Cert.RAdamOIdeal.τ).loc Cert.RAdamOIdeal.main_arg4) = m ((c.tc : Thread Cert.KAdamOIdeal.nD Cert.KAdamOIdeal.τ).loc Cert.KAdamOIdeal.main_arg4)) →
    ∃ (v0 : (c : Dev Cert.KAdamOIdeal.nD) → Buf (Elt Ideal) ((c.tc : Thread Cert.KAdamOIdeal.nD Cert.KAdamOIdeal.τ).loc Cert.KAdamOIdeal.main_v0_0)) (v1 : (c : Dev Cert.KAdamOIdeal.nD) → Buf (Elt Ideal) ((c.tc : Thread Cert.KAdamOIdeal.nD Cert.KAdamOIdeal.τ).loc Cert.KAdamOIdeal.main_v0_1)) (v2 : (c : Dev Cert.KAdamOIdeal.nD) → Buf (Elt Ideal) ((c.tc : Thread Cert.KAdamOIdeal.nD Cert.KAdamOIdeal.τ).loc Cert.KAdamOIdeal.main_v0_2)) (v3 : (c : Dev Cert.KAdamOIdeal.nD) → Buf (Elt Ideal) ((c.tc : Thread Cert.KAdamOIdeal.nD Cert.KAdamOIdeal.τ).loc Cert.KAdamOIdeal.main_v0_3)),
      θ_run (Cert.KAdamOIdeal.defs (F := Ideal)) (onTc (τ := Cert.KAdamOIdeal.τ) (Cert.KAdamOIdeal.main (F := Ideal))) ⟨m, fun _ => 0, g⟩ (fun r => ∀ c : Dev Cert.KAdamOIdeal.nD,
          r.2.mem ((c.tc : Thread Cert.KAdamOIdeal.nD Cert.KAdamOIdeal.τ).loc Cert.KAdamOIdeal.main_v0_0) = v0 c
          ∧ r.2.mem ((c.tc : Thread Cert.KAdamOIdeal.nD Cert.KAdamOIdeal.τ).loc Cert.KAdamOIdeal.main_v0_1) = v1 c
          ∧ r.2.mem ((c.tc : Thread Cert.KAdamOIdeal.nD Cert.KAdamOIdeal.τ).loc Cert.KAdamOIdeal.main_v0_2) = v2 c
          ∧ r.2.mem ((c.tc : Thread Cert.KAdamOIdeal.nD Cert.KAdamOIdeal.τ).loc Cert.KAdamOIdeal.main_v0_3) = v3 c
          ∧ r.2.mem ((c.tc : Thread Cert.KAdamOIdeal.nD Cert.KAdamOIdeal.τ).loc Cert.KAdamOIdeal.main_arg0) = m ((c.tc : Thread Cert.KAdamOIdeal.nD Cert.KAdamOIdeal.τ).loc Cert.KAdamOIdeal.main_arg0)
          ∧ r.2.mem ((c.tc : Thread Cert.KAdamOIdeal.nD Cert.KAdamOIdeal.τ).loc Cert.KAdamOIdeal.main_arg1) = m ((c.tc : Thread Cert.KAdamOIdeal.nD Cert.KAdamOIdeal.τ).loc Cert.KAdamOIdeal.main_arg1)
          ∧ r.2.mem ((c.tc : Thread Cert.KAdamOIdeal.nD Cert.KAdamOIdeal.τ).loc Cert.KAdamOIdeal.main_arg2) = m ((c.tc : Thread Cert.KAdamOIdeal.nD Cert.KAdamOIdeal.τ).loc Cert.KAdamOIdeal.main_arg2)
          ∧ r.2.mem ((c.tc : Thread Cert.KAdamOIdeal.nD Cert.KAdamOIdeal.τ).loc Cert.KAdamOIdeal.main_arg3) = m ((c.tc : Thread Cert.KAdamOIdeal.nD Cert.KAdamOIdeal.τ).loc Cert.KAdamOIdeal.main_arg3)
          ∧ r.2.mem ((c.tc : Thread Cert.KAdamOIdeal.nD Cert.KAdamOIdeal.τ).loc Cert.KAdamOIdeal.main_arg4) = m ((c.tc : Thread Cert.KAdamOIdeal.nD Cert.KAdamOIdeal.τ).loc Cert.KAdamOIdeal.main_arg4))
      ∧ θ_run (Cert.RAdamOIdeal.defs (F := Ideal)) (onTc (τ := Cert.RAdamOIdeal.τ) (Cert.RAdamOIdeal.main (F := Ideal))) ⟨m', fun _ => 0, g'⟩ (fun r => ∀ c : Dev Cert.RAdamOIdeal.nD,
          r.2.mem ((c.tc : Thread Cert.RAdamOIdeal.nD Cert.RAdamOIdeal.τ).loc Cert.RAdamOIdeal.main_v6) = v0 c
          ∧ r.2.mem ((c.tc : Thread Cert.RAdamOIdeal.nD Cert.RAdamOIdeal.τ).loc Cert.RAdamOIdeal.main_v30) = v1 c
          ∧ r.2.mem ((c.tc : Thread Cert.RAdamOIdeal.nD Cert.RAdamOIdeal.τ).loc Cert.RAdamOIdeal.main_v11) = v2 c
          ∧ r.2.mem ((c.tc : Thread Cert.RAdamOIdeal.nD Cert.RAdamOIdeal.τ).loc Cert.RAdamOIdeal.main_v17) = v3 c
          ∧ r.2.mem ((c.tc : Thread Cert.RAdamOIdeal.nD Cert.RAdamOIdeal.τ).loc Cert.RAdamOIdeal.main_arg0) = m' ((c.tc : Thread Cert.RAdamOIdeal.nD Cert.RAdamOIdeal.τ).loc Cert.RAdamOIdeal.main_arg0)
          ∧ r.2.mem ((c.tc : Thread Cert.RAdamOIdeal.nD Cert.RAdamOIdeal.τ).loc Cert.RAdamOIdeal.main_arg1) = m' ((c.tc : Thread Cert.RAdamOIdeal.nD Cert.RAdamOIdeal.τ).loc Cert.RAdamOIdeal.main_arg1)
          ∧ r.2.mem ((c.tc : Thread Cert.RAdamOIdeal.nD Cert.RAdamOIdeal.τ).loc Cert.RAdamOIdeal.main_arg2) = m' ((c.tc : Thread Cert.RAdamOIdeal.nD Cert.RAdamOIdeal.τ).loc Cert.RAdamOIdeal.main_arg2)
          ∧ r.2.mem ((c.tc : Thread Cert.RAdamOIdeal.nD Cert.RAdamOIdeal.τ).loc Cert.RAdamOIdeal.main_arg3) = m' ((c.tc : Thread Cert.RAdamOIdeal.nD Cert.RAdamOIdeal.τ).loc Cert.RAdamOIdeal.main_arg3)
          ∧ r.2.mem ((c.tc : Thread Cert.RAdamOIdeal.nD Cert.RAdamOIdeal.τ).loc Cert.RAdamOIdeal.main_arg4) = m' ((c.tc : Thread Cert.RAdamOIdeal.nD Cert.RAdamOIdeal.τ).loc Cert.RAdamOIdeal.main_arg4))

def preserves_KAdamDown_KAdamDownIdeal : Prop :=
  True

def algebraic_KAdamDownIdeal_RAdamDownIdeal [hKAdamDownIdeal : Cert.KAdamDownIdeal.Facts] [hRAdamDownIdeal : Cert.RAdamDownIdeal.Facts] : Prop :=
  ∀ (m : (ℓ : Loc Cert.KAdamDownIdeal.nD Cert.KAdamDownIdeal.τ Cert.KAdamDownIdeal.sig) → Buf (Elt Ideal) ℓ) (g : Dev Cert.KAdamDownIdeal.nD → PrngReg)
    (m' : (ℓ : Loc Cert.RAdamDownIdeal.nD Cert.RAdamDownIdeal.τ Cert.RAdamDownIdeal.sig) → Buf (Elt Ideal) ℓ) (g' : Dev Cert.RAdamDownIdeal.nD → PrngReg), Pre_KAdamDownIdeal m →
    (∀ c : Dev Cert.KAdamDownIdeal.nD,
      m' ((c.tc : Thread Cert.RAdamDownIdeal.nD Cert.RAdamDownIdeal.τ).loc Cert.RAdamDownIdeal.main_arg0) = m ((c.tc : Thread Cert.KAdamDownIdeal.nD Cert.KAdamDownIdeal.τ).loc Cert.KAdamDownIdeal.main_arg0)
      ∧ m' ((c.tc : Thread Cert.RAdamDownIdeal.nD Cert.RAdamDownIdeal.τ).loc Cert.RAdamDownIdeal.main_arg1) = m ((c.tc : Thread Cert.KAdamDownIdeal.nD Cert.KAdamDownIdeal.τ).loc Cert.KAdamDownIdeal.main_arg1)
      ∧ m' ((c.tc : Thread Cert.RAdamDownIdeal.nD Cert.RAdamDownIdeal.τ).loc Cert.RAdamDownIdeal.main_arg2) = m ((c.tc : Thread Cert.KAdamDownIdeal.nD Cert.KAdamDownIdeal.τ).loc Cert.KAdamDownIdeal.main_arg2)
      ∧ m' ((c.tc : Thread Cert.RAdamDownIdeal.nD Cert.RAdamDownIdeal.τ).loc Cert.RAdamDownIdeal.main_arg3) = m ((c.tc : Thread Cert.KAdamDownIdeal.nD Cert.KAdamDownIdeal.τ).loc Cert.KAdamDownIdeal.main_arg3)
      ∧ m' ((c.tc : Thread Cert.RAdamDownIdeal.nD Cert.RAdamDownIdeal.τ).loc Cert.RAdamDownIdeal.main_arg4) = m ((c.tc : Thread Cert.KAdamDownIdeal.nD Cert.KAdamDownIdeal.τ).loc Cert.KAdamDownIdeal.main_arg4)) →
    ∃ (v0 : (c : Dev Cert.KAdamDownIdeal.nD) → Buf (Elt Ideal) ((c.tc : Thread Cert.KAdamDownIdeal.nD Cert.KAdamDownIdeal.τ).loc Cert.KAdamDownIdeal.main_v0_0)) (v1 : (c : Dev Cert.KAdamDownIdeal.nD) → Buf (Elt Ideal) ((c.tc : Thread Cert.KAdamDownIdeal.nD Cert.KAdamDownIdeal.τ).loc Cert.KAdamDownIdeal.main_v0_1)) (v2 : (c : Dev Cert.KAdamDownIdeal.nD) → Buf (Elt Ideal) ((c.tc : Thread Cert.KAdamDownIdeal.nD Cert.KAdamDownIdeal.τ).loc Cert.KAdamDownIdeal.main_v0_2)) (v3 : (c : Dev Cert.KAdamDownIdeal.nD) → Buf (Elt Ideal) ((c.tc : Thread Cert.KAdamDownIdeal.nD Cert.KAdamDownIdeal.τ).loc Cert.KAdamDownIdeal.main_v0_3)),
      θ_run (Cert.KAdamDownIdeal.defs (F := Ideal)) (onTc (τ := Cert.KAdamDownIdeal.τ) (Cert.KAdamDownIdeal.main (F := Ideal))) ⟨m, fun _ => 0, g⟩ (fun r => ∀ c : Dev Cert.KAdamDownIdeal.nD,
          r.2.mem ((c.tc : Thread Cert.KAdamDownIdeal.nD Cert.KAdamDownIdeal.τ).loc Cert.KAdamDownIdeal.main_v0_0) = v0 c
          ∧ r.2.mem ((c.tc : Thread Cert.KAdamDownIdeal.nD Cert.KAdamDownIdeal.τ).loc Cert.KAdamDownIdeal.main_v0_1) = v1 c
          ∧ r.2.mem ((c.tc : Thread Cert.KAdamDownIdeal.nD Cert.KAdamDownIdeal.τ).loc Cert.KAdamDownIdeal.main_v0_2) = v2 c
          ∧ r.2.mem ((c.tc : Thread Cert.KAdamDownIdeal.nD Cert.KAdamDownIdeal.τ).loc Cert.KAdamDownIdeal.main_v0_3) = v3 c
          ∧ r.2.mem ((c.tc : Thread Cert.KAdamDownIdeal.nD Cert.KAdamDownIdeal.τ).loc Cert.KAdamDownIdeal.main_arg0) = m ((c.tc : Thread Cert.KAdamDownIdeal.nD Cert.KAdamDownIdeal.τ).loc Cert.KAdamDownIdeal.main_arg0)
          ∧ r.2.mem ((c.tc : Thread Cert.KAdamDownIdeal.nD Cert.KAdamDownIdeal.τ).loc Cert.KAdamDownIdeal.main_arg1) = m ((c.tc : Thread Cert.KAdamDownIdeal.nD Cert.KAdamDownIdeal.τ).loc Cert.KAdamDownIdeal.main_arg1)
          ∧ r.2.mem ((c.tc : Thread Cert.KAdamDownIdeal.nD Cert.KAdamDownIdeal.τ).loc Cert.KAdamDownIdeal.main_arg2) = m ((c.tc : Thread Cert.KAdamDownIdeal.nD Cert.KAdamDownIdeal.τ).loc Cert.KAdamDownIdeal.main_arg2)
          ∧ r.2.mem ((c.tc : Thread Cert.KAdamDownIdeal.nD Cert.KAdamDownIdeal.τ).loc Cert.KAdamDownIdeal.main_arg3) = m ((c.tc : Thread Cert.KAdamDownIdeal.nD Cert.KAdamDownIdeal.τ).loc Cert.KAdamDownIdeal.main_arg3)
          ∧ r.2.mem ((c.tc : Thread Cert.KAdamDownIdeal.nD Cert.KAdamDownIdeal.τ).loc Cert.KAdamDownIdeal.main_arg4) = m ((c.tc : Thread Cert.KAdamDownIdeal.nD Cert.KAdamDownIdeal.τ).loc Cert.KAdamDownIdeal.main_arg4))
      ∧ θ_run (Cert.RAdamDownIdeal.defs (F := Ideal)) (onTc (τ := Cert.RAdamDownIdeal.τ) (Cert.RAdamDownIdeal.main (F := Ideal))) ⟨m', fun _ => 0, g'⟩ (fun r => ∀ c : Dev Cert.RAdamDownIdeal.nD,
          r.2.mem ((c.tc : Thread Cert.RAdamDownIdeal.nD Cert.RAdamDownIdeal.τ).loc Cert.RAdamDownIdeal.main_v6) = v0 c
          ∧ r.2.mem ((c.tc : Thread Cert.RAdamDownIdeal.nD Cert.RAdamDownIdeal.τ).loc Cert.RAdamDownIdeal.main_v30) = v1 c
          ∧ r.2.mem ((c.tc : Thread Cert.RAdamDownIdeal.nD Cert.RAdamDownIdeal.τ).loc Cert.RAdamDownIdeal.main_v11) = v2 c
          ∧ r.2.mem ((c.tc : Thread Cert.RAdamDownIdeal.nD Cert.RAdamDownIdeal.τ).loc Cert.RAdamDownIdeal.main_v17) = v3 c
          ∧ r.2.mem ((c.tc : Thread Cert.RAdamDownIdeal.nD Cert.RAdamDownIdeal.τ).loc Cert.RAdamDownIdeal.main_arg0) = m' ((c.tc : Thread Cert.RAdamDownIdeal.nD Cert.RAdamDownIdeal.τ).loc Cert.RAdamDownIdeal.main_arg0)
          ∧ r.2.mem ((c.tc : Thread Cert.RAdamDownIdeal.nD Cert.RAdamDownIdeal.τ).loc Cert.RAdamDownIdeal.main_arg1) = m' ((c.tc : Thread Cert.RAdamDownIdeal.nD Cert.RAdamDownIdeal.τ).loc Cert.RAdamDownIdeal.main_arg1)
          ∧ r.2.mem ((c.tc : Thread Cert.RAdamDownIdeal.nD Cert.RAdamDownIdeal.τ).loc Cert.RAdamDownIdeal.main_arg2) = m' ((c.tc : Thread Cert.RAdamDownIdeal.nD Cert.RAdamDownIdeal.τ).loc Cert.RAdamDownIdeal.main_arg2)
          ∧ r.2.mem ((c.tc : Thread Cert.RAdamDownIdeal.nD Cert.RAdamDownIdeal.τ).loc Cert.RAdamDownIdeal.main_arg3) = m' ((c.tc : Thread Cert.RAdamDownIdeal.nD Cert.RAdamDownIdeal.τ).loc Cert.RAdamDownIdeal.main_arg3)
          ∧ r.2.mem ((c.tc : Thread Cert.RAdamDownIdeal.nD Cert.RAdamDownIdeal.τ).loc Cert.RAdamDownIdeal.main_arg4) = m' ((c.tc : Thread Cert.RAdamDownIdeal.nD Cert.RAdamDownIdeal.τ).loc Cert.RAdamDownIdeal.main_arg4))

def preserves_KAdamOut_KAdamOutIdeal : Prop :=
  True

def algebraic_KAdamOutIdeal_RAdamOutIdeal [hKAdamOutIdeal : Cert.KAdamOutIdeal.Facts] [hRAdamOutIdeal : Cert.RAdamOutIdeal.Facts] : Prop :=
  ∀ (m : (ℓ : Loc Cert.KAdamOutIdeal.nD Cert.KAdamOutIdeal.τ Cert.KAdamOutIdeal.sig) → Buf (Elt Ideal) ℓ) (g : Dev Cert.KAdamOutIdeal.nD → PrngReg)
    (m' : (ℓ : Loc Cert.RAdamOutIdeal.nD Cert.RAdamOutIdeal.τ Cert.RAdamOutIdeal.sig) → Buf (Elt Ideal) ℓ) (g' : Dev Cert.RAdamOutIdeal.nD → PrngReg), Pre_KAdamOutIdeal m →
    (∀ c : Dev Cert.KAdamOutIdeal.nD,
      m' ((c.tc : Thread Cert.RAdamOutIdeal.nD Cert.RAdamOutIdeal.τ).loc Cert.RAdamOutIdeal.main_arg0) = m ((c.tc : Thread Cert.KAdamOutIdeal.nD Cert.KAdamOutIdeal.τ).loc Cert.KAdamOutIdeal.main_arg0)
      ∧ m' ((c.tc : Thread Cert.RAdamOutIdeal.nD Cert.RAdamOutIdeal.τ).loc Cert.RAdamOutIdeal.main_arg1) = m ((c.tc : Thread Cert.KAdamOutIdeal.nD Cert.KAdamOutIdeal.τ).loc Cert.KAdamOutIdeal.main_arg1)
      ∧ m' ((c.tc : Thread Cert.RAdamOutIdeal.nD Cert.RAdamOutIdeal.τ).loc Cert.RAdamOutIdeal.main_arg2) = m ((c.tc : Thread Cert.KAdamOutIdeal.nD Cert.KAdamOutIdeal.τ).loc Cert.KAdamOutIdeal.main_arg2)
      ∧ m' ((c.tc : Thread Cert.RAdamOutIdeal.nD Cert.RAdamOutIdeal.τ).loc Cert.RAdamOutIdeal.main_arg3) = m ((c.tc : Thread Cert.KAdamOutIdeal.nD Cert.KAdamOutIdeal.τ).loc Cert.KAdamOutIdeal.main_arg3)
      ∧ m' ((c.tc : Thread Cert.RAdamOutIdeal.nD Cert.RAdamOutIdeal.τ).loc Cert.RAdamOutIdeal.main_arg4) = m ((c.tc : Thread Cert.KAdamOutIdeal.nD Cert.KAdamOutIdeal.τ).loc Cert.KAdamOutIdeal.main_arg4)) →
    ∃ (v0 : (c : Dev Cert.KAdamOutIdeal.nD) → Buf (Elt Ideal) ((c.tc : Thread Cert.KAdamOutIdeal.nD Cert.KAdamOutIdeal.τ).loc Cert.KAdamOutIdeal.main_v0_0)) (v1 : (c : Dev Cert.KAdamOutIdeal.nD) → Buf (Elt Ideal) ((c.tc : Thread Cert.KAdamOutIdeal.nD Cert.KAdamOutIdeal.τ).loc Cert.KAdamOutIdeal.main_v0_1)) (v2 : (c : Dev Cert.KAdamOutIdeal.nD) → Buf (Elt Ideal) ((c.tc : Thread Cert.KAdamOutIdeal.nD Cert.KAdamOutIdeal.τ).loc Cert.KAdamOutIdeal.main_v0_2)) (v3 : (c : Dev Cert.KAdamOutIdeal.nD) → Buf (Elt Ideal) ((c.tc : Thread Cert.KAdamOutIdeal.nD Cert.KAdamOutIdeal.τ).loc Cert.KAdamOutIdeal.main_v0_3)),
      θ_run (Cert.KAdamOutIdeal.defs (F := Ideal)) (onTc (τ := Cert.KAdamOutIdeal.τ) (Cert.KAdamOutIdeal.main (F := Ideal))) ⟨m, fun _ => 0, g⟩ (fun r => ∀ c : Dev Cert.KAdamOutIdeal.nD,
          r.2.mem ((c.tc : Thread Cert.KAdamOutIdeal.nD Cert.KAdamOutIdeal.τ).loc Cert.KAdamOutIdeal.main_v0_0) = v0 c
          ∧ r.2.mem ((c.tc : Thread Cert.KAdamOutIdeal.nD Cert.KAdamOutIdeal.τ).loc Cert.KAdamOutIdeal.main_v0_1) = v1 c
          ∧ r.2.mem ((c.tc : Thread Cert.KAdamOutIdeal.nD Cert.KAdamOutIdeal.τ).loc Cert.KAdamOutIdeal.main_v0_2) = v2 c
          ∧ r.2.mem ((c.tc : Thread Cert.KAdamOutIdeal.nD Cert.KAdamOutIdeal.τ).loc Cert.KAdamOutIdeal.main_v0_3) = v3 c
          ∧ r.2.mem ((c.tc : Thread Cert.KAdamOutIdeal.nD Cert.KAdamOutIdeal.τ).loc Cert.KAdamOutIdeal.main_arg0) = m ((c.tc : Thread Cert.KAdamOutIdeal.nD Cert.KAdamOutIdeal.τ).loc Cert.KAdamOutIdeal.main_arg0)
          ∧ r.2.mem ((c.tc : Thread Cert.KAdamOutIdeal.nD Cert.KAdamOutIdeal.τ).loc Cert.KAdamOutIdeal.main_arg1) = m ((c.tc : Thread Cert.KAdamOutIdeal.nD Cert.KAdamOutIdeal.τ).loc Cert.KAdamOutIdeal.main_arg1)
          ∧ r.2.mem ((c.tc : Thread Cert.KAdamOutIdeal.nD Cert.KAdamOutIdeal.τ).loc Cert.KAdamOutIdeal.main_arg2) = m ((c.tc : Thread Cert.KAdamOutIdeal.nD Cert.KAdamOutIdeal.τ).loc Cert.KAdamOutIdeal.main_arg2)
          ∧ r.2.mem ((c.tc : Thread Cert.KAdamOutIdeal.nD Cert.KAdamOutIdeal.τ).loc Cert.KAdamOutIdeal.main_arg3) = m ((c.tc : Thread Cert.KAdamOutIdeal.nD Cert.KAdamOutIdeal.τ).loc Cert.KAdamOutIdeal.main_arg3)
          ∧ r.2.mem ((c.tc : Thread Cert.KAdamOutIdeal.nD Cert.KAdamOutIdeal.τ).loc Cert.KAdamOutIdeal.main_arg4) = m ((c.tc : Thread Cert.KAdamOutIdeal.nD Cert.KAdamOutIdeal.τ).loc Cert.KAdamOutIdeal.main_arg4))
      ∧ θ_run (Cert.RAdamOutIdeal.defs (F := Ideal)) (onTc (τ := Cert.RAdamOutIdeal.τ) (Cert.RAdamOutIdeal.main (F := Ideal))) ⟨m', fun _ => 0, g'⟩ (fun r => ∀ c : Dev Cert.RAdamOutIdeal.nD,
          r.2.mem ((c.tc : Thread Cert.RAdamOutIdeal.nD Cert.RAdamOutIdeal.τ).loc Cert.RAdamOutIdeal.main_v6) = v0 c
          ∧ r.2.mem ((c.tc : Thread Cert.RAdamOutIdeal.nD Cert.RAdamOutIdeal.τ).loc Cert.RAdamOutIdeal.main_v30) = v1 c
          ∧ r.2.mem ((c.tc : Thread Cert.RAdamOutIdeal.nD Cert.RAdamOutIdeal.τ).loc Cert.RAdamOutIdeal.main_v11) = v2 c
          ∧ r.2.mem ((c.tc : Thread Cert.RAdamOutIdeal.nD Cert.RAdamOutIdeal.τ).loc Cert.RAdamOutIdeal.main_v17) = v3 c
          ∧ r.2.mem ((c.tc : Thread Cert.RAdamOutIdeal.nD Cert.RAdamOutIdeal.τ).loc Cert.RAdamOutIdeal.main_arg0) = m' ((c.tc : Thread Cert.RAdamOutIdeal.nD Cert.RAdamOutIdeal.τ).loc Cert.RAdamOutIdeal.main_arg0)
          ∧ r.2.mem ((c.tc : Thread Cert.RAdamOutIdeal.nD Cert.RAdamOutIdeal.τ).loc Cert.RAdamOutIdeal.main_arg1) = m' ((c.tc : Thread Cert.RAdamOutIdeal.nD Cert.RAdamOutIdeal.τ).loc Cert.RAdamOutIdeal.main_arg1)
          ∧ r.2.mem ((c.tc : Thread Cert.RAdamOutIdeal.nD Cert.RAdamOutIdeal.τ).loc Cert.RAdamOutIdeal.main_arg2) = m' ((c.tc : Thread Cert.RAdamOutIdeal.nD Cert.RAdamOutIdeal.τ).loc Cert.RAdamOutIdeal.main_arg2)
          ∧ r.2.mem ((c.tc : Thread Cert.RAdamOutIdeal.nD Cert.RAdamOutIdeal.τ).loc Cert.RAdamOutIdeal.main_arg3) = m' ((c.tc : Thread Cert.RAdamOutIdeal.nD Cert.RAdamOutIdeal.τ).loc Cert.RAdamOutIdeal.main_arg3)
          ∧ r.2.mem ((c.tc : Thread Cert.RAdamOutIdeal.nD Cert.RAdamOutIdeal.τ).loc Cert.RAdamOutIdeal.main_arg4) = m' ((c.tc : Thread Cert.RAdamOutIdeal.nD Cert.RAdamOutIdeal.τ).loc Cert.RAdamOutIdeal.main_arg4))

def preserves_KAdamAda_KAdamAdaIdeal : Prop :=
  True

def algebraic_KAdamAdaIdeal_RAdamAdaIdeal [hKAdamAdaIdeal : Cert.KAdamAdaIdeal.Facts] [hRAdamAdaIdeal : Cert.RAdamAdaIdeal.Facts] : Prop :=
  ∀ (m : (ℓ : Loc Cert.KAdamAdaIdeal.nD Cert.KAdamAdaIdeal.τ Cert.KAdamAdaIdeal.sig) → Buf (Elt Ideal) ℓ) (g : Dev Cert.KAdamAdaIdeal.nD → PrngReg)
    (m' : (ℓ : Loc Cert.RAdamAdaIdeal.nD Cert.RAdamAdaIdeal.τ Cert.RAdamAdaIdeal.sig) → Buf (Elt Ideal) ℓ) (g' : Dev Cert.RAdamAdaIdeal.nD → PrngReg), Pre_KAdamAdaIdeal m →
    (∀ c : Dev Cert.KAdamAdaIdeal.nD,
      m' ((c.tc : Thread Cert.RAdamAdaIdeal.nD Cert.RAdamAdaIdeal.τ).loc Cert.RAdamAdaIdeal.main_arg0) = m ((c.tc : Thread Cert.KAdamAdaIdeal.nD Cert.KAdamAdaIdeal.τ).loc Cert.KAdamAdaIdeal.main_arg0)
      ∧ m' ((c.tc : Thread Cert.RAdamAdaIdeal.nD Cert.RAdamAdaIdeal.τ).loc Cert.RAdamAdaIdeal.main_arg1) = m ((c.tc : Thread Cert.KAdamAdaIdeal.nD Cert.KAdamAdaIdeal.τ).loc Cert.KAdamAdaIdeal.main_arg1)
      ∧ m' ((c.tc : Thread Cert.RAdamAdaIdeal.nD Cert.RAdamAdaIdeal.τ).loc Cert.RAdamAdaIdeal.main_arg2) = m ((c.tc : Thread Cert.KAdamAdaIdeal.nD Cert.KAdamAdaIdeal.τ).loc Cert.KAdamAdaIdeal.main_arg2)
      ∧ m' ((c.tc : Thread Cert.RAdamAdaIdeal.nD Cert.RAdamAdaIdeal.τ).loc Cert.RAdamAdaIdeal.main_arg3) = m ((c.tc : Thread Cert.KAdamAdaIdeal.nD Cert.KAdamAdaIdeal.τ).loc Cert.KAdamAdaIdeal.main_arg3)
      ∧ m' ((c.tc : Thread Cert.RAdamAdaIdeal.nD Cert.RAdamAdaIdeal.τ).loc Cert.RAdamAdaIdeal.main_arg4) = m ((c.tc : Thread Cert.KAdamAdaIdeal.nD Cert.KAdamAdaIdeal.τ).loc Cert.KAdamAdaIdeal.main_arg4)) →
    ∃ (v0 : (c : Dev Cert.KAdamAdaIdeal.nD) → Buf (Elt Ideal) ((c.tc : Thread Cert.KAdamAdaIdeal.nD Cert.KAdamAdaIdeal.τ).loc Cert.KAdamAdaIdeal.main_v0_0)) (v1 : (c : Dev Cert.KAdamAdaIdeal.nD) → Buf (Elt Ideal) ((c.tc : Thread Cert.KAdamAdaIdeal.nD Cert.KAdamAdaIdeal.τ).loc Cert.KAdamAdaIdeal.main_v0_1)) (v2 : (c : Dev Cert.KAdamAdaIdeal.nD) → Buf (Elt Ideal) ((c.tc : Thread Cert.KAdamAdaIdeal.nD Cert.KAdamAdaIdeal.τ).loc Cert.KAdamAdaIdeal.main_v0_2)) (v3 : (c : Dev Cert.KAdamAdaIdeal.nD) → Buf (Elt Ideal) ((c.tc : Thread Cert.KAdamAdaIdeal.nD Cert.KAdamAdaIdeal.τ).loc Cert.KAdamAdaIdeal.main_v0_3)),
      θ_run (Cert.KAdamAdaIdeal.defs (F := Ideal)) (onTc (τ := Cert.KAdamAdaIdeal.τ) (Cert.KAdamAdaIdeal.main (F := Ideal))) ⟨m, fun _ => 0, g⟩ (fun r => ∀ c : Dev Cert.KAdamAdaIdeal.nD,
          r.2.mem ((c.tc : Thread Cert.KAdamAdaIdeal.nD Cert.KAdamAdaIdeal.τ).loc Cert.KAdamAdaIdeal.main_v0_0) = v0 c
          ∧ r.2.mem ((c.tc : Thread Cert.KAdamAdaIdeal.nD Cert.KAdamAdaIdeal.τ).loc Cert.KAdamAdaIdeal.main_v0_1) = v1 c
          ∧ r.2.mem ((c.tc : Thread Cert.KAdamAdaIdeal.nD Cert.KAdamAdaIdeal.τ).loc Cert.KAdamAdaIdeal.main_v0_2) = v2 c
          ∧ r.2.mem ((c.tc : Thread Cert.KAdamAdaIdeal.nD Cert.KAdamAdaIdeal.τ).loc Cert.KAdamAdaIdeal.main_v0_3) = v3 c
          ∧ r.2.mem ((c.tc : Thread Cert.KAdamAdaIdeal.nD Cert.KAdamAdaIdeal.τ).loc Cert.KAdamAdaIdeal.main_arg0) = m ((c.tc : Thread Cert.KAdamAdaIdeal.nD Cert.KAdamAdaIdeal.τ).loc Cert.KAdamAdaIdeal.main_arg0)
          ∧ r.2.mem ((c.tc : Thread Cert.KAdamAdaIdeal.nD Cert.KAdamAdaIdeal.τ).loc Cert.KAdamAdaIdeal.main_arg1) = m ((c.tc : Thread Cert.KAdamAdaIdeal.nD Cert.KAdamAdaIdeal.τ).loc Cert.KAdamAdaIdeal.main_arg1)
          ∧ r.2.mem ((c.tc : Thread Cert.KAdamAdaIdeal.nD Cert.KAdamAdaIdeal.τ).loc Cert.KAdamAdaIdeal.main_arg2) = m ((c.tc : Thread Cert.KAdamAdaIdeal.nD Cert.KAdamAdaIdeal.τ).loc Cert.KAdamAdaIdeal.main_arg2)
          ∧ r.2.mem ((c.tc : Thread Cert.KAdamAdaIdeal.nD Cert.KAdamAdaIdeal.τ).loc Cert.KAdamAdaIdeal.main_arg3) = m ((c.tc : Thread Cert.KAdamAdaIdeal.nD Cert.KAdamAdaIdeal.τ).loc Cert.KAdamAdaIdeal.main_arg3)
          ∧ r.2.mem ((c.tc : Thread Cert.KAdamAdaIdeal.nD Cert.KAdamAdaIdeal.τ).loc Cert.KAdamAdaIdeal.main_arg4) = m ((c.tc : Thread Cert.KAdamAdaIdeal.nD Cert.KAdamAdaIdeal.τ).loc Cert.KAdamAdaIdeal.main_arg4))
      ∧ θ_run (Cert.RAdamAdaIdeal.defs (F := Ideal)) (onTc (τ := Cert.RAdamAdaIdeal.τ) (Cert.RAdamAdaIdeal.main (F := Ideal))) ⟨m', fun _ => 0, g'⟩ (fun r => ∀ c : Dev Cert.RAdamAdaIdeal.nD,
          r.2.mem ((c.tc : Thread Cert.RAdamAdaIdeal.nD Cert.RAdamAdaIdeal.τ).loc Cert.RAdamAdaIdeal.main_v4) = v0 c
          ∧ r.2.mem ((c.tc : Thread Cert.RAdamAdaIdeal.nD Cert.RAdamAdaIdeal.τ).loc Cert.RAdamAdaIdeal.main_v28) = v1 c
          ∧ r.2.mem ((c.tc : Thread Cert.RAdamAdaIdeal.nD Cert.RAdamAdaIdeal.τ).loc Cert.RAdamAdaIdeal.main_v9) = v2 c
          ∧ r.2.mem ((c.tc : Thread Cert.RAdamAdaIdeal.nD Cert.RAdamAdaIdeal.τ).loc Cert.RAdamAdaIdeal.main_v15) = v3 c
          ∧ r.2.mem ((c.tc : Thread Cert.RAdamAdaIdeal.nD Cert.RAdamAdaIdeal.τ).loc Cert.RAdamAdaIdeal.main_arg0) = m' ((c.tc : Thread Cert.RAdamAdaIdeal.nD Cert.RAdamAdaIdeal.τ).loc Cert.RAdamAdaIdeal.main_arg0)
          ∧ r.2.mem ((c.tc : Thread Cert.RAdamAdaIdeal.nD Cert.RAdamAdaIdeal.τ).loc Cert.RAdamAdaIdeal.main_arg1) = m' ((c.tc : Thread Cert.RAdamAdaIdeal.nD Cert.RAdamAdaIdeal.τ).loc Cert.RAdamAdaIdeal.main_arg1)
          ∧ r.2.mem ((c.tc : Thread Cert.RAdamAdaIdeal.nD Cert.RAdamAdaIdeal.τ).loc Cert.RAdamAdaIdeal.main_arg2) = m' ((c.tc : Thread Cert.RAdamAdaIdeal.nD Cert.RAdamAdaIdeal.τ).loc Cert.RAdamAdaIdeal.main_arg2)
          ∧ r.2.mem ((c.tc : Thread Cert.RAdamAdaIdeal.nD Cert.RAdamAdaIdeal.τ).loc Cert.RAdamAdaIdeal.main_arg3) = m' ((c.tc : Thread Cert.RAdamAdaIdeal.nD Cert.RAdamAdaIdeal.τ).loc Cert.RAdamAdaIdeal.main_arg3)
          ∧ r.2.mem ((c.tc : Thread Cert.RAdamAdaIdeal.nD Cert.RAdamAdaIdeal.τ).loc Cert.RAdamAdaIdeal.main_arg4) = m' ((c.tc : Thread Cert.RAdamAdaIdeal.nD Cert.RAdamAdaIdeal.τ).loc Cert.RAdamAdaIdeal.main_arg4))

def Claim : Prop :=
  ∃ (hKernel : Cert.Kernel.Facts) (hKernelIdeal : Cert.KernelIdeal.Facts) (hReferenceIdeal : Cert.ReferenceIdeal.Facts) (hKDownDgrad : Cert.KDownDgrad.Facts) (hKDownDgradIdeal : Cert.KDownDgradIdeal.Facts) (hRDownDgradIdeal : Cert.RDownDgradIdeal.Facts) (hKUpDgrad : Cert.KUpDgrad.Facts) (hKUpDgradIdeal : Cert.KUpDgradIdeal.Facts) (hRUpDgradIdeal : Cert.RUpDgradIdeal.Facts) (hKODgrad : Cert.KODgrad.Facts) (hKODgradIdeal : Cert.KODgradIdeal.Facts) (hRODgradIdeal : Cert.RODgradIdeal.Facts) (hKOutDgrad : Cert.KOutDgrad.Facts) (hKOutDgradIdeal : Cert.KOutDgradIdeal.Facts) (hROutDgradIdeal : Cert.ROutDgradIdeal.Facts) (hKInDgrad : Cert.KInDgrad.Facts) (hKInDgradIdeal : Cert.KInDgradIdeal.Facts) (hRInDgradIdeal : Cert.RInDgradIdeal.Facts) (hKInProj : Cert.KInProj.Facts) (hKInProjIdeal : Cert.KInProjIdeal.Facts) (hRInProjIdeal : Cert.RInProjIdeal.Facts) (hKOutProj : Cert.KOutProj.Facts) (hKOutProjIdeal : Cert.KOutProjIdeal.Facts) (hROutProjIdeal : Cert.ROutProjIdeal.Facts) (hKOProj : Cert.KOProj.Facts) (hKOProjIdeal : Cert.KOProjIdeal.Facts) (hROProjIdeal : Cert.ROProjIdeal.Facts) (hKUpProj : Cert.KUpProj.Facts) (hKUpProjIdeal : Cert.KUpProjIdeal.Facts) (hRUpProjIdeal : Cert.RUpProjIdeal.Facts) (hKDownProj : Cert.KDownProj.Facts) (hKDownProjIdeal : Cert.KDownProjIdeal.Facts) (hRDownProjIdeal : Cert.RDownProjIdeal.Facts) (hKDownWgrad : Cert.KDownWgrad.Facts) (hKDownWgradIdeal : Cert.KDownWgradIdeal.Facts) (hRDownWgradIdeal : Cert.RDownWgradIdeal.Facts) (hKOWgrad : Cert.KOWgrad.Facts) (hKOWgradIdeal : Cert.KOWgradIdeal.Facts) (hROWgradIdeal : Cert.ROWgradIdeal.Facts) (hKOutWgrad : Cert.KOutWgrad.Facts) (hKOutWgradIdeal : Cert.KOutWgradIdeal.Facts) (hROutWgradIdeal : Cert.ROutWgradIdeal.Facts) (hKInWgradA : Cert.KInWgradA.Facts) (hKInWgradAIdeal : Cert.KInWgradAIdeal.Facts) (hRInWgradAIdeal : Cert.RInWgradAIdeal.Facts) (hKInWgradB : Cert.KInWgradB.Facts) (hKInWgradBIdeal : Cert.KInWgradBIdeal.Facts) (hRInWgradBIdeal : Cert.RInWgradBIdeal.Facts) (hKUpWgradA : Cert.KUpWgradA.Facts) (hKUpWgradAIdeal : Cert.KUpWgradAIdeal.Facts) (hRUpWgradAIdeal : Cert.RUpWgradAIdeal.Facts) (hKUpWgradB : Cert.KUpWgradB.Facts) (hKUpWgradBIdeal : Cert.KUpWgradBIdeal.Facts) (hRUpWgradBIdeal : Cert.RUpWgradBIdeal.Facts) (hKAdamAdaB : Cert.KAdamAdaB.Facts) (hKAdamAdaBIdeal : Cert.KAdamAdaBIdeal.Facts) (hRAdamAdaBIdeal : Cert.RAdamAdaBIdeal.Facts) (hKAdamNormG : Cert.KAdamNormG.Facts) (hKAdamNormGIdeal : Cert.KAdamNormGIdeal.Facts) (hRAdamNormGIdeal : Cert.RAdamNormGIdeal.Facts) (hKAdamGateW : Cert.KAdamGateW.Facts) (hKAdamGateWIdeal : Cert.KAdamGateWIdeal.Facts) (hRAdamGateWIdeal : Cert.RAdamGateWIdeal.Facts) (hKAdamGateB : Cert.KAdamGateB.Facts) (hKAdamGateBIdeal : Cert.KAdamGateBIdeal.Facts) (hRAdamGateBIdeal : Cert.RAdamGateBIdeal.Facts) (hKAdamGlaNorm : Cert.KAdamGlaNorm.Facts) (hKAdamGlaNormIdeal : Cert.KAdamGlaNormIdeal.Facts) (hRAdamGlaNormIdeal : Cert.RAdamGlaNormIdeal.Facts) (hKAdamConvW : Cert.KAdamConvW.Facts) (hKAdamConvWIdeal : Cert.KAdamConvWIdeal.Facts) (hRAdamConvWIdeal : Cert.RAdamConvWIdeal.Facts) (hKAdamFfnConv : Cert.KAdamFfnConv.Facts) (hKAdamFfnConvIdeal : Cert.KAdamFfnConvIdeal.Facts) (hRAdamFfnConvIdeal : Cert.RAdamFfnConvIdeal.Facts) (hKAdamO : Cert.KAdamO.Facts) (hKAdamOIdeal : Cert.KAdamOIdeal.Facts) (hRAdamOIdeal : Cert.RAdamOIdeal.Facts) (hKAdamDown : Cert.KAdamDown.Facts) (hKAdamDownIdeal : Cert.KAdamDownIdeal.Facts) (hRAdamDownIdeal : Cert.RAdamDownIdeal.Facts) (hKAdamOut : Cert.KAdamOut.Facts) (hKAdamOutIdeal : Cert.KAdamOutIdeal.Facts) (hRAdamOutIdeal : Cert.RAdamOutIdeal.Facts) (hKAdamAda : Cert.KAdamAda.Facts) (hKAdamAdaIdeal : Cert.KAdamAdaIdeal.Facts) (hRAdamAdaIdeal : Cert.RAdamAdaIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KDownDgrad (hKDownDgrad := hKDownDgrad)
    ∧ quiescent_KDownDgradIdeal (hKDownDgradIdeal := hKDownDgradIdeal)
    ∧ quiescent_RDownDgradIdeal (hRDownDgradIdeal := hRDownDgradIdeal)
    ∧ quiescent_KUpDgrad (hKUpDgrad := hKUpDgrad)
    ∧ quiescent_KUpDgradIdeal (hKUpDgradIdeal := hKUpDgradIdeal)
    ∧ quiescent_RUpDgradIdeal (hRUpDgradIdeal := hRUpDgradIdeal)
    ∧ quiescent_KODgrad (hKODgrad := hKODgrad)
    ∧ quiescent_KODgradIdeal (hKODgradIdeal := hKODgradIdeal)
    ∧ quiescent_RODgradIdeal (hRODgradIdeal := hRODgradIdeal)
    ∧ quiescent_KOutDgrad (hKOutDgrad := hKOutDgrad)
    ∧ quiescent_KOutDgradIdeal (hKOutDgradIdeal := hKOutDgradIdeal)
    ∧ quiescent_ROutDgradIdeal (hROutDgradIdeal := hROutDgradIdeal)
    ∧ quiescent_KInDgrad (hKInDgrad := hKInDgrad)
    ∧ quiescent_KInDgradIdeal (hKInDgradIdeal := hKInDgradIdeal)
    ∧ quiescent_RInDgradIdeal (hRInDgradIdeal := hRInDgradIdeal)
    ∧ quiescent_KInProj (hKInProj := hKInProj)
    ∧ quiescent_KInProjIdeal (hKInProjIdeal := hKInProjIdeal)
    ∧ quiescent_RInProjIdeal (hRInProjIdeal := hRInProjIdeal)
    ∧ quiescent_KOutProj (hKOutProj := hKOutProj)
    ∧ quiescent_KOutProjIdeal (hKOutProjIdeal := hKOutProjIdeal)
    ∧ quiescent_ROutProjIdeal (hROutProjIdeal := hROutProjIdeal)
    ∧ quiescent_KOProj (hKOProj := hKOProj)
    ∧ quiescent_KOProjIdeal (hKOProjIdeal := hKOProjIdeal)
    ∧ quiescent_ROProjIdeal (hROProjIdeal := hROProjIdeal)
    ∧ quiescent_KUpProj (hKUpProj := hKUpProj)
    ∧ quiescent_KUpProjIdeal (hKUpProjIdeal := hKUpProjIdeal)
    ∧ quiescent_RUpProjIdeal (hRUpProjIdeal := hRUpProjIdeal)
    ∧ quiescent_KDownProj (hKDownProj := hKDownProj)
    ∧ quiescent_KDownProjIdeal (hKDownProjIdeal := hKDownProjIdeal)
    ∧ quiescent_RDownProjIdeal (hRDownProjIdeal := hRDownProjIdeal)
    ∧ quiescent_KDownWgrad (hKDownWgrad := hKDownWgrad)
    ∧ quiescent_KDownWgradIdeal (hKDownWgradIdeal := hKDownWgradIdeal)
    ∧ quiescent_RDownWgradIdeal (hRDownWgradIdeal := hRDownWgradIdeal)
    ∧ quiescent_KOWgrad (hKOWgrad := hKOWgrad)
    ∧ quiescent_KOWgradIdeal (hKOWgradIdeal := hKOWgradIdeal)
    ∧ quiescent_ROWgradIdeal (hROWgradIdeal := hROWgradIdeal)
    ∧ quiescent_KOutWgrad (hKOutWgrad := hKOutWgrad)
    ∧ quiescent_KOutWgradIdeal (hKOutWgradIdeal := hKOutWgradIdeal)
    ∧ quiescent_ROutWgradIdeal (hROutWgradIdeal := hROutWgradIdeal)
    ∧ quiescent_KInWgradA (hKInWgradA := hKInWgradA)
    ∧ quiescent_KInWgradAIdeal (hKInWgradAIdeal := hKInWgradAIdeal)
    ∧ quiescent_RInWgradAIdeal (hRInWgradAIdeal := hRInWgradAIdeal)
    ∧ quiescent_KInWgradB (hKInWgradB := hKInWgradB)
    ∧ quiescent_KInWgradBIdeal (hKInWgradBIdeal := hKInWgradBIdeal)
    ∧ quiescent_RInWgradBIdeal (hRInWgradBIdeal := hRInWgradBIdeal)
    ∧ quiescent_KUpWgradA (hKUpWgradA := hKUpWgradA)
    ∧ quiescent_KUpWgradAIdeal (hKUpWgradAIdeal := hKUpWgradAIdeal)
    ∧ quiescent_RUpWgradAIdeal (hRUpWgradAIdeal := hRUpWgradAIdeal)
    ∧ quiescent_KUpWgradB (hKUpWgradB := hKUpWgradB)
    ∧ quiescent_KUpWgradBIdeal (hKUpWgradBIdeal := hKUpWgradBIdeal)
    ∧ quiescent_RUpWgradBIdeal (hRUpWgradBIdeal := hRUpWgradBIdeal)
    ∧ quiescent_KAdamAdaB (hKAdamAdaB := hKAdamAdaB)
    ∧ quiescent_KAdamAdaBIdeal (hKAdamAdaBIdeal := hKAdamAdaBIdeal)
    ∧ quiescent_RAdamAdaBIdeal (hRAdamAdaBIdeal := hRAdamAdaBIdeal)
    ∧ quiescent_KAdamNormG (hKAdamNormG := hKAdamNormG)
    ∧ quiescent_KAdamNormGIdeal (hKAdamNormGIdeal := hKAdamNormGIdeal)
    ∧ quiescent_RAdamNormGIdeal (hRAdamNormGIdeal := hRAdamNormGIdeal)
    ∧ quiescent_KAdamGateW (hKAdamGateW := hKAdamGateW)
    ∧ quiescent_KAdamGateWIdeal (hKAdamGateWIdeal := hKAdamGateWIdeal)
    ∧ quiescent_RAdamGateWIdeal (hRAdamGateWIdeal := hRAdamGateWIdeal)
    ∧ quiescent_KAdamGateB (hKAdamGateB := hKAdamGateB)
    ∧ quiescent_KAdamGateBIdeal (hKAdamGateBIdeal := hKAdamGateBIdeal)
    ∧ quiescent_RAdamGateBIdeal (hRAdamGateBIdeal := hRAdamGateBIdeal)
    ∧ quiescent_KAdamGlaNorm (hKAdamGlaNorm := hKAdamGlaNorm)
    ∧ quiescent_KAdamGlaNormIdeal (hKAdamGlaNormIdeal := hKAdamGlaNormIdeal)
    ∧ quiescent_RAdamGlaNormIdeal (hRAdamGlaNormIdeal := hRAdamGlaNormIdeal)
    ∧ quiescent_KAdamConvW (hKAdamConvW := hKAdamConvW)
    ∧ quiescent_KAdamConvWIdeal (hKAdamConvWIdeal := hKAdamConvWIdeal)
    ∧ quiescent_RAdamConvWIdeal (hRAdamConvWIdeal := hRAdamConvWIdeal)
    ∧ quiescent_KAdamFfnConv (hKAdamFfnConv := hKAdamFfnConv)
    ∧ quiescent_KAdamFfnConvIdeal (hKAdamFfnConvIdeal := hKAdamFfnConvIdeal)
    ∧ quiescent_RAdamFfnConvIdeal (hRAdamFfnConvIdeal := hRAdamFfnConvIdeal)
    ∧ quiescent_KAdamO (hKAdamO := hKAdamO)
    ∧ quiescent_KAdamOIdeal (hKAdamOIdeal := hKAdamOIdeal)
    ∧ quiescent_RAdamOIdeal (hRAdamOIdeal := hRAdamOIdeal)
    ∧ quiescent_KAdamDown (hKAdamDown := hKAdamDown)
    ∧ quiescent_KAdamDownIdeal (hKAdamDownIdeal := hKAdamDownIdeal)
    ∧ quiescent_RAdamDownIdeal (hRAdamDownIdeal := hRAdamDownIdeal)
    ∧ quiescent_KAdamOut (hKAdamOut := hKAdamOut)
    ∧ quiescent_KAdamOutIdeal (hKAdamOutIdeal := hKAdamOutIdeal)
    ∧ quiescent_RAdamOutIdeal (hRAdamOutIdeal := hRAdamOutIdeal)
    ∧ quiescent_KAdamAda (hKAdamAda := hKAdamAda)
    ∧ quiescent_KAdamAdaIdeal (hKAdamAdaIdeal := hKAdamAdaIdeal)
    ∧ quiescent_RAdamAdaIdeal (hRAdamAdaIdeal := hRAdamAdaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KDownDgrad_KDownDgradIdeal
    ∧ algebraic_KDownDgradIdeal_RDownDgradIdeal (hKDownDgradIdeal := hKDownDgradIdeal) (hRDownDgradIdeal := hRDownDgradIdeal)
    ∧ preserves_KUpDgrad_KUpDgradIdeal
    ∧ algebraic_KUpDgradIdeal_RUpDgradIdeal (hKUpDgradIdeal := hKUpDgradIdeal) (hRUpDgradIdeal := hRUpDgradIdeal)
    ∧ preserves_KODgrad_KODgradIdeal
    ∧ algebraic_KODgradIdeal_RODgradIdeal (hKODgradIdeal := hKODgradIdeal) (hRODgradIdeal := hRODgradIdeal)
    ∧ preserves_KOutDgrad_KOutDgradIdeal
    ∧ algebraic_KOutDgradIdeal_ROutDgradIdeal (hKOutDgradIdeal := hKOutDgradIdeal) (hROutDgradIdeal := hROutDgradIdeal)
    ∧ preserves_KInDgrad_KInDgradIdeal
    ∧ algebraic_KInDgradIdeal_RInDgradIdeal (hKInDgradIdeal := hKInDgradIdeal) (hRInDgradIdeal := hRInDgradIdeal)
    ∧ preserves_KInProj_KInProjIdeal
    ∧ algebraic_KInProjIdeal_RInProjIdeal (hKInProjIdeal := hKInProjIdeal) (hRInProjIdeal := hRInProjIdeal)
    ∧ preserves_KOutProj_KOutProjIdeal
    ∧ algebraic_KOutProjIdeal_ROutProjIdeal (hKOutProjIdeal := hKOutProjIdeal) (hROutProjIdeal := hROutProjIdeal)
    ∧ preserves_KOProj_KOProjIdeal
    ∧ algebraic_KOProjIdeal_ROProjIdeal (hKOProjIdeal := hKOProjIdeal) (hROProjIdeal := hROProjIdeal)
    ∧ preserves_KUpProj_KUpProjIdeal
    ∧ algebraic_KUpProjIdeal_RUpProjIdeal (hKUpProjIdeal := hKUpProjIdeal) (hRUpProjIdeal := hRUpProjIdeal)
    ∧ preserves_KDownProj_KDownProjIdeal
    ∧ algebraic_KDownProjIdeal_RDownProjIdeal (hKDownProjIdeal := hKDownProjIdeal) (hRDownProjIdeal := hRDownProjIdeal)
    ∧ preserves_KDownWgrad_KDownWgradIdeal
    ∧ algebraic_KDownWgradIdeal_RDownWgradIdeal (hKDownWgradIdeal := hKDownWgradIdeal) (hRDownWgradIdeal := hRDownWgradIdeal)
    ∧ preserves_KOWgrad_KOWgradIdeal
    ∧ algebraic_KOWgradIdeal_ROWgradIdeal (hKOWgradIdeal := hKOWgradIdeal) (hROWgradIdeal := hROWgradIdeal)
    ∧ preserves_KOutWgrad_KOutWgradIdeal
    ∧ algebraic_KOutWgradIdeal_ROutWgradIdeal (hKOutWgradIdeal := hKOutWgradIdeal) (hROutWgradIdeal := hROutWgradIdeal)
    ∧ preserves_KInWgradA_KInWgradAIdeal
    ∧ algebraic_KInWgradAIdeal_RInWgradAIdeal (hKInWgradAIdeal := hKInWgradAIdeal) (hRInWgradAIdeal := hRInWgradAIdeal)
    ∧ preserves_KInWgradB_KInWgradBIdeal
    ∧ algebraic_KInWgradBIdeal_RInWgradBIdeal (hKInWgradBIdeal := hKInWgradBIdeal) (hRInWgradBIdeal := hRInWgradBIdeal)
    ∧ preserves_KUpWgradA_KUpWgradAIdeal
    ∧ algebraic_KUpWgradAIdeal_RUpWgradAIdeal (hKUpWgradAIdeal := hKUpWgradAIdeal) (hRUpWgradAIdeal := hRUpWgradAIdeal)
    ∧ preserves_KUpWgradB_KUpWgradBIdeal
    ∧ algebraic_KUpWgradBIdeal_RUpWgradBIdeal (hKUpWgradBIdeal := hKUpWgradBIdeal) (hRUpWgradBIdeal := hRUpWgradBIdeal)
    ∧ preserves_KAdamAdaB_KAdamAdaBIdeal
    ∧ algebraic_KAdamAdaBIdeal_RAdamAdaBIdeal (hKAdamAdaBIdeal := hKAdamAdaBIdeal) (hRAdamAdaBIdeal := hRAdamAdaBIdeal)
    ∧ preserves_KAdamNormG_KAdamNormGIdeal
    ∧ algebraic_KAdamNormGIdeal_RAdamNormGIdeal (hKAdamNormGIdeal := hKAdamNormGIdeal) (hRAdamNormGIdeal := hRAdamNormGIdeal)
    ∧ preserves_KAdamGateW_KAdamGateWIdeal
    ∧ algebraic_KAdamGateWIdeal_RAdamGateWIdeal (hKAdamGateWIdeal := hKAdamGateWIdeal) (hRAdamGateWIdeal := hRAdamGateWIdeal)
    ∧ preserves_KAdamGateB_KAdamGateBIdeal
    ∧ algebraic_KAdamGateBIdeal_RAdamGateBIdeal (hKAdamGateBIdeal := hKAdamGateBIdeal) (hRAdamGateBIdeal := hRAdamGateBIdeal)
    ∧ preserves_KAdamGlaNorm_KAdamGlaNormIdeal
    ∧ algebraic_KAdamGlaNormIdeal_RAdamGlaNormIdeal (hKAdamGlaNormIdeal := hKAdamGlaNormIdeal) (hRAdamGlaNormIdeal := hRAdamGlaNormIdeal)
    ∧ preserves_KAdamConvW_KAdamConvWIdeal
    ∧ algebraic_KAdamConvWIdeal_RAdamConvWIdeal (hKAdamConvWIdeal := hKAdamConvWIdeal) (hRAdamConvWIdeal := hRAdamConvWIdeal)
    ∧ preserves_KAdamFfnConv_KAdamFfnConvIdeal
    ∧ algebraic_KAdamFfnConvIdeal_RAdamFfnConvIdeal (hKAdamFfnConvIdeal := hKAdamFfnConvIdeal) (hRAdamFfnConvIdeal := hRAdamFfnConvIdeal)
    ∧ preserves_KAdamO_KAdamOIdeal
    ∧ algebraic_KAdamOIdeal_RAdamOIdeal (hKAdamOIdeal := hKAdamOIdeal) (hRAdamOIdeal := hRAdamOIdeal)
    ∧ preserves_KAdamDown_KAdamDownIdeal
    ∧ algebraic_KAdamDownIdeal_RAdamDownIdeal (hKAdamDownIdeal := hKAdamDownIdeal) (hRAdamDownIdeal := hRAdamDownIdeal)
    ∧ preserves_KAdamOut_KAdamOutIdeal
    ∧ algebraic_KAdamOutIdeal_RAdamOutIdeal (hKAdamOutIdeal := hKAdamOutIdeal) (hRAdamOutIdeal := hRAdamOutIdeal)
    ∧ preserves_KAdamAda_KAdamAdaIdeal
    ∧ algebraic_KAdamAdaIdeal_RAdamAdaIdeal (hKAdamAdaIdeal := hKAdamAdaIdeal) (hRAdamAdaIdeal := hRAdamAdaIdeal)
-- ==== Pre_finite.lean ====
abbrev S4096x10368 : Shape := ⟨2, ![4096, 10368]⟩
abbrev S4096x512 : Shape := ⟨2, ![4096, 512]⟩
abbrev S4096x1024 : Shape := ⟨2, ![4096, 1024]⟩
abbrev S4096x2048 : Shape := ⟨2, ![4096, 2048]⟩
abbrev S4096x3584 : Shape := ⟨2, ![4096, 3584]⟩
abbrev S_ : Shape := ⟨0, ![]⟩

class Facts : Prop where
  slices_S4096x10368_S4096x2048_0_0 : S4096x10368.Slices ![0, 0] S4096x2048
  bitsLt_bf16_f32 : FTy.bits .bf16 < FTy.bits .f32
  concatenates_S4096x2048_S4096x512_S4096x1024_S4096x3584_d1 : Shape.Concatenates [S4096x2048, S4096x512, S4096x1024] S4096x3584 1
  bcast_S_S4096x3584 : S_.BroadcastsInDim S4096x3584 (![] : Fin 0 → Fin S4096x3584.rank)

variable [Facts]

def fn {F : FTy → Type} [FloatOps F] (main_arg0 : FVec F S4096x10368 .bf16) (main_arg1 : FVec F S4096x512 .f32) (main_arg2 : FVec F S4096x1024 .bf16) : IVec S4096x3584 1 :=
  let main_v0 : FVec F S4096x2048 .bf16 := (extractStridedSlice S4096x2048 ![0, 0] · slices_S4096x10368_S4096x2048_0_0) main_arg0
  let main_v1 : FVec F S4096x2048 .f32 := (extf .f32 · bitsLt_bf16_f32) main_v0
  let main_v2 : FVec F S4096x1024 .f32 := (extf .f32 · bitsLt_bf16_f32) main_arg2
  let main_v3 : FVec F S4096x3584 .f32 := concatenate S4096x3584 1 [⟨S4096x2048, main_v1⟩, ⟨S4096x512, main_arg1⟩, ⟨S4096x1024, main_v2⟩] concatenates_S4096x2048_S4096x512_S4096x1024_S4096x3584_d1
  let main_v4 : FVec F S4096x3584 .f32 := Host.absf main_v3
  let main_cst : FVec F S_ .f32 := constant S_ .f32 0x7F7FFFFF#32
  let main_v5 : FVec F S4096x3584 .f32 := broadcastInDim S4096x3584 ![] bcast_S_S4096x3584 main_cst
  let main_v6 : IVec S4096x3584 1 := cmpf .ole main_v4 main_v5
  main_v6
-- ==== Kernel.lean ====
abbrev S4096x10368 : Shape := ⟨2, ![4096, 10368]⟩
abbrev S4096x512 : Shape := ⟨2, ![4096, 512]⟩
abbrev S4096x1024 : Shape := ⟨2, ![4096, 1024]⟩
abbrev S64x4x128x256 : Shape := ⟨4, ![64, 4, 128, 256]⟩
abbrev S512x512 : Shape := ⟨2, ![512, 512]⟩
abbrev S512x1024 : Shape := ⟨2, ![512, 1024]⟩
abbrev S8x4x128x256 : Shape := ⟨4, ![8, 4, 128, 256]⟩
abbrev S4x128x256 : Shape := ⟨3, ![4, 128, 256]⟩
abbrev S1x128x256 : Shape := ⟨3, ![1, 128, 256]⟩
abbrev S128x256 : Shape := ⟨2, ![128, 256]⟩
abbrev S64x128 : Shape := ⟨2, ![64, 128]⟩
abbrev S64x64 : Shape := ⟨2, ![64, 64]⟩
abbrev S1x128 : Shape := ⟨2, ![1, 128]⟩
abbrev S64x256 : Shape := ⟨2, ![64, 256]⟩
abbrev S1x1x128x256 : Shape := ⟨4, ![1, 1, 128, 256]⟩
abbrev S1x4x128x256 : Shape := ⟨4, ![1, 4, 128, 256]⟩
abbrev S64x1 : Shape := ⟨2, ![64, 1]⟩
abbrev S8x256 : Shape := ⟨2, ![8, 256]⟩
abbrev S8x128 : Shape := ⟨2, ![8, 128]⟩
abbrev S128 : Shape := ⟨1, ![128]⟩

abbrev nBuf : Space → Nat
  | .hbm => 9
  | .vmem => 36
  | .smem => 0
  | _ => 0

abbrev bufTy : (tb : Table) → Fin (tcTables nBuf tb) → BufTy
  | .hbm, ⟨0, _⟩ => ⟨S4096x10368, .bf16⟩
  | .hbm, ⟨1, _⟩ => ⟨S4096x512, .f32⟩
  | .hbm, ⟨2, _⟩ => ⟨S4096x1024, .bf16⟩
  | .hbm, ⟨3, _⟩ => ⟨S4096x1024, .bf16⟩
  | .hbm, ⟨4, _⟩ => ⟨S64x4x128x256, .f32⟩
  | .hbm, ⟨5, _⟩ => ⟨S4096x512, .bf16⟩
  | .hbm, ⟨6, _⟩ => ⟨S4096x512, .bf16⟩
  | .hbm, ⟨7, _⟩ => ⟨S4096x1024, .bf16⟩
  | .hbm, ⟨8, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S8x4x128x256, .f32⟩
  | .local _ .vmem, ⟨11, _⟩ => ⟨S8x4x128x256, .f32⟩
  | .local _ .vmem, ⟨12, _⟩ => ⟨S4x128x256, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x1024, .bf16⟩
  | .local _ .vmem, ⟨19, _⟩ => ⟨S512x512, .f32⟩
  | .local _ .vmem, ⟨20, _⟩ => ⟨S512x512, .f32⟩
  | .local _ .vmem, ⟨21, _⟩ => ⟨S512x1024, .bf16⟩
  | .local _ .vmem, ⟨22, _⟩ => ⟨S512x1024, .bf16⟩
  | .local _ .vmem, ⟨23, _⟩ => ⟨S8x4x128x256, .f32⟩
  | .local _ .vmem, ⟨24, _⟩ => ⟨S8x4x128x256, .f32⟩
  | .local _ .vmem, ⟨25, _⟩ => ⟨S1x4x128x256, .f32⟩
  | .local _ .vmem, ⟨26, _⟩ => ⟨S1x4x128x256, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x1024, .bf16⟩
  | .local _ .vmem, ⟨32, _⟩ => ⟨S512x1024, .bf16⟩
  | .local _ .vmem, ⟨33, _⟩ => ⟨S512x512, .f32⟩
  | .local _ .vmem, ⟨34, _⟩ => ⟨S512x512, .f32⟩
  | .local _ .vmem, ⟨35, _⟩ => ⟨S4x128x256, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc1_transform_3 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_5 (i : grid1.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 4 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc1_transform_7 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x4x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x4x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F] [Named F]
def κ : String → Option EReal := fun
  | "scale" => some ((11863283 / 134217728 : ℝ) : EReal)
  | _ => none
-- ==== ReferenceIdeal.lean ====
abbrev S4096x10368 : Shape := ⟨2, ![4096, 10368]⟩
abbrev S4096x512 : Shape := ⟨2, ![4096, 512]⟩
abbrev S4096x1024 : Shape := ⟨2, ![4096, 1024]⟩
abbrev S1x4096x4x128 : Shape := ⟨4, ![1, 4096, 4, 128]⟩
abbrev S_ : Shape := ⟨0, ![]⟩
abbrev S1x4096x4x256 : Shape := ⟨4, ![1, 4096, 4, 256]⟩
abbrev S1x4x128x256 : Shape := ⟨4, ![1, 4, 128, 256]⟩
abbrev S1x64x64x4x128 : Shape := ⟨5, ![1, 64, 64, 4, 128]⟩
abbrev S64x1x4x64x128 : Shape := ⟨5, ![64, 1, 4, 64, 128]⟩
abbrev S1x64x64x4x256 : Shape := ⟨5, ![1, 64, 64, 4, 256]⟩
abbrev S64x1x4x64x256 : Shape := ⟨5, ![64, 1, 4, 64, 256]⟩
abbrev S64x1x4x128 : Shape := ⟨4, ![64, 1, 4, 128]⟩
abbrev S64x1x4x128x256 : Shape := ⟨5, ![64, 1, 4, 128, 256]⟩
abbrev S64x1x4x128x1 : Shape := ⟨5, ![64, 1, 4, 128, 1]⟩
abbrev S1x1x4x64x128 : Shape := ⟨5, ![1, 1, 4, 64, 128]⟩
abbrev S1x4x64x128 : Shape := ⟨4, ![1, 4, 64, 128]⟩
abbrev S1x1x4x64x256 : Shape := ⟨5, ![1, 1, 4, 64, 256]⟩
abbrev S1x4x64x256 : Shape := ⟨4, ![1, 4, 64, 256]⟩
abbrev S1x4x1x128 : Shape := ⟨4, ![1, 4, 1, 128]⟩
abbrev S1x4x128 : Shape := ⟨3, ![1, 4, 128]⟩
abbrev S1x4x128x1 : Shape := ⟨4, ![1, 4, 128, 1]⟩
abbrev S1x1x4x128 : Shape := ⟨4, ![1, 1, 4, 128]⟩
abbrev S1x1x4x128x256 : Shape := ⟨5, ![1, 1, 4, 128, 256]⟩
abbrev S1x1x4x128x1 : Shape := ⟨5, ![1, 1, 4, 128, 1]⟩
abbrev S1x4x256x128 : Shape := ⟨4, ![1, 4, 256, 128]⟩
abbrev S1x4x256x64 : Shape := ⟨4, ![1, 4, 256, 64]⟩
abbrev S1x4x128x64 : Shape := ⟨4, ![1, 4, 128, 64]⟩
abbrev S4x128 : Shape := ⟨2, ![4, 128]⟩

abbrev nBuf : Space → Nat
  | .hbm => 318
  | .vmem => 0
  | .smem => 0
  | _ => 0

abbrev hbmTy0_0 (i : Nat) : BufTy := match i % 128 with
  | 0 => ⟨S4096x10368, .bf16⟩
  | 1 => ⟨S4096x512, .f32⟩
  | 2 => ⟨S4096x1024, .bf16⟩
  | 3 => ⟨S4096x512, .bf16⟩
  | 4 => ⟨S4096x512, .bf16⟩
  | 5 => ⟨S4096x1024, .bf16⟩
  | 6 => ⟨S4096x512, .f32⟩
  | 7 => ⟨S4096x512, .f32⟩
  | 8 => ⟨S4096x1024, .f32⟩
  | 9 => ⟨S4096x1024, .f32⟩
  | 10 => ⟨S1x4096x4x128, .f32⟩
  | 11 => ⟨S_, .f32⟩
  | 12 => ⟨S1x4096x4x128, .f32⟩
  | 13 => ⟨S1x4096x4x128, .f32⟩
  | 14 => ⟨S1x4096x4x128, .f32⟩
  | 15 => ⟨S1x4096x4x256, .f32⟩
  | 16 => ⟨S1x4096x4x128, .f32⟩
  | 17 => ⟨S_, .f32⟩
  | 18 => ⟨S1x4x128x256, .f32⟩
  | 19 => ⟨S1x64x64x4x128, .f32⟩
  | 20 => ⟨S64x1x4x64x128, .f32⟩
  | 21 => ⟨S1x64x64x4x128, .f32⟩
  | 22 => ⟨S64x1x4x64x128, .f32⟩
  | 23 => ⟨S1x64x64x4x256, .f32⟩
  | 24 => ⟨S64x1x4x64x256, .f32⟩
  | 25 => ⟨S1x64x64x4x128, .f32⟩
  | 26 => ⟨S64x1x4x64x128, .f32⟩
  | 27 => ⟨S_, .f32⟩
  | 28 => ⟨S64x1x4x64x256, .f32⟩
  | 29 => ⟨S_, .f32⟩
  | 30 => ⟨S64x1x4x64x128, .f32⟩
  | 31 => ⟨S_, .f32⟩
  | 32 => ⟨S64x1x4x128, .f32⟩
  | 33 => ⟨S_, .f32⟩
  | 34 => ⟨S64x1x4x128x256, .f32⟩
  | 35 => ⟨S_, .f32⟩
  | 36 => ⟨S64x1x4x128x1, .f32⟩
  | 37 => ⟨S_, .f32⟩
  | 38 => ⟨S64x1x4x64x128, .f32⟩
  | 39 => ⟨S_, .f32⟩
  | 40 => ⟨S64x1x4x128x256, .f32⟩
  | 41 => ⟨S_, .i32⟩
  | 42 => ⟨S64x1x4x64x128, .f32⟩
  | 43 => ⟨S64x1x4x64x128, .f32⟩
  | 44 => ⟨S64x1x4x64x256, .f32⟩
  | 45 => ⟨S64x1x4x64x128, .f32⟩
  | 46 => ⟨S_, .i32⟩
  | 47 => ⟨S1x4x128x256, .f32⟩
  | 48 => ⟨S64x1x4x64x256, .f32⟩
  | 49 => ⟨S64x1x4x64x128, .f32⟩
  | 50 => ⟨S64x1x4x128, .f32⟩
  | 51 => ⟨S64x1x4x128x256, .f32⟩
  | 52 => ⟨S64x1x4x128x1, .f32⟩
  | 53 => ⟨S64x1x4x64x128, .f32⟩
  | 54 => ⟨S64x1x4x128x256, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S1x1x4x64x128, .f32⟩
  | 62 => ⟨S1x4x64x128, .f32⟩
  | 63 => ⟨S_, .i32⟩
  | 64 => ⟨S_, .i32⟩
  | 65 => ⟨S_, .i32⟩
  | 66 => ⟨S_, .i32⟩
  | 67 => ⟨S1x1x4x64x128, .f32⟩
  | 68 => ⟨S1x4x64x128, .f32⟩
  | 69 => ⟨S_, .i32⟩
  | 70 => ⟨S_, .i32⟩
  | 71 => ⟨S_, .i32⟩
  | 72 => ⟨S_, .i32⟩
  | 73 => ⟨S1x1x4x64x256, .f32⟩
  | 74 => ⟨S1x4x64x256, .f32⟩
  | 75 => ⟨S_, .i32⟩
  | 76 => ⟨S_, .i32⟩
  | 77 => ⟨S_, .i32⟩
  | 78 => ⟨S_, .i32⟩
  | 79 => ⟨S1x1x4x64x128, .f32⟩
  | 80 => ⟨S1x4x64x128, .f32⟩
  | 81 => ⟨S_, .f32⟩
  | 82 => ⟨S_, .f32⟩
  | 83 => ⟨S1x4x64x128, .f32⟩
  | 84 => ⟨S1x4x1x128, .f32⟩
  | 85 => ⟨S1x4x64x128, .f32⟩
  | 86 => ⟨S1x4x64x128, .f32⟩
  | 87 => ⟨S1x4x64x128, .f32⟩
  | 88 => ⟨S1x4x64x128, .f32⟩
  | 89 => ⟨S1x4x128, .f32⟩
  | 90 => ⟨S1x4x128, .f32⟩
  | 91 => ⟨S1x4x128x1, .f32⟩
  | 92 => ⟨S1x4x128x256, .f32⟩
  | 93 => ⟨S1x4x128x256, .f32⟩
  | 94 => ⟨S1x4x128x256, .f32⟩
  | 95 => ⟨S1x4x128x256, .f32⟩
  | 96 => ⟨S1x4x64x256, .f32⟩
  | 97 => ⟨S1x1x4x64x256, .f32⟩
  | 98 => ⟨S_, .i32⟩
  | 99 => ⟨S_, .i32⟩
  | 100 => ⟨S_, .i32⟩
  | 101 => ⟨S_, .i32⟩
  | 102 => ⟨S64x1x4x64x256, .f32⟩
  | 103 => ⟨S1x1x4x64x128, .f32⟩
  | 104 => ⟨S_, .i32⟩
  | 105 => ⟨S_, .i32⟩
  | 106 => ⟨S_, .i32⟩
  | 107 => ⟨S_, .i32⟩
  | 108 => ⟨S64x1x4x64x128, .f32⟩
  | 109 => ⟨S1x1x4x128, .f32⟩
  | 110 => ⟨S_, .i32⟩
  | 111 => ⟨S_, .i32⟩
  | 112 => ⟨S_, .i32⟩
  | 113 => ⟨S64x1x4x128, .f32⟩
  | 114 => ⟨S1x1x4x128x256, .f32⟩
  | 115 => ⟨S_, .i32⟩
  | 116 => ⟨S_, .i32⟩
  | 117 => ⟨S_, .i32⟩
  | 118 => ⟨S_, .i32⟩
  | 119 => ⟨S64x1x4x128x256, .f32⟩
  | 120 => ⟨S1x1x4x128x1, .f32⟩
  | 121 => ⟨S_, .i32⟩
  | 122 => ⟨S_, .i32⟩
  | 123 => ⟨S_, .i32⟩
  | 124 => ⟨S_, .i32⟩
  | 125 => ⟨S64x1x4x128x1, .f32⟩
  | 126 => ⟨S1x1x4x64x128, .f32⟩
  | 127 => ⟨S_, .i32⟩
  | _ => ⟨S4096x10368, .bf16⟩

abbrev hbmTy0_1 (i : Nat) : BufTy := match i % 128 with
  | 0 => ⟨S_, .i32⟩
  | 1 => ⟨S_, .i32⟩
  | 2 => ⟨S_, .i32⟩
  | 3 => ⟨S64x1x4x64x128, .f32⟩
  | 4 => ⟨S1x1x4x128x256, .f32⟩
  | 5 => ⟨S_, .i32⟩
  | 6 => ⟨S_, .i32⟩
  | 7 => ⟨S_, .i32⟩
  | 8 => ⟨S_, .i32⟩
  | 9 => ⟨S64x1x4x128x256, .f32⟩
  | 10 => ⟨S_, .i32⟩
  | 11 => ⟨S_, .i32⟩
  | 12 => ⟨S1x64x64x4x256, .f32⟩
  | 13 => ⟨S1x4096x4x256, .f32⟩
  | 14 => ⟨S4096x1024, .f32⟩
  | 15 => ⟨S_, .f32⟩
  | 16 => ⟨S1x4x128x256, .f32⟩
  | 17 => ⟨S1x4096x4x256, .f32⟩
  | 18 => ⟨S1x64x64x4x256, .f32⟩
  | 19 => ⟨S64x1x4x64x256, .f32⟩
  | 20 => ⟨S_, .f32⟩
  | 21 => ⟨S1x4x128x256, .f32⟩
  | 22 => ⟨S_, .f32⟩
  | 23 => ⟨S64x1x4x64x128, .f32⟩
  | 24 => ⟨S_, .f32⟩
  | 25 => ⟨S64x1x4x64x128, .f32⟩
  | 26 => ⟨S_, .f32⟩
  | 27 => ⟨S64x1x4x64x256, .f32⟩
  | 28 => ⟨S_, .f32⟩
  | 29 => ⟨S64x1x4x64x128, .f32⟩
  | 30 => ⟨S_, .i32⟩
  | 31 => ⟨S64x1x4x64x256, .f32⟩
  | 32 => ⟨S64x1x4x64x128, .f32⟩
  | 33 => ⟨S64x1x4x64x128, .f32⟩
  | 34 => ⟨S64x1x4x128, .f32⟩
  | 35 => ⟨S64x1x4x128x256, .f32⟩
  | 36 => ⟨S64x1x4x128x1, .f32⟩
  | 37 => ⟨S64x1x4x64x256, .f32⟩
  | 38 => ⟨S64x1x4x64x128, .f32⟩
  | 39 => ⟨S64x1x4x128x256, .f32⟩
  | 40 => ⟨S64x1x4x64x128, .f32⟩
  | 41 => ⟨S_, .i32⟩
  | 42 => ⟨S1x4x128x256, .f32⟩
  | 43 => ⟨S64x1x4x64x128, .f32⟩
  | 44 => ⟨S64x1x4x64x128, .f32⟩
  | 45 => ⟨S64x1x4x64x256, .f32⟩
  | 46 => ⟨S64x1x4x64x128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x1x4x64x256, .f32⟩
  | 58 => ⟨S1x4x64x256, .f32⟩
  | 59 => ⟨S_, .i32⟩
  | 60 => ⟨S_, .i32⟩
  | 61 => ⟨S_, .i32⟩
  | 62 => ⟨S_, .i32⟩
  | 63 => ⟨S1x1x4x64x128, .f32⟩
  | 64 => ⟨S1x4x64x128, .f32⟩
  | 65 => ⟨S_, .i32⟩
  | 66 => ⟨S_, .i32⟩
  | 67 => ⟨S_, .i32⟩
  | 68 => ⟨S_, .i32⟩
  | 69 => ⟨S1x1x4x64x128, .f32⟩
  | 70 => ⟨S1x4x64x128, .f32⟩
  | 71 => ⟨S_, .i32⟩
  | 72 => ⟨S_, .i32⟩
  | 73 => ⟨S_, .i32⟩
  | 74 => ⟨S1x1x4x128, .f32⟩
  | 75 => ⟨S1x4x128, .f32⟩
  | 76 => ⟨S_, .i32⟩
  | 77 => ⟨S_, .i32⟩
  | 78 => ⟨S_, .i32⟩
  | 79 => ⟨S_, .i32⟩
  | 80 => ⟨S1x1x4x128x256, .f32⟩
  | 81 => ⟨S1x4x128x256, .f32⟩
  | 82 => ⟨S_, .i32⟩
  | 83 => ⟨S_, .i32⟩
  | 84 => ⟨S_, .i32⟩
  | 85 => ⟨S_, .i32⟩
  | 86 => ⟨S1x1x4x128x1, .f32⟩
  | 87 => ⟨S1x4x128x1, .f32⟩
  | 88 => ⟨S_, .i32⟩
  | 89 => ⟨S_, .i32⟩
  | 90 => ⟨S_, .i32⟩
  | 91 => ⟨S_, .i32⟩
  | 92 => ⟨S1x1x4x64x256, .f32⟩
  | 93 => ⟨S1x4x64x256, .f32⟩
  | 94 => ⟨S_, .i32⟩
  | 95 => ⟨S_, .i32⟩
  | 96 => ⟨S_, .i32⟩
  | 97 => ⟨S_, .i32⟩
  | 98 => ⟨S1x1x4x64x128, .f32⟩
  | 99 => ⟨S1x4x64x128, .f32⟩
  | 100 => ⟨S_, .i32⟩
  | 101 => ⟨S_, .i32⟩
  | 102 => ⟨S_, .i32⟩
  | 103 => ⟨S_, .i32⟩
  | 104 => ⟨S1x1x4x128x256, .f32⟩
  | 105 => ⟨S1x4x128x256, .f32⟩
  | 106 => ⟨S_, .i32⟩
  | 107 => ⟨S_, .i32⟩
  | 108 => ⟨S_, .i32⟩
  | 109 => ⟨S_, .i32⟩
  | 110 => ⟨S1x1x4x64x128, .f32⟩
  | 111 => ⟨S1x4x64x128, .f32⟩
  | 112 => ⟨S1x4x256x128, .f32⟩
  | 113 => ⟨S1x4x128x256, .f32⟩
  | 114 => ⟨S1x4x128x256, .f32⟩
  | 115 => ⟨S1x4x64x128, .f32⟩
  | 116 => ⟨S1x4x256x64, .f32⟩
  | 117 => ⟨S1x4x64x256, .f32⟩
  | 118 => ⟨S1x4x128x64, .f32⟩
  | 119 => ⟨S1x4x64x128, .f32⟩
  | 120 => ⟨S1x4x128x256, .f32⟩
  | 121 => ⟨S1x4x128x256, .f32⟩
  | 122 => ⟨S1x4x128x256, .f32⟩
  | 123 => ⟨S_, .f32⟩
  | 124 => ⟨S1x4x128, .f32⟩
  | 125 => ⟨S1x4x128x1, .f32⟩
  | 126 => ⟨S_, .f32⟩
  | 127 => ⟨S4x128, .f32⟩
  | _ => ⟨S4096x10368, .bf16⟩

abbrev hbmTy0_2 (i : Nat) : BufTy := match i % 128 with
  | 0 => ⟨S1x4x128, .f32⟩
  | 1 => ⟨S1x4x128, .f32⟩
  | 2 => ⟨S1x4x1x128, .f32⟩
  | 3 => ⟨S1x4x64x128, .f32⟩
  | 4 => ⟨S1x4x64x128, .f32⟩
  | 5 => ⟨S1x4x64x128, .f32⟩
  | 6 => ⟨S_, .f32⟩
  | 7 => ⟨S1x4x128, .f32⟩
  | 8 => ⟨S1x4x1x128, .f32⟩
  | 9 => ⟨S1x4x64x128, .f32⟩
  | 10 => ⟨S1x4x1x128, .f32⟩
  | 11 => ⟨S_, .f32⟩
  | 12 => ⟨S1x4x64x128, .f32⟩
  | 13 => ⟨S1x4x64x128, .f32⟩
  | 14 => ⟨S_, .f32⟩
  | 15 => ⟨S_, .f32⟩
  | 16 => ⟨S1x4x64x128, .f32⟩
  | 17 => ⟨S1x1x4x64x128, .f32⟩
  | 18 => ⟨S_, .i32⟩
  | 19 => ⟨S_, .i32⟩
  | 20 => ⟨S_, .i32⟩
  | 21 => ⟨S_, .i32⟩
  | 22 => ⟨S64x1x4x64x128, .f32⟩
  | 23 => ⟨S1x1x4x64x128, .f32⟩
  | 24 => ⟨S_, .i32⟩
  | 25 => ⟨S_, .i32⟩
  | 26 => ⟨S_, .i32⟩
  | 27 => ⟨S_, .i32⟩
  | 28 => ⟨S64x1x4x64x128, .f32⟩
  | 29 => ⟨S1x1x4x64x256, .f32⟩
  | 30 => ⟨S_, .i32⟩
  | 31 => ⟨S_, .i32⟩
  | 32 => ⟨S_, .i32⟩
  | 33 => ⟨S_, .i32⟩
  | 34 => ⟨S64x1x4x64x256, .f32⟩
  | 35 => ⟨S1x1x4x64x128, .f32⟩
  | 36 => ⟨S_, .i32⟩
  | 37 => ⟨S_, .i32⟩
  | 38 => ⟨S_, .i32⟩
  | 39 => ⟨S_, .i32⟩
  | 40 => ⟨S64x1x4x64x128, .f32⟩
  | 41 => ⟨S_, .i32⟩
  | 42 => ⟨S_, .i32⟩
  | 43 => ⟨S1x64x64x4x128, .f32⟩
  | 44 => ⟨S1x4096x4x128, .f32⟩
  | 45 => ⟨S1x64x64x4x256, .f32⟩
  | 46 => ⟨S1x4096x4x256, .f32⟩
  | 47 => ⟨S1x64x64x4x128, .f32⟩
  | 48 => ⟨S1x4096x4x128, .f32⟩
  | 49 => ⟨S1x64x64x4x128, .f32⟩
  | 50 => ⟨S1x4096x4x128, .f32⟩
  | 51 => ⟨S4096x512, .f32⟩
  | 52 => ⟨S4096x1024, .f32⟩
  | 53 => ⟨S4096x512, .f32⟩
  | 54 => ⟨S_, .f32⟩
  | 55 => ⟨S1x4096x4x128, .f32⟩
  | 56 => ⟨S1x4096x4x128, .f32⟩
  | 57 => ⟨S4096x512, .f32⟩
  | 58 => ⟨S4096x1024, .bf16⟩
  | 59 => ⟨S4096x512, .bf16⟩
  | 60 => ⟨S4096x512, .bf16⟩
  | 61 => ⟨S4096x1024, .bf16⟩
  | _ => ⟨S4096x10368, .bf16⟩

abbrev hbmTy (i : Nat) : BufTy := match i / 128 with
  | 0 => hbmTy0_0 i
  | 1 => hbmTy0_1 i
  | 2 => hbmTy0_2 i
  | _ => ⟨S4096x10368, .bf16⟩

abbrev bufTy : (tb : Table) → Fin (tcTables nBuf tb) → BufTy
  | .hbm, ⟨i, _⟩ => hbmTy i
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_c : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev main_v29_7 : Ref sig .tc := ⟨.hbm, 49, rfl⟩
abbrev main_v29_8 : Ref sig .tc := ⟨.hbm, 50, rfl⟩
abbrev main_v29_9 : Ref sig .tc := ⟨.hbm, 51, rfl⟩
abbrev main_v29_10 : Ref sig .tc := ⟨.hbm, 52, rfl⟩
abbrev main_v29_11 : Ref sig .tc := ⟨.hbm, 53, rfl⟩
abbrev main_v29_12 : Ref sig .tc := ⟨.hbm, 54, rfl⟩
abbrev main_while0c_c_28 : Ref sig .tc := ⟨.hbm, 55, rfl⟩
abbrev main_while0c_v61 : Ref sig .tc := ⟨.hbm, 56, rfl⟩
abbrev main_while0b_call1_c : Ref sig .tc := ⟨.hbm, 57, rfl⟩
abbrev main_while0b_call1_c_0 : Ref sig .tc := ⟨.hbm, 58, rfl⟩
abbrev main_while0b_call1_c_1 : Ref sig .tc := ⟨.hbm, 59, rfl⟩
abbrev main_while0b_call1_c_2 : Ref sig .tc := ⟨.hbm, 60, rfl⟩
abbrev main_while0b_call1_v0 : Ref sig .tc := ⟨.hbm, 61, rfl⟩
abbrev main_while0b_v61 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_c_2 : Ref sig .tc := ⟨.hbm, 66, rfl⟩
abbrev main_while0b_call2_v0 : Ref sig .tc := ⟨.hbm, 67, rfl⟩
abbrev main_while0b_v62 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_c_1 : Ref sig .tc := ⟨.hbm, 71, rfl⟩
abbrev main_while0b_call3_c_2 : Ref sig .tc := ⟨.hbm, 72, rfl⟩
abbrev main_while0b_call3_v0 : Ref sig .tc := ⟨.hbm, 73, rfl⟩
abbrev main_while0b_v63 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_call4_c_2 : Ref sig .tc := ⟨.hbm, 78, rfl⟩
abbrev main_while0b_call4_v0 : Ref sig .tc := ⟨.hbm, 79, rfl⟩
abbrev main_while0b_v64 : Ref sig .tc := ⟨.hbm, 80, rfl⟩
abbrev main_while0b_call5_call0_cst : Ref sig .tc := ⟨.hbm, 81, rfl⟩
abbrev main_while0b_call5_call0_v0 : Ref sig .tc := ⟨.hbm, 82, rfl⟩
abbrev main_while0b_v65 : Ref sig .tc := ⟨.hbm, 83, rfl⟩
abbrev main_while0b_v66 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_v70 : Ref sig .tc := ⟨.hbm, 88, rfl⟩
abbrev main_while0b_v71 : Ref sig .tc := ⟨.hbm, 89, rfl⟩
abbrev main_while0b_v72 : Ref sig .tc := ⟨.hbm, 90, rfl⟩
abbrev main_while0b_v73 : Ref sig .tc := ⟨.hbm, 91, rfl⟩
abbrev main_while0b_v74 : Ref sig .tc := ⟨.hbm, 92, rfl⟩
abbrev main_while0b_v75 : Ref sig .tc := ⟨.hbm, 93, rfl⟩
abbrev main_while0b_v76 : Ref sig .tc := ⟨.hbm, 94, rfl⟩
abbrev main_while0b_v77 : Ref sig .tc := ⟨.hbm, 95, rfl⟩
abbrev main_while0b_v78 : Ref sig .tc := ⟨.hbm, 96, rfl⟩
abbrev main_while0b_call6_v0 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_call6_c_1 : Ref sig .tc := ⟨.hbm, 100, rfl⟩
abbrev main_while0b_call6_c_2 : Ref sig .tc := ⟨.hbm, 101, rfl⟩
abbrev main_while0b_v79 : Ref sig .tc := ⟨.hbm, 102, rfl⟩
abbrev main_while0b_call7_v0 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_v80 : Ref sig .tc := ⟨.hbm, 108, rfl⟩
abbrev main_while0b_call8_v0 : Ref sig .tc := ⟨.hbm, 109, rfl⟩
abbrev main_while0b_call8_c : Ref sig .tc := ⟨.hbm, 110, rfl⟩
abbrev main_while0b_call8_c_0 : Ref sig .tc := ⟨.hbm, 111, rfl⟩
abbrev main_while0b_call8_c_1 : Ref sig .tc := ⟨.hbm, 112, rfl⟩
abbrev main_while0b_v81 : Ref sig .tc := ⟨.hbm, 113, rfl⟩
abbrev main_while0b_call9_v0 : Ref sig .tc := ⟨.hbm, 114, rfl⟩
abbrev main_while0b_call9_c : Ref sig .tc := ⟨.hbm, 115, rfl⟩
abbrev main_while0b_call9_c_0 : Ref sig .tc := ⟨.hbm, 116, rfl⟩
abbrev main_while0b_call9_c_1 : Ref sig .tc := ⟨.hbm, 117, rfl⟩
abbrev main_while0b_call9_c_2 : Ref sig .tc := ⟨.hbm, 118, rfl⟩
abbrev main_while0b_v82 : Ref sig .tc := ⟨.hbm, 119, rfl⟩
abbrev main_while0b_call10_v0 : Ref sig .tc := ⟨.hbm, 120, rfl⟩
abbrev main_while0b_call10_c : Ref sig .tc := ⟨.hbm, 121, rfl⟩
abbrev main_while0b_call10_c_0 : Ref sig .tc := ⟨.hbm, 122, rfl⟩
abbrev main_while0b_call10_c_1 : Ref sig .tc := ⟨.hbm, 123, rfl⟩
abbrev main_while0b_call10_c_2 : Ref sig .tc := ⟨.hbm, 124, rfl⟩
abbrev main_while0b_v83 : Ref sig .tc := ⟨.hbm, 125, rfl⟩
abbrev main_while0b_call11_v0 : Ref sig .tc := ⟨.hbm, 126, rfl⟩
abbrev main_while0b_call11_c : Ref sig .tc := ⟨.hbm, 127, rfl⟩
abbrev main_while0b_call11_c_0 : Ref sig .tc := ⟨.hbm, 128, rfl⟩
abbrev main_while0b_call11_c_1 : Ref sig .tc := ⟨.hbm, 129, rfl⟩
abbrev main_while0b_call11_c_2 : Ref sig .tc := ⟨.hbm, 130, rfl⟩
abbrev main_while0b_v84 : Ref sig .tc := ⟨.hbm, 131, rfl⟩
abbrev main_while0b_call12_v0 : Ref sig .tc := ⟨.hbm, 132, rfl⟩
abbrev main_while0b_call12_c : Ref sig .tc := ⟨.hbm, 133, rfl⟩
abbrev main_while0b_call12_c_0 : Ref sig .tc := ⟨.hbm, 134, rfl⟩
abbrev main_while0b_call12_c_1 : Ref sig .tc := ⟨.hbm, 135, rfl⟩
abbrev main_while0b_call12_c_2 : Ref sig .tc := ⟨.hbm, 136, rfl⟩
abbrev main_while0b_v85 : Ref sig .tc := ⟨.hbm, 137, rfl⟩
abbrev main_while0b_c_28 : Ref sig .tc := ⟨.hbm, 138, rfl⟩
abbrev main_while0b_v86 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_cst_8 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_cst_9 : Ref sig .tc := ⟨.hbm, 148, rfl⟩
abbrev main_v37 : Ref sig .tc := ⟨.hbm, 149, rfl⟩
abbrev main_cst_10 : Ref sig .tc := ⟨.hbm, 150, rfl⟩
abbrev main_v38 : Ref sig .tc := ⟨.hbm, 151, rfl⟩
abbrev main_cst_11 : Ref sig .tc := ⟨.hbm, 152, rfl⟩
abbrev main_v39 : Ref sig .tc := ⟨.hbm, 153, rfl⟩
abbrev main_cst_12 : Ref sig .tc := ⟨.hbm, 154, rfl⟩
abbrev main_v40 : Ref sig .tc := ⟨.hbm, 155, rfl⟩
abbrev main_cst_13 : Ref sig .tc := ⟨.hbm, 156, rfl⟩
abbrev main_v41 : Ref sig .tc := ⟨.hbm, 157, rfl⟩
abbrev main_c_14 : Ref sig .tc := ⟨.hbm, 158, rfl⟩
abbrev main_v42_0 : Ref sig .tc := ⟨.hbm, 159, rfl⟩
abbrev main_v42_1 : Ref sig .tc := ⟨.hbm, 160, rfl⟩
abbrev main_v42_2 : Ref sig .tc := ⟨.hbm, 161, rfl⟩
abbrev main_v42_3 : Ref sig .tc := ⟨.hbm, 162, rfl⟩
abbrev main_v42_4 : Ref sig .tc := ⟨.hbm, 163, rfl⟩
abbrev main_v42_5 : Ref sig .tc := ⟨.hbm, 164, rfl⟩
abbrev main_v42_6 : Ref sig .tc := ⟨.hbm, 165, rfl⟩
abbrev main_v42_7 : Ref sig .tc := ⟨.hbm, 166, rfl⟩
abbrev main_v42_8 : Ref sig .tc := ⟨.hbm, 167, rfl⟩
abbrev main_v42_9 : Ref sig .tc := ⟨.hbm, 168, rfl⟩
abbrev main_v42_10 : Ref sig .tc := ⟨.hbm, 169, rfl⟩
abbrev main_v42_11 : Ref sig .tc := ⟨.hbm, 170, rfl⟩
abbrev main_v42_12 : Ref sig .tc := ⟨.hbm, 171, rfl⟩
abbrev main_v42_13 : Ref sig .tc := ⟨.hbm, 172, rfl⟩
abbrev main_v42_14 : Ref sig .tc := ⟨.hbm, 173, rfl⟩
abbrev main_v42_15 : Ref sig .tc := ⟨.hbm, 174, rfl⟩
abbrev main_while1c_c_31 : Ref sig .tc := ⟨.hbm, 175, rfl⟩
abbrev main_while1c_v61 : Ref sig .tc := ⟨.hbm, 176, rfl⟩
abbrev main_while1b_c_31 : Ref sig .tc := ⟨.hbm, 177, rfl⟩
abbrev main_while1b_v61 : Ref sig .tc := ⟨.hbm, 178, rfl⟩
abbrev main_while1b_c_32 : Ref sig .tc := ⟨.hbm, 179, rfl⟩
abbrev main_while1b_v62 : Ref sig .tc := ⟨.hbm, 180, rfl⟩
abbrev main_while1b_call13_c : Ref sig .tc := ⟨.hbm, 181, rfl⟩
abbrev main_while1b_call13_c_0 : Ref sig .tc := ⟨.hbm, 182, rfl⟩
abbrev main_while1b_call13_c_1 : Ref sig .tc := ⟨.hbm, 183, rfl⟩
abbrev main_while1b_call13_c_2 : Ref sig .tc := ⟨.hbm, 184, rfl⟩
abbrev main_while1b_call13_v0 : Ref sig .tc := ⟨.hbm, 185, rfl⟩
abbrev main_while1b_v63 : Ref sig .tc := ⟨.hbm, 186, rfl⟩
abbrev main_while1b_call14_c : Ref sig .tc := ⟨.hbm, 187, rfl⟩
abbrev main_while1b_call14_c_0 : Ref sig .tc := ⟨.hbm, 188, rfl⟩
abbrev main_while1b_call14_c_1 : Ref sig .tc := ⟨.hbm, 189, rfl⟩
abbrev main_while1b_call14_c_2 : Ref sig .tc := ⟨.hbm, 190, rfl⟩
abbrev main_while1b_call14_v0 : Ref sig .tc := ⟨.hbm, 191, rfl⟩
abbrev main_while1b_v64 : Ref sig .tc := ⟨.hbm, 192, rfl⟩
abbrev main_while1b_call15_c : Ref sig .tc := ⟨.hbm, 193, rfl⟩
abbrev main_while1b_call15_c_0 : Ref sig .tc := ⟨.hbm, 194, rfl⟩
abbrev main_while1b_call15_c_1 : Ref sig .tc := ⟨.hbm, 195, rfl⟩
abbrev main_while1b_call15_c_2 : Ref sig .tc := ⟨.hbm, 196, rfl⟩
abbrev main_while1b_call15_v0 : Ref sig .tc := ⟨.hbm, 197, rfl⟩
abbrev main_while1b_v65 : Ref sig .tc := ⟨.hbm, 198, rfl⟩
abbrev main_while1b_call16_c : Ref sig .tc := ⟨.hbm, 199, rfl⟩
abbrev main_while1b_call16_c_0 : Ref sig .tc := ⟨.hbm, 200, rfl⟩
abbrev main_while1b_call16_c_1 : Ref sig .tc := ⟨.hbm, 201, rfl⟩
abbrev main_while1b_call16_v0 : Ref sig .tc := ⟨.hbm, 202, rfl⟩
abbrev main_while1b_v66 : Ref sig .tc := ⟨.hbm, 203, rfl⟩
abbrev main_while1b_call17_c : Ref sig .tc := ⟨.hbm, 204, rfl⟩
abbrev main_while1b_call17_c_0 : Ref sig .tc := ⟨.hbm, 205, rfl⟩
abbrev main_while1b_call17_c_1 : Ref sig .tc := ⟨.hbm, 206, rfl⟩
abbrev main_while1b_call17_c_2 : Ref sig .tc := ⟨.hbm, 207, rfl⟩
abbrev main_while1b_call17_v0 : Ref sig .tc := ⟨.hbm, 208, rfl⟩
abbrev main_while1b_v67 : Ref sig .tc := ⟨.hbm, 209, rfl⟩
abbrev main_while1b_call18_c : Ref sig .tc := ⟨.hbm, 210, rfl⟩
abbrev main_while1b_call18_c_0 : Ref sig .tc := ⟨.hbm, 211, rfl⟩
abbrev main_while1b_call18_c_1 : Ref sig .tc := ⟨.hbm, 212, rfl⟩
abbrev main_while1b_call18_c_2 : Ref sig .tc := ⟨.hbm, 213, rfl⟩
abbrev main_while1b_call18_v0 : Ref sig .tc := ⟨.hbm, 214, rfl⟩
abbrev main_while1b_v68 : Ref sig .tc := ⟨.hbm, 215, rfl⟩
abbrev main_while1b_call19_c : Ref sig .tc := ⟨.hbm, 216, rfl⟩
abbrev main_while1b_call19_c_0 : Ref sig .tc := ⟨.hbm, 217, rfl⟩
abbrev main_while1b_call19_c_1 : Ref sig .tc := ⟨.hbm, 218, rfl⟩
abbrev main_while1b_call19_c_2 : Ref sig .tc := ⟨.hbm, 219, rfl⟩
abbrev main_while1b_call19_v0 : Ref sig .tc := ⟨.hbm, 220, rfl⟩
abbrev main_while1b_v69 : Ref sig .tc := ⟨.hbm, 221, rfl⟩
abbrev main_while1b_call20_c : Ref sig .tc := ⟨.hbm, 222, rfl⟩
abbrev main_while1b_call20_c_0 : Ref sig .tc := ⟨.hbm, 223, rfl⟩
abbrev main_while1b_call20_c_1 : Ref sig .tc := ⟨.hbm, 224, rfl⟩
abbrev main_while1b_call20_c_2 : Ref sig .tc := ⟨.hbm, 225, rfl⟩
abbrev main_while1b_call20_v0 : Ref sig .tc := ⟨.hbm, 226, rfl⟩
abbrev main_while1b_v70 : Ref sig .tc := ⟨.hbm, 227, rfl⟩
abbrev main_while1b_call21_c : Ref sig .tc := ⟨.hbm, 228, rfl⟩
abbrev main_while1b_call21_c_0 : Ref sig .tc := ⟨.hbm, 229, rfl⟩
abbrev main_while1b_call21_c_1 : Ref sig .tc := ⟨.hbm, 230, rfl⟩
abbrev main_while1b_call21_c_2 : Ref sig .tc := ⟨.hbm, 231, rfl⟩
abbrev main_while1b_call21_v0 : Ref sig .tc := ⟨.hbm, 232, rfl⟩
abbrev main_while1b_v71 : Ref sig .tc := ⟨.hbm, 233, rfl⟩
abbrev main_while1b_call22_c : Ref sig .tc := ⟨.hbm, 234, rfl⟩
abbrev main_while1b_call22_c_0 : Ref sig .tc := ⟨.hbm, 235, rfl⟩
abbrev main_while1b_call22_c_1 : Ref sig .tc := ⟨.hbm, 236, rfl⟩
abbrev main_while1b_call22_c_2 : Ref sig .tc := ⟨.hbm, 237, rfl⟩
abbrev main_while1b_call22_v0 : Ref sig .tc := ⟨.hbm, 238, rfl⟩
abbrev main_while1b_v72 : Ref sig .tc := ⟨.hbm, 239, rfl⟩
abbrev main_while1b_v73 : Ref sig .tc := ⟨.hbm, 240, rfl⟩
abbrev main_while1b_v74 : Ref sig .tc := ⟨.hbm, 241, rfl⟩
abbrev main_while1b_v75 : Ref sig .tc := ⟨.hbm, 242, rfl⟩
abbrev main_while1b_v76 : Ref sig .tc := ⟨.hbm, 243, rfl⟩
abbrev main_while1b_v77 : Ref sig .tc := ⟨.hbm, 244, rfl⟩
abbrev main_while1b_v78 : Ref sig .tc := ⟨.hbm, 245, rfl⟩
abbrev main_while1b_v79 : Ref sig .tc := ⟨.hbm, 246, rfl⟩
abbrev main_while1b_v80 : Ref sig .tc := ⟨.hbm, 247, rfl⟩
abbrev main_while1b_v81 : Ref sig .tc := ⟨.hbm, 248, rfl⟩
abbrev main_while1b_v82 : Ref sig .tc := ⟨.hbm, 249, rfl⟩
abbrev main_while1b_v83 : Ref sig .tc := ⟨.hbm, 250, rfl⟩
abbrev main_while1b_cst_33 : Ref sig .tc := ⟨.hbm, 251, rfl⟩
abbrev main_while1b_v84 : Ref sig .tc := ⟨.hbm, 252, rfl⟩
abbrev main_while1b_v85 : Ref sig .tc := ⟨.hbm, 253, rfl⟩
abbrev main_while1b_cst_34 : Ref sig .tc := ⟨.hbm, 254, rfl⟩
abbrev main_while1b_v86 : Ref sig .tc := ⟨.hbm, 255, rfl⟩
abbrev main_while1b_v87 : Ref sig .tc := ⟨.hbm, 256, rfl⟩
abbrev main_while1b_v88 : Ref sig .tc := ⟨.hbm, 257, rfl⟩
abbrev main_while1b_v89 : Ref sig .tc := ⟨.hbm, 258, rfl⟩
abbrev main_while1b_v90 : Ref sig .tc := ⟨.hbm, 259, rfl⟩
abbrev main_while1b_v91 : Ref sig .tc := ⟨.hbm, 260, rfl⟩
abbrev main_while1b_v92 : Ref sig .tc := ⟨.hbm, 261, rfl⟩
abbrev main_while1b_cst_35 : Ref sig .tc := ⟨.hbm, 262, rfl⟩
abbrev main_while1b_v93 : Ref sig .tc := ⟨.hbm, 263, rfl⟩
abbrev main_while1b_v94 : Ref sig .tc := ⟨.hbm, 264, rfl⟩
abbrev main_while1b_v95 : Ref sig .tc := ⟨.hbm, 265, rfl⟩
abbrev main_while1b_v96 : Ref sig .tc := ⟨.hbm, 266, rfl⟩
abbrev main_while1b_cst_36 : Ref sig .tc := ⟨.hbm, 267, rfl⟩
abbrev main_while1b_v97 : Ref sig .tc := ⟨.hbm, 268, rfl⟩
abbrev main_while1b_v98 : Ref sig .tc := ⟨.hbm, 269, rfl⟩
abbrev main_while1b_call23_call0_cst : Ref sig .tc := ⟨.hbm, 270, rfl⟩
abbrev main_while1b_call23_call0_v0 : Ref sig .tc := ⟨.hbm, 271, rfl⟩
abbrev main_while1b_v99 : Ref sig .tc := ⟨.hbm, 272, rfl⟩
abbrev main_while1b_call24_v0 : Ref sig .tc := ⟨.hbm, 273, rfl⟩
abbrev main_while1b_call24_c : Ref sig .tc := ⟨.hbm, 274, rfl⟩
abbrev main_while1b_call24_c_0 : Ref sig .tc := ⟨.hbm, 275, rfl⟩
abbrev main_while1b_call24_c_1 : Ref sig .tc := ⟨.hbm, 276, rfl⟩
abbrev main_while1b_call24_c_2 : Ref sig .tc := ⟨.hbm, 277, rfl⟩
abbrev main_while1b_v100 : Ref sig .tc := ⟨.hbm, 278, rfl⟩
abbrev main_while1b_call25_v0 : Ref sig .tc := ⟨.hbm, 279, rfl⟩
abbrev main_while1b_call25_c : Ref sig .tc := ⟨.hbm, 280, rfl⟩
abbrev main_while1b_call25_c_0 : Ref sig .tc := ⟨.hbm, 281, rfl⟩
abbrev main_while1b_call25_c_1 : Ref sig .tc := ⟨.hbm, 282, rfl⟩
abbrev main_while1b_call25_c_2 : Ref sig .tc := ⟨.hbm, 283, rfl⟩
abbrev main_while1b_v101 : Ref sig .tc := ⟨.hbm, 284, rfl⟩
abbrev main_while1b_call26_v0 : Ref sig .tc := ⟨.hbm, 285, rfl⟩
abbrev main_while1b_call26_c : Ref sig .tc := ⟨.hbm, 286, rfl⟩
abbrev main_while1b_call26_c_0 : Ref sig .tc := ⟨.hbm, 287, rfl⟩
abbrev main_while1b_call26_c_1 : Ref sig .tc := ⟨.hbm, 288, rfl⟩
abbrev main_while1b_call26_c_2 : Ref sig .tc := ⟨.hbm, 289, rfl⟩
abbrev main_while1b_v102 : Ref sig .tc := ⟨.hbm, 290, rfl⟩
abbrev main_while1b_call27_v0 : Ref sig .tc := ⟨.hbm, 291, rfl⟩
abbrev main_while1b_call27_c : Ref sig .tc := ⟨.hbm, 292, rfl⟩
abbrev main_while1b_call27_c_0 : Ref sig .tc := ⟨.hbm, 293, rfl⟩
abbrev main_while1b_call27_c_1 : Ref sig .tc := ⟨.hbm, 294, rfl⟩
abbrev main_while1b_call27_c_2 : Ref sig .tc := ⟨.hbm, 295, rfl⟩
abbrev main_while1b_v103 : Ref sig .tc := ⟨.hbm, 296, rfl⟩
abbrev main_while1b_c_37 : Ref sig .tc := ⟨.hbm, 297, rfl⟩
abbrev main_while1b_v104 : Ref sig .tc := ⟨.hbm, 298, rfl⟩
abbrev main_v43 : Ref sig .tc := ⟨.hbm, 299, rfl⟩
abbrev main_v44 : Ref sig .tc := ⟨.hbm, 300, rfl⟩
abbrev main_v45 : Ref sig .tc := ⟨.hbm, 301, rfl⟩
abbrev main_v46 : Ref sig .tc := ⟨.hbm, 302, rfl⟩
abbrev main_v47 : Ref sig .tc := ⟨.hbm, 303, rfl⟩
abbrev main_v48 : Ref sig .tc := ⟨.hbm, 304, rfl⟩
abbrev main_v49 : Ref sig .tc := ⟨.hbm, 305, rfl⟩
abbrev main_v50 : Ref sig .tc := ⟨.hbm, 306, rfl⟩
abbrev main_v51 : Ref sig .tc := ⟨.hbm, 307, rfl⟩
abbrev main_v52 : Ref sig .tc := ⟨.hbm, 308, rfl⟩
abbrev main_v53 : Ref sig .tc := ⟨.hbm, 309, rfl⟩
abbrev main_cst_15 : Ref sig .tc := ⟨.hbm, 310, rfl⟩
abbrev main_v54 : Ref sig .tc := ⟨.hbm, 311, rfl⟩
abbrev main_v55 : Ref sig .tc := ⟨.hbm, 312, rfl⟩
abbrev main_v56 : Ref sig .tc := ⟨.hbm, 313, rfl⟩
abbrev main_v57 : Ref sig .tc := ⟨.hbm, 314, rfl⟩
abbrev main_v58 : Ref sig .tc := ⟨.hbm, 315, rfl⟩
abbrev main_v59 : Ref sig .tc := ⟨.hbm, 316, rfl⟩
abbrev main_v60 : Ref sig .tc := ⟨.hbm, 317, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== KDownDgrad.lean ====
abbrev S4096x2048 : Shape := ⟨2, ![4096, 2048]⟩
abbrev S5632x2048 : Shape := ⟨2, ![5632, 2048]⟩
abbrev S4096x5632 : Shape := ⟨2, ![4096, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDownDgradIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .bf16⟩
  | .hbm, ⟨3, _⟩ => ⟨S4096x5632, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KUpDgrad.lean ====
abbrev S4096x11264 : Shape := ⟨2, ![4096, 11264]⟩
abbrev S8x2048x1408 : Shape := ⟨3, ![8, 2048, 1408]⟩
abbrev S4096x2048 : Shape := ⟨2, ![4096, 2048]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S8x2048x1408, .bf16⟩
  | .hbm, ⟨2, _⟩ => ⟨S4096x2048, .bf16⟩
  | .local _ .vmem, ⟨0, _⟩ => ⟨S2048x1408, .bf16⟩
  | .local _ .vmem, ⟨1, _⟩ => ⟨S2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUpDgradIdeal.lean ====
abbrev S4096x11264 : Shape := ⟨2, ![4096, 11264]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S_, .bf16⟩
  | .hbm, ⟨5, _⟩ => ⟨S4096x2048, .bf16⟩
  | .hbm, ⟨6, _⟩ => ⟨S4096x11264, .f32⟩
  | .hbm, ⟨7, _⟩ => ⟨S4096x11264, .bf16⟩
  | .hbm, ⟨8, _⟩ => ⟨S4096x11264, .f32⟩
  | .hbm, ⟨9, _⟩ => ⟨S4096x2048, .f32⟩
  | .hbm, ⟨10, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KODgrad.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RODgradIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KOutDgrad.lean ====
abbrev S4096x2048 : Shape := ⟨2, ![4096, 2048]⟩
abbrev S1024x2048 : Shape := ⟨2, ![1024, 2048]⟩
abbrev S4096x1024 : Shape := ⟨2, ![4096, 1024]⟩
abbrev S2048x2048 : Shape := ⟨2, ![2048, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S2048x1024, .bf16⟩
  | .local _ .vmem, ⟨4, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutDgradIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .bf16⟩
  | .hbm, ⟨3, _⟩ => ⟨S4096x1024, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KInDgrad.lean ====
abbrev S4096x10368 : Shape := ⟨2, ![4096, 10368]⟩
abbrev S2048x10368 : Shape := ⟨2, ![2048, 10368]⟩
abbrev S4096x2048 : Shape := ⟨2, ![4096, 2048]⟩
abbrev S1024x3456 : Shape := ⟨2, ![1024, 3456]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S4096x2048, .bf16⟩
  | .local _ .vmem, ⟨0, _⟩ => ⟨S1024x3456, .bf16⟩
  | .local _ .vmem, ⟨1, _⟩ => ⟨S1024x3456, .bf16⟩
  | .local _ .vmem, ⟨2, _⟩ => ⟨S1024x3456, .bf16⟩
  | .local _ .vmem, ⟨3, _⟩ => ⟨S1024x3456, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInDgradIdeal.lean ====
abbrev S4096x10368 : Shape := ⟨2, ![4096, 10368]⟩
abbrev S2048x10368 : Shape := ⟨2, ![2048, 10368]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S_, .bf16⟩
  | .hbm, ⟨3, _⟩ => ⟨S4096x2048, .bf16⟩
  | .hbm, ⟨4, _⟩ => ⟨S4096x10368, .f32⟩
  | .hbm, ⟨5, _⟩ => ⟨S4096x10368, .bf16⟩
  | .hbm, ⟨6, _⟩ => ⟨S4096x10368, .f32⟩
  | .hbm, ⟨7, _⟩ => ⟨S4096x2048, .f32⟩
  | .hbm, ⟨8, _⟩ => ⟨S4096x2048, .bf16⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KInProj.lean ====
abbrev S4096x2048 : Shape := ⟨2, ![4096, 2048]⟩
abbrev S2048x10368 : Shape := ⟨2, ![2048, 10368]⟩
abbrev S4096x10368 : Shape := ⟨2, ![4096, 10368]⟩
abbrev S2048x2048 : Shape := ⟨2, ![2048, 2048]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x10368, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1152, .bf16⟩
  | .local _ .vmem, ⟨3, _⟩ => ⟨S2048x1152, .bf16⟩
  | .local _ .vmem, ⟨4, _⟩ => ⟨S2048x1152, .bf16⟩
  | .local _ .vmem, ⟨5, _⟩ => ⟨S2048x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInProjIdeal.lean ====
abbrev S4096x2048 : Shape := ⟨2, ![4096, 2048]⟩
abbrev S2048x10368 : Shape := ⟨2, ![2048, 10368]⟩
abbrev S4096x10368 : Shape := ⟨2, ![4096, 10368]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x10368, .f32⟩
  | .hbm, ⟨3, _⟩ => ⟨S4096x10368, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KOutProj.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutProjIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .hbm, ⟨3, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KOProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROProjIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KUpProj.lean ====
abbrev S4096x2048 : Shape := ⟨2, ![4096, 2048]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUpProjIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S4096x11264, .f32⟩
  | .hbm, ⟨5, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KDownProj.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDownProjIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KDownWgrad.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩
abbrev S1x512x4096 : Shape := ⟨3, ![1, 512, 4096]⟩
abbrev S512x4096 : Shape := ⟨2, ![512, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x4096, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v12 : Index := Scalar.indexCast arg2
  let c0_8 : Index := 0#32
  let c0_9 : Index := 0#32
  ![v12.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDownWgradIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .bf16⟩
  | .hbm, ⟨3, _⟩ => ⟨S5632x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KOWgrad.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩
abbrev S1x1024x4096 : Shape := ⟨3, ![1, 1024, 4096]⟩
abbrev S1024x4096 : Shape := ⟨2, ![1024, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v12 : Index := Scalar.indexCast arg2
  let c0_8 : Index := 0#32
  let c0_9 : Index := 0#32
  ![v12.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROWgradIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KOutWgrad.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩
abbrev S1x1024x4096 : Shape := ⟨3, ![1, 1024, 4096]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v12 : Index := Scalar.indexCast arg2
  let c0_8 : Index := 0#32
  let c0_9 : Index := 0#32
  ![v12.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutWgradIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .bf16⟩
  | .hbm, ⟨3, _⟩ => ⟨S1024x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KInWgradA.lean ====
abbrev S4096x2048 : Shape := ⟨2, ![4096, 2048]⟩
abbrev S4096x10368 : Shape := ⟨2, ![4096, 10368]⟩
abbrev S1536x10368 : Shape := ⟨2, ![1536, 10368]⟩
abbrev S4096x768 : Shape := ⟨2, ![4096, 768]⟩
abbrev S4096x1152 : Shape := ⟨2, ![4096, 1152]⟩
abbrev S768x1152 : Shape := ⟨2, ![768, 1152]⟩
abbrev S1x768x4096 : Shape := ⟨3, ![1, 768, 4096]⟩
abbrev S768x4096 : Shape := ⟨2, ![768, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S1536x10368, .bf16⟩
  | .local _ .vmem, ⟨0, _⟩ => ⟨S4096x768, .bf16⟩
  | .local _ .vmem, ⟨1, _⟩ => ⟨S4096x768, .bf16⟩
  | .local _ .vmem, ⟨2, _⟩ => ⟨S4096x1152, .bf16⟩
  | .local _ .vmem, ⟨3, _⟩ => ⟨S4096x1152, .bf16⟩
  | .local _ .vmem, ⟨4, _⟩ => ⟨S768x1152, .bf16⟩
  | .local _ .vmem, ⟨5, _⟩ => ⟨S768x1152, .bf16⟩
  | .local _ .vmem, ⟨6, _⟩ => ⟨S1x768x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v12 : Index := Scalar.indexCast arg2
  let c0_8 : Index := 0#32
  let c0_9 : Index := 0#32
  ![v12.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInWgradAIdeal.lean ====
abbrev S4096x2048 : Shape := ⟨2, ![4096, 2048]⟩
abbrev S4096x10368 : Shape := ⟨2, ![4096, 10368]⟩
abbrev S_ : Shape := ⟨0, ![]⟩
abbrev S2048x10368 : Shape := ⟨2, ![2048, 10368]⟩
abbrev S10368x2048 : Shape := ⟨2, ![10368, 2048]⟩
abbrev S1536x10368 : Shape := ⟨2, ![1536, 10368]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S_, .bf16⟩
  | .hbm, ⟨3, _⟩ => ⟨S2048x10368, .bf16⟩
  | .hbm, ⟨4, _⟩ => ⟨S4096x10368, .f32⟩
  | .hbm, ⟨5, _⟩ => ⟨S4096x10368, .bf16⟩
  | .hbm, ⟨6, _⟩ => ⟨S4096x10368, .f32⟩
  | .hbm, ⟨7, _⟩ => ⟨S10368x2048, .f32⟩
  | .hbm, ⟨8, _⟩ => ⟨S2048x10368, .f32⟩
  | .hbm, ⟨9, _⟩ => ⟨S2048x10368, .bf16⟩
  | .hbm, ⟨10, _⟩ => ⟨S1536x10368, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KInWgradB.lean ====
abbrev S4096x2048 : Shape := ⟨2, ![4096, 2048]⟩
abbrev S4096x10368 : Shape := ⟨2, ![4096, 10368]⟩
abbrev S512x10368 : Shape := ⟨2, ![512, 10368]⟩
abbrev S4096x512 : Shape := ⟨2, ![4096, 512]⟩
abbrev S4096x1152 : Shape := ⟨2, ![4096, 1152]⟩
abbrev S512x1152 : Shape := ⟨2, ![512, 1152]⟩
abbrev S1x512x4096 : Shape := ⟨3, ![1, 512, 4096]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S512x10368, .bf16⟩
  | .local _ .vmem, ⟨0, _⟩ => ⟨S4096x512, .bf16⟩
  | .local _ .vmem, ⟨1, _⟩ => ⟨S4096x1152, .bf16⟩
  | .local _ .vmem, ⟨2, _⟩ => ⟨S4096x1152, .bf16⟩
  | .local _ .vmem, ⟨3, _⟩ => ⟨S512x1152, .bf16⟩
  | .local _ .vmem, ⟨4, _⟩ => ⟨S512x1152, .bf16⟩
  | .local _ .vmem, ⟨5, _⟩ => ⟨S1x512x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v12 : Index := Scalar.indexCast arg2
  let c0_8 : Index := 0#32
  let c0_9 : Index := 0#32
  ![v12.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInWgradBIdeal.lean ====
abbrev S4096x2048 : Shape := ⟨2, ![4096, 2048]⟩
abbrev S4096x10368 : Shape := ⟨2, ![4096, 10368]⟩
abbrev S_ : Shape := ⟨0, ![]⟩
abbrev S2048x10368 : Shape := ⟨2, ![2048, 10368]⟩
abbrev S10368x2048 : Shape := ⟨2, ![10368, 2048]⟩
abbrev S512x10368 : Shape := ⟨2, ![512, 10368]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S_, .bf16⟩
  | .hbm, ⟨3, _⟩ => ⟨S2048x10368, .bf16⟩
  | .hbm, ⟨4, _⟩ => ⟨S4096x10368, .f32⟩
  | .hbm, ⟨5, _⟩ => ⟨S4096x10368, .bf16⟩
  | .hbm, ⟨6, _⟩ => ⟨S4096x10368, .f32⟩
  | .hbm, ⟨7, _⟩ => ⟨S10368x2048, .f32⟩
  | .hbm, ⟨8, _⟩ => ⟨S2048x10368, .f32⟩
  | .hbm, ⟨9, _⟩ => ⟨S2048x10368, .bf16⟩
  | .hbm, ⟨10, _⟩ => ⟨S512x10368, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KUpWgradA.lean ====
abbrev S4096x2048 : Shape := ⟨2, ![4096, 2048]⟩
abbrev S4096x11264 : Shape := ⟨2, ![4096, 11264]⟩
abbrev S8x1024x1408 : Shape := ⟨3, ![8, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S2x1024x2048 : Shape := ⟨3, ![2, 1024, 2048]⟩
abbrev S1024x2048 : Shape := ⟨2, ![1024, 2048]⟩
abbrev S1x1024x2048 : Shape := ⟨3, ![1, 1024, 2048]⟩

abbrev nBuf : Space → Nat
  | .hbm => 3
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | .local _ .vmem, ⟨7, _⟩ => ⟨S2x1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_5 : BitVec 32 := 0#32
  let v11 : BitVec 1 := Scalar.cmpi .eq arg1 c0_i32_5
  let v12 : BitVec 32 := Scalar.extui v11
  let c0_i32_6 : BitVec 32 := 0#32
  let v13 : BitVec 1 := Scalar.cmpi .ne v12 c0_i32_6
  v13

def k0_off1 (i : grid0.Coords) : Fin 3 → Nat :=
  let arg2 : BitVec 32 := BitVec.ofNat 32 (i 2).val
  let v24 : Index := Scalar.indexCast arg2
  let c0_14 : Index := 0#32
  let c0_15 : Index := 0#32
  ![v24.toNat, 0, 0]
def k0_off2 (i : grid0.Coords) : Fin 3 → Nat :=
  let arg2 : BitVec 32 := BitVec.ofNat 32 (i 2).val
  let v14 : Index := Scalar.indexCast arg2
  let c0 : Index := 0#32
  let c0_7 : Index := 0#32
  ![v14.toNat, 0, 0]
def k0_cond3 (i : grid0.Coords) : BitVec 1 :=
  let arg2 : BitVec 32 := BitVec.ofNat 32 (i 2).val
  let c0_i32_1 : BitVec 32 := 0#32
  let v3 : BitVec 1 := Scalar.cmpi .sgt arg2 c0_i32_1
  let c1_i32 : BitVec 32 := 1#32
  let v4 : BitVec 1 := Scalar.cmpi .slt arg2 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond4 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_off3 (i : grid0.Coords) : Fin 3 → Nat :=
  let arg2 : BitVec 32 := BitVec.ofNat 32 (i 2).val
  let v26 : Index := Scalar.indexCast arg2
  let c0_16 : Index := 0#32
  let c0_17 : Index := 0#32
  ![v26.toNat, 0, 0]
def k0_off4 (i : grid0.Coords) : Fin 3 → Nat :=
  let arg2 : BitVec 32 := BitVec.ofNat 32 (i 2).val
  let v15 : Index := Scalar.indexCast arg2
  let c0_8 : Index := 0#32
  let c0_9 : Index := 0#32
  ![v15.toNat, 0, 0]
def k0_cond5 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def k0_cond6 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_off5 (i : grid0.Coords) : Fin 3 → Nat :=
  let arg2 : BitVec 32 := BitVec.ofNat 32 (i 2).val
  let v27 : Index := Scalar.indexCast arg2
  let c0_17 : Index := 0#32
  let c0_18 : Index := 0#32
  ![v27.toNat, 0, 0]
def k0_off6 (i : grid0.Coords) : Fin 3 → Nat :=
  let arg2 : BitVec 32 := BitVec.ofNat 32 (i 2).val
  let v15 : Index := Scalar.indexCast arg2
  let c0_8 : Index := 0#32
  let c0_9 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUpWgradAIdeal.lean ====
abbrev S4096x2048 : Shape := ⟨2, ![4096, 2048]⟩
abbrev S4096x11264 : Shape := ⟨2, ![4096, 11264]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩
abbrev S8x1024x1408 : Shape := ⟨3, ![8, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .bf16⟩
  | .hbm, ⟨3, _⟩ => ⟨S8x2048x1408, .bf16⟩
  | .hbm, ⟨4, _⟩ => ⟨S2048x8x1408, .bf16⟩
  | .hbm, ⟨5, _⟩ => ⟨S2048x11264, .bf16⟩
  | .hbm, ⟨6, _⟩ => ⟨S4096x11264, .f32⟩
  | .hbm, ⟨7, _⟩ => ⟨S4096x11264, .bf16⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x11264, .bf16⟩
  | .hbm, ⟨12, _⟩ => ⟨S2048x8x1408, .bf16⟩
  | .hbm, ⟨13, _⟩ => ⟨S8x2048x1408, .bf16⟩
  | .hbm, ⟨14, _⟩ => ⟨S8x1024x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== KUpWgradB.lean ====
abbrev S4096x2048 : Shape := ⟨2, ![4096, 2048]⟩
abbrev S4096x11264 : Shape := ⟨2, ![4096, 11264]⟩
abbrev S8x1024x1408 : Shape := ⟨3, ![8, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S2x1024x2048 : Shape := ⟨3, ![2, 1024, 2048]⟩
abbrev S1024x2048 : Shape := ⟨2, ![1024, 2048]⟩
abbrev S1x1024x2048 : Shape := ⟨3, ![1, 1024, 2048]⟩

abbrev nBuf : Space → Nat
  | .hbm => 3
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | .local _ .vmem, ⟨7, _⟩ => ⟨S2x1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_5 : BitVec 32 := 0#32
  let v11 : BitVec 1 := Scalar.cmpi .eq arg1 c0_i32_5
  let v12 : BitVec 32 := Scalar.extui v11
  let c0_i32_6 : BitVec 32 := 0#32
  let v13 : BitVec 1 := Scalar.cmpi .ne v12 c0_i32_6
  v13

def k0_off1 (i : grid0.Coords) : Fin 3 → Nat :=
  let arg2 : BitVec 32 := BitVec.ofNat 32 (i 2).val
  let v24 : Index := Scalar.indexCast arg2
  let c0_14 : Index := 0#32
  let c0_15 : Index := 0#32
  ![v24.toNat, 0, 0]
def k0_off2 (i : grid0.Coords) : Fin 3 → Nat :=
  let arg2 : BitVec 32 := BitVec.ofNat 32 (i 2).val
  let v14 : Index := Scalar.indexCast arg2
  let c0 : Index := 0#32
  let c0_7 : Index := 0#32
  ![v14.toNat, 0, 0]
def k0_cond3 (i : grid0.Coords) : BitVec 1 :=
  let arg2 : BitVec 32 := BitVec.ofNat 32 (i 2).val
  let c0_i32_1 : BitVec 32 := 0#32
  let v3 : BitVec 1 := Scalar.cmpi .sgt arg2 c0_i32_1
  let c1_i32 : BitVec 32 := 1#32
  let v4 : BitVec 1 := Scalar.cmpi .slt arg2 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond4 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_off3 (i : grid0.Coords) : Fin 3 → Nat :=
  let arg2 : BitVec 32 := BitVec.ofNat 32 (i 2).val
  let v26 : Index := Scalar.indexCast arg2
  let c0_16 : Index := 0#32
  let c0_17 : Index := 0#32
  ![v26.toNat, 0, 0]
def k0_off4 (i : grid0.Coords) : Fin 3 → Nat :=
  let arg2 : BitVec 32 := BitVec.ofNat 32 (i 2).val
  let v15 : Index := Scalar.indexCast arg2
  let c0_8 : Index := 0#32
  let c0_9 : Index := 0#32
  ![v15.toNat, 0, 0]
def k0_cond5 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def k0_cond6 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_off5 (i : grid0.Coords) : Fin 3 → Nat :=
  let arg2 : BitVec 32 := BitVec.ofNat 32 (i 2).val
  let v27 : Index := Scalar.indexCast arg2
  let c0_17 : Index := 0#32
  let c0_18 : Index := 0#32
  ![v27.toNat, 0, 0]
def k0_off6 (i : grid0.Coords) : Fin 3 → Nat :=
  let arg2 : BitVec 32 := BitVec.ofNat 32 (i 2).val
  let v15 : Index := Scalar.indexCast arg2
  let c0_8 : Index := 0#32
  let c0_9 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUpWgradBIdeal.lean ====
abbrev S4096x2048 : Shape := ⟨2, ![4096, 2048]⟩
abbrev S4096x11264 : Shape := ⟨2, ![4096, 11264]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩
abbrev S8x1024x1408 : Shape := ⟨3, ![8, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .bf16⟩
  | .hbm, ⟨3, _⟩ => ⟨S8x2048x1408, .bf16⟩
  | .hbm, ⟨4, _⟩ => ⟨S2048x8x1408, .bf16⟩
  | .hbm, ⟨5, _⟩ => ⟨S2048x11264, .bf16⟩
  | .hbm, ⟨6, _⟩ => ⟨S4096x11264, .f32⟩
  | .hbm, ⟨7, _⟩ => ⟨S4096x11264, .bf16⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x11264, .bf16⟩
  | .hbm, ⟨12, _⟩ => ⟨S2048x8x1408, .bf16⟩
  | .hbm, ⟨13, _⟩ => ⟨S8x2048x1408, .bf16⟩
  | .hbm, ⟨14, _⟩ => ⟨S8x1024x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== KAdamAdaB.lean ====
abbrev S8x2x12288 : Shape := ⟨3, ![8, 2, 12288]⟩
abbrev S1x2x12288 : Shape := ⟨3, ![1, 2, 12288]⟩
abbrev S2x12288 : Shape := ⟨2, ![2, 12288]⟩

abbrev nBuf : Space → Nat
  | .hbm => 8
  | .vmem => 8
  | .smem => 0
  | _ => 0

abbrev bufTy : (tb : Table) → Fin (tcTables nBuf tb) → BufTy
  | .hbm, ⟨0, _⟩ => ⟨S8x2x12288, .f32⟩
  | .hbm, ⟨1, _⟩ => ⟨S1x2x12288, .f32⟩
  | .hbm, ⟨2, _⟩ => ⟨S1x2x12288, .f32⟩
  | .hbm, ⟨3, _⟩ => ⟨S1x2x12288, .f32⟩
  | .hbm, ⟨4, _⟩ => ⟨S1x2x12288, .f32⟩
  | .hbm, ⟨5, _⟩ => ⟨S1x2x12288, .f32⟩
  | .hbm, ⟨6, _⟩ => ⟨S1x2x12288, .f32⟩
  | .hbm, ⟨7, _⟩ => ⟨S1x2x12288, .f32⟩
  | .local _ .vmem, ⟨0, _⟩ => ⟨S8x2x12288, .f32⟩
  | .local _ .vmem, ⟨1, _⟩ => ⟨S1x2x12288, .f32⟩
  | .local _ .vmem, ⟨2, _⟩ => ⟨S1x2x12288, .f32⟩
  | .local _ .vmem, ⟨3, _⟩ => ⟨S1x2x12288, .f32⟩
  | .local _ .vmem, ⟨4, _⟩ => ⟨S1x2x12288, .f32⟩
  | .local _ .vmem, ⟨5, _⟩ => ⟨S1x2x12288, .f32⟩
  | .local _ .vmem, ⟨6, _⟩ => ⟨S1x2x12288, .f32⟩
  | .local _ .vmem, ⟨7, _⟩ => ⟨S1x2x12288, .f32⟩
  | _, _ => ⟨S8x2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KAdamAdaBIdeal.lean ====
abbrev S8x2x12288 : Shape := ⟨3, ![8, 2, 12288]⟩
abbrev S1x2x12288 : Shape := ⟨3, ![1, 2, 12288]⟩
abbrev S2x12288 : Shape := ⟨2, ![2, 12288]⟩

abbrev nBuf : Space → Nat
  | .hbm => 8
  | .vmem => 8
  | .smem => 0
  | _ => 0

abbrev bufTy : (tb : Table) → Fin (tcTables nBuf tb) → BufTy
  | .hbm, ⟨0, _⟩ => ⟨S8x2x12288, .f32⟩
  | .hbm, ⟨1, _⟩ => ⟨S1x2x12288, .f32⟩
  | .hbm, ⟨2, _⟩ => ⟨S1x2x12288, .f32⟩
  | .hbm, ⟨3, _⟩ => ⟨S1x2x12288, .f32⟩
  | .hbm, ⟨4, _⟩ => ⟨S1x2x12288, .f32⟩
  | .hbm, ⟨5, _⟩ => ⟨S1x2x12288, .f32⟩
  | .hbm, ⟨6, _⟩ => ⟨S1x2x12288, .f32⟩
  | .hbm, ⟨7, _⟩ => ⟨S1x2x12288, .f32⟩
  | .local _ .vmem, ⟨0, _⟩ => ⟨S8x2x12288, .f32⟩
  | .local _ .vmem, ⟨1, _⟩ => ⟨S1x2x12288, .f32⟩
  | .local _ .vmem, ⟨2, _⟩ => ⟨S1x2x12288, .f32⟩
  | .local _ .vmem, ⟨3, _⟩ => ⟨S1x2x12288, .f32⟩
  | .local _ .vmem, ⟨4, _⟩ => ⟨S1x2x12288, .f32⟩
  | .local _ .vmem, ⟨5, _⟩ => ⟨S1x2x12288, .f32⟩
  | .local _ .vmem, ⟨6, _⟩ => ⟨S1x2x12288, .f32⟩
  | .local _ .vmem, ⟨7, _⟩ => ⟨S1x2x12288, .f32⟩
  | _, _ => ⟨S8x2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RAdamAdaBIdeal.lean ====
abbrev S8x2x12288 : Shape := ⟨3, ![8, 2, 12288]⟩
abbrev S1x2x12288 : Shape := ⟨3, ![1, 2, 12288]⟩
abbrev S_ : Shape := ⟨0, ![]⟩
abbrev S2x12288 : Shape := ⟨2, ![2, 12288]⟩

abbrev nBuf : Space → Nat
  | .hbm => 40
  | .vmem => 0
  | .smem => 0
  | _ => 0

abbrev bufTy : (tb : Table) → Fin (tcTables nBuf tb) → BufTy
  | .hbm, ⟨0, _⟩ => ⟨S8x2x12288, .f32⟩
  | .hbm, ⟨1, _⟩ => ⟨S1x2x12288, .f32⟩
  | .hbm, ⟨2, _⟩ => ⟨S1x2x12288, .f32⟩
  | .hbm, ⟨3, _⟩ => ⟨S1x2x12288, .f32⟩
  | .hbm, ⟨4, _⟩ => ⟨S_, .f32⟩
  | .hbm, ⟨5, _⟩ => ⟨S2x12288, .f32⟩
  | .hbm, ⟨6, _⟩ => ⟨S1x2x12288, .f32⟩
  | .hbm, ⟨7, _⟩ => ⟨S_, .f32⟩
  | .hbm, ⟨8, _⟩ => ⟨S1x2x12288, .f32⟩
  | .hbm, ⟨9, _⟩ => ⟨S1x2x12288, .f32⟩
  | .hbm, ⟨10, _⟩ => ⟨S_, .f32⟩
  | .hbm, ⟨11, _⟩ => ⟨S1x2x12288, .f32⟩
  | .hbm, ⟨12, _⟩ => ⟨S1x2x12288, .f32⟩
  | .hbm, ⟨13, _⟩ => ⟨S1x2x12288, .f32⟩
  | .hbm, ⟨14, _⟩ => ⟨S_, .f32⟩
  | .hbm, ⟨15, _⟩ => ⟨S1x2x12288, .f32⟩
  | .hbm, ⟨16, _⟩ => ⟨S1x2x12288, .f32⟩
  | .hbm, ⟨17, _⟩ => ⟨S1x2x12288, .f32⟩
  | .hbm, ⟨18, _⟩ => ⟨S_, .f32⟩
  | .hbm, ⟨19, _⟩ => ⟨S1x2x12288, .f32⟩
  | .hbm, ⟨20, _⟩ => ⟨S1x2x12288, .f32⟩
  | .hbm, ⟨21, _⟩ => ⟨S1x2x12288, .f32⟩
  | .hbm, ⟨22, _⟩ => ⟨S_, .f32⟩
  | .hbm, ⟨23, _⟩ => ⟨S1x2x12288, .f32⟩
  | .hbm, ⟨24, _⟩ => ⟨S1x2x12288, .f32⟩
  | .hbm, ⟨25, _⟩ => ⟨S_, .f32⟩
  | .hbm, ⟨26, _⟩ => ⟨S1x2x12288, .f32⟩
  | .hbm, ⟨27, _⟩ => ⟨S1x2x12288, .f32⟩
  | .hbm, ⟨28, _⟩ => ⟨S1x2x12288, .f32⟩
  | .hbm, ⟨29, _⟩ => ⟨S_, .f32⟩
  | .hbm, ⟨30, _⟩ => ⟨S1x2x12288, .f32⟩
  | .hbm, ⟨31, _⟩ => ⟨S1x2x12288, .f32⟩
  | .hbm, ⟨32, _⟩ => ⟨S1x2x12288, .f32⟩
  | .hbm, ⟨33, _⟩ => ⟨S_, .f32⟩
  | .hbm, ⟨34, _⟩ => ⟨S1x2x12288, .f32⟩
  | .hbm, ⟨35, _⟩ => ⟨S1x2x12288, .f32⟩
  | .hbm, ⟨36, _⟩ => ⟨S1x2x12288, .f32⟩
  | .hbm, ⟨37, _⟩ => ⟨S_, .f32⟩
  | .hbm, ⟨38, _⟩ => ⟨S1x2x12288, .f32⟩
  | .hbm, ⟨39, _⟩ => ⟨S1x2x12288, .f32⟩
  | _, _ => ⟨S8x2x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamNormG.lean ====
abbrev S8x8x256 : Shape := ⟨3, ![8, 8, 256]⟩
abbrev S1x8x256 : Shape := ⟨3, ![1, 8, 256]⟩
abbrev S8x256 : Shape := ⟨2, ![8, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x8x256, .f32⟩
  | .hbm, ⟨1, _⟩ => ⟨S1x8x256, .f32⟩
  | .hbm, ⟨2, _⟩ => ⟨S1x8x256, .f32⟩
  | .hbm, ⟨3, _⟩ => ⟨S1x8x256, .f32⟩
  | .hbm, ⟨4, _⟩ => ⟨S1x8x256, .f32⟩
  | .hbm, ⟨5, _⟩ => ⟨S1x8x256, .f32⟩
  | .hbm, ⟨6, _⟩ => ⟨S1x8x256, .f32⟩
  | .hbm, ⟨7, _⟩ => ⟨S1x8x256, .f32⟩
  | .local _ .vmem, ⟨0, _⟩ => ⟨S8x8x256, .f32⟩
  | .local _ .vmem, ⟨1, _⟩ => ⟨S1x8x256, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | _, _ => ⟨S8x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KAdamNormGIdeal.lean ====
abbrev S8x8x256 : Shape := ⟨3, ![8, 8, 256]⟩
abbrev S1x8x256 : Shape := ⟨3, ![1, 8, 256]⟩
abbrev S8x256 : Shape := ⟨2, ![8, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x8x256, .f32⟩
  | .hbm, ⟨1, _⟩ => ⟨S1x8x256, .f32⟩
  | .hbm, ⟨2, _⟩ => ⟨S1x8x256, .f32⟩
  | .hbm, ⟨3, _⟩ => ⟨S1x8x256, .f32⟩
  | .hbm, ⟨4, _⟩ => ⟨S1x8x256, .f32⟩
  | .hbm, ⟨5, _⟩ => ⟨S1x8x256, .f32⟩
  | .hbm, ⟨6, _⟩ => ⟨S1x8x256, .f32⟩
  | .hbm, ⟨7, _⟩ => ⟨S1x8x256, .f32⟩
  | .local _ .vmem, ⟨0, _⟩ => ⟨S8x8x256, .f32⟩
  | .local _ .vmem, ⟨1, _⟩ => ⟨S1x8x256, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | _, _ => ⟨S8x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RAdamNormGIdeal.lean ====
abbrev S8x8x256 : Shape := ⟨3, ![8, 8, 256]⟩
abbrev S1x8x256 : Shape := ⟨3, ![1, 8, 256]⟩
abbrev S_ : Shape := ⟨0, ![]⟩
abbrev S8x256 : Shape := ⟨2, ![8, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x8x256, .f32⟩
  | .hbm, ⟨1, _⟩ => ⟨S1x8x256, .f32⟩
  | .hbm, ⟨2, _⟩ => ⟨S1x8x256, .f32⟩
  | .hbm, ⟨3, _⟩ => ⟨S1x8x256, .f32⟩
  | .hbm, ⟨4, _⟩ => ⟨S_, .f32⟩
  | .hbm, ⟨5, _⟩ => ⟨S8x256, .f32⟩
  | .hbm, ⟨6, _⟩ => ⟨S1x8x256, .f32⟩
  | .hbm, ⟨7, _⟩ => ⟨S_, .f32⟩
  | .hbm, ⟨8, _⟩ => ⟨S1x8x256, .f32⟩
  | .hbm, ⟨9, _⟩ => ⟨S1x8x256, .f32⟩
  | .hbm, ⟨10, _⟩ => ⟨S_, .f32⟩
  | .hbm, ⟨11, _⟩ => ⟨S1x8x256, .f32⟩
  | .hbm, ⟨12, _⟩ => ⟨S1x8x256, .f32⟩
  | .hbm, ⟨13, _⟩ => ⟨S1x8x256, .f32⟩
  | .hbm, ⟨14, _⟩ => ⟨S_, .f32⟩
  | .hbm, ⟨15, _⟩ => ⟨S1x8x256, .f32⟩
  | .hbm, ⟨16, _⟩ => ⟨S1x8x256, .f32⟩
  | .hbm, ⟨17, _⟩ => ⟨S1x8x256, .f32⟩
  | .hbm, ⟨18, _⟩ => ⟨S_, .f32⟩
  | .hbm, ⟨19, _⟩ => ⟨S1x8x256, .f32⟩
  | .hbm, ⟨20, _⟩ => ⟨S1x8x256, .f32⟩
  | .hbm, ⟨21, _⟩ => ⟨S1x8x256, .f32⟩
  | .hbm, ⟨22, _⟩ => ⟨S_, .f32⟩
  | .hbm, ⟨23, _⟩ => ⟨S1x8x256, .f32⟩
  | .hbm, ⟨24, _⟩ => ⟨S1x8x256, .f32⟩
  | .hbm, ⟨25, _⟩ => ⟨S_, .f32⟩
  | .hbm, ⟨26, _⟩ => ⟨S1x8x256, .f32⟩
  | .hbm, ⟨27, _⟩ => ⟨S1x8x256, .f32⟩
  | .hbm, ⟨28, _⟩ => ⟨S1x8x256, .f32⟩
  | .hbm, ⟨29, _⟩ => ⟨S_, .f32⟩
  | .hbm, ⟨30, _⟩ => ⟨S1x8x256, .f32⟩
  | .hbm, ⟨31, _⟩ => ⟨S1x8x256, .f32⟩
  | .hbm, ⟨32, _⟩ => ⟨S1x8x256, .f32⟩
  | .hbm, ⟨33, _⟩ => ⟨S_, .f32⟩
  | .hbm, ⟨34, _⟩ => ⟨S1x8x256, .f32⟩
  | .hbm, ⟨35, _⟩ => ⟨S1x8x256, .f32⟩
  | .hbm, ⟨36, _⟩ => ⟨S1x8x256, .f32⟩
  | .hbm, ⟨37, _⟩ => ⟨S_, .f32⟩
  | .hbm, ⟨38, _⟩ => ⟨S1x8x256, .f32⟩
  | .hbm, ⟨39, _⟩ => ⟨S1x8x256, .f32⟩
  | _, _ => ⟨S8x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamGateW.lean ====
abbrev S8x32x64 : Shape := ⟨3, ![8, 32, 64]⟩
abbrev S1x32x64 : Shape := ⟨3, ![1, 32, 64]⟩
abbrev S32x64 : Shape := ⟨2, ![32, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S1x32x64, .f32⟩
  | .hbm, ⟨5, _⟩ => ⟨S1x32x64, .f32⟩
  | .hbm, ⟨6, _⟩ => ⟨S1x32x64, .f32⟩
  | .hbm, ⟨7, _⟩ => ⟨S1x32x64, .f32⟩
  | .local _ .vmem, ⟨0, _⟩ => ⟨S8x32x64, .f32⟩
  | .local _ .vmem, ⟨1, _⟩ => ⟨S1x32x64, .f32⟩
  | .local _ .vmem, ⟨2, _⟩ => ⟨S1x32x64, .f32⟩
  | .local _ .vmem, ⟨3, _⟩ => ⟨S1x32x64, .f32⟩
  | .local _ .vmem, ⟨4, _⟩ => ⟨S1x32x64, .f32⟩
  | .local _ .vmem, ⟨5, _⟩ => ⟨S1x32x64, .f32⟩
  | .local _ .vmem, ⟨6, _⟩ => ⟨S1x32x64, .f32⟩
  | .local _ .vmem, ⟨7, _⟩ => ⟨S1x32x64, .f32⟩
  | _, _ => ⟨S8x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KAdamGateWIdeal.lean ====
abbrev S8x32x64 : Shape := ⟨3, ![8, 32, 64]⟩
abbrev S1x32x64 : Shape := ⟨3, ![1, 32, 64]⟩
abbrev S32x64 : Shape := ⟨2, ![32, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S1x32x64, .f32⟩
  | .hbm, ⟨5, _⟩ => ⟨S1x32x64, .f32⟩
  | .hbm, ⟨6, _⟩ => ⟨S1x32x64, .f32⟩
  | .hbm, ⟨7, _⟩ => ⟨S1x32x64, .f32⟩
  | .local _ .vmem, ⟨0, _⟩ => ⟨S8x32x64, .f32⟩
  | .local _ .vmem, ⟨1, _⟩ => ⟨S1x32x64, .f32⟩
  | .local _ .vmem, ⟨2, _⟩ => ⟨S1x32x64, .f32⟩
  | .local _ .vmem, ⟨3, _⟩ => ⟨S1x32x64, .f32⟩
  | .local _ .vmem, ⟨4, _⟩ => ⟨S1x32x64, .f32⟩
  | .local _ .vmem, ⟨5, _⟩ => ⟨S1x32x64, .f32⟩
  | .local _ .vmem, ⟨6, _⟩ => ⟨S1x32x64, .f32⟩
  | .local _ .vmem, ⟨7, _⟩ => ⟨S1x32x64, .f32⟩
  | _, _ => ⟨S8x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RAdamGateWIdeal.lean ====
abbrev S8x32x64 : Shape := ⟨3, ![8, 32, 64]⟩
abbrev S1x32x64 : Shape := ⟨3, ![1, 32, 64]⟩
abbrev S_ : Shape := ⟨0, ![]⟩
abbrev S32x64 : Shape := ⟨2, ![32, 64]⟩

abbrev nBuf : Space → Nat
  | .hbm => 40
  | .vmem => 0
  | .smem => 0
  | _ => 0

abbrev bufTy : (tb : Table) → Fin (tcTables nBuf tb) → BufTy
  | .hbm, ⟨0, _⟩ => ⟨S8x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S_, .f32⟩
  | .hbm, ⟨5, _⟩ => ⟨S32x64, .f32⟩
  | .hbm, ⟨6, _⟩ => ⟨S1x32x64, .f32⟩
  | .hbm, ⟨7, _⟩ => ⟨S_, .f32⟩
  | .hbm, ⟨8, _⟩ => ⟨S1x32x64, .f32⟩
  | .hbm, ⟨9, _⟩ => ⟨S1x32x64, .f32⟩
  | .hbm, ⟨10, _⟩ => ⟨S_, .f32⟩
  | .hbm, ⟨11, _⟩ => ⟨S1x32x64, .f32⟩
  | .hbm, ⟨12, _⟩ => ⟨S1x32x64, .f32⟩
  | .hbm, ⟨13, _⟩ => ⟨S1x32x64, .f32⟩
  | .hbm, ⟨14, _⟩ => ⟨S_, .f32⟩
  | .hbm, ⟨15, _⟩ => ⟨S1x32x64, .f32⟩
  | .hbm, ⟨16, _⟩ => ⟨S1x32x64, .f32⟩
  | .hbm, ⟨17, _⟩ => ⟨S1x32x64, .f32⟩
  | .hbm, ⟨18, _⟩ => ⟨S_, .f32⟩
  | .hbm, ⟨19, _⟩ => ⟨S1x32x64, .f32⟩
  | .hbm, ⟨20, _⟩ => ⟨S1x32x64, .f32⟩
  | .hbm, ⟨21, _⟩ => ⟨S1x32x64, .f32⟩
  | .hbm, ⟨22, _⟩ => ⟨S_, .f32⟩
  | .hbm, ⟨23, _⟩ => ⟨S1x32x64, .f32⟩
  | .hbm, ⟨24, _⟩ => ⟨S1x32x64, .f32⟩
  | .hbm, ⟨25, _⟩ => ⟨S_, .f32⟩
  | .hbm, ⟨26, _⟩ => ⟨S1x32x64, .f32⟩
  | .hbm, ⟨27, _⟩ => ⟨S1x32x64, .f32⟩
  | .hbm, ⟨28, _⟩ => ⟨S1x32x64, .f32⟩
  | .hbm, ⟨29, _⟩ => ⟨S_, .f32⟩
  | .hbm, ⟨30, _⟩ => ⟨S1x32x64, .f32⟩
  | .hbm, ⟨31, _⟩ => ⟨S1x32x64, .f32⟩
  | .hbm, ⟨32, _⟩ => ⟨S1x32x64, .f32⟩
  | .hbm, ⟨33, _⟩ => ⟨S_, .f32⟩
  | .hbm, ⟨34, _⟩ => ⟨S1x32x64, .f32⟩
  | .hbm, ⟨35, _⟩ => ⟨S1x32x64, .f32⟩
  | .hbm, ⟨36, _⟩ => ⟨S1x32x64, .f32⟩
  | .hbm, ⟨37, _⟩ => ⟨S_, .f32⟩
  | .hbm, ⟨38, _⟩ => ⟨S1x32x64, .f32⟩
  | .hbm, ⟨39, _⟩ => ⟨S1x32x64, .f32⟩
  | _, _ => ⟨S8x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamGateB.lean ====
abbrev S8x2x512 : Shape := ⟨3, ![8, 2, 512]⟩
abbrev S1x2x512 : Shape := ⟨3, ![1, 2, 512]⟩
abbrev S2x512 : Shape := ⟨2, ![2, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S8x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S8x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KAdamGateBIdeal.lean ====
abbrev S8x2x512 : Shape := ⟨3, ![8, 2, 512]⟩
abbrev S1x2x512 : Shape := ⟨3, ![1, 2, 512]⟩
abbrev S2x512 : Shape := ⟨2, ![2, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S8x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S8x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RAdamGateBIdeal.lean ====
abbrev S8x2x512 : Shape := ⟨3, ![8, 2, 512]⟩
abbrev S1x2x512 : Shape := ⟨3, ![1, 2, 512]⟩
abbrev S_ : Shape := ⟨0, ![]⟩
abbrev S2x512 : Shape := ⟨2, ![2, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S_, .f32⟩
  | .hbm, ⟨5, _⟩ => ⟨S2x512, .f32⟩
  | .hbm, ⟨6, _⟩ => ⟨S1x2x512, .f32⟩
  | .hbm, ⟨7, _⟩ => ⟨S_, .f32⟩
  | .hbm, ⟨8, _⟩ => ⟨S1x2x512, .f32⟩
  | .hbm, ⟨9, _⟩ => ⟨S1x2x512, .f32⟩
  | .hbm, ⟨10, _⟩ => ⟨S_, .f32⟩
  | .hbm, ⟨11, _⟩ => ⟨S1x2x512, .f32⟩
  | .hbm, ⟨12, _⟩ => ⟨S1x2x512, .f32⟩
  | .hbm, ⟨13, _⟩ => ⟨S1x2x512, .f32⟩
  | .hbm, ⟨14, _⟩ => ⟨S_, .f32⟩
  | .hbm, ⟨15, _⟩ => ⟨S1x2x512, .f32⟩
  | .hbm, ⟨16, _⟩ => ⟨S1x2x512, .f32⟩
  | .hbm, ⟨17, _⟩ => ⟨S1x2x512, .f32⟩
  | .hbm, ⟨18, _⟩ => ⟨S_, .f32⟩
  | .hbm, ⟨19, _⟩ => ⟨S1x2x512, .f32⟩
  | .hbm, ⟨20, _⟩ => ⟨S1x2x512, .f32⟩
  | .hbm, ⟨21, _⟩ => ⟨S1x2x512, .f32⟩
  | .hbm, ⟨22, _⟩ => ⟨S_, .f32⟩
  | .hbm, ⟨23, _⟩ => ⟨S1x2x512, .f32⟩
  | .hbm, ⟨24, _⟩ => ⟨S1x2x512, .f32⟩
  | .hbm, ⟨25, _⟩ => ⟨S_, .f32⟩
  | .hbm, ⟨26, _⟩ => ⟨S1x2x512, .f32⟩
  | .hbm, ⟨27, _⟩ => ⟨S1x2x512, .f32⟩
  | .hbm, ⟨28, _⟩ => ⟨S1x2x512, .f32⟩
  | .hbm, ⟨29, _⟩ => ⟨S_, .f32⟩
  | .hbm, ⟨30, _⟩ => ⟨S1x2x512, .f32⟩
  | .hbm, ⟨31, _⟩ => ⟨S1x2x512, .f32⟩
  | .hbm, ⟨32, _⟩ => ⟨S1x2x512, .f32⟩
  | .hbm, ⟨33, _⟩ => ⟨S_, .f32⟩
  | .hbm, ⟨34, _⟩ => ⟨S1x2x512, .f32⟩
  | .hbm, ⟨35, _⟩ => ⟨S1x2x512, .f32⟩
  | .hbm, ⟨36, _⟩ => ⟨S1x2x512, .f32⟩
  | .hbm, ⟨37, _⟩ => ⟨S_, .f32⟩
  | .hbm, ⟨38, _⟩ => ⟨S1x2x512, .f32⟩
  | .hbm, ⟨39, _⟩ => ⟨S1x2x512, .f32⟩
  | _, _ => ⟨S8x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamGlaNorm.lean ====
abbrev S8x2x256 : Shape := ⟨3, ![8, 2, 256]⟩
abbrev S1x2x256 : Shape := ⟨3, ![1, 2, 256]⟩
abbrev S2x256 : Shape := ⟨2, ![2, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .local _ .vmem, ⟨0, _⟩ => ⟨S8x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | _, _ => ⟨S8x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KAdamGlaNormIdeal.lean ====
abbrev S8x2x256 : Shape := ⟨3, ![8, 2, 256]⟩
abbrev S1x2x256 : Shape := ⟨3, ![1, 2, 256]⟩
abbrev S2x256 : Shape := ⟨2, ![2, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .local _ .vmem, ⟨0, _⟩ => ⟨S8x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | _, _ => ⟨S8x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RAdamGlaNormIdeal.lean ====
abbrev S8x2x256 : Shape := ⟨3, ![8, 2, 256]⟩
abbrev S1x2x256 : Shape := ⟨3, ![1, 2, 256]⟩
abbrev S_ : Shape := ⟨0, ![]⟩
abbrev S2x256 : Shape := ⟨2, ![2, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S_, .f32⟩
  | .hbm, ⟨5, _⟩ => ⟨S2x256, .f32⟩
  | .hbm, ⟨6, _⟩ => ⟨S1x2x256, .f32⟩
  | .hbm, ⟨7, _⟩ => ⟨S_, .f32⟩
  | .hbm, ⟨8, _⟩ => ⟨S1x2x256, .f32⟩
  | .hbm, ⟨9, _⟩ => ⟨S1x2x256, .f32⟩
  | .hbm, ⟨10, _⟩ => ⟨S_, .f32⟩
  | .hbm, ⟨11, _⟩ => ⟨S1x2x256, .f32⟩
  | .hbm, ⟨12, _⟩ => ⟨S1x2x256, .f32⟩
  | .hbm, ⟨13, _⟩ => ⟨S1x2x256, .f32⟩
  | .hbm, ⟨14, _⟩ => ⟨S_, .f32⟩
  | .hbm, ⟨15, _⟩ => ⟨S1x2x256, .f32⟩
  | .hbm, ⟨16, _⟩ => ⟨S1x2x256, .f32⟩
  | .hbm, ⟨17, _⟩ => ⟨S1x2x256, .f32⟩
  | .hbm, ⟨18, _⟩ => ⟨S_, .f32⟩
  | .hbm, ⟨19, _⟩ => ⟨S1x2x256, .f32⟩
  | .hbm, ⟨20, _⟩ => ⟨S1x2x256, .f32⟩
  | .hbm, ⟨21, _⟩ => ⟨S1x2x256, .f32⟩
  | .hbm, ⟨22, _⟩ => ⟨S_, .f32⟩
  | .hbm, ⟨23, _⟩ => ⟨S1x2x256, .f32⟩
  | .hbm, ⟨24, _⟩ => ⟨S1x2x256, .f32⟩
  | .hbm, ⟨25, _⟩ => ⟨S_, .f32⟩
  | .hbm, ⟨26, _⟩ => ⟨S1x2x256, .f32⟩
  | .hbm, ⟨27, _⟩ => ⟨S1x2x256, .f32⟩
  | .hbm, ⟨28, _⟩ => ⟨S1x2x256, .f32⟩
  | .hbm, ⟨29, _⟩ => ⟨S_, .f32⟩
  | .hbm, ⟨30, _⟩ => ⟨S1x2x256, .f32⟩
  | .hbm, ⟨31, _⟩ => ⟨S1x2x256, .f32⟩
  | .hbm, ⟨32, _⟩ => ⟨S1x2x256, .f32⟩
  | .hbm, ⟨33, _⟩ => ⟨S_, .f32⟩
  | .hbm, ⟨34, _⟩ => ⟨S1x2x256, .f32⟩
  | .hbm, ⟨35, _⟩ => ⟨S1x2x256, .f32⟩
  | .hbm, ⟨36, _⟩ => ⟨S1x2x256, .f32⟩
  | .hbm, ⟨37, _⟩ => ⟨S_, .f32⟩
  | .hbm, ⟨38, _⟩ => ⟨S1x2x256, .f32⟩
  | .hbm, ⟨39, _⟩ => ⟨S1x2x256, .f32⟩
  | _, _ => ⟨S8x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamConvW.lean ====
abbrev S8x6x128 : Shape := ⟨3, ![8, 6, 128]⟩
abbrev S1x6x128 : Shape := ⟨3, ![1, 6, 128]⟩
abbrev S6x128 : Shape := ⟨2, ![6, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x6x128, .f32⟩
  | .hbm, ⟨1, _⟩ => ⟨S1x6x128, .f32⟩
  | .hbm, ⟨2, _⟩ => ⟨S1x6x128, .f32⟩
  | .hbm, ⟨3, _⟩ => ⟨S1x6x128, .f32⟩
  | .hbm, ⟨4, _⟩ => ⟨S1x6x128, .f32⟩
  | .hbm, ⟨5, _⟩ => ⟨S1x6x128, .f32⟩
  | .hbm, ⟨6, _⟩ => ⟨S1x6x128, .f32⟩
  | .hbm, ⟨7, _⟩ => ⟨S1x6x128, .f32⟩
  | .local _ .vmem, ⟨0, _⟩ => ⟨S8x6x128, .f32⟩
  | .local _ .vmem, ⟨1, _⟩ => ⟨S1x6x128, .f32⟩
  | .local _ .vmem, ⟨2, _⟩ => ⟨S1x6x128, .f32⟩
  | .local _ .vmem, ⟨3, _⟩ => ⟨S1x6x128, .f32⟩
  | .local _ .vmem, ⟨4, _⟩ => ⟨S1x6x128, .f32⟩
  | .local _ .vmem, ⟨5, _⟩ => ⟨S1x6x128, .f32⟩
  | .local _ .vmem, ⟨6, _⟩ => ⟨S1x6x128, .f32⟩
  | .local _ .vmem, ⟨7, _⟩ => ⟨S1x6x128, .f32⟩
  | _, _ => ⟨S8x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KAdamConvWIdeal.lean ====
abbrev S8x6x128 : Shape := ⟨3, ![8, 6, 128]⟩
abbrev S1x6x128 : Shape := ⟨3, ![1, 6, 128]⟩
abbrev S6x128 : Shape := ⟨2, ![6, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x6x128, .f32⟩
  | .hbm, ⟨1, _⟩ => ⟨S1x6x128, .f32⟩
  | .hbm, ⟨2, _⟩ => ⟨S1x6x128, .f32⟩
  | .hbm, ⟨3, _⟩ => ⟨S1x6x128, .f32⟩
  | .hbm, ⟨4, _⟩ => ⟨S1x6x128, .f32⟩
  | .hbm, ⟨5, _⟩ => ⟨S1x6x128, .f32⟩
  | .hbm, ⟨6, _⟩ => ⟨S1x6x128, .f32⟩
  | .hbm, ⟨7, _⟩ => ⟨S1x6x128, .f32⟩
  | .local _ .vmem, ⟨0, _⟩ => ⟨S8x6x128, .f32⟩
  | .local _ .vmem, ⟨1, _⟩ => ⟨S1x6x128, .f32⟩
  | .local _ .vmem, ⟨2, _⟩ => ⟨S1x6x128, .f32⟩
  | .local _ .vmem, ⟨3, _⟩ => ⟨S1x6x128, .f32⟩
  | .local _ .vmem, ⟨4, _⟩ => ⟨S1x6x128, .f32⟩
  | .local _ .vmem, ⟨5, _⟩ => ⟨S1x6x128, .f32⟩
  | .local _ .vmem, ⟨6, _⟩ => ⟨S1x6x128, .f32⟩
  | .local _ .vmem, ⟨7, _⟩ => ⟨S1x6x128, .f32⟩
  | _, _ => ⟨S8x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RAdamConvWIdeal.lean ====
abbrev S8x6x128 : Shape := ⟨3, ![8, 6, 128]⟩
abbrev S1x6x128 : Shape := ⟨3, ![1, 6, 128]⟩
abbrev S_ : Shape := ⟨0, ![]⟩
abbrev S6x128 : Shape := ⟨2, ![6, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x6x128, .f32⟩
  | .hbm, ⟨1, _⟩ => ⟨S1x6x128, .f32⟩
  | .hbm, ⟨2, _⟩ => ⟨S1x6x128, .f32⟩
  | .hbm, ⟨3, _⟩ => ⟨S1x6x128, .f32⟩
  | .hbm, ⟨4, _⟩ => ⟨S_, .f32⟩
  | .hbm, ⟨5, _⟩ => ⟨S6x128, .f32⟩
  | .hbm, ⟨6, _⟩ => ⟨S1x6x128, .f32⟩
  | .hbm, ⟨7, _⟩ => ⟨S_, .f32⟩
  | .hbm, ⟨8, _⟩ => ⟨S1x6x128, .f32⟩
  | .hbm, ⟨9, _⟩ => ⟨S1x6x128, .f32⟩
  | .hbm, ⟨10, _⟩ => ⟨S_, .f32⟩
  | .hbm, ⟨11, _⟩ => ⟨S1x6x128, .f32⟩
  | .hbm, ⟨12, _⟩ => ⟨S1x6x128, .f32⟩
  | .hbm, ⟨13, _⟩ => ⟨S1x6x128, .f32⟩
  | .hbm, ⟨14, _⟩ => ⟨S_, .f32⟩
  | .hbm, ⟨15, _⟩ => ⟨S1x6x128, .f32⟩
  | .hbm, ⟨16, _⟩ => ⟨S1x6x128, .f32⟩
  | .hbm, ⟨17, _⟩ => ⟨S1x6x128, .f32⟩
  | .hbm, ⟨18, _⟩ => ⟨S_, .f32⟩
  | .hbm, ⟨19, _⟩ => ⟨S1x6x128, .f32⟩
  | .hbm, ⟨20, _⟩ => ⟨S1x6x128, .f32⟩
  | .hbm, ⟨21, _⟩ => ⟨S1x6x128, .f32⟩
  | .hbm, ⟨22, _⟩ => ⟨S_, .f32⟩
  | .hbm, ⟨23, _⟩ => ⟨S1x6x128, .f32⟩
  | .hbm, ⟨24, _⟩ => ⟨S1x6x128, .f32⟩
  | .hbm, ⟨25, _⟩ => ⟨S_, .f32⟩
  | .hbm, ⟨26, _⟩ => ⟨S1x6x128, .f32⟩
  | .hbm, ⟨27, _⟩ => ⟨S1x6x128, .f32⟩
  | .hbm, ⟨28, _⟩ => ⟨S1x6x128, .f32⟩
  | .hbm, ⟨29, _⟩ => ⟨S_, .f32⟩
  | .hbm, ⟨30, _⟩ => ⟨S1x6x128, .f32⟩
  | .hbm, ⟨31, _⟩ => ⟨S1x6x128, .f32⟩
  | .hbm, ⟨32, _⟩ => ⟨S1x6x128, .f32⟩
  | .hbm, ⟨33, _⟩ => ⟨S_, .f32⟩
  | .hbm, ⟨34, _⟩ => ⟨S1x6x128, .f32⟩
  | .hbm, ⟨35, _⟩ => ⟨S1x6x128, .f32⟩
  | .hbm, ⟨36, _⟩ => ⟨S1x6x128, .f32⟩
  | .hbm, ⟨37, _⟩ => ⟨S_, .f32⟩
  | .hbm, ⟨38, _⟩ => ⟨S1x6x128, .f32⟩
  | .hbm, ⟨39, _⟩ => ⟨S1x6x128, .f32⟩
  | _, _ => ⟨S8x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamFfnConv.lean ====
abbrev S8x6x704 : Shape := ⟨3, ![8, 6, 704]⟩
abbrev S1x6x704 : Shape := ⟨3, ![1, 6, 704]⟩
abbrev S6x704 : Shape := ⟨2, ![6, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S1x6x704, .f32⟩
  | .hbm, ⟨5, _⟩ => ⟨S1x6x704, .f32⟩
  | .hbm, ⟨6, _⟩ => ⟨S1x6x704, .f32⟩
  | .hbm, ⟨7, _⟩ => ⟨S1x6x704, .f32⟩
  | .local _ .vmem, ⟨0, _⟩ => ⟨S8x6x704, .f32⟩
  | .local _ .vmem, ⟨1, _⟩ => ⟨S1x6x704, .f32⟩
  | .local _ .vmem, ⟨2, _⟩ => ⟨S1x6x704, .f32⟩
  | .local _ .vmem, ⟨3, _⟩ => ⟨S1x6x704, .f32⟩
  | .local _ .vmem, ⟨4, _⟩ => ⟨S1x6x704, .f32⟩
  | .local _ .vmem, ⟨5, _⟩ => ⟨S1x6x704, .f32⟩
  | .local _ .vmem, ⟨6, _⟩ => ⟨S1x6x704, .f32⟩
  | .local _ .vmem, ⟨7, _⟩ => ⟨S1x6x704, .f32⟩
  | _, _ => ⟨S8x6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KAdamFfnConvIdeal.lean ====
abbrev S8x6x704 : Shape := ⟨3, ![8, 6, 704]⟩
abbrev S1x6x704 : Shape := ⟨3, ![1, 6, 704]⟩
abbrev S6x704 : Shape := ⟨2, ![6, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S1x6x704, .f32⟩
  | .hbm, ⟨5, _⟩ => ⟨S1x6x704, .f32⟩
  | .hbm, ⟨6, _⟩ => ⟨S1x6x704, .f32⟩
  | .hbm, ⟨7, _⟩ => ⟨S1x6x704, .f32⟩
  | .local _ .vmem, ⟨0, _⟩ => ⟨S8x6x704, .f32⟩
  | .local _ .vmem, ⟨1, _⟩ => ⟨S1x6x704, .f32⟩
  | .local _ .vmem, ⟨2, _⟩ => ⟨S1x6x704, .f32⟩
  | .local _ .vmem, ⟨3, _⟩ => ⟨S1x6x704, .f32⟩
  | .local _ .vmem, ⟨4, _⟩ => ⟨S1x6x704, .f32⟩
  | .local _ .vmem, ⟨5, _⟩ => ⟨S1x6x704, .f32⟩
  | .local _ .vmem, ⟨6, _⟩ => ⟨S1x6x704, .f32⟩
  | .local _ .vmem, ⟨7, _⟩ => ⟨S1x6x704, .f32⟩
  | _, _ => ⟨S8x6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RAdamFfnConvIdeal.lean ====
abbrev S8x6x704 : Shape := ⟨3, ![8, 6, 704]⟩
abbrev S1x6x704 : Shape := ⟨3, ![1, 6, 704]⟩
abbrev S_ : Shape := ⟨0, ![]⟩
abbrev S6x704 : Shape := ⟨2, ![6, 704]⟩

abbrev nBuf : Space → Nat
  | .hbm => 40
  | .vmem => 0
  | .smem => 0
  | _ => 0

abbrev bufTy : (tb : Table) → Fin (tcTables nBuf tb) → BufTy
  | .hbm, ⟨0, _⟩ => ⟨S8x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S_, .f32⟩
  | .hbm, ⟨5, _⟩ => ⟨S6x704, .f32⟩
  | .hbm, ⟨6, _⟩ => ⟨S1x6x704, .f32⟩
  | .hbm, ⟨7, _⟩ => ⟨S_, .f32⟩
  | .hbm, ⟨8, _⟩ => ⟨S1x6x704, .f32⟩
  | .hbm, ⟨9, _⟩ => ⟨S1x6x704, .f32⟩
  | .hbm, ⟨10, _⟩ => ⟨S_, .f32⟩
  | .hbm, ⟨11, _⟩ => ⟨S1x6x704, .f32⟩
  | .hbm, ⟨12, _⟩ => ⟨S1x6x704, .f32⟩
  | .hbm, ⟨13, _⟩ => ⟨S1x6x704, .f32⟩
  | .hbm, ⟨14, _⟩ => ⟨S_, .f32⟩
  | .hbm, ⟨15, _⟩ => ⟨S1x6x704, .f32⟩
  | .hbm, ⟨16, _⟩ => ⟨S1x6x704, .f32⟩
  | .hbm, ⟨17, _⟩ => ⟨S1x6x704, .f32⟩
  | .hbm, ⟨18, _⟩ => ⟨S_, .f32⟩
  | .hbm, ⟨19, _⟩ => ⟨S1x6x704, .f32⟩
  | .hbm, ⟨20, _⟩ => ⟨S1x6x704, .f32⟩
  | .hbm, ⟨21, _⟩ => ⟨S1x6x704, .f32⟩
  | .hbm, ⟨22, _⟩ => ⟨S_, .f32⟩
  | .hbm, ⟨23, _⟩ => ⟨S1x6x704, .f32⟩
  | .hbm, ⟨24, _⟩ => ⟨S1x6x704, .f32⟩
  | .hbm, ⟨25, _⟩ => ⟨S_, .f32⟩
  | .hbm, ⟨26, _⟩ => ⟨S1x6x704, .f32⟩
  | .hbm, ⟨27, _⟩ => ⟨S1x6x704, .f32⟩
  | .hbm, ⟨28, _⟩ => ⟨S1x6x704, .f32⟩
  | .hbm, ⟨29, _⟩ => ⟨S_, .f32⟩
  | .hbm, ⟨30, _⟩ => ⟨S1x6x704, .f32⟩
  | .hbm, ⟨31, _⟩ => ⟨S1x6x704, .f32⟩
  | .hbm, ⟨32, _⟩ => ⟨S1x6x704, .f32⟩
  | .hbm, ⟨33, _⟩ => ⟨S_, .f32⟩
  | .hbm, ⟨34, _⟩ => ⟨S1x6x704, .f32⟩
  | .hbm, ⟨35, _⟩ => ⟨S1x6x704, .f32⟩
  | .hbm, ⟨36, _⟩ => ⟨S1x6x704, .f32⟩
  | .hbm, ⟨37, _⟩ => ⟨S_, .f32⟩
  | .hbm, ⟨38, _⟩ => ⟨S1x6x704, .f32⟩
  | .hbm, ⟨39, _⟩ => ⟨S1x6x704, .f32⟩
  | _, _ => ⟨S8x6x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamO.lean ====
abbrev S4x256x2048 : Shape := ⟨3, ![4, 256, 2048]⟩
abbrev S2x256x2048 : Shape := ⟨3, ![2, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S4x128x2048, .bf16⟩
  | .local _ .vmem, ⟨3, _⟩ => ⟨S4x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KAdamOIdeal.lean ====
abbrev S4x256x2048 : Shape := ⟨3, ![4, 256, 2048]⟩
abbrev S2x256x2048 : Shape := ⟨3, ![2, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S4x128x2048, .bf16⟩
  | .local _ .vmem, ⟨3, _⟩ => ⟨S4x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RAdamOIdeal.lean ====
abbrev S4x256x2048 : Shape := ⟨3, ![4, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S4x256x2048, .f32⟩
  | .hbm, ⟨6, _⟩ => ⟨S_, .f32⟩
  | .hbm, ⟨7, _⟩ => ⟨S256x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KAdamDown.lean ====
abbrev S4x704x2048 : Shape := ⟨3, ![4, 704, 2048]⟩
abbrev S2x704x2048 : Shape := ⟨3, ![2, 704, 2048]⟩
abbrev S4x64x2048 : Shape := ⟨3, ![4, 64, 2048]⟩
abbrev S1x64x2048 : Shape := ⟨3, ![1, 64, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S4x64x2048, .bf16⟩
  | .local _ .vmem, ⟨3, _⟩ => ⟨S4x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let v4 : BitVec 32 := Scalar.addi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KAdamDownIdeal.lean ====
abbrev S4x704x2048 : Shape := ⟨3, ![4, 704, 2048]⟩
abbrev S2x704x2048 : Shape := ⟨3, ![2, 704, 2048]⟩
abbrev S4x64x2048 : Shape := ⟨3, ![4, 64, 2048]⟩
abbrev S1x64x2048 : Shape := ⟨3, ![1, 64, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S4x64x2048, .bf16⟩
  | .local _ .vmem, ⟨3, _⟩ => ⟨S4x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let v4 : BitVec 32 := Scalar.addi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RAdamDownIdeal.lean ====
abbrev S4x704x2048 : Shape := ⟨3, ![4, 704, 2048]⟩
abbrev S2x704x2048 : Shape := ⟨3, ![2, 704, 2048]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S4x704x2048, .f32⟩
  | .hbm, ⟨6, _⟩ => ⟨S_, .f32⟩
  | .hbm, ⟨7, _⟩ => ⟨S704x2048, .f32⟩
  | .hbm, ⟨8, _⟩ => ⟨S4x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S1x704x2048, .f32⟩
  | .hbm, ⟨13, _⟩ => ⟨S2x704x2048, .f32⟩
  | .hbm, ⟨14, _⟩ => ⟨S_, .f32⟩
  | .hbm, ⟨15, _⟩ => ⟨S2x704x2048, .f32⟩
  | .hbm, ⟨16, _⟩ => ⟨S2x704x2048, .f32⟩
  | .hbm, ⟨17, _⟩ => ⟨S_, .f32⟩
  | .hbm, ⟨18, _⟩ => ⟨S2x704x2048, .f32⟩
  | .hbm, ⟨19, _⟩ => ⟨S2x704x2048, .f32⟩
  | .hbm, ⟨20, _⟩ => ⟨S2x704x2048, .f32⟩
  | .hbm, ⟨21, _⟩ => ⟨S_, .f32⟩
  | .hbm, ⟨22, _⟩ => ⟨S2x704x2048, .f32⟩
  | .hbm, ⟨23, _⟩ => ⟨S2x704x2048, .f32⟩
  | .hbm, ⟨24, _⟩ => ⟨S2x704x2048, .f32⟩
  | .hbm, ⟨25, _⟩ => ⟨S_, .f32⟩
  | .hbm, ⟨26, _⟩ => ⟨S2x704x2048, .f32⟩
  | .hbm, ⟨27, _⟩ => ⟨S2x704x2048, .f32⟩
  | .hbm, ⟨28, _⟩ => ⟨S2x704x2048, .f32⟩
  | .hbm, ⟨29, _⟩ => ⟨S_, .f32⟩
  | .hbm, ⟨30, _⟩ => ⟨S2x704x2048, .f32⟩
  | .hbm, ⟨31, _⟩ => ⟨S2x704x2048, .f32⟩
  | .hbm, ⟨32, _⟩ => ⟨S_, .f32⟩
  | .hbm, ⟨33, _⟩ => ⟨S2x704x2048, .f32⟩
  | .hbm, ⟨34, _⟩ => ⟨S2x704x2048, .f32⟩
  | .hbm, ⟨35, _⟩ => ⟨S2x704x2048, .f32⟩
  | .hbm, ⟨36, _⟩ => ⟨S_, .f32⟩
  | .hbm, ⟨37, _⟩ => ⟨S2x704x2048, .f32⟩
  | .hbm, ⟨38, _⟩ => ⟨S2x704x2048, .f32⟩
  | .hbm, ⟨39, _⟩ => ⟨S2x704x2048, .f32⟩
  | .hbm, ⟨40, _⟩ => ⟨S_, .f32⟩
  | .hbm, ⟨41, _⟩ => ⟨S2x704x2048, .f32⟩
  | .hbm, ⟨42, _⟩ => ⟨S2x704x2048, .f32⟩
  | .hbm, ⟨43, _⟩ => ⟨S2x704x2048, .f32⟩
  | .hbm, ⟨44, _⟩ => ⟨S_, .f32⟩
  | .hbm, ⟨45, _⟩ => ⟨S2x704x2048, .f32⟩
  | .hbm, ⟨46, _⟩ => ⟨S2x704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KAdamOut.lean ====
abbrev S4x1024x256 : Shape := ⟨3, ![4, 1024, 256]⟩
abbrev S2x1024x256 : Shape := ⟨3, ![2, 1024, 256]⟩
abbrev S1x1024x256 : Shape := ⟨3, ![1, 1024, 256]⟩
abbrev S1024x256 : Shape := ⟨2, ![1024, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .local _ .vmem, ⟨0, _⟩ => ⟨S4x1024x256, .bf16⟩
  | .local _ .vmem, ⟨1, _⟩ => ⟨S4x1024x256, .bf16⟩
  | .local _ .vmem, ⟨2, _⟩ => ⟨S4x1024x256, .bf16⟩
  | .local _ .vmem, ⟨3, _⟩ => ⟨S4x1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KAdamOutIdeal.lean ====
abbrev S4x1024x256 : Shape := ⟨3, ![4, 1024, 256]⟩
abbrev S2x1024x256 : Shape := ⟨3, ![2, 1024, 256]⟩
abbrev S1x1024x256 : Shape := ⟨3, ![1, 1024, 256]⟩
abbrev S1024x256 : Shape := ⟨2, ![1024, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .local _ .vmem, ⟨0, _⟩ => ⟨S4x1024x256, .bf16⟩
  | .local _ .vmem, ⟨1, _⟩ => ⟨S4x1024x256, .bf16⟩
  | .local _ .vmem, ⟨2, _⟩ => ⟨S4x1024x256, .bf16⟩
  | .local _ .vmem, ⟨3, _⟩ => ⟨S4x1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let v4 : BitVec 32 := Scalar.addi c0_i32_3 v3
  let c0_i32_4 : BitVec 32 := 0#32
  let c0_i32_5 : BitVec 32 := 0#32
  let c0_i32_6 : BitVec 32 := 0#32
  ![c0_i32_4.toNat, v4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RAdamOutIdeal.lean ====
abbrev S4x1024x256 : Shape := ⟨3, ![4, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x256, .f32⟩
  | .hbm, ⟨6, _⟩ => ⟨S_, .f32⟩
  | .hbm, ⟨7, _⟩ => ⟨S1024x256, .f32⟩
  | .hbm, ⟨8, _⟩ => ⟨S4x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S_, .f32⟩
  | .hbm, ⟨33, _⟩ => ⟨S2x1024x256, .f32⟩
  | .hbm, ⟨34, _⟩ => ⟨S2x1024x256, .f32⟩
  | .hbm, ⟨35, _⟩ => ⟨S2x1024x256, .f32⟩
  | .hbm, ⟨36, _⟩ => ⟨S_, .f32⟩
  | .hbm, ⟨37, _⟩ => ⟨S2x1024x256, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S2x1024x256, .f32⟩
  | .hbm, ⟨42, _⟩ => ⟨S2x1024x256, .f32⟩
  | .hbm, ⟨43, _⟩ => ⟨S2x1024x256, .f32⟩
  | .hbm, ⟨44, _⟩ => ⟨S_, .f32⟩
  | .hbm, ⟨45, _⟩ => ⟨S2x1024x256, .f32⟩
  | .hbm, ⟨46, _⟩ => ⟨S2x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KAdamAda.lean ====
abbrev S1x2048x1536 : Shape := ⟨3, ![1, 2048, 1536]⟩
abbrev S2x2048x1536 : Shape := ⟨3, ![2, 2048, 1536]⟩
abbrev S1x128x1536 : Shape := ⟨3, ![1, 128, 1536]⟩
abbrev S128x1536 : Shape := ⟨2, ![128, 1536]⟩

abbrev nBuf : Space → Nat
  | .hbm => 9
  | .vmem => 18
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let v4 : BitVec 32 := Scalar.addi c0_i32_2 v3
  let c0_i32_3 : BitVec 32 := 0#32
  let c0_i32_4 : BitVec 32 := 0#32
  let c0_i32_5 : BitVec 32 := 0#32
  ![c0_i32_3.toNat, v4.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let v4 : BitVec 32 := Scalar.addi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RAdamAdaIdeal.lean ====
abbrev S1x2048x1536 : Shape := ⟨3, ![1, 2048, 1536]⟩
abbrev S2x2048x1536 : Shape := ⟨3, ![2, 2048, 1536]⟩
abbrev S_ : Shape := ⟨0, ![]⟩
abbrev S2048x1536 : Shape := ⟨2, ![2048, 1536]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S_, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S1x2048x1536, .f32⟩
  | .hbm, ⟨10, _⟩ => ⟨S1x2048x1536, .f32⟩
  | .hbm, ⟨11, _⟩ => ⟨S2x2048x1536, .f32⟩
  | .hbm, ⟨12, _⟩ => ⟨S_, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S2x2048x1536, .f32⟩
  | .hbm, ⟨23, _⟩ => ⟨S_, .f32⟩
  | .hbm, ⟨24, _⟩ => ⟨S2x2048x1536, .f32⟩
  | .hbm, ⟨25, _⟩ => ⟨S2x2048x1536, .f32⟩
  | .hbm, ⟨26, _⟩ => ⟨S2x2048x1536, .f32⟩
  | .hbm, ⟨27, _⟩ => ⟨S_, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | .hbm, ⟨37, _⟩ => ⟨S2x2048x1536, .f32⟩
  | .hbm, ⟨38, _⟩ => ⟨S_, .f32⟩
  | .hbm, ⟨39, _⟩ => ⟨S2x2048x1536, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Fwd.Runs.lean ====
/-
  The forward region: the windows' blocks, the branch condition, the scratch.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is of the clipped KIND (its block does not tile its array `S4096x10368`), but no block the grid
    reaches is cut, so no part of its staging buffer is left unfilled by a fetch. A default for such a part, which
    nothing reads. -/
def dflt0_0 : (cfg0.win 0).block.Idx → Elt F (cfg0.win 0).elt := fun _ => Classical.choice inferInstance
/-- What input window 0's current staging buffer holds when the body runs at `t`: its block read off the array,
    filled over `dflt0_0` (block-typed, where `iblk` is typed at the cut). -/
def X0_0 (c : Dev nD) (t : Fin cfg0.N) : (cfg0.win 0).block.Idx → Elt F (cfg0.win 0).elt :=
  (cfg0.win 0).fill (cfg0.grid.coords t) dflt0_0 (iblk V c 0 t)
/-- At every point the cut's extent is the block's, decided over the grid: no transfer of input window 0 is cut. -/
theorem xsize0_0 : ∀ t : Fin cfg0.N, ∀ a, (cfg0.win 0).xsize (cfg0.grid.coords t) a = (cfg0.win 0).size a := by decide +kernel
/-- Every index of input window 0's block is moved at every point. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- A fill of input window 0's block covers the whole buffer, whatever it held. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Input window 0's current staging buffer holds `X0_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_0`). -/
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
      (fun t t' h => funext fun a => congrArg (fun n => Pipeline.Clip.of n ((cfg0.win 0).size a) (S4096x10368.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Input window 1 is of the clipped KIND (its block does not tile its array `S4096x10368`), but no block the grid
    reaches is cut, so no part of its staging buffer is left unfilled by a fetch. A default for such a part, which
    nothing reads. -/
def dflt0_1 : (cfg0.win 1).block.Idx → Elt F (cfg0.win 1).elt := fun _ => Classical.choice inferInstance
/-- What input window 1's current staging buffer holds when the body runs at `t`: its block read off the array,
    filled over `dflt0_1` (block-typed, where `iblk` is typed at the cut). -/
def X0_1 (c : Dev nD) (t : Fin cfg0.N) : (cfg0.win 1).block.Idx → Elt F (cfg0.win 1).elt :=
  (cfg0.win 1).fill (cfg0.grid.coords t) dflt0_1 (iblk V c 1 t)
/-- At every point the cut's extent is the block's, decided over the grid: no transfer of input window 1 is cut. -/
theorem xsize0_1 : ∀ t : Fin cfg0.N, ∀ a, (cfg0.win 1).xsize (cfg0.grid.coords t) a = (cfg0.win 1).size a := by decide +kernel
/-- Every index of input window 1's block is moved at every point. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill of input window 1's block covers the whole buffer, whatever it held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of {c : Dev nD} (dat : Dat τ (Elt F) Unit ℕ (UR sig nD τ) ℕ cfg0 c) (hA : dat.A 1 = V c (Pipeline.arrRef spec0 1))
    (hafter : ∀ t, dat.after 1 t = X0_1 V c t) (t : Fin cfg0.N) (d) : dat.before 1 t d = X0_1 V c t :=
  (dat.before_in_eq_fetched 1 rfl (fun _ => rfl)
      (fun t t' h => funext fun a => congrArg (fun n => Pipeline.Clip.of n ((cfg0.win 1).size a) (S4096x10368.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Input window 2 is of the clipped KIND (its block does not tile its array `S4096x10368`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk V c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg0 c) (hA : dat.A 2 = V c (Pipeline.arrRef spec0 2))
    (hafter : ∀ t, dat.after 2 t = X0_2 V c t) (t : Fin cfg0.N) (d) : dat.before 2 t d = X0_2 V c t :=
  (dat.before_in_eq_fetched 2 rfl (fun _ => rfl)
      (fun t t' h => funext fun a => congrArg (fun n => Pipeline.Clip.of n ((cfg0.win 2).size a) (S4096x10368.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- One staging buffer of output window 5, through which its contents are stated (`View.read_writes_of_cover`: the
    choice does not matter). -/
abbrev VO0_5 : View sig .tc .vmem S8x4x128x256 .f32 := (Memref.whole cc0_stg5_0 : Memref sig .tc .vmem S8x4x128x256 .f32).view
/-- Each window's current staging memref at point `t`, spelled as the pipeline passes it (`bodyAt0`), and its wholeness. -/
abbrev ms0_0 (t : Fin cfg0.N) : Memref sig .tc .vmem S512x512 .bf16 := win0_0.stage (cfg0.slots t 0)
/-- That buffer is whole. -/
abbrev hs0_0 (t : Fin cfg0.N) : (ms0_0 t).IsWhole := hstage0_0 ((cfg0.slots t 0).cast nbuf0_0)
/-- The staging buffer that a window uses at a grid point. -/
abbrev ms0_1 (t : Fin cfg0.N) : Memref sig .tc .vmem S512x512 .bf16 := win0_1.stage (cfg0.slots t 1)
/-- That buffer is whole. -/
abbrev hs0_1 (t : Fin cfg0.N) : (ms0_1 t).IsWhole := hstage0_1 ((cfg0.slots t 1).cast nbuf0_1)
/-- The staging buffer that a window uses at a grid point. -/
abbrev ms0_2 (t : Fin cfg0.N) : Memref sig .tc .vmem S512x1024 .bf16 := win0_2.stage (cfg0.slots t 2)
/-- That buffer is whole. -/
abbrev hs0_2 (t : Fin cfg0.N) : (ms0_2 t).IsWhole := hstage0_2 ((cfg0.slots t 2).cast nbuf0_2)
/-- The staging buffer that a window uses at a grid point. -/
abbrev ms0_3 (t : Fin cfg0.N) : Memref sig .tc .vmem S512x512 .f32 := win0_3.stage (cfg0.slots t 3)
/-- That buffer is whole. -/
abbrev hs0_3 (t : Fin cfg0.N) : (ms0_3 t).IsWhole := hstage0_3 ((cfg0.slots t 3).cast nbuf0_3)
/-- The staging buffer that a window uses at a grid point. -/
abbrev ms0_4 (t : Fin cfg0.N) : Memref sig .tc .vmem S512x1024 .bf16 := win0_4.stage (cfg0.slots t 4)
/-- That buffer is whole. -/
abbrev hs0_4 (t : Fin cfg0.N) : (ms0_4 t).IsWhole := hstage0_4 ((cfg0.slots t 4).cast nbuf0_4)
/-- The staging buffer that a window uses at a grid point. -/
abbrev ms0_5 (t : Fin cfg0.N) : Memref sig .tc .vmem S8x4x128x256 .f32 := win0_5.stage (cfg0.slots t 5)
/-- That buffer is whole. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x128x256 .f32 := Memref.whole cc0_scratch0
/-- The scratch `arg7` the kernel carries between points, as a view: what it holds is stated through it. -/
abbrev VS0_0 : View sig .tc .vmem S4x128x256 .f32 := scM0_0.view

/-- What the invariant holds beside the carried scratch: the other scoped buffers at some contents and the generator
    register at some state. -/
def Rest (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class's invariant with the carried scratch taken out of the scoped rest. -/
theorem PhiA0_eq (c : Dev nD) :
    (Pipeline.ΦA spec0 c : sProp 𝕄)
      = iprop(iprop((∃ d, owns (c : Thread nD τ) scM0_0 fullShare d)) ∗ Rest c) := by
  unfold Pipeline.ΦA Rest
  rw [Pipeline.scopedRest_split_of_list spec0 c [cc0_scratch0] (by decide) (by decide)]
  simp only [scM0_0, owns_whole, bigSepL]
  exact equiv_iff.mp ⟨Idealize.SL.BI.sep_assoc, Idealize.SL.BI.sep_assoc'⟩

end Cert.KernelIdeal.Fwd

end
-- ==== Proof.Fwd.RunA.lean ====
/-
  The forward region: the body run in case A of its branch.
-/
module

public import proofs.«01_k».proof.Proof.Fwd.Runs

@[expose] public section

-- membership in a rectangle of production extents (`View.cover_of_tiled`): the elaborator's structural look
-- recurses once per coordinate of the long axes
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1608000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : cond0_0 i)
    (x0 : Vec F S512x512 .bf16) (x1 : Vec F S512x512 .bf16) (x2 : Vec F S512x1024 .bf16) (x3 : Vec F S512x512 .f32) :
    Σ' (L4 : List (View.Piece (Elt F) S512x1024 .bf16)), Σ' (L5 : List (View.Piece (Elt F) S8x4x128x256 .f32)), { LS0 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_gla_fwd i arg1 harg1 arg2 harg2 arg3 harg3 arg4 harg4 arg5 harg5 arg6 harg6 arg7 harg7) K } := by
  refine ⟨?_, ?_, ?_, fun E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Fwd

end
-- ==== Proof.Fwd.RunB.lean ====
/-
  The forward region: the body run in case B of its branch.
-/
module

public import proofs.«01_k».proof.Proof.Fwd.Runs

@[expose] public section

-- membership in a rectangle of production extents (`View.cover_of_tiled`): the elaborator's structural look
-- recurses once per coordinate of the long axes
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1596000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : ¬cond0_0 i)
    (x0 : Vec F S512x512 .bf16) (x1 : Vec F S512x512 .bf16) (x2 : Vec F S512x1024 .bf16) (x3 : Vec F S512x512 .f32) (xs0 : Vec F S4x128x256 .f32) :
    Σ' (L4 : List (View.Piece (Elt F) S512x1024 .bf16)), Σ' (L5 : List (View.Piece (Elt F) S8x4x128x256 .f32)), { LS0 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_gla_fwd i arg1 harg1 arg2 harg2 arg3 harg3 arg4 harg4 arg5 harg5 arg6 harg6 arg7 harg7) K } := by
  refine ⟨?_, ?_, ?_, fun E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Fwd

end
-- ==== Proof.Fwd.Body.lean ====
/-
  The forward region: what each point leaves, the proof data, the body obligation.
-/
module

public import proofs.«01_k».proof.Proof.Fwd.RunA
public import proofs.«01_k».proof.Proof.Fwd.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-- Case A's pieces for output 4 tile its block (32 stores of `S64x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : cond0_0 i)
    (x0 : Vec F S512x512 .bf16) (x1 : Vec F S512x512 .bf16) (x2 : Vec F S512x1024 .bf16) (x3 : Vec F S512x512 .f32) (y : S512x1024.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (kernelRun0_A c i arg1 harg1 arg2 harg2 arg3 harg3 arg4 harg4 arg5 harg5 arg6 harg6 arg7 harg7 hc0 x0 x1 x2 x3).1 S64x256.size (by sl_kernel_rfl) y

/-- What case A leaves in output 4's staging buffer: its pieces read back over junk. -/
def out0_A_4 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : cond0_0 i)
    (x0 : Vec F S512x512 .bf16) (x1 : Vec F S512x512 .bf16) (x2 : Vec F S512x1024 .bf16) (x3 : Vec F S512x512 .f32) : Vec F S512x1024 .bf16 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)

/-- Case A's pieces for output 5 tile its block (32 stores of `S1x1x128x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : cond0_0 i)
    (x0 : Vec F S512x512 .bf16) (x1 : Vec F S512x512 .bf16) (x2 : Vec F S512x1024 .bf16) (x3 : Vec F S512x512 .f32) (y : S8x4x128x256.Idx) :
    ∃ pc ∈ (kernelRun0_A c i arg1 harg1 arg2 harg2 arg3 harg3 arg4 harg4 arg5 harg5 arg6 harg6 arg7 harg7 hc0 x0 x1 x2 x3).2.1, y ∈ pc.1.set :=
  View.cover_of_tiledL (kernelRun0_A c i arg1 harg1 arg2 harg2 arg3 harg3 arg4 harg4 arg5 harg5 arg6 harg6 arg7 harg7 hc0 x0 x1 x2 x3).2.1 S1x1x128x256.size (by sl_kernel_rfl) y

/-- What case A leaves in output 5's staging buffer: its pieces read back over junk. -/
def out0_A_5 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : cond0_0 i)
    (x0 : Vec F S512x512 .bf16) (x1 : Vec F S512x512 .bf16) (x2 : Vec F S512x1024 .bf16) (x3 : Vec F S512x512 .f32) : Vec F S8x4x128x256 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)

/-- Case A's pieces for scratch `arg7`, which the kernel carries between points, cover it: one of them a store of the WHOLE buffer (Lib/Ring.lean `sl_whole_mem`). -/
theorem scover0_A_0 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : cond0_0 i)
    (x0 : Vec F S512x512 .bf16) (x1 : Vec F S512x512 .bf16) (x2 : Vec F S512x1024 .bf16) (x3 : Vec F S512x512 .f32) (y : S4x128x256.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_wholeMem (kernelRun0_A c i arg1 harg1 arg2 harg2 arg3 harg3 arg4 harg4 arg5 harg5 arg6 harg6 arg7 harg7 hc0 x0 x1 x2 x3).2.2.1 (by sl_whole_mem) y

/-- What case A leaves in scratch `arg7`: its pieces read back over junk. -/
def sout0_A_0 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : cond0_0 i)
    (x0 : Vec F S512x512 .bf16) (x1 : Vec F S512x512 .bf16) (x2 : Vec F S512x1024 .bf16) (x3 : Vec F S512x512 .f32) : Vec F S4x128x256 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3).2.2.1)

/-- Case B's pieces for output 4 tile its block (32 stores of `S64x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : ¬cond0_0 i)
    (x0 : Vec F S512x512 .bf16) (x1 : Vec F S512x512 .bf16) (x2 : Vec F S512x1024 .bf16) (x3 : Vec F S512x512 .f32) (xs0 : Vec F S4x128x256 .f32) (y : S512x1024.Idx) :
    ∃ pc ∈ (kernelRun0_B c i arg1 harg1 arg2 harg2 arg3 harg3 arg4 harg4 arg5 harg5 arg6 harg6 arg7 harg7 hc0 x0 x1 x2 x3 xs0).1, y ∈ pc.1.set :=
  View.cover_of_tiledL (kernelRun0_B c i arg1 harg1 arg2 harg2 arg3 harg3 arg4 harg4 arg5 harg5 arg6 harg6 arg7 harg7 hc0 x0 x1 x2 x3 xs0).1 S64x256.size (by sl_kernel_rfl) y

/-- What case B leaves in output 4's staging buffer: its pieces read back over junk. -/
def out0_B_4 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : ¬cond0_0 i)
    (x0 : Vec F S512x512 .bf16) (x1 : Vec F S512x512 .bf16) (x2 : Vec F S512x1024 .bf16) (x3 : Vec F S512x512 .f32) (xs0 : Vec F S4x128x256 .f32) : Vec F S512x1024 .bf16 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xs0).1)

/-- Case B's pieces for output 5 tile its block (32 stores of `S1x1x128x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : ¬cond0_0 i)
    (x0 : Vec F S512x512 .bf16) (x1 : Vec F S512x512 .bf16) (x2 : Vec F S512x1024 .bf16) (x3 : Vec F S512x512 .f32) (xs0 : Vec F S4x128x256 .f32) (y : S8x4x128x256.Idx) :
    ∃ pc ∈ (kernelRun0_B c i arg1 harg1 arg2 harg2 arg3 harg3 arg4 harg4 arg5 harg5 arg6 harg6 arg7 harg7 hc0 x0 x1 x2 x3 xs0).2.1, y ∈ pc.1.set :=
  View.cover_of_tiledL (kernelRun0_B c i arg1 harg1 arg2 harg2 arg3 harg3 arg4 harg4 arg5 harg5 arg6 harg6 arg7 harg7 hc0 x0 x1 x2 x3 xs0).2.1 S1x1x128x256.size (by sl_kernel_rfl) y

/-- What case B leaves in output 5's staging buffer: its pieces read back over junk. -/
def out0_B_5 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : ¬cond0_0 i)
    (x0 : Vec F S512x512 .bf16) (x1 : Vec F S512x512 .bf16) (x2 : Vec F S512x1024 .bf16) (x3 : Vec F S512x512 .f32) (xs0 : Vec F S4x128x256 .f32) : Vec F S8x4x128x256 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 xs0).2.1)

/-- Case B's pieces for scratch `arg7`, which the kernel carries between points, cover it: 4 pieces of `S1x128x256` tiling it (Lib/Ring.lean `Piece.tiledL`). -/
theorem scover0_B_0 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : ¬cond0_0 i)
    (x0 : Vec F S512x512 .bf16) (x1 : Vec F S512x512 .bf16) (x2 : Vec F S512x1024 .bf16) (x3 : Vec F S512x512 .f32) (xs0 : Vec F S4x128x256 .f32) (y : S4x128x256.Idx) :
    ∃ pc ∈ (kernelRun0_B c i arg1 harg1 arg2 harg2 arg3 harg3 arg4 harg4 arg5 harg5 arg6 harg6 arg7 harg7 hc0 x0 x1 x2 x3 xs0).2.2.1, y ∈ pc.1.set :=
  View.cover_of_tiledL (kernelRun0_B c i arg1 harg1 arg2 harg2 arg3 harg3 arg4 harg4 arg5 harg5 arg6 harg6 arg7 harg7 hc0 x0 x1 x2 x3 xs0).2.2.1 S1x128x256.size (by sl_kernel_rfl) y

/-- What case B leaves in scratch `arg7`: its pieces read back over junk. -/
def sout0_B_0 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole) (hc0 : ¬cond0_0 i)
    (x0 : Vec F S512x512 .bf16) (x1 : Vec F S512x512 .bf16) (x2 : Vec F S512x1024 .bf16) (x3 : Vec F S512x512 .f32) (xs0 : Vec F S4x128x256 .f32) : Vec F S4x128x256 .f32 :=
  VS0_0.read (Elt F) (VS0_0.writes (Elt F) VS0_0.junk (kernelRun0_B c i arg1 harg1 arg2 harg2 arg3 harg3 arg4 harg4 arg5 harg5 arg6 harg6 arg7 harg7 hc0 x0 x1 x2 x3 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S8x4x128x256 .f32 × Vec F S4x128x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (outsAt0 c n (Nat.lt_of_succ_lt hn)).2.2)

/-- `outsAt0` at a point of case A: that case's contents. -/
theorem outsAt0_A (c : Dev nD) (t : Fin cfg0.N) (h0 : t.val % 8 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (X0_0 V c t) (X0_1 V c t) (X0_2 V c t) (iblk V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (X0_0 V c t) (X0_1 V c t) (X0_2 V c t) (iblk V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (X0_0 V c t) (X0_1 V c t) (X0_2 V c t) (iblk V c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (X0_0 V c t) (X0_1 V c t) (X0_2 V c t) (iblk V c 3 t) (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (X0_0 V c t) (X0_1 V c t) (X0_2 V c t) (iblk V c 3 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (X0_0 V c t) (X0_1 V c t) (X0_2 V c t) (iblk V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ Rest c)

/-- The scratch condition at the first point. -/
theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ Rest c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ Rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (c : Dev nD) : Dat τ (Elt F) Unit ℕ (UR sig nD τ) ℕ cfg0 c where
  A w := V c (Pipeline.arrRef spec0 w)
  after w t := match w with
    | ⟨0, _⟩ => X0_0 V c t
    | ⟨1, _⟩ => X0_1 V c t
    | ⟨2, _⟩ => X0_2 V c t
    | ⟨3, _⟩ => iblk V c 3 t
    | ⟨4, _⟩ => (outsAt0 V c t.val t.isLt).1
    | ⟨5, _⟩ => (outsAt0 V c t.val t.isLt).2.1
  Φ t := PhiS V c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats V c).A w = V c (Pipeline.arrRef spec0 w) := by
  dsimp only [dats]

/-- The invariant at a point's start (the proof data at `t.castSucc`), restated at `t.val`. -/
theorem PhiS_castSucc (c : Dev nD) (t : Fin cfg0.N) :
    (dats V c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg0.N) : (dats V c).after 0 t = X0_0 V c t := by dsimp only [dats]
/-- The window's contents after the body. -/
theorem after0_1 (c : Dev nD) (t : Fin cfg0.N) : (dats V c).after 1 t = X0_1 V c t := by dsimp only [dats]
/-- The window's contents after the body. -/
theorem after0_2 (c : Dev nD) (t : Fin cfg0.N) : (dats V c).after 2 t = X0_2 V c t := by dsimp only [dats]
/-- The window's contents after the body. -/
theorem after0_3 (c : Dev nD) (t : Fin cfg0.N) : (dats V c).after 3 t = iblk V c 3 t := by dsimp only [dats]
/-- The window's contents after the body. -/
theorem after0_4 (c : Dev nD) (t : Fin cfg0.N) : (dats V c).after 4 t = (outsAt0 V c t.val t.isLt).1 := by dsimp only [dats]
/-- The window's contents after the body. -/
theorem after0_5 (c : Dev nD) (t : Fin cfg0.N) : (dats V c).after 5 t = (outsAt0 V c t.val t.isLt).2.1 := by dsimp only [dats]

/-- Each input's current staging buffer holds its block at every point, fetched there or not (`beforeK_W_of`). -/
theorem before0_0 (c : Dev nD) (t : Fin cfg0.N) (d) : (dats V c).before 0 t d = X0_0 V c t :=
  before0_0_of V (dats V c) (A_eq V c 0) (after0_0 V c) t d
/-- The window's contents before the body. -/
theorem before0_1 (c : Dev nD) (t : Fin cfg0.N) (d) : (dats V c).before 1 t d = X0_1 V c t :=
  before0_1_of V (dats V c) (A_eq V c 1) (after0_1 V c) t d
/-- The window's contents before the body. -/
theorem before0_2 (c : Dev nD) (t : Fin cfg0.N) (d) : (dats V c).before 2 t d = X0_2 V c t :=
  before0_2_of V (dats V c) (A_eq V c 2) (after0_2 V c) t d
/-- The window's contents before the body. -/
theorem before0_3 (c : Dev nD) (t : Fin cfg0.N) (d) : (dats V c).before 3 t d = iblk V c 3 t :=
  before0_3_of V (dats V c) (A_eq V c 3) (after0_3 V c) t d

/-! ## The body obligation, at a generic point -/

/-- What the body is called with at point `t` (Lib/Pipeline.lean `BodyObligation`'s precondition, the windows one by one), -/
def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d)))

/-- and what it returns. -/
def bodyPost (c : Dev nD) (t : Fin cfg0.N) : sProp 𝕄 :=
  iprop((dats V c).Φ t.succ ∗ (dats V c).owesAt () t.succ
    ∗ owns (c : Thread nD τ) (ms0_0 t) fullShare ((dats V c).after 0 t)
    ∗ owns (c : Thread nD τ) (ms0_1 t) fullShare ((dats V c).after 1 t)
    ∗ owns (c : Thread nD τ) (ms0_2 t) fullShare ((dats V c).after 2 t)
    ∗ owns (c : Thread nD τ) (ms0_3 t) fullShare ((dats V c).after 3 t)
    ∗ owns (c : Thread nD τ) (ms0_4 t) fullShare ((dats V c).after 4 t)
    ∗ owns (c : Thread nD τ) (ms0_5 t) fullShare ((dats V c).after 5 t))

set_option maxHeartbeats 4000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dats V c).owesAt () t.succ = (dats V c).owesAt () t.castSucc from rfl,
    after0_0, after0_1, after0_2, after0_3, after0_4, after0_5]
  rw [show (dats V c).Φ t.succ = PhiS V c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc V c t, PhiS_zero V c _ _ hz, PhiA0_eq]
      rw [outsAt0_A V c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (X0_0 V c t) (X0_1 V c t) (X0_2 V c t) (iblk V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc V c t, PhiS_pos V c _ _ hz]
      rw [outsAt0_B V c t h0]
      unfold out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (X0_0 V c t) (X0_1 V c t) (X0_2 V c t) (iblk V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dats V c).Φ 0 := by
  rw [show (dats V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats V c).Φ t ⊢ Pipeline.ΦA spec0 c := by
  rw [show (dats V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dats V c).Φ (Fin.last cfg0.N) ⊢ Pipeline.ΦA spec0 c :=
  Phi_out V c _ (by rw [Fin.val_last]; have : cfg0.N = 8 := N_0; omega)

end Cert.KernelIdeal.Fwd

end
-- ==== Proof.Bwd.Runs.lean ====
/-
  The backward region: the windows' blocks, the branch condition, the scratch.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is of the clipped KIND (its block does not tile its array `S4096x10368`), but no block the grid
    reaches is cut, so no part of its staging buffer is left unfilled by a fetch. A default for such a part, which
    nothing reads. -/
def dflt0_0 : (cfg1.win 0).block.Idx → Elt F (cfg1.win 0).elt := fun _ => Classical.choice inferInstance
/-- What input window 0's current staging buffer holds when the body runs at `t`: its block read off the array,
    filled over `dflt0_0` (block-typed, where `iblk` is typed at the cut). -/
def X0_0 (c : Dev nD) (t : Fin cfg1.N) : (cfg1.win 0).block.Idx → Elt F (cfg1.win 0).elt :=
  (cfg1.win 0).fill (cfg1.grid.coords t) dflt0_0 (iblk V c 0 t)
/-- At every point the cut's extent is the block's, decided over the grid: no transfer of input window 0 is cut. -/
theorem xsize0_0 : ∀ t : Fin cfg1.N, ∀ a, (cfg1.win 0).xsize (cfg1.grid.coords t) a = (cfg1.win 0).size a := by decide +kernel
/-- Every index of input window 0's block is moved at every point. -/
theorem moved0_0 (t : Fin cfg1.N) (j : (cfg1.win 0).block.Idx) : (cfg1.win 0).moved (cfg1.grid.coords t) j = true :=
  ((cfg1.win 0).moved_iff _ j).mpr fun a => by rw [xsize0_0 t a]; exact (j a).isLt
/-- A fill of input window 0's block covers the whole buffer, whatever it held. -/
theorem fill0_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved0_0 t j), dif_pos (moved0_0 t j)]
/-- Input window 0's current staging buffer holds `X0_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_0`). -/
theorem before0_0_of {c : Dev nD} (dat : Dat τ (Elt F) Unit ℕ (UR sig nD τ) ℕ cfg1 c) (hA : dat.A 0 = V c (Pipeline.arrRef spec1 0))
    (hafter : ∀ t, dat.after 0 t = X0_0 V c t) (t : Fin cfg1.N) (d) : dat.before 0 t d = X0_0 V c t :=
  (dat.before_in_eq_fetched 0 rfl (fun _ => rfl)
      (fun t t' h => funext fun a => congrArg (fun n => Pipeline.Clip.of n ((cfg1.win 0).size a) (S4096x10368.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Input window 1 is of the clipped KIND (its block does not tile its array `S4096x10368`), but no block the grid
    reaches is cut, so no part of its staging buffer is left unfilled by a fetch. A default for such a part, which
    nothing reads. -/
def dflt0_1 : (cfg1.win 1).block.Idx → Elt F (cfg1.win 1).elt := fun _ => Classical.choice inferInstance
/-- What input window 1's current staging buffer holds when the body runs at `t`: its block read off the array,
    filled over `dflt0_1` (block-typed, where `iblk` is typed at the cut). -/
def X0_1 (c : Dev nD) (t : Fin cfg1.N) : (cfg1.win 1).block.Idx → Elt F (cfg1.win 1).elt :=
  (cfg1.win 1).fill (cfg1.grid.coords t) dflt0_1 (iblk V c 1 t)
/-- At every point the cut's extent is the block's, decided over the grid: no transfer of input window 1 is cut. -/
theorem xsize0_1 : ∀ t : Fin cfg1.N, ∀ a, (cfg1.win 1).xsize (cfg1.grid.coords t) a = (cfg1.win 1).size a := by decide +kernel
/-- Every index of input window 1's block is moved at every point. -/
theorem moved0_1 (t : Fin cfg1.N) (j : (cfg1.win 1).block.Idx) : (cfg1.win 1).moved (cfg1.grid.coords t) j = true :=
  ((cfg1.win 1).moved_iff _ j).mpr fun a => by rw [xsize0_1 t a]; exact (j a).isLt
/-- A fill of input window 1's block covers the whole buffer, whatever it held. -/
theorem fill0_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved0_1 t j), dif_pos (moved0_1 t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of {c : Dev nD} (dat : Dat τ (Elt F) Unit ℕ (UR sig nD τ) ℕ cfg1 c) (hA : dat.A 1 = V c (Pipeline.arrRef spec1 1))
    (hafter : ∀ t, dat.after 1 t = X0_1 V c t) (t : Fin cfg1.N) (d) : dat.before 1 t d = X0_1 V c t :=
  (dat.before_in_eq_fetched 1 rfl (fun _ => rfl)
      (fun t t' h => funext fun a => congrArg (fun n => Pipeline.Clip.of n ((cfg1.win 1).size a) (S4096x10368.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Input window 2 is of the clipped KIND (its block does not tile its array `S4096x10368`), but no block the grid
    reaches is cut, so no part of its staging buffer is left unfilled by a fetch. A default for such a part, which
    nothing reads. -/
def dflt0_2 : (cfg1.win 2).block.Idx → Elt F (cfg1.win 2).elt := fun _ => Classical.choice inferInstance
/-- What input window 2's current staging buffer holds when the body runs at `t`: its block read off the array,
    filled over `dflt0_2` (block-typed, where `iblk` is typed at the cut). -/
def X0_2 (c : Dev nD) (t : Fin cfg1.N) : (cfg1.win 2).block.Idx → Elt F (cfg1.win 2).elt :=
  (cfg1.win 2).fill (cfg1.grid.coords t) dflt0_2 (iblk V c 2 t)
/-- At every point the cut's extent is the block's, decided over the grid: no transfer of input window 2 is cut. -/
theorem xsize0_2 : ∀ t : Fin cfg1.N, ∀ a, (cfg1.win 2).xsize (cfg1.grid.coords t) a = (cfg1.win 2).size a := by decide +kernel
/-- Every index of input window 2's block is moved at every point. -/
theorem moved0_2 (t : Fin cfg1.N) (j : (cfg1.win 2).block.Idx) : (cfg1.win 2).moved (cfg1.grid.coords t) j = true :=
  ((cfg1.win 2).moved_iff _ j).mpr fun a => by rw [xsize0_2 t a]; exact (j a).isLt
/-- A fill of input window 2's block covers the whole buffer, whatever it held. -/
theorem fill0_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg1 c) (hA : dat.A 2 = V c (Pipeline.arrRef spec1 2))
    (hafter : ∀ t, dat.after 2 t = X0_2 V c t) (t : Fin cfg1.N) (d) : dat.before 2 t d = X0_2 V c t :=
  (dat.before_in_eq_fetched 2 rfl (fun _ => rfl)
      (fun t t' h => funext fun a => congrArg (fun n => Pipeline.Clip.of n ((cfg1.win 2).size a) (S4096x10368.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg1.N, cond0_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond0_0, e0]
    word_cmp
   : ∀ t : Fin grid1.N, cond0_0 (grid1.coords t) ↔ t.val % 8 = 0)

/-! ## The kernel body on any staging memrefs: a subtype the run finds -/

/-- One staging buffer of output window 7, through which its contents are stated (`View.read_writes_of_cover`: the
    choice does not matter). -/
abbrev VO0_7 : View sig .tc .vmem S512x512 .bf16 := (Memref.whole cc1_stg7_0 : Memref sig .tc .vmem S512x512 .bf16).view
/-- One staging buffer of output window 8, through which its contents are stated (`View.read_writes_of_cover`: the
    choice does not matter). -/
abbrev VO0_8 : View sig .tc .vmem S512x512 .bf16 := (Memref.whole cc1_stg8_0 : Memref sig .tc .vmem S512x512 .bf16).view
/-- One staging buffer of output window 9, through which its contents are stated (`View.read_writes_of_cover`: the
    choice does not matter). -/
abbrev VO0_9 : View sig .tc .vmem S512x1024 .bf16 := (Memref.whole cc1_stg9_0 : Memref sig .tc .vmem S512x1024 .bf16).view
/-- One staging buffer of output window 10, through which its contents are stated (`View.read_writes_of_cover`: the
    choice does not matter). -/
abbrev VO0_10 : View sig .tc .vmem S512x512 .f32 := (Memref.whole cc1_stg10_0 : Memref sig .tc .vmem S512x512 .f32).view
/-- Each window's current staging memref at point `t`, spelled as the pipeline passes it (`bodyAt1`), and its wholeness. -/
abbrev ms0_0 (t : Fin cfg1.N) : Memref sig .tc .vmem S512x512 .bf16 := win1_0.stage (cfg1.slots t 0)
/-- That buffer is whole. -/
abbrev hs0_0 (t : Fin cfg1.N) : (ms0_0 t).IsWhole := hstage1_0 ((cfg1.slots t 0).cast nbuf1_0)
/-- The staging buffer that a window uses at a grid point. -/
abbrev ms0_1 (t : Fin cfg1.N) : Memref sig .tc .vmem S512x512 .bf16 := win1_1.stage (cfg1.slots t 1)
/-- That buffer is whole. -/
abbrev hs0_1 (t : Fin cfg1.N) : (ms0_1 t).IsWhole := hstage1_1 ((cfg1.slots t 1).cast nbuf1_1)
/-- The staging buffer that a window uses at a grid point. -/
abbrev ms0_2 (t : Fin cfg1.N) : Memref sig .tc .vmem S512x1024 .bf16 := win1_2.stage (cfg1.slots t 2)
/-- That buffer is whole. -/
abbrev hs0_2 (t : Fin cfg1.N) : (ms0_2 t).IsWhole := hstage1_2 ((cfg1.slots t 2).cast nbuf1_2)
/-- The staging buffer that a window uses at a grid point. -/
abbrev ms0_3 (t : Fin cfg1.N) : Memref sig .tc .vmem S512x512 .f32 := win1_3.stage (cfg1.slots t 3)
/-- That buffer is whole. -/
abbrev hs0_3 (t : Fin cfg1.N) : (ms0_3 t).IsWhole := hstage1_3 ((cfg1.slots t 3).cast nbuf1_3)
/-- The staging buffer that a window uses at a grid point. -/
abbrev ms0_4 (t : Fin cfg1.N) : Memref sig .tc .vmem S512x1024 .bf16 := win1_4.stage (cfg1.slots t 4)
/-- That buffer is whole. -/
abbrev hs0_4 (t : Fin cfg1.N) : (ms0_4 t).IsWhole := hstage1_4 ((cfg1.slots t 4).cast nbuf1_4)
/-- The staging buffer that a window uses at a grid point. -/
abbrev ms0_5 (t : Fin cfg1.N) : Memref sig .tc .vmem S8x4x128x256 .f32 := win1_5.stage (cfg1.slots t 5)
/-- That buffer is whole. -/
abbrev hs0_5 (t : Fin cfg1.N) : (ms0_5 t).IsWhole := hstage1_5 ((cfg1.slots t 5).cast nbuf1_5)
/-- The staging buffer that a window uses at a grid point. -/
abbrev ms0_6 (t : Fin cfg1.N) : Memref sig .tc .vmem S1x4x128x256 .f32 := win1_6.stage (cfg1.slots t 6)
/-- That buffer is whole. -/
abbrev hs0_6 (t : Fin cfg1.N) : (ms0_6 t).IsWhole := hstage1_6 ((cfg1.slots t 6).cast nbuf1_6)
/-- The staging buffer that a window uses at a grid point. -/
abbrev ms0_7 (t : Fin cfg1.N) : Memref sig .tc .vmem S512x512 .bf16 := win1_7.stage (cfg1.slots t 7)
/-- That buffer is whole. -/
abbrev hs0_7 (t : Fin cfg1.N) : (ms0_7 t).IsWhole := hstage1_7 ((cfg1.slots t 7).cast nbuf1_7)
/-- The staging buffer that a window uses at a grid point. -/
abbrev ms0_8 (t : Fin cfg1.N) : Memref sig .tc .vmem S512x512 .bf16 := win1_8.stage (cfg1.slots t 8)
/-- That buffer is whole. -/
abbrev hs0_8 (t : Fin cfg1.N) : (ms0_8 t).IsWhole := hstage1_8 ((cfg1.slots t 8).cast nbuf1_8)
/-- The staging buffer that a window uses at a grid point. -/
abbrev ms0_9 (t : Fin cfg1.N) : Memref sig .tc .vmem S512x1024 .bf16 := win1_9.stage (cfg1.slots t 9)
/-- That buffer is whole. -/
abbrev hs0_9 (t : Fin cfg1.N) : (ms0_9 t).IsWhole := hstage1_9 ((cfg1.slots t 9).cast nbuf1_9)
/-- The staging buffer that a window uses at a grid point. -/
abbrev ms0_10 (t : Fin cfg1.N) : Memref sig .tc .vmem S512x512 .f32 := win1_10.stage (cfg1.slots t 10)
/-- That buffer is whole. -/
abbrev hs0_10 (t : Fin cfg1.N) : (ms0_10 t).IsWhole := hstage1_10 ((cfg1.slots t 10).cast nbuf1_10)
/-- The scratch operands: whole scoped buffers of the kernel's own, passed beside the windows. -/
abbrev scM0_0 : Memref sig .tc .vmem S4x128x256 .f32 := Memref.whole cc1_scratch0
/-- The scratch `arg12` the kernel carries between points, as a view: what it holds is stated through it. -/
abbrev VS0_0 : View sig .tc .vmem S4x128x256 .f32 := scM0_0.view

/-- What the invariant holds beside the carried scratch: the other scoped buffers at some contents and the generator
    register at some state. -/
def Rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class's invariant with the carried scratch taken out of the scoped rest. -/
theorem PhiA0_eq (c : Dev nD) :
    (Pipeline.ΦA spec1 c : sProp 𝕄)
      = iprop(iprop((∃ d, owns (c : Thread nD τ) scM0_0 fullShare d)) ∗ Rest c) := by
  unfold Pipeline.ΦA Rest
  rw [Pipeline.scopedRest_split_of_list spec1 c [cc1_scratch0] (by decide) (by decide)]
  simp only [scM0_0, owns_whole, bigSepL]
  exact equiv_iff.mp ⟨Idealize.SL.BI.sep_assoc, Idealize.SL.BI.sep_assoc'⟩

end Cert.KernelIdeal.Bwd

end
-- ==== Proof.Bwd.RunA.lean ====
/-
  The backward region: the body run in case A of its branch.
-/
module

public import proofs.«01_k».proof.Proof.Bwd.Runs

@[expose] public section

-- membership in a rectangle of production extents (`View.cover_of_tiled`): the elaborator's structural look
-- recurses once per coordinate of the long axes
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 2880000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) :
    Σ' (L7 : List (View.Piece (Elt F) S512x512 .bf16)), Σ' (L8 : List (View.Piece (Elt F) S512x512 .bf16)), Σ' (L9 : List (View.Piece (Elt F) S512x1024 .bf16)), Σ' (L10 : List (View.Piece (Elt F) S512x512 .f32)), { LS0 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_eq_skeleton]; unfold cc1_gla_bwd_skel
    simp only [k1_part85_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.Bwd

end
-- ==== Proof.Bwd.RunB.lean ====
/-
  The backward region: the body run in case B of its branch.
-/
module

public import proofs.«01_k».proof.Proof.Bwd.Runs

@[expose] public section

-- membership in a rectangle of production extents (`View.cover_of_tiled`): the elaborator's structural look
-- recurses once per coordinate of the long axes
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 2868000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) :
    Σ' (L7 : List (View.Piece (Elt F) S512x512 .bf16)), Σ' (L8 : List (View.Piece (Elt F) S512x512 .bf16)), Σ' (L9 : List (View.Piece (Elt F) S512x1024 .bf16)), Σ' (L10 : List (View.Piece (Elt F) S512x512 .f32)), { LS0 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_eq_skeleton]; unfold cc1_gla_bwd_skel
    simp only [k1_part85_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.Bwd

end
-- ==== Proof.Bwd.Body.lean ====
/-
  The backward region: what each point leaves, the proof data, the body obligation.
-/
module

public import proofs.«01_k».proof.Proof.Bwd.RunA
public import proofs.«01_k».proof.Proof.Bwd.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-- Case A's pieces for output 7 tile its block (32 stores of `S64x128`, checked by the kernel's evaluation: Lib/Ring.lean `Piece.tiledL`, linear in the pieces, through a loop's `@[irreducible]` trip theorem too), so they cover it. -/
theorem cover0_A_7 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S64x128.size (by sl_kernel_rfl) y

/-- What case A leaves in output 7's staging buffer: its pieces read back over junk. -/
def out0_A_7 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) : Vec F S512x512 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces for output 8 tile its block (32 stores of `S64x128`, checked by the kernel's evaluation: Lib/Ring.lean `Piece.tiledL`, linear in the pieces, through a loop's `@[irreducible]` trip theorem too), so they cover it. -/
theorem cover0_A_8 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 S64x128.size (by sl_kernel_rfl) y

/-- What case A leaves in output 8's staging buffer: its pieces read back over junk. -/
def out0_A_8 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) : Vec F S512x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces for output 9 tile its block (32 stores of `S64x256`, checked by the kernel's evaluation: Lib/Ring.lean `Piece.tiledL`, linear in the pieces, through a loop's `@[irreducible]` trip theorem too), so they cover it. -/
theorem cover0_A_9 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 S64x256.size (by sl_kernel_rfl) y

/-- What case A leaves in output 9's staging buffer: its pieces read back over junk. -/
def out0_A_9 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) : Vec F S512x1024 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces for output 10 tile its block (32 stores of `S64x128`, checked by the kernel's evaluation: Lib/Ring.lean `Piece.tiledL`, linear in the pieces, through a loop's `@[irreducible]` trip theorem too), so they cover it. -/
theorem cover0_A_10 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 S64x128.size (by sl_kernel_rfl) y

/-- What case A leaves in output 10's staging buffer: its pieces read back over junk. -/
def out0_A_10 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) : Vec F S512x512 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)

/-- Case A's pieces for scratch `arg12`, which the kernel carries between points, cover it: one of them a store of the WHOLE buffer (Lib/Ring.lean `sl_whole_mem`). -/
theorem scover0_A_0 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (y : S4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 (by sl_whole_mem) y

/-- What case A leaves in scratch `arg12`: its pieces read back over junk. -/
def sout0_A_0 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) : Vec F S4x128x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1)

/-- Case B's pieces for output 7 tile its block (32 stores of `S64x128`, checked by the kernel's evaluation: Lib/Ring.lean `Piece.tiledL`, linear in the pieces, through a loop's `@[irreducible]` trip theorem too), so they cover it. -/
theorem cover0_B_7 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1 S64x128.size (by sl_kernel_rfl) y

/-- What case B leaves in output 7's staging buffer: its pieces read back over junk. -/
def out0_B_7 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) : Vec F S512x512 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1)

/-- Case B's pieces for output 8 tile its block (32 stores of `S64x128`, checked by the kernel's evaluation: Lib/Ring.lean `Piece.tiledL`, linear in the pieces, through a loop's `@[irreducible]` trip theorem too), so they cover it. -/
theorem cover0_B_8 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1 S64x128.size (by sl_kernel_rfl) y

/-- What case B leaves in output 8's staging buffer: its pieces read back over junk. -/
def out0_B_8 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) : Vec F S512x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1)

/-- Case B's pieces for output 9 tile its block (32 stores of `S64x256`, checked by the kernel's evaluation: Lib/Ring.lean `Piece.tiledL`, linear in the pieces, through a loop's `@[irreducible]` trip theorem too), so they cover it. -/
theorem cover0_B_9 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1 S64x256.size (by sl_kernel_rfl) y

/-- What case B leaves in output 9's staging buffer: its pieces read back over junk. -/
def out0_B_9 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) : Vec F S512x1024 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1)

/-- Case B's pieces for output 10 tile its block (32 stores of `S64x128`, checked by the kernel's evaluation: Lib/Ring.lean `Piece.tiledL`, linear in the pieces, through a loop's `@[irreducible]` trip theorem too), so they cover it. -/
theorem cover0_B_10 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1 S64x128.size (by sl_kernel_rfl) y

/-- What case B leaves in output 10's staging buffer: its pieces read back over junk. -/
def out0_B_10 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) : Vec F S512x512 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1)

/-- Case B's pieces for scratch `arg12`, which the kernel carries between points, cover it: 4 pieces of `S1x128x256` tiling it (Lib/Ring.lean `Piece.tiledL`). -/
theorem scover0_B_0 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) (y : S4x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1 S1x128x256.size (by sl_kernel_rfl) y

/-- What case B leaves in scratch `arg12`: its pieces read back over junk. -/
def sout0_B_0 (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole) (hc0 : ¬cond0_0 i)
    (x0 : Vec F S512x512 .bf16) (x1 : Vec F S512x512 .bf16) (x2 : Vec F S512x1024 .bf16) (x3 : Vec F S512x512 .f32) (x4 : Vec F S512x1024 .bf16) (x5 : Vec F S8x4x128x256 .f32) (x6 : Vec F S1x4x128x256 .f32) (xs0 : Vec F S4x128x256 .f32) : Vec F S4x128x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S512x512 .bf16 × Vec F S512x512 .bf16 × Vec F S512x1024 .bf16 × Vec F S512x512 .f32 × Vec F S4x128x256 .f32
  | 0, hn => (out0_A_7 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩) (iblk V c 4 ⟨0, hn⟩) (iblk V c 5 ⟨0, hn⟩) (iblk V c 6 ⟨0, hn⟩), out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩) (iblk V c 4 ⟨0, hn⟩) (iblk V c 5 ⟨0, hn⟩) (iblk V c 6 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩) (iblk V c 4 ⟨0, hn⟩) (iblk V c 5 ⟨0, hn⟩) (iblk V c 6 ⟨0, hn⟩), out0_A_10 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩) (iblk V c 4 ⟨0, hn⟩) (iblk V c 5 ⟨0, hn⟩) (iblk V c 6 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (X0_0 V c ⟨0, hn⟩) (X0_1 V c ⟨0, hn⟩) (X0_2 V c ⟨0, hn⟩) (iblk V c 3 ⟨0, hn⟩) (iblk V c 4 ⟨0, hn⟩) (iblk V c 5 ⟨0, hn⟩) (iblk V c 6 ⟨0, hn⟩))
  | n + 1, hn =>
    if h0 : (n + 1) % 8 = 0 then
      (out0_A_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩), out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩), out0_A_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩))
    else
      (out0_B_7 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.2, out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.2, out0_B_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (X0_0 V c ⟨n + 1, hn⟩) (X0_1 V c ⟨n + 1, hn⟩) (X0_2 V c ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.2.2.2)

/-- `outsAt0` at a point of case A: that case's contents. -/
theorem outsAt0_A (c : Dev nD) (t : Fin cfg1.N) (h0 : t.val % 8 = 0) :
    outsAt0 V c t.val t.isLt = (out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (X0_0 V c t) (X0_1 V c t) (X0_2 V c t) (iblk V c 3 t) (iblk V c 4 t) (iblk V c 5 t) (iblk V c 6 t), out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (X0_0 V c t) (X0_1 V c t) (X0_2 V c t) (iblk V c 3 t) (iblk V c 4 t) (iblk V c 5 t) (iblk V c 6 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (X0_0 V c t) (X0_1 V c t) (X0_2 V c t) (iblk V c 3 t) (iblk V c 4 t) (iblk V c 5 t) (iblk V c 6 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (X0_0 V c t) (X0_1 V c t) (X0_2 V c t) (iblk V c 3 t) (iblk V c 4 t) (iblk V c 5 t) (iblk V c 6 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (X0_0 V c t) (X0_1 V c t) (X0_2 V c t) (iblk V c 3 t) (iblk V c 4 t) (iblk V c 5 t) (iblk V c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 8 = 0) :
    outsAt0 V c t.val t.isLt = (out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (X0_0 V c t) (X0_1 V c t) (X0_2 V c t) (iblk V c 3 t) (iblk V c 4 t) (iblk V c 5 t) (iblk V c 6 t) (outsAt0 V c (t.val - 1) (Nat.lt_of_le_of_lt (Nat.sub_le _ _) t.isLt)).2.2.2.2, out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (X0_0 V c t) (X0_1 V c t) (X0_2 V c t) (iblk V c 3 t) (iblk V c 4 t) (iblk V c 5 t) (iblk V c 6 t) (outsAt0 V c (t.val - 1) (Nat.lt_of_le_of_lt (Nat.sub_le _ _) t.isLt)).2.2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (X0_0 V c t) (X0_1 V c t) (X0_2 V c t) (iblk V c 3 t) (iblk V c 4 t) (iblk V c 5 t) (iblk V c 6 t) (outsAt0 V c (t.val - 1) (Nat.lt_of_le_of_lt (Nat.sub_le _ _) t.isLt)).2.2.2.2, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (X0_0 V c t) (X0_1 V c t) (X0_2 V c t) (iblk V c 3 t) (iblk V c 4 t) (iblk V c 5 t) (iblk V c 6 t) (outsAt0 V c (t.val - 1) (Nat.lt_of_le_of_lt (Nat.sub_le _ _) t.isLt)).2.2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (X0_0 V c t) (X0_1 V c t) (X0_2 V c t) (iblk V c 3 t) (iblk V c 4 t) (iblk V c 5 t) (iblk V c 6 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.2.2)) ∗ Rest c)

/-- The scratch condition at the first point. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2.2.2.2)) ∗ Rest c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2.2.2.2)) ∗ Rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (c : Dev nD) : Dat τ (Elt F) Unit ℕ (UR sig nD τ) ℕ cfg1 c where
  A w := V c (Pipeline.arrRef spec1 w)
  after w t := match w with
    | ⟨0, _⟩ => X0_0 V c t
    | ⟨1, _⟩ => X0_1 V c t
    | ⟨2, _⟩ => X0_2 V c t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
    | ⟨8, _⟩ => (outsAt0 V c t.val t.isLt).2.1
    | ⟨9, _⟩ => (outsAt0 V c t.val t.isLt).2.2.1
    | ⟨10, _⟩ => (outsAt0 V c t.val t.isLt).2.2.2.1
  Φ t := PhiS V c t.val (Nat.le_of_lt_succ t.isLt)
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dats V c).A w = V c (Pipeline.arrRef spec1 w) := by
  dsimp only [dats]

/-- The invariant at a point's start (the proof data at `t.castSucc`), restated at `t.val`. -/
theorem PhiS_castSucc (c : Dev nD) (t : Fin cfg1.N) :
    (dats V c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg1.N) : (dats V c).after 0 t = X0_0 V c t := by dsimp only [dats]
/-- The window's contents after the body. -/
theorem after0_1 (c : Dev nD) (t : Fin cfg1.N) : (dats V c).after 1 t = X0_1 V c t := by dsimp only [dats]
/-- The window's contents after the body. -/
theorem after0_2 (c : Dev nD) (t : Fin cfg1.N) : (dats V c).after 2 t = X0_2 V c t := by dsimp only [dats]
/-- The window's contents after the body. -/
theorem after0_3 (c : Dev nD) (t : Fin cfg1.N) : (dats V c).after 3 t = iblk V c 3 t := by dsimp only [dats]
/-- The window's contents after the body. -/
theorem after0_4 (c : Dev nD) (t : Fin cfg1.N) : (dats V c).after 4 t = iblk V c 4 t := by dsimp only [dats]
/-- The window's contents after the body. -/
theorem after0_5 (c : Dev nD) (t : Fin cfg1.N) : (dats V c).after 5 t = iblk V c 5 t := by dsimp only [dats]
/-- The window's contents after the body. -/
theorem after0_6 (c : Dev nD) (t : Fin cfg1.N) : (dats V c).after 6 t = iblk V c 6 t := by dsimp only [dats]
/-- The window's contents after the body. -/
theorem after0_7 (c : Dev nD) (t : Fin cfg1.N) : (dats V c).after 7 t = (outsAt0 V c t.val t.isLt).1 := by dsimp only [dats]
/-- The window's contents after the body. -/
theorem after0_8 (c : Dev nD) (t : Fin cfg1.N) : (dats V c).after 8 t = (outsAt0 V c t.val t.isLt).2.1 := by dsimp only [dats]
/-- The window's contents after the body. -/
theorem after0_9 (c : Dev nD) (t : Fin cfg1.N) : (dats V c).after 9 t = (outsAt0 V c t.val t.isLt).2.2.1 := by dsimp only [dats]
/-- The window's contents after the body. -/
theorem after0_10 (c : Dev nD) (t : Fin cfg1.N) : (dats V c).after 10 t = (outsAt0 V c t.val t.isLt).2.2.2.1 := by dsimp only [dats]

/-- Each input's current staging buffer holds its block at every point, fetched there or not (`beforeK_W_of`). -/
theorem before0_0 (c : Dev nD) (t : Fin cfg1.N) (d) : (dats V c).before 0 t d = X0_0 V c t :=
  before0_0_of V (dats V c) (A_eq V c 0) (after0_0 V c) t d
/-- The window's contents before the body. -/
theorem before0_1 (c : Dev nD) (t : Fin cfg1.N) (d) : (dats V c).before 1 t d = X0_1 V c t :=
  before0_1_of V (dats V c) (A_eq V c 1) (after0_1 V c) t d
/-- The window's contents before the body. -/
theorem before0_2 (c : Dev nD) (t : Fin cfg1.N) (d) : (dats V c).before 2 t d = X0_2 V c t :=
  before0_2_of V (dats V c) (A_eq V c 2) (after0_2 V c) t d
/-- The window's contents before the body. -/
theorem before0_3 (c : Dev nD) (t : Fin cfg1.N) (d) : (dats V c).before 3 t d = iblk V c 3 t :=
  before0_3_of V (dats V c) (A_eq V c 3) (after0_3 V c) t d
/-- The window's contents before the body. -/
theorem before0_4 (c : Dev nD) (t : Fin cfg1.N) (d) : (dats V c).before 4 t d = iblk V c 4 t :=
  before0_4_of V (dats V c) (A_eq V c 4) (after0_4 V c) t d
/-- The window's contents before the body. -/
theorem before0_5 (c : Dev nD) (t : Fin cfg1.N) (d) : (dats V c).before 5 t d = iblk V c 5 t :=
  before0_5_of V (dats V c) (A_eq V c 5) (after0_5 V c) t d
/-- The window's contents before the body. -/
theorem before0_6 (c : Dev nD) (t : Fin cfg1.N) (d) : (dats V c).before 6 t d = iblk V c 6 t :=
  before0_6_of V (dats V c) (A_eq V c 6) (after0_6 V c) t d

/-! ## The body obligation, at a generic point -/

/-- What the body is called with at point `t` (Lib/Pipeline.lean `BodyObligation`'s precondition, the windows one by one), -/
def bodyPre (c : Dev nD) (t : Fin cfg1.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d))
    ∗ (∃ d, owns (c : Thread nD τ) (ms0_6 t) fullShare ((dats V c).before 6 t d))
    ∗ (∃ d, owns (c : Thread nD τ) (ms0_7 t) fullShare ((dats V c).before 7 t d))
    ∗ (∃ d, owns (c : Thread nD τ) (ms0_8 t) fullShare ((dats V c).before 8 t d))
    ∗ (∃ d, owns (c : Thread nD τ) (ms0_9 t) fullShare ((dats V c).before 9 t d))
    ∗ (∃ d, owns (c : Thread nD τ) (ms0_10 t) fullShare ((dats V c).before 10 t d)))

/-- and what it returns. -/
def bodyPost (c : Dev nD) (t : Fin cfg1.N) : sProp 𝕄 :=
  iprop((dats V c).Φ t.succ ∗ (dats V c).owesAt () t.succ
    ∗ owns (c : Thread nD τ) (ms0_0 t) fullShare ((dats V c).after 0 t)
    ∗ owns (c : Thread nD τ) (ms0_1 t) fullShare ((dats V c).after 1 t)
    ∗ owns (c : Thread nD τ) (ms0_2 t) fullShare ((dats V c).after 2 t)
    ∗ owns (c : Thread nD τ) (ms0_3 t) fullShare ((dats V c).after 3 t)
    ∗ owns (c : Thread nD τ) (ms0_4 t) fullShare ((dats V c).after 4 t)
    ∗ owns (c : Thread nD τ) (ms0_5 t) fullShare ((dats V c).after 5 t)
    ∗ owns (c : Thread nD τ) (ms0_6 t) fullShare ((dats V c).after 6 t)
    ∗ owns (c : Thread nD τ) (ms0_7 t) fullShare ((dats V c).after 7 t)
    ∗ owns (c : Thread nD τ) (ms0_8 t) fullShare ((dats V c).after 8 t)
    ∗ owns (c : Thread nD τ) (ms0_9 t) fullShare ((dats V c).after 9 t)
    ∗ owns (c : Thread nD τ) (ms0_10 t) fullShare ((dats V c).after 10 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6]
  rw [show (dats V c).owesAt () t.succ = (dats V c).owesAt () t.castSucc from rfl,
    after0_0, after0_1, after0_2, after0_3, after0_4, after0_5, after0_6, after0_7, after0_8, after0_9, after0_10]
  rw [show (dats V c).Φ t.succ = PhiS V c (t.val + 1) t.isLt from rfl, PhiS_succ]
  have hN : t.val < 8 := lt_of_lt_of_eq t.isLt (show cfg1.N = 8 from N_1)
  by_cases h0 : t.val % 8 = 0
  · by_cases hz : t.val = 0
    · rw [PhiS_castSucc V c t, PhiS_zero V c _ _ hz, PhiA0_eq]
      rw [outsAt0_A V c t h0]
      unfold out0_A_7 out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid1.coords t) _ _ _ _ _ _ _ _ _ _ _ _ _ _ _ _ _ _ _ _ _ _ _ _ ((hcond0_0 t).mpr h0) (X0_0 V c t) (X0_1 V c t) (X0_2 V c t) (iblk V c 3 t) (iblk V c 4 t) (iblk V c 5 t) (iblk V c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _)
    · exfalso; have hN : t.val < 8 := lt_of_lt_of_eq t.isLt (show cfg1.N = 8 from N_1); omega
  · by_cases hz : t.val = 0
    · exfalso; have hN : t.val < 8 := lt_of_lt_of_eq t.isLt (show cfg1.N = 8 from N_1); omega
    · rw [PhiS_castSucc V c t, PhiS_pos V c _ _ hz]
      rw [outsAt0_B V c t h0]
      unfold out0_B_7 out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid1.coords t) _ _ _ _ _ _ _ _ _ _ _ _ _ _ _ _ _ _ _ _ _ _ _ _ (fun h => h0 ((hcond0_0 t).mp h)) (X0_0 V c t) (X0_1 V c t) (X0_2 V c t) (iblk V c 3 t) (iblk V c 4 t) (iblk V c 5 t) (iblk V c 6 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dats V c).Φ 0 := by
  rw [show (dats V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dats V c).Φ t ⊢ Pipeline.ΦA spec1 c := by
  rw [show (dats V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dats V c).Φ (Fin.last cfg1.N) ⊢ Pipeline.ΦA spec1 c :=
  Phi_out V c _ (by rw [Fin.val_last]; have : cfg1.N = 8 := N_1; omega)

end Cert.KernelIdeal.Bwd

end
-- ==== Proof.Launch.lean ====
/-
  The two regions launched one after the other: the forward region reads the arguments and leaves the outputs and the
  chunk states, the backward region reads the arguments and those states. A region is a segment entered from every
  unscoped buffer at a valuation and left at that valuation with the region's arrays replaced.
-/
module

public import proofs.«01_k».proof.Proof.Gen.KernelIdeal.Regions
public import proofs.«01_k».proof.Proof.Fwd.Body
public import proofs.«01_k».proof.Proof.Bwd.Body
public import Idealize.ShloMosaic.Lib.Pipeline.RegionArrays
public import Idealize.ShloMosaic.Lib.Pipeline.RegionsLoop
public import Idealize.ShloMosaic.Lib.Pipeline.FrameSuffix

@[expose] public section

noncomputable section

namespace Cert.KernelIdeal.Launch

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The valuations between the regions -/

/-- The buffers at launch. -/
abbrev W0 (c : Dev nD) : Valuation τ sig (Elt F) := fun b => m (c, b)
/-- The forward region's proof data, its arrays as launched. -/
abbrev dF (c : Dev nD) : Dat τ (Elt F) Unit ℕ (UR sig nD τ) ℕ cfg0 c := Fwd.dats (fun c b => W0 m c b) c
/-- The buffers after the forward region. -/
def W1 (c : Dev nD) : Valuation τ sig (Elt F) := Pipeline.withArrays spec0 c (W0 m c) fun w => (dF m c).arrAt w cfg0.N
/-- The backward region's proof data, its arrays as the forward region left them. -/
abbrev dB (c : Dev nD) : Dat τ (Elt F) Unit ℕ (UR sig nD τ) ℕ cfg1 c := Bwd.dats (fun c b => W1 m c b) c
/-- The buffers after the backward region. -/
def W2 (c : Dev nD) : Valuation τ sig (Elt F) := Pipeline.withArrays spec1 c (W1 m c) fun w => (dB m c).arrAt w cfg1.N

/-- The two regions' proof data. -/
def pdats : (p : Fin 2) → (c : Dev nD) → Dat τ (Elt F) Unit ℕ (UR sig nD τ) ℕ (Pipeline.pin (pcfgs (F := F)) adm p) c
  | ⟨0, _⟩, c => dF m c
  | ⟨1, _⟩, c => dB m c

/-- No core owes another anything: no level is assigned. -/
abbrev L : GSem nD τ sig → Finset Unit := fun _ => ∅
abbrev lv : GSem nD τ sig → Unit → ℕ := fun _ _ => 0

/-- What rides beside the buffers: the generator register at some state, the core owing nothing. -/
abbrev Rr (c : Dev nD) : sProp 𝕄 := iprop((∃ r, prngReg c r) ∗ ∃ W, owes (c : Thread nD τ) (0 : CellTallies nD τ sig Unit) W)

-- the library's lemmas are stated at the pinned configuration; unification must unfold plain definitions in types
set_option backward.isDefEq.respectTransparency.types false in
/-- A region of this program as a segment: entered from every unscoped buffer at `V`, left with its arrays replaced by
    their final contents. -/
def region (p : Fin 2) (V : Dev nD → Valuation τ sig (Elt F)) (kit : Pipeline.LaunchFacts₀ (nD := nD) (τ := τ) cfgs p)
    (hK : (pcfgs (F := F) p).pre.K = 0)
    (hbody : ∀ c, Pipeline.BodyObligation (pdats m p c) defs₀ Variants.none () Set.univ)
    (howed : ∀ c t, (pdats m p c).owed t = 0) (hrec : ∀ c, (pdats m p c).recorded 0 = Set.univ)
    (hq : ∀ c w, (pdats m p c).q w = Pipeline.shareOf (Pipeline.pin (pcfgs (F := F)) adm p).spec w)
    (hA : ∀ c w, (pdats m p c).A w = V c (Proc.devRef .tc (Pipeline.arrRef (Pipeline.pin (pcfgs (F := F)) adm p).spec w)))
    (hin : ∀ c, Pipeline.ΦA (Pipeline.pin (pcfgs (F := F)) adm p).spec c ⊢ (pdats m p c).Φ 0)
    (hout : ∀ c, (pdats m p c).Φ (Fin.last (Pipeline.pin (pcfgs (F := F)) adm p).N) ⊢ Pipeline.ΦA (Pipeline.pin (pcfgs (F := F)) adm p).spec c) :
    RegionSeg (pcfgs (F := F)) adm (pdats m) () defs₀ Variants.none L lv p where
  win := kit.win
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Rr c)
  post c := iprop(StableHlo.held (c : Thread nD τ) (Pipeline.ucRefs τ sig)
    (Pipeline.withArrays (Pipeline.pin (pcfgs (F := F)) adm p).spec c (V c) fun w => (pdats m p c).arrAt w (Pipeline.pin (pcfgs (F := F)) adm p).N) ∗ Rr c)
  X c := iprop(∃ r, prngReg c r)
  Y c := iprop(∃ r, prngReg c r)
  Z c := Pipeline.unscopedRest (Pipeline.pin (pcfgs (F := F)) adm p).spec c (fun b => V c b)
  hentry c := by
    rw [Pipeline.ownSems0_none, Pipeline.prefHeld_of_none _ hK, ← Pipeline.unscopedBufs_held]
    have hsplit := Pipeline.arrays_of_unscopedBufs_shared (pcfgs (F := F)) adm (pdats m) (p := p) kit.win kit.sharedIn kit.arr_whole c
      (fun w _ => hq c w) (fun b => V c b) (hA c)
    iintro ⟨⟨Hub, Hp, HO⟩, -, -⟩
    ihave H := hsplit $$ Hub
    icases H with ⟨Ha, Hr⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hr
  hin c := (show _ ⊢ (Pipeline.ΦA (Pipeline.pin (pcfgs (F := F)) adm p).spec c : sProp 𝕄) from by
    unfold Pipeline.ΦA
    iintro ⟨HX, -, Hr⟩
    isplitl [Hr]; · iexact Hr
    iexact HX).trans (hin c)
  hout c := (hout c).trans (by
    rw [Pipeline.ownSems0_none]
    unfold Pipeline.ΦA
    iintro ⟨Hr, HY⟩
    isplitl [HY]; · iexact HY
    isplitr; · iempintro
    iexact Hr)
  hexit c := by
    rw [← Pipeline.unscopedBufs_held]
    have hjoin := Pipeline.unscopedBufs_of_arrays_shared (pcfgs (F := F)) adm (p := p) kit.win kit.sharedIn kit.arr_whole c (pdats m)
      (fun w _ => hq c w) (fun b => V c b)
      (fun b => Pipeline.withArrays (Pipeline.pin (pcfgs (F := F)) adm p).spec c (V c) (fun w => (pdats m p c).arrAt w (Pipeline.pin (pcfgs (F := F)) adm p).N) b)
      (fun w => (pdats m p c).arrAt w (Pipeline.pin (pcfgs (F := F)) adm p).N)
      (fun w => (Pipeline.withArrays_arr_shared _ c (V c) _ ((pdats m p c).arrAt_sharedIn kit.sharedIn (V c) (hA c) _) w).symm)
      (fun b hb => Pipeline.withArrays_of_ne _ c (V c) _ b fun w e => hb (e ▸ Finset.mem_image_of_mem _ (Finset.mem_univ w)))
    iintro ⟨Ha, HO, HY, HZ⟩
    imodintro
    isplitl [Ha HZ]
    · iapply hjoin
      isplitl [Ha] <;> iassumption
    isplitl [HY]; · iexact HY
    unfold Pipeline.Dat.owesAt Pipeline.owesWithin
    rw [howed c (Fin.last _)]
    icases HO with ⟨%W, -, HO⟩; iexists W; iexact HO

/-- The forward region. -/
def reg0 : RegionSeg (pcfgs (F := F)) adm (pdats m) () defs₀ Variants.none L lv 0 :=
  region m 0 (W0 m) launch₀0 rfl (fun c => Fwd.body_obligation (fun c b => W0 m c b) c) (fun _ _ => rfl) (fun _ => rfl)
    (fun _ _ => rfl) (fun c w => Fwd.A_eq (fun c b => W0 m c b) c w) (fun c => Fwd.hin (fun c b => W0 m c b) c) (fun c => Fwd.hout (fun c b => W0 m c b) c)

/-- The backward region. -/
def reg1 : RegionSeg (pcfgs (F := F)) adm (pdats m) () defs₀ Variants.none L lv 1 :=
  region m 1 (W1 m) launch₀1 rfl (fun c => Bwd.body_obligation (fun c b => W1 m c b) c) (fun _ _ => rfl) (fun _ => rfl)
    (fun _ _ => rfl) (fun c w => Bwd.A_eq (fun c b => W1 m c b) c w) (fun c => Bwd.hin (fun c b => W1 m c b) c) (fun c => Bwd.hout (fun c b => W1 m c b) c)

set_option backward.isDefEq.respectTransparency.types false in
/-- Every weakly fair execution of the program terminates with every unscoped buffer at the second valuation and every
    semaphore counter at zero. -/
theorem run_main : θ_run defs (onTc (τ := τ) (main (F := F))) ⟨m, fun _ => 0, ρ⟩ (fun r =>
    (∀ c : Dev nD, ∀ b ∈ Pipeline.ucRefs τ sig, r.2.mem (c, b) = W2 m c b) ∧ r.2.sem = fun _ => 0) := by
  refine Pipeline.θ_run_regions_kit_dev_sems (pcfgs (F := F)) adm (pdats m) () cellOf_inj emb₁ defs₀ Variants.none L lv m ρ main
    (fun _ => [.region (reg0 m), .region (reg1 m)])
    (fun c Q => by
      rewrite [main_chain c, Seg.run_eq_chain,
        show ([.region (reg0 m), .region (reg1 m)] : List (Seg (pcfgs (F := F)) adm (pdats m) () defs₀ Variants.none L lv)).map Seg.prog = [
          Prog.lift (.customCall (Pipeline.entry 0) ()),
          Prog.lift (.customCall (Pipeline.entry 1) ()) ] from rfl]
      dsimp (config := { failIfUnchanged := false }) only
      exact .rfl)
    (fun c => by simp only [Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c))
    (Tₙ := fun c => StableHlo.held (c : Thread nD τ) (Pipeline.ucRefs τ sig) (W2 m c))
    (hch := fun c => ⟨.rfl, .rfl, sep_mono .rfl (by iintro ⟨-, H⟩; iexact H)⟩)
    (hinit := ?_) (QY := fun c s => ∀ b ∈ Pipeline.ucRefs τ sig, s.mem (c, b) = W2 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro; exact h
    · iexact HSI

end Cert.KernelIdeal.Launch

end
-- ==== Proof.Reads.lean ====
/-
  The buffers after the two regions, read at the program's arguments and results.
-/
module

public import proofs.«01_k».proof.Proof.Launch
public import Idealize.ShloMosaic.Lib.StableHlo.RunLoop

@[expose] public section

noncomputable section

namespace Cert.KernelIdeal.Launch

open Cert.KernelIdeal.Gen
open Idealize.ShloMosaic Idealize.ShloMosaic.TcCoe
open Idealize.SL.Sem

variable {F : FTy → Type} [FloatOps F] [Named F]
variable (m : (ℓ : Loc nD τ sig) → Buf (Elt F) ℓ) (ρ : Dev nD → PrngReg)

/-- After the forward region each of its arrays is at its final contents. -/
theorem W1_arr (c : Dev nD) (w : Fin cfg0.W) :
    W1 m c (Proc.devRef .tc (Pipeline.arrRef spec0 w)) = (dF m c).arrAt w cfg0.N :=
  Pipeline.withArrays_arr_shared spec0 c (W0 m c) _ ((dF m c).arrAt_sharedIn launch₀0.sharedIn (W0 m c) (fun w => Fwd.A_eq _ c w) cfg0.N) w
/-- After the backward region each of its arrays is at its final contents. -/
theorem W2_arr (c : Dev nD) (w : Fin cfg1.W) :
    W2 m c (Proc.devRef .tc (Pipeline.arrRef spec1 w)) = (dB m c).arrAt w cfg1.N :=
  Pipeline.withArrays_arr_shared spec1 c (W1 m c) _ ((dB m c).arrAt_sharedIn launch₀1.sharedIn (W1 m c) (fun w => Bwd.A_eq _ c w) cfg1.N) w

/-- The forward region leaves the first argument. -/
theorem W1_arg0 (c : Dev nD) : W1 m c (Proc.devRef .tc main_arg0) = m (c, Proc.devRef .tc main_arg0) :=
  (W1_arr m c 0).trans (((dF m c).arrAt_in 0 rfl _).trans (Fwd.A_eq _ c 0))
/-- An argument is unchanged after the launch. -/
theorem W1_arg1 (c : Dev nD) : W1 m c (Proc.devRef .tc main_arg1) = m (c, Proc.devRef .tc main_arg1) :=
  (W1_arr m c 3).trans (((dF m c).arrAt_in 3 rfl _).trans (Fwd.A_eq _ c 3))
/-- An argument is unchanged after the launch. -/
theorem W1_arg2 (c : Dev nD) : W1 m c (Proc.devRef .tc main_arg2) = m (c, Proc.devRef .tc main_arg2) :=
  Pipeline.withArrays_of_ne spec0 c (W0 m c) _ main_arg2 (by decide)
/-- The backward region leaves the first argument. -/
theorem W2_arg0 (c : Dev nD) : W2 m c (Proc.devRef .tc main_arg0) = m (c, Proc.devRef .tc main_arg0) :=
  (W2_arr m c 0).trans (((dB m c).arrAt_in 0 rfl _).trans ((Bwd.A_eq _ c 0).trans (W1_arg0 m c)))
/-- An argument is unchanged after the launch. -/
theorem W2_arg1 (c : Dev nD) : W2 m c (Proc.devRef .tc main_arg1) = m (c, Proc.devRef .tc main_arg1) :=
  (W2_arr m c 3).trans (((dB m c).arrAt_in 3 rfl _).trans ((Bwd.A_eq _ c 3).trans (W1_arg1 m c)))
/-- An argument is unchanged after the launch. -/
theorem W2_arg2 (c : Dev nD) : W2 m c (Proc.devRef .tc main_arg2) = m (c, Proc.devRef .tc main_arg2) :=
  (W2_arr m c 4).trans (((dB m c).arrAt_in 4 rfl _).trans ((Bwd.A_eq _ c 4).trans (W1_arg2 m c)))
/-- The forward output, which the backward region does not touch. -/
theorem W2_v0_0 (c : Dev nD) : W2 m c (Proc.devRef .tc main_v0_0) = (dF m c).arrAt 4 cfg0.N :=
  (Pipeline.withArrays_of_ne spec1 c (W1 m c) _ main_v0_0 (by decide)).trans (W1_arr m c 4)

/-- The program runs; its results are the regions' final arrays, its arguments unchanged, its semaphores at zero. -/
theorem run_results : θ_run defs (onTc (τ := τ) (main (F := F))) ⟨m, fun _ => 0, ρ⟩ (fun r =>
    (∀ c : Dev nD,
      (r.2.mem ((c.tc : Thread nD τ).loc main_v0_0) = (dF m c).arrAt 4 cfg0.N
      ∧ r.2.mem ((c.tc : Thread nD τ).loc main_v1_0) = (dB m c).arrAt 7 cfg1.N
      ∧ r.2.mem ((c.tc : Thread nD τ).loc main_v1_1) = (dB m c).arrAt 8 cfg1.N
      ∧ r.2.mem ((c.tc : Thread nD τ).loc main_v1_2) = (dB m c).arrAt 9 cfg1.N
      ∧ r.2.mem ((c.tc : Thread nD τ).loc main_v1_3) = (dB m c).arrAt 10 cfg1.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)))
    ∧ r.2.sem = fun _ => 0) := by
  refine (θ_run defs _ _).mono (fun r h => ?_) (run_main m ρ)
  have hr : ∀ (c : Dev nD) (b : Ref sig .tc), (Proc.devRef .tc b : DevRef τ sig) ∈ Pipeline.ucRefs τ sig →
      r.2.mem ((c.tc : Thread nD τ).loc b) = W2 m c (Proc.devRef .tc b) := fun c b hb => h.1 c _ hb
  refine ⟨fun c => ⟨⟨?_, ?_, ?_, ?_, ?_⟩, ?_, ?_, ?_⟩, h.2⟩
  · exact (hr c _ (StableHlo.devRef_mem_ucRefs _ rfl)).trans (W2_v0_0 m c)
  · exact (hr c _ (StableHlo.devRef_mem_ucRefs _ rfl)).trans (W2_arr m c 7)
  · exact (hr c _ (StableHlo.devRef_mem_ucRefs _ rfl)).trans (W2_arr m c 8)
  · exact (hr c _ (StableHlo.devRef_mem_ucRefs _ rfl)).trans (W2_arr m c 9)
  · exact (hr c _ (StableHlo.devRef_mem_ucRefs _ rfl)).trans (W2_arr m c 10)
  · exact (hr c _ (StableHlo.devRef_mem_ucRefs _ rfl)).trans (W2_arg0 m c)
  · exact (hr c _ (StableHlo.devRef_mem_ucRefs _ rfl)).trans (W2_arg1 m c)
  · exact (hr c _ (StableHlo.devRef_mem_ucRefs _ rfl)).trans (W2_arg2 m c)

end Cert.KernelIdeal.Launch

end
-- ==== Proof.Ref.Ops.lean ====
/-
  The reference's @main as stretches of host operations around its two scans, and each scan's body as stretches.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ref

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## @main as a chain of stretches and scans -/

/-- 24 host operations of @main, in order. -/
abbrev hostOps0 : List (HloOp τ sig (Elt F)) :=
  [ StableHlo.unary main_arg0 main_v0 ((extractStridedSlice S4096x512 ![0, 0] · slices_S4096x10368_S4096x512_0_0) : (⟨S4096x10368, .bf16⟩ : BufTy).Contents (Elt F) → (⟨S4096x512, .bf16⟩ : BufTy).Contents (Elt F)),
    StableHlo.unary main_arg0 main_v1 ((extractStridedSlice S4096x512 ![0, 512] · slices_S4096x10368_S4096x512_0_512) : (⟨S4096x10368, .bf16⟩ : BufTy).Contents (Elt F) → (⟨S4096x512, .bf16⟩ : BufTy).Contents (Elt F)),
    StableHlo.unary main_arg0 main_v2 ((extractStridedSlice S4096x1024 ![0, 1024] · slices_S4096x10368_S4096x1024_0_1024) : (⟨S4096x10368, .bf16⟩ : BufTy).Contents (Elt F) → (⟨S4096x1024, .bf16⟩ : BufTy).Contents (Elt F)),
    StableHlo.unary main_v0 main_v3 ((extf .f32 · bitsLt_bf16_f32) : (⟨S4096x512, .bf16⟩ : BufTy).Contents (Elt F) → (⟨S4096x512, .f32⟩ : BufTy).Contents (Elt F)),
    StableHlo.unary main_v1 main_v4 ((extf .f32 · bitsLt_bf16_f32) : (⟨S4096x512, .bf16⟩ : BufTy).Contents (Elt F) → (⟨S4096x512, .f32⟩ : BufTy).Contents (Elt F)),
    StableHlo.unary main_v2 main_v5 ((extf .f32 · bitsLt_bf16_f32) : (⟨S4096x1024, .bf16⟩ : BufTy).Contents (Elt F) → (⟨S4096x1024, .f32⟩ : BufTy).Contents (Elt F)),
    StableHlo.unary main_arg2 main_v6 ((extf .f32 · bitsLt_bf16_f32) : (⟨S4096x1024, .bf16⟩ : BufTy).Contents (Elt F) → (⟨S4096x1024, .f32⟩ : BufTy).Contents (Elt F)),
    StableHlo.reshape main_v3 main_v7 (rfl : (.f32 : EltTy) = .f32) shapeCasts_S4096x512_S1x4096x4x128,
    StableHlo.nullary main_cst (constant S_ .f32 0x3DB504F3#32),
    StableHlo.unary main_cst main_v8 (broadcastInDim S1x4096x4x128 ![] bcast_S_S1x4096x4x128 : (⟨S_, .f32⟩ : BufTy).Contents (Elt F) → (⟨S1x4096x4x128, .f32⟩ : BufTy).Contents (Elt F)),
    StableHlo.binary main_v7 main_v8 main_v9 (mulf : (⟨S1x4096x4x128, .f32⟩ : BufTy).Contents (Elt F) → (⟨S1x4096x4x128, .f32⟩ : BufTy).Contents (Elt F) → (⟨S1x4096x4x128, .f32⟩ : BufTy).Contents (Elt F)),
    StableHlo.reshape main_v4 main_v10 (rfl : (.f32 : EltTy) = .f32) shapeCasts_S4096x512_S1x4096x4x128,
    StableHlo.reshape main_v5 main_v11 (rfl : (.f32 : EltTy) = .f32) shapeCasts_S4096x1024_S1x4096x4x256,
    StableHlo.reshape main_arg1 main_v12 (rfl : (.f32 : EltTy) = .f32) shapeCasts_S4096x512_S1x4096x4x128,
    StableHlo.nullary main_cst_0 (constant S_ .f32 0x00000000#32),
    StableHlo.unary main_cst_0 main_v13 (broadcastInDim S1x4x128x256 ![] bcast_S_S1x4x128x256 : (⟨S_, .f32⟩ : BufTy).Contents (Elt F) → (⟨S1x4x128x256, .f32⟩ : BufTy).Contents (Elt F)),
    StableHlo.reshape main_v9 main_v14 (rfl : (.f32 : EltTy) = .f32) shapeCasts_S1x4096x4x128_S1x64x64x4x128,
    StableHlo.unary main_v14 main_v15 ((transpose S64x1x4x64x128 [1, 0, 3, 2, 4] · transposes_S1x64x64x4x128_S64x1x4x64x128_1_0_3_2_4) : (⟨S1x64x64x4x128, .f32⟩ : BufTy).Contents (Elt F) → (⟨S64x1x4x64x128, .f32⟩ : BufTy).Contents (Elt F)),
    StableHlo.reshape main_v10 main_v16 (rfl : (.f32 : EltTy) = .f32) shapeCasts_S1x4096x4x128_S1x64x64x4x128,
    StableHlo.unary main_v16 main_v17 ((transpose S64x1x4x64x128 [1, 0, 3, 2, 4] · transposes_S1x64x64x4x128_S64x1x4x64x128_1_0_3_2_4) : (⟨S1x64x64x4x128, .f32⟩ : BufTy).Contents (Elt F) → (⟨S64x1x4x64x128, .f32⟩ : BufTy).Contents (Elt F)),
    StableHlo.reshape main_v11 main_v18 (rfl : (.f32 : EltTy) = .f32) shapeCasts_S1x4096x4x256_S1x64x64x4x256,
    StableHlo.unary main_v18 main_v19 ((transpose S64x1x4x64x256 [1, 0, 3, 2, 4] · transposes_S1x64x64x4x256_S64x1x4x64x256_1_0_3_2_4) : (⟨S1x64x64x4x256, .f32⟩ : BufTy).Contents (Elt F) → (⟨S64x1x4x64x256, .f32⟩ : BufTy).Contents (Elt F)),
    StableHlo.reshape main_v12 main_v20 (rfl : (.f32 : EltTy) = .f32) shapeCasts_S1x4096x4x128_S1x64x64x4x128,
    StableHlo.unary main_v20 main_v21 ((transpose S64x1x4x64x128 [1, 0, 3, 2, 4] · transposes_S1x64x64x4x128_S64x1x4x64x128_1_0_3_2_4) : (⟨S1x64x64x4x128, .f32⟩ : BufTy).Contents (Elt F) → (⟨S64x1x4x64x128, .f32⟩ : BufTy).Contents (Elt F)) ]
/-- Each touches TensorCore references only. -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.nullary_bufs_sub .., StableHlo.unary_bufs_sub .., StableHlo.binary_bufs_sub .., StableHlo.reshape_bufs_sub .., StableHlo.reshape_bufs_sub .., StableHlo.reshape_bufs_sub .., StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub ..⟩
/-- 28 host operations of @main, in order. -/
abbrev hostOps0_1 : List (HloOp τ sig (Elt F)) :=
  [ StableHlo.nullary main_cst_1 (constant S_ .f32 0x00000000#32),
    StableHlo.unary main_cst_1 main_v22 (broadcastInDim S64x1x4x64x256 ![] bcast_S_S64x1x4x64x256 : (⟨S_, .f32⟩ : BufTy).Contents (Elt F) → (⟨S64x1x4x64x256, .f32⟩ : BufTy).Contents (Elt F)),
    StableHlo.nullary main_cst_2 (constant S_ .f32 0x00000000#32),
    StableHlo.unary main_cst_2 main_v23 (broadcastInDim S64x1x4x64x128 ![] bcast_S_S64x1x4x64x128 : (⟨S_, .f32⟩ : BufTy).Contents (Elt F) → (⟨S64x1x4x64x128, .f32⟩ : BufTy).Contents (Elt F)),
    StableHlo.nullary main_cst_3 (constant S_ .f32 0x00000000#32),
    StableHlo.unary main_cst_3 main_v24 (broadcastInDim S64x1x4x128 ![] bcast_S_S64x1x4x128 : (⟨S_, .f32⟩ : BufTy).Contents (Elt F) → (⟨S64x1x4x128, .f32⟩ : BufTy).Contents (Elt F)),
    StableHlo.nullary main_cst_4 (constant S_ .f32 0x00000000#32),
    StableHlo.unary main_cst_4 main_v25 (broadcastInDim S64x1x4x128x256 ![] bcast_S_S64x1x4x128x256 : (⟨S_, .f32⟩ : BufTy).Contents (Elt F) → (⟨S64x1x4x128x256, .f32⟩ : BufTy).Contents (Elt F)),
    StableHlo.nullary main_cst_5 (constant S_ .f32 0x00000000#32),
    StableHlo.unary main_cst_5 main_v26 (broadcastInDim S64x1x4x128x1 ![] bcast_S_S64x1x4x128x1 : (⟨S_, .f32⟩ : BufTy).Contents (Elt F) → (⟨S64x1x4x128x1, .f32⟩ : BufTy).Contents (Elt F)),
    StableHlo.nullary main_cst_6 (constant S_ .f32 0x00000000#32),
    StableHlo.unary main_cst_6 main_v27 (broadcastInDim S64x1x4x64x128 ![] bcast_S_S64x1x4x64x128 : (⟨S_, .f32⟩ : BufTy).Contents (Elt F) → (⟨S64x1x4x64x128, .f32⟩ : BufTy).Contents (Elt F)),
    StableHlo.nullary main_cst_7 (constant S_ .f32 0x00000000#32),
    StableHlo.unary main_cst_7 main_v28 (broadcastInDim S64x1x4x128x256 ![] bcast_S_S64x1x4x128x256 : (⟨S_, .f32⟩ : BufTy).Contents (Elt F) → (⟨S64x1x4x128x256, .f32⟩ : BufTy).Contents (Elt F)),
    StableHlo.nullary main_c (constantI S_ 32 0#32),
    StableHlo.unary main_v15 main_v29_0 id,
    StableHlo.unary main_v17 main_v29_1 id,
    StableHlo.unary main_v19 main_v29_2 id,
    StableHlo.unary main_v21 main_v29_3 id,
    StableHlo.unary main_c main_v29_4 id,
    StableHlo.unary main_v13 main_v29_5 id,
    StableHlo.unary main_v22 main_v29_6 id,
    StableHlo.unary main_v23 main_v29_7 id,
    StableHlo.unary main_v24 main_v29_8 id,
    StableHlo.unary main_v25 main_v29_9 id,
    StableHlo.unary main_v26 main_v29_10 id,
    StableHlo.unary main_v27 main_v29_11 id,
    StableHlo.unary main_v28 main_v29_12 id ]
/-- Each touches TensorCore references only. -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 35 host operations of @main, in order. -/
abbrev hostOps0_2 : List (HloOp τ sig (Elt F)) :=
  ( StableHlo.unary main_v29_6 main_v30 ((transpose S1x64x64x4x256 [1, 0, 3, 2, 4] · transposes_S64x1x4x64x256_S1x64x64x4x256_1_0_3_2_4) : (⟨S64x1x4x64x256, .f32⟩ : BufTy).Contents (Elt F) → (⟨S1x64x64x4x256, .f32⟩ : BufTy).Contents (Elt F))
  :: StableHlo.reshape main_v30 main_v31 (rfl : (.f32 : EltTy) = .f32) shapeCasts_S1x64x64x4x256_S1x4096x4x256
  :: StableHlo.reshape main_v31 main_v32 (rfl : (.f32 : EltTy) = .f32) shapeCasts_S1x4096x4x256_S4096x1024
  :: StableHlo.nullary main_cst_8 (constant S_ .f32 0x00000000#32)
  :: StableHlo.unary main_cst_8 main_v33 (broadcastInDim S1x4x128x256 ![] bcast_S_S1x4x128x256 : (⟨S_, .f32⟩ : BufTy).Contents (Elt F) → (⟨S1x4x128x256, .f32⟩ : BufTy).Contents (Elt F))
  :: StableHlo.reshape main_v6 main_v34 (rfl : (.f32 : EltTy) = .f32) shapeCasts_S4096x1024_S1x4096x4x256
  :: StableHlo.reshape main_v34 main_v35 (rfl : (.f32 : EltTy) = .f32) shapeCasts_S1x4096x4x256_S1x64x64x4x256
  :: StableHlo.unary main_v35 main_v36 ((transpose S64x1x4x64x256 [1, 0, 3, 2, 4] · transposes_S1x64x64x4x256_S64x1x4x64x256_1_0_3_2_4) : (⟨S1x64x64x4x256, .f32⟩ : BufTy).Contents (Elt F) → (⟨S64x1x4x64x256, .f32⟩ : BufTy).Contents (Elt F))
  :: StableHlo.nullary main_cst_9 (constant S_ .f32 0x00000000#32)
  :: StableHlo.unary main_cst_9 main_v37 (broadcastInDim S1x4x128x256 ![] bcast_S_S1x4x128x256 : (⟨S_, .f32⟩ : BufTy).Contents (Elt F) → (⟨S1x4x128x256, .f32⟩ : BufTy).Contents (Elt F))
  :: StableHlo.nullary main_cst_10 (constant S_ .f32 0x00000000#32)
  :: StableHlo.unary main_cst_10 main_v38 (broadcastInDim S64x1x4x64x128 ![] bcast_S_S64x1x4x64x128 : (⟨S_, .f32⟩ : BufTy).Contents (Elt F) → (⟨S64x1x4x64x128, .f32⟩ : BufTy).Contents (Elt F))
  :: StableHlo.nullary main_cst_11 (constant S_ .f32 0x00000000#32)
  :: StableHlo.unary main_cst_11 main_v39 (broadcastInDim S64x1x4x64x128 ![] bcast_S_S64x1x4x64x128 : (⟨S_, .f32⟩ : BufTy).Contents (Elt F) → (⟨S64x1x4x64x128, .f32⟩ : BufTy).Contents (Elt F))
  :: StableHlo.nullary main_cst_12 (constant S_ .f32 0x00000000#32)
  :: StableHlo.unary main_cst_12 main_v40 (broadcastInDim S64x1x4x64x256 ![] bcast_S_S64x1x4x64x256 : (⟨S_, .f32⟩ : BufTy).Contents (Elt F) → (⟨S64x1x4x64x256, .f32⟩ : BufTy).Contents (Elt F))
  :: StableHlo.nullary main_cst_13 (constant S_ .f32 0x00000000#32)
  :: StableHlo.unary main_cst_13 main_v41 (broadcastInDim S64x1x4x64x128 ![] bcast_S_S64x1x4x64x128 : (⟨S_, .f32⟩ : BufTy).Contents (Elt F) → (⟨S64x1x4x64x128, .f32⟩ : BufTy).Contents (Elt F))
  :: StableHlo.nullary main_c_14 (constantI S_ 32 0#32)
  :: StableHlo.unary main_v36 main_v42_0 id
  :: StableHlo.unary main_v29_7 main_v42_1 id
  :: StableHlo.unary main_v17 main_v42_2 id
  :: StableHlo.unary main_v29_8 main_v42_3 id
  :: StableHlo.unary main_v29_9 main_v42_4 id
  :: StableHlo.unary main_v29_10 main_v42_5 id
  :: StableHlo.unary main_v19 main_v42_6 id
  :: StableHlo.unary main_v29_11 main_v42_7 id
  :: StableHlo.unary main_v29_12 main_v42_8 id
  :: StableHlo.unary main_v15 main_v42_9 id
  :: StableHlo.unary main_c_14 main_v42_10 id
  :: StableHlo.unary main_v37 main_v42_11 id
  :: StableHlo.unary main_v38 main_v42_12 id
  :: StableHlo.unary main_v39 main_v42_13 id
  :: StableHlo.unary main_v40 main_v42_14 id
  :: StableHlo.unary main_v41 main_v42_15 id
  :: [] )
/-- Each touches TensorCore references only. -/
theorem hostOps0_2_sub : (hostOps0_2 : List (HloOp τ sig (Elt F))).Forall fun op => op.bufs ⊆ StableHlo.tcRefs τ sig :=
  ⟨StableHlo.unary_bufs_sub .., StableHlo.reshape_bufs_sub .., StableHlo.reshape_bufs_sub .., StableHlo.nullary_bufs_sub .., StableHlo.unary_bufs_sub .., StableHlo.reshape_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 19 host operations of @main, in order. -/
abbrev hostOps0_3 : List (HloOp τ sig (Elt F)) :=
  [ StableHlo.unary main_v42_15 main_v43 ((transpose S1x64x64x4x128 [1, 0, 3, 2, 4] · transposes_S64x1x4x64x128_S1x64x64x4x128_1_0_3_2_4) : (⟨S64x1x4x64x128, .f32⟩ : BufTy).Contents (Elt F) → (⟨S1x64x64x4x128, .f32⟩ : BufTy).Contents (Elt F)),
    StableHlo.reshape main_v43 main_v44 (rfl : (.f32 : EltTy) = .f32) shapeCasts_S1x64x64x4x128_S1x4096x4x128,
    StableHlo.unary main_v42_14 main_v45 ((transpose S1x64x64x4x256 [1, 0, 3, 2, 4] · transposes_S64x1x4x64x256_S1x64x64x4x256_1_0_3_2_4) : (⟨S64x1x4x64x256, .f32⟩ : BufTy).Contents (Elt F) → (⟨S1x64x64x4x256, .f32⟩ : BufTy).Contents (Elt F)),
    StableHlo.reshape main_v45 main_v46 (rfl : (.f32 : EltTy) = .f32) shapeCasts_S1x64x64x4x256_S1x4096x4x256,
    StableHlo.unary main_v42_13 main_v47 ((transpose S1x64x64x4x128 [1, 0, 3, 2, 4] · transposes_S64x1x4x64x128_S1x64x64x4x128_1_0_3_2_4) : (⟨S64x1x4x64x128, .f32⟩ : BufTy).Contents (Elt F) → (⟨S1x64x64x4x128, .f32⟩ : BufTy).Contents (Elt F)),
    StableHlo.reshape main_v47 main_v48 (rfl : (.f32 : EltTy) = .f32) shapeCasts_S1x64x64x4x128_S1x4096x4x128,
    StableHlo.unary main_v42_12 main_v49 ((transpose S1x64x64x4x128 [1, 0, 3, 2, 4] · transposes_S64x1x4x64x128_S1x64x64x4x128_1_0_3_2_4) : (⟨S64x1x4x64x128, .f32⟩ : BufTy).Contents (Elt F) → (⟨S1x64x64x4x128, .f32⟩ : BufTy).Contents (Elt F)),
    StableHlo.reshape main_v49 main_v50 (rfl : (.f32 : EltTy) = .f32) shapeCasts_S1x64x64x4x128_S1x4096x4x128,
    StableHlo.reshape main_v44 main_v51 (rfl : (.f32 : EltTy) = .f32) shapeCasts_S1x4096x4x128_S4096x512,
    StableHlo.reshape main_v46 main_v52 (rfl : (.f32 : EltTy) = .f32) shapeCasts_S1x4096x4x256_S4096x1024,
    StableHlo.reshape main_v48 main_v53 (rfl : (.f32 : EltTy) = .f32) shapeCasts_S1x4096x4x128_S4096x512,
    StableHlo.nullary main_cst_15 (constant S_ .f32 0x3DB504F3#32),
    StableHlo.unary main_cst_15 main_v54 (broadcastInDim S1x4096x4x128 ![] bcast_S_S1x4096x4x128 : (⟨S_, .f32⟩ : BufTy).Contents (Elt F) → (⟨S1x4096x4x128, .f32⟩ : BufTy).Contents (Elt F)),
    StableHlo.binary main_v50 main_v54 main_v55 (mulf : (⟨S1x4096x4x128, .f32⟩ : BufTy).Contents (Elt F) → (⟨S1x4096x4x128, .f32⟩ : BufTy).Contents (Elt F) → (⟨S1x4096x4x128, .f32⟩ : BufTy).Contents (Elt F)),
    StableHlo.reshape main_v55 main_v56 (rfl : (.f32 : EltTy) = .f32) shapeCasts_S1x4096x4x128_S4096x512,
    StableHlo.unary main_v32 main_v57 ((truncf .bf16 · bitsLt_bf16_f32) : (⟨S4096x1024, .f32⟩ : BufTy).Contents (Elt F) → (⟨S4096x1024, .bf16⟩ : BufTy).Contents (Elt F)),
    StableHlo.unary main_v56 main_v58 ((truncf .bf16 · bitsLt_bf16_f32) : (⟨S4096x512, .f32⟩ : BufTy).Contents (Elt F) → (⟨S4096x512, .bf16⟩ : BufTy).Contents (Elt F)),
    StableHlo.unary main_v53 main_v59 ((truncf .bf16 · bitsLt_bf16_f32) : (⟨S4096x512, .f32⟩ : BufTy).Contents (Elt F) → (⟨S4096x512, .bf16⟩ : BufTy).Contents (Elt F)),
    StableHlo.unary main_v52 main_v60 ((truncf .bf16 · bitsLt_bf16_f32) : (⟨S4096x1024, .f32⟩ : BufTy).Contents (Elt F) → (⟨S4096x1024, .bf16⟩ : BufTy).Contents (Elt F)) ]
/-- Each touches TensorCore references only. -/
theorem hostOps0_3_sub : (hostOps0_3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.nullary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub ..⟩
/-- 24 host operations of @main, window 0 (statements 1 … 60), in order. -/
abbrev main_part0_ops0 : List (HloOp τ sig (Elt F)) :=
  [ StableHlo.unary main_arg0 main_v0 ((extractStridedSlice S4096x512 ![0, 0] · slices_S4096x10368_S4096x512_0_0) : (⟨S4096x10368, .bf16⟩ : BufTy).Contents (Elt F) → (⟨S4096x512, .bf16⟩ : BufTy).Contents (Elt F)),
    StableHlo.unary main_arg0 main_v1 ((extractStridedSlice S4096x512 ![0, 512] · slices_S4096x10368_S4096x512_0_512) : (⟨S4096x10368, .bf16⟩ : BufTy).Contents (Elt F) → (⟨S4096x512, .bf16⟩ : BufTy).Contents (Elt F)),
    StableHlo.unary main_arg0 main_v2 ((extractStridedSlice S4096x1024 ![0, 1024] · slices_S4096x10368_S4096x1024_0_1024) : (⟨S4096x10368, .bf16⟩ : BufTy).Contents (Elt F) → (⟨S4096x1024, .bf16⟩ : BufTy).Contents (Elt F)),
    StableHlo.unary main_v0 main_v3 ((extf .f32 · bitsLt_bf16_f32) : (⟨S4096x512, .bf16⟩ : BufTy).Contents (Elt F) → (⟨S4096x512, .f32⟩ : BufTy).Contents (Elt F)),
    StableHlo.unary main_v1 main_v4 ((extf .f32 · bitsLt_bf16_f32) : (⟨S4096x512, .bf16⟩ : BufTy).Contents (Elt F) → (⟨S4096x512, .f32⟩ : BufTy).Contents (Elt F)),
    StableHlo.unary main_v2 main_v5 ((extf .f32 · bitsLt_bf16_f32) : (⟨S4096x1024, .bf16⟩ : BufTy).Contents (Elt F) → (⟨S4096x1024, .f32⟩ : BufTy).Contents (Elt F)),
    StableHlo.unary main_arg2 main_v6 ((extf .f32 · bitsLt_bf16_f32) : (⟨S4096x1024, .bf16⟩ : BufTy).Contents (Elt F) → (⟨S4096x1024, .f32⟩ : BufTy).Contents (Elt F)),
    StableHlo.reshape main_v3 main_v7 (rfl : (.f32 : EltTy) = .f32) shapeCasts_S4096x512_S1x4096x4x128,
    StableHlo.nullary main_cst (constant S_ .f32 0x3DB504F3#32),
    StableHlo.unary main_cst main_v8 (broadcastInDim S1x4096x4x128 ![] bcast_S_S1x4096x4x128 : (⟨S_, .f32⟩ : BufTy).Contents (Elt F) → (⟨S1x4096x4x128, .f32⟩ : BufTy).Contents (Elt F)),
    StableHlo.binary main_v7 main_v8 main_v9 (mulf : (⟨S1x4096x4x128, .f32⟩ : BufTy).Contents (Elt F) → (⟨S1x4096x4x128, .f32⟩ : BufTy).Contents (Elt F) → (⟨S1x4096x4x128, .f32⟩ : BufTy).Contents (Elt F)),
    StableHlo.reshape main_v4 main_v10 (rfl : (.f32 : EltTy) = .f32) shapeCasts_S4096x512_S1x4096x4x128,
    StableHlo.reshape main_v5 main_v11 (rfl : (.f32 : EltTy) = .f32) shapeCasts_S4096x1024_S1x4096x4x256,
    StableHlo.reshape main_arg1 main_v12 (rfl : (.f32 : EltTy) = .f32) shapeCasts_S4096x512_S1x4096x4x128,
    StableHlo.nullary main_cst_0 (constant S_ .f32 0x00000000#32),
    StableHlo.unary main_cst_0 main_v13 (broadcastInDim S1x4x128x256 ![] bcast_S_S1x4x128x256 : (⟨S_, .f32⟩ : BufTy).Contents (Elt F) → (⟨S1x4x128x256, .f32⟩ : BufTy).Contents (Elt F)),
    StableHlo.reshape main_v9 main_v14 (rfl : (.f32 : EltTy) = .f32) shapeCasts_S1x4096x4x128_S1x64x64x4x128,
    StableHlo.unary main_v14 main_v15 ((transpose S64x1x4x64x128 [1, 0, 3, 2, 4] · transposes_S1x64x64x4x128_S64x1x4x64x128_1_0_3_2_4) : (⟨S1x64x64x4x128, .f32⟩ : BufTy).Contents (Elt F) → (⟨S64x1x4x64x128, .f32⟩ : BufTy).Contents (Elt F)),
    StableHlo.reshape main_v10 main_v16 (rfl : (.f32 : EltTy) = .f32) shapeCasts_S1x4096x4x128_S1x64x64x4x128,
    StableHlo.unary main_v16 main_v17 ((transpose S64x1x4x64x128 [1, 0, 3, 2, 4] · transposes_S1x64x64x4x128_S64x1x4x64x128_1_0_3_2_4) : (⟨S1x64x64x4x128, .f32⟩ : BufTy).Contents (Elt F) → (⟨S64x1x4x64x128, .f32⟩ : BufTy).Contents (Elt F)),
    StableHlo.reshape main_v11 main_v18 (rfl : (.f32 : EltTy) = .f32) shapeCasts_S1x4096x4x256_S1x64x64x4x256,
    StableHlo.unary main_v18 main_v19 ((transpose S64x1x4x64x256 [1, 0, 3, 2, 4] · transposes_S1x64x64x4x256_S64x1x4x64x256_1_0_3_2_4) : (⟨S1x64x64x4x256, .f32⟩ : BufTy).Contents (Elt F) → (⟨S64x1x4x64x256, .f32⟩ : BufTy).Contents (Elt F)),
    StableHlo.reshape main_v12 main_v20 (rfl : (.f32 : EltTy) = .f32) shapeCasts_S1x4096x4x128_S1x64x64x4x128,
    StableHlo.unary main_v20 main_v21 ((transpose S64x1x4x64x128 [1, 0, 3, 2, 4] · transposes_S1x64x64x4x128_S64x1x4x64x128_1_0_3_2_4) : (⟨S1x64x64x4x128, .f32⟩ : BufTy).Contents (Elt F) → (⟨S64x1x4x64x128, .f32⟩ : BufTy).Contents (Elt F)) ]
/-- Each touches TensorCore references only. -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.nullary_bufs_sub .., StableHlo.unary_bufs_sub .., StableHlo.binary_bufs_sub .., StableHlo.reshape_bufs_sub .., StableHlo.reshape_bufs_sub .., StableHlo.reshape_bufs_sub .., StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub ..⟩
/-- 28 host operations of @main, window 0 (statements 1 … 60), in order. -/
abbrev main_part0_ops1 : List (HloOp τ sig (Elt F)) :=
  [ StableHlo.nullary main_cst_1 (constant S_ .f32 0x00000000#32),
    StableHlo.unary main_cst_1 main_v22 (broadcastInDim S64x1x4x64x256 ![] bcast_S_S64x1x4x64x256 : (⟨S_, .f32⟩ : BufTy).Contents (Elt F) → (⟨S64x1x4x64x256, .f32⟩ : BufTy).Contents (Elt F)),
    StableHlo.nullary main_cst_2 (constant S_ .f32 0x00000000#32),
    StableHlo.unary main_cst_2 main_v23 (broadcastInDim S64x1x4x64x128 ![] bcast_S_S64x1x4x64x128 : (⟨S_, .f32⟩ : BufTy).Contents (Elt F) → (⟨S64x1x4x64x128, .f32⟩ : BufTy).Contents (Elt F)),
    StableHlo.nullary main_cst_3 (constant S_ .f32 0x00000000#32),
    StableHlo.unary main_cst_3 main_v24 (broadcastInDim S64x1x4x128 ![] bcast_S_S64x1x4x128 : (⟨S_, .f32⟩ : BufTy).Contents (Elt F) → (⟨S64x1x4x128, .f32⟩ : BufTy).Contents (Elt F)),
    StableHlo.nullary main_cst_4 (constant S_ .f32 0x00000000#32),
    StableHlo.unary main_cst_4 main_v25 (broadcastInDim S64x1x4x128x256 ![] bcast_S_S64x1x4x128x256 : (⟨S_, .f32⟩ : BufTy).Contents (Elt F) → (⟨S64x1x4x128x256, .f32⟩ : BufTy).Contents (Elt F)),
    StableHlo.nullary main_cst_5 (constant S_ .f32 0x00000000#32),
    StableHlo.unary main_cst_5 main_v26 (broadcastInDim S64x1x4x128x1 ![] bcast_S_S64x1x4x128x1 : (⟨S_, .f32⟩ : BufTy).Contents (Elt F) → (⟨S64x1x4x128x1, .f32⟩ : BufTy).Contents (Elt F)),
    StableHlo.nullary main_cst_6 (constant S_ .f32 0x00000000#32),
    StableHlo.unary main_cst_6 main_v27 (broadcastInDim S64x1x4x64x128 ![] bcast_S_S64x1x4x64x128 : (⟨S_, .f32⟩ : BufTy).Contents (Elt F) → (⟨S64x1x4x64x128, .f32⟩ : BufTy).Contents (Elt F)),
    StableHlo.nullary main_cst_7 (constant S_ .f32 0x00000000#32),
    StableHlo.unary main_cst_7 main_v28 (broadcastInDim S64x1x4x128x256 ![] bcast_S_S64x1x4x128x256 : (⟨S_, .f32⟩ : BufTy).Contents (Elt F) → (⟨S64x1x4x128x256, .f32⟩ : BufTy).Contents (Elt F)),
    StableHlo.nullary main_c (constantI S_ 32 0#32),
    StableHlo.unary main_v15 main_v29_0 id,
    StableHlo.unary main_v17 main_v29_1 id,
    StableHlo.unary main_v19 main_v29_2 id,
    StableHlo.unary main_v21 main_v29_3 id,
    StableHlo.unary main_c main_v29_4 id,
    StableHlo.unary main_v13 main_v29_5 id,
    StableHlo.unary main_v22 main_v29_6 id,
    StableHlo.unary main_v23 main_v29_7 id,
    StableHlo.unary main_v24 main_v29_8 id,
    StableHlo.unary main_v25 main_v29_9 id,
    StableHlo.unary main_v26 main_v29_10 id,
    StableHlo.unary main_v27 main_v29_11 id,
    StableHlo.unary main_v28 main_v29_12 id ]
/-- Each touches TensorCore references only. -/
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 6 host operations of @main, window 0 (statements 1 … 60), in order. -/
abbrev main_part0_ops2 : List (HloOp τ sig (Elt F)) :=
  [ StableHlo.unary main_v29_6 main_v30 ((transpose S1x64x64x4x256 [1, 0, 3, 2, 4] · transposes_S64x1x4x64x256_S1x64x64x4x256_1_0_3_2_4) : (⟨S64x1x4x64x256, .f32⟩ : BufTy).Contents (Elt F) → (⟨S1x64x64x4x256, .f32⟩ : BufTy).Contents (Elt F)),
    StableHlo.reshape main_v30 main_v31 (rfl : (.f32 : EltTy) = .f32) shapeCasts_S1x64x64x4x256_S1x4096x4x256,
    StableHlo.reshape main_v31 main_v32 (rfl : (.f32 : EltTy) = .f32) shapeCasts_S1x4096x4x256_S4096x1024,
    StableHlo.nullary main_cst_8 (constant S_ .f32 0x00000000#32),
    StableHlo.unary main_cst_8 main_v33 (broadcastInDim S1x4x128x256 ![] bcast_S_S1x4x128x256 : (⟨S_, .f32⟩ : BufTy).Contents (Elt F) → (⟨S1x4x128x256, .f32⟩ : BufTy).Contents (Elt F)),
    StableHlo.reshape main_v6 main_v34 (rfl : (.f32 : EltTy) = .f32) shapeCasts_S4096x1024_S1x4096x4x256 ]
/-- Each touches TensorCore references only. -/
theorem main_part0_ops2_sub : (main_part0_ops2 : List (HloOp τ sig (Elt F))).Forall fun op => op.bufs ⊆ StableHlo.tcRefs τ sig :=
  ⟨StableHlo.unary_bufs_sub .., StableHlo.reshape_bufs_sub .., StableHlo.reshape_bufs_sub .., StableHlo.nullary_bufs_sub .., StableHlo.unary_bufs_sub .., StableHlo.reshape_bufs_sub ..⟩
/-- The first printed part of @main is the chain of its items. -/
theorem main_part0_chain (c : Dev nD) : main_part0 (F := F) c = (Pipeline.chainK
  [ StableHlo.seq main_part0_ops0,
    StableHlo.seq main_part0_ops1,
    HostLoop.enter 0 ]
  (StableHlo.seq main_part0_ops2) : Prog (TpuEff nD τ sig (Elt F) (HostLoop.Sig (Pipeline.Sig Λ₀ (Fin 0) fun p => (pcfgs (F := F) p).Adm) 2) .tc) PUnit) := by
  rewrite [StableHlo.chainK_seq_cons, StableHlo.chainK_seq_cons, Pipeline.chainK_cons]
  chain_rfl

/-- 29 host operations of @main, window 1 (statements 61 … 110), in order. -/
abbrev main_part1_ops0 : List (HloOp τ sig (Elt F)) :=
  [ StableHlo.reshape main_v34 main_v35 (rfl : (.f32 : EltTy) = .f32) shapeCasts_S1x4096x4x256_S1x64x64x4x256,
    StableHlo.unary main_v35 main_v36 ((transpose S64x1x4x64x256 [1, 0, 3, 2, 4] · transposes_S1x64x64x4x256_S64x1x4x64x256_1_0_3_2_4) : (⟨S1x64x64x4x256, .f32⟩ : BufTy).Contents (Elt F) → (⟨S64x1x4x64x256, .f32⟩ : BufTy).Contents (Elt F)),
    StableHlo.nullary main_cst_9 (constant S_ .f32 0x00000000#32),
    StableHlo.unary main_cst_9 main_v37 (broadcastInDim S1x4x128x256 ![] bcast_S_S1x4x128x256 : (⟨S_, .f32⟩ : BufTy).Contents (Elt F) → (⟨S1x4x128x256, .f32⟩ : BufTy).Contents (Elt F)),
    StableHlo.nullary main_cst_10 (constant S_ .f32 0x00000000#32),
    StableHlo.unary main_cst_10 main_v38 (broadcastInDim S64x1x4x64x128 ![] bcast_S_S64x1x4x64x128 : (⟨S_, .f32⟩ : BufTy).Contents (Elt F) → (⟨S64x1x4x64x128, .f32⟩ : BufTy).Contents (Elt F)),
    StableHlo.nullary main_cst_11 (constant S_ .f32 0x00000000#32),
    StableHlo.unary main_cst_11 main_v39 (broadcastInDim S64x1x4x64x128 ![] bcast_S_S64x1x4x64x128 : (⟨S_, .f32⟩ : BufTy).Contents (Elt F) → (⟨S64x1x4x64x128, .f32⟩ : BufTy).Contents (Elt F)),
    StableHlo.nullary main_cst_12 (constant S_ .f32 0x00000000#32),
    StableHlo.unary main_cst_12 main_v40 (broadcastInDim S64x1x4x64x256 ![] bcast_S_S64x1x4x64x256 : (⟨S_, .f32⟩ : BufTy).Contents (Elt F) → (⟨S64x1x4x64x256, .f32⟩ : BufTy).Contents (Elt F)),
    StableHlo.nullary main_cst_13 (constant S_ .f32 0x00000000#32),
    StableHlo.unary main_cst_13 main_v41 (broadcastInDim S64x1x4x64x128 ![] bcast_S_S64x1x4x64x128 : (⟨S_, .f32⟩ : BufTy).Contents (Elt F) → (⟨S64x1x4x64x128, .f32⟩ : BufTy).Contents (Elt F)),
    StableHlo.nullary main_c_14 (constantI S_ 32 0#32),
    StableHlo.unary main_v36 main_v42_0 id,
    StableHlo.unary main_v29_7 main_v42_1 id,
    StableHlo.unary main_v17 main_v42_2 id,
    StableHlo.unary main_v29_8 main_v42_3 id,
    StableHlo.unary main_v29_9 main_v42_4 id,
    StableHlo.unary main_v29_10 main_v42_5 id,
    StableHlo.unary main_v19 main_v42_6 id,
    StableHlo.unary main_v29_11 main_v42_7 id,
    StableHlo.unary main_v29_12 main_v42_8 id,
    StableHlo.unary main_v15 main_v42_9 id,
    StableHlo.unary main_c_14 main_v42_10 id,
    StableHlo.unary main_v37 main_v42_11 id,
    StableHlo.unary main_v38 main_v42_12 id,
    StableHlo.unary main_v39 main_v42_13 id,
    StableHlo.unary main_v40 main_v42_14 id,
    StableHlo.unary main_v41 main_v42_15 id ]
/-- Each touches TensorCore references only. -/
theorem main_part1_ops0_sub : (main_part1_ops0 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 19 host operations of @main, window 1 (statements 61 … 110), in order. -/
abbrev main_part1_ops1 : List (HloOp τ sig (Elt F)) :=
  [ StableHlo.unary main_v42_15 main_v43 ((transpose S1x64x64x4x128 [1, 0, 3, 2, 4] · transposes_S64x1x4x64x128_S1x64x64x4x128_1_0_3_2_4) : (⟨S64x1x4x64x128, .f32⟩ : BufTy).Contents (Elt F) → (⟨S1x64x64x4x128, .f32⟩ : BufTy).Contents (Elt F)),
    StableHlo.reshape main_v43 main_v44 (rfl : (.f32 : EltTy) = .f32) shapeCasts_S1x64x64x4x128_S1x4096x4x128,
    StableHlo.unary main_v42_14 main_v45 ((transpose S1x64x64x4x256 [1, 0, 3, 2, 4] · transposes_S64x1x4x64x256_S1x64x64x4x256_1_0_3_2_4) : (⟨S64x1x4x64x256, .f32⟩ : BufTy).Contents (Elt F) → (⟨S1x64x64x4x256, .f32⟩ : BufTy).Contents (Elt F)),
    StableHlo.reshape main_v45 main_v46 (rfl : (.f32 : EltTy) = .f32) shapeCasts_S1x64x64x4x256_S1x4096x4x256,
    StableHlo.unary main_v42_13 main_v47 ((transpose S1x64x64x4x128 [1, 0, 3, 2, 4] · transposes_S64x1x4x64x128_S1x64x64x4x128_1_0_3_2_4) : (⟨S64x1x4x64x128, .f32⟩ : BufTy).Contents (Elt F) → (⟨S1x64x64x4x128, .f32⟩ : BufTy).Contents (Elt F)),
    StableHlo.reshape main_v47 main_v48 (rfl : (.f32 : EltTy) = .f32) shapeCasts_S1x64x64x4x128_S1x4096x4x128,
    StableHlo.unary main_v42_12 main_v49 ((transpose S1x64x64x4x128 [1, 0, 3, 2, 4] · transposes_S64x1x4x64x128_S1x64x64x4x128_1_0_3_2_4) : (⟨S64x1x4x64x128, .f32⟩ : BufTy).Contents (Elt F) → (⟨S1x64x64x4x128, .f32⟩ : BufTy).Contents (Elt F)),
    StableHlo.reshape main_v49 main_v50 (rfl : (.f32 : EltTy) = .f32) shapeCasts_S1x64x64x4x128_S1x4096x4x128,
    StableHlo.reshape main_v44 main_v51 (rfl : (.f32 : EltTy) = .f32) shapeCasts_S1x4096x4x128_S4096x512,
    StableHlo.reshape main_v46 main_v52 (rfl : (.f32 : EltTy) = .f32) shapeCasts_S1x4096x4x256_S4096x1024,
    StableHlo.reshape main_v48 main_v53 (rfl : (.f32 : EltTy) = .f32) shapeCasts_S1x4096x4x128_S4096x512,
    StableHlo.nullary main_cst_15 (constant S_ .f32 0x3DB504F3#32),
    StableHlo.unary main_cst_15 main_v54 (broadcastInDim S1x4096x4x128 ![] bcast_S_S1x4096x4x128 : (⟨S_, .f32⟩ : BufTy).Contents (Elt F) → (⟨S1x4096x4x128, .f32⟩ : BufTy).Contents (Elt F)),
    StableHlo.binary main_v50 main_v54 main_v55 (mulf : (⟨S1x4096x4x128, .f32⟩ : BufTy).Contents (Elt F) → (⟨S1x4096x4x128, .f32⟩ : BufTy).Contents (Elt F) → (⟨S1x4096x4x128, .f32⟩ : BufTy).Contents (Elt F)),
    StableHlo.reshape main_v55 main_v56 (rfl : (.f32 : EltTy) = .f32) shapeCasts_S1x4096x4x128_S4096x512,
    StableHlo.unary main_v32 main_v57 ((truncf .bf16 · bitsLt_bf16_f32) : (⟨S4096x1024, .f32⟩ : BufTy).Contents (Elt F) → (⟨S4096x1024, .bf16⟩ : BufTy).Contents (Elt F)),
    StableHlo.unary main_v56 main_v58 ((truncf .bf16 · bitsLt_bf16_f32) : (⟨S4096x512, .f32⟩ : BufTy).Contents (Elt F) → (⟨S4096x512, .bf16⟩ : BufTy).Contents (Elt F)),
    StableHlo.unary main_v53 main_v59 ((truncf .bf16 · bitsLt_bf16_f32) : (⟨S4096x512, .f32⟩ : BufTy).Contents (Elt F) → (⟨S4096x512, .bf16⟩ : BufTy).Contents (Elt F)),
    StableHlo.unary main_v52 main_v60 ((truncf .bf16 · bitsLt_bf16_f32) : (⟨S4096x1024, .f32⟩ : BufTy).Contents (Elt F) → (⟨S4096x1024, .bf16⟩ : BufTy).Contents (Elt F)) ]
/-- Each touches TensorCore references only. -/
theorem main_part1_ops1_sub : (main_part1_ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.nullary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub ..⟩
/-- The second printed part of @main is the chain of its items. -/
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- @main is the chain of the items of its two printed parts. -/
theorem main_chain_windows (c : Dev nD) : main (F := F) c = (Pipeline.chain
  [ StableHlo.seq main_part0_ops0,
    StableHlo.seq main_part0_ops1,
    HostLoop.enter 0,
    StableHlo.seq main_part0_ops2,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- @main's items, each with the pieces that the printed parts cut it into. -/
abbrev main_groups (c : Dev nD) : List (StableHlo.Group nD τ sig (Elt F) (HostLoop.Sig (Pipeline.Sig Λ₀ (Fin 0) fun p => (pcfgs (F := F) p).Adm) 2)) :=
  [ .ops [main_part0_ops0],
    .ops [main_part0_ops1],
    .prog (HostLoop.enter 0),
    .ops [main_part0_ops2, main_part1_ops0],
    .prog (HostLoop.enter 1),
    .ops [main_part1_ops1] ]

/-- Cutting each item gives the printed parts' items. -/
theorem main_chain_cut (c : Dev nD) : (Pipeline.chain
  [ StableHlo.seq main_part0_ops0,
    StableHlo.seq main_part0_ops1,
    HostLoop.enter 0,
    StableHlo.seq main_part0_ops2,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- Joining each item's pieces gives @main's items. -/
theorem main_chain_whole (c : Dev nD) : Pipeline.chain ((main_groups (F := F) c).map StableHlo.Group.whole) = (Pipeline.chain
  [ StableHlo.seq hostOps0,
    StableHlo.seq hostOps0_1,
    HostLoop.enter 0,
    StableHlo.seq hostOps0_2,
    HostLoop.enter 1,
    StableHlo.seq hostOps0_3 ] : Prog (TpuEff nD τ sig (Elt F) (HostLoop.Sig (Pipeline.Sig Λ₀ (Fin 0) fun p => (pcfgs (F := F) p).Adm) 2) .tc) PUnit) := by
  chain_rfl

/-- @main is the chain of its stretches and its two scans. -/
theorem main_chain (c : Dev nD) : main (F := F) c = (Pipeline.chain
  [ StableHlo.seq hostOps0,
    StableHlo.seq hostOps0_1,
    HostLoop.enter 0,
    StableHlo.seq hostOps0_2,
    HostLoop.enter 1,
    StableHlo.seq hostOps0_3 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 6 host operations of @dynamic_index_in_dim (main_while0b_call1), in order. -/
abbrev while0Ops0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v29_0 : StableHlo.TRef sig ⟨S64x1x4x64x128, .f32⟩) ![(.of main_v29_4 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while0b_call1_v0 : StableHlo.TRef sig ⟨S1x1x4x64x128, .f32⟩) (.of main_while0b_v61 : StableHlo.TRef sig ⟨S1x4x64x128, .f32⟩) (rfl : (.f32 : EltTy) = .f32) shapeCasts_S1x1x4x64x128_S1x4x64x128 ]
/-- Each touches TensorCore references only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while0b_call2), in order. -/
abbrev while0Ops0_1 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.unaryIndexed (.of main_v29_1 : StableHlo.TRef sig ⟨S64x1x4x64x128, .f32⟩) ![(.of main_v29_4 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_call2_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while0b_call2_v0 : StableHlo.TRef sig ⟨S1x1x4x64x128, .f32⟩) (.of main_while0b_v62 : StableHlo.TRef sig ⟨S1x4x64x128, .f32⟩) (rfl : (.f32 : EltTy) = .f32) shapeCasts_S1x1x4x64x128_S1x4x64x128 ]
/-- Each touches TensorCore references only. -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_0 (main_while0b_call3), in order. -/
abbrev while0Ops0_2 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.nullary (.of main_while0b_call3_c_2 : StableHlo.TRef sig ⟨S_, .i32⟩) (constantI S_ 32 0#32),
    StableHlo.TRef.unaryIndexed (.of main_v29_2 : StableHlo.TRef sig ⟨S64x1x4x64x256, .f32⟩) ![(.of main_v29_4 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩), (.of main_while0b_call3_c_2 : StableHlo.TRef sig ⟨S_, .i32⟩)] (.of main_while0b_call3_v0 : StableHlo.TRef sig ⟨S1x1x4x64x256, .f32⟩) (fun x i => Host.dynamicSlice S1x1x4x64x256 x (fun k => (i k (Shape.Idx.first h_S_)).toInt) sliceFits_S64x1x4x64x256_S1x1x4x64x256),
    StableHlo.TRef.reshape (.of main_while0b_call3_v0 : StableHlo.TRef sig ⟨S1x1x4x64x256, .f32⟩) (.of main_while0b_v63 : StableHlo.TRef sig ⟨S1x4x64x256, .f32⟩) (rfl : (.f32 : EltTy) = .f32) shapeCasts_S1x1x4x64x256_S1x4x64x256 ]
/-- Each touches TensorCore references only. -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while0b_call4), in order. -/
abbrev while0Ops0_3 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.nullary (.of main_while0b_call4_c_2 : StableHlo.TRef sig ⟨S_, .i32⟩) (constantI S_ 32 0#32),
    StableHlo.TRef.unaryIndexed (.of main_v29_3 : StableHlo.TRef sig ⟨S64x1x4x64x128, .f32⟩) ![(.of main_v29_4 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩), (.of main_while0b_call4_c_2 : StableHlo.TRef sig ⟨S_, .i32⟩)] (.of main_while0b_call4_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while0b_call4_v0 : StableHlo.TRef sig ⟨S1x1x4x64x128, .f32⟩) (.of main_while0b_v64 : StableHlo.TRef sig ⟨S1x4x64x128, .f32⟩) (rfl : (.f32 : EltTy) = .f32) shapeCasts_S1x1x4x64x128_S1x4x64x128 ]
/-- Each touches TensorCore references only. -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 3 host operations of @cumsum_1 (main_while0b_call5), in order. -/
abbrev while0Ops0_4 : List (HloOp τ sig (Elt F)) :=
  [ StableHlo.TRef.nullary (.of main_while0b_call5_call0_cst : StableHlo.TRef sig ⟨S_, .f32⟩) (constant S_ .f32 0x00000000#32),
    StableHlo.TRef.unary (.of main_while0b_call5_call0_cst : StableHlo.TRef sig ⟨S_, .f32⟩) (.of main_while0b_call5_call0_v0 : StableHlo.TRef sig ⟨S_, .f32⟩) (broadcastInDim S_ ![] bcast_S_S_),
    StableHlo.TRef.binary (.of main_while0b_v64 : StableHlo.TRef sig ⟨S1x4x64x128, .f32⟩) (.of main_while0b_call5_call0_v0 : StableHlo.TRef sig ⟨S_, .f32⟩) (.of main_while0b_v65 : StableHlo.TRef sig ⟨S1x4x64x128, .f32⟩) (fun x v => Host.reduceWindowAdd ![1, 1, 64, 1] ![1, 1, 1, 1] ![0, 0, 63, 0] ![0, 0, 0, 0] x v reduceWindows_S1x4x64x128_S1x4x64x128_w1s1p0_0_w1s1p0_0_w64s1p63_0_w1s1p0_0 h_S_) ]
/-- Each touches TensorCore references only. -/
theorem while0Ops0_4_sub : (while0Ops0_4 : List (HloOp τ sig (Elt F))).Forall fun op => op.bufs ⊆ StableHlo.tcRefs τ sig :=
  ⟨StableHlo.nullary_bufs_sub .., StableHlo.unary_bufs_sub .., StableHlo.binary_bufs_sub ..⟩
/-- 13 host operations of host loop 0's body region, in order. -/
abbrev while0Ops0_5 : List (HloOp τ sig (Elt F)) :=
  [ StableHlo.unary main_while0b_v65 main_while0b_v66 ((extractStridedSlice S1x4x1x128 ![0, 0, 63, 0] · slices_S1x4x64x128_S1x4x1x128_0_0_63_0) : (⟨S1x4x64x128, .f32⟩ : BufTy).Contents (Elt F) → (⟨S1x4x1x128, .f32⟩ : BufTy).Contents (Elt F)),
    StableHlo.unary main_while0b_v66 main_while0b_v67 (broadcastInDim S1x4x64x128 ![0, 1, 2, 3] bcast_S1x4x1x128_S1x4x64x128_0_1_2_3 : (⟨S1x4x1x128, .f32⟩ : BufTy).Contents (Elt F) → (⟨S1x4x64x128, .f32⟩ : BufTy).Contents (Elt F)),
    StableHlo.binary main_while0b_v67 main_while0b_v65 main_while0b_v68 (subf : (⟨S1x4x64x128, .f32⟩ : BufTy).Contents (Elt F) → (⟨S1x4x64x128, .f32⟩ : BufTy).Contents (Elt F) → (⟨S1x4x64x128, .f32⟩ : BufTy).Contents (Elt F)),
    StableHlo.unary main_while0b_v68 main_while0b_v69 (Host.exp : (⟨S1x4x64x128, .f32⟩ : BufTy).Contents (Elt F) → (⟨S1x4x64x128, .f32⟩ : BufTy).Contents (Elt F)),
    StableHlo.binary main_while0b_v62 main_while0b_v69 main_while0b_v70 (mulf : (⟨S1x4x64x128, .f32⟩ : BufTy).Contents (Elt F) → (⟨S1x4x64x128, .f32⟩ : BufTy).Contents (Elt F) → (⟨S1x4x64x128, .f32⟩ : BufTy).Contents (Elt F)),
    StableHlo.reshape main_while0b_v66 main_while0b_v71 (rfl : (.f32 : EltTy) = .f32) shapeCasts_S1x4x1x128_S1x4x128,
    StableHlo.unary main_while0b_v71 main_while0b_v72 (Host.exp : (⟨S1x4x128, .f32⟩ : BufTy).Contents (Elt F) → (⟨S1x4x128, .f32⟩ : BufTy).Contents (Elt F)),
    StableHlo.unary main_while0b_v72 main_while0b_v73 (broadcastInDim S1x4x128x1 ![0, 1, 2] bcast_S1x4x128_S1x4x128x1_0_1_2 : (⟨S1x4x128, .f32⟩ : BufTy).Contents (Elt F) → (⟨S1x4x128x1, .f32⟩ : BufTy).Contents (Elt F)),
    StableHlo.unary main_while0b_v73 main_while0b_v74 (broadcastInDim S1x4x128x256 ![0, 1, 2, 3] bcast_S1x4x128x1_S1x4x128x256_0_1_2_3 : (⟨S1x4x128x1, .f32⟩ : BufTy).Contents (Elt F) → (⟨S1x4x128x256, .f32⟩ : BufTy).Contents (Elt F)),
    StableHlo.binary main_while0b_v74 main_v29_5 main_while0b_v75 (mulf : (⟨S1x4x128x256, .f32⟩ : BufTy).Contents (Elt F) → (⟨S1x4x128x256, .f32⟩ : BufTy).Contents (Elt F) → (⟨S1x4x128x256, .f32⟩ : BufTy).Contents (Elt F)),
    StableHlo.binary main_while0b_v70 main_while0b_v63 main_while0b_v76 ((fun l r => Host.dotGeneral dot_S1x4x64x128_S1x4x64x256_S1x4x128x256_2_2_3_3_01_01 none l r) : (⟨S1x4x64x128, .f32⟩ : BufTy).Contents (Elt F) → (⟨S1x4x64x256, .f32⟩ : BufTy).Contents (Elt F) → (⟨S1x4x128x256, .f32⟩ : BufTy).Contents (Elt F)),
    StableHlo.binary main_while0b_v75 main_while0b_v76 main_while0b_v77 (addf : (⟨S1x4x128x256, .f32⟩ : BufTy).Contents (Elt F) → (⟨S1x4x128x256, .f32⟩ : BufTy).Contents (Elt F) → (⟨S1x4x128x256, .f32⟩ : BufTy).Contents (Elt F)),
    StableHlo.binary main_while0b_v61 main_while0b_v77 main_while0b_v78 ((fun l r => Host.dotGeneral dot_S1x4x64x128_S1x4x128x256_S1x4x64x256_3_2_2_3_01_01 none l r) : (⟨S1x4x64x128, .f32⟩ : BufTy).Contents (Elt F) → (⟨S1x4x128x256, .f32⟩ : BufTy).Contents (Elt F) → (⟨S1x4x64x256, .f32⟩ : BufTy).Contents (Elt F)) ]
/-- Each touches TensorCore references only. -/
theorem while0Ops0_5_sub : (while0Ops0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub ..⟩
/-- 6 host operations of @dynamic_update_index_in_dim (main_while0b_call6), in order. -/
abbrev while0Ops0_6 : List (HloOp τ sig (Elt F)) :=
  [ StableHlo.TRef.unary (.of main_while0b_v78 : StableHlo.TRef sig ⟨S1x4x64x256, .f32⟩) (.of main_while0b_call6_v0 : StableHlo.TRef sig ⟨S1x1x4x64x256, .f32⟩) (broadcastInDim S1x1x4x64x256 ![1, 2, 3, 4] bcast_S1x4x64x256_S1x1x4x64x256_1_2_3_4),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.binaryIndexed (.of main_v29_6 : StableHlo.TRef sig ⟨S64x1x4x64x256, .f32⟩) (.of main_while0b_call6_v0 : StableHlo.TRef sig ⟨S1x1x4x64x256, .f32⟩) ![(.of main_v29_4 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩), (.of main_while0b_call6_c_2 : StableHlo.TRef sig ⟨S_, .i32⟩)] (.of main_while0b_v79 : StableHlo.TRef sig ⟨S64x1x4x64x256, .f32⟩) (fun x u i => Host.dynamicUpdateSlice x u (fun k => (i k (Shape.Idx.first h_S_)).toInt) updateFits_S64x1x4x64x256_S1x1x4x64x256) ]
/-- Each touches TensorCore references only. -/
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim_3 (main_while0b_call7), in order. -/
abbrev while0Ops0_7 : List (HloOp τ sig (Elt F)) :=
  [ StableHlo.TRef.unary (.of main_while0b_v69 : StableHlo.TRef sig ⟨S1x4x64x128, .f32⟩) (.of main_while0b_call7_v0 : StableHlo.TRef sig ⟨S1x1x4x64x128, .f32⟩) (broadcastInDim S1x1x4x64x128 ![1, 2, 3, 4] bcast_S1x4x64x128_S1x1x4x64x128_1_2_3_4),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.nullary (.of main_while0b_call7_c_2 : StableHlo.TRef sig ⟨S_, .i32⟩) (constantI S_ 32 0#32),
    StableHlo.TRef.binaryIndexed (.of main_v29_7 : StableHlo.TRef sig ⟨S64x1x4x64x128, .f32⟩) (.of main_while0b_call7_v0 : StableHlo.TRef sig ⟨S1x1x4x64x128, .f32⟩) ![(.of main_v29_4 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩), (.of main_while0b_call7_c_2 : StableHlo.TRef sig ⟨S_, .i32⟩)] (.of main_while0b_v80 : StableHlo.TRef sig ⟨S64x1x4x64x128, .f32⟩) (fun x u i => Host.dynamicUpdateSlice x u (fun k => (i k (Shape.Idx.first h_S_)).toInt) updateFits_S64x1x4x64x128_S1x1x4x64x128) ]
/-- Each touches TensorCore references only. -/
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 5 host operations of @dynamic_update_index_in_dim_4 (main_while0b_call8), in order. -/
abbrev while0Ops0_8 : List (HloOp τ sig (Elt F)) :=
  [ StableHlo.TRef.unary (.of main_while0b_v72 : StableHlo.TRef sig ⟨S1x4x128, .f32⟩) (.of main_while0b_call8_v0 : StableHlo.TRef sig ⟨S1x1x4x128, .f32⟩) (broadcastInDim S1x1x4x128 ![1, 2, 3] bcast_S1x4x128_S1x1x4x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v29_8 : StableHlo.TRef sig ⟨S64x1x4x128, .f32⟩) (.of main_while0b_call8_v0 : StableHlo.TRef sig ⟨S1x1x4x128, .f32⟩) ![(.of main_v29_4 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v81 : StableHlo.TRef sig ⟨S64x1x4x128, .f32⟩) (fun x u i => Host.dynamicUpdateSlice x u (fun k => (i k (Shape.Idx.first h_S_)).toInt) updateFits_S64x1x4x128_S1x1x4x128) ]
/-- Each touches TensorCore references only. -/
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 6 host operations of @dynamic_update_index_in_dim_5 (main_while0b_call9), in order. -/
abbrev while0Ops0_9 : List (HloOp τ sig (Elt F)) :=
  [ StableHlo.TRef.unary (.of main_v29_5 : StableHlo.TRef sig ⟨S1x4x128x256, .f32⟩) (.of main_while0b_call9_v0 : StableHlo.TRef sig ⟨S1x1x4x128x256, .f32⟩) (broadcastInDim S1x1x4x128x256 ![1, 2, 3, 4] bcast_S1x4x128x256_S1x1x4x128x256_1_2_3_4),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.nullary (.of main_while0b_call9_c_2 : StableHlo.TRef sig ⟨S_, .i32⟩) (constantI S_ 32 0#32),
    StableHlo.TRef.binaryIndexed (.of main_v29_9 : StableHlo.TRef sig ⟨S64x1x4x128x256, .f32⟩) (.of main_while0b_call9_v0 : StableHlo.TRef sig ⟨S1x1x4x128x256, .f32⟩) ![(.of main_v29_4 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩), (.of main_while0b_call9_c_2 : StableHlo.TRef sig ⟨S_, .i32⟩)] (.of main_while0b_v82 : StableHlo.TRef sig ⟨S64x1x4x128x256, .f32⟩) (fun x u i => Host.dynamicUpdateSlice x u (fun k => (i k (Shape.Idx.first h_S_)).toInt) updateFits_S64x1x4x128x256_S1x1x4x128x256) ]
/-- Each touches TensorCore references only. -/
theorem while0Ops0_9_sub : (while0Ops0_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim_6 (main_while0b_call10), in order. -/
abbrev while0Ops0_10 : List (HloOp τ sig (Elt F)) :=
  [ StableHlo.TRef.unary (.of main_while0b_v73 : StableHlo.TRef sig ⟨S1x4x128x1, .f32⟩) (.of main_while0b_call10_v0 : StableHlo.TRef sig ⟨S1x1x4x128x1, .f32⟩) (broadcastInDim S1x1x4x128x1 ![1, 2, 3, 4] bcast_S1x4x128x1_S1x1x4x128x1_1_2_3_4),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.nullary (.of main_while0b_call10_c_2 : StableHlo.TRef sig ⟨S_, .i32⟩) (constantI S_ 32 0#32),
    StableHlo.TRef.binaryIndexed (.of main_v29_10 : StableHlo.TRef sig ⟨S64x1x4x128x1, .f32⟩) (.of main_while0b_call10_v0 : StableHlo.TRef sig ⟨S1x1x4x128x1, .f32⟩) ![(.of main_v29_4 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩), (.of main_while0b_call10_c_2 : StableHlo.TRef sig ⟨S_, .i32⟩)] (.of main_while0b_v83 : StableHlo.TRef sig ⟨S64x1x4x128x1, .f32⟩) (fun x u i => Host.dynamicUpdateSlice x u (fun k => (i k (Shape.Idx.first h_S_)).toInt) updateFits_S64x1x4x128x1_S1x1x4x128x1) ]
/-- Each touches TensorCore references only. -/
theorem while0Ops0_10_sub : (while0Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim_3 (main_while0b_call11), in order. -/
abbrev while0Ops0_11 : List (HloOp τ sig (Elt F)) :=
  [ StableHlo.TRef.unary (.of main_while0b_v70 : StableHlo.TRef sig ⟨S1x4x64x128, .f32⟩) (.of main_while0b_call11_v0 : StableHlo.TRef sig ⟨S1x1x4x64x128, .f32⟩) (broadcastInDim S1x1x4x64x128 ![1, 2, 3, 4] bcast_S1x4x64x128_S1x1x4x64x128_1_2_3_4),
    StableHlo.TRef.nullary (.of main_while0b_call11_c : StableHlo.TRef sig ⟨S_, .i32⟩) (constantI S_ 32 0#32),
    StableHlo.TRef.nullary (.of main_while0b_call11_c_0 : StableHlo.TRef sig ⟨S_, .i32⟩) (constantI S_ 32 0#32),
    StableHlo.TRef.nullary (.of main_while0b_call11_c_1 : StableHlo.TRef sig ⟨S_, .i32⟩) (constantI S_ 32 0#32),
    StableHlo.TRef.nullary (.of main_while0b_call11_c_2 : StableHlo.TRef sig ⟨S_, .i32⟩) (constantI S_ 32 0#32),
    StableHlo.TRef.binaryIndexed (.of main_v29_11 : StableHlo.TRef sig ⟨S64x1x4x64x128, .f32⟩) (.of main_while0b_call11_v0 : StableHlo.TRef sig ⟨S1x1x4x64x128, .f32⟩) ![(.of main_v29_4 : StableHlo.TRef sig ⟨S_, .i32⟩), (.of main_while0b_call11_c : StableHlo.TRef sig ⟨S_, .i32⟩), (.of main_while0b_call11_c_0 : StableHlo.TRef sig ⟨S_, .i32⟩), (.of main_while0b_call11_c_1 : StableHlo.TRef sig ⟨S_, .i32⟩), (.of main_while0b_call11_c_2 : StableHlo.TRef sig ⟨S_, .i32⟩)] (.of main_while0b_v84 : StableHlo.TRef sig ⟨S64x1x4x64x128, .f32⟩) (fun x u i => Host.dynamicUpdateSlice x u (fun k => (i k (Shape.Idx.first h_S_)).toInt) updateFits_S64x1x4x64x128_S1x1x4x64x128) ]
/-- Each touches TensorCore references only. -/
theorem while0Ops0_11_sub : (while0Ops0_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim_5 (main_while0b_call12), in order. -/
abbrev while0Ops0_12 : List (HloOp τ sig (Elt F)) :=
  [ StableHlo.TRef.unary (.of main_while0b_v77 : StableHlo.TRef sig ⟨S1x4x128x256, .f32⟩) (.of main_while0b_call12_v0 : StableHlo.TRef sig ⟨S1x1x4x128x256, .f32⟩) (broadcastInDim S1x1x4x128x256 ![1, 2, 3, 4] bcast_S1x4x128x256_S1x1x4x128x256_1_2_3_4),
    StableHlo.TRef.nullary (.of main_while0b_call12_c : StableHlo.TRef sig ⟨S_, .i32⟩) (constantI S_ 32 0#32),
    StableHlo.TRef.nullary (.of main_while0b_call12_c_0 : StableHlo.TRef sig ⟨S_, .i32⟩) (constantI S_ 32 0#32),
    StableHlo.TRef.nullary (.of main_while0b_call12_c_1 : StableHlo.TRef sig ⟨S_, .i32⟩) (constantI S_ 32 0#32),
    StableHlo.TRef.nullary (.of main_while0b_call12_c_2 : StableHlo.TRef sig ⟨S_, .i32⟩) (constantI S_ 32 0#32),
    StableHlo.TRef.binaryIndexed (.of main_v29_12 : StableHlo.TRef sig ⟨S64x1x4x128x256, .f32⟩) (.of main_while0b_call12_v0 : StableHlo.TRef sig ⟨S1x1x4x128x256, .f32⟩) ![(.of main_v29_4 : StableHlo.TRef sig ⟨S_, .i32⟩), (.of main_while0b_call12_c : StableHlo.TRef sig ⟨S_, .i32⟩), (.of main_while0b_call12_c_0 : StableHlo.TRef sig ⟨S_, .i32⟩), (.of main_while0b_call12_c_1 : StableHlo.TRef sig ⟨S_, .i32⟩), (.of main_while0b_call12_c_2 : StableHlo.TRef sig ⟨S_, .i32⟩)] (.of main_while0b_v85 : StableHlo.TRef sig ⟨S64x1x4x128x256, .f32⟩) (fun x u i => Host.dynamicUpdateSlice x u (fun k => (i k (Shape.Idx.first h_S_)).toInt) updateFits_S64x1x4x128x256_S1x1x4x128x256) ]
/-- Each touches TensorCore references only. -/
theorem while0Ops0_12_sub : (while0Ops0_12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 11 host operations of host loop 0's body region, in order. -/
abbrev while0Ops0_13 : List (HloOp τ sig (Elt F)) :=
  [ StableHlo.nullary main_while0b_c_28 (constantI S_ 32 1#32),
    StableHlo.binary main_v29_4 main_while0b_c_28 main_while0b_v86 (addi : (⟨S_, .i32⟩ : BufTy).Contents (Elt F) → (⟨S_, .i32⟩ : BufTy).Contents (Elt F) → (⟨S_, .i32⟩ : BufTy).Contents (Elt F)),
    StableHlo.unary main_while0b_v86 main_v29_4 id,
    StableHlo.unary main_while0b_v77 main_v29_5 id,
    StableHlo.unary main_while0b_v79 main_v29_6 id,
    StableHlo.unary main_while0b_v80 main_v29_7 id,
    StableHlo.unary main_while0b_v81 main_v29_8 id,
    StableHlo.unary main_while0b_v82 main_v29_9 id,
    StableHlo.unary main_while0b_v83 main_v29_10 id,
    StableHlo.unary main_while0b_v84 main_v29_11 id,
    StableHlo.unary main_while0b_v85 main_v29_12 id ]
/-- Each touches TensorCore references only. -/
theorem while0Ops0_13_sub : (while0Ops0_13 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The body of scan 0 is the chain of its stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12,
    StableHlo.seq while0Ops0_13 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_31 (constantI S_ 32 64#32),
    StableHlo.binary main_while1b_c_31 main_v42_10 main_while1b_v61 (subi : (⟨S_, .i32⟩ : BufTy).Contents (Elt F) → (⟨S_, .i32⟩ : BufTy).Contents (Elt F) → (⟨S_, .i32⟩ : BufTy).Contents (Elt F)),
    StableHlo.nullary main_while1b_c_32 (constantI S_ 32 1#32),
    StableHlo.binary main_while1b_v61 main_while1b_c_32 main_while1b_v62 (subi : (⟨S_, .i32⟩ : BufTy).Contents (Elt F) → (⟨S_, .i32⟩ : BufTy).Contents (Elt F) → (⟨S_, .i32⟩ : BufTy).Contents (Elt F)) ]
/-- Each touches TensorCore references only. -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 6 host operations of @dynamic_index_in_dim_0 (main_while1b_call13), in order. -/
abbrev while1Ops0_1 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.nullary (.of main_while1b_call13_c_2 : StableHlo.TRef sig ⟨S_, .i32⟩) (constantI S_ 32 0#32),
    StableHlo.TRef.unaryIndexed (.of main_v42_0 : StableHlo.TRef sig ⟨S64x1x4x64x256, .f32⟩) ![(.of main_while1b_v62 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩), (.of main_while1b_call13_c_2 : StableHlo.TRef sig ⟨S_, .i32⟩)] (.of main_while1b_call13_v0 : StableHlo.TRef sig ⟨S1x1x4x64x256, .f32⟩) (fun x i => Host.dynamicSlice S1x1x4x64x256 x (fun k => (i k (Shape.Idx.first h_S_)).toInt) sliceFits_S64x1x4x64x256_S1x1x4x64x256),
    StableHlo.TRef.reshape (.of main_while1b_call13_v0 : StableHlo.TRef sig ⟨S1x1x4x64x256, .f32⟩) (.of main_while1b_v63 : StableHlo.TRef sig ⟨S1x4x64x256, .f32⟩) (rfl : (.f32 : EltTy) = .f32) shapeCasts_S1x1x4x64x256_S1x4x64x256 ]
/-- Each touches TensorCore references only. -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while1b_call14), in order. -/
abbrev while1Ops0_2 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.nullary (.of main_while1b_call14_c_2 : StableHlo.TRef sig ⟨S_, .i32⟩) (constantI S_ 32 0#32),
    StableHlo.TRef.unaryIndexed (.of main_v42_1 : StableHlo.TRef sig ⟨S64x1x4x64x128, .f32⟩) ![(.of main_while1b_v62 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩), (.of main_while1b_call14_c_2 : StableHlo.TRef sig ⟨S_, .i32⟩)] (.of main_while1b_call14_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while1b_call14_v0 : StableHlo.TRef sig ⟨S1x1x4x64x128, .f32⟩) (.of main_while1b_v64 : StableHlo.TRef sig ⟨S1x4x64x128, .f32⟩) (rfl : (.f32 : EltTy) = .f32) shapeCasts_S1x1x4x64x128_S1x4x64x128 ]
/-- Each touches TensorCore references only. -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while1b_call15), in order. -/
abbrev while1Ops0_3 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.nullary (.of main_while1b_call15_c_2 : StableHlo.TRef sig ⟨S_, .i32⟩) (constantI S_ 32 0#32),
    StableHlo.TRef.unaryIndexed (.of main_v42_2 : StableHlo.TRef sig ⟨S64x1x4x64x128, .f32⟩) ![(.of main_while1b_v62 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩), (.of main_while1b_call15_c_2 : StableHlo.TRef sig ⟨S_, .i32⟩)] (.of main_while1b_call15_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while1b_call15_v0 : StableHlo.TRef sig ⟨S1x1x4x64x128, .f32⟩) (.of main_while1b_v65 : StableHlo.TRef sig ⟨S1x4x64x128, .f32⟩) (rfl : (.f32 : EltTy) = .f32) shapeCasts_S1x1x4x64x128_S1x4x64x128 ]
/-- Each touches TensorCore references only. -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 5 host operations of @dynamic_index_in_dim_7 (main_while1b_call16), in order. -/
abbrev while1Ops0_4 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v42_3 : StableHlo.TRef sig ⟨S64x1x4x128, .f32⟩) ![(.of main_while1b_v62 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x1x4x128, .f32⟩) (fun x i => Host.dynamicSlice S1x1x4x128 x (fun k => (i k (Shape.Idx.first h_S_)).toInt) sliceFits_S64x1x4x128_S1x1x4x128),
    StableHlo.TRef.reshape (.of main_while1b_call16_v0 : StableHlo.TRef sig ⟨S1x1x4x128, .f32⟩) (.of main_while1b_v66 : StableHlo.TRef sig ⟨S1x4x128, .f32⟩) (rfl : (.f32 : EltTy) = .f32) shapeCasts_S1x1x4x128_S1x4x128 ]
/-- Each touches TensorCore references only. -/
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 6 host operations of @dynamic_index_in_dim_8 (main_while1b_call17), in order. -/
abbrev while1Ops0_5 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.nullary (.of main_while1b_call17_c_2 : StableHlo.TRef sig ⟨S_, .i32⟩) (constantI S_ 32 0#32),
    StableHlo.TRef.unaryIndexed (.of main_v42_4 : StableHlo.TRef sig ⟨S64x1x4x128x256, .f32⟩) ![(.of main_while1b_v62 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩), (.of main_while1b_call17_c_2 : StableHlo.TRef sig ⟨S_, .i32⟩)] (.of main_while1b_call17_v0 : StableHlo.TRef sig ⟨S1x1x4x128x256, .f32⟩) (fun x i => Host.dynamicSlice S1x1x4x128x256 x (fun k => (i k (Shape.Idx.first h_S_)).toInt) sliceFits_S64x1x4x128x256_S1x1x4x128x256),
    StableHlo.TRef.reshape (.of main_while1b_call17_v0 : StableHlo.TRef sig ⟨S1x1x4x128x256, .f32⟩) (.of main_while1b_v67 : StableHlo.TRef sig ⟨S1x4x128x256, .f32⟩) (rfl : (.f32 : EltTy) = .f32) shapeCasts_S1x1x4x128x256_S1x4x128x256 ]
/-- Each touches TensorCore references only. -/
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_9 (main_while1b_call18), in order. -/
abbrev while1Ops0_6 : List (HloOp τ sig (Elt F)) :=
  [ StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.nullary (.of main_while1b_call18_c_2 : StableHlo.TRef sig ⟨S_, .i32⟩) (constantI S_ 32 0#32),
    StableHlo.TRef.unaryIndexed (.of main_v42_5 : StableHlo.TRef sig ⟨S64x1x4x128x1, .f32⟩) ![(.of main_while1b_v62 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩), (.of main_while1b_call18_c_2 : StableHlo.TRef sig ⟨S_, .i32⟩)] (.of main_while1b_call18_v0 : StableHlo.TRef sig ⟨S1x1x4x128x1, .f32⟩) (fun x i => Host.dynamicSlice S1x1x4x128x1 x (fun k => (i k (Shape.Idx.first h_S_)).toInt) sliceFits_S64x1x4x128x1_S1x1x4x128x1),
    StableHlo.TRef.reshape (.of main_while1b_call18_v0 : StableHlo.TRef sig ⟨S1x1x4x128x1, .f32⟩) (.of main_while1b_v68 : StableHlo.TRef sig ⟨S1x4x128x1, .f32⟩) (rfl : (.f32 : EltTy) = .f32) shapeCasts_S1x1x4x128x1_S1x4x128x1 ]
/-- Each touches TensorCore references only. -/
theorem while1Ops0_6_sub : (while1Ops0_6 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_0 (main_while1b_call19), in order. -/
abbrev while1Ops0_7 : List (HloOp τ sig (Elt F)) :=
  [ StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.nullary (.of main_while1b_call19_c_2 : StableHlo.TRef sig ⟨S_, .i32⟩) (constantI S_ 32 0#32),
    StableHlo.TRef.unaryIndexed (.of main_v42_6 : StableHlo.TRef sig ⟨S64x1x4x64x256, .f32⟩) ![(.of main_while1b_v62 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩), (.of main_while1b_call19_c_2 : StableHlo.TRef sig ⟨S_, .i32⟩)] (.of main_while1b_call19_v0 : StableHlo.TRef sig ⟨S1x1x4x64x256, .f32⟩) (fun x i => Host.dynamicSlice S1x1x4x64x256 x (fun k => (i k (Shape.Idx.first h_S_)).toInt) sliceFits_S64x1x4x64x256_S1x1x4x64x256),
    StableHlo.TRef.reshape (.of main_while1b_call19_v0 : StableHlo.TRef sig ⟨S1x1x4x64x256, .f32⟩) (.of main_while1b_v69 : StableHlo.TRef sig ⟨S1x4x64x256, .f32⟩) (rfl : (.f32 : EltTy) = .f32) shapeCasts_S1x1x4x64x256_S1x4x64x256 ]
/-- Each touches TensorCore references only. -/
theorem while1Ops0_7_sub : (while1Ops0_7 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while1b_call20), in order. -/
abbrev while1Ops0_8 : List (HloOp τ sig (Elt F)) :=
  [ StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.nullary (.of main_while1b_call20_c_2 : StableHlo.TRef sig ⟨S_, .i32⟩) (constantI S_ 32 0#32),
    StableHlo.TRef.unaryIndexed (.of main_v42_7 : StableHlo.TRef sig ⟨S64x1x4x64x128, .f32⟩) ![(.of main_while1b_v62 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩), (.of main_while1b_call20_c_2 : StableHlo.TRef sig ⟨S_, .i32⟩)] (.of main_while1b_call20_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while1b_call20_v0 : StableHlo.TRef sig ⟨S1x1x4x64x128, .f32⟩) (.of main_while1b_v70 : StableHlo.TRef sig ⟨S1x4x64x128, .f32⟩) (rfl : (.f32 : EltTy) = .f32) shapeCasts_S1x1x4x64x128_S1x4x64x128 ]
/-- Each touches TensorCore references only. -/
theorem while1Ops0_8_sub : (while1Ops0_8 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_8 (main_while1b_call21), in order. -/
abbrev while1Ops0_9 : List (HloOp τ sig (Elt F)) :=
  [ StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.nullary (.of main_while1b_call21_c_2 : StableHlo.TRef sig ⟨S_, .i32⟩) (constantI S_ 32 0#32),
    StableHlo.TRef.unaryIndexed (.of main_v42_8 : StableHlo.TRef sig ⟨S64x1x4x128x256, .f32⟩) ![(.of main_while1b_v62 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩), (.of main_while1b_call21_c_2 : StableHlo.TRef sig ⟨S_, .i32⟩)] (.of main_while1b_call21_v0 : StableHlo.TRef sig ⟨S1x1x4x128x256, .f32⟩) (fun x i => Host.dynamicSlice S1x1x4x128x256 x (fun k => (i k (Shape.Idx.first h_S_)).toInt) sliceFits_S64x1x4x128x256_S1x1x4x128x256),
    StableHlo.TRef.reshape (.of main_while1b_call21_v0 : StableHlo.TRef sig ⟨S1x1x4x128x256, .f32⟩) (.of main_while1b_v71 : StableHlo.TRef sig ⟨S1x4x128x256, .f32⟩) (rfl : (.f32 : EltTy) = .f32) shapeCasts_S1x1x4x128x256_S1x4x128x256 ]
/-- Each touches TensorCore references only. -/
theorem while1Ops0_9_sub : (while1Ops0_9 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while1b_call22), in order. -/
abbrev while1Ops0_10 : List (HloOp τ sig (Elt F)) :=
  [ StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.nullary (.of main_while1b_call22_c_2 : StableHlo.TRef sig ⟨S_, .i32⟩) (constantI S_ 32 0#32),
    StableHlo.TRef.unaryIndexed (.of main_v42_9 : StableHlo.TRef sig ⟨S64x1x4x64x128, .f32⟩) ![(.of main_while1b_v62 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩), (.of main_while1b_call22_c_2 : StableHlo.TRef sig ⟨S_, .i32⟩)] (.of main_while1b_call22_v0 : StableHlo.TRef sig ⟨S1x1x4x64x128, .f32⟩) (fun x i => Host.dynamicSlice S1x1x4x64x128 x (fun k => (i k (Shape.Idx.first h_S_)).toInt) sliceFits_S64x1x4x64x128_S1x1x4x64x128),
    StableHlo.TRef.reshape (.of main_while1b_call22_v0 : StableHlo.TRef sig ⟨S1x1x4x64x128, .f32⟩) (.of main_while1b_v72 : StableHlo.TRef sig ⟨S1x4x64x128, .f32⟩) (rfl : (.f32 : EltTy) = .f32) shapeCasts_S1x1x4x64x128_S1x4x64x128 ]
/-- Each touches TensorCore references only. -/
theorem while1Ops0_10_sub : (while1Ops0_10 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 30 host operations of host loop 1's body region, in order. -/
abbrev while1Ops0_11 : List (HloOp τ sig (Elt F)) :=
  [ StableHlo.binary main_while1b_v63 main_while1b_v72 main_while1b_v73 ((fun l r => Host.dotGeneral dot_S1x4x64x256_S1x4x64x128_S1x4x256x128_2_2_3_3_01_01 none l r) : (⟨S1x4x64x256, .f32⟩ : BufTy).Contents (Elt F) → (⟨S1x4x64x128, .f32⟩ : BufTy).Contents (Elt F) → (⟨S1x4x256x128, .f32⟩ : BufTy).Contents (Elt F)),
    StableHlo.unary main_while1b_v73 main_while1b_v74 ((transpose S1x4x128x256 [0, 1, 3, 2] · transposes_S1x4x256x128_S1x4x128x256_0_1_3_2) : (⟨S1x4x256x128, .f32⟩ : BufTy).Contents (Elt F) → (⟨S1x4x128x256, .f32⟩ : BufTy).Contents (Elt F)),
    StableHlo.binary main_v42_11 main_while1b_v74 main_while1b_v75 (addf : (⟨S1x4x128x256, .f32⟩ : BufTy).Contents (Elt F) → (⟨S1x4x128x256, .f32⟩ : BufTy).Contents (Elt F) → (⟨S1x4x128x256, .f32⟩ : BufTy).Contents (Elt F)),
    StableHlo.binary main_while1b_v63 main_while1b_v71 main_while1b_v76 ((fun l r => Host.dotGeneral dot_S1x4x64x256_S1x4x128x256_S1x4x64x128_3_3_2_2_01_01 none l r) : (⟨S1x4x64x256, .f32⟩ : BufTy).Contents (Elt F) → (⟨S1x4x128x256, .f32⟩ : BufTy).Contents (Elt F) → (⟨S1x4x64x128, .f32⟩ : BufTy).Contents (Elt F)),
    StableHlo.binary main_while1b_v75 main_while1b_v70 main_while1b_v77 ((fun l r => Host.dotGeneral dot_S1x4x128x256_S1x4x64x128_S1x4x256x64_2_3_3_2_01_01 none l r) : (⟨S1x4x128x256, .f32⟩ : BufTy).Contents (Elt F) → (⟨S1x4x64x128, .f32⟩ : BufTy).Contents (Elt F) → (⟨S1x4x256x64, .f32⟩ : BufTy).Contents (Elt F)),
    StableHlo.unary main_while1b_v77 main_while1b_v78 ((transpose S1x4x64x256 [0, 1, 3, 2] · transposes_S1x4x256x64_S1x4x64x256_0_1_3_2) : (⟨S1x4x256x64, .f32⟩ : BufTy).Contents (Elt F) → (⟨S1x4x64x256, .f32⟩ : BufTy).Contents (Elt F)),
    StableHlo.binary main_while1b_v75 main_while1b_v69 main_while1b_v79 ((fun l r => Host.dotGeneral dot_S1x4x128x256_S1x4x64x256_S1x4x128x64_3_3_2_2_01_01 none l r) : (⟨S1x4x128x256, .f32⟩ : BufTy).Contents (Elt F) → (⟨S1x4x64x256, .f32⟩ : BufTy).Contents (Elt F) → (⟨S1x4x128x64, .f32⟩ : BufTy).Contents (Elt F)),
    StableHlo.unary main_while1b_v79 main_while1b_v80 ((transpose S1x4x64x128 [0, 1, 3, 2] · transposes_S1x4x128x64_S1x4x64x128_0_1_3_2) : (⟨S1x4x128x64, .f32⟩ : BufTy).Contents (Elt F) → (⟨S1x4x64x128, .f32⟩ : BufTy).Contents (Elt F)),
    StableHlo.unary main_while1b_v68 main_while1b_v81 (broadcastInDim S1x4x128x256 ![0, 1, 2, 3] bcast_S1x4x128x1_S1x4x128x256_0_1_2_3 : (⟨S1x4x128x1, .f32⟩ : BufTy).Contents (Elt F) → (⟨S1x4x128x256, .f32⟩ : BufTy).Contents (Elt F)),
    StableHlo.binary main_while1b_v81 main_while1b_v75 main_while1b_v82 (mulf : (⟨S1x4x128x256, .f32⟩ : BufTy).Contents (Elt F) → (⟨S1x4x128x256, .f32⟩ : BufTy).Contents (Elt F) → (⟨S1x4x128x256, .f32⟩ : BufTy).Contents (Elt F)),
    StableHlo.binary main_while1b_v75 main_while1b_v67 main_while1b_v83 (mulf : (⟨S1x4x128x256, .f32⟩ : BufTy).Contents (Elt F) → (⟨S1x4x128x256, .f32⟩ : BufTy).Contents (Elt F) → (⟨S1x4x128x256, .f32⟩ : BufTy).Contents (Elt F)),
    StableHlo.nullary main_while1b_cst_33 (constant S_ .f32 0x00000000#32),
    StableHlo.binary main_while1b_v83 main_while1b_cst_33 main_while1b_v84 ((fun x v => Host.reduceAdd x v reducesTo_S1x4x128x256_S1x4x128_d3 h_S_) : (⟨S1x4x128x256, .f32⟩ : BufTy).Contents (Elt F) → (⟨S_, .f32⟩ : BufTy).Contents (Elt F) → (⟨S1x4x128, .f32⟩ : BufTy).Contents (Elt F)),
    StableHlo.reshape main_while1b_v84 main_while1b_v85 (rfl : (.f32 : EltTy) = .f32) shapeCasts_S1x4x128_S1x4x128x1,
    StableHlo.nullary main_while1b_cst_34 (constant S_ .f32 0x00000000#32),
    StableHlo.binary main_while1b_v85 main_while1b_cst_34 main_while1b_v86 ((fun x v => Host.reduceAdd x v reducesTo_S1x4x128x1_S4x128_d0_3 h_S_) : (⟨S1x4x128x1, .f32⟩ : BufTy).Contents (Elt F) → (⟨S_, .f32⟩ : BufTy).Contents (Elt F) → (⟨S4x128, .f32⟩ : BufTy).Contents (Elt F)),
    StableHlo.unary main_while1b_v86 main_while1b_v87 (broadcastInDim S1x4x128 ![1, 2] bcast_S4x128_S1x4x128_1_2 : (⟨S4x128, .f32⟩ : BufTy).Contents (Elt F) → (⟨S1x4x128, .f32⟩ : BufTy).Contents (Elt F)),
    StableHlo.binary main_while1b_v87 main_while1b_v66 main_while1b_v88 (mulf : (⟨S1x4x128, .f32⟩ : BufTy).Contents (Elt F) → (⟨S1x4x128, .f32⟩ : BufTy).Contents (Elt F) → (⟨S1x4x128, .f32⟩ : BufTy).Contents (Elt F)),
    StableHlo.unary main_while1b_v88 main_while1b_v89 (broadcastInDim S1x4x1x128 ![0, 1, 3] bcast_S1x4x128_S1x4x1x128_0_1_3 : (⟨S1x4x128, .f32⟩ : BufTy).Contents (Elt F) → (⟨S1x4x1x128, .f32⟩ : BufTy).Contents (Elt F)),
    StableHlo.binary main_while1b_v65 main_while1b_v80 main_while1b_v90 (mulf : (⟨S1x4x64x128, .f32⟩ : BufTy).Contents (Elt F) → (⟨S1x4x64x128, .f32⟩ : BufTy).Contents (Elt F) → (⟨S1x4x64x128, .f32⟩ : BufTy).Contents (Elt F)),
    StableHlo.binary main_while1b_v80 main_while1b_v64 main_while1b_v91 (mulf : (⟨S1x4x64x128, .f32⟩ : BufTy).Contents (Elt F) → (⟨S1x4x64x128, .f32⟩ : BufTy).Contents (Elt F) → (⟨S1x4x64x128, .f32⟩ : BufTy).Contents (Elt F)),
    StableHlo.binary main_while1b_v90 main_while1b_v64 main_while1b_v92 (mulf : (⟨S1x4x64x128, .f32⟩ : BufTy).Contents (Elt F) → (⟨S1x4x64x128, .f32⟩ : BufTy).Contents (Elt F) → (⟨S1x4x64x128, .f32⟩ : BufTy).Contents (Elt F)),
    StableHlo.nullary main_while1b_cst_35 (constant S_ .f32 0x00000000#32),
    StableHlo.binary main_while1b_v92 main_while1b_cst_35 main_while1b_v93 ((fun x v => Host.reduceAdd x v reducesTo_S1x4x64x128_S1x4x128_d2 h_S_) : (⟨S1x4x64x128, .f32⟩ : BufTy).Contents (Elt F) → (⟨S_, .f32⟩ : BufTy).Contents (Elt F) → (⟨S1x4x128, .f32⟩ : BufTy).Contents (Elt F)),
    StableHlo.reshape main_while1b_v93 main_while1b_v94 (rfl : (.f32 : EltTy) = .f32) shapeCasts_S1x4x128_S1x4x1x128,
    StableHlo.unary main_while1b_v92 main_while1b_v95 (Host.negf : (⟨S1x4x64x128, .f32⟩ : BufTy).Contents (Elt F) → (⟨S1x4x64x128, .f32⟩ : BufTy).Contents (Elt F)),
    StableHlo.binary main_while1b_v89 main_while1b_v94 main_while1b_v96 (addf : (⟨S1x4x1x128, .f32⟩ : BufTy).Contents (Elt F) → (⟨S1x4x1x128, .f32⟩ : BufTy).Contents (Elt F) → (⟨S1x4x1x128, .f32⟩ : BufTy).Contents (Elt F)),
    StableHlo.nullary main_while1b_cst_36 (constant S_ .f32 0x00000000#32),
    StableHlo.binary main_while1b_v96 main_while1b_cst_36 main_while1b_v97 ((fun x v => pad S1x4x64x128 ![0, 0, 63, 0] ![0, 0, 0, 0] ![0, 0, 0, 0] x v pads_S1x4x1x128_S1x4x64x128_000_000_6300_000 h_S_) : (⟨S1x4x1x128, .f32⟩ : BufTy).Contents (Elt F) → (⟨S_, .f32⟩ : BufTy).Contents (Elt F) → (⟨S1x4x64x128, .f32⟩ : BufTy).Contents (Elt F)),
    StableHlo.binary main_while1b_v95 main_while1b_v97 main_while1b_v98 (addf : (⟨S1x4x64x128, .f32⟩ : BufTy).Contents (Elt F) → (⟨S1x4x64x128, .f32⟩ : BufTy).Contents (Elt F) → (⟨S1x4x64x128, .f32⟩ : BufTy).Contents (Elt F)) ]
/-- Each touches TensorCore references only. -/
theorem while1Ops0_11_sub : (while1Ops0_11 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub ..⟩
/-- 3 host operations of @cumsum_10 (main_while1b_call23), in order. -/
abbrev while1Ops0_12 : List (HloOp τ sig (Elt F)) :=
  [ StableHlo.TRef.nullary (.of main_while1b_call23_call0_cst : StableHlo.TRef sig ⟨S_, .f32⟩) (constant S_ .f32 0x00000000#32),
    StableHlo.TRef.unary (.of main_while1b_call23_call0_cst : StableHlo.TRef sig ⟨S_, .f32⟩) (.of main_while1b_call23_call0_v0 : StableHlo.TRef sig ⟨S_, .f32⟩) (broadcastInDim S_ ![] bcast_S_S_),
    StableHlo.TRef.binary (.of main_while1b_v98 : StableHlo.TRef sig ⟨S1x4x64x128, .f32⟩) (.of main_while1b_call23_call0_v0 : StableHlo.TRef sig ⟨S_, .f32⟩) (.of main_while1b_v99 : StableHlo.TRef sig ⟨S1x4x64x128, .f32⟩) (fun x v => Host.reduceWindowAdd ![1, 1, 64, 1] ![1, 1, 1, 1] ![0, 0, 0, 0] ![0, 0, 63, 0] x v reduceWindows_S1x4x64x128_S1x4x64x128_w1s1p0_0_w1s1p0_0_w64s1p0_63_w1s1p0_0 h_S_) ]
/-- Each touches TensorCore references only. -/
theorem while1Ops0_12_sub : (while1Ops0_12 : List (HloOp τ sig (Elt F))).Forall fun op => op.bufs ⊆ StableHlo.tcRefs τ sig :=
  ⟨StableHlo.nullary_bufs_sub .., StableHlo.unary_bufs_sub .., StableHlo.binary_bufs_sub ..⟩
/-- 6 host operations of @dynamic_update_index_in_dim_3 (main_while1b_call24), in order. -/
abbrev while1Ops0_13 : List (HloOp τ sig (Elt F)) :=
  [ StableHlo.TRef.unary (.of main_while1b_v76 : StableHlo.TRef sig ⟨S1x4x64x128, .f32⟩) (.of main_while1b_call24_v0 : StableHlo.TRef sig ⟨S1x1x4x64x128, .f32⟩) (broadcastInDim S1x1x4x64x128 ![1, 2, 3, 4] bcast_S1x4x64x128_S1x1x4x64x128_1_2_3_4),
    StableHlo.TRef.nullary (.of main_while1b_call24_c : StableHlo.TRef sig ⟨S_, .i32⟩) (constantI S_ 32 0#32),
    StableHlo.TRef.nullary (.of main_while1b_call24_c_0 : StableHlo.TRef sig ⟨S_, .i32⟩) (constantI S_ 32 0#32),
    StableHlo.TRef.nullary (.of main_while1b_call24_c_1 : StableHlo.TRef sig ⟨S_, .i32⟩) (constantI S_ 32 0#32),
    StableHlo.TRef.nullary (.of main_while1b_call24_c_2 : StableHlo.TRef sig ⟨S_, .i32⟩) (constantI S_ 32 0#32),
    StableHlo.TRef.binaryIndexed (.of main_v42_12 : StableHlo.TRef sig ⟨S64x1x4x64x128, .f32⟩) (.of main_while1b_call24_v0 : StableHlo.TRef sig ⟨S1x1x4x64x128, .f32⟩) ![(.of main_while1b_v62 : StableHlo.TRef sig ⟨S_, .i32⟩), (.of main_while1b_call24_c : StableHlo.TRef sig ⟨S_, .i32⟩), (.of main_while1b_call24_c_0 : StableHlo.TRef sig ⟨S_, .i32⟩), (.of main_while1b_call24_c_1 : StableHlo.TRef sig ⟨S_, .i32⟩), (.of main_while1b_call24_c_2 : StableHlo.TRef sig ⟨S_, .i32⟩)] (.of main_while1b_v100 : StableHlo.TRef sig ⟨S64x1x4x64x128, .f32⟩) (fun x u i => Host.dynamicUpdateSlice x u (fun k => (i k (Shape.Idx.first h_S_)).toInt) updateFits_S64x1x4x64x128_S1x1x4x64x128) ]
/-- Each touches TensorCore references only. -/
theorem while1Ops0_13_sub : (while1Ops0_13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim_3 (main_while1b_call25), in order. -/
abbrev while1Ops0_14 : List (HloOp τ sig (Elt F)) :=
  [ StableHlo.TRef.unary (.of main_while1b_v91 : StableHlo.TRef sig ⟨S1x4x64x128, .f32⟩) (.of main_while1b_call25_v0 : StableHlo.TRef sig ⟨S1x1x4x64x128, .f32⟩) (broadcastInDim S1x1x4x64x128 ![1, 2, 3, 4] bcast_S1x4x64x128_S1x1x4x64x128_1_2_3_4),
    StableHlo.TRef.nullary (.of main_while1b_call25_c : StableHlo.TRef sig ⟨S_, .i32⟩) (constantI S_ 32 0#32),
    StableHlo.TRef.nullary (.of main_while1b_call25_c_0 : StableHlo.TRef sig ⟨S_, .i32⟩) (constantI S_ 32 0#32),
    StableHlo.TRef.nullary (.of main_while1b_call25_c_1 : StableHlo.TRef sig ⟨S_, .i32⟩) (constantI S_ 32 0#32),
    StableHlo.TRef.nullary (.of main_while1b_call25_c_2 : StableHlo.TRef sig ⟨S_, .i32⟩) (constantI S_ 32 0#32),
    StableHlo.TRef.binaryIndexed (.of main_v42_13 : StableHlo.TRef sig ⟨S64x1x4x64x128, .f32⟩) (.of main_while1b_call25_v0 : StableHlo.TRef sig ⟨S1x1x4x64x128, .f32⟩) ![(.of main_while1b_v62 : StableHlo.TRef sig ⟨S_, .i32⟩), (.of main_while1b_call25_c : StableHlo.TRef sig ⟨S_, .i32⟩), (.of main_while1b_call25_c_0 : StableHlo.TRef sig ⟨S_, .i32⟩), (.of main_while1b_call25_c_1 : StableHlo.TRef sig ⟨S_, .i32⟩), (.of main_while1b_call25_c_2 : StableHlo.TRef sig ⟨S_, .i32⟩)] (.of main_while1b_v101 : StableHlo.TRef sig ⟨S64x1x4x64x128, .f32⟩) (fun x u i => Host.dynamicUpdateSlice x u (fun k => (i k (Shape.Idx.first h_S_)).toInt) updateFits_S64x1x4x64x128_S1x1x4x64x128) ]
/-- Each touches TensorCore references only. -/
theorem while1Ops0_14_sub : (while1Ops0_14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim (main_while1b_call26), in order. -/
abbrev while1Ops0_15 : List (HloOp τ sig (Elt F)) :=
  [ StableHlo.TRef.unary (.of main_while1b_v78 : StableHlo.TRef sig ⟨S1x4x64x256, .f32⟩) (.of main_while1b_call26_v0 : StableHlo.TRef sig ⟨S1x1x4x64x256, .f32⟩) (broadcastInDim S1x1x4x64x256 ![1, 2, 3, 4] bcast_S1x4x64x256_S1x1x4x64x256_1_2_3_4),
    StableHlo.TRef.nullary (.of main_while1b_call26_c : StableHlo.TRef sig ⟨S_, .i32⟩) (constantI S_ 32 0#32),
    StableHlo.TRef.nullary (.of main_while1b_call26_c_0 : StableHlo.TRef sig ⟨S_, .i32⟩) (constantI S_ 32 0#32),
    StableHlo.TRef.nullary (.of main_while1b_call26_c_1 : StableHlo.TRef sig ⟨S_, .i32⟩) (constantI S_ 32 0#32),
    StableHlo.TRef.nullary (.of main_while1b_call26_c_2 : StableHlo.TRef sig ⟨S_, .i32⟩) (constantI S_ 32 0#32),
    StableHlo.TRef.binaryIndexed (.of main_v42_14 : StableHlo.TRef sig ⟨S64x1x4x64x256, .f32⟩) (.of main_while1b_call26_v0 : StableHlo.TRef sig ⟨S1x1x4x64x256, .f32⟩) ![(.of main_while1b_v62 : StableHlo.TRef sig ⟨S_, .i32⟩), (.of main_while1b_call26_c : StableHlo.TRef sig ⟨S_, .i32⟩), (.of main_while1b_call26_c_0 : StableHlo.TRef sig ⟨S_, .i32⟩), (.of main_while1b_call26_c_1 : StableHlo.TRef sig ⟨S_, .i32⟩), (.of main_while1b_call26_c_2 : StableHlo.TRef sig ⟨S_, .i32⟩)] (.of main_while1b_v102 : StableHlo.TRef sig ⟨S64x1x4x64x256, .f32⟩) (fun x u i => Host.dynamicUpdateSlice x u (fun k => (i k (Shape.Idx.first h_S_)).toInt) updateFits_S64x1x4x64x256_S1x1x4x64x256) ]
/-- Each touches TensorCore references only. -/
theorem while1Ops0_15_sub : (while1Ops0_15 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim_3 (main_while1b_call27), in order. -/
abbrev while1Ops0_16 : List (HloOp τ sig (Elt F)) :=
  [ StableHlo.TRef.unary (.of main_while1b_v99 : StableHlo.TRef sig ⟨S1x4x64x128, .f32⟩) (.of main_while1b_call27_v0 : StableHlo.TRef sig ⟨S1x1x4x64x128, .f32⟩) (broadcastInDim S1x1x4x64x128 ![1, 2, 3, 4] bcast_S1x4x64x128_S1x1x4x64x128_1_2_3_4),
    StableHlo.TRef.nullary (.of main_while1b_call27_c : StableHlo.TRef sig ⟨S_, .i32⟩) (constantI S_ 32 0#32),
    StableHlo.TRef.nullary (.of main_while1b_call27_c_0 : StableHlo.TRef sig ⟨S_, .i32⟩) (constantI S_ 32 0#32),
    StableHlo.TRef.nullary (.of main_while1b_call27_c_1 : StableHlo.TRef sig ⟨S_, .i32⟩) (constantI S_ 32 0#32),
    StableHlo.TRef.nullary (.of main_while1b_call27_c_2 : StableHlo.TRef sig ⟨S_, .i32⟩) (constantI S_ 32 0#32),
    StableHlo.TRef.binaryIndexed (.of main_v42_15 : StableHlo.TRef sig ⟨S64x1x4x64x128, .f32⟩) (.of main_while1b_call27_v0 : StableHlo.TRef sig ⟨S1x1x4x64x128, .f32⟩) ![(.of main_while1b_v62 : StableHlo.TRef sig ⟨S_, .i32⟩), (.of main_while1b_call27_c : StableHlo.TRef sig ⟨S_, .i32⟩), (.of main_while1b_call27_c_0 : StableHlo.TRef sig ⟨S_, .i32⟩), (.of main_while1b_call27_c_1 : StableHlo.TRef sig ⟨S_, .i32⟩), (.of main_while1b_call27_c_2 : StableHlo.TRef sig ⟨S_, .i32⟩)] (.of main_while1b_v103 : StableHlo.TRef sig ⟨S64x1x4x64x128, .f32⟩) (fun x u i => Host.dynamicUpdateSlice x u (fun k => (i k (Shape.Idx.first h_S_)).toInt) updateFits_S64x1x4x64x128_S1x1x4x64x128) ]
/-- Each touches TensorCore references only. -/
theorem while1Ops0_16_sub : (while1Ops0_16 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 8 host operations of host loop 1's body region, in order. -/
abbrev while1Ops0_17 : List (HloOp τ sig (Elt F)) :=
  [ StableHlo.nullary main_while1b_c_37 (constantI S_ 32 1#32),
    StableHlo.binary main_v42_10 main_while1b_c_37 main_while1b_v104 (addi : (⟨S_, .i32⟩ : BufTy).Contents (Elt F) → (⟨S_, .i32⟩ : BufTy).Contents (Elt F) → (⟨S_, .i32⟩ : BufTy).Contents (Elt F)),
    StableHlo.unary main_while1b_v104 main_v42_10 id,
    StableHlo.unary main_while1b_v82 main_v42_11 id,
    StableHlo.unary main_while1b_v100 main_v42_12 id,
    StableHlo.unary main_while1b_v101 main_v42_13 id,
    StableHlo.unary main_while1b_v102 main_v42_14 id,
    StableHlo.unary main_while1b_v103 main_v42_15 id ]
/-- Each touches TensorCore references only. -/
theorem while1Ops0_17_sub : (while1Ops0_17 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- The body of scan 1 is the chain of its stretches. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12,
    StableHlo.seq while1Ops0_13,
    StableHlo.seq while1Ops0_14,
    StableHlo.seq while1Ops0_15,
    StableHlo.seq while1Ops0_16,
    StableHlo.seq while1Ops0_17 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, StableHlo.chain_seq_cons]
  chain_rfl

end Cert.ReferenceIdeal.Ref

end
-- ==== Proof.Ref.Lists.lean ====
/-
  What each stretch of the reference writes, and the lists of stretches its run goes through.
-/
module

public import proofs.«01_k».proof.Proof.Ref.Ops
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ref

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

open Idealize.ShloMosaic.StableHlo
open Idealize.ShloMosaic.Pipeline (ucRefs sub_ucRefs)

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_v7, main_cst, main_v8, main_v9, main_v10, main_v11, main_v12, main_cst_0, main_v13, main_v14, main_v15, main_v16, main_v17, main_v18, main_v19, main_v20, main_v21]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_cst_1, main_v22, main_cst_2, main_v23, main_cst_3, main_v24, main_cst_4, main_v25, main_cst_5, main_v26, main_cst_6, main_v27, main_cst_7, main_v28, main_c, main_v29_0, main_v29_1, main_v29_2, main_v29_3, main_v29_4, main_v29_5, main_v29_6, main_v29_7, main_v29_8, main_v29_9, main_v29_10, main_v29_11, main_v29_12]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v30, main_v31, main_v32, main_cst_8, main_v33, main_v34, main_v35, main_v36, main_cst_9, main_v37, main_cst_10, main_v38, main_cst_11, main_v39, main_cst_12, main_v40, main_cst_13, main_v41, main_c_14, main_v42_0, main_v42_1, main_v42_2, main_v42_3, main_v42_4, main_v42_5, main_v42_6, main_v42_7, main_v42_8, main_v42_9, main_v42_10, main_v42_11, main_v42_12, main_v42_13, main_v42_14, main_v42_15]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_v43, main_v44, main_v45, main_v46, main_v47, main_v48, main_v49, main_v50, main_v51, main_v52, main_v53, main_cst_15, main_v54, main_v55, main_v56, main_v57, main_v58, main_v59, main_v60]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call1_c, main_while0b_call1_c_0, main_while0b_call1_c_1, main_while0b_call1_c_2, main_while0b_call1_v0, main_while0b_v61]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call2_c, main_while0b_call2_c_0, main_while0b_call2_c_1, main_while0b_call2_c_2, main_while0b_call2_v0, main_while0b_v62]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call3_c, main_while0b_call3_c_0, main_while0b_call3_c_1, main_while0b_call3_c_2, main_while0b_call3_v0, main_while0b_v63]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call4_c, main_while0b_call4_c_0, main_while0b_call4_c_1, main_while0b_call4_c_2, main_while0b_call4_v0, main_while0b_v64]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call5_call0_cst, main_while0b_call5_call0_v0, main_while0b_v65]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v66, main_while0b_v67, main_while0b_v68, main_while0b_v69, main_while0b_v70, main_while0b_v71, main_while0b_v72, main_while0b_v73, main_while0b_v74, main_while0b_v75, main_while0b_v76, main_while0b_v77, main_while0b_v78]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call6_v0, main_while0b_call6_c, main_while0b_call6_c_0, main_while0b_call6_c_1, main_while0b_call6_c_2, main_while0b_v79]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_call7_v0, main_while0b_call7_c, main_while0b_call7_c_0, main_while0b_call7_c_1, main_while0b_call7_c_2, main_while0b_v80]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call8_v0, main_while0b_call8_c, main_while0b_call8_c_0, main_while0b_call8_c_1, main_while0b_v81]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_call9_v0, main_while0b_call9_c, main_while0b_call9_c_0, main_while0b_call9_c_1, main_while0b_call9_c_2, main_while0b_v82]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_call10_v0, main_while0b_call10_c, main_while0b_call10_c_0, main_while0b_call10_c_1, main_while0b_call10_c_2, main_while0b_v83]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `while0Ops0_11` allocates a buffer. -/
theorem while0Ops0_11_fresh : (while0Ops0_11 : List (HloOp τ sig (Elt F))).Forall fun op => op.fresh = ∅ :=
  StableHlo.forall_fresh_of_map rfl
/-- The reference each operation of `while0Ops0_11` writes, in order. -/
abbrev while0Ops0_11_W : List (Ref sig .tc) := [main_while0b_call11_v0, main_while0b_call11_c, main_while0b_call11_c_0, main_while0b_call11_c_1, main_while0b_call11_c_2, main_while0b_v84]
theorem while0Ops0_11_writes : (while0Ops0_11 : List (HloOp τ sig (Elt F))).Forall fun op => op.writes ⊆ (while0Ops0_11_W.map (Proc.devRef (τ := τ) .tc)).toFinset :=
  StableHlo.forall_writes_sub_of_map rfl
/-- No operation of `while0Ops0_12` allocates a buffer. -/
theorem while0Ops0_12_fresh : (while0Ops0_12 : List (HloOp τ sig (Elt F))).Forall fun op => op.fresh = ∅ :=
  StableHlo.forall_fresh_of_map rfl
/-- The reference each operation of `while0Ops0_12` writes, in order. -/
abbrev while0Ops0_12_W : List (Ref sig .tc) := [main_while0b_call12_v0, main_while0b_call12_c, main_while0b_call12_c_0, main_while0b_call12_c_1, main_while0b_call12_c_2, main_while0b_v85]
theorem while0Ops0_12_writes : (while0Ops0_12 : List (HloOp τ sig (Elt F))).Forall fun op => op.writes ⊆ (while0Ops0_12_W.map (Proc.devRef (τ := τ) .tc)).toFinset :=
  StableHlo.forall_writes_sub_of_map rfl
/-- No operation of `while0Ops0_13` allocates a buffer. -/
theorem while0Ops0_13_fresh : (while0Ops0_13 : List (HloOp τ sig (Elt F))).Forall fun op => op.fresh = ∅ :=
  StableHlo.forall_fresh_of_map rfl
/-- The reference each operation of `while0Ops0_13` writes, in order. -/
abbrev while0Ops0_13_W : List (Ref sig .tc) := [main_while0b_c_28, main_while0b_v86, main_v29_4, main_v29_5, main_v29_6, main_v29_7, main_v29_8, main_v29_9, main_v29_10, main_v29_11, main_v29_12]
theorem while0Ops0_13_writes : (while0Ops0_13 : List (HloOp τ sig (Elt F))).Forall fun op => op.writes ⊆ (while0Ops0_13_W.map (Proc.devRef (τ := τ) .tc)).toFinset :=
  StableHlo.forall_writes_sub_of_map rfl
/-- No operation of `while1Ops0` allocates a buffer. -/
theorem while1Ops0_fresh : (while1Ops0 : List (HloOp τ sig (Elt F))).Forall fun op => op.fresh = ∅ :=
  StableHlo.forall_fresh_of_map rfl
/-- The reference each operation of `while1Ops0` writes, in order. -/
abbrev while1Ops0_W : List (Ref sig .tc) := [main_while1b_c_31, main_while1b_v61, main_while1b_c_32, main_while1b_v62]
theorem while1Ops0_writes : (while1Ops0 : List (HloOp τ sig (Elt F))).Forall fun op => op.writes ⊆ (while1Ops0_W.map (Proc.devRef (τ := τ) .tc)).toFinset :=
  StableHlo.forall_writes_sub_of_map rfl
/-- No operation of `while1Ops0_1` allocates a buffer. -/
theorem while1Ops0_1_fresh : (while1Ops0_1 : List (HloOp τ sig (Elt F))).Forall fun op => op.fresh = ∅ :=
  StableHlo.forall_fresh_of_map rfl
/-- The reference each operation of `while1Ops0_1` writes, in order. -/
abbrev while1Ops0_1_W : List (Ref sig .tc) := [main_while1b_call13_c, main_while1b_call13_c_0, main_while1b_call13_c_1, main_while1b_call13_c_2, main_while1b_call13_v0, main_while1b_v63]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- No operation of `while1Ops0_2` allocates a buffer. -/
theorem while1Ops0_2_fresh : (while1Ops0_2 : List (HloOp τ sig (Elt F))).Forall fun op => op.fresh = ∅ :=
  StableHlo.forall_fresh_of_map rfl
/-- The reference each operation of `while1Ops0_2` writes, in order. -/
abbrev while1Ops0_2_W : List (Ref sig .tc) := [main_while1b_call14_c, main_while1b_call14_c_0, main_while1b_call14_c_1, main_while1b_call14_c_2, main_while1b_call14_v0, main_while1b_v64]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- No operation of `while1Ops0_3` allocates a buffer. -/
theorem while1Ops0_3_fresh : (while1Ops0_3 : List (HloOp τ sig (Elt F))).Forall fun op => op.fresh = ∅ :=
  StableHlo.forall_fresh_of_map rfl
/-- The reference each operation of `while1Ops0_3` writes, in order. -/
abbrev while1Ops0_3_W : List (Ref sig .tc) := [main_while1b_call15_c, main_while1b_call15_c_0, main_while1b_call15_c_1, main_while1b_call15_c_2, main_while1b_call15_v0, main_while1b_v65]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- No operation of `while1Ops0_4` allocates a buffer. -/
theorem while1Ops0_4_fresh : (while1Ops0_4 : List (HloOp τ sig (Elt F))).Forall fun op => op.fresh = ∅ :=
  StableHlo.forall_fresh_of_map rfl
/-- The reference each operation of `while1Ops0_4` writes, in order. -/
abbrev while1Ops0_4_W : List (Ref sig .tc) := [main_while1b_call16_c, main_while1b_call16_c_0, main_while1b_call16_c_1, main_while1b_call16_v0, main_while1b_v66]
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- No operation of `while1Ops0_5` allocates a buffer. -/
theorem while1Ops0_5_fresh : (while1Ops0_5 : List (HloOp τ sig (Elt F))).Forall fun op => op.fresh = ∅ :=
  StableHlo.forall_fresh_of_map rfl
/-- The reference each operation of `while1Ops0_5` writes, in order. -/
abbrev while1Ops0_5_W : List (Ref sig .tc) := [main_while1b_call17_c, main_while1b_call17_c_0, main_while1b_call17_c_1, main_while1b_call17_c_2, main_while1b_call17_v0, main_while1b_v67]
theorem while1Ops0_5_writes : (while1Ops0_5 : List (HloOp τ sig (Elt F))).Forall fun op => op.writes ⊆ (while1Ops0_5_W.map (Proc.devRef (τ := τ) .tc)).toFinset :=
  StableHlo.forall_writes_sub_of_map rfl
/-- No operation of `while1Ops0_6` allocates a buffer. -/
theorem while1Ops0_6_fresh : (while1Ops0_6 : List (HloOp τ sig (Elt F))).Forall fun op => op.fresh = ∅ :=
  StableHlo.forall_fresh_of_map rfl
/-- The reference each operation of `while1Ops0_6` writes, in order. -/
abbrev while1Ops0_6_W : List (Ref sig .tc) := [main_while1b_call18_c, main_while1b_call18_c_0, main_while1b_call18_c_1, main_while1b_call18_c_2, main_while1b_call18_v0, main_while1b_v68]
theorem while1Ops0_6_writes : (while1Ops0_6 : List (HloOp τ sig (Elt F))).Forall fun op => op.writes ⊆ (while1Ops0_6_W.map (Proc.devRef (τ := τ) .tc)).toFinset :=
  StableHlo.forall_writes_sub_of_map rfl
/-- No operation of `while1Ops0_7` allocates a buffer. -/
theorem while1Ops0_7_fresh : (while1Ops0_7 : List (HloOp τ sig (Elt F))).Forall fun op => op.fresh = ∅ :=
  StableHlo.forall_fresh_of_map rfl
/-- The reference each operation of `while1Ops0_7` writes, in order. -/
abbrev while1Ops0_7_W : List (Ref sig .tc) := [main_while1b_call19_c, main_while1b_call19_c_0, main_while1b_call19_c_1, main_while1b_call19_c_2, main_while1b_call19_v0, main_while1b_v69]
theorem while1Ops0_7_writes : (while1Ops0_7 : List (HloOp τ sig (Elt F))).Forall fun op => op.writes ⊆ (while1Ops0_7_W.map (Proc.devRef (τ := τ) .tc)).toFinset :=
  StableHlo.forall_writes_sub_of_map rfl
/-- No operation of `while1Ops0_8` allocates a buffer. -/
theorem while1Ops0_8_fresh : (while1Ops0_8 : List (HloOp τ sig (Elt F))).Forall fun op => op.fresh = ∅ :=
  StableHlo.forall_fresh_of_map rfl
/-- The reference each operation of `while1Ops0_8` writes, in order. -/
abbrev while1Ops0_8_W : List (Ref sig .tc) := [main_while1b_call20_c, main_while1b_call20_c_0, main_while1b_call20_c_1, main_while1b_call20_c_2, main_while1b_call20_v0, main_while1b_v70]
theorem while1Ops0_8_writes : (while1Ops0_8 : List (HloOp τ sig (Elt F))).Forall fun op => op.writes ⊆ (while1Ops0_8_W.map (Proc.devRef (τ := τ) .tc)).toFinset :=
  StableHlo.forall_writes_sub_of_map rfl
/-- No operation of `while1Ops0_9` allocates a buffer. -/
theorem while1Ops0_9_fresh : (while1Ops0_9 : List (HloOp τ sig (Elt F))).Forall fun op => op.fresh = ∅ :=
  StableHlo.forall_fresh_of_map rfl
/-- The reference each operation of `while1Ops0_9` writes, in order. -/
abbrev while1Ops0_9_W : List (Ref sig .tc) := [main_while1b_call21_c, main_while1b_call21_c_0, main_while1b_call21_c_1, main_while1b_call21_c_2, main_while1b_call21_v0, main_while1b_v71]
theorem while1Ops0_9_writes : (while1Ops0_9 : List (HloOp τ sig (Elt F))).Forall fun op => op.writes ⊆ (while1Ops0_9_W.map (Proc.devRef (τ := τ) .tc)).toFinset :=
  StableHlo.forall_writes_sub_of_map rfl
/-- No operation of `while1Ops0_10` allocates a buffer. -/
theorem while1Ops0_10_fresh : (while1Ops0_10 : List (HloOp τ sig (Elt F))).Forall fun op => op.fresh = ∅ :=
  StableHlo.forall_fresh_of_map rfl
/-- The reference each operation of `while1Ops0_10` writes, in order. -/
abbrev while1Ops0_10_W : List (Ref sig .tc) := [main_while1b_call22_c, main_while1b_call22_c_0, main_while1b_call22_c_1, main_while1b_call22_c_2, main_while1b_call22_v0, main_while1b_v72]
theorem while1Ops0_10_writes : (while1Ops0_10 : List (HloOp τ sig (Elt F))).Forall fun op => op.writes ⊆ (while1Ops0_10_W.map (Proc.devRef (τ := τ) .tc)).toFinset :=
  StableHlo.forall_writes_sub_of_map rfl
/-- No operation of `while1Ops0_11` allocates a buffer. -/
theorem while1Ops0_11_fresh : (while1Ops0_11 : List (HloOp τ sig (Elt F))).Forall fun op => op.fresh = ∅ :=
  StableHlo.forall_fresh_of_map rfl
/-- The reference each operation of `while1Ops0_11` writes, in order. -/
abbrev while1Ops0_11_W : List (Ref sig .tc) := [main_while1b_v73, main_while1b_v74, main_while1b_v75, main_while1b_v76, main_while1b_v77, main_while1b_v78, main_while1b_v79, main_while1b_v80, main_while1b_v81, main_while1b_v82, main_while1b_v83, main_while1b_cst_33, main_while1b_v84, main_while1b_v85, main_while1b_cst_34, main_while1b_v86, main_while1b_v87, main_while1b_v88, main_while1b_v89, main_while1b_v90, main_while1b_v91, main_while1b_v92, main_while1b_cst_35, main_while1b_v93, main_while1b_v94, main_while1b_v95, main_while1b_v96, main_while1b_cst_36, main_while1b_v97, main_while1b_v98]
theorem while1Ops0_11_writes : (while1Ops0_11 : List (HloOp τ sig (Elt F))).Forall fun op => op.writes ⊆ (while1Ops0_11_W.map (Proc.devRef (τ := τ) .tc)).toFinset :=
  StableHlo.forall_writes_sub_of_map rfl
/-- No operation of `while1Ops0_12` allocates a buffer. -/
theorem while1Ops0_12_fresh : (while1Ops0_12 : List (HloOp τ sig (Elt F))).Forall fun op => op.fresh = ∅ :=
  StableHlo.forall_fresh_of_map rfl
/-- The reference each operation of `while1Ops0_12` writes, in order. -/
abbrev while1Ops0_12_W : List (Ref sig .tc) := [main_while1b_call23_call0_cst, main_while1b_call23_call0_v0, main_while1b_v99]
theorem while1Ops0_12_writes : (while1Ops0_12 : List (HloOp τ sig (Elt F))).Forall fun op => op.writes ⊆ (while1Ops0_12_W.map (Proc.devRef (τ := τ) .tc)).toFinset :=
  StableHlo.forall_writes_sub_of_map rfl
/-- No operation of `while1Ops0_13` allocates a buffer. -/
theorem while1Ops0_13_fresh : (while1Ops0_13 : List (HloOp τ sig (Elt F))).Forall fun op => op.fresh = ∅ :=
  StableHlo.forall_fresh_of_map rfl
/-- The reference each operation of `while1Ops0_13` writes, in order. -/
abbrev while1Ops0_13_W : List (Ref sig .tc) := [main_while1b_call24_v0, main_while1b_call24_c, main_while1b_call24_c_0, main_while1b_call24_c_1, main_while1b_call24_c_2, main_while1b_v100]
theorem while1Ops0_13_writes : (while1Ops0_13 : List (HloOp τ sig (Elt F))).Forall fun op => op.writes ⊆ (while1Ops0_13_W.map (Proc.devRef (τ := τ) .tc)).toFinset :=
  StableHlo.forall_writes_sub_of_map rfl
/-- No operation of `while1Ops0_14` allocates a buffer. -/
theorem while1Ops0_14_fresh : (while1Ops0_14 : List (HloOp τ sig (Elt F))).Forall fun op => op.fresh = ∅ :=
  StableHlo.forall_fresh_of_map rfl
/-- The reference each operation of `while1Ops0_14` writes, in order. -/
abbrev while1Ops0_14_W : List (Ref sig .tc) := [main_while1b_call25_v0, main_while1b_call25_c, main_while1b_call25_c_0, main_while1b_call25_c_1, main_while1b_call25_c_2, main_while1b_v101]
theorem while1Ops0_14_writes : (while1Ops0_14 : List (HloOp τ sig (Elt F))).Forall fun op => op.writes ⊆ (while1Ops0_14_W.map (Proc.devRef (τ := τ) .tc)).toFinset :=
  StableHlo.forall_writes_sub_of_map rfl
/-- No operation of `while1Ops0_15` allocates a buffer. -/
theorem while1Ops0_15_fresh : (while1Ops0_15 : List (HloOp τ sig (Elt F))).Forall fun op => op.fresh = ∅ :=
  StableHlo.forall_fresh_of_map rfl
/-- The reference each operation of `while1Ops0_15` writes, in order. -/
abbrev while1Ops0_15_W : List (Ref sig .tc) := [main_while1b_call26_v0, main_while1b_call26_c, main_while1b_call26_c_0, main_while1b_call26_c_1, main_while1b_call26_c_2, main_while1b_v102]
theorem while1Ops0_15_writes : (while1Ops0_15 : List (HloOp τ sig (Elt F))).Forall fun op => op.writes ⊆ (while1Ops0_15_W.map (Proc.devRef (τ := τ) .tc)).toFinset :=
  StableHlo.forall_writes_sub_of_map rfl
/-- No operation of `while1Ops0_16` allocates a buffer. -/
theorem while1Ops0_16_fresh : (while1Ops0_16 : List (HloOp τ sig (Elt F))).Forall fun op => op.fresh = ∅ :=
  StableHlo.forall_fresh_of_map rfl
/-- The reference each operation of `while1Ops0_16` writes, in order. -/
abbrev while1Ops0_16_W : List (Ref sig .tc) := [main_while1b_call27_v0, main_while1b_call27_c, main_while1b_call27_c_0, main_while1b_call27_c_1, main_while1b_call27_c_2, main_while1b_v103]
theorem while1Ops0_16_writes : (while1Ops0_16 : List (HloOp τ sig (Elt F))).Forall fun op => op.writes ⊆ (while1Ops0_16_W.map (Proc.devRef (τ := τ) .tc)).toFinset :=
  StableHlo.forall_writes_sub_of_map rfl
/-- No operation of `while1Ops0_17` allocates a buffer. -/
theorem while1Ops0_17_fresh : (while1Ops0_17 : List (HloOp τ sig (Elt F))).Forall fun op => op.fresh = ∅ :=
  StableHlo.forall_fresh_of_map rfl
/-- The reference each operation of `while1Ops0_17` writes, in order. -/
abbrev while1Ops0_17_W : List (Ref sig .tc) := [main_while1b_c_37, main_while1b_v104, main_v42_10, main_v42_11, main_v42_12, main_v42_13, main_v42_14, main_v42_15]
theorem while1Ops0_17_writes : (while1Ops0_17 : List (HloOp τ sig (Elt F))).Forall fun op => op.writes ⊆ (while1Ops0_17_W.map (Proc.devRef (τ := τ) .tc)).toFinset :=
  StableHlo.forall_writes_sub_of_map rfl

/-! ## The lists of stretches -/

/-- Scan 0's condition: the bound, and the trip counter compared with it. -/
abbrev cond0 : List (HloOp τ sig (Elt F)) :=
  [ StableHlo.nullary main_while0c_c_28 (constantI S_ 32 64#32),
    StableHlo.binary main_v29_4 main_while0c_c_28 main_while0c_v61 (cmpi .slt) ]
/-- Scan 1's condition. -/
abbrev cond1 : List (HloOp τ sig (Elt F)) :=
  [ StableHlo.nullary main_while1c_c_31 (constantI S_ 32 64#32),
    StableHlo.binary main_v42_10 main_while1c_c_31 main_while1c_v61 (cmpi .slt) ]
/-- The references scan 0's condition writes. -/
abbrev cond0_W : List (Ref sig .tc) := [main_while0c_c_28, main_while0c_v61]
theorem cond0_writes : (cond0 : List (HloOp τ sig (Elt F))).Forall fun op => op.writes ⊆ (cond0_W.map (Proc.devRef (τ := τ) .tc)).toFinset :=
  StableHlo.forall_writes_sub_of_map rfl
/-- The references scan 1's condition writes. -/
abbrev cond1_W : List (Ref sig .tc) := [main_while1c_c_31, main_while1c_v61]
theorem cond1_writes : (cond1 : List (HloOp τ sig (Elt F))).Forall fun op => op.writes ⊆ (cond1_W.map (Proc.devRef (τ := τ) .tc)).toFinset :=
  StableHlo.forall_writes_sub_of_map rfl

/-- @main's stretches before the scans, between them and after them, and the scans' bodies. -/
abbrev preI : List (List (HloOp τ sig (Elt F))) := [hostOps0, hostOps0_1]
abbrev midI : List (List (HloOp τ sig (Elt F))) := [hostOps0_2]
abbrev postI : List (List (HloOp τ sig (Elt F))) := [hostOps0_3]
abbrev body0 : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12, while0Ops0_13]
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16, while1Ops0_17]

theorem hpre : Plain (preI (F := F)) := .cons hostOps0_sub (hf := List.forall_iff_forall_mem.mp hostOps0_fresh) (.cons hostOps0_1_sub (hf := List.forall_iff_forall_mem.mp hostOps0_1_fresh) (.nil))
theorem hmid : Plain (midI (F := F)) := .cons hostOps0_2_sub (hf := List.forall_iff_forall_mem.mp hostOps0_2_fresh) (.nil)
theorem hpost : Plain (postI (F := F)) := .cons hostOps0_3_sub (hf := List.forall_iff_forall_mem.mp hostOps0_3_fresh) (.nil)
theorem hbody0 : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.cons while0Ops0_12_sub (hf := List.forall_iff_forall_mem.mp while0Ops0_12_fresh) (.cons while0Ops0_13_sub (hf := List.forall_iff_forall_mem.mp while0Ops0_13_fresh) (.nil))))))))))))))
theorem hbody1 : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) (.cons while1Ops0_13_sub (hf := List.forall_iff_forall_mem.mp while1Ops0_13_fresh) (.cons while1Ops0_14_sub (hf := List.forall_iff_forall_mem.mp while1Ops0_14_fresh) (.cons while1Ops0_15_sub (hf := List.forall_iff_forall_mem.mp while1Ops0_15_fresh) (.cons while1Ops0_16_sub (hf := List.forall_iff_forall_mem.mp while1Ops0_16_fresh) (.cons while1Ops0_17_sub (hf := List.forall_iff_forall_mem.mp while1Ops0_17_fresh) (.nil))))))))))))))))))

end Cert.ReferenceIdeal.Ref

end
-- ==== Proof.Ref.Run.lean ====
/-
  The run of the reference: its two scans of 64 trips each, and the buffers it ends with.
-/
module

public import proofs.«01_k».proof.Proof.Ref.Lists
public import Idealize.ShloMosaic.Lib.Quiescent

@[expose] public section

noncomputable section

namespace Cert.ReferenceIdeal.Ref

open Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo
open Idealize.ShloMosaic.Pipeline (ucRefs sub_ucRefs CSeg Ticket)

variable {F : FTy → Type} [FloatOps F]

/-! ## What a list of stretches writes -/

/-- The references each stretch of a list writes. -/
abbrev Writes (items : List (List (HloOp τ sig (Elt F)))) (Ws : List (List (Ref sig .tc))) : Prop :=
  List.Forall₂ (fun ops W => ops.Forall fun op => op.writes ⊆ (W.map (Proc.devRef (τ := τ) .tc)).toFinset) items Ws

/-- A list of stretches leaves a buffer that none of them writes. -/
theorem afterL_keep {items : List (List (HloOp τ sig (Elt F)))} {Ws : List (List (Ref sig .tc))} (h : Writes items Ws)
    {b : Ref sig .tc} (hb : b ∉ Ws.flatten) (V : Valuation τ sig (Elt F)) :
    afterL items V (Proc.devRef .tc b) = V (Proc.devRef .tc b) := by
  induction h generalizing V with
  | nil => rfl
  | cons hd _ ih =>
    rw [List.flatten_cons, List.mem_append, not_or] at hb
    rw [afterL_cons, ih hb.2, after_of_writes_sub _ _ hd hb.1]

/-- Two lists of stretches one after the other. -/
theorem afterL_append (A B : List (List (HloOp τ sig (Elt F)))) (V : Valuation τ sig (Elt F)) :
    afterL (A ++ B) V = afterL B (afterL A V) := by
  induction A generalizing V with
  | nil => rfl
  | cons a A ih => exact ih _

/-- The references each stretch of scan 0's body writes. -/
abbrev body0_Ws : List (List (Ref sig .tc)) := [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W]
/-- What scan 0's body writes. -/
theorem body0_writes : Writes (F := F) body0 body0_Ws :=
  .cons while0Ops0_writes (.cons while0Ops0_1_writes (.cons while0Ops0_2_writes (.cons while0Ops0_3_writes (.cons while0Ops0_4_writes (.cons while0Ops0_5_writes (.cons while0Ops0_6_writes (.cons while0Ops0_7_writes (.cons while0Ops0_8_writes (.cons while0Ops0_9_writes (.cons while0Ops0_10_writes (.cons while0Ops0_11_writes (.cons while0Ops0_12_writes (.cons while0Ops0_13_writes .nil)))))))))))))
/-- The references each stretch of scan 1's body writes. -/
abbrev body1_Ws : List (List (Ref sig .tc)) := [while1Ops0_W, while1Ops0_1_W, while1Ops0_2_W, while1Ops0_3_W, while1Ops0_4_W, while1Ops0_5_W, while1Ops0_6_W, while1Ops0_7_W, while1Ops0_8_W, while1Ops0_9_W, while1Ops0_10_W, while1Ops0_11_W, while1Ops0_12_W, while1Ops0_13_W, while1Ops0_14_W, while1Ops0_15_W, while1Ops0_16_W, while1Ops0_17_W]
/-- What scan 1's body writes. -/
theorem body1_writes : Writes (F := F) body1 body1_Ws :=
  .cons while1Ops0_writes (.cons while1Ops0_1_writes (.cons while1Ops0_2_writes (.cons while1Ops0_3_writes (.cons while1Ops0_4_writes (.cons while1Ops0_5_writes (.cons while1Ops0_6_writes (.cons while1Ops0_7_writes (.cons while1Ops0_8_writes (.cons while1Ops0_9_writes (.cons while1Ops0_10_writes (.cons while1Ops0_11_writes (.cons while1Ops0_12_writes (.cons while1Ops0_13_writes (.cons while1Ops0_14_writes (.cons while1Ops0_15_writes (.cons while1Ops0_16_writes (.cons while1Ops0_17_writes .nil)))))))))))))))))
/-- The references the stretches before the scans write. -/
theorem pre_writes : Writes (F := F) preI [hostOps0_W, hostOps0_1_W] := .cons hostOps0_writes (.cons hostOps0_1_writes .nil)
/-- The references the stretch between the scans writes. -/
theorem mid_writes : Writes (F := F) midI [hostOps0_2_W] := .cons hostOps0_2_writes .nil
/-- The references the stretch after the scans writes. -/
theorem post_writes : Writes (F := F) postI [hostOps0_3_W] := .cons hostOps0_3_writes .nil

/-! ## The scans' conditions -/

/-- The machine's resources this run is stated over. -/
local notation "𝕄" => MT nD τ sig Unit (Elt F) ℕ (Option PUnit) ℕ

/-- What is carried unchanged beside the buffers. -/
abbrev Rw (c : Dev nD) : sProp 𝕄 := iprop(∃ W, owes (c : Thread nD τ) (0 : CellTallies nD τ sig Unit) W)

/-- Scan 0's counter starts at 0. -/
theorem ctr0_entry (V : Valuation τ sig (Elt F)) : afterL preI V (Proc.devRef .tc main_v29_4) = fun _ => (0#32 : BitVec 32) := by
  simp only [afterL_cons, afterL_nil]
  after_reads_simp
  rfl
/-- Scan 1's counter starts at 0. -/
theorem ctr1_entry (V : Valuation τ sig (Elt F)) : afterL midI V (Proc.devRef .tc main_v42_10) = fun _ => (0#32 : BitVec 32) := by
  simp only [afterL_cons, afterL_nil]
  after_reads_simp
  rfl

set_option maxRecDepth 100000 in
/-- The last stretch of scan 0's body counts up. -/
theorem ctr0_last (X : Valuation τ sig (Elt F)) :
    after while0Ops0_13 X (Proc.devRef .tc main_v29_4) = addi (X (Proc.devRef .tc main_v29_4)) (constantI S_ 32 1#32) := by
  after_results
  rfl
set_option maxRecDepth 100000 in
/-- The last stretch of scan 1's body counts up. -/
theorem ctr1_last (X : Valuation τ sig (Elt F)) :
    after while1Ops0_17 X (Proc.devRef .tc main_v42_10) = addi (X (Proc.devRef .tc main_v42_10)) (constantI S_ 32 1#32) := by
  after_results
  rfl

/-- A trip of scan 0 counts up. -/
theorem ctr0_body (V : Valuation τ sig (Elt F)) :
    afterL body0 V (Proc.devRef .tc main_v29_4) = addi (V (Proc.devRef .tc main_v29_4)) (constantI S_ 32 1#32) := by
  rw [show (body0 (F := F)) = body0.take 13 ++ [while0Ops0_13] from rfl, afterL_append, afterL_cons, afterL_nil, ctr0_last,
    afterL_keep (List.forall₂_take 13 body0_writes) (by decide +kernel)]
/-- A trip of scan 1 counts up. -/
theorem ctr1_body (V : Valuation τ sig (Elt F)) :
    afterL body1 V (Proc.devRef .tc main_v42_10) = addi (V (Proc.devRef .tc main_v42_10)) (constantI S_ 32 1#32) := by
  rw [show (body1 (F := F)) = body1.take 17 ++ [while1Ops0_17] from rfl, afterL_append, afterL_cons, afterL_nil, ctr1_last,
    afterL_keep (List.forall₂_take 17 body1_writes) (by decide +kernel)]

/-- Before the `k`-th condition of scan 0 the counter is `k`. -/
theorem ctr0 (V : Dev nD → Valuation τ sig (Elt F)) (c : Dev nD) (h : V c (Proc.devRef .tc main_v29_4) = fun _ => (0#32 : BitVec 32)) :
    ∀ k, atTrip cond0 body0 V k c (Proc.devRef .tc main_v29_4) = fun _ => Scf.iv 0#32 1#32 k
  | 0 => by rw [show atTrip cond0 body0 V 0 c = V c from rfl, h, Scf.iv_zero]
  | k + 1 => by
    rw [show atTrip cond0 body0 V (k + 1) c = afterL body0 (after cond0 (atTrip cond0 body0 V k c)) from rfl, ctr0_body,
      after_of_writes_sub cond0 _ cond0_writes (by decide +kernel), ctr0 V c h k, Scf.iv_succ]
    rfl
/-- Before the `k`-th condition of scan 1 the counter is `k`. -/
theorem ctr1 (V : Dev nD → Valuation τ sig (Elt F)) (c : Dev nD) (h : V c (Proc.devRef .tc main_v42_10) = fun _ => (0#32 : BitVec 32)) :
    ∀ k, atTrip cond1 body1 V k c (Proc.devRef .tc main_v42_10) = fun _ => Scf.iv 0#32 1#32 k
  | 0 => by rw [show atTrip cond1 body1 V 0 c = V c from rfl, h, Scf.iv_zero]
  | k + 1 => by
    rw [show atTrip cond1 body1 V (k + 1) c = afterL body1 (after cond1 (atTrip cond1 body1 V k c)) from rfl, ctr1_body,
      after_of_writes_sub cond1 _ cond1_writes (by decide +kernel), ctr1 V c h k, Scf.iv_succ]
    rfl

-- unification may unfold plain definitions in a metavariable's type
set_option backward.isDefEq.respectTransparency.types false in
/-- Scan 0's condition: it holds before the trips 0 to 63. -/
theorem cond0_spec (V : Dev nD → Valuation τ sig (Elt F)) (hV : ∀ c, V c (Proc.devRef .tc main_v29_4) = fun _ => (0#32 : BitVec 32)) :
    LoopCond (Ix := Unit) (Name := ℕ) (U := Option PUnit) (Lvl := ℕ) (pcfgs (F := F)) defs₀ Variants.none loops Rw (main_while0_cond (F := F)) cond0 body0 V 64 := by
  intro k hk c bd
  have hctr := ctr0 V c (hV c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 V k c) main_v29_4 HostLoop.idx0)
        (HloOp.result _ (atTrip cond0 body0 V k c) main_while0c_c_28 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · rw [after_cons, after_cons, after_nil]; iexact Hh
  iexact HR

-- unification may unfold plain definitions in a metavariable's type
set_option backward.isDefEq.respectTransparency.types false in
/-- Scan 1's condition: it holds before the trips 0 to 63. -/
theorem cond1_spec (V : Dev nD → Valuation τ sig (Elt F)) (hV : ∀ c, V c (Proc.devRef .tc main_v42_10) = fun _ => (0#32 : BitVec 32)) :
    LoopCond (Ix := Unit) (Name := ℕ) (U := Option PUnit) (Lvl := ℕ) (pcfgs (F := F)) defs₀ Variants.none loops Rw (main_while1_cond (F := F)) cond1 body1 V 64 := by
  intro k hk c bd
  have hctr := ctr1 V c (hV c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 V k c) main_v42_10 HostLoop.idx0)
        (HloOp.result _ (atTrip cond1 body1 V k c) main_while1c_c_31 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · rw [after_cons, after_cons, after_nil]; iexact Hh
  iexact HR

/-! ## The run -/

variable (m : (ℓ : Loc nD τ sig) → Buf (Elt F) ℓ) (ρ : Dev nD → PrngReg)

/-- The buffers at scan 0's entry. -/
abbrev E0 (c : Dev nD) : Valuation τ sig (Elt F) := afterL preI (launchContents m c)
/-- The buffers before the `k`-th trip of scan 0. -/
abbrev A0 (k : ℕ) (c : Dev nD) : Valuation τ sig (Elt F) := atTrip cond0 body0 (E0 m) k c
/-- The buffers at scan 1's entry. -/
abbrev E1 (c : Dev nD) : Valuation τ sig (Elt F) := afterL midI (after cond0 (A0 m 64 c))
/-- The buffers before the `k`-th trip of scan 1. -/
abbrev A1 (k : ℕ) (c : Dev nD) : Valuation τ sig (Elt F) := atTrip cond1 body1 (E1 m) k c
/-- The buffers the run ends with. -/
abbrev final (c : Dev nD) : Valuation τ sig (Elt F) := afterL postI (after cond1 (A1 m 64 c))

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- @main as segments. -/
def runSegs : List (CSeg (pcfgs (F := F)) adm defs₀ Variants.none L lv (loops (F := F)) tk) :=
  segsOf _ _ _ _ _ _ _ _ Rw preI hpre (launchContents m)
    ++ loopSeg _ _ _ _ _ _ _ _ 0 main_while0_cond main_while0_body rfl cond0 body0 hbody0 (by rw [while0_body_chain]; rfl) 64 (E0 m) Rw
        (cond0_spec (E0 m) fun c => ctr0_entry _)
      :: (segsOf _ _ _ _ _ _ _ _ Rw midI hmid (fun c => after cond0 (A0 m 64 c))
        ++ loopSeg _ _ _ _ _ _ _ _ 1 main_while1_cond main_while1_body rfl cond1 body1 hbody1 (by rw [while1_body_chain]; rfl) 64 (E1 m) Rw
            (cond1_spec (E1 m) fun c => ctr1_entry _)
          :: segsOf _ _ _ _ _ _ _ _ Rw postI hpost (fun c => after cond1 (A1 m 64 c)))

theorem runSegs_prog : (runSegs m).map CSeg.prog
    = (preI.map fun ops => (seq ops : Prog _ PUnit)) ++ HostLoop.enter 0 :: ((midI.map fun ops => (seq ops : Prog _ PUnit))
      ++ HostLoop.enter 1 :: postI.map fun ops => (seq ops : Prog _ PUnit)) := by
  unfold runSegs
  rw [List.map_append, List.map_cons, List.map_append, List.map_cons, segsOf_prog, segsOf_prog, segsOf_prog]
  rfl

theorem runSegs_chains :
    CSeg.Chains (fun c => iprop(held (c : Thread nD τ) (ucRefs τ sig) (launchContents m c) ∗ Rw c)) (runSegs m)
      (fun c => iprop(iprop(held (c : Thread nD τ) (ucRefs τ sig) (final m c)) ∗ ∃ W, owes (c : Thread nD τ) (0 : CellTallies nD τ sig Unit) W)) := by
  unfold runSegs
  exact CSeg.Chains.append (segsOf_chains _ _ _ _ _ _ _ _ Rw preI hpre _) ⟨fun _ => .rfl,
    CSeg.Chains.append (segsOf_chains _ _ _ _ _ _ _ _ Rw midI hmid _) ⟨fun _ => .rfl, segsOf_chains _ _ _ _ _ _ _ _ Rw postI hpost _⟩⟩

set_option maxRecDepth 100000 in
/-- The reference runs, its buffers end at `final`, and its semaphores at zero. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none L lv loops tk m ρ main (runSegs m)
    (fun c Q => by
      rw [main_chain c]
      show wp _ _ _ (Pipeline.chain ((runSegs m).map CSeg.prog)) Q ⊢ _
      rw [runSegs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (final m c)))
    (hch := runSegs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h => ⟨fun c b hb => h c _ (devRef_mem_ucRefs b hb), sem_eq_zero_of_no_sems rfl s⟩)

end Cert.ReferenceIdeal.Ref

end
-- ==== Proof.Frames.lean ====
/-
  The frames of the three programs and the rewrites that `preserves` states.
-/
module

public import proofs.«01_k».proof.Defs
public import proofs.«01_k».proof.Proof.Gen.Kernel
public import proofs.«01_k».proof.Proof.Gen.Pre_finite
public import proofs.«01_k».proof.Proof.Reads
public import proofs.«01_k».proof.Proof.Ref.Run

@[expose] public section

noncomputable section

namespace Cert.Proof

open Idealize.ShloMosaic Idealize.ShloMosaic.TcCoe Idealize.ShloMosaic.Tactic Idealize.SL.Sem

/-- At bit patterns the named constant is the pattern itself: the idealized text read so is the kernel's. -/
@[reducible] instance bitsNamed : Named Bits where
  named _ _ {φ} b := FloatOps.ofBits (F := Bits) φ b

/-- The kernel's @main is the idealized text's at bit patterns. -/
theorem main_eq : (Cert.Kernel.main (F := Bits) : _) = (Cert.KernelIdeal.main (F := Bits) : _) := by sl_kernel_rfl
/-- Its body table likewise. -/
theorem defs_eq : (Cert.Kernel.defs (F := Bits) : _) = (Cert.KernelIdeal.defs (F := Bits) : _) := by sl_kernel_rfl

/-- The kernel runs, its arguments unchanged and its semaphores at zero. -/
theorem quiescent_kernel : Cert.quiescent_Kernel := by
  intro m g _
  rw [main_eq, defs_eq]
  exact (θ_run (Cert.KernelIdeal.defs (F := Bits)) _ _).mono (fun r h => ⟨fun c => (h.1 c).2, h.2⟩)
    (Cert.KernelIdeal.Launch.run_results (F := Bits) m g)

/-- The idealized kernel runs, its arguments unchanged and its semaphores at zero. -/
theorem quiescent_kernelIdeal : Cert.quiescent_KernelIdeal := fun m g _ =>
  (θ_run Cert.KernelIdeal.defs _ _).mono (fun r h => ⟨fun c => (h.1 c).2, h.2⟩) (Cert.KernelIdeal.Launch.run_results (F := Ideal) m g)
/-- The same under the precondition. -/
theorem quiescent_kernelIdeal_pre : Cert.quiescent_KernelIdeal_pre_finite := fun m g _ =>
  (θ_run Cert.KernelIdeal.defs _ _).mono (fun r h => ⟨fun c => (h.1 c).2, h.2⟩) (Cert.KernelIdeal.Launch.run_results (F := Ideal) m g)

section Reference

open Cert.ReferenceIdeal Cert.ReferenceIdeal.Ref Idealize.ShloMosaic.StableHlo

variable {F : FTy → Type} [FloatOps F]

/-- The references no stretch of the reference writes. -/
theorem final_keep (m : (ℓ : Loc nD τ sig) → Buf (Elt F) ℓ) (c : Dev nD) (b : Ref sig .tc)
    (h : b ∈ [main_arg0, main_arg1, main_arg2]) : final m c (Proc.devRef .tc b) = m (c, Proc.devRef .tc b) := by
  obtain ⟨h1, h2, h3, h4, h5, h6, h7⟩ : b ∉ [hostOps0_W, hostOps0_1_W].flatten ∧ b ∉ body0_Ws.flatten ∧ b ∉ cond0_W ∧ b ∉ [hostOps0_2_W].flatten
      ∧ b ∉ body1_Ws.flatten ∧ b ∉ cond1_W ∧ b ∉ [hostOps0_3_W].flatten := by
    revert h b
    decide +kernel
  have trips0 : ∀ k, A0 m k c (Proc.devRef .tc b) = m (c, Proc.devRef .tc b) := by
    intro k
    induction k with
    | zero => exact afterL_keep pre_writes h1 _
    | succ k ih =>
      rw [show A0 m (k + 1) c = afterL body0 (after cond0 (A0 m k c)) from rfl, afterL_keep body0_writes h2,
        after_of_writes_sub cond0 _ cond0_writes h3, ih]
  have trips1 : ∀ k, A1 m k c (Proc.devRef .tc b) = m (c, Proc.devRef .tc b) := by
    intro k
    induction k with
    | zero =>
      rw [show A1 m 0 c = afterL midI (after cond0 (A0 m 64 c)) from rfl, afterL_keep mid_writes h4,
        after_of_writes_sub cond0 _ cond0_writes h3, trips0]
    | succ k ih =>
      rw [show A1 m (k + 1) c = afterL body1 (after cond1 (A1 m k c)) from rfl, afterL_keep body1_writes h5,
        after_of_writes_sub cond1 _ cond1_writes h6, ih]
  rw [show final m c = afterL postI (after cond1 (A1 m 64 c)) from rfl, afterL_keep post_writes h7, after_of_writes_sub cond1 _ cond1_writes h6, trips1]

/-- The reference runs, its arguments unchanged, its other buffers at `final`, its semaphores at zero. -/
theorem run_reference (m : (ℓ : Loc nD τ sig) → Buf (Elt F) ℓ) (g : Dev nD → PrngReg) :
    θ_run (defs (F := F)) (onTc (τ := τ) (main (F := F))) ⟨m, fun _ => 0, g⟩ (fun r =>
      (∀ c : Dev nD,
        (∀ b : Ref sig .tc, (Proc.devRef .tc b : DevRef τ sig).isScoped = false → r.2.mem ((c.tc : Thread nD τ).loc b) = final m c (Proc.devRef .tc b))
        ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)))
      ∧ r.2.sem = fun _ => 0) :=
  (θ_run defs _ _).mono (fun r h => ⟨fun c => ⟨h.1 c,
    (h.1 c main_arg0 rfl).trans (final_keep m c main_arg0 (by decide)),
    (h.1 c main_arg1 rfl).trans (final_keep m c main_arg1 (by decide)),
    (h.1 c main_arg2 rfl).trans (final_keep m c main_arg2 (by decide))⟩, h.2⟩) (run_main m g)

end Reference

/-- The reference runs, its arguments unchanged and its semaphores at zero. -/
theorem quiescent_reference : Cert.quiescent_ReferenceIdeal := fun m g _ =>
  (θ_run Cert.ReferenceIdeal.defs _ _).mono (fun r h => ⟨fun c => (h.1 c).2, h.2⟩) (run_reference (F := Ideal) m g)
/-- The same under the precondition. -/
theorem quiescent_reference_pre : Cert.quiescent_ReferenceIdeal_pre_finite := fun m g _ =>
  (θ_run Cert.ReferenceIdeal.defs _ _).mono (fun r h => ⟨fun c => (h.1 c).2, h.2⟩) (run_reference (F := Ideal) m g)

/-- The named constant is what the table says, at both formats the kernel writes it in. -/
theorem preserves : Cert.preserves_Kernel_KernelIdeal :=
  ⟨IdealRules.named_const.statement Cert.KernelIdeal.κ "scale" .bf16 0x3DB5#16 ((11863283 / 134217728 : ℝ) : EReal) rfl,
    IdealRules.named_const.statement Cert.KernelIdeal.κ "scale" .f32 0x3DB504F3#32 ((11863283 / 134217728 : ℝ) : EReal) rfl⟩

end Cert.Proof

end
-- ==== Proof.Block.lean ====
/-
  What the two kernel bodies compute of one chunk of one head, as functions of the values they read: the state, the
  output, the four gradients and the carried cotangent. The bodies apply these 32 times, once per head and chunk.
-/
module

public import proofs.«01_k».proof.Proof.Gen.KernelIdeal

@[expose] public section

noncomputable section

namespace Cert.KernelIdeal.Block

open Cert.KernelIdeal.Gen
open Idealize.ShloMosaic

variable {F : FTy → Type} [FloatOps F] [Named F]

/-! ## A product with an exact operand: the other operand split into three bf16 parts -/

/-- The leading bf16 part of `x`. -/
def hi {s : Shape} (x : FVec F s .f32) : FVec F s .bf16 := truncf .bf16 x bitsLt_bf16_f32
/-- What the leading part leaves. -/
def rest {s : Shape} (x : FVec F s .f32) : FVec F s .f32 := subf x (extf .f32 (hi x) bitsLt_bf16_f32)
/-- The matrix `tri[r, c] = 1` where `c ≤ r`. -/
def tri : FVec F S64x64 .bf16 :=
  truncf .bf16 (sitofp .f32 (extui 32 (cmpi .sge (iota .tc S64x64 32 [0] iota_S64x64_d0_w32) (iota .tc S64x64 32 [1] iota_S64x64_d1_w32)) natLt_1_32)) bitsLt_bf16_f32
/-- Its transpose. -/
def triT : FVec F S64x64 .bf16 :=
  truncf .bf16 (sitofp .f32 (extui 32 (cmpi .sge (iota .tc S64x64 32 [1] iota_S64x64_d1_w32) (iota .tc S64x64 32 [0] iota_S64x64_d0_w32)) natLt_1_32)) bitsLt_bf16_f32
/-- `M · x` for a 0/1 matrix `M` over a chunk's rows. -/
def rowsDot (M : FVec F S64x64 .bf16) (x : FVec F S64x128 .f32) : FVec F S64x128 .f32 :=
  addf (addf (matmul dot_S64x64_S64x128_S64x128_1_0_0_1_n_n none M (hi (rest (rest x))) (constant S64x128 .f32 0x00000000#32))
    (matmul dot_S64x64_S64x128_S64x128_1_0_0_1_n_n none M (hi (rest x)) (constant S64x128 .f32 0x00000000#32)))
    (matmul dot_S64x64_S64x128_S64x128_1_0_0_1_n_n none M (hi x) (constant S64x128 .f32 0x00000000#32))
/-- `xᵀ · 1`: a column's sum over the chunk, at every one of 256 columns. -/
def colsDot (x : FVec F S64x128 .f32) : FVec F S128x256 .f32 :=
  addf (addf (matmul dot_S64x128_S64x256_S128x256_0_0_1_1_n_n none (hi (rest (rest x))) (broadcast S64x256 (Scalar.ofBits .bf16 0x3F80#16)) (constant S128x256 .f32 0x00000000#32))
    (matmul dot_S64x128_S64x256_S128x256_0_0_1_1_n_n none (hi (rest x)) (broadcast S64x256 (Scalar.ofBits .bf16 0x3F80#16)) (constant S128x256 .f32 0x00000000#32)))
    (matmul dot_S64x128_S64x256_S128x256_0_0_1_1_n_n none (hi x) (broadcast S64x256 (Scalar.ofBits .bf16 0x3F80#16)) (constant S128x256 .f32 0x00000000#32))
/-- `1 · xᵀ`: a state row's sum, at every one of 8 rows. -/
def sumDot (x : FVec F S128x256 .f32) : FVec F S8x128 .f32 :=
  addf (addf (matmul dot_S8x256_S128x256_S8x128_1_1_0_0_n_n none (broadcast S8x256 (Scalar.ofBits .bf16 0x3F80#16)) (hi (rest (rest x))) (constant S8x128 .f32 0x00000000#32))
    (matmul dot_S8x256_S128x256_S8x128_1_1_0_0_n_n none (broadcast S8x256 (Scalar.ofBits .bf16 0x3F80#16)) (hi (rest x)) (constant S8x128 .f32 0x00000000#32)))
    (matmul dot_S8x256_S128x256_S8x128_1_1_0_0_n_n none (broadcast S8x256 (Scalar.ofBits .bf16 0x3F80#16)) (hi x) (constant S8x128 .f32 0x00000000#32))

/-! ## The chunk's decays and the forward step -/

/-- The running sums of the log decays. -/
def cum (a : FVec F S64x128 .f32) : FVec F S64x128 .f32 := rowsDot tri a
/-- The decay from each row to the chunk's end. -/
def toEnd (a : FVec F S64x128 .f32) : FVec F S64x128 .f32 :=
  exp (subf (broadcastTo S64x128 (extractStridedSlice S1x128 ![63, 0] (cum a) slices_S64x128_o63_0_S1x128) broadcasts_S1x128_S64x128) (cum a))
/-- The decay across the chunk, at every one of the state's columns. -/
def dec (a : FVec F S64x128 .f32) : FVec F S128x256 .f32 := exp (colsDot a)
/-- The keys decayed to the chunk's end. -/
def kd (a : FVec F S64x128 .f32) (k : FVec F S64x128 .bf16) : FVec F S64x128 .f32 := mulf (extf .f32 k bitsLt_bf16_f32) (toEnd a)
/-- The state after the chunk. -/
def st (s : FVec F S128x256 .f32) (a : FVec F S64x128 .f32) (k : FVec F S64x128 .bf16) (v : FVec F S64x256 .bf16) : FVec F S128x256 .f32 :=
  addf (mulf (dec a) s) (matmul dot_S64x128_S64x256_S128x256_0_0_1_1_n_n none (truncf .bf16 (kd a k) bitsLt_bf16_f32) v (constant S128x256 .f32 0x00000000#32))
/-- The queries scaled. -/
def qs (q : FVec F S64x128 .bf16) : FVec F S64x128 .bf16 := mulf q (broadcast S64x128 (Named.named κ "scale" 0x3DB5#16))
/-- The chunk's output. -/
def out (s : FVec F S128x256 .f32) (q : FVec F S64x128 .bf16) : FVec F S64x256 .bf16 :=
  truncf .bf16 (matmul dot_S64x128_S128x256_S64x256_1_0_0_1_n_n none (qs q) (truncf .bf16 s bitsLt_bf16_f32) (constant S64x256 .f32 0x00000000#32)) bitsLt_bf16_f32

/-! ## The backward step -/

/-- The state's cotangent: the carried one and the output's share. -/
def ds (ca : FVec F S128x256 .f32) (q : FVec F S64x128 .bf16) (g : FVec F S64x256 .bf16) : FVec F S128x256 .f32 :=
  addf ca (matmul dot_S64x128_S64x256_S128x256_0_0_1_1_n_n none (qs q) g (constant S128x256 .f32 0x00000000#32))
/-- The queries' gradient. -/
def dq (g : FVec F S64x256 .bf16) (s : FVec F S128x256 .f32) : FVec F S64x128 .bf16 :=
  truncf .bf16 (mulf (matmul dot_S64x256_S128x256_S64x128_1_1_0_0_n_n none g (truncf .bf16 s bitsLt_bf16_f32) (constant S64x128 .f32 0x00000000#32))
    (broadcast S64x128 (Named.named κ "scale" 0x3DB504F3#32))) bitsLt_bf16_f32
/-- The decayed keys' cotangent. -/
def dkd (v : FVec F S64x256 .bf16) (d : FVec F S128x256 .f32) : FVec F S64x128 .f32 :=
  matmul dot_S64x256_S128x256_S64x128_1_1_0_0_n_n none v (truncf .bf16 d bitsLt_bf16_f32) (constant S64x128 .f32 0x00000000#32)
/-- The values' gradient. -/
def dv (a : FVec F S64x128 .f32) (k : FVec F S64x128 .bf16) (d : FVec F S128x256 .f32) : FVec F S64x256 .bf16 :=
  truncf .bf16 (matmul dot_S64x128_S128x256_S64x256_1_0_0_1_n_n none (truncf .bf16 (kd a k) bitsLt_bf16_f32) (truncf .bf16 d bitsLt_bf16_f32)
    (constant S64x256 .f32 0x00000000#32)) bitsLt_bf16_f32
/-- The keys' gradient. -/
def dk (a : FVec F S64x128 .f32) (v : FVec F S64x256 .bf16) (d : FVec F S128x256 .f32) : FVec F S64x128 .bf16 :=
  truncf .bf16 (mulf (dkd v d) (toEnd a)) bitsLt_bf16_f32
/-- The cotangent of the decay's exponent, row by row. -/
def darg (a : FVec F S64x128 .f32) (k : FVec F S64x128 .bf16) (v : FVec F S64x256 .bf16) (d : FVec F S128x256 .f32) : FVec F S64x128 .f32 :=
  mulf (dkd v d) (kd a k)
/-- The cotangent of the running sum at the chunk's end. -/
def dce (a : FVec F S64x128 .f32) (k : FVec F S64x128 .bf16) (v : FVec F S64x256 .bf16) (d b : FVec F S128x256 .f32) : FVec F S1x128 .f32 :=
  addf (extractStridedSlice S1x128 ![0, 0] (sumDot (mulf (mulf d b) (dec a))) slices_S8x128_o0_0_S1x128)
    (shapeCast S1x128 (multiReduction .add [0] S128 (darg a k v d) 0x00000000#32 reduces_S64x128_S128 (.inl rfl) rfl) shapeCasts_S128_S1x128)
/-- 1 at the chunk's last row, 0 elsewhere. -/
def last : FVec F S64x1 .f32 :=
  sitofp .f32 (extui 32 (cmpi .eq (iota .tc S64x1 32 [0] iota_S64x1_d0_w32) (broadcast S64x1 63#32)) natLt_1_32)
/-- The log decays' gradient. -/
def da (a : FVec F S64x128 .f32) (k : FVec F S64x128 .bf16) (v : FVec F S64x256 .bf16) (d b : FVec F S128x256 .f32) : FVec F S64x128 .f32 :=
  rowsDot triT (subf (mulf (broadcastTo S64x128 last broadcasts_S64x1_S64x128) (broadcastTo S64x128 (dce a k v d b) broadcasts_S1x128_S64x128)) (darg a k v d))
/-- The cotangent carried to the chunk before. -/
def carry (a : FVec F S64x128 .f32) (d : FVec F S128x256 .f32) : FVec F S128x256 .f32 := mulf (dec a) d

end Cert.KernelIdeal.Block

end
-- ==== Proof.Model.lean ====
/-
  The mathematics of one head over the real numbers, chunk by chunk: the decays, the state, the outputs and the gradients.
  A chunk's rows are numbered 0 to 63, the state's rows 0 to 127 and its columns 0 to 255.
-/
module

public import Idealize.ShloMosaic.Lib.Pointwise

@[expose] public section

noncomputable section

namespace Cert.Model

open Idealize.ShloMosaic

/-- A real matrix given by its entries. -/
abbrev Mat := ℕ → ℕ → ℝ

/-! ## One chunk -/

/-- The running sum of the log decays up to row `r`. -/
def cum (a : Mat) : Mat := fun r x => ∑ c ∈ Finset.range 64, if c ≤ r then a c x else 0
/-- The decay from row `r` to the chunk's end. -/
def toEnd (a : Mat) : Mat := fun r x => Real.exp (cum a 63 x - cum a r x)
/-- The decay across the chunk. -/
def dec (a : Mat) : ℕ → ℝ := fun x => Real.exp (cum a 63 x)
/-- The keys decayed to the chunk's end. -/
def kd (a k : Mat) : Mat := fun r x => k r x * toEnd a r x
/-- The state after the chunk. -/
def st (s a k v : Mat) : Mat := fun x y => dec a x * s x y + ∑ r ∈ Finset.range 64, kd a k r x * v r y
/-- The outputs: the scaled queries against the state after the chunk. -/
def out (σ : ℝ) (s q : Mat) : Mat := fun r y => ∑ x ∈ Finset.range 128, q r x * σ * s x y
/-- The state's cotangent. -/
def ds (σ : ℝ) (ca q g : Mat) : Mat := fun x y => ca x y + ∑ r ∈ Finset.range 64, q r x * σ * g r y
/-- The queries' gradient. -/
def dq (σ : ℝ) (g s : Mat) : Mat := fun r x => (∑ y ∈ Finset.range 256, g r y * s x y) * σ
/-- The decayed keys' cotangent. -/
def dkd (v d : Mat) : Mat := fun r x => ∑ y ∈ Finset.range 256, v r y * d x y
/-- The values' gradient. -/
def dv (a k d : Mat) : Mat := fun r y => ∑ x ∈ Finset.range 128, kd a k r x * d x y
/-- The keys' gradient. -/
def dk (a v d : Mat) : Mat := fun r x => dkd v d r x * toEnd a r x
/-- The cotangent of the decay's exponent at row `r`. -/
def darg (a k v d : Mat) : Mat := fun r x => dkd v d r x * kd a k r x
/-- The cotangent of the running sum at the chunk's end; `b` is the state before the chunk. -/
def dce (a k v d b : Mat) : ℕ → ℝ := fun x =>
  (∑ y ∈ Finset.range 256, d x y * b x y * dec a x) + ∑ r ∈ Finset.range 64, darg a k v d r x
/-- The log decays' gradient. -/
def da (a k v d b : Mat) : Mat := fun r x =>
  ∑ c ∈ Finset.range 64, if r ≤ c then (if c = 63 then dce a k v d b x else 0) - darg a k v d c x else 0
/-- The cotangent carried to the chunk before. -/
def carry (a d : Mat) : Mat := fun x y => dec a x * d x y

/-! ## The chunks in order -/

/-- The state after `n` chunks. -/
def state (a k v : ℕ → Mat) : ℕ → Mat
  | 0 => fun _ _ => 0
  | n + 1 => st (state a k v n) (a n) (k n) (v n)

/-- The cotangent carried into the `n`-th chunk met, the chunks being met last first. -/
def carried (σ : ℝ) (a q g : ℕ → Mat) : ℕ → Mat
  | 0 => fun _ _ => 0
  | n + 1 => carry (a (63 - n)) (ds σ (carried σ a q g n) (q (63 - n)) (g (63 - n)))

/-- The value of the queries' scale. -/
def scale : ℝ := 11863283 / 2 ^ 27

/-! ## The results, of the three arguments: queries, keys and values `p`, log decays `a`, the output's cotangent `g` -/

/-- Chunk `n` of head `h` of an array, a head taking `w` columns and the first one's starting at column `o`. -/
def chunk (o w : ℕ) (f : Mat) (h n : ℕ) : Mat := fun r x => f (64 * n + r) (o + (w * h + x))
/-- The array whose chunk `n` of head `h` is `f h n`, a head taking `w` columns. -/
def rows (w : ℕ) (f : ℕ → ℕ → Mat) : Mat := fun r c => f (c / w) (r / 64) (r % 64) (c % w)

variable (p a g : Mat)

/-- The queries. -/
abbrev Q : ℕ → ℕ → Mat := chunk 0 128 p
/-- The keys. -/
abbrev K : ℕ → ℕ → Mat := chunk 512 128 p
/-- The values. -/
abbrev V : ℕ → ℕ → Mat := chunk 1024 256 p
/-- The log decays. -/
abbrev A : ℕ → ℕ → Mat := chunk 0 128 a
/-- The output's cotangent. -/
abbrev G : ℕ → ℕ → Mat := chunk 0 256 g
/-- The state before chunk `n` of head `h`. -/
def S (h : ℕ) : ℕ → Mat := state (A a h) (K p h) (V p h)
/-- The cotangent carried into head `h`'s `j`-th chunk met, last first. -/
def C (h : ℕ) : ℕ → Mat := carried scale (A a h) (Q p h) (G g h)
/-- The cotangent of the state after chunk `n`. -/
def D (h n : ℕ) : Mat := ds scale (C p a g h (63 - n)) (Q p h n) (G g h n)
/-- The output. -/
def resO (h n : ℕ) : Mat := out scale (S p a h (n + 1)) (Q p h n)
/-- The queries' gradient. -/
def resQ (h n : ℕ) : Mat := dq scale (G g h n) (S p a h (n + 1))
/-- The keys' gradient. -/
def resK (h n : ℕ) : Mat := dk (A a h n) (V p h n) (D p a g h n)
/-- The values' gradient. -/
def resV (h n : ℕ) : Mat := dv (A a h n) (K p h n) (D p a g h n)
/-- The log decays' gradient. -/
def resA (h n : ℕ) : Mat := da (A a h n) (K p h n) (V p h n) (D p a g h n) (S p a h n)

/-! ## Finite extended reals -/

/-- A finite sum of real numbers, taken in the extended reals. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The matrix of real entries `f` as a vector of extended reals. -/
def mat {n m : ℕ} {φ : FTy} (f : Mat) : FVec Ideal (⟨2, ![n, m]⟩ : Shape) φ := fun i => ((f (i 0).val (i 1).val : ℝ) : EReal)

end Cert.Model

end
-- ==== Proof.Real.lean ====
/-
  The functions of one chunk (Block.lean) at finite arguments, over the extended reals: each is the real function of the
  same name. The three parts an operand is split into are the operand itself and zeros, rounding being the identity here.
-/
module

public import proofs.«01_k».proof.Proof.Block
public import proofs.«01_k».proof.Proof.Model

@[expose] public section

set_option maxRecDepth 16384

noncomputable section

namespace Cert.KernelIdeal.Block

open Cert.KernelIdeal.Gen
open Idealize.ShloMosaic
open Cert.Model (mat Mat coe_sum)

/-- The leading part of a number is the number itself over the reals. -/
theorem hi_mat {n m : ℕ} (f : Mat) : hi (mat f : FVec Ideal (⟨2, ![n, m]⟩ : Shape) .f32) = mat f := rfl

/-- What is left after the leading part is zero over the reals. -/
theorem rest_mat {n m : ℕ} (f : Mat) : rest (mat f : FVec Ideal (⟨2, ![n, m]⟩ : Shape) .f32) = mat (fun _ _ => 0) := by
  funext i
  show ((f _ _ : ℝ) : EReal) - ((f _ _ : ℝ) : EReal) = ((0 : ℝ) : EReal)
  rw [← EReal.coe_sub, sub_self]

/-- A bit as a number. -/
theorem bit_real (p : Prop) [Decidable p] {b : BitVec 32} (h : b = if p then 1#32 else 0#32) :
    ((b.toInt : ℝ) : EReal) = (((if p then 1 else 0) : ℝ) : EReal) := by
  subst h
  by_cases h : p <;> simp [h]

/-- The comparison of two row numbers, as a bit. -/
theorem sge_bit : ∀ i j : Fin 64, BitVec.setWidth 32 (IntOp.cmpi .sge (BitVec.ofNat 32 i) (BitVec.ofNat 32 j)) = if j.val ≤ i.val then 1#32 else 0#32 := by
  decide +kernel

/-- The equality of two row numbers, as a bit. -/
theorem eq_bit : ∀ i : Fin 64, BitVec.setWidth 32 (IntOp.cmpi .eq (BitVec.ofNat 32 i) 63#32) = if i.val = 63 then 1#32 else 0#32 := by
  decide +kernel

/-- The lower triangle of ones. -/
theorem tri_eq : (tri : FVec Ideal S64x64 .bf16) = mat (fun r c => if c ≤ r then 1 else 0) := by
  funext i
  idx_vars i
  pointwise [tri, mat]
  exact bit_real _ (sge_bit _ _)

/-- The upper triangle of ones. -/
theorem triT_eq : (triT : FVec Ideal S64x64 .bf16) = mat (fun r c => if r ≤ c then 1 else 0) := by
  funext i
  idx_vars i
  pointwise [triT, mat]
  exact bit_real _ (sge_bit _ _)

/-- The column that is one at the last row. -/
theorem last_eq : (last : FVec Ideal S64x1 .f32) = mat (fun r _ => if r = 63 then 1 else 0) := by
  funext i
  idx_vars i
  pointwise [last, mat]
  exact bit_real _ (eq_bit _)

/-- A product with a matrix of zeros and ones, over the rows. -/
theorem rowsDot_mat (M x : Mat) : rowsDot (mat M) (mat x) = mat (fun r y => ∑ c ∈ Finset.range 64, M r c * x c y) := by
  rw [rowsDot]
  simp only [rest_mat, hi_mat]
  funext i
  idx_vars i
  pointwise [mat]
  simp only [← EReal.coe_mul, coe_sum, ← EReal.coe_add, Finset.sum_range]
  simp

/-- The column sums, at every column. -/
theorem colsDot_mat (x : Mat) : colsDot (mat x) = mat (fun r _ => ∑ c ∈ Finset.range 64, x c r) := by
  rw [colsDot]
  simp only [rest_mat, hi_mat]
  funext i
  idx_vars i
  pointwise [mat]
  simp only [← EReal.coe_mul, coe_sum, ← EReal.coe_add, Finset.sum_range]
  simp

/-- The row sums, at every row. -/
theorem sumDot_mat (x : Mat) : sumDot (mat x) = mat (fun _ r => ∑ c ∈ Finset.range 256, x r c) := by
  rw [sumDot]
  simp only [rest_mat, hi_mat]
  funext i
  idx_vars i
  pointwise [mat]
  simp only [← EReal.coe_mul, coe_sum, ← EReal.coe_add, Finset.sum_range]
  simp

/-- The running sums. -/
theorem cum_mat (a : Mat) : cum (mat a) = mat (Model.cum a) := by
  rw [cum, tri_eq, rowsDot_mat]
  simp only [ite_mul, one_mul, zero_mul]
  rfl

/-- The decays to the chunk's end. -/
theorem toEnd_mat (a : Mat) : toEnd (mat a) = mat (Model.toEnd a) := by
  rw [toEnd, cum_mat]
  funext i
  idx_vars i
  pointwise [mat]
  rw [← EReal.coe_sub]
  rfl

/-- The decay across the chunk. -/
theorem dec_mat (a : Mat) : dec (mat a) = mat (fun x _ => Model.dec a x) := by
  rw [dec, colsDot_mat]
  funext i
  idx_vars i
  pointwise [mat]
  rw [Ideal.exp_coe, Model.dec, Model.cum, Finset.sum_congr rfl fun c hc => if_pos (Nat.le_of_lt_succ (Finset.mem_range.mp hc))]

/-- The decayed keys. -/
theorem kd_mat (a k : Mat) : kd (mat a) (mat k) = mat (Model.kd a k) := by
  rw [kd, toEnd_mat]
  funext i
  exact (EReal.coe_mul _ _).symm

/-- The state after the chunk. -/
theorem st_mat (s a k v : Mat) : st (mat s) (mat a) (mat k) (mat v) = mat (Model.st s a k v) := by
  rw [st, kd_mat, dec_mat]
  funext i
  idx_vars i
  pointwise [mat]
  simp only [← EReal.coe_mul, coe_sum, ← EReal.coe_add, Finset.sum_range, Model.st]

/-- The scale named in bf16. -/
theorem scale_bf16 : (Named.named κ "scale" 0x3DB5#16 : Ideal .bf16) = ((Model.scale : ℝ) : EReal) := by
  refine (IdealRules.named_const.ideal_named_scalar _ _ _ _ rfl).trans ?_
  norm_num [Model.scale]

/-- The scale named in f32. -/
theorem scale_f32 : (Named.named κ "scale" 0x3DB504F3#32 : Ideal .f32) = ((Model.scale : ℝ) : EReal) := by
  refine (IdealRules.named_const.ideal_named_scalar _ _ _ _ rfl).trans ?_
  norm_num [Model.scale]

/-- The scaled queries. -/
theorem qs_mat (q : Mat) : qs (mat q) = mat (fun r x => q r x * Model.scale) := by
  funext i
  show ((q _ _ : ℝ) : EReal) * (Named.named κ "scale" 0x3DB5#16 : Ideal .bf16) = _
  rw [scale_bf16, ← EReal.coe_mul]
  rfl

/-- The outputs. -/
theorem out_mat (s q : Mat) : out (mat s) (mat q) = mat (Model.out Model.scale s q) := by
  rw [out, qs_mat]
  funext i
  idx_vars i
  pointwise [mat]
  simp only [← EReal.coe_mul, coe_sum, Finset.sum_range, Model.out]

/-- The state's cotangent. -/
theorem ds_mat (ca q g : Mat) : ds (mat ca) (mat q) (mat g) = mat (Model.ds Model.scale ca q g) := by
  rw [ds, qs_mat]
  funext i
  idx_vars i
  pointwise [mat]
  simp only [← EReal.coe_mul, coe_sum, ← EReal.coe_add, Finset.sum_range, Model.ds]

/-- The queries' gradient. -/
theorem dq_mat (g s : Mat) : dq (mat g) (mat s) = mat (Model.dq Model.scale g s) := by
  rw [dq]
  funext i
  idx_vars i
  pointwise [mat]
  rw [scale_f32]
  simp only [← EReal.coe_mul, coe_sum, Finset.sum_range, Model.dq]

/-- The decayed keys' cotangent. -/
theorem dkd_mat (v d : Mat) : dkd (mat v) (mat d) = mat (Model.dkd v d) := by
  rw [dkd]
  funext i
  idx_vars i
  pointwise [mat]
  simp only [← EReal.coe_mul, coe_sum, Finset.sum_range, Model.dkd]

/-- The values' gradient. -/
theorem dv_mat (a k d : Mat) : dv (mat a) (mat k) (mat d) = mat (Model.dv a k d) := by
  rw [dv, kd_mat]
  funext i
  idx_vars i
  pointwise [mat]
  simp only [← EReal.coe_mul, coe_sum, Finset.sum_range, Model.dv]

/-- The keys' gradient. -/
theorem dk_mat (a v d : Mat) : dk (mat a) (mat v) (mat d) = mat (Model.dk a v d) := by
  rw [dk, dkd_mat, toEnd_mat]
  funext i
  exact (EReal.coe_mul _ _).symm

/-- The cotangent of the decays' exponents. -/
theorem darg_mat (a k v d : Mat) : darg (mat a) (mat k) (mat v) (mat d) = mat (Model.darg a k v d) := by
  rw [darg, dkd_mat, kd_mat]
  funext i
  exact (EReal.coe_mul _ _).symm

/-- A product entry by entry. -/
theorem mulf_mat {n m : ℕ} (f g : Mat) :
    (mulf (mat f) (mat g) : FVec Ideal (⟨2, ![n, m]⟩ : Shape) .f32) = mat (fun r c => f r c * g r c) := by
  funext i
  exact (EReal.coe_mul _ _).symm

/-- The cotangent at the chunk's end. -/
theorem dce_mat (a k v d b : Mat) : dce (mat a) (mat k) (mat v) (mat d) (mat b) = mat (fun _ x => Model.dce a k v d b x) := by
  rw [dce, darg_mat, dec_mat, mulf_mat, mulf_mat, sumDot_mat]
  funext i
  idx_vars i
  pointwise [mat]
  simp only [coe_sum, ← EReal.coe_add, Finset.sum_range, Model.dce]

/-- The log decays' gradient. -/
theorem da_mat (a k v d b : Mat) : da (mat a) (mat k) (mat v) (mat d) (mat b) = mat (Model.da a k v d b) := by
  rw [da, triT_eq, dce_mat, darg_mat, last_eq, show subf (F := Ideal) (mulf (broadcastTo S64x128 (mat (φ := .f32) fun r _ => if r = 63 then 1 else 0) broadcasts_S64x1_S64x128)
      (broadcastTo S64x128 (mat fun _ x => Model.dce a k v d b x) broadcasts_S1x128_S64x128)) (mat (Model.darg a k v d))
      = mat (fun c x => (if c = 63 then Model.dce a k v d b x else 0) - Model.darg a k v d c x) from ?_, rowsDot_mat]
  · simp only [ite_mul, one_mul, zero_mul]
    rfl
  · funext i
    idx_vars i
    pointwise [mat]
    simp only [← EReal.coe_mul, ← EReal.coe_sub, ite_mul, one_mul, zero_mul]

/-- The carried cotangent. -/
theorem carry_mat (a d : Mat) : carry (mat a) (mat d) = mat (Model.carry a d) := by
  rw [carry, dec_mat]
  funext i
  exact (EReal.coe_mul _ _).symm

end Cert.KernelIdeal.Block

end
-- ==== Proof.Tiles.lean ====
/-
  The rectangles the two bodies read and write: chunk `n` (of 8) of head `h` (of 4) in a block, and the loads from them.
-/
module

public import proofs.«01_k».proof.Proof.Block
public import Idealize.ShloMosaic.Lib.Pipeline.Frame
public import Idealize.ShloMosaic.Lib.WholeRead
public import Idealize.ShloMosaic.Lib.Pipeline.ReadBack

@[expose] public section

noncomputable section

namespace Cert.KernelIdeal.Tiles

open Cert.KernelIdeal.Gen Cert.KernelIdeal.Block
open Idealize.ShloMosaic

variable {F : FTy → Type} [FloatOps F] [Named F]

/-- The rows of chunk `n` and the 128 columns of head `h`. -/
abbrev rK (h n : ℕ) : Rect S512x512 := Rect.unit ![64 * (n % 8), 128 * (h % 4)] S64x128.size (by
  intro a; fin_cases a
  · show 64 * (n % 8) + 64 ≤ 512; omega
  · show 128 * (h % 4) + 128 ≤ 512; omega)
/-- The rows of chunk `n` and the 256 columns of head `h`. -/
abbrev rV (h n : ℕ) : Rect S512x1024 := Rect.unit ![64 * (n % 8), 256 * (h % 4)] S64x256.size (by
  intro a; fin_cases a
  · show 64 * (n % 8) + 64 ≤ 512; omega
  · show 256 * (h % 4) + 256 ≤ 1024; omega)
/-- The state of chunk `n` and head `h`. -/
abbrev rS (h n : ℕ) : Rect S8x4x128x256 := Rect.unit ![n % 8, h % 4, 0, 0] S1x1x128x256.size (by
  intro a; fin_cases a
  · show n % 8 + 1 ≤ 8; omega
  · show h % 4 + 1 ≤ 4; omega
  · show 0 + 128 ≤ 128; omega
  · show 0 + 256 ≤ 256; omega)
/-- The carried state of head `h`. -/
abbrev rC (h : ℕ) : Rect S4x128x256 := Rect.unit ![h % 4, 0, 0] S1x128x256.size (by
  intro a; fin_cases a
  · show h % 4 + 1 ≤ 4; omega
  · show 0 + 128 ≤ 128; omega
  · show 0 + 256 ≤ 256; omega)
/-- The state before the block, of head `h`. -/
abbrev rP (h : ℕ) : Rect S1x4x128x256 := Rect.unit ![0, h % 4, 0, 0] S1x1x128x256.size (by
  intro a; fin_cases a
  · show 0 + 1 ≤ 1; omega
  · show h % 4 + 1 ≤ 4; omega
  · show 0 + 128 ≤ 128; omega
  · show 0 + 256 ≤ 256; omega)

section Loads

variable {e : EltTy}

/-- Chunk `n` of head `h`, 128 columns, of a block. -/
def ck (x : Vec F S512x512 e) (h n : ℕ) : Vec F S64x128 e := fun y => x ((rK h n).emb y)
/-- Chunk `n` of head `h`, 256 columns, of a block. -/
def cv (x : Vec F S512x1024 e) (h n : ℕ) : Vec F S64x256 e := fun y => x ((rV h n).emb y)

end Loads

/-- The state of head `h` that a block starts from, read from the carried states. -/
def c0 (x : Vec F S4x128x256 .f32) (h : ℕ) : FVec F S128x256 .f32 :=
  shapeCast S128x256 (show FVec F S1x128x256 .f32 from fun y => x ((rC h).emb y)) shapeCasts_S1x128x256_S128x256
/-- The state of chunk `n` and head `h`, read from a block of states. -/
def cs (x : Vec F S8x4x128x256 .f32) (h n : ℕ) : FVec F S128x256 .f32 :=
  shapeCast S128x256 (show FVec F S1x1x128x256 .f32 from fun y => x ((rS h n).emb y)) shapeCasts_S1x1x128x256_S128x256
/-- The state of head `h`, read from the one before the block. -/
def cp (x : Vec F S1x4x128x256 .f32) (h : ℕ) : FVec F S128x256 .f32 :=
  shapeCast S128x256 (show FVec F S1x1x128x256 .f32 from fun y => x ((rP h).emb y)) shapeCasts_S1x1x128x256_S128x256

/-- The states of one head over a block's chunks: `states s a k v n` is the state before chunk `n`. -/
def states (s : FVec F S128x256 .f32) (a : ℕ → FVec F S64x128 .f32) (k : ℕ → FVec F S64x128 .bf16) (v : ℕ → FVec F S64x256 .bf16) :
    ℕ → FVec F S128x256 .f32
  | 0 => s
  | n + 1 => st (states s a k v n) (a n) (k n) (v n)

/-- The heads, last first. -/
abbrev heads : List ℕ := [3, 2, 1, 0]

section Held

variable {e : EltTy}

/-- A load of chunk `n` of head `h` from a staging buffer that holds `x`, 128 columns. -/
abbrev lk (M : Memref sig .tc .vmem S512x512 e) (hM : M.IsWhole) (x : Vec F S512x512 e) (h n : ℕ) : Vec F S64x128 e :=
  View.readAt (Elt F) M.view (rK h n).toLoadRect (hM.unread x)
/-- The same of 256 columns. -/
abbrev lv (M : Memref sig .tc .vmem S512x1024 e) (hM : M.IsWhole) (x : Vec F S512x1024 e) (h n : ℕ) : Vec F S64x256 e :=
  View.readAt (Elt F) M.view (rV h n).toLoadRect (hM.unread x)

end Held

/-- The carried state of head `h`, loaded from a staging buffer that holds `x`. -/
abbrev lc (M : Memref sig .tc .vmem S4x128x256 .f32) (hM : M.IsWhole) (x : Vec F S4x128x256 .f32) (h : ℕ) : FVec F S128x256 .f32 :=
  shapeCast S128x256 (show FVec F S1x128x256 .f32 from View.readAt (Elt F) M.view (rC h).toLoadRect (hM.unread x)) shapeCasts_S1x128x256_S128x256
/-- The state of chunk `n` and head `h`, loaded from a staging buffer that holds `x`. -/
abbrev ls (M : Memref sig .tc .vmem S8x4x128x256 .f32) (hM : M.IsWhole) (x : Vec F S8x4x128x256 .f32) (h n : ℕ) : FVec F S128x256 .f32 :=
  shapeCast S128x256 (show FVec F S1x1x128x256 .f32 from View.readAt (Elt F) M.view (rS h n).toLoadRect (hM.unread x)) shapeCasts_S1x1x128x256_S128x256
/-- The state of head `h` before the block, loaded from a staging buffer that holds `x`. -/
abbrev lp (M : Memref sig .tc .vmem S1x4x128x256 .f32) (hM : M.IsWhole) (x : Vec F S1x4x128x256 .f32) (h : ℕ) : FVec F S128x256 .f32 :=
  shapeCast S128x256 (show FVec F S1x1x128x256 .f32 from View.readAt (Elt F) M.view (rP h).toLoadRect (hM.unread x)) shapeCasts_S1x1x128x256_S128x256

/-- The fill of the carried states. -/
abbrev fill : FVec F S4x128x256 .f32 := broadcast S4x128x256 (Scalar.ofBits .f32 0x00000000#32)
/-- The state every head starts from. -/
abbrev zero : FVec F S128x256 .f32 := broadcast S128x256 (Scalar.ofBits .f32 0x00000000#32)

/-- The stores into the carried states at the first grid point: the fill, then head after head what `fin` makes of the head's own. -/
def hist (v : View sig .tc .vmem S4x128x256 .f32) (fin : ℕ → FVec F S128x256 .f32 → FVec F S128x256 .f32) : ℕ → List (View.Piece (Elt F) S4x128x256 .f32)
  | 0 => [⟨Rect.unit ![0, 0, 0] S4x128x256.size inb_S4x128x256_S4x128x256_0_0_0, fill⟩]
  | h + 1 => ⟨rC h, shapeCast S1x128x256 (fin h (shapeCast S128x256 (show FVec F S1x128x256 .f32 from v.readCov (hist v fin h) (rC h).toLoadRect)
      shapeCasts_S1x128x256_S128x256)) shapeCasts_S128x256_S1x128x256⟩ :: hist v fin h
/-- What head `h` starts from at the first grid point. -/
def start (v : View sig .tc .vmem S4x128x256 .f32) (fin : ℕ → FVec F S128x256 .f32 → FVec F S128x256 .f32) (h : ℕ) : FVec F S128x256 .f32 :=
  shapeCast S128x256 (show FVec F S1x128x256 .f32 from v.readCov (hist v fin h) (rC h).toLoadRect) shapeCasts_S1x128x256_S128x256

/-- A later head's load passes the stores of the earlier heads. -/
theorem readCov_hist (v : View sig .tc .vmem S4x128x256 .f32) (fin : ℕ → FVec F S128x256 .f32 → FVec F S128x256 .f32) (g : ℕ) (hg : g < 4) :
    ∀ h, h ≤ g → v.readCov (hist v fin h) (rC g).toLoadRect = v.readCov (hist v fin 0) (rC g).toLoadRect
  | 0, _ => rfl
  | h + 1, hh => by
    refine (View.readCov_skip v _ _ _ _ ?_).trans (readCov_hist v fin g hg h (by omega))
    have hh' : h < g := hh
    interval_cases g <;> interval_cases h <;> decide
/-- Every head starts from zeros. -/
theorem start_eq (v : View sig .tc .vmem S4x128x256 .f32) (fin : ℕ → FVec F S128x256 .f32 → FVec F S128x256 .f32) (h : ℕ) (hh : h < 4) :
    start v fin h = zero := by
  unfold start
  rw [readCov_hist v fin h hh h le_rfl, hist, View.readCov_fill (h := by decide)]
  rfl

/-- The carried cotangents of one head over a block's chunks, last chunk first. -/
def carries (s : FVec F S128x256 .f32) (a : ℕ → FVec F S64x128 .f32) (q : ℕ → FVec F S64x128 .bf16) (g : ℕ → FVec F S64x256 .bf16) :
    ℕ → FVec F S128x256 .f32
  | 0 => s
  | j + 1 => carry (a (7 - j)) (ds (carries s a q g j) (q (7 - j)) (g (7 - j)))
/-- The cotangent of the state after chunk `n`. -/
abbrev dsAt (s : FVec F S128x256 .f32) (a : ℕ → FVec F S64x128 .f32) (q : ℕ → FVec F S64x128 .bf16) (g : ℕ → FVec F S64x256 .bf16) (n : ℕ) :
    FVec F S128x256 .f32 := ds (carries s a q g (7 - n)) (q n) (g n)
/-- The state before chunk `n`: the one saved of the chunk before, or of the block before. -/
def prior (p : FVec F S128x256 .f32) (s : ℕ → FVec F S128x256 .f32) : ℕ → FVec F S128x256 .f32
  | 0 => p
  | n + 1 => s n
/-- One where the block has a block before it. -/
abbrev hasPrev (i : BitVec 32) : F .f32 := Scalar.sitofp .f32 (Scalar.extui (show BitVec 1 from Scalar.cmpi .slt i 7#32) : BitVec 32)

end Cert.KernelIdeal.Tiles

end
-- ==== Proof.Assemble.lean ====
/-
  Blocks and arrays put together from chunks: what a block holds after the bodies' stores, the chunks of an array, and the
  array after the launch.
-/
module

public import proofs.«01_k».proof.Proof.Tiles
public import Idealize.ShloMosaic.Lib.Pipeline.Value

@[expose] public section

noncomputable section

namespace Cert.KernelIdeal.Tiles

open Cert.KernelIdeal.Gen Cert.KernelIdeal.Block
open Idealize.ShloMosaic Idealize.ShloMosaic.TcCoe

variable {F : FTy → Type} [FloatOps F] [Named F]

section Whole

variable {e : EltTy}

/-! ## An array's chunks -/

/-- Chunk `n` of head `h` of an array's 512 columns from column `o` on. -/
def gk (o : ℕ) (ho : o + 512 ≤ 10368) (x : Vec F S4096x10368 e) (h n : ℕ) : Vec F S64x128 e := fun y =>
  x (fun a => match a with
    | ⟨0, _⟩ => ⟨64 * (n % 64) + (y 0).val, by have h0 : (y 0).val < 64 := (y 0).isLt; show _ < 4096; omega⟩
    | ⟨1, _⟩ => ⟨o + (128 * (h % 4) + (y 1).val), by have h1 : (y 1).val < 128 := (y 1).isLt; show _ < 10368; omega⟩)
/-- Chunk `n` of head `h` of the 1024 columns from column 1024 on. -/
def gv (x : Vec F S4096x10368 e) (h n : ℕ) : Vec F S64x256 e := fun y =>
  x (fun a => match a with
    | ⟨0, _⟩ => ⟨64 * (n % 64) + (y 0).val, by have h0 : (y 0).val < 64 := (y 0).isLt; show _ < 4096; omega⟩
    | ⟨1, _⟩ => ⟨1024 + (256 * (h % 4) + (y 1).val), by have h1 : (y 1).val < 256 := (y 1).isLt; show _ < 10368; omega⟩)
/-- Chunk `n` of head `h` of an array of 512 columns. -/
def ga (x : Vec F S4096x512 e) (h n : ℕ) : Vec F S64x128 e := fun y =>
  x (fun a => match a with
    | ⟨0, _⟩ => ⟨64 * (n % 64) + (y 0).val, by have h0 : (y 0).val < 64 := (y 0).isLt; show _ < 4096; omega⟩
    | ⟨1, _⟩ => ⟨128 * (h % 4) + (y 1).val, by have h1 : (y 1).val < 128 := (y 1).isLt; show _ < 512; omega⟩)
/-- Chunk `n` of head `h` of an array of 1024 columns. -/
def gg (x : Vec F S4096x1024 e) (h n : ℕ) : Vec F S64x256 e := fun y =>
  x (fun a => match a with
    | ⟨0, _⟩ => ⟨64 * (n % 64) + (y 0).val, by have h0 : (y 0).val < 64 := (y 0).isLt; show _ < 4096; omega⟩
    | ⟨1, _⟩ => ⟨256 * (h % 4) + (y 1).val, by have h1 : (y 1).val < 256 := (y 1).isLt; show _ < 1024; omega⟩)

/-! ## A block and an array from chunks -/

/-- A chunk's place, 128 columns. -/
abbrev inK (r c : ℕ) : S64x128.Idx := fun a => match a with
  | ⟨0, _⟩ => ⟨r % 64, Nat.mod_lt _ (by decide)⟩
  | ⟨1, _⟩ => ⟨c % 128, Nat.mod_lt _ (by decide)⟩
/-- A chunk's place, 256 columns. -/
abbrev inV (r c : ℕ) : S64x256.Idx := fun a => match a with
  | ⟨0, _⟩ => ⟨r % 64, Nat.mod_lt _ (by decide)⟩
  | ⟨1, _⟩ => ⟨c % 256, Nat.mod_lt _ (by decide)⟩
/-- A state's place. -/
abbrev inS (r c : ℕ) : S128x256.Idx := fun a => match a with
  | ⟨0, _⟩ => ⟨r % 128, Nat.mod_lt _ (by decide)⟩
  | ⟨1, _⟩ => ⟨c % 256, Nat.mod_lt _ (by decide)⟩

/-- The block of 512 columns whose chunk `n` of head `h` is `f h n`. -/
def bk (f : ℕ → ℕ → Vec F S64x128 e) : Vec F S512x512 e := fun y => f ((y 1).val / 128) ((y 0).val / 64) (inK (y 0).val (y 1).val)
/-- The block of 1024 columns whose chunk `n` of head `h` is `f h n`. -/
def bv (f : ℕ → ℕ → Vec F S64x256 e) : Vec F S512x1024 e := fun y => f ((y 1).val / 256) ((y 0).val / 64) (inV (y 0).val (y 1).val)
/-- The block of states whose state of chunk `n` and head `h` is `f h n`. -/
def bs (f : ℕ → ℕ → Vec F S128x256 e) : Vec F S8x4x128x256 e := fun y => f (y 1).val (y 0).val (inS (y 2).val (y 3).val)
/-- The carried states whose state of head `h` is `f h`. -/
def bc (f : ℕ → Vec F S128x256 e) : Vec F S4x128x256 e := fun y => f (y 0).val (inS (y 1).val (y 2).val)
/-- The array of 512 columns whose chunk `n` of head `h` is `f h n`. -/
def wk (f : ℕ → ℕ → Vec F S64x128 e) : Vec F S4096x512 e := fun y => f ((y 1).val / 128) ((y 0).val / 64) (inK (y 0).val (y 1).val)
/-- The array of 1024 columns whose chunk `n` of head `h` is `f h n`. -/
def wv (f : ℕ → ℕ → Vec F S64x256 e) : Vec F S4096x1024 e := fun y => f ((y 1).val / 256) ((y 0).val / 64) (inV (y 0).val (y 1).val)
/-- The array of states whose state of chunk `n` and head `h` is `f h n`. -/
def ws (f : ℕ → ℕ → Vec F S128x256 e) : Vec F S64x4x128x256 e := fun y => f (y 1).val (y 0).val (inS (y 2).val (y 3).val)

/-- A block's place, of the place of a chunk's element, 128 columns. -/
theorem bk_emb (f : ℕ → ℕ → Vec F S64x128 e) (h n : ℕ) (hh : h < 4) (hn : n < 8) (x : S64x128.Idx) : bk f ((rK h n).emb x) = f h n x := by
  have x0 : (x 0).val < 64 := (x 0).isLt
  have x1 : (x 1).val < 128 := (x 1).isLt
  have e0 : ((rK h n).emb x 0).val = 64 * (n % 8) + 1 * (x 0).val := rfl
  have e1 : ((rK h n).emb x 1).val = 128 * (h % 4) + 1 * (x 1).val := rfl
  unfold bk
  rw [e0, e1, show (128 * (h % 4) + 1 * (x 1).val) / 128 = h by omega, show (64 * (n % 8) + 1 * (x 0).val) / 64 = n by omega]
  congr 1; funext a; apply Fin.ext
  match a with
  | ⟨0, _⟩ => show (64 * (n % 8) + 1 * (x 0).val) % 64 = (x 0).val; omega
  | ⟨1, _⟩ => show (128 * (h % 4) + 1 * (x 1).val) % 128 = (x 1).val; omega
/-- The same of 256 columns. -/
theorem bv_emb (f : ℕ → ℕ → Vec F S64x256 e) (h n : ℕ) (hh : h < 4) (hn : n < 8) (x : S64x256.Idx) : bv f ((rV h n).emb x) = f h n x := by
  have x0 : (x 0).val < 64 := (x 0).isLt
  have x1 : (x 1).val < 256 := (x 1).isLt
  have e0 : ((rV h n).emb x 0).val = 64 * (n % 8) + 1 * (x 0).val := rfl
  have e1 : ((rV h n).emb x 1).val = 256 * (h % 4) + 1 * (x 1).val := rfl
  unfold bv
  rw [e0, e1, show (256 * (h % 4) + 1 * (x 1).val) / 256 = h by omega, show (64 * (n % 8) + 1 * (x 0).val) / 64 = n by omega]
  congr 1; funext a; apply Fin.ext
  match a with
  | ⟨0, _⟩ => show (64 * (n % 8) + 1 * (x 0).val) % 64 = (x 0).val; omega
  | ⟨1, _⟩ => show (256 * (h % 4) + 1 * (x 1).val) % 256 = (x 1).val; omega

/-- A state under two leading axes of one, read at a place. -/
theorem cast4_apply (f : Vec F S128x256 e) (x : S1x1x128x256.Idx) :
    shapeCast S1x1x128x256 f shapeCasts_S128x256_S1x1x128x256 x = f (inS (x 2).val (x 3).val) := by
  have x0 : (x 0).val < 1 := (x 0).isLt
  have x1 : (x 1).val < 1 := (x 1).isLt
  have x2 : (x 2).val < 128 := (x 2).isLt
  have x3 : (x 3).val < 256 := (x 3).isLt
  refine shapeCast_apply f shapeCasts_S128x256_S1x1x128x256 _ _ ?_
  rw [Shape.rowMajor_val_four, Shape.rowMajor_val_two]
  show (x 2).val % 128 * 256 + (x 3).val % 256 = (((x 0).val * 1 + (x 1).val) * 128 + (x 2).val) * 256 + (x 3).val
  omega
/-- A state under a leading axis of one, read at a place. -/
theorem cast3_apply (f : Vec F S128x256 e) (x : S1x128x256.Idx) :
    shapeCast S1x128x256 f shapeCasts_S128x256_S1x128x256 x = f (inS (x 1).val (x 2).val) := by
  have x0 : (x 0).val < 1 := (x 0).isLt
  have x2 : (x 1).val < 128 := (x 1).isLt
  have x3 : (x 2).val < 256 := (x 2).isLt
  refine shapeCast_apply f shapeCasts_S128x256_S1x128x256 _ _ ?_
  rw [Shape.rowMajor_val_three, Shape.rowMajor_val_two]
  show (x 1).val % 128 * 256 + (x 2).val % 256 = ((x 0).val * 128 + (x 1).val) * 256 + (x 2).val
  omega

/-- A state's place in the block of states. -/
theorem bs_emb (f : ℕ → ℕ → Vec F S128x256 e) (h n : ℕ) (hh : h < 4) (hn : n < 8) (x : S1x1x128x256.Idx) :
    bs f ((rS h n).emb x) = shapeCast S1x1x128x256 (f h n) shapeCasts_S128x256_S1x1x128x256 x := by
  have x0 : (x 0).val < 1 := (x 0).isLt
  have x1 : (x 1).val < 1 := (x 1).isLt
  have e0 : ((rS h n).emb x 0).val = n % 8 + 1 * (x 0).val := rfl
  have e1 : ((rS h n).emb x 1).val = h % 4 + 1 * (x 1).val := rfl
  have e2 : ((rS h n).emb x 2).val = 0 + 1 * (x 2).val := rfl
  have e3 : ((rS h n).emb x 3).val = 0 + 1 * (x 3).val := rfl
  rw [cast4_apply]
  unfold bs
  rw [e0, e1, e2, e3, show h % 4 + 1 * (x 1).val = h by omega, show n % 8 + 1 * (x 0).val = n by omega, Nat.zero_add, Nat.one_mul, Nat.zero_add, Nat.one_mul]
/-- A state's place in the carried states. -/
theorem bc_emb (f : ℕ → Vec F S128x256 e) (h : ℕ) (hh : h < 4) (x : S1x128x256.Idx) :
    bc f ((rC h).emb x) = shapeCast S1x128x256 (f h) shapeCasts_S128x256_S1x128x256 x := by
  have x0 : (x 0).val < 1 := (x 0).isLt
  have e0 : ((rC h).emb x 0).val = h % 4 + 1 * (x 0).val := rfl
  have e2 : ((rC h).emb x 1).val = 0 + 1 * (x 1).val := rfl
  have e3 : ((rC h).emb x 2).val = 0 + 1 * (x 2).val := rfl
  rw [cast3_apply]
  unfold bc
  rw [e0, e2, e3, show h % 4 + 1 * (x 0).val = h by omega, Nat.zero_add, Nat.one_mul, Nat.zero_add, Nat.one_mul]

end Whole

/-! ## What the stores leave -/

section Stores

variable {e : EltTy} {s : Shape}

/-- What stores leave that cover the block, each agreeing with `G`. -/
theorem read_stores (v : View sig .tc .vmem s e) (f : v.ty.Contents (Elt F)) (G : Vec F s e) (L L' : List (View.Piece (Elt F) s e))
    (hL : L = L') (hc : ∀ y, ∃ p ∈ L, y ∈ p.1.set) (hG : ∀ p ∈ L', ∀ x : p.1.shape.Idx, p.2 x = G (p.1.emb x)) :
    v.read (Elt F) (v.writes (Elt F) f L) = G := by
  subst hL
  exact funext fun y => View.read_writes_apply_of_pieces v f G L hG y (hc y)

/-- The stores of a block's 32 chunks, one by one. -/
theorem forall_stores {P : View.Piece (Elt F) s e → Prop} (ch : List ℕ) (hch : ∀ n ∈ ch, n < 8) (p : ℕ → ℕ → View.Piece (Elt F) s e)
    (h : ∀ h n, h < 4 → n < 8 → P (p h n)) : ∀ q ∈ heads.flatMap (fun h => ch.map (fun n => p h n)), P q := by
  intro q hq
  obtain ⟨a, ha, hq⟩ := List.mem_flatMap.mp hq
  obtain ⟨n, hn, rfl⟩ := List.mem_map.mp hq
  refine h a n ?_ (hch n hn)
  simp only [heads, List.mem_cons, List.not_mem_nil, or_false] at ha
  omega
/-- The stores of the four heads' states. -/
theorem forall_heads {P : View.Piece (Elt F) s e → Prop} (p : ℕ → View.Piece (Elt F) s e)
    (h : ∀ h, h < 4 → P (p h)) : ∀ q ∈ heads.map (fun h => p h), P q := by
  intro q hq
  obtain ⟨a, ha, rfl⟩ := List.mem_map.mp hq
  refine h a ?_
  simp only [heads, List.mem_cons, List.not_mem_nil, or_false] at ha
  omega
/-- The four heads' states cover the carried states. -/
theorem heads_cover (f : (h : ℕ) → (rC h).shape.Idx → Elt F .f32) (y : S4x128x256.Idx) :
    ∃ p ∈ heads.map (fun h => (⟨rC h, f h⟩ : View.Piece (Elt F) S4x128x256 .f32)), y ∈ p.1.set := by
  have y0 : (y 0).val < 4 := (y 0).isLt
  have y1 : (y 1).val < 128 := (y 1).isLt
  have y2 : (y 2).val < 256 := (y 2).isLt
  refine ⟨⟨rC (y 0).val, f _⟩, List.mem_map.mpr ⟨(y 0).val, ?_, rfl⟩, ?_⟩
  · simp only [heads, List.mem_cons, List.not_mem_nil, or_false]; omega
  · rw [Rect.mem_set_unit]
    intro a
    match a with
    | ⟨0, _⟩ => show (y 0).val % 4 ≤ (y 0).val ∧ (y 0).val < (y 0).val % 4 + 1; omega
    | ⟨1, _⟩ => show 0 ≤ (y 1).val ∧ (y 1).val < 0 + 128; omega
    | ⟨2, _⟩ => show 0 ≤ (y 2).val ∧ (y 2).val < 0 + 256; omega

end Stores

/-! ## Loads from a buffer that holds a block -/

section Ld

variable {e : EltTy}

/-- A load of one chunk or one head from a whole window gives that part of the window's contents. -/
theorem lk_eq (M : Memref sig .tc .vmem S512x512 e) (hM : M.IsWhole) (x : Vec F S512x512 e) (h n : ℕ) : lk M hM x h n = ck x h n := by
  funext y; exact Memref.IsWhole.readAt_unread hM x (rK h n).toLoadRect y
/-- A load of one chunk or one head from a whole window gives that part of the window's contents. -/
theorem lv_eq (M : Memref sig .tc .vmem S512x1024 e) (hM : M.IsWhole) (x : Vec F S512x1024 e) (h n : ℕ) : lv M hM x h n = cv x h n := by
  funext y; exact Memref.IsWhole.readAt_unread hM x (rV h n).toLoadRect y

end Ld

/-- A load of one chunk or one head from a whole window gives that part of the window's contents. -/
theorem lc_eq (M : Memref sig .tc .vmem S4x128x256 .f32) (hM : M.IsWhole) (x : Vec F S4x128x256 .f32) (h : ℕ) : lc M hM x h = c0 x h := by
  unfold lc c0; congr 1; funext y; exact Memref.IsWhole.readAt_unread hM x (rC h).toLoadRect y
/-- A load of one chunk or one head from a whole window gives that part of the window's contents. -/
theorem ls_eq (M : Memref sig .tc .vmem S8x4x128x256 .f32) (hM : M.IsWhole) (x : Vec F S8x4x128x256 .f32) (h n : ℕ) : ls M hM x h n = cs x h n := by
  unfold ls cs; congr 1; funext y; exact Memref.IsWhole.readAt_unread hM x (rS h n).toLoadRect y
/-- A load of one chunk or one head from a whole window gives that part of the window's contents. -/
theorem lp_eq (M : Memref sig .tc .vmem S1x4x128x256 .f32) (hM : M.IsWhole) (x : Vec F S1x4x128x256 .f32) (h : ℕ) : lp M hM x h = cp x h := by
  unfold lp cp; congr 1; funext y; exact Memref.IsWhole.readAt_unread hM x (rP h).toLoadRect y

/-- A state read back from the carried states. -/
theorem c0_bc (f : ℕ → FVec F S128x256 .f32) (h : ℕ) (hh : h < 4) : c0 (bc f) h = f h := by
  refine Eq.trans (congrArg (fun z : FVec F S1x128x256 .f32 => shapeCast S128x256 z shapeCasts_S1x128x256_S128x256)
    (a₂ := shapeCast S1x128x256 (f h) shapeCasts_S128x256_S1x128x256) (funext fun y => bc_emb (F := F) (e := .f32) f h hh y)) ?_
  exact shapeCast_shapeCast (f h) shapeCasts_S128x256_S1x128x256 shapeCasts_S1x128x256_S128x256

/-- The states from a later chunk on. -/
theorem states_add (s : FVec F S128x256 .f32) (a : ℕ → FVec F S64x128 .f32) (k : ℕ → FVec F S64x128 .bf16) (v : ℕ → FVec F S64x256 .bf16) (m : ℕ) :
    ∀ n, states (states s a k v m) (fun j => a (m + j)) (fun j => k (m + j)) (fun j => v (m + j)) n = states s a k v (m + n)
  | 0 => rfl
  | n + 1 => by
    show st (states _ _ _ _ n) (a (m + n)) (k (m + n)) (v (m + n)) = _
    rw [states_add s a k v m n]
    rfl
/-- The states depend on the chunks before alone. -/
theorem states_congr (s : FVec F S128x256 .f32) (a a' : ℕ → FVec F S64x128 .f32) (k k' : ℕ → FVec F S64x128 .bf16) (v v' : ℕ → FVec F S64x256 .bf16) (N : ℕ)
    (h : ∀ n, n < N → a n = a' n ∧ k n = k' n ∧ v n = v' n) : ∀ n, n ≤ N → states s a k v n = states s a' k' v' n
  | 0, _ => rfl
  | n + 1, hn => by
    obtain ⟨h1, h2, h3⟩ := h n (by omega)
    show st (states s a k v n) _ _ _ = st (states s a' k' v' n) _ _ _
    rw [states_congr s a a' k k' v v' N h n (by omega), h1, h2, h3]

/-- State `n` of head `h` of the array of states. -/
def gx (x : Vec F S64x4x128x256 .f32) (h n : ℕ) : FVec F S128x256 .f32 := fun y =>
  x (fun a => match a with
    | ⟨0, _⟩ => ⟨n % 64, by show _ < 64; omega⟩
    | ⟨1, _⟩ => ⟨h % 4, by show _ < 4; omega⟩
    | ⟨2, _⟩ => y 0
    | ⟨3, _⟩ => y 1)
/-- A state's place under two leading axes of one. -/
abbrev up (y : S128x256.Idx) : S1x1x128x256.Idx := fun a => match a with
  | ⟨0, _⟩ => ⟨0, Nat.one_pos⟩
  | ⟨1, _⟩ => ⟨0, Nat.one_pos⟩
  | ⟨2, _⟩ => y 0
  | ⟨3, _⟩ => y 1
/-- A state without its two leading axes of one, read at a place. -/
theorem cast2_apply (f : FVec F S1x1x128x256 .f32) (y : S128x256.Idx) :
    shapeCast S128x256 f shapeCasts_S1x1x128x256_S128x256 y = f (up y) := by
  refine shapeCast_apply f shapeCasts_S1x1x128x256_S128x256 _ _ ?_
  rw [Shape.rowMajor_val_four, Shape.rowMajor_val_two]
  show ((0 * 1 + 0) * 128 + (y 0).val) * 256 + (y 1).val = (y 0).val * 256 + (y 1).val
  omega
/-- A state read from a block of states, at a place. -/
theorem cs_apply (x : Vec F S8x4x128x256 .f32) (h n : ℕ) (y : S128x256.Idx) : cs x h n y = x ((rS h n).emb (up y)) := cast2_apply _ y
/-- A state read from the one before the block, at a place. -/
theorem cp_apply (x : Vec F S1x4x128x256 .f32) (h : ℕ) (y : S128x256.Idx) : cp x h y = x ((rP h).emb (up y)) := cast2_apply _ y

/-- The carried cotangents of one head, the sequences taken in the order they are met. -/
def back (s : FVec F S128x256 .f32) (a : ℕ → FVec F S64x128 .f32) (q : ℕ → FVec F S64x128 .bf16) (g : ℕ → FVec F S64x256 .bf16) :
    ℕ → FVec F S128x256 .f32
  | 0 => s
  | j + 1 => carry (a j) (ds (back s a q g j) (q j) (g j))
/-- A block's carried cotangents are these, its chunks taken last first. -/
theorem carries_eq (s : FVec F S128x256 .f32) (a : ℕ → FVec F S64x128 .f32) (q : ℕ → FVec F S64x128 .bf16) (g : ℕ → FVec F S64x256 .bf16) :
    ∀ n, carries s a q g n = back s (fun j => a (7 - j)) (fun j => q (7 - j)) (fun j => g (7 - j)) n
  | 0 => rfl
  | n + 1 => by
    show carry (a (7 - n)) (ds (carries s a q g n) _ _) = carry (a (7 - n)) (ds _ _ _)
    rw [carries_eq s a q g n]
/-- The carried cotangents from a later chunk on. -/
theorem back_add (s : FVec F S128x256 .f32) (a : ℕ → FVec F S64x128 .f32) (q : ℕ → FVec F S64x128 .bf16) (g : ℕ → FVec F S64x256 .bf16) (m : ℕ) :
    ∀ n, back (back s a q g m) (fun j => a (m + j)) (fun j => q (m + j)) (fun j => g (m + j)) n = back s a q g (m + n)
  | 0 => rfl
  | n + 1 => by
    show carry (a (m + n)) (ds (back _ _ _ _ n) (q (m + n)) (g (m + n))) = _
    rw [back_add s a q g m n]
    rfl
/-- The carried cotangents depend on the chunks met alone. -/
theorem back_congr (s : FVec F S128x256 .f32) (a a' : ℕ → FVec F S64x128 .f32) (q q' : ℕ → FVec F S64x128 .bf16) (g g' : ℕ → FVec F S64x256 .bf16) (N : ℕ)
    (h : ∀ n, n < N → a n = a' n ∧ q n = q' n ∧ g n = g' n) : ∀ n, n ≤ N → back s a q g n = back s a' q' g' n
  | 0, _ => rfl
  | n + 1, hn => by
    obtain ⟨h1, h2, h3⟩ := h n (by omega)
    show carry _ (ds (back s a q g n) _ _) = carry _ (ds (back s a' q' g' n) _ _)
    rw [back_congr s a a' q q' g g' N h n (by omega), h1, h2, h3]

end Cert.KernelIdeal.Tiles

end
-- ==== Proof.Fwd.Pieces.lean ====
/-
  What the forward body's stores hold, as one list over heads and chunks.
-/
module

public import proofs.«01_k».proof.Proof.Tiles
public import proofs.«01_k».proof.Proof.Fwd.Body

@[expose] public section

noncomputable section

namespace Cert.KernelIdeal.Fwd

open Cert.KernelIdeal.Gen Cert.KernelIdeal.Block Cert.KernelIdeal.Tiles
open Idealize.ShloMosaic Idealize.ShloMosaic.TcCoe Idealize.ShloMosaic.Tactic

variable {F : FTy → Type} [FloatOps F] [Named F]

/-- The chunks of a block, last first. -/
abbrev chunks : List ℕ := [7, 6, 5, 4, 3, 2, 1, 0]

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole)
  (x0 : Vec F S512x512 .bf16) (x1 : Vec F S512x512 .bf16) (x2 : Vec F S512x1024 .bf16) (x3 : Vec F S512x512 .f32)

/-- The states of head `h` over the block, from the state `s`. -/
abbrev sts (s : FVec F S128x256 .f32) (h : ℕ) : ℕ → FVec F S128x256 .f32 :=
  states s (lk arg4 harg4 x3 h) (lk arg2 harg2 x1 h) (lv arg3 harg3 x2 h)

/-- The stores into the output block. -/
def oPieces (s : ℕ → FVec F S128x256 .f32) : List (View.Piece (Elt F) S512x1024 .bf16) :=
  heads.flatMap fun h => chunks.map fun n => ⟨rV h n, out (sts arg2 harg2 arg3 harg3 arg4 harg4 x1 x2 x3 (s h) h (n + 1)) (lk arg1 harg1 x0 h n)⟩
/-- The stores into the block of states. -/
def sPieces (s : ℕ → FVec F S128x256 .f32) : List (View.Piece (Elt F) S8x4x128x256 .f32) :=
  heads.flatMap fun h => chunks.map fun n => ⟨rS h n, shapeCast S1x1x128x256 (sts arg2 harg2 arg3 harg3 arg4 harg4 x1 x2 x3 (s h) h (n + 1)) shapeCasts_S128x256_S1x1x128x256⟩
/-- The stores into the carried states. -/
def cPieces (s : ℕ → FVec F S128x256 .f32) : List (View.Piece (Elt F) S4x128x256 .f32) :=
  heads.map fun h => ⟨rC h, shapeCast S1x128x256 (sts arg2 harg2 arg3 harg3 arg4 harg4 x1 x2 x3 (s h) h 8) shapeCasts_S128x256_S1x128x256⟩
/-- The state of head `h` at the end of the block, from the state `s` at its start. -/
abbrev fin (h : ℕ) (s : FVec F S128x256 .f32) : FVec F S128x256 .f32 := sts arg2 harg2 arg3 harg3 arg4 harg4 x1 x2 x3 s h 8
/-- What the heads start from at the first grid point. -/
abbrev startA : ℕ → FVec F S128x256 .f32 := start arg7.view (fin arg2 harg2 arg3 harg3 arg4 harg4 x1 x2 x3)

/-- The stores into the output block at the first grid point. -/
theorem oPieces_A (hc0 : cond0_0 i) :
    (kernelRun0_A c i arg1 harg1 arg2 harg2 arg3 harg3 arg4 harg4 arg5 harg5 arg6 harg6 arg7 harg7 hc0 x0 x1 x2 x3).1 = oPieces arg1 harg1 arg2 harg2 arg3 harg3 arg4 harg4 x0 x1 x2 x3 (startA arg2 harg2 arg3 harg3 arg4 harg4 arg7 x1 x2 x3) := by
  sl_kernel_rfl
/-- The stores into the output block at a later grid point. -/
theorem oPieces_B (hc0 : ¬cond0_0 i) (xs0 : Vec F S4x128x256 .f32) :
    (kernelRun0_B c i arg1 harg1 arg2 harg2 arg3 harg3 arg4 harg4 arg5 harg5 arg6 harg6 arg7 harg7 hc0 x0 x1 x2 x3 xs0).1 = oPieces arg1 harg1 arg2 harg2 arg3 harg3 arg4 harg4 x0 x1 x2 x3 (lc arg7 harg7 xs0) := by
  sl_kernel_rfl
/-- The stores into the block of states at the first grid point. -/
theorem sPieces_A (hc0 : cond0_0 i) :
    (kernelRun0_A c i arg1 harg1 arg2 harg2 arg3 harg3 arg4 harg4 arg5 harg5 arg6 harg6 arg7 harg7 hc0 x0 x1 x2 x3).2.1 = sPieces arg2 harg2 arg3 harg3 arg4 harg4 x1 x2 x3 (startA arg2 harg2 arg3 harg3 arg4 harg4 arg7 x1 x2 x3) := by
  sl_kernel_rfl
/-- The stores into the block of states at a later grid point. -/
theorem sPieces_B (hc0 : ¬cond0_0 i) (xs0 : Vec F S4x128x256 .f32) :
    (kernelRun0_B c i arg1 harg1 arg2 harg2 arg3 harg3 arg4 harg4 arg5 harg5 arg6 harg6 arg7 harg7 hc0 x0 x1 x2 x3 xs0).2.1 = sPieces arg2 harg2 arg3 harg3 arg4 harg4 x1 x2 x3 (lc arg7 harg7 xs0) := by
  sl_kernel_rfl
/-- The stores into the carried states at the first grid point. -/
theorem cPieces_A (hc0 : cond0_0 i) :
    (kernelRun0_A c i arg1 harg1 arg2 harg2 arg3 harg3 arg4 harg4 arg5 harg5 arg6 harg6 arg7 harg7 hc0 x0 x1 x2 x3).2.2.1 = cPieces arg2 harg2 arg3 harg3 arg4 harg4 x1 x2 x3 (startA arg2 harg2 arg3 harg3 arg4 harg4 arg7 x1 x2 x3) ++ hist arg7.view (fin arg2 harg2 arg3 harg3 arg4 harg4 x1 x2 x3) 0 := by
  sl_kernel_rfl
/-- The stores into the carried states at a later grid point. -/
theorem cPieces_B (hc0 : ¬cond0_0 i) (xs0 : Vec F S4x128x256 .f32) :
    (kernelRun0_B c i arg1 harg1 arg2 harg2 arg3 harg3 arg4 harg4 arg5 harg5 arg6 harg6 arg7 harg7 hc0 x0 x1 x2 x3 xs0).2.2.1 = cPieces arg2 harg2 arg3 harg3 arg4 harg4 x1 x2 x3 (lc arg7 harg7 xs0) := by
  sl_kernel_rfl

end Cert.KernelIdeal.Fwd

end
-- ==== Proof.Fwd.Value.lean ====
/-
  What the forward launch leaves: the output and the states, chunk by chunk, as functions of the arrays it reads.
-/
module

public import proofs.«01_k».proof.Proof.Assemble
public import proofs.«01_k».proof.Proof.Fwd.Pieces
public import Idealize.ShloMosaic.Lib.Pipeline.ValueKit.Geometry

@[expose] public section

noncomputable section

namespace Cert.KernelIdeal.Fwd

open Cert.KernelIdeal.Gen Cert.KernelIdeal.Block Cert.KernelIdeal.Tiles
open Idealize.ShloMosaic Idealize.ShloMosaic.TcCoe Idealize.ShloMosaic.Tactic Idealize.ShloMosaic.Pipeline

variable {F : FTy → Type} [FloatOps F] [Named F]

/-! ## One block -/

section Point

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S4x128x256 .f32) (harg7 : arg7.IsWhole)
  (x0 : Vec F S512x512 .bf16) (x1 : Vec F S512x512 .bf16) (x2 : Vec F S512x1024 .bf16) (x3 : Vec F S512x512 .f32)

/-- The states of head `h` over a block, from the state `s`. -/
abbrev bsts (s : FVec F S128x256 .f32) (h : ℕ) : ℕ → FVec F S128x256 .f32 := states s (ck x3 h) (ck x1 h) (cv x2 h)
/-- The output block. -/
def oBlk (s : ℕ → FVec F S128x256 .f32) : Vec F S512x1024 .bf16 := bv fun h n => out (bsts x1 x2 x3 (s h) h (n + 1)) (ck x0 h n)
/-- The block of states. -/
def sBlk (s : ℕ → FVec F S128x256 .f32) : Vec F S8x4x128x256 .f32 := bs fun h n => bsts x1 x2 x3 (s h) h (n + 1)
/-- The states carried on. -/
def cBlk (s : ℕ → FVec F S128x256 .f32) : Vec F S4x128x256 .f32 := bc fun h => bsts x1 x2 x3 (s h) h 8

/-- The states from loads are those from the blocks. -/
theorem sts_eq (s : FVec F S128x256 .f32) (h n : ℕ) : sts arg2 harg2 arg3 harg3 arg4 harg4 x1 x2 x3 s h n = bsts x1 x2 x3 s h n := by
  unfold sts bsts
  rw [show lk arg4 harg4 x3 h = ck x3 h from funext fun n => lk_eq arg4 harg4 x3 h n, show lk arg2 harg2 x1 h = ck x1 h from funext fun n => lk_eq arg2 harg2 x1 h n,
    show lv arg3 harg3 x2 h = cv x2 h from funext fun n => lv_eq arg3 harg3 x2 h n]

/-- Every chunk is one of a block's eight. -/
theorem chunks_lt : ∀ n ∈ chunks, n < 8 := by decide

/-- The stores into the output block agree with it. -/
theorem oPieces_agree (s s' : ℕ → FVec F S128x256 .f32) (hs : ∀ h, h < 4 → s h = s' h) :
    ∀ p ∈ oPieces arg1 harg1 arg2 harg2 arg3 harg3 arg4 harg4 x0 x1 x2 x3 s, ∀ x : p.1.shape.Idx, p.2 x = oBlk x0 x1 x2 x3 s' (p.1.emb x) := by
  refine forall_stores chunks chunks_lt _ fun h n hh hn x => ?_
  unfold oBlk
  refine Eq.trans ?_ (bv_emb _ h n hh hn x).symm
  show out (sts arg2 harg2 arg3 harg3 arg4 harg4 x1 x2 x3 (s h) h (n + 1)) (lk arg1 harg1 x0 h n) x = _
  rw [sts_eq, lk_eq, hs h hh]
/-- The stores into the block of states agree with it. -/
theorem sPieces_agree (s s' : ℕ → FVec F S128x256 .f32) (hs : ∀ h, h < 4 → s h = s' h) :
    ∀ p ∈ sPieces arg2 harg2 arg3 harg3 arg4 harg4 x1 x2 x3 s, ∀ x : p.1.shape.Idx, p.2 x = sBlk x1 x2 x3 s' (p.1.emb x) := by
  refine forall_stores chunks chunks_lt _ fun h n hh hn x => ?_
  unfold sBlk
  refine Eq.trans ?_ (bs_emb _ h n hh hn x).symm
  show shapeCast S1x1x128x256 (sts arg2 harg2 arg3 harg3 arg4 harg4 x1 x2 x3 (s h) h (n + 1)) shapeCasts_S128x256_S1x1x128x256 x = _
  rw [sts_eq, hs h hh]
/-- The stores into the carried states agree with the states carried on. -/
theorem cPieces_agree (s s' : ℕ → FVec F S128x256 .f32) (hs : ∀ h, h < 4 → s h = s' h) :
    ∀ p ∈ cPieces arg2 harg2 arg3 harg3 arg4 harg4 x1 x2 x3 s, ∀ x : p.1.shape.Idx, p.2 x = cBlk x1 x2 x3 s' (p.1.emb x) := by
  refine forall_heads _ fun h hh x => ?_
  unfold cBlk
  refine Eq.trans ?_ (bc_emb _ h hh x).symm
  show shapeCast S1x128x256 (sts arg2 harg2 arg3 harg3 arg4 harg4 x1 x2 x3 (s h) h 8) shapeCasts_S128x256_S1x128x256 x = _
  rw [sts_eq, hs h hh]

/-- The state that the first point starts from. -/
theorem startA_eq (h : ℕ) (hh : h < 4) : startA arg2 harg2 arg3 harg3 arg4 harg4 arg7 x1 x2 x3 h = zero := start_eq _ _ h hh

/-- What a first point writes into a result's window. -/
theorem out_A_4 (hc0 : cond0_0 i) : out0_A_4 c i arg1 harg1 arg2 harg2 arg3 harg3 arg4 harg4 arg5 harg5 arg6 harg6 arg7 harg7 hc0 x0 x1 x2 x3 = oBlk x0 x1 x2 x3 fun _ => zero :=
  read_stores _ _ _ _ _ (oPieces_A c i arg1 harg1 arg2 harg2 arg3 harg3 arg4 harg4 arg5 harg5 arg6 harg6 arg7 harg7 x0 x1 x2 x3 hc0) (cover0_A_4 c i arg1 harg1 arg2 harg2 arg3 harg3 arg4 harg4 arg5 harg5 arg6 harg6 arg7 harg7 hc0 x0 x1 x2 x3)
    (oPieces_agree _ _ _ _ _ _ _ _ _ _ _ _ _ _ fun h hh => startA_eq _ _ _ _ _ _ _ _ _ _ h hh)
/-- What a later point writes into a result's window. -/
theorem out_B_4 (hc0 : ¬cond0_0 i) (xs0 : Vec F S4x128x256 .f32) : out0_B_4 c i arg1 harg1 arg2 harg2 arg3 harg3 arg4 harg4 arg5 harg5 arg6 harg6 arg7 harg7 hc0 x0 x1 x2 x3 xs0 = oBlk x0 x1 x2 x3 (c0 xs0) :=
  read_stores _ _ _ _ _ (oPieces_B c i arg1 harg1 arg2 harg2 arg3 harg3 arg4 harg4 arg5 harg5 arg6 harg6 arg7 harg7 x0 x1 x2 x3 hc0 xs0) (cover0_B_4 c i arg1 harg1 arg2 harg2 arg3 harg3 arg4 harg4 arg5 harg5 arg6 harg6 arg7 harg7 hc0 x0 x1 x2 x3 xs0)
    (oPieces_agree _ _ _ _ _ _ _ _ _ _ _ _ _ _ fun h _ => lc_eq _ _ _ h)
/-- What a first point writes into a result's window. -/
theorem out_A_5 (hc0 : cond0_0 i) : out0_A_5 c i arg1 harg1 arg2 harg2 arg3 harg3 arg4 harg4 arg5 harg5 arg6 harg6 arg7 harg7 hc0 x0 x1 x2 x3 = sBlk x1 x2 x3 fun _ => zero :=
  read_stores _ _ _ _ _ (sPieces_A c i arg1 harg1 arg2 harg2 arg3 harg3 arg4 harg4 arg5 harg5 arg6 harg6 arg7 harg7 x0 x1 x2 x3 hc0) (cover0_A_5 c i arg1 harg1 arg2 harg2 arg3 harg3 arg4 harg4 arg5 harg5 arg6 harg6 arg7 harg7 hc0 x0 x1 x2 x3)
    (sPieces_agree _ _ _ _ _ _ _ _ _ _ _ fun h hh => startA_eq _ _ _ _ _ _ _ _ _ _ h hh)
/-- What a later point writes into a result's window. -/
theorem out_B_5 (hc0 : ¬cond0_0 i) (xs0 : Vec F S4x128x256 .f32) : out0_B_5 c i arg1 harg1 arg2 harg2 arg3 harg3 arg4 harg4 arg5 harg5 arg6 harg6 arg7 harg7 hc0 x0 x1 x2 x3 xs0 = sBlk x1 x2 x3 (c0 xs0) :=
  read_stores _ _ _ _ _ (sPieces_B c i arg1 harg1 arg2 harg2 arg3 harg3 arg4 harg4 arg5 harg5 arg6 harg6 arg7 harg7 x0 x1 x2 x3 hc0 xs0) (cover0_B_5 c i arg1 harg1 arg2 harg2 arg3 harg3 arg4 harg4 arg5 harg5 arg6 harg6 arg7 harg7 hc0 x0 x1 x2 x3 xs0)
    (sPieces_agree _ _ _ _ _ _ _ _ _ _ _ fun h _ => lc_eq _ _ _ h)
/-- The scratch after a first point. -/
theorem sout_A (hc0 : cond0_0 i) : sout0_A_0 c i arg1 harg1 arg2 harg2 arg3 harg3 arg4 harg4 arg5 harg5 arg6 harg6 arg7 harg7 hc0 x0 x1 x2 x3 = cBlk x1 x2 x3 fun _ => zero := by
  unfold sout0_A_0
  rw [cPieces_A, View.writes_append]
  exact read_stores _ _ _ _ _ rfl (heads_cover _)
    (cPieces_agree _ _ _ _ _ _ _ _ _ _ _ fun h hh => startA_eq _ _ _ _ _ _ _ _ _ _ h hh)
/-- The scratch after a later point. -/
theorem sout_B (hc0 : ¬cond0_0 i) (xs0 : Vec F S4x128x256 .f32) : sout0_B_0 c i arg1 harg1 arg2 harg2 arg3 harg3 arg4 harg4 arg5 harg5 arg6 harg6 arg7 harg7 hc0 x0 x1 x2 x3 xs0 = cBlk x1 x2 x3 (c0 xs0) :=
  read_stores _ _ _ _ _ (cPieces_B c i arg1 harg1 arg2 harg2 arg3 harg3 arg4 harg4 arg5 harg5 arg6 harg6 arg7 harg7 x0 x1 x2 x3 hc0 xs0) (scover0_B_0 c i arg1 harg1 arg2 harg2 arg3 harg3 arg4 harg4 arg5 harg5 arg6 harg6 arg7 harg7 hc0 x0 x1 x2 x3 xs0)
    (cPieces_agree _ _ _ _ _ _ _ _ _ _ _ fun h _ => lc_eq _ _ _ h)

end Point

/-! ## The grid -/

section Grid

variable (V : (c : Dev nD) → (b : Ref sig .tc) → Buf (Elt F) ((c : Thread nD τ).loc b)) (c : Dev nD)

/-- The array of queries, keys and values. -/
abbrev aP : Vec F S4096x10368 .bf16 := V c main_arg0
/-- The log decays. -/
abbrev aA : Vec F S4096x512 .f32 := V c main_arg1

/-- The states of head `h`: `gS h C` is the state before chunk `C`. -/
abbrev gS (h : ℕ) : ℕ → FVec F S128x256 .f32 := states zero (ga (aA V c) h) (gk 512 (by decide) (aP V c) h) (gv (aP V c) h)

/-- The block that a window takes at a grid point. -/
theorem idx0 : ∀ t : Fin cfg0.N, win0_0.index t (0 : Fin 2) = t.val ∧ win0_0.index t (1 : Fin 2) = 0 := (by decide +kernel : ∀ t : Fin grid0.N, _)
/-- The block that a window takes at a grid point. -/
theorem idx1 : ∀ t : Fin cfg0.N, win0_1.index t (0 : Fin 2) = t.val ∧ win0_1.index t (1 : Fin 2) = 1 := (by decide +kernel : ∀ t : Fin grid0.N, _)
/-- The block that a window takes at a grid point. -/
theorem idx2 : ∀ t : Fin cfg0.N, win0_2.index t (0 : Fin 2) = t.val ∧ win0_2.index t (1 : Fin 2) = 1 := (by decide +kernel : ∀ t : Fin grid0.N, _)
/-- The block that a window takes at a grid point. -/
theorem idx3 : ∀ t : Fin cfg0.N, win0_3.index t (0 : Fin 2) = t.val ∧ win0_3.index t (1 : Fin 2) = 0 := (by decide +kernel : ∀ t : Fin grid0.N, _)
/-- The block that a window takes at a grid point. -/
theorem idx4 : ∀ t : Fin cfg0.N, win0_4.index t (0 : Fin 2) = t.val ∧ win0_4.index t (1 : Fin 2) = 0 := (by decide +kernel : ∀ t : Fin grid0.N, _)
/-- The block that a window takes at a grid point. -/
theorem idx5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
/-- The number of grid points. -/
theorem N_eq : cfg0.N = 8 := N_0

/-- The queries' block at point `t`, chunk by chunk. -/
theorem ck_X0 (t : Fin cfg0.N) (h n : ℕ) (hh : h < 4) (hn : n < 8) : ck (X0_0 V c t) h n = gk 0 (by decide) (aP V c) h (8 * t.val + n) := by
  have ht : t.val < 8 := N_eq ▸ t.isLt
  funext y
  show X0_0 V c t ((rK h n).emb y) = _
  unfold X0_0 Pipeline.Window.fill
  rw [dif_pos (moved0_0 t _)]
  obtain ⟨e0, e1⟩ := idx0 t
  refine congrArg (aP V c) (funext fun a => Fin.ext ?_)
  have y0 : (y 0).val < 64 := (y 0).isLt
  have y1 : (y 1).val < 128 := (y 1).isLt
  match a with
  | ⟨0, _⟩ => show win0_0.index t (0 : Fin 2) * 512 + 1 * (64 * (n % 8) + 1 * (y 0).val) = 64 * ((8 * t.val + n) % 64) + (y 0).val; rw [e0]; omega
  | ⟨1, _⟩ => show win0_0.index t (1 : Fin 2) * 512 + 1 * (128 * (h % 4) + 1 * (y 1).val) = 0 + (128 * (h % 4) + (y 1).val); rw [e1]; omega
/-- The keys' block. -/
theorem ck_X1 (t : Fin cfg0.N) (h n : ℕ) (hh : h < 4) (hn : n < 8) : ck (X0_1 V c t) h n = gk 512 (by decide) (aP V c) h (8 * t.val + n) := by
  have ht : t.val < 8 := N_eq ▸ t.isLt
  funext y
  show X0_1 V c t ((rK h n).emb y) = _
  unfold X0_1 Pipeline.Window.fill
  rw [dif_pos (moved0_1 t _)]
  obtain ⟨e0, e1⟩ := idx1 t
  refine congrArg (aP V c) (funext fun a => Fin.ext ?_)
  have y0 : (y 0).val < 64 := (y 0).isLt
  have y1 : (y 1).val < 128 := (y 1).isLt
  match a with
  | ⟨0, _⟩ => show win0_1.index t (0 : Fin 2) * 512 + 1 * (64 * (n % 8) + 1 * (y 0).val) = 64 * ((8 * t.val + n) % 64) + (y 0).val; rw [e0]; omega
  | ⟨1, _⟩ => show win0_1.index t (1 : Fin 2) * 512 + 1 * (128 * (h % 4) + 1 * (y 1).val) = 512 + (128 * (h % 4) + (y 1).val); rw [e1]; omega
/-- The values' block. -/
theorem cv_X2 (t : Fin cfg0.N) (h n : ℕ) (hh : h < 4) (hn : n < 8) : cv (X0_2 V c t) h n = gv (aP V c) h (8 * t.val + n) := by
  have ht : t.val < 8 := N_eq ▸ t.isLt
  funext y
  show X0_2 V c t ((rV h n).emb y) = _
  unfold X0_2 Pipeline.Window.fill
  rw [dif_pos (moved0_2 t _)]
  obtain ⟨e0, e1⟩ := idx2 t
  refine congrArg (aP V c) (funext fun a => Fin.ext ?_)
  have y0 : (y 0).val < 64 := (y 0).isLt
  have y1 : (y 1).val < 256 := (y 1).isLt
  match a with
  | ⟨0, _⟩ => show win0_2.index t (0 : Fin 2) * 512 + 1 * (64 * (n % 8) + 1 * (y 0).val) = 64 * ((8 * t.val + n) % 64) + (y 0).val; rw [e0]; omega
  | ⟨1, _⟩ => show win0_2.index t (1 : Fin 2) * 1024 + 1 * (256 * (h % 4) + 1 * (y 1).val) = 1024 + (256 * (h % 4) + (y 1).val); rw [e1]; omega
/-- The log decays' block. -/
theorem ck_X3 (t : Fin cfg0.N) (h n : ℕ) (hh : h < 4) (hn : n < 8) :
    ck (show Vec F S512x512 .f32 from iblk V c 3 t) h n = ga (aA V c) h (8 * t.val + n) := by
  have ht : t.val < 8 := N_eq ▸ t.isLt
  funext y
  obtain ⟨e0, e1⟩ := idx3 t
  refine congrArg (aA V c) (funext fun a => Fin.ext ?_)
  have y0 : (y 0).val < 64 := (y 0).isLt
  have y1 : (y 1).val < 128 := (y 1).isLt
  match a with
  | ⟨0, _⟩ => show win0_3.index t (0 : Fin 2) * 512 + 1 * (64 * (n % 8) + 1 * (y 0).val) = 64 * ((8 * t.val + n) % 64) + (y 0).val; rw [e0]; omega
  | ⟨1, _⟩ => show win0_3.index t (1 : Fin 2) * 512 + 1 * (128 * (h % 4) + 1 * (y 1).val) = 128 * (h % 4) + (y 1).val; rw [e1]; omega

/-- The states over block `t` are the array's. -/
theorem bsts_eq (t : Fin cfg0.N) (h : ℕ) (hh : h < 4) (n : ℕ) (hn : n ≤ 8) :
    bsts (X0_1 V c t) (X0_2 V c t) (show Vec F S512x512 .f32 from iblk V c 3 t) (gS V c h (8 * t.val)) h n = gS V c h (8 * t.val + n) := by
  refine Eq.trans ?_ (states_add _ _ _ _ (8 * t.val) n)
  refine states_congr _ _ _ _ _ _ _ 8 (fun j hj => ⟨ck_X3 V c t h j hh hj, ck_X1 V c t h j hh hj, cv_X2 V c t h j hh hj⟩) n hn

/-- The output, chunk by chunk. -/
abbrev gO (h n : ℕ) : FVec F S64x256 .bf16 := out (gS V c h (n + 1)) (gk 0 (by decide) (aP V c) h n)

/-- The block of an argument, a result or the scratch at a grid point, by chunks and heads. -/
theorem oBlk_eq (t : Fin cfg0.N) (s : ℕ → FVec F S128x256 .f32) (hs : ∀ h, h < 4 → s h = gS V c h (8 * t.val)) :
    oBlk (X0_0 V c t) (X0_1 V c t) (X0_2 V c t) (show Vec F S512x512 .f32 from iblk V c 3 t) s = bv fun h n => gO V c h (8 * t.val + n) := by
  funext y
  have y0 : (y 0).val < 512 := (y 0).isLt
  have y1 : (y 1).val < 1024 := (y 1).isLt
  have hh : (y 1).val / 256 < 4 := by omega
  have hn : (y 0).val / 64 < 8 := by omega
  unfold oBlk bv
  beta_reduce
  rw [hs _ hh, bsts_eq V c t _ hh _ (by omega), ck_X0 V c t _ _ hh hn]
  rfl
/-- The block of an argument, a result or the scratch at a grid point, by chunks and heads. -/
theorem sBlk_eq (t : Fin cfg0.N) (s : ℕ → FVec F S128x256 .f32) (hs : ∀ h, h < 4 → s h = gS V c h (8 * t.val)) :
    sBlk (X0_1 V c t) (X0_2 V c t) (show Vec F S512x512 .f32 from iblk V c 3 t) s = bs fun h n => gS V c h (8 * t.val + n + 1) := by
  funext y
  have y0 : (y 0).val < 8 := (y 0).isLt
  have hh : (y 1).val < 4 := (y 1).isLt
  unfold sBlk bs
  beta_reduce
  rw [hs _ hh, bsts_eq V c t _ hh _ (by omega)]
  rfl
/-- The block of an argument, a result or the scratch at a grid point, by chunks and heads. -/
theorem cBlk_eq (t : Fin cfg0.N) (s : ℕ → FVec F S128x256 .f32) (hs : ∀ h, h < 4 → s h = gS V c h (8 * t.val)) (h : ℕ) (hh : h < 4) :
    c0 (cBlk (X0_1 V c t) (X0_2 V c t) (show Vec F S512x512 .f32 from iblk V c 3 t) s) h = gS V c h (8 * t.val + 8) := by
  unfold cBlk
  rw [c0_bc _ _ hh, hs _ hh, bsts_eq V c t _ hh _ le_rfl]

/-- After point `t`: the output block, the block of states and the carried states. -/
theorem outs_eq : ∀ (n : ℕ) (hn : n < cfg0.N), (outsAt0 V c n hn).1 = bv (fun h j => gO V c h (8 * n + j))
    ∧ (outsAt0 V c n hn).2.1 = bs (fun h j => gS V c h (8 * n + j + 1)) ∧ ∀ h, h < 4 → c0 (outsAt0 V c n hn).2.2 h = gS V c h (8 * n + 8)
  | 0, hn => by
    rw [outsAt0_A V c ⟨0, hn⟩ rfl]
    dsimp only
    rw [out_A_4, out_A_5, sout_A]
    exact ⟨oBlk_eq V c ⟨0, hn⟩ _ fun h _ => rfl, sBlk_eq V c ⟨0, hn⟩ _ fun h _ => rfl, cBlk_eq V c ⟨0, hn⟩ _ fun h _ => rfl⟩
  | n + 1, hn => by
    have h8 : n + 1 < 8 := N_eq ▸ hn
    have ih := (outs_eq n (by omega)).2.2
    rw [outsAt0_B V c ⟨n + 1, hn⟩ (by show ¬(n + 1) % 8 = 0; omega)]
    dsimp only
    rw [out_B_4, out_B_5, sout_B]
    exact ⟨oBlk_eq V c ⟨n + 1, hn⟩ _ ih, sBlk_eq V c ⟨n + 1, hn⟩ _ ih, cBlk_eq V c ⟨n + 1, hn⟩ _ ih⟩

/-- The output array after the launch. -/
theorem arr4 : (dats V c).arrAt 4 cfg0.N = wv (gO V c) := by
  refine (dats V c).arrAt_eq_of_covers 4 _ (by decide +kernel) fun t hf y => ?_
  show (dats V c).after 4 t ((cfg0.win 4).xinj (grid0.coords t) y) = wv (gO V c) (((cfg0.win 4).blk t).view.emb y)
  rw [after0_4, (outs_eq V c t.val t.isLt).1]
  obtain ⟨e0, e1⟩ := idx4 t
  have hy0 : (y 0).val < 512 := (y 0).isLt
  have hy1 : (y 1).val < 1024 := (y 1).isLt
  have hb0 : (((cfg0.win 4).blk t).view.emb y 0).val = win0_4.index t (0 : Fin 2) * 512 + 1 * (y 0).val := rfl
  have hb1 : (((cfg0.win 4).blk t).view.emb y 1).val = win0_4.index t (1 : Fin 2) * 1024 + 1 * (y 1).val := rfl
  show gO V c ((y 1).val / 256) (8 * t.val + (y 0).val / 64) (inV (y 0).val (y 1).val)
    = gO V c ((((cfg0.win 4).blk t).view.emb y 1).val / 256) ((((cfg0.win 4).blk t).view.emb y 0).val / 64) (inV (((cfg0.win 4).blk t).view.emb y 0).val (((cfg0.win 4).blk t).view.emb y 1).val)
  rw [hb0, hb1, e0, e1, show (t.val * 512 + 1 * (y 0).val) / 64 = 8 * t.val + (y 0).val / 64 by omega, show 0 * 1024 + 1 * (y 1).val = (y 1).val by omega]
  congr 1; funext a; apply Fin.ext
  match a with
  | ⟨0, _⟩ => show (y 0).val % 64 = (t.val * 512 + 1 * (y 0).val) % 64; omega
  | ⟨1, _⟩ => rfl

/-- The array of states after the launch. -/
theorem arr5 : (dats V c).arrAt 5 cfg0.N = ws (fun h n => gS V c h (n + 1)) := by
  refine (dats V c).arrAt_eq_of_covers 5 _ (by decide +kernel) fun t hf y => ?_
  show (dats V c).after 5 t ((cfg0.win 5).xinj (grid0.coords t) y) = ws (fun h n => gS V c h (n + 1)) (((cfg0.win 5).blk t).view.emb y)
  rw [after0_5, (outs_eq V c t.val t.isLt).2.1]
  obtain ⟨e0, e1, e2, e3⟩ := idx5 t
  have hb0 : (((cfg0.win 5).blk t).view.emb y 0).val = win0_5.index t (0 : Fin 4) * 8 + 1 * (y 0).val := rfl
  have hb1 : (((cfg0.win 5).blk t).view.emb y 1).val = win0_5.index t (1 : Fin 4) * 4 + 1 * (y 1).val := rfl
  have hb2 : (((cfg0.win 5).blk t).view.emb y 2).val = win0_5.index t (2 : Fin 4) * 128 + 1 * (y 2).val := rfl
  have hb3 : (((cfg0.win 5).blk t).view.emb y 3).val = win0_5.index t (3 : Fin 4) * 256 + 1 * (y 3).val := rfl
  show gS V c (y 1).val (8 * t.val + (y 0).val + 1) (inS (y 2).val (y 3).val)
    = gS V c (((cfg0.win 5).blk t).view.emb y 1).val ((((cfg0.win 5).blk t).view.emb y 0).val + 1) (inS (((cfg0.win 5).blk t).view.emb y 2).val (((cfg0.win 5).blk t).view.emb y 3).val)
  rw [hb0, hb1, hb2, hb3, e0, e1, e2, e3, show t.val * 8 + 1 * (y 0).val = 8 * t.val + (y 0).val by omega, show 0 * 4 + 1 * (y 1).val = (y 1).val by omega,
    show 0 * 128 + 1 * (y 2).val = (y 2).val by omega, show 0 * 256 + 1 * (y 3).val = (y 3).val by omega]

end Grid

end Cert.KernelIdeal.Fwd

end
-- ==== Proof.Bwd.Pieces.lean ====
/-
  What the backward body's stores hold, as one list over heads and chunks.
-/
module

public import proofs.«01_k».proof.Proof.Tiles
public import proofs.«01_k».proof.Proof.Bwd.Body

@[expose] public section

noncomputable section

namespace Cert.KernelIdeal.Bwd

open Cert.KernelIdeal.Gen Cert.KernelIdeal.Block Cert.KernelIdeal.Tiles
open Idealize.ShloMosaic Idealize.ShloMosaic.TcCoe Idealize.ShloMosaic.Tactic

variable {F : FTy → Type} [FloatOps F] [Named F]

/-- The chunks of a block, the first last written. -/
abbrev chunks : List ℕ := [0, 1, 2, 3, 4, 5, 6, 7]

variable (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole)
  (x0 : Vec F S512x512 .bf16) (x1 : Vec F S512x512 .bf16) (x2 : Vec F S512x1024 .bf16) (x3 : Vec F S512x512 .f32)
  (x4 : Vec F S512x1024 .bf16) (x5 : Vec F S8x4x128x256 .f32) (x6 : Vec F S1x4x128x256 .f32)

/-- The carried cotangent of head `h` after `j` chunks, from the cotangent `s`. -/
abbrev cts (s : FVec F S128x256 .f32) (h j : ℕ) : FVec F S128x256 .f32 :=
  carries s (lk arg4 harg4 x3 h) (lk arg1 harg1 x0 h) (lv arg5 harg5 x4 h) j
/-- The cotangent of the state after chunk `n` of head `h`. -/
abbrev dst (s : FVec F S128x256 .f32) (h n : ℕ) : FVec F S128x256 .f32 :=
  dsAt s (lk arg4 harg4 x3 h) (lk arg1 harg1 x0 h) (lv arg5 harg5 x4 h) n
/-- The state before chunk `n` of head `h`. -/
abbrev bef (h n : ℕ) : FVec F S128x256 .f32 :=
  prior (mulf (lp arg7 harg7 x6 h) (broadcast S128x256 (hasPrev (BitVec.ofNat 32 (i 0).val)))) (ls arg6 harg6 x5 h) n

/-- The stores into the gradient of the queries. -/
def qPieces : List (View.Piece (Elt F) S512x512 .bf16) :=
  heads.flatMap fun h => chunks.map fun n => ⟨rK h n, dq (lv arg5 harg5 x4 h n) (ls arg6 harg6 x5 h n)⟩
/-- The stores into the gradient of the keys. -/
def kPieces (s : ℕ → FVec F S128x256 .f32) : List (View.Piece (Elt F) S512x512 .bf16) :=
  heads.flatMap fun h => chunks.map fun n => ⟨rK h n, dk (lk arg4 harg4 x3 h n) (lv arg3 harg3 x2 h n) (dst arg1 harg1 arg4 harg4 arg5 harg5 x0 x3 x4 (s h) h n)⟩
/-- The stores into the gradient of the values. -/
def vPieces (s : ℕ → FVec F S128x256 .f32) : List (View.Piece (Elt F) S512x1024 .bf16) :=
  heads.flatMap fun h => chunks.map fun n => ⟨rV h n, dv (lk arg4 harg4 x3 h n) (lk arg2 harg2 x1 h n) (dst arg1 harg1 arg4 harg4 arg5 harg5 x0 x3 x4 (s h) h n)⟩
/-- The stores into the gradient of the log decays. -/
def aPieces (s : ℕ → FVec F S128x256 .f32) : List (View.Piece (Elt F) S512x512 .f32) :=
  heads.flatMap fun h => chunks.map fun n => ⟨rK h n, da (lk arg4 harg4 x3 h n) (lk arg2 harg2 x1 h n) (lv arg3 harg3 x2 h n)
    (dst arg1 harg1 arg4 harg4 arg5 harg5 x0 x3 x4 (s h) h n) (bef i arg6 harg6 arg7 harg7 x5 x6 h n)⟩
/-- The stores into the carried cotangents. -/
def cPieces (s : ℕ → FVec F S128x256 .f32) : List (View.Piece (Elt F) S4x128x256 .f32) :=
  heads.map fun h => ⟨rC h, shapeCast S1x128x256 (cts arg1 harg1 arg4 harg4 arg5 harg5 x0 x3 x4 (s h) h 8) shapeCasts_S128x256_S1x128x256⟩
/-- The carried cotangent of head `h` at the start of the block, from the one `s` at its end. -/
abbrev fin (h : ℕ) (s : FVec F S128x256 .f32) : FVec F S128x256 .f32 := cts arg1 harg1 arg4 harg4 arg5 harg5 x0 x3 x4 s h 8
/-- What the heads start from at the first grid point. -/
abbrev startA : ℕ → FVec F S128x256 .f32 := start arg12.view (fin arg1 harg1 arg4 harg4 arg5 harg5 x0 x3 x4)

/-- The stores into the gradient of the queries at the first grid point. -/
theorem qPieces_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 = qPieces arg5 harg5 arg6 harg6 x4 x5  := by
  sl_kernel_rfl
/-- The stores into the gradient of the queries at a later grid point. -/
theorem qPieces_B (hc0 : ¬cond0_0 i) (xs0 : Vec F S4x128x256 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1 = qPieces arg5 harg5 arg6 harg6 x4 x5  := by
  sl_kernel_rfl
/-- The stores into the gradient of the keys at the first grid point. -/
theorem kPieces_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 = kPieces arg1 harg1 arg3 harg3 arg4 harg4 arg5 harg5 x0 x2 x3 x4 (startA arg1 harg1 arg4 harg4 arg5 harg5 arg12 x0 x3 x4) := by
  sl_kernel_rfl
/-- The stores into the gradient of the keys at a later grid point. -/
theorem kPieces_B (hc0 : ¬cond0_0 i) (xs0 : Vec F S4x128x256 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1 = kPieces arg1 harg1 arg3 harg3 arg4 harg4 arg5 harg5 x0 x2 x3 x4 (lc arg12 harg12 xs0) := by
  sl_kernel_rfl
/-- The stores into the gradient of the values at the first grid point. -/
theorem vPieces_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 = vPieces arg1 harg1 arg2 harg2 arg4 harg4 arg5 harg5 x0 x1 x3 x4 (startA arg1 harg1 arg4 harg4 arg5 harg5 arg12 x0 x3 x4) := by
  sl_kernel_rfl
/-- The stores into the gradient of the values at a later grid point. -/
theorem vPieces_B (hc0 : ¬cond0_0 i) (xs0 : Vec F S4x128x256 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1 = vPieces arg1 harg1 arg2 harg2 arg4 harg4 arg5 harg5 x0 x1 x3 x4 (lc arg12 harg12 xs0) := by
  sl_kernel_rfl
/-- The stores into the gradient of the log decays at the first grid point. -/
theorem aPieces_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 = aPieces i arg1 harg1 arg2 harg2 arg3 harg3 arg4 harg4 arg5 harg5 arg6 harg6 arg7 harg7 x0 x1 x2 x3 x4 x5 x6 (startA arg1 harg1 arg4 harg4 arg5 harg5 arg12 x0 x3 x4) := by
  sl_kernel_rfl
/-- The stores into the gradient of the log decays at a later grid point. -/
theorem aPieces_B (hc0 : ¬cond0_0 i) (xs0 : Vec F S4x128x256 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1 = aPieces i arg1 harg1 arg2 harg2 arg3 harg3 arg4 harg4 arg5 harg5 arg6 harg6 arg7 harg7 x0 x1 x2 x3 x4 x5 x6 (lc arg12 harg12 xs0) := by
  sl_kernel_rfl
/-- The stores into the carried cotangents at the first grid point. -/
theorem cPieces_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 = cPieces arg1 harg1 arg4 harg4 arg5 harg5 x0 x3 x4 (startA arg1 harg1 arg4 harg4 arg5 harg5 arg12 x0 x3 x4) ++ hist arg12.view (fin arg1 harg1 arg4 harg4 arg5 harg5 x0 x3 x4) 0 := by
  sl_kernel_rfl
/-- The stores into the carried cotangents at a later grid point. -/
theorem cPieces_B (hc0 : ¬cond0_0 i) (xs0 : Vec F S4x128x256 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1 = cPieces arg1 harg1 arg4 harg4 arg5 harg5 x0 x3 x4 (lc arg12 harg12 xs0) := by
  sl_kernel_rfl

end Cert.KernelIdeal.Bwd

end
-- ==== Proof.Bwd.Value.lean ====
/-
  What the backward launch leaves: the four gradients, chunk by chunk, as functions of the arrays it reads.
-/
module

public import proofs.«01_k».proof.Proof.Assemble
public import proofs.«01_k».proof.Proof.Bwd.Pieces
public import Idealize.ShloMosaic.Lib.Pipeline.ValueKit.Geometry

@[expose] public section

noncomputable section

namespace Cert.KernelIdeal.Bwd

open Cert.KernelIdeal.Gen Cert.KernelIdeal.Block Cert.KernelIdeal.Tiles
open Idealize.ShloMosaic Idealize.ShloMosaic.TcCoe Idealize.ShloMosaic.Tactic Idealize.ShloMosaic.Pipeline

variable {F : FTy → Type} [FloatOps F] [Named F]

/-! ## One block -/

section Point

variable (c : Dev nD) (i : grid1.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x128x256 .f32) (harg6 : arg6.IsWhole) (arg7 : Memref sig .tc .vmem S1x4x128x256 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x128x256 .f32) (harg12 : arg12.IsWhole)
  (x0 : Vec F S512x512 .bf16) (x1 : Vec F S512x512 .bf16) (x2 : Vec F S512x1024 .bf16) (x3 : Vec F S512x512 .f32)
  (x4 : Vec F S512x1024 .bf16) (x5 : Vec F S8x4x128x256 .f32) (x6 : Vec F S1x4x128x256 .f32)

/-- The carried cotangents of head `h` over a block, from the cotangent `s`. -/
abbrev bcts (s : FVec F S128x256 .f32) (h j : ℕ) : FVec F S128x256 .f32 := carries s (ck x3 h) (ck x0 h) (cv x4 h) j
/-- The cotangent of the state after chunk `n` of head `h`. -/
abbrev bdst (s : FVec F S128x256 .f32) (h n : ℕ) : FVec F S128x256 .f32 := dsAt s (ck x3 h) (ck x0 h) (cv x4 h) n
/-- The state before chunk `n` of head `h`. -/
abbrev bbef (h n : ℕ) : FVec F S128x256 .f32 := prior (mulf (cp x6 h) (broadcast S128x256 (hasPrev (BitVec.ofNat 32 (i 0).val)))) (cs x5 h) n
/-- The block of the queries' gradient. -/
def qBlk : Vec F S512x512 .bf16 := bk fun h n => dq (cv x4 h n) (cs x5 h n)
/-- The block of the keys' gradient. -/
def kBlk (s : ℕ → FVec F S128x256 .f32) : Vec F S512x512 .bf16 := bk fun h n => dk (ck x3 h n) (cv x2 h n) (bdst x0 x3 x4 (s h) h n)
/-- The block of the values' gradient. -/
def vBlk (s : ℕ → FVec F S128x256 .f32) : Vec F S512x1024 .bf16 := bv fun h n => dv (ck x3 h n) (ck x1 h n) (bdst x0 x3 x4 (s h) h n)
/-- The block of the log decays' gradient. -/
def aBlk (s : ℕ → FVec F S128x256 .f32) : Vec F S512x512 .f32 := bk fun h n => da (ck x3 h n) (ck x1 h n) (cv x2 h n) (bdst x0 x3 x4 (s h) h n) (bbef i x5 x6 h n)
/-- The cotangents carried on. -/
def cBlk (s : ℕ → FVec F S128x256 .f32) : Vec F S4x128x256 .f32 := bc fun h => bcts x0 x3 x4 (s h) h 8

/-- The cotangents from loads are those from the blocks. -/
theorem cts_eq (s : FVec F S128x256 .f32) (h j : ℕ) : cts arg1 harg1 arg4 harg4 arg5 harg5 x0 x3 x4 s h j = bcts x0 x3 x4 s h j := by
  unfold cts bcts
  rw [show lk arg4 harg4 x3 h = ck x3 h from funext fun n => lk_eq arg4 harg4 x3 h n, show lk arg1 harg1 x0 h = ck x0 h from funext fun n => lk_eq arg1 harg1 x0 h n,
    show lv arg5 harg5 x4 h = cv x4 h from funext fun n => lv_eq arg5 harg5 x4 h n]
/-- The cotangent at a chunk, from the one carried. -/
theorem dst_eq (s : FVec F S128x256 .f32) (h n : ℕ) : dst arg1 harg1 arg4 harg4 arg5 harg5 x0 x3 x4 s h n = bdst x0 x3 x4 s h n := by
  unfold dst bdst
  rw [show lk arg4 harg4 x3 h = ck x3 h from funext fun n => lk_eq arg4 harg4 x3 h n, show lk arg1 harg1 x0 h = ck x0 h from funext fun n => lk_eq arg1 harg1 x0 h n,
    show lv arg5 harg5 x4 h = cv x4 h from funext fun n => lv_eq arg5 harg5 x4 h n]
/-- The state before, from loads, is the one from the blocks. -/
theorem bef_eq (h n : ℕ) : bef i arg6 harg6 arg7 harg7 x5 x6 h n = bbef i x5 x6 h n := by
  unfold bef bbef
  rw [show ls arg6 harg6 x5 h = cs x5 h from funext fun n => ls_eq arg6 harg6 x5 h n, lp_eq]

/-- Every chunk is one of a block's eight. -/
theorem chunks_lt : ∀ n ∈ chunks, n < 8 := by decide

/-- The stores into the gradient of the queries agree with its block. -/
theorem qPieces_agree :
    ∀ p ∈ qPieces arg5 harg5 arg6 harg6 x4 x5, ∀ x : p.1.shape.Idx, p.2 x = qBlk x4 x5 (p.1.emb x) := by
  refine forall_stores chunks chunks_lt _ fun h n hh hn x => ?_
  unfold qBlk
  refine Eq.trans ?_ (bk_emb _ h n hh hn x).symm
  show dq (lv arg5 harg5 x4 h n) (ls arg6 harg6 x5 h n) x = _
  rw [lv_eq, ls_eq]
/-- The stores into the gradient of the keys agree with its block. -/
theorem kPieces_agree (s s' : ℕ → FVec F S128x256 .f32) (hs : ∀ h, h < 4 → s h = s' h) :
    ∀ p ∈ kPieces arg1 harg1 arg3 harg3 arg4 harg4 arg5 harg5 x0 x2 x3 x4 s, ∀ x : p.1.shape.Idx, p.2 x = kBlk x0 x2 x3 x4 s' (p.1.emb x) := by
  refine forall_stores chunks chunks_lt _ fun h n hh hn x => ?_
  unfold kBlk
  refine Eq.trans ?_ (bk_emb _ h n hh hn x).symm
  show dk (lk arg4 harg4 x3 h n) (lv arg3 harg3 x2 h n) (dst arg1 harg1 arg4 harg4 arg5 harg5 x0 x3 x4 (s h) h n) x = _
  rw [dst_eq, lk_eq, lv_eq, hs h hh]
/-- The stores into the gradient of the values agree with its block. -/
theorem vPieces_agree (s s' : ℕ → FVec F S128x256 .f32) (hs : ∀ h, h < 4 → s h = s' h) :
    ∀ p ∈ vPieces arg1 harg1 arg2 harg2 arg4 harg4 arg5 harg5 x0 x1 x3 x4 s, ∀ x : p.1.shape.Idx, p.2 x = vBlk x0 x1 x3 x4 s' (p.1.emb x) := by
  refine forall_stores chunks chunks_lt _ fun h n hh hn x => ?_
  unfold vBlk
  refine Eq.trans ?_ (bv_emb _ h n hh hn x).symm
  show dv (lk arg4 harg4 x3 h n) (lk arg2 harg2 x1 h n) (dst arg1 harg1 arg4 harg4 arg5 harg5 x0 x3 x4 (s h) h n) x = _
  rw [dst_eq, lk_eq, lk_eq, hs h hh]
/-- The stores into the gradient of the log decays agree with its block. -/
theorem aPieces_agree (s s' : ℕ → FVec F S128x256 .f32) (hs : ∀ h, h < 4 → s h = s' h) :
    ∀ p ∈ aPieces i arg1 harg1 arg2 harg2 arg3 harg3 arg4 harg4 arg5 harg5 arg6 harg6 arg7 harg7 x0 x1 x2 x3 x4 x5 x6 s, ∀ x : p.1.shape.Idx, p.2 x = aBlk i x0 x1 x2 x3 x4 x5 x6 s' (p.1.emb x) := by
  refine forall_stores chunks chunks_lt _ fun h n hh hn x => ?_
  unfold aBlk
  refine Eq.trans ?_ (bk_emb _ h n hh hn x).symm
  show da (lk arg4 harg4 x3 h n) (lk arg2 harg2 x1 h n) (lv arg3 harg3 x2 h n) (dst arg1 harg1 arg4 harg4 arg5 harg5 x0 x3 x4 (s h) h n) (bef i arg6 harg6 arg7 harg7 x5 x6 h n) x = _
  rw [dst_eq, lk_eq, lk_eq, lv_eq, bef_eq, hs h hh]
/-- The stores into the carried cotangents agree with the cotangents carried on. -/
theorem cPieces_agree (s s' : ℕ → FVec F S128x256 .f32) (hs : ∀ h, h < 4 → s h = s' h) :
    ∀ p ∈ cPieces arg1 harg1 arg4 harg4 arg5 harg5 x0 x3 x4 s, ∀ x : p.1.shape.Idx, p.2 x = cBlk x0 x3 x4 s' (p.1.emb x) := by
  refine forall_heads _ fun h hh x => ?_
  unfold cBlk
  refine Eq.trans ?_ (bc_emb _ h hh x).symm
  show shapeCast S1x128x256 (cts arg1 harg1 arg4 harg4 arg5 harg5 x0 x3 x4 (s h) h 8) shapeCasts_S128x256_S1x128x256 x = _
  rw [cts_eq, hs h hh]

/-- The state that the first point starts from. -/
theorem startA_eq (h : ℕ) (hh : h < 4) : startA arg1 harg1 arg4 harg4 arg5 harg5 arg12 x0 x3 x4 h = zero := start_eq _ _ h hh

/-- What a first point writes into a result's window. -/
theorem out_A_7 (hc0 : cond0_0 i) : out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = qBlk x4 x5 :=
  read_stores _ _ _ _ _ (qPieces_A c i arg1 harg1 arg2 harg2 arg3 harg3 arg4 harg4 arg5 harg5 arg6 harg6 arg7 harg7 arg8 harg8 arg9 harg9 arg10 harg10 arg11 harg11 arg12 harg12 x0 x1 x2 x3 x4 x5 x6 hc0) (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)
    (qPieces_agree _ _ _ _ _ _)
/-- What a later point writes into a result's window. -/
theorem out_B_7 (hc0 : ¬cond0_0 i) (xs0 : Vec F S4x128x256 .f32) : out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = qBlk x4 x5 :=
  read_stores _ _ _ _ _ (qPieces_B c i arg1 harg1 arg2 harg2 arg3 harg3 arg4 harg4 arg5 harg5 arg6 harg6 arg7 harg7 arg8 harg8 arg9 harg9 arg10 harg10 arg11 harg11 arg12 harg12 x0 x1 x2 x3 x4 x5 x6 hc0 xs0) (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)
    (qPieces_agree _ _ _ _ _ _)
/-- What a first point writes into a result's window. -/
theorem out_A_8 (hc0 : cond0_0 i) : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = kBlk x0 x2 x3 x4 fun _ => zero :=
  read_stores _ _ _ _ _ (kPieces_A c i arg1 harg1 arg2 harg2 arg3 harg3 arg4 harg4 arg5 harg5 arg6 harg6 arg7 harg7 arg8 harg8 arg9 harg9 arg10 harg10 arg11 harg11 arg12 harg12 x0 x1 x2 x3 x4 x5 x6 hc0) (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6)
    (kPieces_agree _ _ _ _ _ _ _ _ _ _ _ _ _ _ fun h hh => startA_eq _ _ _ _ _ _ _ _ _ _ h hh)
/-- What a later point writes into a result's window. -/
theorem out_B_8 (hc0 : ¬cond0_0 i) (xs0 : Vec F S4x128x256 .f32) : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = kBlk x0 x2 x3 x4 (c0 xs0) :=
  read_stores _ _ _ _ _ (kPieces_B c i arg1 harg1 arg2 harg2 arg3 harg3 arg4 harg4 arg5 harg5 arg6 harg6 arg7 harg7 arg8 harg8 arg9 harg9 arg10 harg10 arg11 harg11 arg12 harg12 x0 x1 x2 x3 x4 x5 x6 hc0 xs0) (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)
    (kPieces_agree _ _ _ _ _ _ _ _ _ _ _ _ _ _ fun h _ => lc_eq _ _ _ h)
/-- What a first point writes into a result's window. -/
theorem out_A_9 (hc0 : cond0_0 i) : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = vBlk x0 x1 x3 x4 fun _ => zero :=
  read_stores _ _ _ _ _ (vPieces_A c i arg1 harg1 arg2 harg2 arg3 harg3 arg4 harg4 arg5 harg5 arg6 harg6 arg7 harg7 arg8 harg8 arg9 harg9 arg10 harg10 arg11 harg11 arg12 harg12 x0 x1 x2 x3 x4 x5 x6 hc0) (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6)
    (vPieces_agree _ _ _ _ _ _ _ _ _ _ _ _ _ _ fun h hh => startA_eq _ _ _ _ _ _ _ _ _ _ h hh)
/-- What a later point writes into a result's window. -/
theorem out_B_9 (hc0 : ¬cond0_0 i) (xs0 : Vec F S4x128x256 .f32) : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = vBlk x0 x1 x3 x4 (c0 xs0) :=
  read_stores _ _ _ _ _ (vPieces_B c i arg1 harg1 arg2 harg2 arg3 harg3 arg4 harg4 arg5 harg5 arg6 harg6 arg7 harg7 arg8 harg8 arg9 harg9 arg10 harg10 arg11 harg11 arg12 harg12 x0 x1 x2 x3 x4 x5 x6 hc0 xs0) (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)
    (vPieces_agree _ _ _ _ _ _ _ _ _ _ _ _ _ _ fun h _ => lc_eq _ _ _ h)
/-- What a first point writes into a result's window. -/
theorem out_A_10 (hc0 : cond0_0 i) : out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = aBlk i x0 x1 x2 x3 x4 x5 x6 fun _ => zero :=
  read_stores _ _ _ _ _ (aPieces_A c i arg1 harg1 arg2 harg2 arg3 harg3 arg4 harg4 arg5 harg5 arg6 harg6 arg7 harg7 arg8 harg8 arg9 harg9 arg10 harg10 arg11 harg11 arg12 harg12 x0 x1 x2 x3 x4 x5 x6 hc0) (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6)
    (aPieces_agree _ _ _ _ _ _ _ _ _ _ _ _ _ _ _ _ _ _ _ _ _ _ _ _ fun h hh => startA_eq _ _ _ _ _ _ _ _ _ _ h hh)
/-- What a later point writes into a result's window. -/
theorem out_B_10 (hc0 : ¬cond0_0 i) (xs0 : Vec F S4x128x256 .f32) : out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = aBlk i x0 x1 x2 x3 x4 x5 x6 (c0 xs0) :=
  read_stores _ _ _ _ _ (aPieces_B c i arg1 harg1 arg2 harg2 arg3 harg3 arg4 harg4 arg5 harg5 arg6 harg6 arg7 harg7 arg8 harg8 arg9 harg9 arg10 harg10 arg11 harg11 arg12 harg12 x0 x1 x2 x3 x4 x5 x6 hc0 xs0) (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)
    (aPieces_agree _ _ _ _ _ _ _ _ _ _ _ _ _ _ _ _ _ _ _ _ _ _ _ _ fun h _ => lc_eq _ _ _ h)
/-- The scratch after a first point. -/
theorem sout_A (hc0 : cond0_0 i) : sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = cBlk x0 x3 x4 fun _ => zero := by
  unfold sout0_A_0
  rw [cPieces_A, View.writes_append]
  exact read_stores _ _ _ _ _ rfl (heads_cover _)
    (cPieces_agree _ _ _ _ _ _ _ _ _ _ _ fun h hh => startA_eq _ _ _ _ _ _ _ _ _ _ h hh)
/-- The scratch after a later point. -/
theorem sout_B (hc0 : ¬cond0_0 i) (xs0 : Vec F S4x128x256 .f32) : sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = cBlk x0 x3 x4 (c0 xs0) :=
  read_stores _ _ _ _ _ (cPieces_B c i arg1 harg1 arg2 harg2 arg3 harg3 arg4 harg4 arg5 harg5 arg6 harg6 arg7 harg7 arg8 harg8 arg9 harg9 arg10 harg10 arg11 harg11 arg12 harg12 x0 x1 x2 x3 x4 x5 x6 hc0 xs0) (scover0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)
    (cPieces_agree _ _ _ _ _ _ _ _ _ _ _ fun h _ => lc_eq _ _ _ h)

end Point

/-! ## The grid -/

section Grid

variable (V : (c : Dev nD) → (b : Ref sig .tc) → Buf (Elt F) ((c : Thread nD τ).loc b)) (c : Dev nD)

/-- The array of queries, keys and values. -/
abbrev aP : Vec F S4096x10368 .bf16 := V c main_arg0
/-- The log decays. -/
abbrev aA : Vec F S4096x512 .f32 := V c main_arg1
/-- The output's cotangent. -/
abbrev aG : Vec F S4096x1024 .bf16 := V c main_arg2
/-- The states saved by the forward launch. -/
abbrev aX : Vec F S64x4x128x256 .f32 := V c main_v0_1

/-- The carried cotangents of head `h`: `gC h j` is the one after the last `j` chunks. -/
abbrev gC (h : ℕ) : ℕ → FVec F S128x256 .f32 :=
  back zero (fun j => ga (aA V c) h (63 - j)) (fun j => gk 0 (by decide) (aP V c) h (63 - j)) (fun j => gg (aG V c) h (63 - j))
/-- The cotangent of the state after chunk `n`. -/
abbrev gD (h n : ℕ) : FVec F S128x256 .f32 := ds (gC V c h (63 - n)) (gk 0 (by decide) (aP V c) h n) (gg (aG V c) h n)
/-- The state before chunk `n`. -/
def gB (h n : ℕ) : FVec F S128x256 .f32 :=
  if n % 8 = 0 then mulf (gx (aX V c) h (n - 1)) (broadcast S128x256 (hasPrev (BitVec.ofNat 32 (7 - n / 8)))) else gx (aX V c) h (n - 1)
/-- The queries' gradient, chunk by chunk. -/
abbrev gQ (h n : ℕ) : FVec F S64x128 .bf16 := dq (gg (aG V c) h n) (gx (aX V c) h n)
/-- The keys' gradient. -/
abbrev gK (h n : ℕ) : FVec F S64x128 .bf16 := dk (ga (aA V c) h n) (gv (aP V c) h n) (gD V c h n)
/-- The values' gradient. -/
abbrev gV (h n : ℕ) : FVec F S64x256 .bf16 := dv (ga (aA V c) h n) (gk 512 (by decide) (aP V c) h n) (gD V c h n)
/-- The log decays' gradient. -/
abbrev gA (h n : ℕ) : FVec F S64x128 .f32 := da (ga (aA V c) h n) (gk 512 (by decide) (aP V c) h n) (gv (aP V c) h n) (gD V c h n) (gB V c h n)

/-- The number of grid points. -/
theorem N_eq : cfg1.N = 8 := N_1
/-- The grid point's coordinate. -/
theorem coord : ∀ t : Fin cfg1.N, ((grid1.coords t) 0).val = t.val := (by decide +kernel : ∀ t : Fin grid1.N, _)
/-- The block that a window takes at a grid point. -/
theorem idx0 : ∀ t : Fin cfg1.N, win1_0.index t (0 : Fin 2) = 7 - t.val ∧ win1_0.index t (1 : Fin 2) = 0 := (by decide +kernel : ∀ t : Fin grid1.N, _)
/-- The block that a window takes at a grid point. -/
theorem idx1 : ∀ t : Fin cfg1.N, win1_1.index t (0 : Fin 2) = 7 - t.val ∧ win1_1.index t (1 : Fin 2) = 1 := (by decide +kernel : ∀ t : Fin grid1.N, _)
/-- The block that a window takes at a grid point. -/
theorem idx2 : ∀ t : Fin cfg1.N, win1_2.index t (0 : Fin 2) = 7 - t.val ∧ win1_2.index t (1 : Fin 2) = 1 := (by decide +kernel : ∀ t : Fin grid1.N, _)
/-- The block that a window takes at a grid point. -/
theorem idx3 : ∀ t : Fin cfg1.N, win1_3.index t (0 : Fin 2) = 7 - t.val ∧ win1_3.index t (1 : Fin 2) = 0 := (by decide +kernel : ∀ t : Fin grid1.N, _)
/-- The block that a window takes at a grid point. -/
theorem idx4 : ∀ t : Fin cfg1.N, win1_4.index t (0 : Fin 2) = 7 - t.val ∧ win1_4.index t (1 : Fin 2) = 0 := (by decide +kernel : ∀ t : Fin grid1.N, _)
/-- The block that a window takes at a grid point. -/
theorem idx7 : ∀ t : Fin cfg1.N, win1_7.index t (0 : Fin 2) = 7 - t.val ∧ win1_7.index t (1 : Fin 2) = 0 := (by decide +kernel : ∀ t : Fin grid1.N, _)
/-- The block that a window takes at a grid point. -/
theorem idx8 : ∀ t : Fin cfg1.N, win1_8.index t (0 : Fin 2) = 7 - t.val ∧ win1_8.index t (1 : Fin 2) = 0 := (by decide +kernel : ∀ t : Fin grid1.N, _)
/-- The block that a window takes at a grid point. -/
theorem idx9 : ∀ t : Fin cfg1.N, win1_9.index t (0 : Fin 2) = 7 - t.val ∧ win1_9.index t (1 : Fin 2) = 0 := (by decide +kernel : ∀ t : Fin grid1.N, _)
/-- The block that a window takes at a grid point. -/
theorem idx10 : ∀ t : Fin cfg1.N, win1_10.index t (0 : Fin 2) = 7 - t.val ∧ win1_10.index t (1 : Fin 2) = 0 := (by decide +kernel : ∀ t : Fin grid1.N, _)
/-- The block that a window takes at a grid point. -/
theorem idx5 : ∀ t : Fin cfg1.N, win1_5.index t (0 : Fin 4) = 7 - t.val ∧ win1_5.index t (1 : Fin 4) = 0 ∧ win1_5.index t (2 : Fin 4) = 0 ∧ win1_5.index t (3 : Fin 4) = 0 :=
  (by decide +kernel : ∀ t : Fin grid1.N, _)
/-- The block that a window takes at a grid point. -/
theorem idx6 : ∀ t : Fin cfg1.N, win1_6.index t (0 : Fin 4) = 8 * (7 - t.val) - 1 ∧ win1_6.index t (1 : Fin 4) = 0 ∧ win1_6.index t (2 : Fin 4) = 0 ∧ win1_6.index t (3 : Fin 4) = 0 :=
  (by decide +kernel : ∀ t : Fin grid1.N, _)
/-- The queries' block at point `t`, chunk by chunk. -/
theorem ck_X0 (t : Fin cfg1.N) (h n : ℕ) (hh : h < 4) (hn : n < 8) : ck (X0_0 V c t) h n = gk 0 (by decide) (aP V c) h (8 * (7 - t.val) + n) := by
  have ht : t.val < 8 := N_eq ▸ t.isLt
  funext y
  show X0_0 V c t ((rK h n).emb y) = _
  unfold X0_0 Pipeline.Window.fill
  rw [dif_pos (moved0_0 t _)]
  obtain ⟨e0, e1⟩ := idx0 t
  refine congrArg (aP V c) (funext fun a => Fin.ext ?_)
  have y0 : (y 0).val < 64 := (y 0).isLt
  have y1 : (y 1).val < 128 := (y 1).isLt
  match a with
  | ⟨0, _⟩ => show win1_0.index t (0 : Fin 2) * 512 + 1 * (64 * (n % 8) + 1 * (y 0).val) = 64 * ((8 * (7 - t.val) + n) % 64) + (y 0).val; rw [e0]; omega
  | ⟨1, _⟩ => show win1_0.index t (1 : Fin 2) * 512 + 1 * (128 * (h % 4) + 1 * (y 1).val) = 0 + (128 * (h % 4) + (y 1).val); rw [e1]; omega
/-- The keys' block. -/
theorem ck_X1 (t : Fin cfg1.N) (h n : ℕ) (hh : h < 4) (hn : n < 8) : ck (X0_1 V c t) h n = gk 512 (by decide) (aP V c) h (8 * (7 - t.val) + n) := by
  have ht : t.val < 8 := N_eq ▸ t.isLt
  funext y
  show X0_1 V c t ((rK h n).emb y) = _
  unfold X0_1 Pipeline.Window.fill
  rw [dif_pos (moved0_1 t _)]
  obtain ⟨e0, e1⟩ := idx1 t
  refine congrArg (aP V c) (funext fun a => Fin.ext ?_)
  have y0 : (y 0).val < 64 := (y 0).isLt
  have y1 : (y 1).val < 128 := (y 1).isLt
  match a with
  | ⟨0, _⟩ => show win1_1.index t (0 : Fin 2) * 512 + 1 * (64 * (n % 8) + 1 * (y 0).val) = 64 * ((8 * (7 - t.val) + n) % 64) + (y 0).val; rw [e0]; omega
  | ⟨1, _⟩ => show win1_1.index t (1 : Fin 2) * 512 + 1 * (128 * (h % 4) + 1 * (y 1).val) = 512 + (128 * (h % 4) + (y 1).val); rw [e1]; omega
/-- The values' block. -/
theorem cv_X2 (t : Fin cfg1.N) (h n : ℕ) (hh : h < 4) (hn : n < 8) : cv (X0_2 V c t) h n = gv (aP V c) h (8 * (7 - t.val) + n) := by
  have ht : t.val < 8 := N_eq ▸ t.isLt
  funext y
  show X0_2 V c t ((rV h n).emb y) = _
  unfold X0_2 Pipeline.Window.fill
  rw [dif_pos (moved0_2 t _)]
  obtain ⟨e0, e1⟩ := idx2 t
  refine congrArg (aP V c) (funext fun a => Fin.ext ?_)
  have y0 : (y 0).val < 64 := (y 0).isLt
  have y1 : (y 1).val < 256 := (y 1).isLt
  match a with
  | ⟨0, _⟩ => show win1_2.index t (0 : Fin 2) * 512 + 1 * (64 * (n % 8) + 1 * (y 0).val) = 64 * ((8 * (7 - t.val) + n) % 64) + (y 0).val; rw [e0]; omega
  | ⟨1, _⟩ => show win1_2.index t (1 : Fin 2) * 1024 + 1 * (256 * (h % 4) + 1 * (y 1).val) = 1024 + (256 * (h % 4) + (y 1).val); rw [e1]; omega
/-- The log decays' block. -/
theorem ck_X3 (t : Fin cfg1.N) (h n : ℕ) (hh : h < 4) (hn : n < 8) : ck (show Vec F S512x512 .f32 from iblk V c 3 t) h n = ga (aA V c) h (8 * (7 - t.val) + n) := by
  have ht : t.val < 8 := N_eq ▸ t.isLt
  funext y
  obtain ⟨e0, e1⟩ := idx3 t
  refine congrArg (aA V c) (funext fun a => Fin.ext ?_)
  have y0 : (y 0).val < 64 := (y 0).isLt
  have y1 : (y 1).val < 128 := (y 1).isLt
  match a with
  | ⟨0, _⟩ => show win1_3.index t (0 : Fin 2) * 512 + 1 * (64 * (n % 8) + 1 * (y 0).val) = 64 * ((8 * (7 - t.val) + n) % 64) + (y 0).val; rw [e0]; omega
  | ⟨1, _⟩ => show win1_3.index t (1 : Fin 2) * 512 + 1 * (128 * (h % 4) + 1 * (y 1).val) = 128 * (h % 4) + (y 1).val; rw [e1]; omega
/-- The output cotangent's block. -/
theorem cv_X4 (t : Fin cfg1.N) (h n : ℕ) (hh : h < 4) (hn : n < 8) : cv (show Vec F S512x1024 .bf16 from iblk V c 4 t) h n = gg (aG V c) h (8 * (7 - t.val) + n) := by
  have ht : t.val < 8 := N_eq ▸ t.isLt
  funext y
  obtain ⟨e0, e1⟩ := idx4 t
  refine congrArg (aG V c) (funext fun a => Fin.ext ?_)
  have y0 : (y 0).val < 64 := (y 0).isLt
  have y1 : (y 1).val < 256 := (y 1).isLt
  match a with
  | ⟨0, _⟩ => show win1_4.index t (0 : Fin 2) * 512 + 1 * (64 * (n % 8) + 1 * (y 0).val) = 64 * ((8 * (7 - t.val) + n) % 64) + (y 0).val; rw [e0]; omega
  | ⟨1, _⟩ => show win1_4.index t (1 : Fin 2) * 1024 + 1 * (256 * (h % 4) + 1 * (y 1).val) = 256 * (h % 4) + (y 1).val; rw [e1]; omega
/-- The block of states. -/
theorem cs_X5 (t : Fin cfg1.N) (h n : ℕ) (hh : h < 4) (hn : n < 8) :
    cs (show Vec F S8x4x128x256 .f32 from iblk V c 5 t) h n = gx (aX V c) h (8 * (7 - t.val) + n) := by
  have ht : t.val < 8 := N_eq ▸ t.isLt
  funext y
  rw [cs_apply]
  obtain ⟨e0, e1, e2, e3⟩ := idx5 t
  refine congrArg (aX V c) (funext fun a => Fin.ext ?_)
  match a with
  | ⟨0, _⟩ => show win1_5.index t (0 : Fin 4) * 8 + 1 * (n % 8 + 1 * 0) = (8 * (7 - t.val) + n) % 64; rw [e0]; omega
  | ⟨1, _⟩ => show win1_5.index t (1 : Fin 4) * 4 + 1 * (h % 4 + 1 * 0) = h % 4; rw [e1]; omega
  | ⟨2, _⟩ => show win1_5.index t (2 : Fin 4) * 128 + 1 * (0 + 1 * (y 0).val) = (y 0).val; rw [e2]; omega
  | ⟨3, _⟩ => show win1_5.index t (3 : Fin 4) * 256 + 1 * (0 + 1 * (y 1).val) = (y 1).val; rw [e3]; omega
/-- The state before the block. -/
theorem cp_X6 (t : Fin cfg1.N) (h : ℕ) (hh : h < 4) :
    cp (show Vec F S1x4x128x256 .f32 from iblk V c 6 t) h = gx (aX V c) h (8 * (7 - t.val) - 1) := by
  have ht : t.val < 8 := N_eq ▸ t.isLt
  funext y
  rw [cp_apply]
  obtain ⟨e0, e1, e2, e3⟩ := idx6 t
  refine congrArg (aX V c) (funext fun a => Fin.ext ?_)
  match a with
  | ⟨0, _⟩ => show win1_6.index t (0 : Fin 4) * 1 + 1 * (0 + 1 * 0) = (8 * (7 - t.val) - 1) % 64; rw [e0]; omega
  | ⟨1, _⟩ => show win1_6.index t (1 : Fin 4) * 4 + 1 * (h % 4 + 1 * 0) = h % 4; rw [e1]; omega
  | ⟨2, _⟩ => show win1_6.index t (2 : Fin 4) * 128 + 1 * (0 + 1 * (y 0).val) = (y 0).val; rw [e2]; omega
  | ⟨3, _⟩ => show win1_6.index t (3 : Fin 4) * 256 + 1 * (0 + 1 * (y 1).val) = (y 1).val; rw [e3]; omega

/-- The state before a chunk is the array's. -/
theorem bbef_eq (t : Fin cfg1.N) (h n : ℕ) (hh : h < 4) (hn : n < 8) :
    bbef (grid1.coords t) (show Vec F S8x4x128x256 .f32 from iblk V c 5 t) (show Vec F S1x4x128x256 .f32 from iblk V c 6 t) h n = gB V c h (8 * (7 - t.val) + n) := by
  have ht : t.val < 8 := N_eq ▸ t.isLt
  unfold gB
  cases n with
  | zero =>
    rw [if_pos (by omega)]
    show mulf (cp _ h) (broadcast S128x256 (hasPrev (BitVec.ofNat 32 ((grid1.coords t) 0).val))) = _
    rw [cp_X6 V c t h hh, coord, show 7 - (8 * (7 - t.val) + 0) / 8 = t.val by omega]
    rfl
  | succ n =>
    rw [if_neg (by omega)]
    show cs _ h n = _
    rw [cs_X5 V c t h n hh (by omega)]
    rfl

/-- The carried cotangents over block `t` are the array's. -/
theorem bcts_eq (t : Fin cfg1.N) (h : ℕ) (hh : h < 4) (j : ℕ) (hj : j ≤ 8) :
    bcts (X0_0 V c t) (show Vec F S512x512 .f32 from iblk V c 3 t) (show Vec F S512x1024 .bf16 from iblk V c 4 t) (gC V c h (8 * t.val)) h j = gC V c h (8 * t.val + j) := by
  have ht : t.val < 8 := N_eq ▸ t.isLt
  unfold bcts
  rw [carries_eq]
  refine Eq.trans ?_ (back_add _ _ _ _ (8 * t.val) j)
  refine back_congr _ _ _ _ _ _ _ 8 (fun i hi => ?_) j hj
  rw [show 63 - (8 * t.val + i) = 8 * (7 - t.val) + (7 - i) by omega]
  exact ⟨ck_X3 V c t h _ hh (by omega), ck_X0 V c t h _ hh (by omega), cv_X4 V c t h _ hh (by omega)⟩
/-- The states' cotangents over block `t` are the array's. -/
theorem bdst_eq (t : Fin cfg1.N) (h : ℕ) (hh : h < 4) (n : ℕ) (hn : n < 8) :
    bdst (X0_0 V c t) (show Vec F S512x512 .f32 from iblk V c 3 t) (show Vec F S512x1024 .bf16 from iblk V c 4 t) (gC V c h (8 * t.val)) h n = gD V c h (8 * (7 - t.val) + n) := by
  have ht : t.val < 8 := N_eq ▸ t.isLt
  show ds (bcts (X0_0 V c t) (show Vec F S512x512 .f32 from iblk V c 3 t) (show Vec F S512x1024 .bf16 from iblk V c 4 t) (gC V c h (8 * t.val)) h (7 - n)) _ _ = _
  rw [bcts_eq V c t h hh _ (by omega), ck_X0 V c t h n hh hn, cv_X4 V c t h n hh hn, show 8 * t.val + (7 - n) = 63 - (8 * (7 - t.val) + n) by omega]

/-- The block of an argument, a result or the scratch at a grid point, by chunks and heads. -/
theorem qBlk_eq (t : Fin cfg1.N) :
    qBlk (show Vec F S512x1024 .bf16 from iblk V c 4 t) (show Vec F S8x4x128x256 .f32 from iblk V c 5 t) = bk fun h n => gQ V c h (8 * (7 - t.val) + n) := by
  funext y
  have y0 : (y 0).val < 512 := (y 0).isLt
  have y1 : (y 1).val < 512 := (y 1).isLt
  have hh : (y 1).val / 128 < 4 := by omega
  have hn : (y 0).val / 64 < 8 := by omega
  unfold qBlk bk
  beta_reduce
  rw [cv_X4 V c t _ _ hh hn, cs_X5 V c t _ _ hh hn]
/-- The block of an argument, a result or the scratch at a grid point, by chunks and heads. -/
theorem kBlk_eq (t : Fin cfg1.N) (s : ℕ → FVec F S128x256 .f32) (hs : ∀ h, h < 4 → s h = gC V c h (8 * t.val)) :
    kBlk (X0_0 V c t) (X0_2 V c t) (show Vec F S512x512 .f32 from iblk V c 3 t) (show Vec F S512x1024 .bf16 from iblk V c 4 t) s = bk fun h n => gK V c h (8 * (7 - t.val) + n) := by
  funext y
  have y0 : (y 0).val < 512 := (y 0).isLt
  have y1 : (y 1).val < 512 := (y 1).isLt
  have hh : (y 1).val / 128 < 4 := by omega
  have hn : (y 0).val / 64 < 8 := by omega
  unfold kBlk bk
  beta_reduce
  rw [hs _ hh, bdst_eq V c t _ hh _ hn, ck_X3 V c t _ _ hh hn, cv_X2 V c t _ _ hh hn]
/-- The block of an argument, a result or the scratch at a grid point, by chunks and heads. -/
theorem vBlk_eq (t : Fin cfg1.N) (s : ℕ → FVec F S128x256 .f32) (hs : ∀ h, h < 4 → s h = gC V c h (8 * t.val)) :
    vBlk (X0_0 V c t) (X0_1 V c t) (show Vec F S512x512 .f32 from iblk V c 3 t) (show Vec F S512x1024 .bf16 from iblk V c 4 t) s = bv fun h n => gV V c h (8 * (7 - t.val) + n) := by
  funext y
  have y0 : (y 0).val < 512 := (y 0).isLt
  have y1 : (y 1).val < 1024 := (y 1).isLt
  have hh : (y 1).val / 256 < 4 := by omega
  have hn : (y 0).val / 64 < 8 := by omega
  unfold vBlk bv
  beta_reduce
  rw [hs _ hh, bdst_eq V c t _ hh _ hn, ck_X3 V c t _ _ hh hn, ck_X1 V c t _ _ hh hn]
/-- The block of an argument, a result or the scratch at a grid point, by chunks and heads. -/
theorem aBlk_eq (t : Fin cfg1.N) (s : ℕ → FVec F S128x256 .f32) (hs : ∀ h, h < 4 → s h = gC V c h (8 * t.val)) :
    aBlk (grid1.coords t) (X0_0 V c t) (X0_1 V c t) (X0_2 V c t) (show Vec F S512x512 .f32 from iblk V c 3 t) (show Vec F S512x1024 .bf16 from iblk V c 4 t) (show Vec F S8x4x128x256 .f32 from iblk V c 5 t) (show Vec F S1x4x128x256 .f32 from iblk V c 6 t) s = bk fun h n => gA V c h (8 * (7 - t.val) + n) := by
  funext y
  have y0 : (y 0).val < 512 := (y 0).isLt
  have y1 : (y 1).val < 512 := (y 1).isLt
  have hh : (y 1).val / 128 < 4 := by omega
  have hn : (y 0).val / 64 < 8 := by omega
  unfold aBlk bk
  beta_reduce
  rw [hs _ hh, bdst_eq V c t _ hh _ hn, bbef_eq V c t _ _ hh hn, ck_X3 V c t _ _ hh hn, ck_X1 V c t _ _ hh hn, cv_X2 V c t _ _ hh hn]
/-- The block of an argument, a result or the scratch at a grid point, by chunks and heads. -/
theorem cBlk_eq (t : Fin cfg1.N) (s : ℕ → FVec F S128x256 .f32) (hs : ∀ h, h < 4 → s h = gC V c h (8 * t.val)) (h : ℕ) (hh : h < 4) :
    c0 (cBlk (X0_0 V c t) (show Vec F S512x512 .f32 from iblk V c 3 t) (show Vec F S512x1024 .bf16 from iblk V c 4 t) s) h = gC V c h (8 * t.val + 8) := by
  unfold cBlk
  rw [c0_bc _ _ hh, hs _ hh, bcts_eq V c t _ hh _ le_rfl]

/-- After point `t`: the four blocks of gradients and the carried cotangents. -/
theorem outs_eq : ∀ (n : ℕ) (hn : n < cfg1.N), (outsAt0 V c n hn).1 = bk (fun h j => gQ V c h (8 * (7 - n) + j))
    ∧ (outsAt0 V c n hn).2.1 = bk (fun h j => gK V c h (8 * (7 - n) + j)) ∧ (outsAt0 V c n hn).2.2.1 = bv (fun h j => gV V c h (8 * (7 - n) + j))
    ∧ (outsAt0 V c n hn).2.2.2.1 = bk (fun h j => gA V c h (8 * (7 - n) + j)) ∧ ∀ h, h < 4 → c0 (outsAt0 V c n hn).2.2.2.2 h = gC V c h (8 * n + 8)
  | 0, hn => by
    rw [outsAt0_A V c ⟨0, hn⟩ rfl]
    dsimp only
    rw [out_A_7, out_A_8, out_A_9, out_A_10, sout_A]
    exact ⟨qBlk_eq V c ⟨0, hn⟩, kBlk_eq V c ⟨0, hn⟩ _ fun h _ => rfl, vBlk_eq V c ⟨0, hn⟩ _ fun h _ => rfl, aBlk_eq V c ⟨0, hn⟩ _ fun h _ => rfl, cBlk_eq V c ⟨0, hn⟩ _ fun h _ => rfl⟩
  | n + 1, hn => by
    have h8 : n + 1 < 8 := N_eq ▸ hn
    have ih := (outs_eq n (by omega)).2.2.2.2
    rw [outsAt0_B V c ⟨n + 1, hn⟩ (by show ¬(n + 1) % 8 = 0; omega)]
    dsimp only
    rw [out_B_7, out_B_8, out_B_9, out_B_10, sout_B]
    exact ⟨qBlk_eq V c ⟨n + 1, hn⟩, kBlk_eq V c ⟨n + 1, hn⟩ _ ih, vBlk_eq V c ⟨n + 1, hn⟩ _ ih, aBlk_eq V c ⟨n + 1, hn⟩ _ ih, cBlk_eq V c ⟨n + 1, hn⟩ _ ih⟩

/-- The array of the queries' gradient after the launch. -/
theorem arr7 : (dats V c).arrAt 7 cfg1.N = wk (gQ V c) := by
  refine (dats V c).arrAt_eq_of_covers 7 _ (by decide +kernel) fun t hf y => ?_
  show (dats V c).after 7 t ((cfg1.win 7).xinj (grid1.coords t) y) = wk (gQ V c) (((cfg1.win 7).blk t).view.emb y)
  rw [after0_7, (outs_eq V c t.val t.isLt).1]
  obtain ⟨e0, e1⟩ := idx7 t
  have hy0 : (y 0).val < 512 := (y 0).isLt
  have hy1 : (y 1).val < 512 := (y 1).isLt
  have hb0 : (((cfg1.win 7).blk t).view.emb y 0).val = win1_7.index t (0 : Fin 2) * 512 + 1 * (y 0).val := rfl
  have hb1 : (((cfg1.win 7).blk t).view.emb y 1).val = win1_7.index t (1 : Fin 2) * 512 + 1 * (y 1).val := rfl
  show gQ V c ((y 1).val / 128) (8 * (7 - t.val) + (y 0).val / 64) (inK (y 0).val (y 1).val)
    = gQ V c ((((cfg1.win 7).blk t).view.emb y 1).val / 128) ((((cfg1.win 7).blk t).view.emb y 0).val / 64) (inK (((cfg1.win 7).blk t).view.emb y 0).val (((cfg1.win 7).blk t).view.emb y 1).val)
  rw [hb0, hb1, e0, e1, show ((7 - t.val) * 512 + 1 * (y 0).val) / 64 = 8 * (7 - t.val) + (y 0).val / 64 by omega, show 0 * 512 + 1 * (y 1).val = (y 1).val by omega]
  congr 1; funext a; apply Fin.ext
  match a with
  | ⟨0, _⟩ => show (y 0).val % 64 = ((7 - t.val) * 512 + 1 * (y 0).val) % 64; omega
  | ⟨1, _⟩ => rfl
/-- The array of the keys' gradient after the launch. -/
theorem arr8 : (dats V c).arrAt 8 cfg1.N = wk (gK V c) := by
  refine (dats V c).arrAt_eq_of_covers 8 _ (by decide +kernel) fun t hf y => ?_
  show (dats V c).after 8 t ((cfg1.win 8).xinj (grid1.coords t) y) = wk (gK V c) (((cfg1.win 8).blk t).view.emb y)
  rw [after0_8, (outs_eq V c t.val t.isLt).2.1]
  obtain ⟨e0, e1⟩ := idx8 t
  have hy0 : (y 0).val < 512 := (y 0).isLt
  have hy1 : (y 1).val < 512 := (y 1).isLt
  have hb0 : (((cfg1.win 8).blk t).view.emb y 0).val = win1_8.index t (0 : Fin 2) * 512 + 1 * (y 0).val := rfl
  have hb1 : (((cfg1.win 8).blk t).view.emb y 1).val = win1_8.index t (1 : Fin 2) * 512 + 1 * (y 1).val := rfl
  show gK V c ((y 1).val / 128) (8 * (7 - t.val) + (y 0).val / 64) (inK (y 0).val (y 1).val)
    = gK V c ((((cfg1.win 8).blk t).view.emb y 1).val / 128) ((((cfg1.win 8).blk t).view.emb y 0).val / 64) (inK (((cfg1.win 8).blk t).view.emb y 0).val (((cfg1.win 8).blk t).view.emb y 1).val)
  rw [hb0, hb1, e0, e1, show ((7 - t.val) * 512 + 1 * (y 0).val) / 64 = 8 * (7 - t.val) + (y 0).val / 64 by omega, show 0 * 512 + 1 * (y 1).val = (y 1).val by omega]
  congr 1; funext a; apply Fin.ext
  match a with
  | ⟨0, _⟩ => show (y 0).val % 64 = ((7 - t.val) * 512 + 1 * (y 0).val) % 64; omega
  | ⟨1, _⟩ => rfl
/-- The array of the values' gradient after the launch. -/
theorem arr9 : (dats V c).arrAt 9 cfg1.N = wv (gV V c) := by
  refine (dats V c).arrAt_eq_of_covers 9 _ (by decide +kernel) fun t hf y => ?_
  show (dats V c).after 9 t ((cfg1.win 9).xinj (grid1.coords t) y) = wv (gV V c) (((cfg1.win 9).blk t).view.emb y)
  rw [after0_9, (outs_eq V c t.val t.isLt).2.2.1]
  obtain ⟨e0, e1⟩ := idx9 t
  have hy0 : (y 0).val < 512 := (y 0).isLt
  have hy1 : (y 1).val < 1024 := (y 1).isLt
  have hb0 : (((cfg1.win 9).blk t).view.emb y 0).val = win1_9.index t (0 : Fin 2) * 512 + 1 * (y 0).val := rfl
  have hb1 : (((cfg1.win 9).blk t).view.emb y 1).val = win1_9.index t (1 : Fin 2) * 1024 + 1 * (y 1).val := rfl
  show gV V c ((y 1).val / 256) (8 * (7 - t.val) + (y 0).val / 64) (inV (y 0).val (y 1).val)
    = gV V c ((((cfg1.win 9).blk t).view.emb y 1).val / 256) ((((cfg1.win 9).blk t).view.emb y 0).val / 64) (inV (((cfg1.win 9).blk t).view.emb y 0).val (((cfg1.win 9).blk t).view.emb y 1).val)
  rw [hb0, hb1, e0, e1, show ((7 - t.val) * 512 + 1 * (y 0).val) / 64 = 8 * (7 - t.val) + (y 0).val / 64 by omega, show 0 * 1024 + 1 * (y 1).val = (y 1).val by omega]
  congr 1; funext a; apply Fin.ext
  match a with
  | ⟨0, _⟩ => show (y 0).val % 64 = ((7 - t.val) * 512 + 1 * (y 0).val) % 64; omega
  | ⟨1, _⟩ => rfl
/-- The array of the log decays' gradient after the launch. -/
theorem arr10 : (dats V c).arrAt 10 cfg1.N = wk (gA V c) := by
  refine (dats V c).arrAt_eq_of_covers 10 _ (by decide +kernel) fun t hf y => ?_
  show (dats V c).after 10 t ((cfg1.win 10).xinj (grid1.coords t) y) = wk (gA V c) (((cfg1.win 10).blk t).view.emb y)
  rw [after0_10, (outs_eq V c t.val t.isLt).2.2.2.1]
  obtain ⟨e0, e1⟩ := idx10 t
  have hy0 : (y 0).val < 512 := (y 0).isLt
  have hy1 : (y 1).val < 512 := (y 1).isLt
  have hb0 : (((cfg1.win 10).blk t).view.emb y 0).val = win1_10.index t (0 : Fin 2) * 512 + 1 * (y 0).val := rfl
  have hb1 : (((cfg1.win 10).blk t).view.emb y 1).val = win1_10.index t (1 : Fin 2) * 512 + 1 * (y 1).val := rfl
  show gA V c ((y 1).val / 128) (8 * (7 - t.val) + (y 0).val / 64) (inK (y 0).val (y 1).val)
    = gA V c ((((cfg1.win 10).blk t).view.emb y 1).val / 128) ((((cfg1.win 10).blk t).view.emb y 0).val / 64) (inK (((cfg1.win 10).blk t).view.emb y 0).val (((cfg1.win 10).blk t).view.emb y 1).val)
  rw [hb0, hb1, e0, e1, show ((7 - t.val) * 512 + 1 * (y 0).val) / 64 = 8 * (7 - t.val) + (y 0).val / 64 by omega, show 0 * 512 + 1 * (y 1).val = (y 1).val by omega]
  congr 1; funext a; apply Fin.ext
  match a with
  | ⟨0, _⟩ => show (y 0).val % 64 = ((7 - t.val) * 512 + 1 * (y 0).val) % 64; omega
  | ⟨1, _⟩ => rfl

end Grid

end Cert.KernelIdeal.Bwd

end
-- ==== Proof.Value.lean ====
/-
  The two launches' results at finite arguments: the real functions of Model.lean.
-/
module

public import proofs.«01_k».proof.Proof.Real
public import proofs.«01_k».proof.Proof.Reads
public import proofs.«01_k».proof.Proof.Fwd.Value
public import proofs.«01_k».proof.Proof.Bwd.Value

@[expose] public section

noncomputable section

namespace Cert.KernelIdeal.Launch

open Cert.KernelIdeal.Gen Cert.KernelIdeal.Block Cert.KernelIdeal.Tiles
open Idealize.ShloMosaic Idealize.ShloMosaic.TcCoe
open Cert.Model (mat Mat)

/-- The array of queries, keys and values holds `p` in the columns that are read. -/
def HoldsP (x : Vec Ideal S4096x10368 .bf16) (p : Mat) : Prop := ∀ i, (i 1).val < 2048 → x i = ((p (i 0).val (i 1).val : ℝ) : EReal)

/-- A chunk of 128 columns of the first argument. -/
theorem gk_mat (o : ℕ) (ho : o + 512 ≤ 10368) (ho' : o ≤ 512) {x : Vec Ideal S4096x10368 .bf16} {p : Mat} (hx : HoldsP x p) (h n : ℕ) (hh : h < 4) (hn : n < 64) :
    gk o ho x h n = mat (φ := .bf16) (Model.chunk o 128 p h n) := by
  funext y
  have y1 : (y 1).val < 128 := (y 1).isLt
  refine (hx _ (by show o + (128 * (h % 4) + (y 1).val) < 2048; omega)).trans ?_
  show ((p (64 * (n % 64) + (y 0).val) (o + (128 * (h % 4) + (y 1).val)) : ℝ) : EReal) = _
  rw [Nat.mod_eq_of_lt hh, Nat.mod_eq_of_lt hn]
  rfl

/-- A chunk of the values. -/
theorem gv_mat {x : Vec Ideal S4096x10368 .bf16} {p : Mat} (hx : HoldsP x p) (h n : ℕ) (hh : h < 4) (hn : n < 64) :
    gv x h n = mat (φ := .bf16) (Model.chunk 1024 256 p h n) := by
  funext y
  have y1 : (y 1).val < 256 := (y 1).isLt
  refine (hx _ (by show 1024 + (256 * (h % 4) + (y 1).val) < 2048; omega)).trans ?_
  show ((p (64 * (n % 64) + (y 0).val) (1024 + (256 * (h % 4) + (y 1).val)) : ℝ) : EReal) = _
  rw [Nat.mod_eq_of_lt hh, Nat.mod_eq_of_lt hn]
  rfl

/-- A chunk of the log decays. -/
theorem ga_mat (a : Mat) (h n : ℕ) (hh : h < 4) (hn : n < 64) : ga (F := Ideal) (e := .f32) (mat (φ := .f32) a) h n = mat (φ := .f32) (Model.chunk 0 128 a h n) := by
  funext y
  show ((a (64 * (n % 64) + (y 0).val) (128 * (h % 4) + (y 1).val) : ℝ) : EReal) = ((a _ (0 + _) : ℝ) : EReal)
  rw [Nat.mod_eq_of_lt hh, Nat.mod_eq_of_lt hn, Nat.zero_add]

/-- A chunk of the output's cotangent. -/
theorem gg_mat (g : Mat) (h n : ℕ) (hh : h < 4) (hn : n < 64) : gg (F := Ideal) (e := .bf16) (mat (φ := .bf16) g) h n = mat (φ := .bf16) (Model.chunk 0 256 g h n) := by
  funext y
  show ((g (64 * (n % 64) + (y 0).val) (256 * (h % 4) + (y 1).val) : ℝ) : EReal) = ((g _ (0 + _) : ℝ) : EReal)
  rw [Nat.mod_eq_of_lt hh, Nat.mod_eq_of_lt hn, Nat.zero_add]

/-- The zero state. -/
theorem zero_mat : (zero : FVec Ideal S128x256 .f32) = mat (fun _ _ => 0) := by
  funext y
  exact Ideal.ofBits_zero_f32

/-- An array made of finite chunks. -/
theorem wv_mat {f : ℕ → ℕ → Vec Ideal S64x256 .bf16} {f' : ℕ → ℕ → Mat} (hf : ∀ h n, h < 4 → n < 64 → f h n = mat (φ := .bf16) (f' h n)) : wv f = mat (φ := .bf16) (Model.rows 256 f') := by
  funext y
  have y0 : (y 0).val < 4096 := (y 0).isLt
  have y1 : (y 1).val < 1024 := (y 1).isLt
  show f _ _ _ = _
  rw [hf _ _ (by omega) (by omega)]
  rfl
/-- An array made of finite chunks of 128 columns. -/
theorem wk_mat {f : ℕ → ℕ → FVec Ideal S64x128 .bf16} {f' : ℕ → ℕ → Mat} (hf : ∀ h n, h < 4 → n < 64 → f h n = mat (φ := .bf16) (f' h n)) :
    wk (F := Ideal) (e := .bf16) f = mat (φ := .bf16) (Model.rows 128 f') := by
  funext y
  have y0 : (y 0).val < 4096 := (y 0).isLt
  have y1 : (y 1).val < 512 := (y 1).isLt
  show f _ _ _ = _
  rw [hf _ _ (by omega) (by omega)]
  rfl
/-- The same in f32. -/
theorem wk_mat_f32 {f : ℕ → ℕ → FVec Ideal S64x128 .f32} {f' : ℕ → ℕ → Mat} (hf : ∀ h n, h < 4 → n < 64 → f h n = mat (φ := .f32) (f' h n)) :
    wk (F := Ideal) (e := .f32) f = mat (φ := .f32) (Model.rows 128 f') := by
  funext y
  have y0 : (y 0).val < 4096 := (y 0).isLt
  have y1 : (y 1).val < 512 := (y 1).isLt
  show f _ _ _ = _
  rw [hf _ _ (by omega) (by omega)]
  rfl

/-- Whether a block of chunks has one before it, as a number. -/
theorem hasPrev_eq (t : ℕ) (ht : t < 8) : (hasPrev (BitVec.ofNat 32 (7 - t)) : Ideal .f32) = (((if t = 0 then 0 else 1) : ℝ) : EReal) := by
  have hb : ∀ t : Fin 8, (Scalar.extui (show BitVec 1 from Scalar.cmpi .slt (BitVec.ofNat 32 (7 - t.val)) 7#32) : BitVec 32) = if t.val = 0 then 0#32 else 1#32 := by
    decide +kernel
  refine (Ideal.scalar_sitofp_def (φ := .f32) _).trans ?_
  rw [hb ⟨t, ht⟩]
  by_cases h : t = 0 <;> simp [h]

variable {p a g : Mat}

section Regions

variable (V : (c : Dev nD) → (b : Ref sig .tc) → Buf (Elt Ideal) ((c : Thread nD τ).loc b)) (c : Dev nD)

/-- The states. -/
theorem gS_mat (hP : HoldsP (V c main_arg0) p) (hA : V c main_arg1 = (mat (φ := .f32) a : Vec Ideal S4096x512 .f32)) (h : ℕ) (hh : h < 4) :
    ∀ n, n ≤ 64 → Fwd.gS V c h n = mat (Model.S p a h n)
  | 0, _ => zero_mat
  | n + 1, hn => by
    show st (Fwd.gS V c h n) (ga (Fwd.aA V c) h n) (gk 512 _ (Fwd.aP V c) h n) (gv (Fwd.aP V c) h n) = _
    rw [gS_mat hP hA h hh n (by omega), show Fwd.aA V c = _ from hA, ga_mat _ h n hh (by omega), gk_mat 512 _ (by omega) hP h n hh (by omega),
      gv_mat hP h n hh (by omega), st_mat]
    rfl

/-- The output. -/
theorem gO_mat (hP : HoldsP (V c main_arg0) p) (hA : V c main_arg1 = (mat (φ := .f32) a : Vec Ideal S4096x512 .f32)) (h n : ℕ) (hh : h < 4) (hn : n < 64) :
    Fwd.gO V c h n = mat (Model.resO p a h n) := by
  show out (Fwd.gS V c h (n + 1)) (gk 0 _ (Fwd.aP V c) h n) = _
  rw [gS_mat V c hP hA h hh (n + 1) (by omega), gk_mat 0 _ (by omega) hP h n hh hn, out_mat]
  rfl

/-- The saved states, read back. -/
theorem gx_mat {f : ℕ → ℕ → FVec Ideal S128x256 .f32} {f' : ℕ → ℕ → Mat} (hf : ∀ h n, h < 4 → n < 64 → f h n = mat (f' h (n + 1))) (h n : ℕ) (hh : h < 4) (hn : n < 64) :
    gx (ws (F := Ideal) (e := .f32) f) h n = mat (f' h (n + 1)) := by
  funext y
  have y0 : (y 0).val < 128 := (y 0).isLt
  have y1 : (y 1).val < 256 := (y 1).isLt
  show f (h % 4) (n % 64) (inS (y 0).val (y 1).val) = _
  rw [Nat.mod_eq_of_lt hh, Nat.mod_eq_of_lt hn, hf h n hh hn]
  show ((f' h (n + 1) ((y 0).val % 128) ((y 1).val % 256) : ℝ) : EReal) = _
  rw [Nat.mod_eq_of_lt y0, Nat.mod_eq_of_lt y1]
  rfl

variable (hP : HoldsP (V c main_arg0) p) (hA : V c main_arg1 = (mat (φ := .f32) a : Vec Ideal S4096x512 .f32)) (hG : V c main_arg2 = (mat (φ := .bf16) g : Vec Ideal S4096x1024 .bf16))
  (hX : ∀ h n, h < 4 → n < 64 → gx (Bwd.aX V c) h n = mat (Model.S p a h (n + 1)))
include hP hA hG

/-- The carried cotangents. -/
theorem gC_mat (h : ℕ) (hh : h < 4) : ∀ n, n ≤ 64 → Bwd.gC V c h n = mat (Model.C p a g h n)
  | 0, _ => zero_mat
  | n + 1, hn => by
    show carry (ga (Bwd.aA V c) h (63 - n)) (ds (Bwd.gC V c h n) (gk 0 _ (Bwd.aP V c) h (63 - n)) (gg (Bwd.aG V c) h (63 - n))) = _
    rw [gC_mat h hh n (by omega), show Bwd.aA V c = _ from hA, show Bwd.aG V c = _ from hG, ga_mat _ h _ hh (by omega), gg_mat _ h _ hh (by omega),
      gk_mat 0 _ (by omega) hP h _ hh (by omega), ds_mat, carry_mat]
    rfl

/-- The cotangent of the state after a chunk. -/
theorem gD_mat (h n : ℕ) (hh : h < 4) (hn : n < 64) : Bwd.gD V c h n = mat (Model.D p a g h n) := by
  show ds (Bwd.gC V c h (63 - n)) (gk 0 _ (Bwd.aP V c) h n) (gg (Bwd.aG V c) h n) = _
  rw [gC_mat V c hP hA hG h hh _ (by omega), show Bwd.aG V c = _ from hG, gg_mat _ h _ hh hn, gk_mat 0 _ (by omega) hP h _ hh hn, ds_mat]
  rfl

/-- A chunk's gradient of the keys. -/
theorem gK_mat (h n : ℕ) (hh : h < 4) (hn : n < 64) : Bwd.gK V c h n = mat (Model.resK p a g h n) := by
  show dk (ga (Bwd.aA V c) h n) (gv (Bwd.aP V c) h n) (Bwd.gD V c h n) = _
  rw [gD_mat V c hP hA hG h n hh hn, show Bwd.aA V c = _ from hA, ga_mat _ h n hh hn, gv_mat hP h n hh hn, dk_mat]
  rfl

/-- A chunk's gradient of the values. -/
theorem gV_mat (h n : ℕ) (hh : h < 4) (hn : n < 64) : Bwd.gV V c h n = mat (Model.resV p a g h n) := by
  show dv (ga (Bwd.aA V c) h n) (gk 512 _ (Bwd.aP V c) h n) (Bwd.gD V c h n) = _
  rw [gD_mat V c hP hA hG h n hh hn, show Bwd.aA V c = _ from hA, ga_mat _ h n hh hn, gk_mat 512 _ (by omega) hP h n hh hn, dv_mat]
  rfl

include hX

/-- A chunk's gradient of the queries. -/
theorem gQ_mat (h n : ℕ) (hh : h < 4) (hn : n < 64) : Bwd.gQ V c h n = mat (Model.resQ p a g h n) := by
  show dq (gg (Bwd.aG V c) h n) (gx (Bwd.aX V c) h n) = _
  rw [hX h n hh hn, show Bwd.aG V c = _ from hG, gg_mat _ h _ hh hn, dq_mat]
  rfl

/-- The state before a chunk. -/
theorem gB_mat (h n : ℕ) (hh : h < 4) (hn : n < 64) : Bwd.gB V c h n = mat (Model.S p a h n) := by
  unfold Bwd.gB
  split
  · next h8 =>
    rw [hX h (n - 1) hh (by omega), hasPrev_eq _ (by omega)]
    funext y
    show ((Model.S p a h (n - 1 + 1) (y 0).val (y 1).val : ℝ) : EReal) * (((if n / 8 = 0 then 0 else 1) : ℝ) : EReal) = ((Model.S p a h n (y 0).val (y 1).val : ℝ) : EReal)
    rw [← EReal.coe_mul]
    by_cases h0 : n = 0
    · subst h0
      rw [if_pos (Nat.zero_div 8), mul_zero]
      rfl
    · rw [if_neg (by omega), mul_one, Nat.sub_add_cancel (by omega)]
  · next h8 => rw [hX h (n - 1) hh (by omega), Nat.sub_add_cancel (by omega)]

/-- A chunk's gradient of the log decays. -/
theorem gA_mat (h n : ℕ) (hh : h < 4) (hn : n < 64) : Bwd.gA V c h n = mat (Model.resA p a g h n) := by
  show da (ga (Bwd.aA V c) h n) (gk 512 _ (Bwd.aP V c) h n) (gv (Bwd.aP V c) h n) (Bwd.gD V c h n) (Bwd.gB V c h n) = _
  rw [gD_mat V c hP hA hG h n hh hn, gB_mat V c hP hA hG hX h n hh hn, show Bwd.aA V c = _ from hA, ga_mat _ h n hh hn, gk_mat 512 _ (by omega) hP h n hh hn,
    gv_mat hP h n hh hn, da_mat]
  rfl

end Regions

variable (m : (ℓ : Loc nD τ sig) → Buf (Elt Ideal) ℓ) (c : Dev nD)
variable (hP : HoldsP (m ((c.tc : Thread nD τ).loc main_arg0)) p) (hA : m ((c.tc : Thread nD τ).loc main_arg1) = (mat (φ := .f32) a : Vec Ideal S4096x512 .f32))
  (hG : m ((c.tc : Thread nD τ).loc main_arg2) = (mat (φ := .bf16) g : Vec Ideal S4096x1024 .bf16))
include hP hA

/-- The output, at finite arguments. -/
theorem res_o : (dF m c).arrAt 4 cfg0.N = (mat (φ := .bf16) (Model.rows 256 (Model.resO p a)) : Vec Ideal S4096x1024 .bf16) :=
  (Fwd.arr4 (fun c b => W0 m c b) c).trans (wv_mat fun h n hh hn => gO_mat (fun c b => W0 m c b) c hP hA h n hh hn)

/-- The saved states, as the backward launch reads them. -/
theorem saved (h n : ℕ) (hh : h < 4) (hn : n < 64) : gx (Bwd.aX (fun c b => W1 m c b) c) h n = mat (Model.S p a h (n + 1)) := by
  rw [show Bwd.aX (fun c b => W1 m c b) c = ws (fun h n => Fwd.gS (fun c b => W0 m c b) c h (n + 1)) from
    (W1_arr m c 5).trans (Fwd.arr5 (fun c b => W0 m c b) c)]
  exact gx_mat (fun h n hh hn => gS_mat (fun c b => W0 m c b) c hP hA h hh (n + 1) (by omega)) h n hh hn

include hG

/-- The queries' gradient that the second launch leaves. -/
theorem res_q : (dB m c).arrAt 7 cfg1.N = (mat (φ := .bf16) (Model.rows 128 (Model.resQ p a g)) : Vec Ideal S4096x512 .bf16) :=
  (Bwd.arr7 (fun c b => W1 m c b) c).trans (wk_mat fun h n hh hn => gQ_mat (fun c b => W1 m c b) c (by rw [W1_arg0]; exact hP) ((W1_arg1 m c).trans hA) ((W1_arg2 m c).trans hG)
    (saved m c hP hA) h n hh hn)
/-- The keys' gradient that it leaves. -/
theorem res_k : (dB m c).arrAt 8 cfg1.N = (mat (φ := .bf16) (Model.rows 128 (Model.resK p a g)) : Vec Ideal S4096x512 .bf16) :=
  (Bwd.arr8 (fun c b => W1 m c b) c).trans (wk_mat fun h n hh hn => gK_mat (fun c b => W1 m c b) c (by rw [W1_arg0]; exact hP) ((W1_arg1 m c).trans hA) ((W1_arg2 m c).trans hG) h n hh hn)
/-- The values' gradient that it leaves. -/
theorem res_v : (dB m c).arrAt 9 cfg1.N = (mat (φ := .bf16) (Model.rows 256 (Model.resV p a g)) : Vec Ideal S4096x1024 .bf16) :=
  (Bwd.arr9 (fun c b => W1 m c b) c).trans (wv_mat fun h n hh hn => gV_mat (fun c b => W1 m c b) c (by rw [W1_arg0]; exact hP) ((W1_arg1 m c).trans hA) ((W1_arg2 m c).trans hG) h n hh hn)
/-- The log decays' gradient that it leaves. -/
theorem res_a : (dB m c).arrAt 10 cfg1.N = (mat (φ := .f32) (Model.rows 128 (Model.resA p a g)) : Vec Ideal S4096x512 .f32) :=
  (Bwd.arr10 (fun c b => W1 m c b) c).trans (wk_mat_f32 fun h n hh hn => gA_mat (fun c b => W1 m c b) c (by rw [W1_arg0]; exact hP) ((W1_arg1 m c).trans hA) ((W1_arg2 m c).trans hG)
    (saved m c hP hA) h n hh hn)

end Cert.KernelIdeal.Launch

end
-- ==== Proof.Ref.Tensor.lean ====
/-
  The reference's arrays of rank four and five as families of real matrices, and the indexed reads and writes, running sums and
  re-arrangements the reference applies to them.
-/
module

public import proofs.«01_k».proof.Proof.Model
public import Idealize.ShloMosaic.Lib.WordCmp
public import Idealize.ShloMosaic.Lib.Scf.Counter
public import Idealize.ShloMosaic.Lib.IdealHost

@[expose] public section

noncomputable section

namespace Cert.ReferenceIdeal.Ref

open Idealize.ShloMosaic Idealize.ShloMosaic.WordCmp Cert.Model

/-- One matrix per head. -/
abbrev T4 (A B : ℕ) : Shape := ⟨4, ![1, 4, A, B]⟩
/-- One matrix per chunk and head. -/
abbrev T5 (A B : ℕ) : Shape := ⟨5, ![64, 1, 4, A, B]⟩
/-- One row per head. -/
abbrev T3 : Shape := ⟨3, ![1, 4, 128]⟩
/-- One row per chunk and head. -/
abbrev R4 : Shape := ⟨4, ![64, 1, 4, 128]⟩

/-- The array whose matrix at head `h` is `f h`. -/
def t4 {A B : ℕ} (f : ℕ → Mat) : FVec Ideal (T4 A B) .f32 := fun i => ((f (i 1).val (i 2).val (i 3).val : ℝ) : EReal)
/-- The array whose matrix at chunk `n` and head `h` is `f n h`. -/
def t5 {A B : ℕ} (f : ℕ → ℕ → Mat) : FVec Ideal (T5 A B) .f32 :=
  fun i => ((f (i 0).val (i 2).val (i 3).val (i 4).val : ℝ) : EReal)
/-- The array whose row at head `h` is `f h`. -/
def t3 (f : Mat) : FVec Ideal T3 .f32 := fun i => ((f (i 1).val (i 2).val : ℝ) : EReal)
/-- The array whose row at chunk `n` and head `h` is `f n h`. -/
def r4 (f : ℕ → Mat) : FVec Ideal R4 .f32 := fun i => ((f (i 0).val (i 2).val (i 3).val : ℝ) : EReal)

/-- The counter of a trip, as a number. -/
theorem iv_toInt {n : ℕ} (hn : n < 64) : (Scf.iv 0#32 1#32 n).toInt = (n : ℤ) := by
  revert n; decide +kernel

/-! ## Reading and writing one chunk of a stack -/

/-- One chunk lies within a stack. -/
theorem slices5 {A B n : ℕ} (hn : n < 64) : (T5 A B).Slices ![n, 0, 0, 0, 0] ⟨5, ![1, 1, 4, A, B]⟩ := by
  refine ⟨rfl, fun a => ?_⟩
  fin_cases a <;> simp <;> omega

/-- One chunk's matrices under a chunk axis of length one. -/
def s5 {A B : ℕ} (f : ℕ → Mat) : FVec Ideal ⟨5, ![1, 1, 4, A, B]⟩ .f32 := fun i => ((f (i 2).val (i 3).val (i 4).val : ℝ) : EReal)
/-- One chunk's rows under a chunk axis of length one. -/
def s4 (f : Mat) : FVec Ideal ⟨4, ![1, 1, 4, 128]⟩ .f32 := fun i => ((f (i 2).val (i 3).val : ℝ) : EReal)

/-- Reading chunk `n` of a stack. -/
theorem slice5 {A B n : ℕ} (f : ℕ → ℕ → Mat) (hn : n < 64) (st : Fin 5 → ℤ) (h : (T5 A B).Slices (fun _ => 0) ⟨5, ![1, 1, 4, A, B]⟩)
    (e0 : st 0 = n) (e1 : st 1 = 0) (e2 : st 2 = 0) (e3 : st 3 = 0) (e4 : st 4 = 0) :
    Host.dynamicSlice ⟨5, ![1, 1, 4, A, B]⟩ (t5 f) st h = s5 (f n) := by
  rw [dynamicSlice_eq_extract _ _ _ h ![n, 0, 0, 0, 0] (slices5 hn) (fun a => by fin_cases a <;> assumption)]
  funext i
  have h0 : (i 0).val < 1 := (i 0).isLt
  show ((f (n + (i 0).val) (0 + _) (0 + _) (0 + _) : ℝ) : EReal) = _
  simp only [Nat.zero_add, Nat.lt_one_iff.mp h0, Nat.add_zero]
  rfl

/-- Dropping the chunk axis of length one. -/
theorem drop5 {A B : ℕ} (f : ℕ → Mat) (h' : (⟨5, ![1, 1, 4, A, B]⟩ : Shape).ShapeCasts (T4 A B)) :
    shapeCast (T4 A B) (s5 f) h' = t4 f := by
  funext i
  rw [shapeCast_apply _ h' i (fun a => match a with
    | ⟨0, _⟩ => ⟨0, Nat.one_pos⟩ | ⟨1, _⟩ => i 0 | ⟨2, _⟩ => i 1 | ⟨3, _⟩ => i 2 | ⟨4, _⟩ => i 3)
    (by
      rw [Shape.rowMajor_val_five, Shape.rowMajor_val_four]
      show ((((0 * 1 + (i 0).val) * 4 + (i 1).val) * A + (i 2).val) * B + (i 3).val) = _
      rw [Nat.zero_mul, Nat.zero_add]; rfl)]
  rfl

/-- One row lies within a stack. -/
theorem slices4 {n : ℕ} (hn : n < 64) : R4.Slices ![n, 0, 0, 0] ⟨4, ![1, 1, 4, 128]⟩ := by
  refine ⟨rfl, fun a => ?_⟩
  fin_cases a <;> simp <;> omega

/-- Reading chunk `n` of a stack of rows. -/
theorem slice4 {n : ℕ} (f : ℕ → Mat) (hn : n < 64) (st : Fin 4 → ℤ) (h : R4.Slices (fun _ => 0) ⟨4, ![1, 1, 4, 128]⟩)
    (e0 : st 0 = n) (e1 : st 1 = 0) (e2 : st 2 = 0) (e3 : st 3 = 0) :
    Host.dynamicSlice ⟨4, ![1, 1, 4, 128]⟩ (r4 f) st h = s4 (f n) := by
  rw [dynamicSlice_eq_extract _ _ _ h ![n, 0, 0, 0] (slices4 hn) (fun a => by fin_cases a <;> assumption)]
  funext i
  have h0 : (i 0).val < 1 := (i 0).isLt
  show ((f (n + (i 0).val) (0 + _) (0 + _) : ℝ) : EReal) = _
  simp only [Nat.zero_add, Nat.lt_one_iff.mp h0, Nat.add_zero]
  rfl

/-- Dropping the chunk axis of length one. -/
theorem drop4 (f : Mat) (h' : (⟨4, ![1, 1, 4, 128]⟩ : Shape).ShapeCasts T3) : shapeCast T3 (s4 f) h' = t3 f := by
  funext i
  rw [shapeCast_apply _ h' i (fun a => match a with
    | ⟨0, _⟩ => ⟨0, Nat.one_pos⟩ | ⟨1, _⟩ => i 0 | ⟨2, _⟩ => i 1 | ⟨3, _⟩ => i 2)
    (by
      rw [Shape.rowMajor_val_four, Shape.rowMajor_val_three]
      show (((0 * 1 + (i 0).val) * 4 + (i 1).val) * 128 + (i 2).val) = _
      rw [Nat.zero_mul, Nat.zero_add]; rfl)]
  rfl

/-- One chunk's matrices under a chunk axis of length one. -/
theorem lead5 {A B : ℕ} (u : ℕ → Mat) (h : (T4 A B).BroadcastsInDim ⟨5, ![1, 1, 4, A, B]⟩ ![1, 2, 3, 4])
    (j : (⟨5, ![1, 1, 4, A, B]⟩ : Shape).Idx) :
    broadcastInDim ⟨5, ![1, 1, 4, A, B]⟩ ![1, 2, 3, 4] h (t4 u) j = ((u (j 2).val (j 3).val (j 4).val : ℝ) : EReal) := by
  have h3 : (j 3).val < A := (j 3).isLt
  have h4 : (j 4).val < B := (j 4).isLt
  rw [broadcastInDim_apply _ h _ j (fun a => match a with
    | ⟨0, _⟩ => j 1 | ⟨1, _⟩ => j 2 | ⟨2, _⟩ => j 3 | ⟨3, _⟩ => j 4) (fun a => by
      match a with
      | ⟨0, _⟩ => show (j 1).val = 0; have := (j 1).isLt; simp at this; omega
      | ⟨1, _⟩ => rfl
      | ⟨2, _⟩ => show (j 3).val = if A = 1 then 0 else (j 3).val; split_ifs <;> omega
      | ⟨3, _⟩ => show (j 4).val = if B = 1 then 0 else (j 4).val; split_ifs <;> omega)]
  rfl

/-- Writing chunk `n` of a stack. -/
theorem update5 {A B n : ℕ} (f : ℕ → ℕ → Mat) (u : ℕ → Mat) (hn : n < 64) (st : Fin 5 → ℤ)
    (h : (T5 A B).Slices (fun _ => 0) ⟨5, ![1, 1, 4, A, B]⟩)
    (h' : (T4 A B).BroadcastsInDim ⟨5, ![1, 1, 4, A, B]⟩ ![1, 2, 3, 4]) (e0 : st 0 = n) (e1 : st 1 = 0) (e2 : st 2 = 0)
    (e3 : st 3 = 0) (e4 : st 4 = 0) :
    Host.dynamicUpdateSlice (t5 f) (broadcastInDim ⟨5, ![1, 1, 4, A, B]⟩ ![1, 2, 3, 4] h' (t4 u)) st h
      = t5 (fun C => if C = n then u else f C) := by
  rw [dynamicUpdateSlice_eq_update _ _ _ h ![n, 0, 0, 0, 0] (slices5 hn) (fun a => by fin_cases a <;> assumption)]
  funext i
  unfold updateSlice
  split_ifs with hin
  · rw [lead5]
    have h0 : (i 0).val = n := by have := hin 0; simp at this; omega
    simp [t5, h0]
  · have h0 : (i 0).val ≠ n := fun h0 => hin fun a => by
      match a with
      | ⟨0, _⟩ => exact ⟨h0.ge, by show (i 0).val < n + 1; omega⟩
      | ⟨1, _⟩ => exact ⟨Nat.zero_le _, by show (i 1).val < 0 + 1; exact (i 1).isLt⟩
      | ⟨2, _⟩ => exact ⟨Nat.zero_le _, by show (i 2).val < 0 + 4; exact (i 2).isLt⟩
      | ⟨3, _⟩ => exact ⟨Nat.zero_le _, by show (i 3).val < 0 + A; rw [Nat.zero_add]; exact (i 3).isLt⟩
      | ⟨4, _⟩ => exact ⟨Nat.zero_le _, by show (i 4).val < 0 + B; rw [Nat.zero_add]; exact (i 4).isLt⟩
    simp [t5, h0]

/-- Writing chunk `n` of a stack of rows. -/
theorem update4 {n : ℕ} (f : ℕ → Mat) (u : Mat) (hn : n < 64) (st : Fin 4 → ℤ) (h : R4.Slices (fun _ => 0) ⟨4, ![1, 1, 4, 128]⟩)
    (h' : T3.BroadcastsInDim ⟨4, ![1, 1, 4, 128]⟩ ![1, 2, 3]) (e0 : st 0 = n) (e1 : st 1 = 0) (e2 : st 2 = 0) (e3 : st 3 = 0) :
    Host.dynamicUpdateSlice (r4 f) (broadcastInDim ⟨4, ![1, 1, 4, 128]⟩ ![1, 2, 3] h' (t3 u)) st h
      = r4 (fun C => if C = n then u else f C) := by
  rw [dynamicUpdateSlice_eq_update _ _ _ h ![n, 0, 0, 0] (slices4 hn) (fun a => by fin_cases a <;> assumption)]
  funext i
  unfold updateSlice
  split_ifs with hin
  · have h0 : (i 0).val = n := by have := hin 0; simp at this; omega
    simp [broadcastInDim, t3, r4, h0]
  · have h0 : (i 0).val ≠ n := fun h0 => hin fun a => by
      match a with
      | ⟨0, _⟩ => exact ⟨h0.ge, by show (i 0).val < n + 1; omega⟩
      | ⟨1, _⟩ => exact ⟨Nat.zero_le _, by show (i 1).val < 0 + 1; exact (i 1).isLt⟩
      | ⟨2, _⟩ => exact ⟨Nat.zero_le _, by show (i 2).val < 0 + 4; exact (i 2).isLt⟩
      | ⟨3, _⟩ => exact ⟨Nat.zero_le _, by show (i 3).val < 0 + 128; exact (i 3).isLt⟩
    simp [r4, h0]

/-- The five index words of an access at chunk `w`. -/
abbrev at5 (w : BitVec 32) : Fin 5 → ℤ := fun k =>
  ((![fun _ => w, constantI ⟨0, ![]⟩ 32 0#32, constantI ⟨0, ![]⟩ 32 0#32, constantI ⟨0, ![]⟩ 32 0#32, constantI ⟨0, ![]⟩ 32 0#32] :
    Fin 5 → IVec ⟨0, ![]⟩ 32) k (Shape.Idx.first (by decide))).toInt
/-- The four index words of an access at chunk `w`. -/
abbrev at4 (w : BitVec 32) : Fin 4 → ℤ := fun k =>
  ((![fun _ => w, constantI ⟨0, ![]⟩ 32 0#32, constantI ⟨0, ![]⟩ 32 0#32, constantI ⟨0, ![]⟩ 32 0#32] :
    Fin 4 → IVec ⟨0, ![]⟩ 32) k (Shape.Idx.first (by decide))).toInt

/-- Chunk `n` of a stack, the index given as words. -/
theorem read5 {A B n : ℕ} {w : BitVec 32} (f : ℕ → ℕ → Mat) (hw : w.toInt = n) (hn : n < 64)
    (h : (T5 A B).Slices (fun _ => 0) ⟨5, ![1, 1, 4, A, B]⟩) (h' : (⟨5, ![1, 1, 4, A, B]⟩ : Shape).ShapeCasts (T4 A B)) :
    shapeCast (T4 A B) (Host.dynamicSlice ⟨5, ![1, 1, 4, A, B]⟩ (t5 f) (at5 w) h) h' = t4 (f n) := by
  rw [slice5 f hn _ h hw rfl rfl rfl rfl, drop5]
/-- A row of a stack read at a chunk. -/
theorem read4 {n : ℕ} {w : BitVec 32} (f : ℕ → Mat) (hw : w.toInt = n) (hn : n < 64) (h : R4.Slices (fun _ => 0) ⟨4, ![1, 1, 4, 128]⟩)
    (h' : (⟨4, ![1, 1, 4, 128]⟩ : Shape).ShapeCasts T3) :
    shapeCast T3 (Host.dynamicSlice ⟨4, ![1, 1, 4, 128]⟩ (r4 f) (at4 w) h) h' = t3 (f n) := by
  rw [slice4 f hn _ h hw rfl rfl rfl, drop4]
/-- A stack with chunk `n` replaced, the index given as words. -/
theorem write5 {A B n : ℕ} {w : BitVec 32} (f : ℕ → ℕ → Mat) (u : ℕ → Mat) (hw : w.toInt = n) (hn : n < 64)
    (h : (T5 A B).Slices (fun _ => 0) ⟨5, ![1, 1, 4, A, B]⟩)
    (h' : (T4 A B).BroadcastsInDim ⟨5, ![1, 1, 4, A, B]⟩ ![1, 2, 3, 4]) :
    Host.dynamicUpdateSlice (t5 f) (broadcastInDim ⟨5, ![1, 1, 4, A, B]⟩ ![1, 2, 3, 4] h' (t4 u)) (at5 w) h
      = t5 (fun C => if C = n then u else f C) := update5 f u hn _ h h' hw rfl rfl rfl rfl
/-- A row written into a stack at a chunk. -/
theorem write4 {n : ℕ} {w : BitVec 32} (f : ℕ → Mat) (u : Mat) (hw : w.toInt = n) (hn : n < 64)
    (h : R4.Slices (fun _ => 0) ⟨4, ![1, 1, 4, 128]⟩) (h' : T3.BroadcastsInDim ⟨4, ![1, 1, 4, 128]⟩ ![1, 2, 3]) :
    Host.dynamicUpdateSlice (r4 f) (broadcastInDim ⟨4, ![1, 1, 4, 128]⟩ ![1, 2, 3] h' (t3 u)) (at4 w) h
      = r4 (fun C => if C = n then u else f C) := update4 f u hn _ h h' hw rfl rfl rfl

/-! ## Running sums along a chunk's rows -/

/-- A left fold of additions from zero is the sum. -/
theorem foldl_sum {N : ℕ} (e : Fin N → EReal) : (List.finRange N).foldl (fun r n => r + e n) 0 = ∑ n, e n := by
  rw [← List.sum_ofFn, List.ofFn_eq_map, List.sum_eq_foldl, List.foldl_map]

/-- A window of one row per entry, re-indexed by the window's third coordinate. -/
theorem sum_window (e : (⟨4, ![1, 1, 64, 1]⟩ : Shape).Idx → EReal) :
    ∑ w, e w = ∑ k : Fin 64, e (fun a => match a with
      | ⟨0, _⟩ => ⟨0, Nat.one_pos⟩ | ⟨1, _⟩ => ⟨0, Nat.one_pos⟩ | ⟨2, _⟩ => k | ⟨3, _⟩ => ⟨0, Nat.one_pos⟩) := by
  refine (Fintype.sum_bijective (fun (k : Fin 64) => (fun a => match a with
      | ⟨0, _⟩ => ⟨0, Nat.one_pos⟩ | ⟨1, _⟩ => ⟨0, Nat.one_pos⟩ | ⟨2, _⟩ => k | ⟨3, _⟩ => ⟨0, Nat.one_pos⟩ :
        (⟨4, ![1, 1, 64, 1]⟩ : Shape).Idx)) ⟨fun k k' h => congrFun h 2, fun w => ⟨w 2, ?_⟩⟩ _ _ (fun _ => rfl)).symm
  funext a
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _

/-- A window sum along a chunk's rows, with `L` rows of padding in front of the chunk. -/
theorem window_t4 {L H : ℕ} (f : ℕ → Mat) (init : FVec Ideal (⟨0, ![]⟩ : Shape) .f32) (hi : ∀ i, init i = 0)
    (hu : 0 < (⟨0, ![]⟩ : Shape).numel)
    (h : (T4 64 128).ReduceWindows ![1, 1, 64, 1] ![1, 1, 1, 1] ![0, 0, L, 0] ![0, 0, H, 0] (T4 64 128)) :
    Host.reduceWindowAdd ![1, 1, 64, 1] ![1, 1, 1, 1] ![0, 0, L, 0] ![0, 0, H, 0] (t4 f) init h hu
      = t4 (fun n r x => ∑ k : Fin 64, if L ≤ r + k.val ∧ r + k.val - L < 64 then f n (r + k.val - L) x else 0) := by
  funext i
  have e : Host.reduceWindowAdd ![1, 1, 64, 1] ![1, 1, 1, 1] ![0, 0, L, 0] ![0, 0, H, 0] (t4 f) init h hu
      = Ideal.hostReduceWindowAdd ![1, 1, 64, 1] ![1, 1, 1, 1] ![0, 0, L, 0] ![0, 0, H, 0] h (t4 f) 0 := by
    unfold Host.reduceWindowAdd
    rw [hi]; rfl
  rw [e]
  unfold Ideal.hostReduceWindowAdd Host.reduceWindow
  refine (foldl_sum _).trans ?_
  rw [show (t4 (fun n r x => ∑ k : Fin 64, if L ≤ r + k.val ∧ r + k.val - L < 64 then f n (r + k.val - L) x else 0) i : EReal)
    = ∑ k : Fin 64, ((if L ≤ (i 2).val + k.val ∧ (i 2).val + k.val - L < 64 then f (i 1).val ((i 2).val + k.val - L) (i 3).val else 0 : ℝ) : EReal)
    from (coe_sum _).symm]
  refine ((Equiv.sum_comp (⟨4, ![1, 1, 64, 1]⟩ : Shape).rowMajor _).symm).trans ?_
  simp only [Equiv.symm_apply_apply]
  refine (sum_window _).trans ?_
  refine Finset.sum_congr rfl fun k _ => ?_
  by_cases hk : L ≤ (i 2).val + k.val ∧ (i 2).val + k.val - L < 64
  · rw [if_pos hk, dif_pos]
    · show ((f _ _ _ : ℝ) : EReal) = _
      simp
    · intro a
      match a with
      | ⟨0, _⟩ => exact ⟨Nat.zero_le _, by have := (i 0).isLt; simp at this ⊢; omega⟩
      | ⟨1, _⟩ => exact ⟨Nat.zero_le _, by have := (i 1).isLt; simp at this ⊢; exact this⟩
      | ⟨2, _⟩ => simpa using hk
      | ⟨3, _⟩ => exact ⟨Nat.zero_le _, by have := (i 3).isLt; simp at this ⊢; exact this⟩
  · rw [if_neg hk, dif_neg fun h => hk (by simpa using h 2)]
    rfl

/-- The running sum from the chunk's first row on. -/
theorem cumsum_t4 (f : ℕ → Mat) (init : FVec Ideal (⟨0, ![]⟩ : Shape) .f32) (hi : ∀ i, init i = 0) (hu : 0 < (⟨0, ![]⟩ : Shape).numel)
    (h : (T4 64 128).ReduceWindows ![1, 1, 64, 1] ![1, 1, 1, 1] ![0, 0, 63, 0] ![0, 0, 0, 0] (T4 64 128)) :
    Host.reduceWindowAdd ![1, 1, 64, 1] ![1, 1, 1, 1] ![0, 0, 63, 0] ![0, 0, 0, 0] (t4 f) init h hu = t4 (fun n => cum (f n)) := by
  rw [window_t4 f init hi]
  funext i
  refine congrArg (fun z : ℝ => (z : EReal)) ?_
  have hr : (i 2).val < 64 := (i 2).isLt
  beta_reduce
  rw [Fin.sum_univ_eq_sum_range (fun k => if 63 ≤ (i 2).val + k ∧ (i 2).val + k - 63 < 64 then f (i 1).val ((i 2).val + k - 63) (i 3).val else 0) 64]
  unfold cum
  rw [← Finset.sum_filter, ← Finset.sum_filter]
  refine Finset.sum_nbij' (fun k => (i 2).val + k - 63) (fun c => c + 63 - (i 2).val) ?_ ?_ ?_ ?_ (fun _ _ => rfl) <;>
  · intro k hk
    simp only [Finset.mem_filter, Finset.mem_range] at hk ⊢
    omega

/-- The running sum from the chunk's last row back. -/
theorem cumsumRev_t4 (f : ℕ → Mat) (init : FVec Ideal (⟨0, ![]⟩ : Shape) .f32) (hi : ∀ i, init i = 0) (hu : 0 < (⟨0, ![]⟩ : Shape).numel)
    (h : (T4 64 128).ReduceWindows ![1, 1, 64, 1] ![1, 1, 1, 1] ![0, 0, 0, 0] ![0, 0, 63, 0] (T4 64 128)) :
    Host.reduceWindowAdd ![1, 1, 64, 1] ![1, 1, 1, 1] ![0, 0, 0, 0] ![0, 0, 63, 0] (t4 f) init h hu
      = t4 (fun n r x => ∑ c ∈ Finset.range 64, if r ≤ c then f n c x else 0) := by
  rw [window_t4 f init hi]
  funext i
  refine congrArg (fun z : ℝ => (z : EReal)) ?_
  beta_reduce
  rw [Fin.sum_univ_eq_sum_range (fun k => if 0 ≤ (i 2).val + k ∧ (i 2).val + k - 0 < 64 then f (i 1).val ((i 2).val + k - 0) (i 3).val else 0) 64,
    ← Finset.sum_filter, ← Finset.sum_filter]
  refine Finset.sum_nbij' (fun k => (i 2).val + k - 0) (fun c => c - (i 2).val) ?_ ?_ ?_ ?_ (fun _ _ => rfl) <;>
  · intro k hk
    simp only [Finset.mem_filter, Finset.mem_range] at hk ⊢
    omega

end Cert.ReferenceIdeal.Ref
-- ==== Proof.Ref.Fwd.lean ====
/-
  The reference's first scan, chunk by chunk: the state it carries and the arrays it fills.
-/
module

public import proofs.«01_k».proof.Proof.Ref.Run
public import proofs.«01_k».proof.Proof.Ref.Tensor
public import Idealize.ShloMosaic.Lib.StableHlo.RunClose

@[expose] public section

set_option maxRecDepth 100000

noncomputable section

namespace Cert.ReferenceIdeal.Ref

open Cert.ReferenceIdeal.Gen
open Idealize.ShloMosaic Idealize.ShloMosaic.TcCoe Cert.Model
open Idealize.ShloMosaic.StableHlo

/-- The contents of the reference's buffers. -/
abbrev Vl := Valuation τ sig (Elt Ideal)

/-! ## The operations on one chunk -/

/-- The last row of a chunk's running sums. -/
theorem lastRow_t4 (f : ℕ → Mat) (h : (T4 64 128).Slices ![0, 0, 63, 0] (T4 1 128)) :
    extractStridedSlice (T4 1 128) ![0, 0, 63, 0] (t4 f) h = t4 (fun n _ x => f n 63 x) := by
  funext i; idx_vars i; pointwise [t4]

/-- The decays to the chunk's end. -/
theorem decay_t4 (f : ℕ → Mat) (h) (h') :
    Host.exp (subf (broadcastInDim S1x4x64x128 ![0, 1, 2, 3] h (extractStridedSlice S1x4x1x128 ![0, 0, 63, 0] (t4 (A := 64) (B := 128) f) h')) (t4 f))
      = t4 (fun n r x => Real.exp (f n 63 x - f n r x)) := by
  funext i; idx_vars i; pointwise [t4]
  simp only [← EReal.coe_sub, Ideal.exp_coe]
/-- The decay across the chunk. -/
theorem decay_t3 (f : ℕ → Mat) (h) (h') :
    Host.exp (shapeCast S1x4x128 (extractStridedSlice S1x4x1x128 ![0, 0, 63, 0] (t4 (A := 64) (B := 128) f) h') h)
      = t3 (fun n x => Real.exp (f n 63 x)) := by
  funext i; idx_vars i; pointwise [t4, t3]
  simp only [Ideal.exp_coe]
/-- The product of two matrices, entry by entry. -/
theorem mulf_t4 {A B : ℕ} (f g : ℕ → Mat) : mulf (t4 (A := A) (B := B) f) (t4 g) = t4 (fun n r x => f n r x * g n r x) := by
  funext i; pointwise [t4]
  simp only [← EReal.coe_mul]
/-- The sum of two matrices. -/
theorem addf_t4 {A B : ℕ} (f g : ℕ → Mat) : addf (t4 (A := A) (B := B) f) (t4 g) = t4 (fun n r x => f n r x + g n r x) := by
  funext i; pointwise [t4]
  simp only [← EReal.coe_add]
/-- A row as a column. -/
theorem col_t3 (f : Mat) (h) : broadcastInDim S1x4x128x1 ![0, 1, 2] h (t3 f) = t4 (fun n x _ => f n x) := by
  funext i; idx_vars i; pointwise [t4, t3]
/-- A row as the equal columns of a matrix. -/
theorem wide_t4 (f : Mat) (h) : broadcastInDim S1x4x128x256 ![0, 1, 2, 3] h (t4 (A := 128) (B := 1) (fun n x _ => f n x)) = t4 (fun n x _ => f n x) := by
  funext i; idx_vars i; pointwise [t4]
/-- The product over the chunk's rows. -/
theorem dotRows_t4 (f g : ℕ → Mat) :
    Host.dotGeneral dot_S1x4x64x128_S1x4x64x256_S1x4x128x256_2_2_3_3_01_01 none (t4 f) (t4 g)
      = t4 (fun n x y => ∑ r ∈ Finset.range 64, f n r x * g n r y) := by
  funext i; idx_vars i; pointwise [t4]
  simp only [← EReal.coe_mul, coe_sum, Finset.sum_range]
/-- The product over the state's rows. -/
theorem dotCols_t4 (f g : ℕ → Mat) :
    Host.dotGeneral dot_S1x4x64x128_S1x4x128x256_S1x4x64x256_3_2_2_3_01_01 none (t4 f) (t4 g)
      = t4 (fun n r y => ∑ x ∈ Finset.range 128, f n r x * g n x y) := by
  funext i; idx_vars i; pointwise [t4]
  simp only [← EReal.coe_mul, coe_sum, Finset.sum_range]

/-! ## The stretches of one trip -/

section Access
variable {X : Vl} {n : ℕ} {w : BitVec 32} (hn : n < 64) (hw : w.toInt = n) (hc : X (Proc.devRef .tc main_v29_4) = fun _ => w)
include hn hw hc

/-- The chunk's queries are read. -/
theorem read_q {f : ℕ → ℕ → Mat} (h : X (Proc.devRef .tc main_v29_0) = t5 f) :
    after while0Ops0 X (Proc.devRef .tc main_while0b_v61) = t4 (f n) := by
  refine Eq.trans ?_ (read5 f hw hn sliceFits_S64x1x4x64x128_S1x1x4x64x128 shapeCasts_S1x1x4x64x128_S1x4x64x128)
  after_results_entrywise [h, hc]
/-- The chunk's keys are read. -/
theorem read_k {f : ℕ → ℕ → Mat} (h : X (Proc.devRef .tc main_v29_1) = t5 f) :
    after while0Ops0_1 X (Proc.devRef .tc main_while0b_v62) = t4 (f n) := by
  refine Eq.trans ?_ (read5 f hw hn sliceFits_S64x1x4x64x128_S1x1x4x64x128 shapeCasts_S1x1x4x64x128_S1x4x64x128)
  after_results_entrywise [h, hc]
/-- The chunk's values are read. -/
theorem read_v {f : ℕ → ℕ → Mat} (h : X (Proc.devRef .tc main_v29_2) = t5 f) :
    after while0Ops0_2 X (Proc.devRef .tc main_while0b_v63) = t4 (f n) := by
  refine Eq.trans ?_ (read5 f hw hn sliceFits_S64x1x4x64x256_S1x1x4x64x256 shapeCasts_S1x1x4x64x256_S1x4x64x256)
  after_results_entrywise [h, hc]
/-- The chunk's log decays are read. -/
theorem read_a {f : ℕ → ℕ → Mat} (h : X (Proc.devRef .tc main_v29_3) = t5 f) :
    after while0Ops0_3 X (Proc.devRef .tc main_while0b_v64) = t4 (f n) := by
  refine Eq.trans ?_ (read5 f hw hn sliceFits_S64x1x4x64x128_S1x1x4x64x128 shapeCasts_S1x1x4x64x128_S1x4x64x128)
  after_results_entrywise [h, hc]
/-- The chunk's outputs are written into their stack. -/
theorem write_out {f : ℕ → ℕ → Mat} {u : ℕ → Mat} (h : X (Proc.devRef .tc main_v29_6) = t5 f)
    (hu : X (Proc.devRef .tc main_while0b_v78) = t4 u) :
    after while0Ops0_6 X (Proc.devRef .tc main_while0b_v79) = t5 (fun C => if C = n then u else f C) := by
  refine Eq.trans ?_ (write5 f u hw hn updateFits_S64x1x4x64x256_S1x1x4x64x256 bcast_S1x4x64x256_S1x1x4x64x256_1_2_3_4)
  after_results_entrywise [h, hc, hu]
/-- The chunk's decays to its end is written into its stack. -/
theorem write_toEnd {f : ℕ → ℕ → Mat} {u : ℕ → Mat} (h : X (Proc.devRef .tc main_v29_7) = t5 f)
    (hu : X (Proc.devRef .tc main_while0b_v69) = t4 u) :
    after while0Ops0_7 X (Proc.devRef .tc main_while0b_v80) = t5 (fun C => if C = n then u else f C) := by
  refine Eq.trans ?_ (write5 f u hw hn updateFits_S64x1x4x64x128_S1x1x4x64x128 bcast_S1x4x64x128_S1x1x4x64x128_1_2_3_4)
  after_results_entrywise [h, hc, hu]
/-- The chunk's state before it is written into its stack. -/
theorem write_before {f : ℕ → ℕ → Mat} {u : ℕ → Mat} (h : X (Proc.devRef .tc main_v29_9) = t5 f)
    (hu : X (Proc.devRef .tc main_v29_5) = t4 u) :
    after while0Ops0_9 X (Proc.devRef .tc main_while0b_v82) = t5 (fun C => if C = n then u else f C) := by
  refine Eq.trans ?_ (write5 f u hw hn updateFits_S64x1x4x128x256_S1x1x4x128x256 bcast_S1x4x128x256_S1x1x4x128x256_1_2_3_4)
  after_results_entrywise [h, hc, hu]
/-- The chunk's decay as a column is written into its stack. -/
theorem write_col {f : ℕ → ℕ → Mat} {u : ℕ → Mat} (h : X (Proc.devRef .tc main_v29_10) = t5 f)
    (hu : X (Proc.devRef .tc main_while0b_v73) = t4 u) :
    after while0Ops0_10 X (Proc.devRef .tc main_while0b_v83) = t5 (fun C => if C = n then u else f C) := by
  refine Eq.trans ?_ (write5 f u hw hn updateFits_S64x1x4x128x1_S1x1x4x128x1 bcast_S1x4x128x1_S1x1x4x128x1_1_2_3_4)
  after_results_entrywise [h, hc, hu]
/-- The chunk's decayed keys are written into their stack. -/
theorem write_kd {f : ℕ → ℕ → Mat} {u : ℕ → Mat} (h : X (Proc.devRef .tc main_v29_11) = t5 f)
    (hu : X (Proc.devRef .tc main_while0b_v70) = t4 u) :
    after while0Ops0_11 X (Proc.devRef .tc main_while0b_v84) = t5 (fun C => if C = n then u else f C) := by
  refine Eq.trans ?_ (write5 f u hw hn updateFits_S64x1x4x64x128_S1x1x4x64x128 bcast_S1x4x64x128_S1x1x4x64x128_1_2_3_4)
  after_results_entrywise [h, hc, hu]
/-- The chunk's state after it is written into its stack. -/
theorem write_after {f : ℕ → ℕ → Mat} {u : ℕ → Mat} (h : X (Proc.devRef .tc main_v29_12) = t5 f)
    (hu : X (Proc.devRef .tc main_while0b_v77) = t4 u) :
    after while0Ops0_12 X (Proc.devRef .tc main_while0b_v85) = t5 (fun C => if C = n then u else f C) := by
  refine Eq.trans ?_ (write5 f u hw hn updateFits_S64x1x4x128x256_S1x1x4x128x256 bcast_S1x4x128x256_S1x1x4x128x256_1_2_3_4)
  after_results_entrywise [h, hc, hu]
/-- The chunk's decay is written into its stack. -/
theorem write_dec {f : ℕ → Mat} {u : Mat} (h : X (Proc.devRef .tc main_v29_8) = r4 f)
    (hu : X (Proc.devRef .tc main_while0b_v72) = t3 u) :
    after while0Ops0_8 X (Proc.devRef .tc main_while0b_v81) = r4 (fun C => if C = n then u else f C) := by
  refine Eq.trans ?_ (write4 f u hw hn updateFits_S64x1x4x128_S1x1x4x128 bcast_S1x4x128_S1x1x4x128_1_2_3)
  after_results_entrywise [h, hc, hu]
end Access

/-- The stretch that sums the chunk's rows up. -/
theorem running {X : Vl} {a : ℕ → Mat} (h : X (Proc.devRef .tc main_while0b_v64) = t4 a) :
    after while0Ops0_4 X (Proc.devRef .tc main_while0b_v65) = t4 (fun n => cum (a n)) := by
  after_results_simp
  simp only [h]
  exact cumsum_t4 _ _ (fun _ => Ideal.ofBits_zero_f32) h_S_ _

section Chunk
variable {X : Vl} {a k v q s : ℕ → Mat} (hq : X (Proc.devRef .tc main_while0b_v61) = t4 q) (hk : X (Proc.devRef .tc main_while0b_v62) = t4 k)
  (hv : X (Proc.devRef .tc main_while0b_v63) = t4 v) (ha : X (Proc.devRef .tc main_while0b_v65) = t4 (fun n => cum (a n)))
  (hs : X (Proc.devRef .tc main_v29_5) = t4 s)
include ha

/-- The chunk's decays to its end. -/
theorem st_toEnd : after while0Ops0_5 X (Proc.devRef .tc main_while0b_v69) = t4 (fun n => toEnd (a n)) := by
  refine Eq.trans ?_ (decay_t4 _ bcast_S1x4x1x128_S1x4x64x128_0_1_2_3 slices_S1x4x64x128_S1x4x1x128_0_0_63_0)
  rw [← ha]
  after_results
/-- The chunk's decay. -/
theorem st_dec : after while0Ops0_5 X (Proc.devRef .tc main_while0b_v72) = t3 (fun n => dec (a n)) := by
  refine Eq.trans ?_ (decay_t3 _ shapeCasts_S1x4x1x128_S1x4x128 slices_S1x4x64x128_S1x4x1x128_0_0_63_0)
  rw [← ha]
  after_results
  rfl
/-- The chunk's decay as a column. -/
theorem st_col : after while0Ops0_5 X (Proc.devRef .tc main_while0b_v73) = t4 (fun n x _ => dec (a n) x) := by
  refine Eq.trans ?_ (col_t3 _ bcast_S1x4x128_S1x4x128x1_0_1_2)
  rw [← st_dec ha]
  after_results
include hk
/-- The chunk's decayed keys. -/
theorem st_kd : after while0Ops0_5 X (Proc.devRef .tc main_while0b_v70) = t4 (fun n => kd (a n) (k n)) := by
  refine Eq.trans ?_ (mulf_t4 k (fun n => toEnd (a n)))
  rw [← st_toEnd ha, ← hk]
  after_results
include hv hs
/-- The state after the chunk. -/
theorem st_state : after while0Ops0_5 X (Proc.devRef .tc main_while0b_v77) = t4 (fun n => st (s n) (a n) (k n) (v n)) := by
  refine Eq.trans (b := addf (mulf (broadcastInDim S1x4x128x256 ![0, 1, 2, 3] bcast_S1x4x128x1_S1x4x128x256_0_1_2_3
      (t4 (A := 128) (B := 1) (fun n x _ => dec (a n) x))) (t4 s))
    (Host.dotGeneral dot_S1x4x64x128_S1x4x64x256_S1x4x128x256_2_2_3_3_01_01 none (t4 (fun n => kd (a n) (k n))) (t4 v))) ?_ ?_
  · rw [← st_col ha, ← st_kd hk ha, ← hs, ← hv]
    after_results
  · rw [wide_t4, mulf_t4, dotRows_t4, addf_t4]
    rfl
include hq
/-- The chunk's outputs. -/
theorem st_out : after while0Ops0_5 X (Proc.devRef .tc main_while0b_v78)
    = t4 (fun n r y => ∑ x ∈ Finset.range 128, q n r x * st (s n) (a n) (k n) (v n) x y) := by
  refine Eq.trans ?_ (dotCols_t4 q _)
  rw [← st_state hk hv ha hs, ← hq]
  after_results
end Chunk

/-! ## The carried buffers at a trip's end -/

/-- The trip ends by handing on the state. -/
theorem last_s (X : Vl) : after while0Ops0_13 X (Proc.devRef .tc main_v29_5) = X (Proc.devRef .tc main_while0b_v77) := by
  after_results
  rfl
/-- The trip ends by handing on the stack of outputs. -/
theorem last_6 (X : Vl) : after while0Ops0_13 X (Proc.devRef .tc main_v29_6) = X (Proc.devRef .tc main_while0b_v79) := by
  after_results
  rfl
/-- The trip ends by handing on the stack of decays to the ends. -/
theorem last_7 (X : Vl) : after while0Ops0_13 X (Proc.devRef .tc main_v29_7) = X (Proc.devRef .tc main_while0b_v80) := by
  after_results
  rfl
/-- The trip ends by handing on the stack of decays. -/
theorem last_8 (X : Vl) : after while0Ops0_13 X (Proc.devRef .tc main_v29_8) = X (Proc.devRef .tc main_while0b_v81) := by
  after_results
  rfl
/-- The trip ends by handing on the stack of states before. -/
theorem last_9 (X : Vl) : after while0Ops0_13 X (Proc.devRef .tc main_v29_9) = X (Proc.devRef .tc main_while0b_v82) := by
  after_results
  rfl
/-- The trip ends by handing on the stack of decays as columns. -/
theorem last_10 (X : Vl) : after while0Ops0_13 X (Proc.devRef .tc main_v29_10) = X (Proc.devRef .tc main_while0b_v83) := by
  after_results
  rfl
/-- The trip ends by handing on the stack of decayed keys. -/
theorem last_11 (X : Vl) : after while0Ops0_13 X (Proc.devRef .tc main_v29_11) = X (Proc.devRef .tc main_while0b_v84) := by
  after_results
  rfl
/-- The trip ends by handing on the stack of states after. -/
theorem last_12 (X : Vl) : after while0Ops0_13 X (Proc.devRef .tc main_v29_12) = X (Proc.devRef .tc main_while0b_v85) := by
  after_results
  rfl

/-! ## One trip -/

/-- Stretches of the first scan's body keep a buffer that none of them writes. -/
theorem keep0 {i j : ℕ} (hij : i ≤ j) {b : Ref sig .tc} (hb : b ∉ ((body0_Ws.take j).drop i).flatten) (X : Vl) :
    afterL (body0.take j) X (Proc.devRef .tc b) = afterL (body0.take i) X (Proc.devRef .tc b) := by
  have e : (body0 (F := Ideal)).take j = (body0 (F := Ideal)).take i ++ ((body0 (F := Ideal)).take j).drop i := by
    conv_lhs => rw [← List.take_append_drop i (body0.take j), List.take_take, min_eq_left hij]
  rw [e, afterL_append, afterL_keep (List.forall₂_drop i (List.forall₂_take j body0_writes)) hb]

/-- Once the first `n` chunks are filled in, the next write fills in `n + 1`. -/
theorem upTo_succ {α : Type} [Zero α] (n : ℕ) (f : ℕ → α) :
    (fun C => if C = n then f n else if C < n then f C else 0) = fun C => if C < n + 1 then f C else 0 := by
  funext C
  rcases lt_trichotomy C n with h | h | h
  · rw [if_neg h.ne, if_pos h, if_pos (by omega)]
  · rw [if_pos h, if_pos (by omega), h]
  · rw [if_neg (by omega), if_neg (by omega), if_neg (by omega)]

/-- The state of head `h` before chunk `n`. -/
abbrev stateAt (a k v : ℕ → ℕ → Mat) (n h : ℕ) : Mat := state (fun C => a C h) (fun C => k C h) (fun C => v C h) n

/-- What the first scan's buffers hold before chunk `n`. -/
structure Inv0 (q k v a : ℕ → ℕ → Mat) (n : ℕ) (X : Vl) : Prop where
  inQ : X (Proc.devRef .tc main_v29_0) = t5 q
  inK : X (Proc.devRef .tc main_v29_1) = t5 k
  inV : X (Proc.devRef .tc main_v29_2) = t5 v
  inA : X (Proc.devRef .tc main_v29_3) = t5 a
  inS : X (Proc.devRef .tc main_v29_5) = t4 (stateAt a k v n)
  inOut : X (Proc.devRef .tc main_v29_6)
    = t5 (fun C => if C < n then fun h r y => ∑ x ∈ Finset.range 128, q C h r x * stateAt a k v (C + 1) h x y else 0)
  inToEnd : X (Proc.devRef .tc main_v29_7) = t5 (fun C => if C < n then fun h => toEnd (a C h) else 0)
  inDec : X (Proc.devRef .tc main_v29_8) = r4 (fun C => if C < n then fun h => dec (a C h) else 0)
  inBefore : X (Proc.devRef .tc main_v29_9) = t5 (fun C => if C < n then stateAt a k v C else 0)
  inCol : X (Proc.devRef .tc main_v29_10) = t5 (fun C => if C < n then fun h x _ => Model.dec (a C h) x else 0)
  inKd : X (Proc.devRef .tc main_v29_11) = t5 (fun C => if C < n then fun h => Model.kd (a C h) (k C h) else 0)
  inAfter : X (Proc.devRef .tc main_v29_12) = t5 (fun C => if C < n then stateAt a k v (C + 1) else 0)

/-- One trip of the first scan fills in the next chunk. -/
theorem trip0 {q k v a : ℕ → ℕ → Mat} {n : ℕ} {X : Vl} {w : BitVec 32} (hn : n < 64) (hw : w.toInt = n)
    (hc : X (Proc.devRef .tc main_v29_4) = fun _ => w) (I : Inv0 q k v a n X) : Inv0 q k v a (n + 1) (afterL body0 X) := by
  have c (j : ℕ) (hb : main_v29_4 ∉ ((body0_Ws.take j).drop 0).flatten) : afterL (body0.take j) X (Proc.devRef .tc main_v29_4) = fun _ => w :=
    (keep0 (Nat.zero_le j) hb X).trans hc
  have h0 {b : Ref sig .tc} (j : ℕ) (hb : b ∉ ((body0_Ws.take j).drop 0).flatten) :
      afterL (body0.take j) X (Proc.devRef .tc b) = X (Proc.devRef .tc b) := keep0 (Nat.zero_le j) hb X
  have q1 : afterL (body0.take 1) X (Proc.devRef .tc main_while0b_v61) = t4 (q n) := read_q hn hw hc I.inQ
  have k2 : afterL (body0.take 2) X (Proc.devRef .tc main_while0b_v62) = t4 (k n) :=
    read_k hn hw (c 1 (by decide +kernel)) ((h0 1 (by decide +kernel)).trans I.inK)
  have v3 : afterL (body0.take 3) X (Proc.devRef .tc main_while0b_v63) = t4 (v n) :=
    read_v hn hw (c 2 (by decide +kernel)) ((h0 2 (by decide +kernel)).trans I.inV)
  have a4 : afterL (body0.take 4) X (Proc.devRef .tc main_while0b_v64) = t4 (a n) :=
    read_a hn hw (c 3 (by decide +kernel)) ((h0 3 (by decide +kernel)).trans I.inA)
  have a5 : afterL (body0.take 5) X (Proc.devRef .tc main_while0b_v65) = t4 (fun h => cum (a n h)) := running a4
  have q5 := (keep0 (i := 1) (j := 5) (by decide) (by decide +kernel) X).trans q1
  have k5 := (keep0 (i := 2) (j := 5) (by decide) (by decide +kernel) X).trans k2
  have v5 := (keep0 (i := 3) (j := 5) (by decide) (by decide +kernel) X).trans v3
  have s5 := (h0 5 (by decide +kernel)).trans I.inS
  have to6 : afterL (body0.take 6) X (Proc.devRef .tc main_while0b_v69) = _ := st_toEnd a5
  have dec6 : afterL (body0.take 6) X (Proc.devRef .tc main_while0b_v72) = _ := st_dec a5
  have col6 : afterL (body0.take 6) X (Proc.devRef .tc main_while0b_v73) = _ := st_col a5
  have kd6 : afterL (body0.take 6) X (Proc.devRef .tc main_while0b_v70) = _ := st_kd k5 a5
  have st6 : afterL (body0.take 6) X (Proc.devRef .tc main_while0b_v77) = t4 (stateAt a k v (n + 1)) := st_state k5 v5 a5 s5
  have out6 : afterL (body0.take 6) X (Proc.devRef .tc main_while0b_v78) = _ := st_out q5 k5 v5 a5 s5
  have w7 : afterL (body0.take 7) X (Proc.devRef .tc main_while0b_v79) = _ :=
    write_out hn hw (c 6 (by decide +kernel)) ((h0 6 (by decide +kernel)).trans I.inOut) out6
  have w8 : afterL (body0.take 8) X (Proc.devRef .tc main_while0b_v80) = _ :=
    write_toEnd hn hw (c 7 (by decide +kernel)) ((h0 7 (by decide +kernel)).trans I.inToEnd)
      ((keep0 (i := 6) (j := 7) (by decide) (by decide +kernel) X).trans to6)
  have w9 : afterL (body0.take 9) X (Proc.devRef .tc main_while0b_v81) = _ :=
    write_dec hn hw (c 8 (by decide +kernel)) ((h0 8 (by decide +kernel)).trans I.inDec)
      ((keep0 (i := 6) (j := 8) (by decide) (by decide +kernel) X).trans dec6)
  have w10 : afterL (body0.take 10) X (Proc.devRef .tc main_while0b_v82) = _ :=
    write_before hn hw (c 9 (by decide +kernel)) ((h0 9 (by decide +kernel)).trans I.inBefore) ((h0 9 (by decide +kernel)).trans I.inS)
  have w11 : afterL (body0.take 11) X (Proc.devRef .tc main_while0b_v83) = _ :=
    write_col hn hw (c 10 (by decide +kernel)) ((h0 10 (by decide +kernel)).trans I.inCol)
      ((keep0 (i := 6) (j := 10) (by decide) (by decide +kernel) X).trans col6)
  have w12 : afterL (body0.take 12) X (Proc.devRef .tc main_while0b_v84) = _ :=
    write_kd hn hw (c 11 (by decide +kernel)) ((h0 11 (by decide +kernel)).trans I.inKd)
      ((keep0 (i := 6) (j := 11) (by decide) (by decide +kernel) X).trans kd6)
  have w13 : afterL (body0.take 13) X (Proc.devRef .tc main_while0b_v85) = _ :=
    write_after hn hw (c 12 (by decide +kernel)) ((h0 12 (by decide +kernel)).trans I.inAfter)
      ((keep0 (i := 6) (j := 12) (by decide) (by decide +kernel) X).trans st6)
  have e : afterL body0 X = after while0Ops0_13 (afterL (body0.take 13) X) := rfl
  constructor
  · exact (h0 14 (by decide +kernel)).trans I.inQ
  · exact (h0 14 (by decide +kernel)).trans I.inK
  · exact (h0 14 (by decide +kernel)).trans I.inV
  · exact (h0 14 (by decide +kernel)).trans I.inA
  · rw [e, last_s, keep0 (i := 6) (j := 13) (by decide) (by decide +kernel) X, st6]
  · rw [e, last_6, keep0 (i := 7) (j := 13) (by decide) (by decide +kernel) X, w7]
    exact congrArg t5 (upTo_succ n fun C h r y => ∑ x ∈ Finset.range 128, q C h r x * stateAt a k v (C + 1) h x y)
  · rw [e, last_7, keep0 (i := 8) (j := 13) (by decide) (by decide +kernel) X, w8]
    exact congrArg t5 (upTo_succ n fun C h => Model.toEnd (a C h))
  · rw [e, last_8, keep0 (i := 9) (j := 13) (by decide) (by decide +kernel) X, w9]
    exact congrArg r4 (upTo_succ n fun C h => Model.dec (a C h))
  · rw [e, last_9, keep0 (i := 10) (j := 13) (by decide) (by decide +kernel) X, w10]
    exact congrArg t5 (upTo_succ n fun C => stateAt a k v C)
  · rw [e, last_10, keep0 (i := 11) (j := 13) (by decide) (by decide +kernel) X, w11]
    exact congrArg t5 (upTo_succ n fun C => (fun h x _ => Model.dec (a C h) x : ℕ → Mat))
  · rw [e, last_11, keep0 (i := 12) (j := 13) (by decide) (by decide +kernel) X, w12]
    exact congrArg t5 (upTo_succ n fun C h => Model.kd (a C h) (k C h))
  · rw [e, last_12, w13]
    exact congrArg t5 (upTo_succ n fun C => stateAt a k v (C + 1))

/-! ## All trips -/

/-- Before chunk `n` the first scan's buffers hold the first `n` chunks' results. -/
theorem inv0 {q k v a : ℕ → ℕ → Mat} {V : Dev nD → Vl} {c : Dev nD} (hV : V c (Proc.devRef .tc main_v29_4) = fun _ => (0#32 : BitVec 32))
    (I : Inv0 q k v a 0 (V c)) : ∀ n, n ≤ 64 → Inv0 q k v a n (atTrip cond0 body0 V n c)
  | 0, _ => I
  | n + 1, hn => by
    have J := inv0 hV I n (by omega)
    have keep {b : Ref sig .tc} (hb : b ∉ cond0_W) : after cond0 (atTrip cond0 body0 V n c) (Proc.devRef .tc b)
        = atTrip cond0 body0 V n c (Proc.devRef .tc b) := after_of_writes_sub cond0 _ cond0_writes hb
    refine trip0 (X := after cond0 (atTrip cond0 body0 V n c)) (by omega) (iv_toInt (by omega)) ((keep (by decide +kernel)).trans (ctr0 V c hV n)) ?_
    exact ⟨(keep (by decide +kernel)).trans J.inQ, (keep (by decide +kernel)).trans J.inK, (keep (by decide +kernel)).trans J.inV,
      (keep (by decide +kernel)).trans J.inA, (keep (by decide +kernel)).trans J.inS, (keep (by decide +kernel)).trans J.inOut,
      (keep (by decide +kernel)).trans J.inToEnd, (keep (by decide +kernel)).trans J.inDec, (keep (by decide +kernel)).trans J.inBefore,
      (keep (by decide +kernel)).trans J.inCol, (keep (by decide +kernel)).trans J.inKd, (keep (by decide +kernel)).trans J.inAfter⟩

end Cert.ReferenceIdeal.Ref
-- ==== Proof.Ref.Bwd.lean ====
/-
  The reference's second scan, chunk by chunk from the last: the cotangent it carries and the gradients it fills.
-/
module

public import proofs.«01_k».proof.Proof.Ref.Fwd

@[expose] public section

set_option maxRecDepth 100000

noncomputable section

namespace Cert.ReferenceIdeal.Ref

open Cert.ReferenceIdeal.Gen
open Idealize.ShloMosaic Idealize.ShloMosaic.TcCoe Cert.Model
open Idealize.ShloMosaic.StableHlo

/-! ## The operations on one chunk -/

/-- The product of the output's cotangent and the queries over the chunk's rows, transposed. -/
theorem dotGQ_t4 (g q : ℕ → Mat) (h) :
    transpose S1x4x128x256 [0, 1, 3, 2] (Host.dotGeneral dot_S1x4x64x256_S1x4x64x128_S1x4x256x128_2_2_3_3_01_01 none (t4 g) (t4 q) : Vec Ideal S1x4x256x128 .f32) h
      = t4 (fun n x y => ∑ r ∈ Finset.range 64, q n r x * g n r y) := by
  funext i; idx_vars i; pointwise [t4]
  simp only [← EReal.coe_mul, coe_sum, Finset.sum_range, mul_comm]
/-- The product of the state's cotangent and the values, transposed. -/
theorem dotDV_t4 (d v : ℕ → Mat) (h) :
    transpose S1x4x64x128 [0, 1, 3, 2] (Host.dotGeneral dot_S1x4x128x256_S1x4x64x256_S1x4x128x64_3_3_2_2_01_01 none (t4 d) (t4 v) : Vec Ideal S1x4x128x64 .f32) h
      = t4 (fun n r x => ∑ y ∈ Finset.range 256, v n r y * d n x y) := by
  funext i; idx_vars i; pointwise [t4]
  simp only [← EReal.coe_mul, coe_sum, Finset.sum_range, mul_comm]
/-- The product of the state's cotangent and the decayed keys, transposed. -/
theorem dotDK_t4 (d k : ℕ → Mat) (h) :
    transpose S1x4x64x256 [0, 1, 3, 2] (Host.dotGeneral dot_S1x4x128x256_S1x4x64x128_S1x4x256x64_2_3_3_2_01_01 none (t4 d) (t4 k) : Vec Ideal S1x4x256x64 .f32) h
      = t4 (fun n r y => ∑ x ∈ Finset.range 128, k n r x * d n x y) := by
  funext i; idx_vars i; pointwise [t4]
  simp only [← EReal.coe_mul, coe_sum, Finset.sum_range, mul_comm]
/-- The product of the output's cotangent and the state. -/
theorem dotGS_t4 (g s : ℕ → Mat) :
    Host.dotGeneral dot_S1x4x64x256_S1x4x128x256_S1x4x64x128_3_3_2_2_01_01 none (t4 g) (t4 s)
      = t4 (fun n r x => ∑ y ∈ Finset.range 256, g n r y * s n x y) := by
  funext i; idx_vars i; pointwise [t4]
  simp only [← EReal.coe_mul, coe_sum, Finset.sum_range]
/-- The sums of a matrix's rows. -/
theorem rowSum_t4 (f : ℕ → Mat) :
    Host.reduceAdd (t4 f) (constant S_ .f32 0x00000000#32) reducesTo_S1x4x128x256_S1x4x128_d3 h_S_
      = t3 (fun n x => ∑ y ∈ Finset.range 256, f n x y) := by
  funext i; idx_vars i; pointwise [t4, t3]
  simp only [Ideal.ofBits_zero_f32, zero_add, coe_sum, Finset.sum_range]
/-- The sums of a matrix's columns, as one row. -/
theorem colSum_t4 (f : ℕ → Mat) (h) :
    shapeCast S1x4x1x128 (Host.reduceAdd (t4 f) (constant S_ .f32 0x00000000#32) reducesTo_S1x4x64x128_S1x4x128_d2 h_S_) h
      = t4 (fun n _ x => ∑ r ∈ Finset.range 64, f n r x) := by
  funext i; idx_vars i; pointwise [t4]
  simp only [Ideal.ofBits_zero_f32, zero_add, coe_sum, Finset.sum_range]
/-- A row as a matrix of one row. -/
theorem asRow_t3 (f : Mat) (h) : broadcastInDim S1x4x1x128 ![0, 1, 3] h (t3 f) = t4 (fun n _ x => f n x) := by
  funext i; idx_vars i; pointwise [t4, t3]
/-- The product of two rows. -/
theorem mulf_t3 (f g : Mat) : mulf (t3 f) (t3 g) = t3 (fun n x => f n x * g n x) := by
  funext i; pointwise [t3]
  simp only [← EReal.coe_mul]
/-- The negative of a matrix. -/
theorem negf_t4 (f : ℕ → Mat) : Host.negf (t4 (A := 64) (B := 128) f) = t4 (fun n r x => - f n r x) := by
  funext i; idx_vars i; pointwise [t4]
  simp only [← EReal.coe_neg]
/-- A row put at the chunk's last row, zeros elsewhere. -/
theorem pad_t4 (f : Mat) (h) : pad S1x4x64x128 ![0, 0, 63, 0] ![0, 0, 0, 0] ![0, 0, 0, 0] (t4 (A := 1) (B := 128) (fun n _ x => f n x))
    (constant S_ .f32 0x00000000#32) h h_S_ = t4 (fun n r x => if r = 63 then f n x else 0) := by
  funext i; idx_vars i; pointwise [t4]
  have h2 := i2.isLt
  by_cases h : i2.val = 63
  · rw [dif_pos (by omega), if_pos h]
  · rw [dif_neg (by omega), if_neg h]; rfl
/-- A column of sums as a row. -/
theorem unit_t3 (f : Mat) (h) (h') : broadcastInDim S1x4x128 ![1, 2] h (Host.reduceAdd (shapeCast S1x4x128x1 (t3 f) h')
    (constant S_ .f32 0x00000000#32) reducesTo_S1x4x128x1_S4x128_d0_3 h_S_) = t3 f := by
  funext i; idx_vars i; pointwise [t3]
  have hm : reducesTo_S1x4x128x1_S4x128_d0_3.drop (ix4 0 i1 i2 0) = ix2 i1 i2 := by
    funext a
    match a with
    | ⟨0, _⟩ => exact Fin.ext (Shape.ReducesTo.drop_apply_val_of_eq reducesTo_S1x4x128x1_S4x128_d0_3 _ 0 1)
    | ⟨1, _⟩ => exact Fin.ext (Shape.ReducesTo.drop_apply_val_of_eq reducesTo_S1x4x128x1_S4x128_d0_3 _ 1 2)
  unfold Ideal.hostReduceAdd
  rw [zero_add, Finset.sum_eq_single (ix4 0 i1 i2 0)]
  · pointwise [t3]
  · intro b hb hne
    have hb := (Finset.mem_filter.mp hb).2
    have h1 : b 1 = i1 := Fin.ext ((Shape.ReducesTo.drop_apply_val_of_eq reducesTo_S1x4x128x1_S4x128_d0_3 b 0 1).symm.trans
      (congrArg Fin.val (congrFun hb 0)))
    have h2 : b 2 = i2 := Fin.ext ((Shape.ReducesTo.drop_apply_val_of_eq reducesTo_S1x4x128x1_S4x128_d0_3 b 1 2).symm.trans
      (congrArg Fin.val (congrFun hb 1)))
    refine absurd (funext fun a => ?_) hne
    match a with
    | ⟨0, _⟩ => exact Subsingleton.elim (α := Fin 1) _ _
    | ⟨1, _⟩ => exact h1
    | ⟨2, _⟩ => exact h2
    | ⟨3, _⟩ => exact Subsingleton.elim (α := Fin 1) _ _
  · intro hne
    refine absurd ?_ hne
    rw [Finset.mem_filter]
    exact ⟨Finset.mem_univ _, hm⟩

/-! ## The stretches of one trip -/

/-- The chunk the trip with counter `n` works on is the `n`-th from the last. -/
theorem at_chunk {X : Vl} {n : ℕ} (hn : n < 64) (hc : X (Proc.devRef .tc main_v42_10) = fun _ => Scf.iv 0#32 1#32 n) :
    ∃ w : BitVec 32, w.toInt = (63 - n : ℕ) ∧ after while1Ops0 X (Proc.devRef .tc main_while1b_v62) = fun _ => w := by
  refine ⟨IntOp.subi (IntOp.subi 64#32 (Scf.iv 0#32 1#32 n)) 1#32, ?_, ?_⟩
  · clear hc; revert n; decide +kernel
  · refine Eq.trans (b := subi (subi (constantI S_ 32 64#32) (X (Proc.devRef .tc main_v42_10))) (constantI S_ 32 1#32)) ?_ ?_
    · after_results
    · rw [hc]; rfl

section Access
variable {X : Vl} {n : ℕ} {w : BitVec 32} (hn : n < 64) (hw : w.toInt = n) (hc : X (Proc.devRef .tc main_while1b_v62) = fun _ => w)
include hn hw hc

/-- The chunk's read: the output's cotangent. -/
theorem bread_do {f : ℕ → ℕ → Mat} (h : X (Proc.devRef .tc main_v42_0) = t5 f) :
    after while1Ops0_1 X (Proc.devRef .tc main_while1b_v63) = t4 (f n) := by
  refine Eq.trans ?_ (read5 f hw hn sliceFits_S64x1x4x64x256_S1x1x4x64x256 shapeCasts_S1x1x4x64x256_S1x4x64x256)
  after_results_entrywise [h, hc]
/-- The chunk's read: the decays to the chunk's end. -/
theorem bread_toEnd {f : ℕ → ℕ → Mat} (h : X (Proc.devRef .tc main_v42_1) = t5 f) :
    after while1Ops0_2 X (Proc.devRef .tc main_while1b_v64) = t4 (f n) := by
  refine Eq.trans ?_ (read5 f hw hn sliceFits_S64x1x4x64x128_S1x1x4x64x128 shapeCasts_S1x1x4x64x128_S1x4x64x128)
  after_results_entrywise [h, hc]
/-- The chunk's read: the keys. -/
theorem bread_key {f : ℕ → ℕ → Mat} (h : X (Proc.devRef .tc main_v42_2) = t5 f) :
    after while1Ops0_3 X (Proc.devRef .tc main_while1b_v65) = t4 (f n) := by
  refine Eq.trans ?_ (read5 f hw hn sliceFits_S64x1x4x64x128_S1x1x4x64x128 shapeCasts_S1x1x4x64x128_S1x4x64x128)
  after_results_entrywise [h, hc]
/-- The chunk's read: the state before the chunk. -/
theorem bread_before {f : ℕ → ℕ → Mat} (h : X (Proc.devRef .tc main_v42_4) = t5 f) :
    after while1Ops0_5 X (Proc.devRef .tc main_while1b_v67) = t4 (f n) := by
  refine Eq.trans ?_ (read5 f hw hn sliceFits_S64x1x4x128x256_S1x1x4x128x256 shapeCasts_S1x1x4x128x256_S1x4x128x256)
  after_results_entrywise [h, hc]
/-- The chunk's read: the decay across the chunk, as a column. -/
theorem bread_col {f : ℕ → ℕ → Mat} (h : X (Proc.devRef .tc main_v42_5) = t5 f) :
    after while1Ops0_6 X (Proc.devRef .tc main_while1b_v68) = t4 (f n) := by
  refine Eq.trans ?_ (read5 f hw hn sliceFits_S64x1x4x128x1_S1x1x4x128x1 shapeCasts_S1x1x4x128x1_S1x4x128x1)
  after_results_entrywise [h, hc]
/-- The chunk's read: the values. -/
theorem bread_val {f : ℕ → ℕ → Mat} (h : X (Proc.devRef .tc main_v42_6) = t5 f) :
    after while1Ops0_7 X (Proc.devRef .tc main_while1b_v69) = t4 (f n) := by
  refine Eq.trans ?_ (read5 f hw hn sliceFits_S64x1x4x64x256_S1x1x4x64x256 shapeCasts_S1x1x4x64x256_S1x4x64x256)
  after_results_entrywise [h, hc]
/-- The chunk's read: the decayed keys. -/
theorem bread_kd {f : ℕ → ℕ → Mat} (h : X (Proc.devRef .tc main_v42_7) = t5 f) :
    after while1Ops0_8 X (Proc.devRef .tc main_while1b_v70) = t4 (f n) := by
  refine Eq.trans ?_ (read5 f hw hn sliceFits_S64x1x4x64x128_S1x1x4x64x128 shapeCasts_S1x1x4x64x128_S1x4x64x128)
  after_results_entrywise [h, hc]
/-- The chunk's read: the state after the chunk. -/
theorem bread_after {f : ℕ → ℕ → Mat} (h : X (Proc.devRef .tc main_v42_8) = t5 f) :
    after while1Ops0_9 X (Proc.devRef .tc main_while1b_v71) = t4 (f n) := by
  refine Eq.trans ?_ (read5 f hw hn sliceFits_S64x1x4x128x256_S1x1x4x128x256 shapeCasts_S1x1x4x128x256_S1x4x128x256)
  after_results_entrywise [h, hc]
/-- The chunk's read: the scaled queries. -/
theorem bread_qry {f : ℕ → ℕ → Mat} (h : X (Proc.devRef .tc main_v42_9) = t5 f) :
    after while1Ops0_10 X (Proc.devRef .tc main_while1b_v72) = t4 (f n) := by
  refine Eq.trans ?_ (read5 f hw hn sliceFits_S64x1x4x64x128_S1x1x4x64x128 shapeCasts_S1x1x4x64x128_S1x4x64x128)
  after_results_entrywise [h, hc]
/-- The chunk's read: the decay across the chunk. -/
theorem bread_dec {f : ℕ → Mat} (h : X (Proc.devRef .tc main_v42_3) = r4 f) :
    after while1Ops0_4 X (Proc.devRef .tc main_while1b_v66) = t3 (f n) := by
  refine Eq.trans ?_ (read4 f hw hn sliceFits_S64x1x4x128_S1x1x4x128 shapeCasts_S1x1x4x128_S1x4x128)
  after_results_entrywise [h, hc]
/-- The chunk's gradient of the queries is written into its stack. -/
theorem bwrite_q {f : ℕ → ℕ → Mat} {u : ℕ → Mat} (h : X (Proc.devRef .tc main_v42_12) = t5 f)
    (hu : X (Proc.devRef .tc main_while1b_v76) = t4 u) :
    after while1Ops0_13 X (Proc.devRef .tc main_while1b_v100) = t5 (fun C => if C = n then u else f C) := by
  refine Eq.trans ?_ (write5 f u hw hn updateFits_S64x1x4x64x128_S1x1x4x64x128 bcast_S1x4x64x128_S1x1x4x64x128_1_2_3_4)
  after_results_entrywise [h, hc, hu]
/-- The chunk's gradient of the keys is written into its stack. -/
theorem bwrite_k {f : ℕ → ℕ → Mat} {u : ℕ → Mat} (h : X (Proc.devRef .tc main_v42_13) = t5 f)
    (hu : X (Proc.devRef .tc main_while1b_v91) = t4 u) :
    after while1Ops0_14 X (Proc.devRef .tc main_while1b_v101) = t5 (fun C => if C = n then u else f C) := by
  refine Eq.trans ?_ (write5 f u hw hn updateFits_S64x1x4x64x128_S1x1x4x64x128 bcast_S1x4x64x128_S1x1x4x64x128_1_2_3_4)
  after_results_entrywise [h, hc, hu]
/-- The chunk's gradient of the values is written into its stack. -/
theorem bwrite_v {f : ℕ → ℕ → Mat} {u : ℕ → Mat} (h : X (Proc.devRef .tc main_v42_14) = t5 f)
    (hu : X (Proc.devRef .tc main_while1b_v78) = t4 u) :
    after while1Ops0_15 X (Proc.devRef .tc main_while1b_v102) = t5 (fun C => if C = n then u else f C) := by
  refine Eq.trans ?_ (write5 f u hw hn updateFits_S64x1x4x64x256_S1x1x4x64x256 bcast_S1x4x64x256_S1x1x4x64x256_1_2_3_4)
  after_results_entrywise [h, hc, hu]
/-- The chunk's gradient of the log decays is written into its stack. -/
theorem bwrite_a {f : ℕ → ℕ → Mat} {u : ℕ → Mat} (h : X (Proc.devRef .tc main_v42_15) = t5 f)
    (hu : X (Proc.devRef .tc main_while1b_v99) = t4 u) :
    after while1Ops0_16 X (Proc.devRef .tc main_while1b_v103) = t5 (fun C => if C = n then u else f C) := by
  refine Eq.trans ?_ (write5 f u hw hn updateFits_S64x1x4x64x128_S1x1x4x64x128 bcast_S1x4x64x128_S1x1x4x64x128_1_2_3_4)
  after_results_entrywise [h, hc, hu]
end Access

/-- The stretch that sums the chunk's rows from the last one back. -/
theorem runningBack {X : Vl} {a : ℕ → Mat} (h : X (Proc.devRef .tc main_while1b_v98) = t4 a) :
    after while1Ops0_12 X (Proc.devRef .tc main_while1b_v99) = t4 (fun n r x => ∑ c ∈ Finset.range 64, if r ≤ c then a n c x else 0) := by
  after_results_simp
  simp only [h]
  exact cumsumRev_t4 _ _ (fun _ => Ideal.ofBits_zero_f32) h_S_ _

section Chunk
variable {X : Vl} {σ : ℝ} {a k v q g b sa ca : ℕ → Mat}
  (hg : X (Proc.devRef .tc main_while1b_v63) = t4 g) (hE : X (Proc.devRef .tc main_while1b_v64) = t4 (fun n => toEnd (a n)))
  (hk : X (Proc.devRef .tc main_while1b_v65) = t4 k) (hd : X (Proc.devRef .tc main_while1b_v66) = t3 (fun n => dec (a n)))
  (hb : X (Proc.devRef .tc main_while1b_v67) = t4 b) (hcol : X (Proc.devRef .tc main_while1b_v68) = t4 (fun n x _ => dec (a n) x))
  (hv : X (Proc.devRef .tc main_while1b_v69) = t4 v) (hkd : X (Proc.devRef .tc main_while1b_v70) = t4 (fun n => kd (a n) (k n)))
  (hsa : X (Proc.devRef .tc main_while1b_v71) = t4 sa) (hq : X (Proc.devRef .tc main_while1b_v72) = t4 (fun n r x => q n r x * σ))
  (hca : X (Proc.devRef .tc main_v42_11) = t4 ca)

include hg hsa in
/-- The unscaled queries' gradient of the chunk. -/
theorem ch_q : after while1Ops0_11 X (Proc.devRef .tc main_while1b_v76)
    = t4 (fun n r x => ∑ y ∈ Finset.range 256, g n r y * sa n x y) := by
  refine Eq.trans ?_ (dotGS_t4 g sa)
  rw [← hg, ← hsa]
  after_results

include hg hq hca
/-- The cotangent of the state after the chunk. -/
theorem ch_ds : after while1Ops0_11 X (Proc.devRef .tc main_while1b_v75) = t4 (fun n => ds σ (ca n) (q n) (g n)) := by
  refine Eq.trans ?_ (addf_t4 ca (fun n x y => ∑ r ∈ Finset.range 64, q n r x * σ * g n r y))
  rw [← dotGQ_t4 g (fun n r x => q n r x * σ) transposes_S1x4x256x128_S1x4x128x256_0_1_3_2, ← hg, ← hq, ← hca]
  after_results

include hkd in
/-- The values' gradient of the chunk. -/
theorem ch_v : after while1Ops0_11 X (Proc.devRef .tc main_while1b_v78) = t4 (fun n => dv (a n) (k n) (ds σ (ca n) (q n) (g n))) := by
  refine Eq.trans ?_ (dotDK_t4 (fun n => ds σ (ca n) (q n) (g n)) (fun n => kd (a n) (k n)) transposes_S1x4x256x64_S1x4x64x256_0_1_3_2)
  rw [← ch_ds hg hq hca, ← hkd]
  after_results

include hcol in
/-- The cotangent carried to the chunk before. -/
theorem ch_carry : after while1Ops0_11 X (Proc.devRef .tc main_while1b_v82) = t4 (fun n => carry (a n) (ds σ (ca n) (q n) (g n))) := by
  refine Eq.trans ?_ (mulf_t4 (fun n x _ => dec (a n) x) (fun n => ds σ (ca n) (q n) (g n)))
  rw [← ch_ds hg hq hca, ← wide_t4 (fun n => dec (a n)) bcast_S1x4x128x1_S1x4x128x256_0_1_2_3, ← hcol]
  after_results

include hv in
/-- The decayed keys' cotangent. -/
theorem ch_dkd : after while1Ops0_11 X (Proc.devRef .tc main_while1b_v80) = t4 (fun n => dkd (v n) (ds σ (ca n) (q n) (g n))) := by
  refine Eq.trans ?_ (dotDV_t4 (fun n => ds σ (ca n) (q n) (g n)) v transposes_S1x4x128x64_S1x4x64x128_0_1_3_2)
  rw [← ch_ds hg hq hca, ← hv]
  after_results

include hv hE in
/-- The keys' gradient of the chunk. -/
theorem ch_k : after while1Ops0_11 X (Proc.devRef .tc main_while1b_v91) = t4 (fun n => dk (a n) (v n) (ds σ (ca n) (q n) (g n))) := by
  refine Eq.trans ?_ (mulf_t4 (fun n => dkd (v n) (ds σ (ca n) (q n) (g n))) (fun n => toEnd (a n)))
  rw [← ch_dkd hg hv hq hca, ← hE]
  after_results

include hv hE hk in
/-- The cotangent of the decays' exponents. -/
theorem ch_darg : after while1Ops0_11 X (Proc.devRef .tc main_while1b_v92)
    = t4 (fun n => darg (a n) (k n) (v n) (ds σ (ca n) (q n) (g n))) := by
  refine Eq.trans (b := mulf (mulf (t4 k) (t4 (fun n => dkd (v n) (ds σ (ca n) (q n) (g n))))) (t4 (A := 64) (B := 128) (fun n => toEnd (a n)))) ?_ ?_
  · rw [← ch_dkd hg hv hq hca, ← hE, ← hk]
    after_results
  · rw [mulf_t4, mulf_t4]
    refine congrArg t4 (funext fun n => funext fun r => funext fun x => ?_)
    simp only [darg, kd]
    ring

include hb hd in
/-- The part of the cotangent at the chunk's end that comes through the state. -/
theorem ch_end : after while1Ops0_11 X (Proc.devRef .tc main_while1b_v89)
    = t4 (fun n _ x => (∑ y ∈ Finset.range 256, ds σ (ca n) (q n) (g n) x y * b n x y) * dec (a n) x) := by
  refine Eq.trans ?_ (asRow_t3 _ bcast_S1x4x128_S1x4x1x128_0_1_3)
  rw [← mulf_t3 (fun n x => ∑ y ∈ Finset.range 256, ds σ (ca n) (q n) (g n) x y * b n x y) (fun n => dec (a n)),
    ← unit_t3 (fun n x => ∑ y ∈ Finset.range 256, ds σ (ca n) (q n) (g n) x y * b n x y) bcast_S4x128_S1x4x128_1_2 shapeCasts_S1x4x128_S1x4x128x1,
    ← rowSum_t4 (fun n x y => ds σ (ca n) (q n) (g n) x y * b n x y), ← mulf_t4 (fun n => ds σ (ca n) (q n) (g n)) b,
    ← ch_ds hg hq hca, ← hb, ← hd]
  after_results
  rfl

include hv hE hk hb hd
/-- The cotangent of the running sums of the log decays. -/
theorem ch_a : after while1Ops0_11 X (Proc.devRef .tc main_while1b_v98)
    = t4 (fun n c x => (if c = 63 then dce (a n) (k n) (v n) (ds σ (ca n) (q n) (g n)) (b n) x else 0)
        - darg (a n) (k n) (v n) (ds σ (ca n) (q n) (g n)) c x) := by
  refine Eq.trans (b := addf (Host.negf (t4 (fun n => darg (a n) (k n) (v n) (ds σ (ca n) (q n) (g n)))))
    (pad S1x4x64x128 ![0, 0, 63, 0] ![0, 0, 0, 0] ![0, 0, 0, 0]
      (addf (t4 (A := 1) (B := 128) (fun n _ x => (∑ y ∈ Finset.range 256, ds σ (ca n) (q n) (g n) x y * b n x y) * dec (a n) x))
        (shapeCast S1x4x1x128 (Host.reduceAdd (t4 (fun n => darg (a n) (k n) (v n) (ds σ (ca n) (q n) (g n))))
          (constant S_ .f32 0x00000000#32) reducesTo_S1x4x64x128_S1x4x128_d2 h_S_) shapeCasts_S1x4x128_S1x4x1x128))
      (constant S_ .f32 0x00000000#32) pads_S1x4x1x128_S1x4x64x128_000_000_6300_000 h_S_)) ?_ ?_
  · rw [← ch_end hg hd hb hq hca, ← ch_darg hg hE hk hv hq hca]
    after_results
    rfl
  · rw [negf_t4, colSum_t4, addf_t4, pad_t4 (fun n x => (∑ y ∈ Finset.range 256, ds σ (ca n) (q n) (g n) x y * b n x y) * dec (a n) x +
      ∑ r ∈ Finset.range 64, darg (a n) (k n) (v n) (ds σ (ca n) (q n) (g n)) r x), addf_t4]
    refine congrArg t4 (funext fun n => funext fun c => funext fun x => ?_)
    rw [dce, Finset.sum_mul]
    ring
end Chunk

/-! ## The carried buffers at a trip's end -/

/-- The trip ends by handing on the carried cotangent. -/
theorem blast_11 (X : Vl) : after while1Ops0_17 X (Proc.devRef .tc main_v42_11) = X (Proc.devRef .tc main_while1b_v82) := by
  after_results
  rfl
/-- The trip ends by handing on the stack of the queries' gradients. -/
theorem blast_12 (X : Vl) : after while1Ops0_17 X (Proc.devRef .tc main_v42_12) = X (Proc.devRef .tc main_while1b_v100) := by
  after_results
  rfl
/-- The trip ends by handing on the stack of the keys' gradients. -/
theorem blast_13 (X : Vl) : after while1Ops0_17 X (Proc.devRef .tc main_v42_13) = X (Proc.devRef .tc main_while1b_v101) := by
  after_results
  rfl
/-- The trip ends by handing on the stack of the values' gradients. -/
theorem blast_14 (X : Vl) : after while1Ops0_17 X (Proc.devRef .tc main_v42_14) = X (Proc.devRef .tc main_while1b_v102) := by
  after_results
  rfl
/-- The trip ends by handing on the stack of the log decays' gradients. -/
theorem blast_15 (X : Vl) : after while1Ops0_17 X (Proc.devRef .tc main_v42_15) = X (Proc.devRef .tc main_while1b_v103) := by
  after_results
  rfl

/-! ## One trip -/

/-- Stretches of the second scan's body keep a buffer that none of them writes. -/
theorem keep1 {i j : ℕ} (hij : i ≤ j) {b : Ref sig .tc} (hb : b ∉ ((body1_Ws.take j).drop i).flatten) (X : Vl) :
    afterL (body1.take j) X (Proc.devRef .tc b) = afterL (body1.take i) X (Proc.devRef .tc b) := by
  have e : (body1 (F := Ideal)).take j = (body1 (F := Ideal)).take i ++ ((body1 (F := Ideal)).take j).drop i := by
    conv_lhs => rw [← List.take_append_drop i (body1.take j), List.take_take, min_eq_left hij]
  rw [e, afterL_append, afterL_keep (List.forall₂_drop i (List.forall₂_take j body1_writes)) hb]

/-- Once the `n` last chunks are done, the `n + 1` last ones are when the next is written. -/
theorem fromLast_succ {α : Type} [Zero α] {n : ℕ} (hn : n < 64) (f : ℕ → α) :
    (fun C => if C = 63 - n then f (63 - n) else if 64 - n ≤ C then f C else 0) = fun C => if 64 - (n + 1) ≤ C then f C else 0 := by
  funext C
  by_cases h : C = 63 - n
  · rw [if_pos h, if_pos (by omega), h]
  · by_cases h' : 64 - n ≤ C
    · rw [if_neg h, if_pos h', if_pos (by omega)]
    · rw [if_neg h, if_neg h', if_neg (by omega)]

/-- The cotangent carried into the `n`-th chunk met, of head `h`. -/
abbrev carriedAt (σ : ℝ) (q a g : ℕ → ℕ → Mat) (n h : ℕ) : Mat := carried σ (fun C => a C h) (fun C => q C h) (fun C => g C h) n
/-- The cotangent of the state after chunk `C`, of head `h`. -/
abbrev dsAt (σ : ℝ) (q a g : ℕ → ℕ → Mat) (C h : ℕ) : Mat := ds σ (carriedAt σ q a g (63 - C) h) (q C h) (g C h)

/-- What the second scan reads at every trip. -/
structure Fix1 (σ : ℝ) (q k v a g : ℕ → ℕ → Mat) (X : Vl) : Prop where
  inG : X (Proc.devRef .tc main_v42_0) = t5 g
  inE : X (Proc.devRef .tc main_v42_1) = t5 (fun C h => toEnd (a C h))
  inK : X (Proc.devRef .tc main_v42_2) = t5 k
  inD : X (Proc.devRef .tc main_v42_3) = r4 (fun C h => dec (a C h))
  inB : X (Proc.devRef .tc main_v42_4) = t5 (fun C => stateAt a k v C)
  inCol : X (Proc.devRef .tc main_v42_5) = t5 (fun C h x _ => dec (a C h) x)
  inV : X (Proc.devRef .tc main_v42_6) = t5 v
  inKd : X (Proc.devRef .tc main_v42_7) = t5 (fun C h => kd (a C h) (k C h))
  inA : X (Proc.devRef .tc main_v42_8) = t5 (fun C => stateAt a k v (C + 1))
  inQ : X (Proc.devRef .tc main_v42_9) = t5 (fun C h r x => q C h r x * σ)

/-- What the second scan carries after its first `n` trips. -/
structure Inv1 (σ : ℝ) (q k v a g : ℕ → ℕ → Mat) (n : ℕ) (X : Vl) : Prop extends Fix1 σ q k v a g X where
  inC : X (Proc.devRef .tc main_v42_11) = t4 (carriedAt σ q a g n)
  outQ : X (Proc.devRef .tc main_v42_12)
    = t5 (fun C => if 64 - n ≤ C then fun h r x => ∑ y ∈ Finset.range 256, g C h r y * stateAt a k v (C + 1) h x y else 0)
  outK : X (Proc.devRef .tc main_v42_13) = t5 (fun C => if 64 - n ≤ C then fun h => dk (a C h) (v C h) (dsAt σ q a g C h) else 0)
  outV : X (Proc.devRef .tc main_v42_14) = t5 (fun C => if 64 - n ≤ C then fun h => dv (a C h) (k C h) (dsAt σ q a g C h) else 0)
  outA : X (Proc.devRef .tc main_v42_15)
    = t5 (fun C => if 64 - n ≤ C then fun h => da (a C h) (k C h) (v C h) (dsAt σ q a g C h) (stateAt a k v C h) else 0)

/-- One trip of the second scan fills in the next chunk's gradients. -/
theorem trip1 {σ : ℝ} {q k v a g : ℕ → ℕ → Mat} {n : ℕ} {X : Vl} (hn : n < 64)
    (hc : X (Proc.devRef .tc main_v42_10) = fun _ => Scf.iv 0#32 1#32 n) (I : Inv1 σ q k v a g n X) :
    Inv1 σ q k v a g (n + 1) (afterL body1 X) := by
  obtain ⟨w, hw, c1⟩ := at_chunk hn hc
  have hm : 63 - n < 64 := by omega
  have c (j : ℕ) (hj : 1 ≤ j) (hb : main_while1b_v62 ∉ ((body1_Ws.take j).drop 1).flatten) :
      afterL (body1.take j) X (Proc.devRef .tc main_while1b_v62) = fun _ => w := (keep1 hj hb X).trans c1
  have h0 {b : Ref sig .tc} (j : ℕ) (hb : b ∉ ((body1_Ws.take j).drop 0).flatten) :
      afterL (body1.take j) X (Proc.devRef .tc b) = X (Proc.devRef .tc b) := keep1 (Nat.zero_le j) hb X
  have to11 {i : ℕ} {b : Ref sig .tc} {x} (h : afterL (body1.take i) X (Proc.devRef .tc b) = x) (hi : i ≤ 11)
      (hb : b ∉ ((body1_Ws.take 11).drop i).flatten) : afterL (body1.take 11) X (Proc.devRef .tc b) = x := (keep1 hi hb X).trans h
  have to16 {i j : ℕ} {b : Ref sig .tc} {x} (h : afterL (body1.take i) X (Proc.devRef .tc b) = x) (hi : i ≤ j)
      (hb : b ∉ ((body1_Ws.take j).drop i).flatten) : afterL (body1.take j) X (Proc.devRef .tc b) = x := (keep1 hi hb X).trans h
  have r1 : afterL (body1.take 11) X (Proc.devRef .tc main_while1b_v63) = _ :=
    to11 (i := 2) (bread_do hm hw (c 1 (by decide) (by decide +kernel)) ((h0 1 (by decide +kernel)).trans I.inG)) (by decide) (by decide +kernel)
  have r2 : afterL (body1.take 11) X (Proc.devRef .tc main_while1b_v64) = _ :=
    to11 (i := 3) (bread_toEnd hm hw (c 2 (by decide) (by decide +kernel)) ((h0 2 (by decide +kernel)).trans I.inE)) (by decide) (by decide +kernel)
  have r3 : afterL (body1.take 11) X (Proc.devRef .tc main_while1b_v65) = _ :=
    to11 (i := 4) (bread_key hm hw (c 3 (by decide) (by decide +kernel)) ((h0 3 (by decide +kernel)).trans I.inK)) (by decide) (by decide +kernel)
  have r4 : afterL (body1.take 11) X (Proc.devRef .tc main_while1b_v66) = _ :=
    to11 (i := 5) (bread_dec hm hw (c 4 (by decide) (by decide +kernel)) ((h0 4 (by decide +kernel)).trans I.inD)) (by decide) (by decide +kernel)
  have r5 : afterL (body1.take 11) X (Proc.devRef .tc main_while1b_v67) = _ :=
    to11 (i := 6) (bread_before hm hw (c 5 (by decide) (by decide +kernel)) ((h0 5 (by decide +kernel)).trans I.inB)) (by decide) (by decide +kernel)
  have r6 : afterL (body1.take 11) X (Proc.devRef .tc main_while1b_v68) = _ :=
    to11 (i := 7) (bread_col hm hw (c 6 (by decide) (by decide +kernel)) ((h0 6 (by decide +kernel)).trans I.inCol)) (by decide) (by decide +kernel)
  have r7 : afterL (body1.take 11) X (Proc.devRef .tc main_while1b_v69) = _ :=
    to11 (i := 8) (bread_val hm hw (c 7 (by decide) (by decide +kernel)) ((h0 7 (by decide +kernel)).trans I.inV)) (by decide) (by decide +kernel)
  have r8 : afterL (body1.take 11) X (Proc.devRef .tc main_while1b_v70) = _ :=
    to11 (i := 9) (bread_kd hm hw (c 8 (by decide) (by decide +kernel)) ((h0 8 (by decide +kernel)).trans I.inKd)) (by decide) (by decide +kernel)
  have r9 : afterL (body1.take 11) X (Proc.devRef .tc main_while1b_v71) = _ :=
    to11 (i := 10) (bread_after hm hw (c 9 (by decide) (by decide +kernel)) ((h0 9 (by decide +kernel)).trans I.inA)) (by decide) (by decide +kernel)
  have r10 : afterL (body1.take 11) X (Proc.devRef .tc main_while1b_v72) = _ :=
    to11 (i := 11) (bread_qry hm hw (c 10 (by decide) (by decide +kernel)) ((h0 10 (by decide +kernel)).trans I.inQ)) (by decide) (by decide +kernel)
  have r0 := (h0 11 (by decide +kernel)).trans I.inC
  have hds : (fun h => ds σ (carriedAt σ q a g n h) (q (63 - n) h) (g (63 - n) h)) = dsAt σ q a g (63 - n) := by
    funext h; rw [dsAt, show 63 - (63 - n) = n by omega]
  have sq : afterL (body1.take 12) X (Proc.devRef .tc main_while1b_v76) = _ := ch_q r1 r9
  have sv : afterL (body1.take 12) X (Proc.devRef .tc main_while1b_v78) = _ := ch_v r1 r8 r10 r0
  have sc : afterL (body1.take 12) X (Proc.devRef .tc main_while1b_v82) = t4 (carriedAt σ q a g (n + 1)) := ch_carry r1 r6 r10 r0
  have sk : afterL (body1.take 12) X (Proc.devRef .tc main_while1b_v91) = _ := ch_k r1 r2 r7 r10 r0
  have sa : afterL (body1.take 12) X (Proc.devRef .tc main_while1b_v98) = _ := ch_a r1 r2 r3 r4 r5 r7 r10 r0
  have sa' : afterL (body1.take 13) X (Proc.devRef .tc main_while1b_v99)
      = t4 (fun h => da (a (63 - n) h) (k (63 - n) h) (v (63 - n) h) (dsAt σ q a g (63 - n) h) (stateAt a k v (63 - n) h)) :=
    (runningBack sa).trans (by rw [← hds]; rfl)
  have w14 : afterL (body1.take 14) X (Proc.devRef .tc main_while1b_v100) = _ :=
    bwrite_q hm hw (c 13 (by decide) (by decide +kernel)) ((h0 13 (by decide +kernel)).trans I.outQ) (to16 sq (by decide) (by decide +kernel))
  have w15 : afterL (body1.take 15) X (Proc.devRef .tc main_while1b_v101) = _ :=
    bwrite_k hm hw (c 14 (by decide) (by decide +kernel)) ((h0 14 (by decide +kernel)).trans I.outK) (to16 sk (by decide) (by decide +kernel))
  have w16 : afterL (body1.take 16) X (Proc.devRef .tc main_while1b_v102) = _ :=
    bwrite_v hm hw (c 15 (by decide) (by decide +kernel)) ((h0 15 (by decide +kernel)).trans I.outV) (to16 sv (by decide) (by decide +kernel))
  have w17 : afterL (body1.take 17) X (Proc.devRef .tc main_while1b_v103) = _ :=
    bwrite_a hm hw (c 16 (by decide) (by decide +kernel)) ((h0 16 (by decide +kernel)).trans I.outA) (to16 sa' (by decide) (by decide +kernel))
  have e : afterL body1 X = after while1Ops0_17 (afterL (body1.take 17) X) := rfl
  have f18 {b : Ref sig .tc} (hb : b ∉ ((body1_Ws.take 18).drop 0).flatten) : afterL body1 X (Proc.devRef .tc b) = X (Proc.devRef .tc b) :=
    h0 18 hb
  refine ⟨⟨(f18 (by decide +kernel)).trans I.inG, (f18 (by decide +kernel)).trans I.inE, (f18 (by decide +kernel)).trans I.inK,
    (f18 (by decide +kernel)).trans I.inD, (f18 (by decide +kernel)).trans I.inB, (f18 (by decide +kernel)).trans I.inCol,
    (f18 (by decide +kernel)).trans I.inV, (f18 (by decide +kernel)).trans I.inKd, (f18 (by decide +kernel)).trans I.inA,
    (f18 (by decide +kernel)).trans I.inQ⟩, ?_, ?_, ?_, ?_, ?_⟩
  · rw [e, blast_11, to16 sc (by decide) (by decide +kernel)]
  · rw [e, blast_12, to16 w14 (by decide) (by decide +kernel)]
    exact congrArg t5 (fromLast_succ hn fun C h r x => ∑ y ∈ Finset.range 256, g C h r y * stateAt a k v (C + 1) h x y)
  · rw [e, blast_13, to16 w15 (by decide) (by decide +kernel)]
    refine Eq.trans ?_ (congrArg t5 (fromLast_succ hn fun C h => dk (a C h) (v C h) (dsAt σ q a g C h)))
    rw [← hds]
  · rw [e, blast_14, to16 w16 (by decide) (by decide +kernel)]
    refine Eq.trans ?_ (congrArg t5 (fromLast_succ hn fun C h => dv (a C h) (k C h) (dsAt σ q a g C h)))
    rw [← hds]
  · rw [e, blast_15, w17]
    exact congrArg t5 (fromLast_succ hn fun C h => da (a C h) (k C h) (v C h) (dsAt σ q a g C h) (stateAt a k v C h))

/-! ## All trips -/

/-- After `n` trips the second scan's buffers hold the `n` last chunks' gradients. -/
theorem inv1 {σ : ℝ} {q k v a g : ℕ → ℕ → Mat} {V : Dev nD → Vl} {c : Dev nD}
    (hV : V c (Proc.devRef .tc main_v42_10) = fun _ => (0#32 : BitVec 32)) (I : Inv1 σ q k v a g 0 (V c)) :
    ∀ n, n ≤ 64 → Inv1 σ q k v a g n (atTrip cond1 body1 V n c)
  | 0, _ => I
  | n + 1, hn => by
    have J := inv1 hV I n (by omega)
    have keep {b : Ref sig .tc} (hb : b ∉ cond1_W) : after cond1 (atTrip cond1 body1 V n c) (Proc.devRef .tc b)
        = atTrip cond1 body1 V n c (Proc.devRef .tc b) := after_of_writes_sub cond1 _ cond1_writes hb
    refine trip1 (X := after cond1 (atTrip cond1 body1 V n c)) (by omega) ((keep (by decide +kernel)).trans (ctr1 V c hV n)) ?_
    exact ⟨⟨(keep (by decide +kernel)).trans J.inG, (keep (by decide +kernel)).trans J.inE, (keep (by decide +kernel)).trans J.inK,
      (keep (by decide +kernel)).trans J.inD, (keep (by decide +kernel)).trans J.inB, (keep (by decide +kernel)).trans J.inCol,
      (keep (by decide +kernel)).trans J.inV, (keep (by decide +kernel)).trans J.inKd, (keep (by decide +kernel)).trans J.inA,
      (keep (by decide +kernel)).trans J.inQ⟩, (keep (by decide +kernel)).trans J.inC, (keep (by decide +kernel)).trans J.outQ,
      (keep (by decide +kernel)).trans J.outK, (keep (by decide +kernel)).trans J.outV, (keep (by decide +kernel)).trans J.outA⟩

end Cert.ReferenceIdeal.Ref
-- ==== Proof.Ref.Value.lean ====
/-
  The reference's five results over the real numbers, from its three arguments.
-/
module

public import proofs.«01_k».proof.Proof.Ref.Bwd

@[expose] public section

set_option maxRecDepth 100000

noncomputable section

namespace Cert.ReferenceIdeal.Ref

open Cert.ReferenceIdeal.Gen
open Idealize.ShloMosaic Idealize.ShloMosaic.TcCoe Cert.Model
open Idealize.ShloMosaic.StableHlo

/-! ## Arrays cut into chunks and put together -/

/-- The literal of the queries' scale. -/
theorem scale_lit : Ideal.ofBits .f32 0x3DB504F3#32 = ((scale : ℝ) : EReal) := by
  simp [Ideal.ofBits, Ideal.ieee, -EReal.coe_mul]
  norm_num [scale]

section Cut
variable {x : Vec Ideal S4096x10368 .bf16} {p : Mat} (hx : ∀ i, (i 1).val < 2048 → x i = ((p (i 0).val (i 1).val : ℝ) : EReal))
include hx
/-- The columns of the queries, as real numbers. -/
theorem cols_q : extf .f32 (extractStridedSlice S4096x512 ![0, 0] x slices_S4096x10368_S4096x512_0_0) bitsLt_bf16_f32
    = (mat (φ := .f32) (fun r c => p r (0 + c)) : Vec Ideal S4096x512 .f32) := by
  funext i; idx_vars i; pointwise [mat]
  refine (hx _ ?_).trans ?_
  · simp; omega
  · simp [add_comm]
/-- The columns of the keys, as real numbers. -/
theorem cols_k : extf .f32 (extractStridedSlice S4096x512 ![0, 512] x slices_S4096x10368_S4096x512_0_512) bitsLt_bf16_f32
    = (mat (φ := .f32) (fun r c => p r (512 + c)) : Vec Ideal S4096x512 .f32) := by
  funext i; idx_vars i; pointwise [mat]
  refine (hx _ ?_).trans ?_
  · simp; omega
  · simp [add_comm]
/-- The columns of the values, as real numbers. -/
theorem cols_v : extf .f32 (extractStridedSlice S4096x1024 ![0, 1024] x slices_S4096x10368_S4096x1024_0_1024) bitsLt_bf16_f32
    = (mat (φ := .f32) (fun r c => p r (1024 + c)) : Vec Ideal S4096x1024 .f32) := by
  funext i; idx_vars i; pointwise [mat]
  refine (hx _ ?_).trans ?_
  · simp; omega
  · simp [add_comm]
end Cut

/-- A cast leaves the numbers. -/
theorem extf_mat (g : Mat) : extf .f32 (mat (φ := .bf16) g : Vec Ideal S4096x1024 .bf16) bitsLt_bf16_f32 = (mat (φ := .f32) g : Vec Ideal S4096x1024 .f32) := by
  funext i; pointwise [mat]
/-- An array cut into chunks and heads, a head taking 128 columns. -/
theorem cut_128 (f : Mat) :
    transpose S64x1x4x64x128 [1, 0, 3, 2, 4] (shapeCast S1x64x64x4x128 (shapeCast S1x4096x4x128 (mat (φ := .f32) f : Vec Ideal S4096x512 .f32)
      shapeCasts_S4096x512_S1x4096x4x128) shapeCasts_S1x4096x4x128_S1x64x64x4x128) transposes_S1x64x64x4x128_S64x1x4x64x128_1_0_3_2_4
      = t5 (fun n h r x => f (64 * n + r) (128 * h + x)) := by
  funext i; idx_vars i; pointwise [mat, t5]
  simp only [mul_comm]
/-- Chunks and heads of 128 columns put together. -/
theorem join_128 (f : ℕ → ℕ → Mat) :
    shapeCast S4096x512 (shapeCast S1x4096x4x128 (transpose S1x64x64x4x128 [1, 0, 3, 2, 4] (t5 f) transposes_S64x1x4x64x128_S1x64x64x4x128_1_0_3_2_4)
      shapeCasts_S1x64x64x4x128_S1x4096x4x128) shapeCasts_S1x4096x4x128_S4096x512 = mat (φ := .f32) (rows 128 (fun h n => f n h)) := by
  funext i; idx_vars i; pointwise [mat, t5, rows]
/-- A rounding leaves the numbers. -/
theorem trunc_128 (f : Mat) : truncf .bf16 (mat (φ := .f32) f : Vec Ideal S4096x512 .f32) bitsLt_bf16_f32 = mat (φ := .bf16) f := by
  funext i; pointwise [mat]
/-- An array cut into chunks and heads, a head taking 256 columns. -/
theorem cut_256 (f : Mat) :
    transpose S64x1x4x64x256 [1, 0, 3, 2, 4] (shapeCast S1x64x64x4x256 (shapeCast S1x4096x4x256 (mat (φ := .f32) f : Vec Ideal S4096x1024 .f32)
      shapeCasts_S4096x1024_S1x4096x4x256) shapeCasts_S1x4096x4x256_S1x64x64x4x256) transposes_S1x64x64x4x256_S64x1x4x64x256_1_0_3_2_4
      = t5 (fun n h r x => f (64 * n + r) (256 * h + x)) := by
  funext i; idx_vars i; pointwise [mat, t5]
  simp only [mul_comm]
/-- Chunks and heads of 256 columns put together. -/
theorem join_256 (f : ℕ → ℕ → Mat) :
    shapeCast S4096x1024 (shapeCast S1x4096x4x256 (transpose S1x64x64x4x256 [1, 0, 3, 2, 4] (t5 f) transposes_S64x1x4x64x256_S1x64x64x4x256_1_0_3_2_4)
      shapeCasts_S1x64x64x4x256_S1x4096x4x256) shapeCasts_S1x4096x4x256_S4096x1024 = mat (φ := .f32) (rows 256 (fun h n => f n h)) := by
  funext i; idx_vars i; pointwise [mat, t5, rows]
/-- A rounding leaves the numbers. -/
theorem trunc_256 (f : Mat) : truncf .bf16 (mat (φ := .f32) f : Vec Ideal S4096x1024 .f32) bitsLt_bf16_f32 = mat (φ := .bf16) f := by
  funext i; pointwise [mat]
/-- The queries scaled, then cut. -/
theorem cut_scaled (f : Mat) :
    transpose S64x1x4x64x128 [1, 0, 3, 2, 4] (shapeCast S1x64x64x4x128 (mulf (shapeCast S1x4096x4x128 (mat (φ := .f32) f : Vec Ideal S4096x512 .f32)
      shapeCasts_S4096x512_S1x4096x4x128) (broadcastInDim S1x4096x4x128 ![] bcast_S_S1x4096x4x128 (constant S_ .f32 0x3DB504F3#32)))
      shapeCasts_S1x4096x4x128_S1x64x64x4x128) transposes_S1x64x64x4x128_S64x1x4x64x128_1_0_3_2_4
      = t5 (fun n h r x => f (64 * n + r) (128 * h + x) * scale) := by
  funext i; idx_vars i; pointwise [mat, t5]
  simp only [scale_lit, EReal.coe_mul, mul_comm]
/-- Chunks put together, then scaled. -/
theorem join_scaled (f : ℕ → ℕ → Mat) :
    shapeCast S4096x512 (mulf (shapeCast S1x4096x4x128 (transpose S1x64x64x4x128 [1, 0, 3, 2, 4] (t5 f) transposes_S64x1x4x64x128_S1x64x64x4x128_1_0_3_2_4)
      shapeCasts_S1x64x64x4x128_S1x4096x4x128) (broadcastInDim S1x4096x4x128 ![] bcast_S_S1x4096x4x128 (constant S_ .f32 0x3DB504F3#32)))
      shapeCasts_S1x4096x4x128_S4096x512 = mat (φ := .f32) (rows 128 (fun h n r x => f n h r x * scale)) := by
  funext i; idx_vars i; pointwise [mat, t5, rows]
  simp only [scale_lit, EReal.coe_mul]

/-- A buffer of zeros. -/
theorem zero_t4 : broadcastInDim S1x4x128x256 ![] bcast_S_S1x4x128x256 (constant (F := Ideal) S_ .f32 0x00000000#32) = t4 (fun _ _ _ => 0) := by
  funext i; pointwise [t4]; exact EReal.coe_zero.symm
/-- A buffer of zeros. -/
theorem zero_r4 : broadcastInDim S64x1x4x128 ![] bcast_S_S64x1x4x128 (constant (F := Ideal) S_ .f32 0x00000000#32) = r4 (fun _ => 0) := by
  funext i; pointwise [r4]; exact EReal.coe_zero.symm
/-- A buffer of zeros. -/
theorem zero_64x256 : broadcastInDim S64x1x4x64x256 ![] bcast_S_S64x1x4x64x256 (constant (F := Ideal) S_ .f32 0x00000000#32) = t5 (fun _ => 0) := by
  funext i; pointwise [t5]; exact EReal.coe_zero.symm
/-- A buffer of zeros. -/
theorem zero_64x128 : broadcastInDim S64x1x4x64x128 ![] bcast_S_S64x1x4x64x128 (constant (F := Ideal) S_ .f32 0x00000000#32) = t5 (fun _ => 0) := by
  funext i; pointwise [t5]; exact EReal.coe_zero.symm
/-- A buffer of zeros. -/
theorem zero_128x256 : broadcastInDim S64x1x4x128x256 ![] bcast_S_S64x1x4x128x256 (constant (F := Ideal) S_ .f32 0x00000000#32) = t5 (fun _ => 0) := by
  funext i; pointwise [t5]; exact EReal.coe_zero.symm
/-- A buffer of zeros. -/
theorem zero_128x1 : broadcastInDim S64x1x4x128x1 ![] bcast_S_S64x1x4x128x1 (constant (F := Ideal) S_ .f32 0x00000000#32) = t5 (fun _ => 0) := by
  funext i; pointwise [t5]; exact EReal.coe_zero.symm
/-- Stacks of equal chunks are equal. -/
theorem t5_congr {A B : ℕ} {f g : ℕ → ℕ → Mat} (h : ∀ n < 64, f n = g n) : (t5 f : FVec Ideal (T5 A B) .f32) = t5 g := by
  funext i; simp only [t5, h (i 0).val (i 0).isLt]
/-- Stacks of equal rows are equal. -/
theorem r4_congr {f g : ℕ → Mat} (h : ∀ n < 64, f n = g n) : r4 f = r4 g := by
  funext i; simp only [r4, h (i 0).val (i 0).isLt]

/-! ## The first scan's entry -/

section Entry
variable {X : Vl} {p a g : Mat} (hP : ∀ i, (i 1).val < 2048 → (X (Proc.devRef .tc main_arg0) : Vec Ideal S4096x10368 .bf16) i = ((p (i 0).val (i 1).val : ℝ) : EReal))
  (hA : X (Proc.devRef .tc main_arg1) = (mat (φ := .f32) a : Vec Ideal S4096x512 .f32))
  (hG : X (Proc.devRef .tc main_arg2) = (mat (φ := .bf16) g : Vec Ideal S4096x1024 .bf16))

include hP in
/-- The first stretch cuts the queries into chunks and scales them. -/
theorem cut_q : after hostOps0 X (Proc.devRef .tc main_v15) = t5 (fun n h r x => Q p h n r x * scale) := by
  refine Eq.trans ?_ (cut_scaled (fun r c => p r (0 + c)))
  rw [← cols_q hP]
  after_results
  rfl
include hP in
/-- The first stretch cuts the keys into chunks. -/
theorem cut_k : after hostOps0 X (Proc.devRef .tc main_v17) = t5 (fun n h => K p h n) := by
  refine Eq.trans ?_ (cut_128 (fun r c => p r (512 + c)))
  rw [← cols_k hP]
  after_results
  rfl
include hP in
/-- The first stretch cuts the values into chunks. -/
theorem cut_v : after hostOps0 X (Proc.devRef .tc main_v19) = t5 (fun n h => V p h n) := by
  refine Eq.trans ?_ (cut_256 (fun r c => p r (1024 + c)))
  rw [← cols_v hP]
  after_results
  rfl
include hA in
/-- The first stretch cuts the log decays into chunks. -/
theorem cut_a : after hostOps0 X (Proc.devRef .tc main_v21) = t5 (fun n h => A a h n) := by
  refine Eq.trans (Eq.trans ?_ (cut_128 a)) ?_
  · rw [← hA]
    after_results
    rfl
  · refine congrArg t5 (funext fun n => funext fun h => funext fun r => funext fun x => ?_)
    show a _ _ = a _ (0 + _)
    rw [zero_add]
include hG in
/-- The first stretch casts the output's cotangent. -/
theorem ext_g : after hostOps0 X (Proc.devRef .tc main_v6) = (mat (φ := .f32) g : Vec Ideal S4096x1024 .f32) := by
  refine Eq.trans ?_ (extf_mat g)
  rw [← hG]
  after_results
/-- The first state is zero. -/
theorem zero_s : after hostOps0 X (Proc.devRef .tc main_v13) = t4 (fun _ _ _ => 0) := by
  refine Eq.trans ?_ zero_t4
  after_results
end Entry

/-- The first scan takes the scaled queries as they are. -/
theorem enter0_0 (X : Vl) : after hostOps0_1 X (Proc.devRef .tc main_v29_0) = X (Proc.devRef .tc main_v15) := by
  after_results
  rfl
/-- The first scan takes the keys as they are. -/
theorem enter0_1 (X : Vl) : after hostOps0_1 X (Proc.devRef .tc main_v29_1) = X (Proc.devRef .tc main_v17) := by
  after_results
  rfl
/-- The first scan takes the values as they are. -/
theorem enter0_2 (X : Vl) : after hostOps0_1 X (Proc.devRef .tc main_v29_2) = X (Proc.devRef .tc main_v19) := by
  after_results
  rfl
/-- The first scan takes the log decays as they are. -/
theorem enter0_3 (X : Vl) : after hostOps0_1 X (Proc.devRef .tc main_v29_3) = X (Proc.devRef .tc main_v21) := by
  after_results
  rfl
/-- The first scan starts from the first state. -/
theorem enter0_5 (X : Vl) : after hostOps0_1 X (Proc.devRef .tc main_v29_5) = X (Proc.devRef .tc main_v13) := by
  after_results
  rfl
/-- A stack that the first scan fills starts as zeros. -/
theorem enter0_6 (X : Vl) : after hostOps0_1 X (Proc.devRef .tc main_v29_6) = t5 (fun _ => 0) := by
  refine Eq.trans ?_ zero_64x256
  after_results
  rfl
/-- A stack that the first scan fills starts as zeros. -/
theorem enter0_7 (X : Vl) : after hostOps0_1 X (Proc.devRef .tc main_v29_7) = t5 (fun _ => 0) := by
  refine Eq.trans ?_ zero_64x128
  after_results
  rfl
/-- A stack that the first scan fills starts as zeros. -/
theorem enter0_8 (X : Vl) : after hostOps0_1 X (Proc.devRef .tc main_v29_8) = r4 (fun _ => 0) := by
  refine Eq.trans ?_ zero_r4
  after_results
  rfl
/-- A stack that the first scan fills starts as zeros. -/
theorem enter0_9 (X : Vl) : after hostOps0_1 X (Proc.devRef .tc main_v29_9) = t5 (fun _ => 0) := by
  refine Eq.trans ?_ zero_128x256
  after_results
  rfl
/-- A stack that the first scan fills starts as zeros. -/
theorem enter0_10 (X : Vl) : after hostOps0_1 X (Proc.devRef .tc main_v29_10) = t5 (fun _ => 0) := by
  refine Eq.trans ?_ zero_128x1
  after_results
  rfl
/-- A stack that the first scan fills starts as zeros. -/
theorem enter0_11 (X : Vl) : after hostOps0_1 X (Proc.devRef .tc main_v29_11) = t5 (fun _ => 0) := by
  refine Eq.trans ?_ zero_64x128
  after_results
  rfl
/-- A stack that the first scan fills starts as zeros. -/
theorem enter0_12 (X : Vl) : after hostOps0_1 X (Proc.devRef .tc main_v29_12) = t5 (fun _ => 0) := by
  refine Eq.trans ?_ zero_128x256
  after_results
  rfl

section Run
variable (m : (ℓ : Loc nD τ sig) → Buf (Elt Ideal) ℓ) (c : Dev nD) {p a g : Mat}
  (hP : ∀ i, (i 1).val < 2048 → (m (c, Proc.devRef .tc main_arg0) : Vec Ideal S4096x10368 .bf16) i = ((p (i 0).val (i 1).val : ℝ) : EReal))
  (hA : m (c, Proc.devRef .tc main_arg1) = (mat (φ := .f32) a : Vec Ideal S4096x512 .f32))
  (hG : m (c, Proc.devRef .tc main_arg2) = (mat (φ := .bf16) g : Vec Ideal S4096x1024 .bf16))

/-- No chunk comes before the first. -/
theorem if_lt_zero {α : Type} [Zero α] (f : ℕ → α) : (fun n => if n < 0 then f n else 0) = fun _ => 0 := by
  funext n; rw [if_neg (Nat.not_lt_zero n)]

include hP hA in
/-- The first scan is entered with the scaled queries, the keys, the values, the log decays, and zeros. -/
theorem entry0 : Inv0 (fun n h r x => Q p h n r x * scale) (fun n h => K p h n) (fun n h => V p h n) (fun n h => A a h n) 0 (E0 m c) := by
  have e : E0 m c = after hostOps0_1 (after hostOps0 (launchContents m c)) := rfl
  rw [e]
  refine ⟨(enter0_0 _).trans (cut_q hP), (enter0_1 _).trans (cut_k hP), (enter0_2 _).trans (cut_v hP), (enter0_3 _).trans (cut_a hA),
    (enter0_5 _).trans zero_s, (enter0_6 _).trans ?_, (enter0_7 _).trans ?_, (enter0_8 _).trans ?_, (enter0_9 _).trans ?_, (enter0_10 _).trans ?_,
    (enter0_11 _).trans ?_, (enter0_12 _).trans ?_⟩ <;> simp only [if_lt_zero]

include hP hA in
/-- What the first scan leaves. -/
theorem exit0 : Inv0 (fun n h r x => Q p h n r x * scale) (fun n h => K p h n) (fun n h => V p h n) (fun n h => A a h n) 64 (A0 m 64 c) :=
  inv0 (V := E0 m) (ctr0_entry _) (entry0 m c hP hA) 64 le_rfl

/-- The first scan keeps what it does not write. -/
theorem keepA0 {b : Ref sig .tc} (h0 : b ∉ cond0_W) (h1 : b ∉ body0_Ws.flatten) : ∀ n, A0 m n c (Proc.devRef .tc b) = E0 m c (Proc.devRef .tc b)
  | 0 => rfl
  | n + 1 => (afterL_keep body0_writes h1 _).trans ((after_of_writes_sub cond0 _ cond0_writes h0).trans (keepA0 h0 h1 n))
/-- A buffer that neither the first scan nor the stretch before it writes holds what the first stretch left. -/
theorem kept0 {b : Ref sig .tc} (h : b ∉ cond0_W ∧ b ∉ body0_Ws.flatten ∧ b ∉ hostOps0_1_W) :
    after cond0 (A0 m 64 c) (Proc.devRef .tc b) = after hostOps0 (launchContents m c) (Proc.devRef .tc b) :=
  (after_of_writes_sub cond0 _ cond0_writes h.1).trans ((keepA0 m c h.1 h.2.1 64).trans (after_of_writes_sub hostOps0_1 _ hostOps0_1_writes h.2.2))
/-- The first scan's last condition keeps what it does not write. -/
theorem past0 {b : Ref sig .tc} (h : b ∉ cond0_W) : after cond0 (A0 m 64 c) (Proc.devRef .tc b) = A0 m 64 c (Proc.devRef .tc b) :=
  after_of_writes_sub cond0 _ cond0_writes h
/-- The second scan's last condition keeps what it does not write. -/
theorem past1 {b : Ref sig .tc} (h : b ∉ cond1_W) : after cond1 (A1 m 64 c) (Proc.devRef .tc b) = A1 m 64 c (Proc.devRef .tc b) :=
  after_of_writes_sub cond1 _ cond1_writes h
end Run

/-! ## Between the scans -/

/-- The outputs are put together after the first scan. -/
theorem join_o {X : Vl} {f : ℕ → ℕ → Mat} (h : X (Proc.devRef .tc main_v29_6) = t5 f) :
    after hostOps0_2 X (Proc.devRef .tc main_v32) = mat (φ := .f32) (rows 256 (fun h n => f n h)) := by
  refine Eq.trans ?_ (join_256 f)
  rw [← h]
  after_results
  rfl
/-- The second scan takes the output's cotangent in chunks. -/
theorem enter1_0 {X : Vl} {g : Mat} (h : X (Proc.devRef .tc main_v6) = (mat (φ := .f32) g : Vec Ideal S4096x1024 .f32)) :
    after hostOps0_2 X (Proc.devRef .tc main_v42_0) = t5 (fun n h => G g h n) := by
  refine Eq.trans (Eq.trans ?_ (cut_256 g)) ?_
  · rw [← h]
    after_results
    rfl
  · refine congrArg t5 (funext fun n => funext fun h => funext fun r => funext fun x => ?_)
    show g _ _ = g _ (0 + _)
    rw [zero_add]
/-- The second scan takes the decays to the chunks' ends. -/
theorem enter1_1 (X : Vl) : after hostOps0_2 X (Proc.devRef .tc main_v42_1) = X (Proc.devRef .tc main_v29_7) := by
  after_results
  rfl
/-- The second scan takes the keys. -/
theorem enter1_2 (X : Vl) : after hostOps0_2 X (Proc.devRef .tc main_v42_2) = X (Proc.devRef .tc main_v17) := by
  after_results
  rfl
/-- The second scan takes the decays. -/
theorem enter1_3 (X : Vl) : after hostOps0_2 X (Proc.devRef .tc main_v42_3) = X (Proc.devRef .tc main_v29_8) := by
  after_results
  rfl
/-- The second scan takes the states before the chunks. -/
theorem enter1_4 (X : Vl) : after hostOps0_2 X (Proc.devRef .tc main_v42_4) = X (Proc.devRef .tc main_v29_9) := by
  after_results
  rfl
/-- The second scan takes the decays as columns. -/
theorem enter1_5 (X : Vl) : after hostOps0_2 X (Proc.devRef .tc main_v42_5) = X (Proc.devRef .tc main_v29_10) := by
  after_results
  rfl
/-- The second scan takes the values. -/
theorem enter1_6 (X : Vl) : after hostOps0_2 X (Proc.devRef .tc main_v42_6) = X (Proc.devRef .tc main_v19) := by
  after_results
  rfl
/-- The second scan takes the decayed keys. -/
theorem enter1_7 (X : Vl) : after hostOps0_2 X (Proc.devRef .tc main_v42_7) = X (Proc.devRef .tc main_v29_11) := by
  after_results
  rfl
/-- The second scan takes the states after the chunks. -/
theorem enter1_8 (X : Vl) : after hostOps0_2 X (Proc.devRef .tc main_v42_8) = X (Proc.devRef .tc main_v29_12) := by
  after_results
  rfl
/-- The second scan takes the scaled queries. -/
theorem enter1_9 (X : Vl) : after hostOps0_2 X (Proc.devRef .tc main_v42_9) = X (Proc.devRef .tc main_v15) := by
  after_results
  rfl
/-- The second scan starts from a zero cotangent. -/
theorem enter1_11 (X : Vl) : after hostOps0_2 X (Proc.devRef .tc main_v42_11) = t4 (fun _ _ _ => 0) := by
  refine Eq.trans ?_ zero_t4
  after_results
  rfl
/-- A stack that the second scan fills starts as zeros. -/
theorem enter1_12 (X : Vl) : after hostOps0_2 X (Proc.devRef .tc main_v42_12) = t5 (fun _ => 0) := by
  refine Eq.trans ?_ zero_64x128
  after_results
  rfl
/-- A stack that the second scan fills starts as zeros. -/
theorem enter1_13 (X : Vl) : after hostOps0_2 X (Proc.devRef .tc main_v42_13) = t5 (fun _ => 0) := by
  refine Eq.trans ?_ zero_64x128
  after_results
  rfl
/-- A stack that the second scan fills starts as zeros. -/
theorem enter1_14 (X : Vl) : after hostOps0_2 X (Proc.devRef .tc main_v42_14) = t5 (fun _ => 0) := by
  refine Eq.trans ?_ zero_64x256
  after_results
  rfl
/-- A stack that the second scan fills starts as zeros. -/
theorem enter1_15 (X : Vl) : after hostOps0_2 X (Proc.devRef .tc main_v42_15) = t5 (fun _ => 0) := by
  refine Eq.trans ?_ zero_64x128
  after_results
  rfl

section Run
variable (m : (ℓ : Loc nD τ sig) → Buf (Elt Ideal) ℓ) (c : Dev nD) {p a g : Mat}
  (hP : ∀ i, (i 1).val < 2048 → (m (c, Proc.devRef .tc main_arg0) : Vec Ideal S4096x10368 .bf16) i = ((p (i 0).val (i 1).val : ℝ) : EReal))
  (hA : m (c, Proc.devRef .tc main_arg1) = (mat (φ := .f32) a : Vec Ideal S4096x512 .f32))
  (hG : m (c, Proc.devRef .tc main_arg2) = (mat (φ := .bf16) g : Vec Ideal S4096x1024 .bf16))

/-- Before the second scan's first trip no chunk is filled in. -/
theorem none_yet {f : ℕ → ℕ → Mat} {A B : ℕ} :
    (t5 (fun _ => 0) : FVec Ideal (T5 A B) .f32) = t5 (fun n => if 64 - 0 ≤ n then f n else 0) :=
  t5_congr fun n hn => (if_neg (by omega)).symm

include hP hA hG in
/-- The second scan is entered with what the first one filled, the output's cotangent, and zeros. -/
theorem entry1 : Inv1 scale (fun n h => Q p h n) (fun n h => K p h n) (fun n h => V p h n) (fun n h => A a h n) (fun n h => G g h n) 0 (E1 m c) := by
  have e : E1 m c = after hostOps0_2 (after cond0 (A0 m 64 c)) := rfl
  have J := exit0 m c hP hA
  have P {b : Ref sig .tc} (h : b ∉ cond0_W) := past0 m c h
  rw [e]
  refine ⟨⟨enter1_0 ((kept0 m c (by decide +kernel)).trans (ext_g hG)),
    (enter1_1 _).trans ((P (by decide +kernel)).trans (J.inToEnd.trans (t5_congr fun n hn => if_pos hn))),
    (enter1_2 _).trans ((kept0 m c (by decide +kernel)).trans (cut_k hP)),
    (enter1_3 _).trans ((P (by decide +kernel)).trans (J.inDec.trans (r4_congr fun n hn => if_pos hn))),
    (enter1_4 _).trans ((P (by decide +kernel)).trans (J.inBefore.trans (t5_congr fun n hn => if_pos hn))),
    (enter1_5 _).trans ((P (by decide +kernel)).trans (J.inCol.trans (t5_congr fun n hn => if_pos hn))),
    (enter1_6 _).trans ((kept0 m c (by decide +kernel)).trans (cut_v hP)),
    (enter1_7 _).trans ((P (by decide +kernel)).trans (J.inKd.trans (t5_congr fun n hn => if_pos hn))),
    (enter1_8 _).trans ((P (by decide +kernel)).trans (J.inAfter.trans (t5_congr fun n hn => if_pos hn))),
    (enter1_9 _).trans ((kept0 m c (by decide +kernel)).trans (cut_q hP))⟩,
    enter1_11 _, (enter1_12 _).trans none_yet, (enter1_13 _).trans none_yet, (enter1_14 _).trans none_yet, (enter1_15 _).trans none_yet⟩

include hP hA hG in
/-- What the second scan leaves. -/
theorem exit1 : Inv1 scale (fun n h => Q p h n) (fun n h => K p h n) (fun n h => V p h n) (fun n h => A a h n) (fun n h => G g h n) 64 (A1 m 64 c) :=
  inv1 (V := E1 m) (ctr1_entry _) (entry1 m c hP hA hG) 64 le_rfl
end Run

/-! ## The results -/

/-- The last stretch puts the output's chunks in the result. -/
theorem end_o {X : Vl} {f : Mat} (h : X (Proc.devRef .tc main_v32) = (mat (φ := .f32) f : Vec Ideal S4096x1024 .f32)) :
    after hostOps0_3 X (Proc.devRef .tc main_v57) = (mat (φ := .bf16) f : Vec Ideal S4096x1024 .bf16) := by
  rw [← trunc_256, ← h]
  after_results
/-- The last stretch makes the result of the queries' gradient. -/
theorem end_q {X : Vl} {f : ℕ → ℕ → Mat} (h : X (Proc.devRef .tc main_v42_12) = t5 f) :
    after hostOps0_3 X (Proc.devRef .tc main_v58) = (mat (φ := .bf16) (rows 128 (fun h n r x => f n h r x * scale)) : Vec Ideal S4096x512 .bf16) := by
  rw [← trunc_128, ← join_scaled, ← h]
  after_results
  rfl
/-- The last stretch makes the result of the keys' gradient. -/
theorem end_k {X : Vl} {f : ℕ → ℕ → Mat} (h : X (Proc.devRef .tc main_v42_13) = t5 f) :
    after hostOps0_3 X (Proc.devRef .tc main_v59) = (mat (φ := .bf16) (rows 128 (fun h n => f n h)) : Vec Ideal S4096x512 .bf16) := by
  rw [← trunc_128, ← join_128, ← h]
  after_results
  rfl
/-- The last stretch makes the result of the values' gradient. -/
theorem end_v {X : Vl} {f : ℕ → ℕ → Mat} (h : X (Proc.devRef .tc main_v42_14) = t5 f) :
    after hostOps0_3 X (Proc.devRef .tc main_v60) = (mat (φ := .bf16) (rows 256 (fun h n => f n h)) : Vec Ideal S4096x1024 .bf16) := by
  rw [← trunc_256, ← join_256, ← h]
  after_results
  rfl
/-- The last stretch makes the result of the log decays' gradient. -/
theorem end_a {X : Vl} {f : ℕ → ℕ → Mat} (h : X (Proc.devRef .tc main_v42_15) = t5 f) :
    after hostOps0_3 X (Proc.devRef .tc main_v51) = (mat (φ := .f32) (rows 128 (fun h n => f n h)) : Vec Ideal S4096x512 .f32) := by
  rw [← join_128, ← h]
  after_results
  rfl

section Run
variable (m : (ℓ : Loc nD τ sig) → Buf (Elt Ideal) ℓ) (c : Dev nD) {p a g : Mat}
  (hP : ∀ i, (i 1).val < 2048 → (m (c, Proc.devRef .tc main_arg0) : Vec Ideal S4096x10368 .bf16) i = ((p (i 0).val (i 1).val : ℝ) : EReal))
  (hA : m (c, Proc.devRef .tc main_arg1) = (mat (φ := .f32) a : Vec Ideal S4096x512 .f32))
  (hG : m (c, Proc.devRef .tc main_arg2) = (mat (φ := .bf16) g : Vec Ideal S4096x1024 .bf16))

/-- The second scan keeps what it does not write. -/
theorem keepA1 {b : Ref sig .tc} (h0 : b ∉ cond1_W) (h1 : b ∉ body1_Ws.flatten) : ∀ n, A1 m n c (Proc.devRef .tc b) = E1 m c (Proc.devRef .tc b)
  | 0 => rfl
  | n + 1 => (afterL_keep body1_writes h1 _).trans ((after_of_writes_sub cond1 _ cond1_writes h0).trans (keepA1 h0 h1 n))

include hP hA in
/-- The output. -/
theorem ref_o : final m c (Proc.devRef .tc main_v57) = (mat (φ := .bf16) (rows 256 (resO p a)) : Vec Ideal S4096x1024 .bf16) := by
  refine (end_o (X := after cond1 (A1 m 64 c)) ((past1 m c (by decide +kernel)).trans ((keepA1 m c (by decide +kernel) (by decide +kernel) 64).trans
    (join_o (X := after cond0 (A0 m 64 c)) ((past0 m c (by decide +kernel)).trans
      ((exit0 m c hP hA).inOut.trans (t5_congr fun n hn => if_pos hn))))))).trans ?_
  rfl
include hP hA hG in
/-- The queries' gradient. -/
theorem ref_q : final m c (Proc.devRef .tc main_v58) = (mat (φ := .bf16) (rows 128 (resQ p a g)) : Vec Ideal S4096x512 .bf16) := by
  refine (end_q (X := after cond1 (A1 m 64 c)) ((past1 m c (by decide +kernel)).trans
    ((exit1 m c hP hA hG).outQ.trans (t5_congr fun n _ => if_pos (by omega))))).trans ?_
  rfl
include hP hA hG in
/-- The keys' gradient. -/
theorem ref_k : final m c (Proc.devRef .tc main_v59) = (mat (φ := .bf16) (rows 128 (resK p a g)) : Vec Ideal S4096x512 .bf16) := by
  refine (end_k (X := after cond1 (A1 m 64 c)) ((past1 m c (by decide +kernel)).trans
    ((exit1 m c hP hA hG).outK.trans (t5_congr fun n _ => if_pos (by omega))))).trans ?_
  rfl
include hP hA hG in
/-- The values' gradient. -/
theorem ref_v : final m c (Proc.devRef .tc main_v60) = (mat (φ := .bf16) (rows 256 (resV p a g)) : Vec Ideal S4096x1024 .bf16) := by
  refine (end_v (X := after cond1 (A1 m 64 c)) ((past1 m c (by decide +kernel)).trans
    ((exit1 m c hP hA hG).outV.trans (t5_congr fun n _ => if_pos (by omega))))).trans ?_
  rfl
include hP hA hG in
/-- The log decays' gradient. -/
theorem ref_a : final m c (Proc.devRef .tc main_v51) = (mat (φ := .f32) (rows 128 (resA p a g)) : Vec Ideal S4096x512 .f32) := by
  refine (end_a (X := after cond1 (A1 m 64 c)) ((past1 m c (by decide +kernel)).trans
    ((exit1 m c hP hA hG).outA.trans (t5_congr fun n _ => if_pos (by omega))))).trans ?_
  rfl
end Run

end Cert.ReferenceIdeal.Ref
-- ==== Proof.Algebraic.lean ====
/-
  The value claim: at finite arguments the kernel's five results are the reference's.
-/
module

public import proofs.«01_k».proof.Proof.Frames
public import proofs.«01_k».proof.Proof.Value
public import proofs.«01_k».proof.Proof.Ref.Value

@[expose] public section

set_option maxRecDepth 100000

noncomputable section

namespace Cert.Proof

open Idealize.ShloMosaic Idealize.ShloMosaic.TcCoe Idealize.SL.Sem
open Cert.Model (mat Mat)

/-! ## Finite arguments -/

/-- The largest finite number of the format is a real number. -/
theorem largest : Ideal.ofBits .f32 0x7F7FFFFF#32 = (((2 - 2 ^ (-23 : ℤ)) * 2 ^ 127 : ℝ) : EReal) := by
  simp [Ideal.ofBits, Ideal.ieee, -EReal.coe_mul]
  norm_num

/-- A number whose absolute value passes the comparison is a real number. -/
theorem real_of_le {y : EReal} (h : BitVec.ofBool (decide (FloatOps.absf (F := Ideal) (φ := .f32) y ≤ Ideal.ofBits .f32 0x7F7FFFFF#32)) = 1#1) :
    y = ((y.toReal : ℝ) : EReal) := by
  have h' : FloatOps.absf (F := Ideal) (φ := .f32) y ≤ Ideal.ofBits .f32 0x7F7FFFFF#32 := by
    by_contra hn
    rw [decide_eq_false hn] at h
    exact absurd h (by decide)
  rw [largest] at h'
  refine (EReal.coe_toReal ?_ ?_).symm
  · rintro rfl
    exact absurd (lt_of_le_of_lt h' (EReal.coe_lt_top _)) (by simp [FloatOps.absf])
  · rintro rfl
    exact absurd (lt_of_le_of_lt h' (EReal.coe_lt_top _)) (by simp [FloatOps.absf])

section Finite
open Cert.Pre_finite
variable {x : Vec Ideal S4096x10368 .bf16} {a : Vec Ideal S4096x512 .f32} {g : Vec Ideal S4096x1024 .bf16}

/-- The precondition's array at one place: the comparison of the number that stands there. -/
theorem pre_read (r : Fin 4096) (k : Fin 3584) : fn (F := Ideal) x a g (ix2 r k)
    = BitVec.ofBool (decide (FloatOps.absf (F := Ideal) (φ := .f32)
      (if h : k.val < 2048 then x (ix2 r ⟨k.val, by omega⟩) else if h : k.val - 2048 < 512 then a (ix2 r ⟨k.val - 2048, h⟩)
        else g (ix2 r ⟨k.val - 2048 - 512, by omega⟩)) ≤ Ideal.ofBits .f32 0x7F7FFFFF#32)) := by
  pointwise [fn]

variable (hf : fn (F := Ideal) x a g = fun _ => 1#1)
include hf

/-- The queries, keys and values are real numbers. -/
theorem real_x (i : S4096x10368.Idx) (hi : (i 1).val < 2048) : x i = (((x i).toReal : ℝ) : EReal) := by
  refine real_of_le ?_
  have h := (pre_read (x := x) (a := a) (g := g) (i 0) ⟨(i 1).val, by omega⟩).symm.trans (congrFun hf _)
  rw [dif_pos hi] at h
  have e : i = ix2 (i 0) ⟨(i 1).val, (i 1).isLt⟩ := by funext j; fin_cases j <;> rfl
  rw [e]
  exact h
/-- The log decays are real numbers. -/
theorem real_a (i : S4096x512.Idx) : a i = (((a i).toReal : ℝ) : EReal) := by
  refine real_of_le ?_
  have h1 : (i 1).val < 512 := (i 1).isLt
  have h := (pre_read (x := x) (a := a) (g := g) (i 0) ⟨2048 + (i 1).val, by omega⟩).symm.trans (congrFun hf _)
  rw [dif_neg (by simp), dif_pos (by simp; omega)] at h
  have e : i = ix2 (i 0) ⟨2048 + (i 1).val - 2048, by omega⟩ := by funext j; fin_cases j <;> simp [ix2]
  rw [e]
  exact h
/-- The output's cotangent is real numbers. -/
theorem real_g (i : S4096x1024.Idx) : g i = (((g i).toReal : ℝ) : EReal) := by
  refine real_of_le ?_
  have h1 : (i 1).val < 1024 := (i 1).isLt
  have h := (pre_read (x := x) (a := a) (g := g) (i 0) ⟨2560 + (i 1).val, by omega⟩).symm.trans (congrFun hf _)
  rw [dif_neg (by simp; omega), dif_neg (by simp; omega)] at h
  have e : i = ix2 (i 0) ⟨2560 + (i 1).val - 2048 - 512, by show _ < 1024; omega⟩ := by
    funext j
    fin_cases j
    · rfl
    · exact Fin.ext (show (i 1).val = 2560 + (i 1).val - 2048 - 512 by omega)
  rw [e]
  exact h
end Finite

/-- The entry of an array at a row and a column, as a real number. -/
def entry {n w : ℕ} (x : (⟨2, ![n, w]⟩ : Shape).Idx → EReal) : Mat := fun r c =>
  if h : r < n ∧ c < w then (x (ix2 ⟨r, h.1⟩ ⟨c, h.2⟩)).toReal else 0

/-- The entry at an index of the array. -/
theorem entry_at {n w : ℕ} (x : (⟨2, ![n, w]⟩ : Shape).Idx → EReal) (i : (⟨2, ![n, w]⟩ : Shape).Idx) :
    entry x (i 0).val (i 1).val = (x i).toReal := by
  rw [entry, dif_pos ⟨(i 0).isLt, (i 1).isLt⟩]
  refine congrArg (fun j => (x j).toReal) ?_
  funext j; fin_cases j <;> rfl

/-! ## The claim -/

/-- Both programs end with the same five results, those of the real functions at the arguments' entries. -/
theorem algebraic : Cert.algebraic_KernelIdeal_ReferenceIdeal_pre_finite := by
  intro m g m' g' hpre harg
  let p : Dev Cert.KernelIdeal.nD → Mat := fun c => entry (m ((c.tc : Thread Cert.KernelIdeal.nD Cert.KernelIdeal.τ).loc Cert.KernelIdeal.main_arg0))
  let a : Dev Cert.KernelIdeal.nD → Mat := fun c => entry (m ((c.tc : Thread Cert.KernelIdeal.nD Cert.KernelIdeal.τ).loc Cert.KernelIdeal.main_arg1))
  let d : Dev Cert.KernelIdeal.nD → Mat := fun c => entry (m ((c.tc : Thread Cert.KernelIdeal.nD Cert.KernelIdeal.τ).loc Cert.KernelIdeal.main_arg2))
  have hP (c : Dev Cert.KernelIdeal.nD) : Cert.KernelIdeal.Launch.HoldsP (m ((c.tc : Thread Cert.KernelIdeal.nD Cert.KernelIdeal.τ).loc Cert.KernelIdeal.main_arg0)) (p c) :=
    fun i hi => (real_x (hpre c) i hi).trans (congrArg Real.toEReal (entry_at _ i).symm)
  have hA (c : Dev Cert.KernelIdeal.nD) : m ((c.tc : Thread Cert.KernelIdeal.nD Cert.KernelIdeal.τ).loc Cert.KernelIdeal.main_arg1)
      = (mat (φ := .f32) (a c) : Vec Ideal Cert.KernelIdeal.S4096x512 .f32) :=
    funext fun i => (real_a (hpre c) i).trans (congrArg Real.toEReal (entry_at _ i).symm)
  have hG (c : Dev Cert.KernelIdeal.nD) : m ((c.tc : Thread Cert.KernelIdeal.nD Cert.KernelIdeal.τ).loc Cert.KernelIdeal.main_arg2)
      = (mat (φ := .bf16) (d c) : Vec Ideal Cert.KernelIdeal.S4096x1024 .bf16) :=
    funext fun i => (real_g (hpre c) i).trans (congrArg Real.toEReal (entry_at _ i).symm)
  refine ⟨fun c => (mat (φ := .bf16) (Model.rows 256 (Model.resO (p c) (a c))) : Vec Ideal Cert.KernelIdeal.S4096x1024 .bf16),
    fun c => (mat (φ := .bf16) (Model.rows 128 (Model.resQ (p c) (a c) (d c))) : Vec Ideal Cert.KernelIdeal.S4096x512 .bf16),
    fun c => (mat (φ := .bf16) (Model.rows 128 (Model.resK (p c) (a c) (d c))) : Vec Ideal Cert.KernelIdeal.S4096x512 .bf16),
    fun c => (mat (φ := .bf16) (Model.rows 256 (Model.resV (p c) (a c) (d c))) : Vec Ideal Cert.KernelIdeal.S4096x1024 .bf16),
    fun c => (mat (φ := .f32) (Model.rows 128 (Model.resA (p c) (a c) (d c))) : Vec Ideal Cert.KernelIdeal.S4096x512 .f32), ?_, ?_⟩
  · refine (θ_run Cert.KernelIdeal.defs _ _).mono (fun r h c => ?_) (Cert.KernelIdeal.Launch.run_results (F := Ideal) m g)
    obtain ⟨⟨h0, h1, h2, h3, h4⟩, hargs⟩ := h.1 c
    exact ⟨h0.trans (Cert.KernelIdeal.Launch.res_o m c (hP c) (hA c)), h1.trans (Cert.KernelIdeal.Launch.res_q m c (hP c) (hA c) (hG c)),
      h2.trans (Cert.KernelIdeal.Launch.res_k m c (hP c) (hA c) (hG c)), h3.trans (Cert.KernelIdeal.Launch.res_v m c (hP c) (hA c) (hG c)),
      h4.trans (Cert.KernelIdeal.Launch.res_a m c (hP c) (hA c) (hG c)), hargs⟩
  · refine (θ_run Cert.ReferenceIdeal.defs _ _).mono (fun r h c => ?_) (run_reference (F := Ideal) m' g')
    obtain ⟨hb, hargs⟩ := h.1 c
    obtain ⟨e0, e1, e2⟩ := harg c
    have hP' : ∀ i, (i 1).val < 2048 → (m' (c, Proc.devRef .tc Cert.ReferenceIdeal.main_arg0) : Vec Ideal Cert.ReferenceIdeal.S4096x10368 .bf16) i
        = ((p c (i 0).val (i 1).val : ℝ) : EReal) := fun i hi => (congrFun e0 i).trans (hP c i hi)
    have hA' : m' (c, Proc.devRef .tc Cert.ReferenceIdeal.main_arg1) = (mat (φ := .f32) (a c) : Vec Ideal Cert.ReferenceIdeal.S4096x512 .f32) := e1.trans (hA c)
    have hG' : m' (c, Proc.devRef .tc Cert.ReferenceIdeal.main_arg2) = (mat (φ := .bf16) (d c) : Vec Ideal Cert.ReferenceIdeal.S4096x1024 .bf16) := e2.trans (hG c)
    exact ⟨(hb _ rfl).trans (Cert.ReferenceIdeal.Ref.ref_o m' c hP' hA'), (hb _ rfl).trans (Cert.ReferenceIdeal.Ref.ref_q m' c hP' hA' hG'),
      (hb _ rfl).trans (Cert.ReferenceIdeal.Ref.ref_k m' c hP' hA' hG'), (hb _ rfl).trans (Cert.ReferenceIdeal.Ref.ref_v m' c hP' hA' hG'),
      (hb _ rfl).trans (Cert.ReferenceIdeal.Ref.ref_a m' c hP' hA' hG'), hargs⟩

end Cert.Proof

end
-- ==== Proof.Prod.Sum.lean ====
/-
  The product of two matrices over the extended reals, as a sum over the contracted coordinate: what one call of the
  matrix unit computes of two tiles, what the host's product computes of two arrays, and how a tile's product is the
  arrays' product at the tile's place.
-/
module

public import Idealize.ShloMosaic.Lib.MatmulPlain
public import Idealize.ShloMosaic.Lib.IdealHost
public import Idealize.ShloMosaic.Lib.Quiescent
public import Idealize.ShloMosaic.Lib.Pipeline.ValueKit.Geometry

@[expose] public section

noncomputable section

namespace Cert.Prod

open Idealize.ShloMosaic Idealize.ShloMosaic.ValueIdx
open scoped BigOperators

variable {M K N : ℕ} {φ₁ φ₂ : FTy}

/-- The product of a matrix with the transpose of another: at row `r` and column `c` the sum over `k` of
    `A[r, k] · B[c, k]`. -/
def mulT (A : (⟨2, ![M, K]⟩ : Shape).Idx → EReal) (B : (⟨2, ![N, K]⟩ : Shape).Idx → EReal) : (⟨2, ![M, N]⟩ : Shape).Idx → EReal :=
  fun i => ∑ k : Fin K, A (ix2 (i 0) k) * B (ix2 (i 1) k)
/-- The product of two matrices: at row `r` and column `c` the sum over `k` of `A[r, k] · B[k, c]`. -/
def mul (A : (⟨2, ![M, K]⟩ : Shape).Idx → EReal) (B : (⟨2, ![K, N]⟩ : Shape).Idx → EReal) : (⟨2, ![M, N]⟩ : Shape).Idx → EReal :=
  fun i => ∑ k : Fin K, A (ix2 (i 0) k) * B (ix2 k (i 1))

/-- The matrix unit's product with a transposed operand is its accumulator plus the product, at every place. -/
theorem matmul_mulT (prec : Option ContractPrecision) (x : FVec Ideal ⟨2, ![M, K]⟩ φ₁) (y : FVec Ideal ⟨2, ![N, K]⟩ φ₂)
    (acc : FVec Ideal ⟨2, ![M, N]⟩ .f32) (i : (⟨2, ![M, N]⟩ : Shape).Idx) :
    matmul (DotDims.transposedRhs M K N) prec x y acc i = acc i + mulT x y i := by
  rw [eq_ix2 i]
  exact Ideal.matmul_transposedRhs_apply prec x y acc _ _
/-- The matrix unit's product of two tiles is its accumulator plus the product, at every place. -/
theorem matmul_mul (prec : Option ContractPrecision) (x : FVec Ideal ⟨2, ![M, K]⟩ φ₁) (y : FVec Ideal ⟨2, ![K, N]⟩ φ₂)
    (acc : FVec Ideal ⟨2, ![M, N]⟩ .f32) (i : (⟨2, ![M, N]⟩ : Shape).Idx) :
    matmul (DotDims.plain M K N) prec x y acc i = acc i + mul x y i := by
  rw [eq_ix2 i]
  exact Ideal.matmul_plain_apply prec x y acc _ _

/-- The matrix unit's product onto zeros, the second operand transposed. -/
theorem matmul_zero_mulT (x : FVec Ideal ⟨2, ![M, K]⟩ φ₁) (y : FVec Ideal ⟨2, ![N, K]⟩ φ₂) :
    matmul (DotDims.transposedRhs M K N) none x y (constant ⟨2, ![M, N]⟩ .f32 0x00000000#32) = mulT x y := by
  funext i
  rw [matmul_mulT]
  show Ideal.ofBits .f32 0x00000000#32 + _ = _
  rw [Ideal.ofBits_zero_f32, zero_add]
/-- The matrix unit's product onto zeros. -/
theorem matmul_zero_mul (x : FVec Ideal ⟨2, ![M, K]⟩ φ₁) (y : FVec Ideal ⟨2, ![K, N]⟩ φ₂) :
    matmul (DotDims.plain M K N) none x y (constant ⟨2, ![M, N]⟩ .f32 0x00000000#32) = mul x y := by
  funext i
  rw [matmul_mul]
  show Ideal.ofBits .f32 0x00000000#32 + _ = _
  rw [Ideal.ofBits_zero_f32, zero_add]

/-- The host's product with a transposed operand is the product. -/
theorem dot_mulT (x : FVec Ideal ⟨2, ![M, K]⟩ φ₁) (y : FVec Ideal ⟨2, ![N, K]⟩ φ₂) :
    Host.dotGeneral (DotDims.transposedRhs M K N) none x y = mulT x y := by
  funext i
  refine Eq.trans ?_ ((matmul_mulT none x y (fun _ => 0) i).trans (zero_add _))
  show FloatOps.dotGeneral _ _ _ _ _ _ = FloatOps.matmul _ _ _ _ _ _
  rw [Ideal.dotGeneral_apply, Ideal.matmul_apply]
  exact (zero_add _).symm
/-- The host's product is the product. -/
theorem dot_mul (x : FVec Ideal ⟨2, ![M, K]⟩ φ₁) (y : FVec Ideal ⟨2, ![K, N]⟩ φ₂) :
    Host.dotGeneral (DotDims.plain M K N) none x y = mul x y := by
  funext i
  refine Eq.trans ?_ ((matmul_mul none x y (fun _ => 0) i).trans (zero_add _))
  show FloatOps.dotGeneral _ _ _ _ _ _ = FloatOps.matmul _ _ _ _ _ _
  rw [Ideal.dotGeneral_apply, Ideal.matmul_apply]
  exact (zero_add _).symm

/-- The product of two tiles is the arrays' product at the tile's place, if the tiles hold the arrays' rows there. -/
theorem mulT_tile {M' N' : ℕ} (A : (⟨2, ![M, K]⟩ : Shape).Idx → EReal) (B : (⟨2, ![N, K]⟩ : Shape).Idx → EReal)
    (x : (⟨2, ![M', K]⟩ : Shape).Idx → EReal) (y : (⟨2, ![N', K]⟩ : Shape).Idx → EReal) (j : (⟨2, ![M', N']⟩ : Shape).Idx) (i : (⟨2, ![M, N]⟩ : Shape).Idx)
    (hx : ∀ k, x (ix2 (j 0) k) = A (ix2 (i 0) k)) (hy : ∀ k, y (ix2 (j 1) k) = B (ix2 (i 1) k)) : mulT x y j = mulT A B i :=
  Finset.sum_congr rfl fun k _ => congrArg₂ (· * ·) (hx k) (hy k)
/-- The same of a product without a transpose. -/
theorem mul_tile {M' N' : ℕ} (A : (⟨2, ![M, K]⟩ : Shape).Idx → EReal) (B : (⟨2, ![K, N]⟩ : Shape).Idx → EReal)
    (x : (⟨2, ![M', K]⟩ : Shape).Idx → EReal) (y : (⟨2, ![K, N']⟩ : Shape).Idx → EReal) (j : (⟨2, ![M', N']⟩ : Shape).Idx) (i : (⟨2, ![M, N]⟩ : Shape).Idx)
    (hx : ∀ k, x (ix2 (j 0) k) = A (ix2 (i 0) k)) (hy : ∀ k, y (ix2 k (j 1)) = B (ix2 k (i 1))) : mul x y j = mul A B i :=
  Finset.sum_congr rfl fun k _ => congrArg₂ (· * ·) (hx k) (hy k)

/-- Two entries of a matrix at equal rows and columns. -/
theorem at2 {a b : ℕ} (X : (⟨2, ![a, b]⟩ : Shape).Idx → EReal) {i j : (⟨2, ![a, b]⟩ : Shape).Idx}
    (h0 : (i 0).val = (j 0).val) (h1 : (i 1).val = (j 1).val) : X i = X j :=
  congrArg X (funext fun a => Fin.ext (match a with
    | ⟨0, _⟩ => h0
    | ⟨1, _⟩ => h1))
/-- Two entries of a stack of matrices at equal places. -/
theorem at3 {a b d : ℕ} (X : (⟨3, ![a, b, d]⟩ : Shape).Idx → EReal) {i j : (⟨3, ![a, b, d]⟩ : Shape).Idx}
    (h0 : (i 0).val = (j 0).val) (h1 : (i 1).val = (j 1).val) (h2 : (i 2).val = (j 2).val) : X i = X j :=
  congrArg X (funext fun a => Fin.ext (match a with
    | ⟨0, _⟩ => h0
    | ⟨1, _⟩ => h1
    | ⟨2, _⟩ => h2))

/-- A sum over `J` blocks of `t` terms each is the sum over all the terms. -/
theorem sum_blocks {J t K : ℕ} (hK : J * t = K) (f : Fin K → EReal) :
    ∑ s : Fin J, ∑ k : Fin t, f ⟨s.val * t + k.val, by
      subst hK; calc s.val * t + k.val < s.val * t + t := by omega
        _ = (s.val + 1) * t := (Nat.succ_mul _ _).symm
        _ ≤ J * t := Nat.mul_le_mul_right t s.isLt⟩ = ∑ k : Fin K, f k := by
  subst hK
  rw [← Equiv.sum_comp finProdFinEquiv, Fintype.sum_prod_type]
  refine Finset.sum_congr rfl fun s _ => Finset.sum_congr rfl fun k _ => congrArg f (Fin.ext ?_)
  show s.val * t + k.val = k.val + t * s.val
  rw [Nat.mul_comm, Nat.add_comm]

/-- What a run of `J` grid points accumulates. The first point of a run leaves its own term in the scratch, each later
    point but the last adds its own, and the last leaves in the result the scratch and its own: the result is the sum of
    the run's terms. -/
theorem acc_run {ι : Type} {N J : ℕ} (hJ : 1 < J) (S O P : (n : ℕ) → n < N → ι → EReal)
    (hA : ∀ n h, n % J = 0 → S n h = P n h)
    (hB : ∀ n h, n % J ≠ 0 → n % J ≠ J - 1 → ∀ i, S n h i = S (n - 1) (Nat.lt_of_le_of_lt (Nat.sub_le _ _) h) i + P n h i)
    (hC : ∀ n h, n % J = J - 1 → ∀ i, O n h i = S (n - 1) (Nat.lt_of_le_of_lt (Nat.sub_le _ _) h) i + P n h i)
    (n : ℕ) (h : n < N) (hn : n % J = J - 1) (i : ι) :
    O n h i = ∑ s : Fin J, P (J * (n / J) + s.val) (by have := Nat.div_add_mod n J; omega) i := by
  have key : ∀ (j : ℕ) (hj : j + 1 < J), S (J * (n / J) + j) (by have := Nat.div_add_mod n J; omega) i
      = ∑ s : Fin (j + 1), P (J * (n / J) + s.val) (by have := Nat.div_add_mod n J; omega) i := by
    intro j
    induction j with
    | zero =>
      intro hj
      rw [Fin.sum_univ_one]
      exact congrFun (hA _ _ (Nat.mul_mod_right J (n / J))) i
    | succ j ih =>
      intro hj
      have hm : (J * (n / J) + (j + 1)) % J = j + 1 := by rw [Nat.mul_add_mod, Nat.mod_eq_of_lt (by omega)]
      rw [hB _ _ (by omega) (by omega), Fin.sum_univ_castSucc]
      exact congrArg (· + _) (ih (by omega))
  obtain ⟨j, rfl⟩ : ∃ j, J = j + 2 := ⟨J - 2, by omega⟩
  have e := Nat.div_add_mod n (j + 2)
  rw [hC n h hn, Fin.sum_univ_castSucc]
  have e1 : (j + 2) * (n / (j + 2)) + (j + 1) = n := by omega
  refine congrArg₂ (· + ·) ((?_ : _ = _).trans (key j (by omega))) ?_
  · congr 1
    exact (by omega : n - 1 = (j + 2) * (n / (j + 2)) + j) ▸ rfl
  · show P n h i = P ((j + 2) * (n / (j + 2)) + (j + 1)) _ i
    congr 1
    exact e1.symm ▸ rfl

/-- The same where every term of a run is a block of one sum: the result is the sum. -/
theorem acc_sum {ι : Type} {N J t K : ℕ} (hJ : 1 < J) (hK : J * t = K) (S O P : (n : ℕ) → n < N → ι → EReal)
    (hA : ∀ n h, n % J = 0 → S n h = P n h)
    (hB : ∀ n h, n % J ≠ 0 → n % J ≠ J - 1 → ∀ i, S n h i = S (n - 1) (Nat.lt_of_le_of_lt (Nat.sub_le _ _) h) i + P n h i)
    (hC : ∀ n h, n % J = J - 1 → ∀ i, O n h i = S (n - 1) (Nat.lt_of_le_of_lt (Nat.sub_le _ _) h) i + P n h i)
    (n : ℕ) (h : n < N) (hn : n % J = J - 1) (i : ι) (f : Fin K → EReal)
    (hP : ∀ (s : ℕ) (hs : s < N), s / J = n / J → P s hs i = ∑ k : Fin t, f ⟨s % J * t + k.val, by
      subst hK; calc s % J * t + k.val < s % J * t + t := by omega
        _ = (s % J + 1) * t := (Nat.succ_mul _ _).symm
        _ ≤ J * t := Nat.mul_le_mul_right t (Nat.mod_lt s (by omega))⟩) :
    O n h i = ∑ k : Fin K, f k := by
  rw [acc_run hJ S O P hA hB hC n h hn, ← sum_blocks hK]
  refine Finset.sum_congr rfl fun s _ => ?_
  have hm : (J * (n / J) + s.val) % J = s.val := by rw [Nat.mul_add_mod, Nat.mod_eq_of_lt s.isLt]
  rw [hP _ _ (by rw [Nat.mul_add_div (by omega), Nat.div_eq_of_lt s.isLt]; rfl)]
  refine Finset.sum_congr rfl fun k _ => congrArg f (Fin.ext ?_)
  show (J * (n / J) + s.val) % J * t + k.val = s.val * t + k.val
  rw [hm]

/-- A slab of a stack of matrices, as a matrix. -/
def slab {a b : ℕ} (Y : (⟨3, ![1, a, b]⟩ : Shape).Idx → EReal) : (⟨2, ![a, b]⟩ : Shape).Idx → EReal := fun i => Y (ix3 0 (i 0) (i 1))
/-- A block of one slab, cast to a matrix, is the slab. -/
theorem slab_eq {a b : ℕ} (h : (⟨3, ![1, a, b]⟩ : Shape).ShapeCasts ⟨2, ![a, b]⟩) (Y : (⟨3, ![1, a, b]⟩ : Shape).Idx → EReal) :
    shapeCast ⟨2, ![a, b]⟩ Y h = slab Y :=
  funext fun i => shapeCast_apply Y h i (ix3 0 (i 0) (i 1)) (by
    rw [Shape.rowMajor_val_three, Shape.rowMajor_val_two]
    show (0 * a + (i 0).val) * b + (i 1).val = (i 0).val * b + (i 1).val
    rw [Nat.zero_mul, Nat.zero_add])

/-- `n` matrices of `b` columns each, put side by side. -/
def joined {n a b N : ℕ} (hN : n * b = N) (hb : 0 < b) (W : (⟨3, ![n, a, b]⟩ : Shape).Idx → EReal) : (⟨2, ![a, N]⟩ : Shape).Idx → EReal :=
  fun i => W (ix3 ⟨(i 1).val / b, Nat.div_lt_of_lt_mul (by rw [Nat.mul_comm, hN]; exact (i 1).isLt)⟩ (i 0) ⟨(i 1).val % b, Nat.mod_lt _ hb⟩)
/-- Putting the columns' axis beside the slabs' and casting the two to one axis puts the slabs side by side. -/
theorem joined_eq {n a b N : ℕ} (hN : n * b = N) (hb : 0 < b) (W : (⟨3, ![n, a, b]⟩ : Shape).Idx → EReal)
    (h : (⟨3, ![n, a, b]⟩ : Shape).Transposes [1, 0, 2] ⟨3, ![a, n, b]⟩) (h' : (⟨3, ![a, n, b]⟩ : Shape).ShapeCasts ⟨2, ![a, N]⟩) :
    shapeCast ⟨2, ![a, N]⟩ (transpose ⟨3, ![a, n, b]⟩ [1, 0, 2] W h) h' = joined hN hb W := by
  funext i
  refine (shapeCast_apply _ h' i (ix3 (i 0) ⟨(i 1).val / b, Nat.div_lt_of_lt_mul (by rw [Nat.mul_comm, hN]; exact (i 1).isLt)⟩
    ⟨(i 1).val % b, Nat.mod_lt _ hb⟩) ?_).trans (transpose_apply [1, 0, 2] W h _ _ fun k => ?_)
  · rw [Shape.rowMajor_val_three, Shape.rowMajor_val_two]
    show ((i 0).val * n + (i 1).val / b) * b + (i 1).val % b = (i 0).val * N + (i 1).val
    rw [Nat.add_mul, Nat.add_assoc, Nat.mul_assoc, hN, Nat.mul_comm ((i 1).val / b), Nat.div_add_mod]
  · match k with
    | ⟨0, _⟩ => rfl
    | ⟨1, _⟩ => rfl
    | ⟨2, _⟩ => rfl

end Cert.Prod

end
-- ==== Proof.Prod.DownDgrad.lean ====
/-
  The gradient of the down projection's input: the call's result is the product of its first argument with the
  transpose of its second, and so is the reference's.
-/
module

public import proofs.«01_k».proof.Defs
public import proofs.«01_k».proof.Proof.Prod.Sum
public import proofs.«01_k».proof.Proof.Gen.KDownDgrad.Frame
public import proofs.«01_k».proof.Proof.Gen.KDownDgradIdeal.Value
public import proofs.«01_k».proof.Proof.Gen.RDownDgradIdeal.Run

@[expose] public section

noncomputable section

namespace Cert.Prod.DownDgrad

open Idealize.ShloMosaic Idealize.ShloMosaic.TcCoe Idealize.ShloMosaic.ValueIdx Idealize.SL.Sem

section Kernel
open Cert.KDownDgradIdeal Cert.KDownDgradIdeal.Gen

variable (m : (ℓ : Loc nD τ sig) → Buf (Elt Ideal) ℓ) (c : Dev nD)

/-- What a grid point leaves in the result's staging buffer is the product of the two tiles. -/
theorem out_eq (x : Vec Ideal S2048x2048 .bf16) (y : Vec Ideal S512x2048 .bf16) : out0_2 x y = mulT x y := by
  unfold out0_2
  rw [View.canon_unit_zero (by decide), View.ld_unit_zero (by decide), View.ld_unit_zero (by decide)]
  exact matmul_zero_mulT (φ₁ := .bf16) (φ₂ := .bf16) x y

/-- The tiles of a grid point: the rows of the first argument and of the second that the result's tile takes. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 := (by decide +kernel : ∀ t : Fin grid0.N, _)

/-- The result's array after the launch. -/
theorem final : (dats m 0 c).arrAt 2 cfg0.N = mulT (m ((c : Thread nD τ).loc main_arg0) : Vec Ideal S4096x2048 .bf16)
    (m ((c : Thread nD τ).loc main_arg1) : Vec Ideal S5632x2048 .bf16) := by
  refine (dats m 0 c).arrAt_eq_of_covers 2 _ (by decide +kernel) fun t hf y => ?_
  show (dats m 0 c).after 2 t ((cfg0.win 2).xinj (grid0.coords t) y) = mulT _ _ (((cfg0.win 2).blk t).view.emb y)
  rw [after0_2, out_eq]
  obtain ⟨e0, e1, e2, e3⟩ := idx t
  refine mulT_tile _ _ _ _ _ _ (fun k => at2 (m ((c : Thread nD τ).loc main_arg0)) ?_ ?_)
    (fun k => at2 (m ((c : Thread nD τ).loc main_arg1)) ?_ ?_)
  · show win0_0.index t (0 : Fin 2) * 2048 + 1 * (y 0).val = win0_2.index t (0 : Fin 2) * 2048 + 1 * (y 0).val
    rw [e0]
  · show win0_0.index t (1 : Fin 2) * 2048 + 1 * k.val = k.val
    rw [e1]; omega
  · show win0_1.index t (0 : Fin 2) * 512 + 1 * (y 1).val = win0_2.index t (1 : Fin 2) * 512 + 1 * (y 1).val
    rw [e2]
  · show win0_1.index t (1 : Fin 2) * 2048 + 1 * k.val = k.val
    rw [e3]; omega

end Kernel

/-- The kernel runs, its arguments unchanged and its semaphores at zero. -/
theorem quiescent_kernel : Cert.quiescent_KDownDgrad := fun m g _ => Cert.KDownDgrad.Gen.frame m g
/-- So does the idealized kernel. -/
theorem quiescent_ideal : Cert.quiescent_KDownDgradIdeal := fun m g _ => Cert.KDownDgradIdeal.Gen.frame m g
/-- So does the reference. -/
theorem quiescent_reference : Cert.quiescent_RDownDgradIdeal := fun m g _ =>
  (θ_run Cert.RDownDgradIdeal.defs _ _).mono (fun r h => ⟨fun c => (h c).2, sem_eq_zero_of_no_sems rfl _⟩) (Cert.RDownDgradIdeal.Value.run m g)

/-- The kernel and the reference end with the same product. -/
theorem algebraic : Cert.algebraic_KDownDgradIdeal_RDownDgradIdeal := fun m g m' g' _ harg =>
  ⟨fun c => mulT (m ((c.tc : Thread Cert.KDownDgradIdeal.nD Cert.KDownDgradIdeal.τ).loc Cert.KDownDgradIdeal.main_arg0) : Vec Ideal Cert.KDownDgradIdeal.S4096x2048 .bf16)
      (m ((c.tc : Thread Cert.KDownDgradIdeal.nD Cert.KDownDgradIdeal.τ).loc Cert.KDownDgradIdeal.main_arg1) : Vec Ideal Cert.KDownDgradIdeal.S5632x2048 .bf16),
    (θ_run Cert.KDownDgradIdeal.defs _ _).mono (fun r h c => ⟨(h c).1.trans (final m c), (h c).2⟩) (Cert.KDownDgradIdeal.Value.run_blocks m g),
    (θ_run Cert.RDownDgradIdeal.defs _ _).mono (fun r h c => ⟨by
      rw [(h c).1, (harg c).1, (harg c).2]
      exact dot_mulT (φ₁ := .f32) (φ₂ := .bf16) _ _, (h c).2⟩) (Cert.RDownDgradIdeal.Value.run m' g')⟩

end Cert.Prod.DownDgrad

end
-- ==== Proof.Prod.UpDgrad.lean ====
/-
  The gradient of the up projection's input: the call takes the weights as eight slabs of columns and adds up the product
  with each, and its result is the product of its first argument with the transpose of the slabs put side by side, and so
  is the reference's.
-/
module

public import proofs.«01_k».proof.Defs
public import proofs.«01_k».proof.Proof.Prod.Sum
public import Idealize.ShloMosaic.Lib.Pipeline.ValueKit
public import Idealize.ShloMosaic.Lib.Pipeline.ReadBack
public import proofs.«01_k».proof.Proof.Gen.KUpDgrad.Frame
public import proofs.«01_k».proof.Proof.Gen.KUpDgradIdeal.Value
public import proofs.«01_k».proof.Proof.Gen.RUpDgradIdeal.Run

@[expose] public section

set_option maxRecDepth 16384

noncomputable section

namespace Cert.Prod.UpDgrad

open Idealize.ShloMosaic Idealize.ShloMosaic.TcCoe Idealize.ShloMosaic.ValueIdx Idealize.SL.Sem

section Kernel
open Cert.KUpDgradIdeal Cert.KUpDgradIdeal.Gen

variable (m : (ℓ : Loc nD τ sig) → Buf (Elt Ideal) ℓ) (c : Dev nD)

/-- The tile product of a grid point. -/
def P (n : ℕ) (h : n < cfg0.N) : S2048x1024.Idx → EReal :=
  mulT (iblk m c 0 ⟨n, h⟩ : Vec Ideal S2048x1408 .bf16) (slab (iblk m c 1 ⟨n, h⟩ : Vec Ideal S1x1024x1408 .bf16))

/-- The product that a grid point computes of its tiles. -/
theorem tile (x : Vec Ideal S2048x1408 .bf16) (y : Vec Ideal S1x1024x1408 .bf16) :
    (matmul (F := Ideal) (φ₁ := .bf16) (φ₂ := .bf16) dot_S2048x1408_S1024x1408_S2048x1024_1_1_0_0_n_n none x
      (shapeCast S1024x1408 y shapeCasts_S1x1024x1408_S1024x1408 : Vec Ideal S1024x1408 .bf16) (constant S2048x1024 .f32 0x00000000#32) : S2048x1024.Idx → EReal)
      = mulT x (slab y) :=
  (matmul_zero_mulT (φ₁ := .bf16) (φ₂ := .bf16) x _).trans (congrArg (mulT x) (slab_eq _ y))

/-- What is stored at a later point: the sum so far and the point's product. -/
theorem pay2_eq (acc : Vec Ideal S2048x1024 .f32) (x : Vec Ideal S2048x1408 .bf16) (y : Vec Ideal S1x1024x1408 .bf16) (i : S2048x1024.Idx) :
    (k0_pay2 acc x y i : EReal) = acc i + mulT x (slab y) i := by
  unfold k0_pay2
  rw [shapeCast_self]
  exact congrArg ((acc i : EReal) + ·) (congrFun (tile x y) i)
/-- The same at the last point, rounded to the result's type. -/
theorem pay3_eq (acc : Vec Ideal S2048x1024 .f32) (x : Vec Ideal S2048x1408 .bf16) (y : Vec Ideal S1x1024x1408 .bf16) (i : S2048x1024.Idx) :
    (k0_pay3 acc x y i : EReal) = acc i + mulT x (slab y) i := congrArg ((acc i : EReal) + ·) (congrFun (tile x y) i)

/-- The first point of a run leaves its tile product in the scratch. -/
theorem first (n : ℕ) (h : n < cfg0.N) (hn : n % 8 = 0) : (outsAt0 m c n h).2 = P m c n h := by
  rw [outsAt0_A m c ⟨n, h⟩ hn (by show ¬(1 ≤ n % 8 ∧ n % 8 ≤ 6); omega) (by show ¬n % 8 = 7; omega)]
  dsimp only
  frame_out
  exact (shapeCast_self _ _).trans (tile _ _)

/-- A later point but the last adds its own. -/
theorem step (n : ℕ) (h : n < cfg0.N) (h0 : n % 8 ≠ 0) (h7 : n % 8 ≠ 8 - 1) (i : S2048x1024.Idx) :
    (outsAt0 m c n h).2 i = ((outsAt0 m c (n - 1) (Nat.lt_of_le_of_lt (Nat.sub_le _ _) h)).2 i : EReal) + P m c n h i := by
  rw [outsAt0_B m c ⟨n, h⟩ h0 (by show 1 ≤ n % 8 ∧ n % 8 ≤ 6; omega) h7]
  dsimp only
  frame_out
  simp only [read_unread_whole]
  exact pay2_eq _ _ _ i

/-- The last leaves in the result the scratch and its own. -/
theorem last (n : ℕ) (h : n < cfg0.N) (h7 : n % 8 = 8 - 1) (i : S2048x1024.Idx) :
    (outsAt0 m c n h).1 i = ((outsAt0 m c (n - 1) (Nat.lt_of_le_of_lt (Nat.sub_le _ _) h)).2 i : EReal) + P m c n h i := by
  rw [outsAt0_C m c ⟨n, h⟩ (by show ¬n % 8 = 0; omega) (by show ¬(1 ≤ n % 8 ∧ n % 8 ≤ 6); omega) h7]
  dsimp only
  frame_out
  simp only [read_unread_whole]
  exact pay3_eq _ _ _ i

/-- The tiles of a grid point: the columns of the first argument, and the slab of the second, are those of the point's
    place in its run; the rows are those of the result's tile, which stays the same over a run. -/
theorem idx : ∀ t : Fin cfg0.N, win0_0.index t (0 : Fin 2) = t.val / 8 / 2 ∧ win0_0.index t (1 : Fin 2) = t.val % 8
    ∧ win0_1.index t (0 : Fin 3) = t.val % 8 ∧ win0_1.index t (1 : Fin 3) = t.val / 8 % 2 ∧ win0_1.index t (2 : Fin 3) = 0
    ∧ win0_2.index t (0 : Fin 2) = t.val / 8 / 2 ∧ win0_2.index t (1 : Fin 2) = t.val / 8 % 2 :=
  (by decide +kernel : ∀ t : Fin grid0.N, _)

/-- The result's array after the launch. -/
theorem final : (dats m 0 c).arrAt 2 cfg0.N = mulT (m ((c : Thread nD τ).loc main_arg0) : Vec Ideal S4096x11264 .bf16)
    (joined (N := 11264) rfl (by decide) (m ((c : Thread nD τ).loc main_arg1) : Vec Ideal S8x2048x1408 .bf16)) := by
  refine (dats m 0 c).arrAt_eq_of_covers 2 _ (by decide +kernel) fun t hf y => ?_
  show (dats m 0 c).after 2 t ((cfg0.win 2).xinj (grid0.coords t) y) = mulT _ _ (((cfg0.win 2).blk t).view.emb y)
  rw [after0_2]
  obtain ⟨-, -, -, -, -, d0, d1⟩ := idx t
  refine acc_sum (J := 8) (t := 1408) (by decide) rfl (fun n h => (outsAt0 m c n h).2) (fun n h => (outsAt0 m c n h).1) (P m c)
    (first m c) (step m c) (last m c) t.val t.isLt ((flush0_2 t).mp hf) _ _ fun s hs e => ?_
  unfold P mulT
  refine Finset.sum_congr rfl fun k _ => ?_
  obtain ⟨e0, e1, e2, e3, e4, -, -⟩ := idx ⟨s, hs⟩
  have e5 : (⟨s, hs⟩ : Fin cfg0.N).val = s := rfl
  rw [e5] at e0 e1 e2 e3
  have hk := k.isLt
  refine congrArg₂ (· * ·) (at2 (m ((c : Thread nD τ).loc main_arg0)) ?_ ?_) (at3 (m ((c : Thread nD τ).loc main_arg1)) ?_ ?_ ?_)
  · show win0_0.index ⟨s, hs⟩ (0 : Fin 2) * 2048 + 1 * (y 0).val = win0_2.index t (0 : Fin 2) * 2048 + 1 * (y 0).val
    rw [e0, d0, e]
  · show win0_0.index ⟨s, hs⟩ (1 : Fin 2) * 1408 + 1 * k.val = s % 8 * 1408 + k.val
    rw [e1]; omega
  · show win0_1.index ⟨s, hs⟩ (0 : Fin 3) * 1 + 1 * 0 = (s % 8 * 1408 + k.val) / 1408
    rw [e2]; omega
  · show win0_1.index ⟨s, hs⟩ (1 : Fin 3) * 1024 + 1 * (y 1).val = win0_2.index t (1 : Fin 2) * 1024 + 1 * (y 1).val
    rw [e3, d1, e]
  · show win0_1.index ⟨s, hs⟩ (2 : Fin 3) * 1408 + 1 * k.val = (s % 8 * 1408 + k.val) % 1408
    rw [e4]; omega

end Kernel

/-- The kernel runs, its arguments unchanged and its semaphores at zero. -/
theorem quiescent_kernel : Cert.quiescent_KUpDgrad := fun m g _ => Cert.KUpDgrad.Gen.frame m g
/-- So does the idealized kernel. -/
theorem quiescent_ideal : Cert.quiescent_KUpDgradIdeal := fun m g _ => Cert.KUpDgradIdeal.Gen.frame m g
/-- So does the reference. -/
theorem quiescent_reference : Cert.quiescent_RUpDgradIdeal := fun m g _ =>
  (θ_run Cert.RUpDgradIdeal.defs _ _).mono (fun r h => ⟨fun c => (h c).2, sem_eq_zero_of_no_sems rfl _⟩) (Cert.RUpDgradIdeal.Value.run m g)

/-- The kernel and the reference end with the same product. -/
theorem algebraic : Cert.algebraic_KUpDgradIdeal_RUpDgradIdeal := fun m g m' g' _ harg =>
  ⟨fun c => mulT (m ((c.tc : Thread Cert.KUpDgradIdeal.nD Cert.KUpDgradIdeal.τ).loc Cert.KUpDgradIdeal.main_arg0) : Vec Ideal Cert.KUpDgradIdeal.S4096x11264 .bf16)
      (joined (N := 11264) rfl (by decide) (m ((c.tc : Thread Cert.KUpDgradIdeal.nD Cert.KUpDgradIdeal.τ).loc Cert.KUpDgradIdeal.main_arg1) : Vec Ideal Cert.KUpDgradIdeal.S8x2048x1408 .bf16)),
    (θ_run Cert.KUpDgradIdeal.defs _ _).mono (fun r h c => ⟨(h c).1.trans (final m c), (h c).2⟩) (Cert.KUpDgradIdeal.Value.run_blocks m g),
    (θ_run Cert.RUpDgradIdeal.defs _ _).mono (fun r h c => ⟨by
      rw [(h c).1, (harg c).1, (harg c).2]
      exact (dot_mulT (φ₁ := .bf16) (φ₂ := .bf16) _ _).trans (congrArg (mulT _) (joined_eq (n := 8) (b := 1408) rfl (by decide) _ _ _)), (h c).2⟩) (Cert.RUpDgradIdeal.Value.run m' g')⟩

end Cert.Prod.UpDgrad

end
-- ==== Proof.Prod.ODgrad.lean ====
/-
  The gradient of the input of the attention's output product: the call's result is the product of its first argument with the
  transpose of its second, and so is the reference's.
-/
module

public import proofs.«01_k».proof.Defs
public import proofs.«01_k».proof.Proof.Prod.Sum
public import proofs.«01_k».proof.Proof.Gen.KODgrad.Frame
public import proofs.«01_k».proof.Proof.Gen.KODgradIdeal.Value
public import proofs.«01_k».proof.Proof.Gen.RODgradIdeal.Run

@[expose] public section

noncomputable section

namespace Cert.Prod.ODgrad

open Idealize.ShloMosaic Idealize.ShloMosaic.TcCoe Idealize.ShloMosaic.ValueIdx Idealize.SL.Sem

section Kernel
open Cert.KODgradIdeal Cert.KODgradIdeal.Gen

variable (m : (ℓ : Loc nD τ sig) → Buf (Elt Ideal) ℓ) (c : Dev nD)

/-- What a grid point leaves in the result's staging buffer is the product of the two tiles. -/
theorem out_eq (x : Vec Ideal S2048x2048 .bf16) (y : Vec Ideal S1024x2048 .bf16) : out0_2 x y = mulT x y := by
  unfold out0_2
  rw [View.canon_unit_zero (by decide), View.ld_unit_zero (by decide), View.ld_unit_zero (by decide)]
  exact matmul_zero_mulT (φ₁ := .bf16) (φ₂ := .bf16) x y

/-- The tiles of a grid point: the rows of the first argument and of the second that the result's tile takes. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 := (by decide +kernel : ∀ t : Fin grid0.N, _)

/-- The result's array after the launch. -/
theorem final : (dats m 0 c).arrAt 2 cfg0.N = mulT (m ((c : Thread nD τ).loc main_arg0) : Vec Ideal S4096x2048 .bf16)
    (m ((c : Thread nD τ).loc main_arg1) : Vec Ideal S2048x2048 .bf16) := by
  refine (dats m 0 c).arrAt_eq_of_covers 2 _ (by decide +kernel) fun t hf y => ?_
  show (dats m 0 c).after 2 t ((cfg0.win 2).xinj (grid0.coords t) y) = mulT _ _ (((cfg0.win 2).blk t).view.emb y)
  rw [after0_2, out_eq]
  obtain ⟨e0, e1, e2, e3⟩ := idx t
  refine mulT_tile _ _ _ _ _ _ (fun k => at2 (m ((c : Thread nD τ).loc main_arg0)) ?_ ?_)
    (fun k => at2 (m ((c : Thread nD τ).loc main_arg1)) ?_ ?_)
  · show win0_0.index t (0 : Fin 2) * 2048 + 1 * (y 0).val = win0_2.index t (0 : Fin 2) * 2048 + 1 * (y 0).val
    rw [e0]
  · show win0_0.index t (1 : Fin 2) * 2048 + 1 * k.val = k.val
    rw [e1]; omega
  · show win0_1.index t (0 : Fin 2) * 1024 + 1 * (y 1).val = win0_2.index t (1 : Fin 2) * 1024 + 1 * (y 1).val
    rw [e2]
  · show win0_1.index t (1 : Fin 2) * 2048 + 1 * k.val = k.val
    rw [e3]; omega

end Kernel

/-- The kernel runs, its arguments unchanged and its semaphores at zero. -/
theorem quiescent_kernel : Cert.quiescent_KODgrad := fun m g _ => Cert.KODgrad.Gen.frame m g
/-- So does the idealized kernel. -/
theorem quiescent_ideal : Cert.quiescent_KODgradIdeal := fun m g _ => Cert.KODgradIdeal.Gen.frame m g
/-- So does the reference. -/
theorem quiescent_reference : Cert.quiescent_RODgradIdeal := fun m g _ =>
  (θ_run Cert.RODgradIdeal.defs _ _).mono (fun r h => ⟨fun c => (h c).2, sem_eq_zero_of_no_sems rfl _⟩) (Cert.RODgradIdeal.Value.run m g)

/-- The kernel and the reference end with the same product. -/
theorem algebraic : Cert.algebraic_KODgradIdeal_RODgradIdeal := fun m g m' g' _ harg =>
  ⟨fun c => mulT (m ((c.tc : Thread Cert.KODgradIdeal.nD Cert.KODgradIdeal.τ).loc Cert.KODgradIdeal.main_arg0) : Vec Ideal Cert.KODgradIdeal.S4096x2048 .bf16)
      (m ((c.tc : Thread Cert.KODgradIdeal.nD Cert.KODgradIdeal.τ).loc Cert.KODgradIdeal.main_arg1) : Vec Ideal Cert.KODgradIdeal.S2048x2048 .bf16),
    (θ_run Cert.KODgradIdeal.defs _ _).mono (fun r h c => ⟨(h c).1.trans (final m c), (h c).2⟩) (Cert.KODgradIdeal.Value.run_blocks m g),
    (θ_run Cert.RODgradIdeal.defs _ _).mono (fun r h c => ⟨by
      rw [(h c).1, (harg c).1, (harg c).2]
      exact dot_mulT (φ₁ := .f32) (φ₂ := .bf16) _ _, (h c).2⟩) (Cert.RODgradIdeal.Value.run m' g')⟩

end Cert.Prod.ODgrad

end
-- ==== Proof.Prod.OutDgrad.lean ====
/-
  The gradient of the input of the output product of the gated linear attention, and of the convolution's, which is the same call: the call's result is the product of its first argument with the
  transpose of its second, and so is the reference's.
-/
module

public import proofs.«01_k».proof.Defs
public import proofs.«01_k».proof.Proof.Prod.Sum
public import proofs.«01_k».proof.Proof.Gen.KOutDgrad.Frame
public import proofs.«01_k».proof.Proof.Gen.KOutDgradIdeal.Value
public import proofs.«01_k».proof.Proof.Gen.ROutDgradIdeal.Run

@[expose] public section

noncomputable section

namespace Cert.Prod.OutDgrad

open Idealize.ShloMosaic Idealize.ShloMosaic.TcCoe Idealize.ShloMosaic.ValueIdx Idealize.SL.Sem

section Kernel
open Cert.KOutDgradIdeal Cert.KOutDgradIdeal.Gen

variable (m : (ℓ : Loc nD τ sig) → Buf (Elt Ideal) ℓ) (c : Dev nD)

/-- What a grid point leaves in the result's staging buffer is the product of the two tiles. -/
theorem out_eq (x : Vec Ideal S2048x2048 .bf16) (y : Vec Ideal S1024x2048 .bf16) : out0_2 x y = mulT x y := by
  unfold out0_2
  rw [View.canon_unit_zero (by decide), View.ld_unit_zero (by decide), View.ld_unit_zero (by decide)]
  exact matmul_zero_mulT (φ₁ := .bf16) (φ₂ := .bf16) x y

/-- The tiles of a grid point: the rows of the first argument and of the second that the result's tile takes. -/
theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 := (by decide +kernel : ∀ t : Fin grid0.N, _)

/-- The result's array after the launch. -/
theorem final : (dats m 0 c).arrAt 2 cfg0.N = mulT (m ((c : Thread nD τ).loc main_arg0) : Vec Ideal S4096x2048 .bf16)
    (m ((c : Thread nD τ).loc main_arg1) : Vec Ideal S1024x2048 .bf16) := by
  refine (dats m 0 c).arrAt_eq_of_covers 2 _ (by decide +kernel) fun t hf y => ?_
  show (dats m 0 c).after 2 t ((cfg0.win 2).xinj (grid0.coords t) y) = mulT _ _ (((cfg0.win 2).blk t).view.emb y)
  rw [after0_2, out_eq]
  obtain ⟨e0, e1, e2, e3⟩ := idx t
  refine mulT_tile _ _ _ _ _ _ (fun k => at2 (m ((c : Thread nD τ).loc main_arg0)) ?_ ?_)
    (fun k => at2 (m ((c : Thread nD τ).loc main_arg1)) ?_ ?_)
  · show win0_0.index t (0 : Fin 2) * 2048 + 1 * (y 0).val = win0_2.index t (0 : Fin 2) * 2048 + 1 * (y 0).val
    rw [e0]
  · show win0_0.index t (1 : Fin 2) * 2048 + 1 * k.val = k.val
    rw [e1]; omega
  · show win0_1.index t (0 : Fin 2) * 1024 + 1 * (y 1).val = win0_2.index t (1 : Fin 2) * 1024 + 1 * (y 1).val
    rw [e2]
  · show win0_1.index t (1 : Fin 2) * 2048 + 1 * k.val = k.val
    rw [e3]; omega

end Kernel

/-- The kernel runs, its arguments unchanged and its semaphores at zero. -/
theorem quiescent_kernel : Cert.quiescent_KOutDgrad := fun m g _ => Cert.KOutDgrad.Gen.frame m g
/-- So does the idealized kernel. -/
theorem quiescent_ideal : Cert.quiescent_KOutDgradIdeal := fun m g _ => Cert.KOutDgradIdeal.Gen.frame m g
/-- So does the reference. -/
theorem quiescent_reference : Cert.quiescent_ROutDgradIdeal := fun m g _ =>
  (θ_run Cert.ROutDgradIdeal.defs _ _).mono (fun r h => ⟨fun c => (h c).2, sem_eq_zero_of_no_sems rfl _⟩) (Cert.ROutDgradIdeal.Value.run m g)

/-- The kernel and the reference end with the same product. -/
theorem algebraic : Cert.algebraic_KOutDgradIdeal_ROutDgradIdeal := fun m g m' g' _ harg =>
  ⟨fun c => mulT (m ((c.tc : Thread Cert.KOutDgradIdeal.nD Cert.KOutDgradIdeal.τ).loc Cert.KOutDgradIdeal.main_arg0) : Vec Ideal Cert.KOutDgradIdeal.S4096x2048 .bf16)
      (m ((c.tc : Thread Cert.KOutDgradIdeal.nD Cert.KOutDgradIdeal.τ).loc Cert.KOutDgradIdeal.main_arg1) : Vec Ideal Cert.KOutDgradIdeal.S1024x2048 .bf16),
    (θ_run Cert.KOutDgradIdeal.defs _ _).mono (fun r h c => ⟨(h c).1.trans (final m c), (h c).2⟩) (Cert.KOutDgradIdeal.Value.run_blocks m g),
    (θ_run Cert.ROutDgradIdeal.defs _ _).mono (fun r h c => ⟨by
      rw [(h c).1, (harg c).1, (harg c).2]
      exact dot_mulT (φ₁ := .f32) (φ₂ := .bf16) _ _, (h c).2⟩) (Cert.ROutDgradIdeal.Value.run m' g')⟩

end Cert.Prod.OutDgrad

end
-- ==== Proof.Prod.InDgrad.lean ====
/-
  The gradient of the layer's input through the product that makes its branches: the call adds up three products, and its
  result is the product of its first argument with the transpose of its second, and so is the reference's.
-/
module

public import proofs.«01_k».proof.Defs
public import proofs.«01_k».proof.Proof.Prod.Sum
public import Idealize.ShloMosaic.Lib.Pipeline.ValueKit
public import Idealize.ShloMosaic.Lib.Pipeline.ReadBack
public import proofs.«01_k».proof.Proof.Gen.KInDgrad.Frame
public import proofs.«01_k».proof.Proof.Gen.KInDgradIdeal.Value
public import proofs.«01_k».proof.Proof.Gen.RInDgradIdeal.Run

@[expose] public section

set_option maxRecDepth 16384

noncomputable section

namespace Cert.Prod.InDgrad

open Idealize.ShloMosaic Idealize.ShloMosaic.TcCoe Idealize.ShloMosaic.ValueIdx Idealize.SL.Sem

section Kernel
open Cert.KInDgradIdeal Cert.KInDgradIdeal.Gen

variable (m : (ℓ : Loc nD τ sig) → Buf (Elt Ideal) ℓ) (c : Dev nD)

/-- The tile product of a grid point. -/
def P (n : ℕ) (h : n < cfg0.N) : S1024x1024.Idx → EReal :=
  mulT (iblk m c 0 ⟨n, h⟩ : Vec Ideal S1024x3456 .bf16) (iblk m c 1 ⟨n, h⟩ : Vec Ideal S1024x3456 .bf16)

/-- The product that a grid point computes of its tiles. -/
theorem tile (x : Vec Ideal S1024x3456 .bf16) (y : Vec Ideal S1024x3456 .bf16) :
    (matmul (F := Ideal) (φ₁ := .bf16) (φ₂ := .bf16) dot_S1024x3456_S1024x3456_S1024x1024_1_1_0_0_n_n none x
      y (constant S1024x1024 .f32 0x00000000#32) : S1024x1024.Idx → EReal)
      = mulT x y :=
  matmul_zero_mulT (φ₁ := .bf16) (φ₂ := .bf16) x y

/-- What is stored at a later point: the sum so far and the point's product. -/
theorem pay2_eq (acc : Vec Ideal S1024x1024 .f32) (x : Vec Ideal S1024x3456 .bf16) (y : Vec Ideal S1024x3456 .bf16) (i : S1024x1024.Idx) :
    (k0_pay2 acc x y i : EReal) = acc i + mulT x y i := by
  unfold k0_pay2
  rw [shapeCast_self]
  exact congrArg ((acc i : EReal) + ·) (congrFun (tile x y) i)
/-- The same at the last point, rounded to the result's type. -/
theorem pay3_eq (acc : Vec Ideal S1024x1024 .f32) (x : Vec Ideal S1024x3456 .bf16) (y : Vec Ideal S1024x3456 .bf16) (i : S1024x1024.Idx) :
    (k0_pay3 acc x y i : EReal) = acc i + mulT x y i := congrArg ((acc i : EReal) + ·) (congrFun (tile x y) i)

/-- The first point of a run leaves its tile product in the scratch. -/
theorem first (n : ℕ) (h : n < cfg0.N) (hn : n % 3 = 0) : (outsAt0 m c n h).2 = P m c n h := by
  rw [outsAt0_A m c ⟨n, h⟩ hn (by show ¬n % 3 = 1; omega) (by show ¬n % 3 = 2; omega)]
  dsimp only
  frame_out
  exact (shapeCast_self _ _).trans (tile _ _)

/-- A later point but the last adds its own. -/
theorem step (n : ℕ) (h : n < cfg0.N) (h0 : n % 3 ≠ 0) (h2 : n % 3 ≠ 3 - 1) (i : S1024x1024.Idx) :
    (outsAt0 m c n h).2 i = ((outsAt0 m c (n - 1) (Nat.lt_of_le_of_lt (Nat.sub_le _ _) h)).2 i : EReal) + P m c n h i := by
  rw [outsAt0_B m c ⟨n, h⟩ h0 (by show n % 3 = 1; omega) h2]
  dsimp only
  frame_out
  simp only [read_unread_whole]
  exact pay2_eq _ _ _ i

/-- The last leaves in the result the scratch and its own. -/
theorem last (n : ℕ) (h : n < cfg0.N) (h2 : n % 3 = 3 - 1) (i : S1024x1024.Idx) :
    (outsAt0 m c n h).1 i = ((outsAt0 m c (n - 1) (Nat.lt_of_le_of_lt (Nat.sub_le _ _) h)).2 i : EReal) + P m c n h i := by
  rw [outsAt0_C m c ⟨n, h⟩ (by show ¬n % 3 = 0; omega) (by show ¬n % 3 = 1; omega) h2]
  dsimp only
  frame_out
  simp only [read_unread_whole]
  exact pay3_eq _ _ _ i

/-- The tiles of a grid point: the columns of both arguments are those of the point's place in its run; the rows are
    those of the result's tile, which stays the same over a run. -/
theorem idx : ∀ t : Fin cfg0.N, win0_0.index t (0 : Fin 2) = t.val / 3 / 2 ∧ win0_0.index t (1 : Fin 2) = t.val % 3
    ∧ win0_1.index t (0 : Fin 2) = t.val / 3 % 2 ∧ win0_1.index t (1 : Fin 2) = t.val % 3
    ∧ win0_2.index t (0 : Fin 2) = t.val / 3 / 2 ∧ win0_2.index t (1 : Fin 2) = t.val / 3 % 2 :=
  (by decide +kernel : ∀ t : Fin grid0.N, _)

/-- The result's array after the launch. -/
theorem final : (dats m 0 c).arrAt 2 cfg0.N = mulT (m ((c : Thread nD τ).loc main_arg0) : Vec Ideal S4096x10368 .bf16)
    (m ((c : Thread nD τ).loc main_arg1) : Vec Ideal S2048x10368 .bf16) := by
  refine (dats m 0 c).arrAt_eq_of_covers 2 _ (by decide +kernel) fun t hf y => ?_
  show (dats m 0 c).after 2 t ((cfg0.win 2).xinj (grid0.coords t) y) = mulT _ _ (((cfg0.win 2).blk t).view.emb y)
  rw [after0_2]
  obtain ⟨-, -, -, -, d0, d1⟩ := idx t
  refine acc_sum (J := 3) (t := 3456) (by decide) rfl (fun n h => (outsAt0 m c n h).2) (fun n h => (outsAt0 m c n h).1) (P m c)
    (first m c) (step m c) (last m c) t.val t.isLt ((flush0_2 t).mp hf) _ _ fun s hs e => ?_
  unfold P mulT
  refine Finset.sum_congr rfl fun k _ => ?_
  obtain ⟨e0, e1, e2, e3, -, -⟩ := idx ⟨s, hs⟩
  have e5 : (⟨s, hs⟩ : Fin cfg0.N).val = s := rfl
  rw [e5] at e0 e1 e2 e3
  have hk := k.isLt
  refine congrArg₂ (· * ·) (at2 (m ((c : Thread nD τ).loc main_arg0)) ?_ ?_) (at2 (m ((c : Thread nD τ).loc main_arg1)) ?_ ?_)
  · show win0_0.index ⟨s, hs⟩ (0 : Fin 2) * 1024 + 1 * (y 0).val = win0_2.index t (0 : Fin 2) * 1024 + 1 * (y 0).val
    rw [e0, d0, e]
  · show win0_0.index ⟨s, hs⟩ (1 : Fin 2) * 3456 + 1 * k.val = s % 3 * 3456 + k.val
    rw [e1]; omega
  · show win0_1.index ⟨s, hs⟩ (0 : Fin 2) * 1024 + 1 * (y 1).val = win0_2.index t (1 : Fin 2) * 1024 + 1 * (y 1).val
    rw [e2, d1, e]
  · show win0_1.index ⟨s, hs⟩ (1 : Fin 2) * 3456 + 1 * k.val = s % 3 * 3456 + k.val
    rw [e3]; omega

end Kernel

/-- The kernel runs, its arguments unchanged and its semaphores at zero. -/
theorem quiescent_kernel : Cert.quiescent_KInDgrad := fun m g _ => Cert.KInDgrad.Gen.frame m g
/-- So does the idealized kernel. -/
theorem quiescent_ideal : Cert.quiescent_KInDgradIdeal := fun m g _ => Cert.KInDgradIdeal.Gen.frame m g
/-- So does the reference. -/
theorem quiescent_reference : Cert.quiescent_RInDgradIdeal := fun m g _ =>
  (θ_run Cert.RInDgradIdeal.defs _ _).mono (fun r h => ⟨fun c => (h c).2, sem_eq_zero_of_no_sems rfl _⟩) (Cert.RInDgradIdeal.Value.run m g)

/-- The kernel and the reference end with the same product. -/
theorem algebraic : Cert.algebraic_KInDgradIdeal_RInDgradIdeal := fun m g m' g' _ harg =>
  ⟨fun c => mulT (m ((c.tc : Thread Cert.KInDgradIdeal.nD Cert.KInDgradIdeal.τ).loc Cert.KInDgradIdeal.main_arg0) : Vec Ideal Cert.KInDgradIdeal.S4096x10368 .bf16)
      (m ((c.tc : Thread Cert.KInDgradIdeal.nD Cert.KInDgradIdeal.τ).loc Cert.KInDgradIdeal.main_arg1) : Vec Ideal Cert.KInDgradIdeal.S2048x10368 .bf16),
    (θ_run Cert.KInDgradIdeal.defs _ _).mono (fun r h c => ⟨(h c).1.trans (final m c), (h c).2⟩) (Cert.KInDgradIdeal.Value.run_blocks m g),
    (θ_run Cert.RInDgradIdeal.defs _ _).mono (fun r h c => ⟨by
      rw [(h c).1, (harg c).1, (harg c).2]
      exact dot_mulT (φ₁ := .f32) (φ₂ := .bf16) _ _, (h c).2⟩) (Cert.RInDgradIdeal.Value.run m' g')⟩

end Cert.Prod.InDgrad

end
-- ==== Proof.Prod.InProj.lean ====
/-
  The product that makes the layer's branches: the call's result is the product of its two arguments, and so is the reference's.
-/
module

public import proofs.«01_k».proof.Defs
public import proofs.«01_k».proof.Proof.Prod.Sum
public import proofs.«01_k».proof.Proof.Gen.KInProj.Frame
public import proofs.«01_k».proof.Proof.Gen.KInProjIdeal.Value
public import proofs.«01_k».proof.Proof.Gen.RInProjIdeal.Run

@[expose] public section

noncomputable section

namespace Cert.Prod.InProj

open Idealize.ShloMosaic Idealize.ShloMosaic.TcCoe Idealize.ShloMosaic.ValueIdx Idealize.SL.Sem

section Kernel
open Cert.KInProjIdeal Cert.KInProjIdeal.Gen

variable (m : (ℓ : Loc nD τ sig) → Buf (Elt Ideal) ℓ) (c : Dev nD)

/-- What a grid point leaves in the result's staging buffer is the product of the two tiles. -/
theorem out_eq (x : Vec Ideal S2048x2048 .bf16) (y : Vec Ideal S2048x1152 .bf16) : out0_2 x y = mul x y := by
  unfold out0_2
  rw [View.canon_unit_zero (by decide), View.ld_unit_zero (by decide), View.ld_unit_zero (by decide)]
  exact matmul_zero_mul (φ₁ := .bf16) (φ₂ := .bf16) x y

/-- The tiles of a grid point: the rows of the first argument and the columns of the second that the result's tile takes. -/
theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) := (by decide +kernel : ∀ t : Fin grid0.N, _)

/-- The result's array after the launch. -/
theorem final : (dats m 0 c).arrAt 2 cfg0.N = mul (m ((c : Thread nD τ).loc main_arg0) : Vec Ideal S4096x2048 .bf16)
    (m ((c : Thread nD τ).loc main_arg1) : Vec Ideal S2048x10368 .bf16) := by
  refine (dats m 0 c).arrAt_eq_of_covers 2 _ (by decide +kernel) fun t hf y => ?_
  show (dats m 0 c).after 2 t ((cfg0.win 2).xinj (grid0.coords t) y) = mul _ _ (((cfg0.win 2).blk t).view.emb y)
  rw [after0_2, out_eq]
  obtain ⟨e0, e1, e2, e3⟩ := idx t
  refine mul_tile _ _ _ _ _ _ (fun k => at2 (m ((c : Thread nD τ).loc main_arg0)) ?_ ?_)
    (fun k => at2 (m ((c : Thread nD τ).loc main_arg1)) ?_ ?_)
  · show win0_0.index t (0 : Fin 2) * 2048 + 1 * (y 0).val = win0_2.index t (0 : Fin 2) * 2048 + 1 * (y 0).val
    rw [e0]
  · show win0_0.index t (1 : Fin 2) * 2048 + 1 * k.val = k.val
    rw [e1]; omega
  · show win0_1.index t (0 : Fin 2) * 2048 + 1 * k.val = k.val
    rw [e2]; omega
  · show win0_1.index t (1 : Fin 2) * 1152 + 1 * (y 1).val = win0_2.index t (1 : Fin 2) * 1152 + 1 * (y 1).val
    rw [e3]

end Kernel

/-- The kernel runs, its arguments unchanged and its semaphores at zero. -/
theorem quiescent_kernel : Cert.quiescent_KInProj := fun m g _ => Cert.KInProj.Gen.frame m g
/-- So does the idealized kernel. -/
theorem quiescent_ideal : Cert.quiescent_KInProjIdeal := fun m g _ => Cert.KInProjIdeal.Gen.frame m g
/-- So does the reference. -/
theorem quiescent_reference : Cert.quiescent_RInProjIdeal := fun m g _ =>
  (θ_run Cert.RInProjIdeal.defs _ _).mono (fun r h => ⟨fun c => (h c).2, sem_eq_zero_of_no_sems rfl _⟩) (Cert.RInProjIdeal.Value.run m g)

/-- The kernel and the reference end with the same product. -/
theorem algebraic : Cert.algebraic_KInProjIdeal_RInProjIdeal := fun m g m' g' _ harg =>
  ⟨fun c => mul (m ((c.tc : Thread Cert.KInProjIdeal.nD Cert.KInProjIdeal.τ).loc Cert.KInProjIdeal.main_arg0) : Vec Ideal Cert.KInProjIdeal.S4096x2048 .bf16)
      (m ((c.tc : Thread Cert.KInProjIdeal.nD Cert.KInProjIdeal.τ).loc Cert.KInProjIdeal.main_arg1) : Vec Ideal Cert.KInProjIdeal.S2048x10368 .bf16),
    (θ_run Cert.KInProjIdeal.defs _ _).mono (fun r h c => ⟨(h c).1.trans (final m c), (h c).2⟩) (Cert.KInProjIdeal.Value.run_blocks m g),
    (θ_run Cert.RInProjIdeal.defs _ _).mono (fun r h c => ⟨by
      rw [(h c).1, (harg c).1, (harg c).2]
      exact dot_mul (φ₁ := .bf16) (φ₂ := .bf16) _ _, (h c).2⟩) (Cert.RInProjIdeal.Value.run m' g')⟩

end Cert.Prod.InProj

end
-- ==== Proof.Prod.OutProj.lean ====
/-
  The output product of the gated linear attention, and of the convolution, which is the same call: the call's result is the product of its two arguments, and so is the reference's.
-/
module

public import proofs.«01_k».proof.Defs
public import proofs.«01_k».proof.Proof.Prod.Sum
public import proofs.«01_k».proof.Proof.Gen.KOutProj.Frame
public import proofs.«01_k».proof.Proof.Gen.KOutProjIdeal.Value
public import proofs.«01_k».proof.Proof.Gen.ROutProjIdeal.Run

@[expose] public section

noncomputable section

namespace Cert.Prod.OutProj

open Idealize.ShloMosaic Idealize.ShloMosaic.TcCoe Idealize.ShloMosaic.ValueIdx Idealize.SL.Sem

section Kernel
open Cert.KOutProjIdeal Cert.KOutProjIdeal.Gen

variable (m : (ℓ : Loc nD τ sig) → Buf (Elt Ideal) ℓ) (c : Dev nD)

/-- What a grid point leaves in the result's staging buffer is the product of the two tiles. -/
theorem out_eq (x : Vec Ideal S1024x1024 .bf16) (y : Vec Ideal S1024x1024 .bf16) : out0_2 x y = mul x y := by
  unfold out0_2
  rw [View.canon_unit_zero (by decide), View.ld_unit_zero (by decide), View.ld_unit_zero (by decide)]
  exact matmul_zero_mul (φ₁ := .bf16) (φ₂ := .bf16) x y

/-- The tiles of a grid point: the rows of the first argument and the columns of the second that the result's tile takes. -/
theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) := (by decide +kernel : ∀ t : Fin grid0.N, _)

/-- The result's array after the launch. -/
theorem final : (dats m 0 c).arrAt 2 cfg0.N = mul (m ((c : Thread nD τ).loc main_arg0) : Vec Ideal S4096x1024 .bf16)
    (m ((c : Thread nD τ).loc main_arg1) : Vec Ideal S1024x2048 .bf16) := by
  refine (dats m 0 c).arrAt_eq_of_covers 2 _ (by decide +kernel) fun t hf y => ?_
  show (dats m 0 c).after 2 t ((cfg0.win 2).xinj (grid0.coords t) y) = mul _ _ (((cfg0.win 2).blk t).view.emb y)
  rw [after0_2, out_eq]
  obtain ⟨e0, e1, e2, e3⟩ := idx t
  refine mul_tile _ _ _ _ _ _ (fun k => at2 (m ((c : Thread nD τ).loc main_arg0)) ?_ ?_)
    (fun k => at2 (m ((c : Thread nD τ).loc main_arg1)) ?_ ?_)
  · show win0_0.index t (0 : Fin 2) * 1024 + 1 * (y 0).val = win0_2.index t (0 : Fin 2) * 1024 + 1 * (y 0).val
    rw [e0]
  · show win0_0.index t (1 : Fin 2) * 1024 + 1 * k.val = k.val
    rw [e1]; omega
  · show win0_1.index t (0 : Fin 2) * 1024 + 1 * k.val = k.val
    rw [e2]; omega
  · show win0_1.index t (1 : Fin 2) * 1024 + 1 * (y 1).val = win0_2.index t (1 : Fin 2) * 1024 + 1 * (y 1).val
    rw [e3]

end Kernel

/-- The kernel runs, its arguments unchanged and its semaphores at zero. -/
theorem quiescent_kernel : Cert.quiescent_KOutProj := fun m g _ => Cert.KOutProj.Gen.frame m g
/-- So does the idealized kernel. -/
theorem quiescent_ideal : Cert.quiescent_KOutProjIdeal := fun m g _ => Cert.KOutProjIdeal.Gen.frame m g
/-- So does the reference. -/
theorem quiescent_reference : Cert.quiescent_ROutProjIdeal := fun m g _ =>
  (θ_run Cert.ROutProjIdeal.defs _ _).mono (fun r h => ⟨fun c => (h c).2, sem_eq_zero_of_no_sems rfl _⟩) (Cert.ROutProjIdeal.Value.run m g)

/-- The kernel and the reference end with the same product. -/
theorem algebraic : Cert.algebraic_KOutProjIdeal_ROutProjIdeal := fun m g m' g' _ harg =>
  ⟨fun c => mul (m ((c.tc : Thread Cert.KOutProjIdeal.nD Cert.KOutProjIdeal.τ).loc Cert.KOutProjIdeal.main_arg0) : Vec Ideal Cert.KOutProjIdeal.S4096x1024 .bf16)
      (m ((c.tc : Thread Cert.KOutProjIdeal.nD Cert.KOutProjIdeal.τ).loc Cert.KOutProjIdeal.main_arg1) : Vec Ideal Cert.KOutProjIdeal.S1024x2048 .bf16),
    (θ_run Cert.KOutProjIdeal.defs _ _).mono (fun r h c => ⟨(h c).1.trans (final m c), (h c).2⟩) (Cert.KOutProjIdeal.Value.run_blocks m g),
    (θ_run Cert.ROutProjIdeal.defs _ _).mono (fun r h c => ⟨by
      rw [(h c).1, (harg c).1, (harg c).2]
      exact dot_mul (φ₁ := .bf16) (φ₂ := .bf16) _ _, (h c).2⟩) (Cert.ROutProjIdeal.Value.run m' g')⟩

end Cert.Prod.OutProj

end
-- ==== Proof.Prod.OProj.lean ====
/-
  The attention's output product: the call's result is the product of its two arguments, and so is the reference's.
-/
module

public import proofs.«01_k».proof.Defs
public import proofs.«01_k».proof.Proof.Prod.Sum
public import proofs.«01_k».proof.Proof.Gen.KOProj.Frame
public import proofs.«01_k».proof.Proof.Gen.KOProjIdeal.Value
public import proofs.«01_k».proof.Proof.Gen.ROProjIdeal.Run

@[expose] public section

noncomputable section

namespace Cert.Prod.OProj

open Idealize.ShloMosaic Idealize.ShloMosaic.TcCoe Idealize.ShloMosaic.ValueIdx Idealize.SL.Sem

section Kernel
open Cert.KOProjIdeal Cert.KOProjIdeal.Gen

variable (m : (ℓ : Loc nD τ sig) → Buf (Elt Ideal) ℓ) (c : Dev nD)

/-- What a grid point leaves in the result's staging buffer is the product of the two tiles. -/
theorem out_eq (x : Vec Ideal S1024x2048 .bf16) (y : Vec Ideal S2048x1024 .bf16) : out0_2 x y = mul x y := by
  unfold out0_2
  rw [View.canon_unit_zero (by decide), View.ld_unit_zero (by decide), View.ld_unit_zero (by decide)]
  exact matmul_zero_mul (φ₁ := .bf16) (φ₂ := .bf16) x y

/-- The tiles of a grid point: the rows of the first argument and the columns of the second that the result's tile takes. -/
theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) := (by decide +kernel : ∀ t : Fin grid0.N, _)

/-- The result's array after the launch. -/
theorem final : (dats m 0 c).arrAt 2 cfg0.N = mul (m ((c : Thread nD τ).loc main_arg0) : Vec Ideal S4096x2048 .bf16)
    (m ((c : Thread nD τ).loc main_arg1) : Vec Ideal S2048x2048 .bf16) := by
  refine (dats m 0 c).arrAt_eq_of_covers 2 _ (by decide +kernel) fun t hf y => ?_
  show (dats m 0 c).after 2 t ((cfg0.win 2).xinj (grid0.coords t) y) = mul _ _ (((cfg0.win 2).blk t).view.emb y)
  rw [after0_2, out_eq]
  obtain ⟨e0, e1, e2, e3⟩ := idx t
  refine mul_tile _ _ _ _ _ _ (fun k => at2 (m ((c : Thread nD τ).loc main_arg0)) ?_ ?_)
    (fun k => at2 (m ((c : Thread nD τ).loc main_arg1)) ?_ ?_)
  · show win0_0.index t (0 : Fin 2) * 1024 + 1 * (y 0).val = win0_2.index t (0 : Fin 2) * 1024 + 1 * (y 0).val
    rw [e0]
  · show win0_0.index t (1 : Fin 2) * 2048 + 1 * k.val = k.val
    rw [e1]; omega
  · show win0_1.index t (0 : Fin 2) * 2048 + 1 * k.val = k.val
    rw [e2]; omega
  · show win0_1.index t (1 : Fin 2) * 1024 + 1 * (y 1).val = win0_2.index t (1 : Fin 2) * 1024 + 1 * (y 1).val
    rw [e3]

end Kernel

/-- The kernel runs, its arguments unchanged and its semaphores at zero. -/
theorem quiescent_kernel : Cert.quiescent_KOProj := fun m g _ => Cert.KOProj.Gen.frame m g
/-- So does the idealized kernel. -/
theorem quiescent_ideal : Cert.quiescent_KOProjIdeal := fun m g _ => Cert.KOProjIdeal.Gen.frame m g
/-- So does the reference. -/
theorem quiescent_reference : Cert.quiescent_ROProjIdeal := fun m g _ =>
  (θ_run Cert.ROProjIdeal.defs _ _).mono (fun r h => ⟨fun c => (h c).2, sem_eq_zero_of_no_sems rfl _⟩) (Cert.ROProjIdeal.Value.run m g)

/-- The kernel and the reference end with the same product. -/
theorem algebraic : Cert.algebraic_KOProjIdeal_ROProjIdeal := fun m g m' g' _ harg =>
  ⟨fun c => mul (m ((c.tc : Thread Cert.KOProjIdeal.nD Cert.KOProjIdeal.τ).loc Cert.KOProjIdeal.main_arg0) : Vec Ideal Cert.KOProjIdeal.S4096x2048 .bf16)
      (m ((c.tc : Thread Cert.KOProjIdeal.nD Cert.KOProjIdeal.τ).loc Cert.KOProjIdeal.main_arg1) : Vec Ideal Cert.KOProjIdeal.S2048x2048 .bf16),
    (θ_run Cert.KOProjIdeal.defs _ _).mono (fun r h c => ⟨(h c).1.trans (final m c), (h c).2⟩) (Cert.KOProjIdeal.Value.run_blocks m g),
    (θ_run Cert.ROProjIdeal.defs _ _).mono (fun r h c => ⟨by
      rw [(h c).1, (harg c).1, (harg c).2]
      exact dot_mul (φ₁ := .bf16) (φ₂ := .bf16) _ _, (h c).2⟩) (Cert.ROProjIdeal.Value.run m' g')⟩

end Cert.Prod.OProj

end
-- ==== Proof.Prod.UpProj.lean ====
/-
  The up projection: the call takes its weights as eight slabs of columns, and its result is the product of its first
  argument with the slabs put side by side, and so is the reference's.
-/
module

public import proofs.«01_k».proof.Defs
public import proofs.«01_k».proof.Proof.Prod.Sum
public import proofs.«01_k».proof.Proof.Gen.KUpProj.Frame
public import proofs.«01_k».proof.Proof.Gen.KUpProjIdeal.Value
public import proofs.«01_k».proof.Proof.Gen.RUpProjIdeal.Run

@[expose] public section

noncomputable section

namespace Cert.Prod.UpProj

open Idealize.ShloMosaic Idealize.ShloMosaic.TcCoe Idealize.ShloMosaic.ValueIdx Idealize.SL.Sem

section Kernel
open Cert.KUpProjIdeal Cert.KUpProjIdeal.Gen

variable (m : (ℓ : Loc nD τ sig) → Buf (Elt Ideal) ℓ) (c : Dev nD)

/-- What a grid point leaves in the result's staging buffer is the product of the two tiles. -/
theorem out_eq (x : Vec Ideal S1024x2048 .bf16) (y : Vec Ideal S1x2048x1408 .bf16) : out0_2 x y = mul x (slab y) := by
  unfold out0_2
  rw [View.canon_unit_zero (by decide), View.ld_unit_zero (by decide), View.ld_unit_zero (by decide)]
  refine (matmul_zero_mul (φ₁ := .bf16) (φ₂ := .bf16) x _).trans (congrArg (mul x) ?_)
  exact slab_eq _ y

/-- The tiles of a grid point: the rows of the first argument and the slab of the second that the result's tile takes. -/
theorem idx : ∀ t : Fin cfg0.N, win0_0.index t (0 : Fin 2) = win0_2.index t (0 : Fin 2) ∧ win0_0.index t (1 : Fin 2) = 0
    ∧ win0_1.index t (0 : Fin 3) = win0_2.index t (1 : Fin 2) ∧ win0_1.index t (1 : Fin 3) = 0 ∧ win0_1.index t (2 : Fin 3) = 0 :=
  (by decide +kernel : ∀ t : Fin grid0.N, _)

/-- The result's array after the launch. -/
theorem final : (dats m 0 c).arrAt 2 cfg0.N = mul (m ((c : Thread nD τ).loc main_arg0) : Vec Ideal S4096x2048 .bf16)
    (joined (N := 11264) rfl (by decide) (m ((c : Thread nD τ).loc main_arg1) : Vec Ideal S8x2048x1408 .bf16)) := by
  refine (dats m 0 c).arrAt_eq_of_covers 2 _ (by decide +kernel) fun t hf y => ?_
  show (dats m 0 c).after 2 t ((cfg0.win 2).xinj (grid0.coords t) y) = mul _ _ (((cfg0.win 2).blk t).view.emb y)
  rw [after0_2, out_eq]
  obtain ⟨e0, e1, e2, e3, e4⟩ := idx t
  have hy : (y 1).val < 1408 := (y 1).isLt
  refine mul_tile _ _ _ _ _ _ (fun k => at2 (m ((c : Thread nD τ).loc main_arg0)) ?_ ?_)
    (fun k => at3 (m ((c : Thread nD τ).loc main_arg1)) ?_ ?_ ?_)
  · show win0_0.index t (0 : Fin 2) * 1024 + 1 * (y 0).val = win0_2.index t (0 : Fin 2) * 1024 + 1 * (y 0).val
    rw [e0]
  · show win0_0.index t (1 : Fin 2) * 2048 + 1 * k.val = k.val
    rw [e1]; omega
  · show win0_1.index t (0 : Fin 3) * 1 + 1 * 0 = (win0_2.index t (1 : Fin 2) * 1408 + 1 * (y 1).val) / 1408
    rw [e2]; omega
  · show win0_1.index t (1 : Fin 3) * 2048 + 1 * k.val = k.val
    rw [e3]; omega
  · show win0_1.index t (2 : Fin 3) * 1408 + 1 * (y 1).val = (win0_2.index t (1 : Fin 2) * 1408 + 1 * (y 1).val) % 1408
    rw [e4]; omega

end Kernel

/-- The kernel runs, its arguments unchanged and its semaphores at zero. -/
theorem quiescent_kernel : Cert.quiescent_KUpProj := fun m g _ => Cert.KUpProj.Gen.frame m g
/-- So does the idealized kernel. -/
theorem quiescent_ideal : Cert.quiescent_KUpProjIdeal := fun m g _ => Cert.KUpProjIdeal.Gen.frame m g
/-- So does the reference. -/
theorem quiescent_reference : Cert.quiescent_RUpProjIdeal := fun m g _ =>
  (θ_run Cert.RUpProjIdeal.defs _ _).mono (fun r h => ⟨fun c => (h c).2, sem_eq_zero_of_no_sems rfl _⟩) (Cert.RUpProjIdeal.Value.run m g)

/-- The kernel and the reference end with the same product. -/
theorem algebraic : Cert.algebraic_KUpProjIdeal_RUpProjIdeal := fun m g m' g' _ harg =>
  ⟨fun c => mul (m ((c.tc : Thread Cert.KUpProjIdeal.nD Cert.KUpProjIdeal.τ).loc Cert.KUpProjIdeal.main_arg0) : Vec Ideal Cert.KUpProjIdeal.S4096x2048 .bf16)
      (joined (N := 11264) rfl (by decide) (m ((c.tc : Thread Cert.KUpProjIdeal.nD Cert.KUpProjIdeal.τ).loc Cert.KUpProjIdeal.main_arg1) : Vec Ideal Cert.KUpProjIdeal.S8x2048x1408 .bf16)),
    (θ_run Cert.KUpProjIdeal.defs _ _).mono (fun r h c => ⟨(h c).1.trans (final m c), (h c).2⟩) (Cert.KUpProjIdeal.Value.run_blocks m g),
    (θ_run Cert.RUpProjIdeal.defs _ _).mono (fun r h c => ⟨by
      rw [(h c).1, (harg c).1, (harg c).2]
      exact (dot_mul (φ₁ := .bf16) (φ₂ := .bf16) _ _).trans (congrArg (mul _) (joined_eq (n := 8) (b := 1408) rfl (by decide) _ _ _)), (h c).2⟩) (Cert.RUpProjIdeal.Value.run m' g')⟩

end Cert.Prod.UpProj

end
-- ==== Proof.Prod.DownProj.lean ====
/-
  The down projection: the call adds up two products, and its result is the product of its two arguments, and so is the
  reference's.
-/
module

public import proofs.«01_k».proof.Defs
public import proofs.«01_k».proof.Proof.Prod.Sum
public import Idealize.ShloMosaic.Lib.Pipeline.ValueKit
public import Idealize.ShloMosaic.Lib.Pipeline.ReadBack
public import proofs.«01_k».proof.Proof.Gen.KDownProj.Frame
public import proofs.«01_k».proof.Proof.Gen.KDownProjIdeal.Value
public import proofs.«01_k».proof.Proof.Gen.RDownProjIdeal.Run

@[expose] public section

set_option maxRecDepth 16384

noncomputable section

namespace Cert.Prod.DownProj

open Idealize.ShloMosaic Idealize.ShloMosaic.TcCoe Idealize.ShloMosaic.ValueIdx Idealize.SL.Sem

section Kernel
open Cert.KDownProjIdeal Cert.KDownProjIdeal.Gen

variable (m : (ℓ : Loc nD τ sig) → Buf (Elt Ideal) ℓ) (c : Dev nD)

/-- The tile product of a grid point. -/
def P (n : ℕ) (h : n < cfg0.N) : S1024x1024.Idx → EReal :=
  mul (iblk m c 0 ⟨n, h⟩ : Vec Ideal S1024x2816 .bf16) (iblk m c 1 ⟨n, h⟩ : Vec Ideal S2816x1024 .bf16)

/-- The product that a grid point computes of its tiles. -/
theorem tile (x : Vec Ideal S1024x2816 .bf16) (y : Vec Ideal S2816x1024 .bf16) :
    (matmul (F := Ideal) (φ₁ := .bf16) (φ₂ := .bf16) dot_S1024x2816_S2816x1024_S1024x1024_1_0_0_1_n_n none x
      y (constant S1024x1024 .f32 0x00000000#32) : S1024x1024.Idx → EReal)
      = mul x y :=
  matmul_zero_mul (φ₁ := .bf16) (φ₂ := .bf16) x y

/-- What is stored at the last point: the sum so far and the point's product. -/
theorem pay3_eq (acc : Vec Ideal S1024x1024 .f32) (x : Vec Ideal S1024x2816 .bf16) (y : Vec Ideal S2816x1024 .bf16) (i : S1024x1024.Idx) :
    (k0_pay3 acc x y i : EReal) = acc i + mul x y i := by
  unfold k0_pay3
  exact congrArg ((acc i : EReal) + ·) (congrFun (tile x y) i)

/-- The first point of a run leaves its tile product in the scratch. -/
theorem first (n : ℕ) (h : n < cfg0.N) (hn : n % 2 = 0) : (outsAt0 m c n h).2 = P m c n h := by
  rw [outsAt0_A m c ⟨n, h⟩ hn (by show ¬n % 2 = 1; omega)]
  dsimp only
  frame_out
  exact (shapeCast_self _ _).trans (tile _ _)

/-- The last leaves in the result the scratch and its own. -/
theorem last (n : ℕ) (h : n < cfg0.N) (h2 : n % 2 = 2 - 1) (i : S1024x1024.Idx) :
    (outsAt0 m c n h).1 i = ((outsAt0 m c (n - 1) (Nat.lt_of_le_of_lt (Nat.sub_le _ _) h)).2 i : EReal) + P m c n h i := by
  rw [outsAt0_B m c ⟨n, h⟩ (by show ¬n % 2 = 0; omega) h2]
  dsimp only
  frame_out
  simp only [read_unread_whole]
  exact pay3_eq _ _ _ i

/-- The tiles of a grid point: the columns of the first argument and the rows of the second are those of the
    point's place in its run; the rows of the first and the columns of the second are those of the result's tile, which
    stays the same over a run. -/
theorem idx : ∀ t : Fin cfg0.N, win0_0.index t (0 : Fin 2) = t.val / 2 / 2 ∧ win0_0.index t (1 : Fin 2) = t.val % 2
    ∧ win0_1.index t (0 : Fin 2) = t.val % 2 ∧ win0_1.index t (1 : Fin 2) = t.val / 2 % 2
    ∧ win0_2.index t (0 : Fin 2) = t.val / 2 / 2 ∧ win0_2.index t (1 : Fin 2) = t.val / 2 % 2 :=
  (by decide +kernel : ∀ t : Fin grid0.N, _)

/-- The result's array after the launch. -/
theorem final : (dats m 0 c).arrAt 2 cfg0.N = mul (m ((c : Thread nD τ).loc main_arg0) : Vec Ideal S4096x5632 .bf16)
    (m ((c : Thread nD τ).loc main_arg1) : Vec Ideal S5632x2048 .bf16) := by
  refine (dats m 0 c).arrAt_eq_of_covers 2 _ (by decide +kernel) fun t hf y => ?_
  show (dats m 0 c).after 2 t ((cfg0.win 2).xinj (grid0.coords t) y) = mul _ _ (((cfg0.win 2).blk t).view.emb y)
  rw [after0_2]
  obtain ⟨-, -, -, -, d0, d1⟩ := idx t
  refine acc_sum (J := 2) (t := 2816) (by decide) rfl (fun n h => (outsAt0 m c n h).2) (fun n h => (outsAt0 m c n h).1) (P m c)
    (first m c) (fun n h h0 h1 => by omega) (last m c) t.val t.isLt ((flush0_2 t).mp hf) _ _ fun s hs e => ?_
  unfold P mul
  refine Finset.sum_congr rfl fun k _ => ?_
  obtain ⟨e0, e1, e2, e3, -, -⟩ := idx ⟨s, hs⟩
  have e5 : (⟨s, hs⟩ : Fin cfg0.N).val = s := rfl
  rw [e5] at e0 e1 e2 e3
  have hk := k.isLt
  refine congrArg₂ (· * ·) (at2 (m ((c : Thread nD τ).loc main_arg0)) ?_ ?_) (at2 (m ((c : Thread nD τ).loc main_arg1)) ?_ ?_)
  · show win0_0.index ⟨s, hs⟩ (0 : Fin 2) * 1024 + 1 * (y 0).val = win0_2.index t (0 : Fin 2) * 1024 + 1 * (y 0).val
    rw [e0, d0, e]
  · show win0_0.index ⟨s, hs⟩ (1 : Fin 2) * 2816 + 1 * k.val = s % 2 * 2816 + k.val
    rw [e1]; omega
  · show win0_1.index ⟨s, hs⟩ (0 : Fin 2) * 2816 + 1 * k.val = s % 2 * 2816 + k.val
    rw [e2]; omega
  · show win0_1.index ⟨s, hs⟩ (1 : Fin 2) * 1024 + 1 * (y 1).val = win0_2.index t (1 : Fin 2) * 1024 + 1 * (y 1).val
    rw [e3, d1, e]

end Kernel

/-- The kernel runs, its arguments unchanged and its semaphores at zero. -/
theorem quiescent_kernel : Cert.quiescent_KDownProj := fun m g _ => Cert.KDownProj.Gen.frame m g
/-- So does the idealized kernel. -/
theorem quiescent_ideal : Cert.quiescent_KDownProjIdeal := fun m g _ => Cert.KDownProjIdeal.Gen.frame m g
/-- So does the reference. -/
theorem quiescent_reference : Cert.quiescent_RDownProjIdeal := fun m g _ =>
  (θ_run Cert.RDownProjIdeal.defs _ _).mono (fun r h => ⟨fun c => (h c).2, sem_eq_zero_of_no_sems rfl _⟩) (Cert.RDownProjIdeal.Value.run m g)

/-- The kernel and the reference end with the same product. -/
theorem algebraic : Cert.algebraic_KDownProjIdeal_RDownProjIdeal := fun m g m' g' _ harg =>
  ⟨fun c => mul (m ((c.tc : Thread Cert.KDownProjIdeal.nD Cert.KDownProjIdeal.τ).loc Cert.KDownProjIdeal.main_arg0) : Vec Ideal Cert.KDownProjIdeal.S4096x5632 .bf16)
      (m ((c.tc : Thread Cert.KDownProjIdeal.nD Cert.KDownProjIdeal.τ).loc Cert.KDownProjIdeal.main_arg1) : Vec Ideal Cert.KDownProjIdeal.S5632x2048 .bf16),
    (θ_run Cert.KDownProjIdeal.defs _ _).mono (fun r h c => ⟨(h c).1.trans (final m c), (h c).2⟩) (Cert.KDownProjIdeal.Value.run_blocks m g),
    (θ_run Cert.RDownProjIdeal.defs _ _).mono (fun r h c => ⟨by
      rw [(h c).1, (harg c).1, (harg c).2]
      exact dot_mul (φ₁ := .bf16) (φ₂ := .bf16) _ _, (h c).2⟩) (Cert.RDownProjIdeal.Value.run m' g')⟩

end Cert.Prod.DownProj

end
-- ==== Proof.Prod.Wgrad.lean ====
/-
  The body of the calls that make a weight's gradient, for tiles of any size: at the first point of a row of tiles the
  first operand's tile is transposed into the scratch, and every point leaves in the result's buffer the product of the
  scratch with the second operand's tile.
-/
module

public import proofs.«01_k».proof.Proof.Prod.Sum
public import Idealize.ShloMosaic.Lib.Pipeline.FrameBody
public import Idealize.ShloMosaic.Lib.Pipeline.Value
public import Idealize.ShloMosaic.Lib.Tactic
public import Idealize.ShloMosaic.Lib.ShapeFacts
public import Idealize.ShloMosaic.Lib.ValueLayout

@[expose] public section

noncomputable section

namespace Cert.Prod

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ : Labels}

local notation "𝕄" => MT nD τ sig Unit (Elt F) ℕ (UR sig nD τ) ℕ

section Whole
variable {defs : Defs nD τ sig (Elt F) Λ} {c : Dev nD} {s : Shape} {e : EltTy}

/-- A load of a whole buffer, at an offset that is zero, gives what the buffer holds. -/
theorem wp_load_owned {α : Type} (Q : α → sProp 𝕄) (a : Memref sig .tc .vmem s e) (X : s.Idx → Elt F e) {off : Fin s.rank → ℕ} (h0 : off = fun _ => 0)
    (inb : ∀ a, off a + s.size a ≤ s.size a) {hl : a.view.LoadsAt (Rect.unit (s := s) off s.size inb).toLoadRect}
    {k : (s.Idx → Elt F e) → Prog (TpuEff nD τ sig (Elt F) Λ .tc) α} :
    owns (c : Thread nD τ) a fullShare X ⊢ iprop((owns (c : Thread nD τ) a fullShare X -∗ wp frame (wpE (Ix := Unit) (Name := ℕ) (U := UR sig nD τ) (Lvl := ℕ) defs Variants.none (c : Thread nD τ) none) Set.univ (k X) Q)
      -∗ wp frame (wpE (Ix := Unit) (Name := ℕ) (U := UR sig nD τ) (Lvl := ℕ) defs Variants.none (c : Thread nD τ) none) Set.univ (.op (.load a (Rect.unit (s := s) off s.size inb).toLoadRect hl) k) Q) := by
  unfold owns
  iintro ⟨%f, %hf, H⟩ Hk
  iapply (wp_load_rect (m := a) (r := Rect.unit (s := s) off s.size inb) (hl := hl) (k := k) (Q := Q) Variants.none (c : Thread nD τ) none Set.univ
    (a.view.set_slice_subset _)) $$ H
  iintro H
  rw [show (a.access (Rect.unit (s := s) off s.size inb)).read (Elt F) f = X from
    (show _ = View.ld (a.view.read (Elt F) f) (Rect.unit off s.size inb) from rfl).trans ((View.ld_unit_zero h0 inb _).trans hf)]
  iapply Hk
  iexists f
  isplitr; · ipureintro; exact hf
  iexact H

/-- A store over a whole buffer, at an offset that is zero, leaves the payload in it. -/
theorem wp_store_owned {α : Type} (Q : α → sProp 𝕄) (a : Memref sig .tc .vmem s e) (X Y : s.Idx → Elt F e) {off : Fin s.rank → ℕ} (h0 : off = fun _ => 0)
    (inb : ∀ a, off a + s.size a ≤ s.size a) {hx : (a.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ .tc) α} :
    owns (c : Thread nD τ) a fullShare X ⊢ iprop((owns (c : Thread nD τ) a fullShare Y -∗ wp frame (wpE (Ix := Unit) (Name := ℕ) (U := UR sig nD τ) (Lvl := ℕ) defs Variants.none (c : Thread nD τ) none) Set.univ (k ⟨⟩) Q)
      -∗ wp frame (wpE (Ix := Unit) (Name := ℕ) (U := UR sig nD τ) (Lvl := ℕ) defs Variants.none (c : Thread nD τ) none) Set.univ (.op (.store a (Rect.unit (s := s) off s.size inb) Y Finset.univ hx hm) k) Q) := by
  unfold owns
  iintro ⟨%f, %hf, H⟩ Hk
  iapply (wp_store (m := a) (r := Rect.unit (s := s) off s.size inb) (w := Y) (hx := hx) (hm := hm) (k := k) (Q := Q) Variants.none (c : Thread nD τ) none Set.univ
    (a.setOn_access_subset _ _)) $$ H
  iintro H
  iapply Hk
  iexists _
  isplitr
  swap; · iexact H
  ipureintro
  subst h0
  funext y
  have hy : (Rect.unit (s := s) (fun _ => 0) s.size inb).emb y = y := Rect.emb_whole_apply s y
  conv_lhs => rw [← hy]
  exact View.read_slice_write_emb _ _ _ (Finset.mem_univ y)

end Whole

section Body

variable {K M N : ℕ}

/-- A matrix with as many entries as a stack of one matrix, -/
theorem casts_to : (⟨2, ![M, K]⟩ : Shape).ShapeCasts ⟨3, ![1, M, K]⟩ := by
  show (⟨3, ![1, M, K]⟩ : Shape).numel = (⟨2, ![M, K]⟩ : Shape).numel
  simp [Shape.numel, Fin.prod_univ_succ]
/-- and back. -/
theorem casts_from : (⟨3, ![1, M, K]⟩ : Shape).ShapeCasts ⟨2, ![M, K]⟩ := casts_to.symm

/-- What the scratch holds of a tile of the first operand: the tile transposed, as a stack of one. -/
def turned (x : Vec F ⟨2, ![K, M]⟩ .bf16) : Vec F ⟨3, ![1, M, K]⟩ .bf16 :=
  shapeCast ⟨3, ![1, M, K]⟩ (transpose ⟨2, ![M, K]⟩ [1, 0] x (Shape.transposes_10 K M)) casts_to

/-- What a point leaves in the result's buffer, from the scratch and a tile of the second operand. -/
def left (z : Vec F ⟨3, ![1, M, K]⟩ .bf16) (y : Vec F ⟨2, ![K, N]⟩ .bf16) : Vec F ⟨2, ![M, N]⟩ .bf16 :=
  truncf .bf16 (matmul (DotDims.plain M K N) none (shapeCast ⟨2, ![M, K]⟩ z casts_from : FVec F ⟨2, ![M, K]⟩ .bf16) (y : FVec F ⟨2, ![K, N]⟩ .bf16)
    (constant ⟨2, ![M, N]⟩ .f32 0x00000000#32)) (by decide)

variable (a3 : Memref sig .tc .vmem ⟨2, ![K, M]⟩ .bf16) (a4 : Memref sig .tc .vmem ⟨2, ![K, N]⟩ .bf16)
  (a5 : Memref sig .tc .vmem ⟨2, ![M, N]⟩ .bf16) (a6 : Memref sig .tc .vmem ⟨3, ![1, M, K]⟩ .bf16)
variable (o2 : Fin 3 → ℕ) (b2 : ∀ a, o2 a + (⟨3, ![1, M, K]⟩ : Shape).size a ≤ (⟨3, ![1, M, K]⟩ : Shape).size a)
  (b4 : ∀ a, (![0, 0] : Fin 2 → ℕ) a + (⟨2, ![K, N]⟩ : Shape).size a ≤ (⟨2, ![K, N]⟩ : Shape).size a)
  (b5 : ∀ a, (![0, 0] : Fin 2 → ℕ) a + (⟨2, ![M, N]⟩ : Shape).size a ≤ (⟨2, ![M, N]⟩ : Shape).size a)
  (l6 : a6.view.LoadsAt (Rect.unit (s := ⟨3, ![1, M, K]⟩) o2 (⟨3, ![1, M, K]⟩ : Shape).size b2).toLoadRect)
  (l4 : a4.view.LoadsAt (Rect.unit (s := ⟨2, ![K, N]⟩) ![0, 0] (⟨2, ![K, N]⟩ : Shape).size b4).toLoadRect)
  (l5 : a5.view.LoadsAt (Rect.unit (s := ⟨2, ![M, N]⟩) ![0, 0] (⟨2, ![M, N]⟩ : Shape).size b5).toLoadRect)
  (s5 : (a5.access (Rect.unit (s := ⟨2, ![M, N]⟩) ![0, 0] (⟨2, ![M, N]⟩ : Shape).size b5)).Stores Finset.univ)

/-- The part of the body that every point runs. -/
def later : Prog (TpuEff nD τ sig (Elt F) Λ .tc) PUnit :=
  .op (.load a6 (Rect.unit (s := ⟨3, ![1, M, K]⟩) o2 (⟨3, ![1, M, K]⟩ : Shape).size b2).toLoadRect l6) fun z =>
  .op (.load a4 (Rect.unit (s := ⟨2, ![K, N]⟩) ![0, 0] (⟨2, ![K, N]⟩ : Shape).size b4).toLoadRect l4) fun y =>
  .op (.load a5 (Rect.unit (s := ⟨2, ![M, N]⟩) ![0, 0] (⟨2, ![M, N]⟩ : Shape).size b5).toLoadRect l5) fun _ =>
  .op (.store a5 (Rect.unit (s := ⟨2, ![M, N]⟩) ![0, 0] (⟨2, ![M, N]⟩ : Shape).size b5) (left z y) Finset.univ s5 (.inl rfl)) .ret

variable (o1 : Fin 3 → ℕ) (b1 : ∀ a, o1 a + (⟨3, ![1, M, K]⟩ : Shape).size a ≤ (⟨3, ![1, M, K]⟩ : Shape).size a)
  (b3 : ∀ a, (![0, 0] : Fin 2 → ℕ) a + (⟨2, ![K, M]⟩ : Shape).size a ≤ (⟨2, ![K, M]⟩ : Shape).size a)
  (l3 : a3.view.LoadsAt (Rect.unit (s := ⟨2, ![K, M]⟩) ![0, 0] (⟨2, ![K, M]⟩ : Shape).size b3).toLoadRect)
  (l1 : a6.view.LoadsAt (Rect.unit (s := ⟨3, ![1, M, K]⟩) o1 (⟨3, ![1, M, K]⟩ : Shape).size b1).toLoadRect)
  (s1 : (a6.access (Rect.unit (s := ⟨3, ![1, M, K]⟩) o1 (⟨3, ![1, M, K]⟩ : Shape).size b1)).Stores Finset.univ)

/-- What the first point of a row of tiles runs. -/
def first : Prog (TpuEff nD τ sig (Elt F) Λ .tc) PUnit :=
  .op (.load a3 (Rect.unit (s := ⟨2, ![K, M]⟩) ![0, 0] (⟨2, ![K, M]⟩ : Shape).size b3).toLoadRect l3) fun x =>
  .op (.load a6 (Rect.unit (s := ⟨3, ![1, M, K]⟩) o1 (⟨3, ![1, M, K]⟩ : Shape).size b1).toLoadRect l1) fun _ =>
  .op (.store a6 (Rect.unit (s := ⟨3, ![1, M, K]⟩) o1 (⟨3, ![1, M, K]⟩ : Shape).size b1) (turned x) Finset.univ s1 (.inl rfl)) fun _ =>
  later a4 a5 a6 o2 b2 b4 b5 l6 l4 l5 s5

variable {defs : Defs nD τ sig (Elt F) Λ} {c : Dev nD}

/-- The part that every point runs leaves the product in the result's buffer and the other buffers as they were. -/
theorem later_wp (Q : PUnit → sProp 𝕄) (h2 : o2 = fun _ => 0) (y : Vec F ⟨2, ![K, N]⟩ .bf16) (z : Vec F ⟨3, ![1, M, K]⟩ .bf16) :
    iprop(owns (c : Thread nD τ) a4 fullShare y ∗ (∃ d, owns (c : Thread nD τ) a5 fullShare d) ∗ owns (c : Thread nD τ) a6 fullShare z
      ∗ (iprop(owns (c : Thread nD τ) a4 fullShare y ∗ owns (c : Thread nD τ) a5 fullShare (left z y) ∗ owns (c : Thread nD τ) a6 fullShare z) -∗ Q ⟨⟩))
    ⊢ wp frame (wpE (Ix := Unit) (Name := ℕ) (U := UR sig nD τ) (Lvl := ℕ) defs Variants.none (c : Thread nD τ) none) Set.univ
        (later a4 a5 a6 o2 b2 b4 b5 l6 l4 l5 s5) Q := by
  have h0 : (![0, 0] : Fin 2 → ℕ) = fun _ => 0 := by decide
  unfold later
  iintro ⟨H4, ⟨%d, H5⟩, H6, Hk⟩
  iapply (wp_load_owned Q a6 z h2 b2) $$ H6
  iintro H6
  iapply (wp_load_owned Q a4 y h0 b4) $$ H4
  iintro H4
  iapply (wp_load_owned Q a5 d h0 b5) $$ H5
  iintro H5
  iapply (wp_store_owned Q a5 d (left z y) h0 b5) $$ H5
  iintro H5
  iapply (le_wp_ret _ _ _ _ Q)
  iapply Hk
  isplitl [H4]; · iexact H4
  isplitl [H5]; · iexact H5
  iexact H6

/-- The first point of a row of tiles leaves the transposed tile in the scratch and its product in the result's buffer. -/
theorem first_wp (Q : PUnit → sProp 𝕄) (h1 : o1 = fun _ => 0) (h2 : o2 = fun _ => 0) (x : Vec F ⟨2, ![K, M]⟩ .bf16) (y : Vec F ⟨2, ![K, N]⟩ .bf16) :
    iprop(owns (c : Thread nD τ) a3 fullShare x ∗ owns (c : Thread nD τ) a4 fullShare y ∗ (∃ d, owns (c : Thread nD τ) a5 fullShare d)
      ∗ (∃ d, owns (c : Thread nD τ) a6 fullShare d)
      ∗ (iprop(owns (c : Thread nD τ) a3 fullShare x ∗ owns (c : Thread nD τ) a4 fullShare y ∗ owns (c : Thread nD τ) a5 fullShare (left (turned x) y)
          ∗ owns (c : Thread nD τ) a6 fullShare (turned x)) -∗ Q ⟨⟩))
    ⊢ wp frame (wpE (Ix := Unit) (Name := ℕ) (U := UR sig nD τ) (Lvl := ℕ) defs Variants.none (c : Thread nD τ) none) Set.univ
        (first a3 a4 a5 a6 o2 b2 b4 b5 l6 l4 l5 s5 o1 b1 b3 l3 l1 s1) Q := by
  have h0 : (![0, 0] : Fin 2 → ℕ) = fun _ => 0 := by decide
  unfold first
  iintro ⟨H3, H4, H5, ⟨%d, H6⟩, Hk⟩
  iapply (wp_load_owned Q a3 x h0 b3) $$ H3
  iintro H3
  iapply (wp_load_owned Q a6 d h1 b1) $$ H6
  iintro H6
  iapply (wp_store_owned Q a6 d (turned x) h1 b1) $$ H6
  iintro H6
  iapply (later_wp a4 a5 a6 o2 b2 b4 b5 l6 l4 l5 s5 Q h2 y (turned x))
  isplitl [H4]; · iexact H4
  isplitl [H5]; · iexact H5
  isplitl [H6]; · iexact H6
  iintro ⟨H4, H5, H6⟩
  iapply Hk
  isplitl [H3]; · iexact H3
  isplitl [H4]; · iexact H4
  isplitl [H5]; · iexact H5
  iexact H6

/-- A body that is what the first point of a row of tiles runs, its scratch accessed at zero. -/
def IsFirst (p : Prog (TpuEff nD τ sig (Elt F) Λ .tc) PUnit) : Prop :=
  ∃ o2 b2 b4 b5 l6 l4 l5 s5 o1 b1 b3 l3 l1 s1, (o1 = fun _ => 0) ∧ (o2 = fun _ => 0)
    ∧ p = first a3 a4 a5 a6 o2 b2 b4 b5 l6 l4 l5 s5 o1 b1 b3 l3 l1 s1
/-- A body that is what a later point runs. -/
def IsLater (p : Prog (TpuEff nD τ sig (Elt F) Λ .tc) PUnit) : Prop :=
  ∃ o2 b2 b4 b5 l6 l4 l5 s5, (o2 = fun _ => 0) ∧ p = later a4 a5 a6 o2 b2 b4 b5 l6 l4 l5 s5

/-- The body at any point, from what the launch hands it to what it hands back: the scratch is left at `z`, which at a first
    point is the transposed tile and at a later one what it was. -/
theorem point {φ : Prop} [Decidable φ] {Φ G O : sProp 𝕄} {α β γ : Type} {p : Prog (TpuEff nD τ sig (Elt F) Λ .tc) PUnit}
    (hf : φ → IsFirst a3 a4 a5 a6 p) (hl : ¬φ → IsLater a4 a5 a6 p)
    (x : Vec F ⟨2, ![K, M]⟩ .bf16) (y : Vec F ⟨2, ![K, N]⟩ .bf16) (w : γ → Vec F ⟨2, ![M, N]⟩ .bf16) (z : Vec F ⟨3, ![1, M, K]⟩ .bf16)
    (zf : φ → z = turned x) (hΦ : φ → Φ ⊢ iprop((∃ d, owns (c : Thread nD τ) a6 fullShare d) ∗ G))
    (zl : ¬φ → Φ = iprop(owns (c : Thread nD τ) a6 fullShare z ∗ G)) :
    iprop(Φ ∗ O ∗ (∃ _ : α, owns (c : Thread nD τ) a3 fullShare x) ∗ (∃ _ : β, owns (c : Thread nD τ) a4 fullShare y)
      ∗ (∃ d, owns (c : Thread nD τ) a5 fullShare (w d)))
    ⊢ wp frame (wpE (Ix := Unit) (Name := ℕ) (U := UR sig nD τ) (Lvl := ℕ) defs Variants.none (c : Thread nD τ) none) Set.univ p (fun _ =>
      iprop(iprop(owns (c : Thread nD τ) a6 fullShare z ∗ G) ∗ O ∗ owns (c : Thread nD τ) a3 fullShare x ∗ owns (c : Thread nD τ) a4 fullShare y
        ∗ owns (c : Thread nD τ) a5 fullShare (left z y))) := by
  by_cases h : φ
  · obtain ⟨o2, b2, b4, b5, l6, l4, l5, s5, o1, b1, b3, l3, l1, s1, h1, h2, rfl⟩ := hf h
    rw [zf h]
    iintro ⟨HS, Ho, ⟨%d0, H0⟩, ⟨%d1, H1⟩, ⟨%d2, H2⟩⟩
    ihave HS := (hΦ h) $$ HS
    icases HS with ⟨HS, Hg⟩
    iapply (first_wp _ _ _ _ _ _ _ _ _ _ _ _ _ _ _ _ _ _ _ h1 h2 x y)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · obtain ⟨o2, b2, b4, b5, l6, l4, l5, s5, h2, rfl⟩ := hl h
    rw [zl h]
    iintro ⟨⟨HS, Hg⟩, Ho, ⟨%d0, H0⟩, ⟨%d1, H1⟩, ⟨%d2, H2⟩⟩
    iapply (later_wp _ _ _ _ _ _ _ _ _ _ _ _ h2 y z)
    isplitl [H1]; · iexact H1
    isplitl [H2]; · iexists _; iexact H2
    isplitl [HS]; · iexact HS
    iintro ⟨H1, H2, HS⟩
    isplitl [HS Hg]
    · isplitl [HS]; · iexact HS
      iexact Hg
    isplitl [Ho]; · iexact Ho
    isplitl [H0]; · iexact H0
    isplitl [H1]; · iexact H1
    iexact H2

end Body

section Rows

variable {n₀ J : ℕ}

/-- The first point of the row of tiles that point `n` is in, where a row has `J` points. -/
def start (J : ℕ) (t : Fin n₀) : Fin n₀ := ⟨t.val - t.val % J, Nat.lt_of_le_of_lt (Nat.sub_le _ _) t.isLt⟩

/-- A first point is its own, -/
theorem start_first (t : Fin n₀) (h : t.val % J = 0) : start J t = t := Fin.ext (by show t.val - t.val % J = t.val; omega)
/-- and a later one has the first point of the one before it. -/
theorem start_later (t : Fin n₀) (hJ : 0 < J) (h : t.val % J ≠ 0) :
    start J ⟨t.val - 1, Nat.lt_of_le_of_lt (Nat.sub_le _ _) t.isLt⟩ = start J t := Fin.ext (by
  show t.val - 1 - (t.val - 1) % J = t.val - t.val % J
  have e := Nat.div_add_mod t.val J
  have h1 : t.val - 1 = t.val % J - 1 + J * (t.val / J) := by omega
  have h2 : (t.val - 1) % J = t.val % J - 1 := by
    rw [h1, Nat.add_mul_mod_self_left]
    exact Nat.mod_eq_of_lt (by have := Nat.mod_lt t.val hJ; omega)
  omega)

/-- What is owned before each point: `A` before the first, and what the point before left otherwise. -/
def kept (A : sProp 𝕄) (S : Fin n₀ → sProp 𝕄) : (n : ℕ) → n ≤ n₀ → sProp 𝕄
  | 0, _ => A
  | n + 1, h => S ⟨n, h⟩

theorem kept_pos (A : sProp 𝕄) (S : Fin n₀ → sProp 𝕄) (n : ℕ) (h : n ≤ n₀) (hz : n ≠ 0) : kept A S n h = S ⟨n - 1, by omega⟩ := by
  cases n with
  | zero => exact absurd rfl hz
  | succ n => rfl
theorem kept_any (A : sProp 𝕄) (S : Fin n₀ → sProp 𝕄) (hS : ∀ t, S t ⊢ A) (n : ℕ) (h : n ≤ n₀) : kept A S n h ⊢ A := by
  cases n with
  | zero => exact Entails.refl _
  | succ n => exact hS _

end Rows

section Value

variable {K M M₀ N : ℕ} {φ₁ φ₂ : FTy}
open scoped BigOperators

/-- Rows `o` and on of the product of a transposed matrix with another: at row `r` and column `c` the sum over `k` of
    `A[k, o + r] · B[k, c]`. -/
def gradW (o : ℕ) (ho : o + M ≤ M₀) (A : (⟨2, ![K, M₀]⟩ : Shape).Idx → EReal) (B : (⟨2, ![K, N]⟩ : Shape).Idx → EReal) :
    (⟨2, ![M, N]⟩ : Shape).Idx → EReal :=
  fun i => ∑ k : Fin K, A (ix2 k ⟨o + (i 0).val, Nat.lt_of_lt_of_le (Nat.add_lt_add_left (i 0).isLt o) ho⟩) * B (ix2 k (i 1))

/-- What a point leaves, over the extended reals: the product of its tiles. -/
theorem left_turned (x : Vec Ideal ⟨2, ![K, M]⟩ .bf16) (y : Vec Ideal ⟨2, ![K, N]⟩ .bf16) (i : (⟨2, ![M, N]⟩ : Shape).Idx) :
    left (turned x) y i = ∑ k : Fin K, (x (ix2 k (i 0)) : EReal) * y (ix2 k (i 1)) := by
  unfold left turned
  rw [shapeCast_shapeCast]
  refine (congrFun (matmul_zero_mul (φ₁ := .bf16) (φ₂ := .bf16) _ y) i).trans ?_
  refine Finset.sum_congr rfl fun k _ => ?_
  exact congrArg (· * y (ix2 k (i 1))) (transpose_ix2_apply x _ (i 0) k)

/-- The dimension numbers of the host's product of two matrices over their rows. -/
theorem dot_rows (d : DotDims ⟨2, ![K, N]⟩ ⟨2, ![K, M]⟩ ⟨2, ![N, M]⟩) (hl : d.lhsContracting = [0]) (hr : d.rhsContracting = [0])
    (hln : d.lhsNonContracting = [1]) (hrn : d.rhsNonContracting = [1]) (hlb : d.lhsBatch = []) (hrb : d.rhsBatch = [])
    (B : FVec Ideal ⟨2, ![K, N]⟩ φ₁) (A : FVec Ideal ⟨2, ![K, M]⟩ φ₂) (c : Fin N) (r : Fin M) :
    Host.dotGeneral d none B A (ix2 c r) = ∑ k : Fin K, B (ix2 k c) * A (ix2 k r) := by
  obtain ⟨_, _, _, _, _, _, wf⟩ := d
  subst hl hr hln hrn hlb hrb
  let d : DotDims ⟨2, ![K, N]⟩ ⟨2, ![K, M]⟩ ⟨2, ![N, M]⟩ := ⟨[0], [0], [1], [1], [], [], wf⟩
  show FloatOps.dotGeneral d _ _ _ _ _ = _
  rw [Ideal.dotGeneral_apply, ← Equiv.sum_comp (contrEquiv1 d K rfl rfl).symm]
  refine Finset.sum_congr rfl fun k _ => ?_
  have hk := contrEquiv1_symm_val d K rfl rfl k
  have el : d.lhsIdx (ix2 c r) ((contrEquiv1 d K rfl rfl).symm k) = ix2 k c := by
    funext a; apply Fin.ext
    match a with
    | ⟨0, _⟩ => exact hk
    | ⟨1, _⟩ => rfl
  have er : d.rhsIdx (ix2 c r) ((contrEquiv1 d K rfl rfl).symm k) = ix2 k r := by
    funext a; apply Fin.ext
    match a with
    | ⟨0, _⟩ => exact hk
    | ⟨1, _⟩ => rfl
  rw [el, er]

/-- The gradient that the reference makes of a product at its weight. -/
theorem ref_grad (d : DotDims ⟨2, ![K, N]⟩ ⟨2, ![K, M]⟩ ⟨2, ![N, M]⟩) (hl : d.lhsContracting = [0]) (hr : d.rhsContracting = [0])
    (hln : d.lhsNonContracting = [1]) (hrn : d.rhsNonContracting = [1]) (hlb : d.lhsBatch = []) (hrb : d.rhsBatch = [])
    (A : FVec Ideal ⟨2, ![K, M]⟩ .bf16) (B : FVec Ideal ⟨2, ![K, N]⟩ .bf16) (hw : FTy.bits .bf16 < FTy.bits .f32)
    (ht : (⟨2, ![N, M]⟩ : Shape).Transposes [1, 0] ⟨2, ![M, N]⟩) :
    (truncf .bf16 (transpose ⟨2, ![M, N]⟩ [1, 0] (Host.dotGeneral (F := Ideal) (φ₁ := .f32) (φ₂ := .bf16) d none (extf .f32 B hw) A : FVec Ideal ⟨2, ![N, M]⟩ .f32) ht : FVec Ideal ⟨2, ![M, N]⟩ .f32) hw
      : FVec Ideal ⟨2, ![M, N]⟩ .bf16) = gradW 0 (Nat.zero_add M).le A B := by
  funext i
  have h := transpose_ix2_apply (Host.dotGeneral (F := Ideal) (φ₁ := .f32) (φ₂ := .bf16) d none (extf .f32 B hw) A : FVec Ideal ⟨2, ![N, M]⟩ .f32) ht (i 0) (i 1)
  have e : i = ix2 (i 0) (i 1) := funext fun a => match a with
    | ⟨0, _⟩ => rfl
    | ⟨1, _⟩ => rfl
  have h' := dot_rows (φ₁ := .f32) (φ₂ := .bf16) d hl hr hln hrn hlb hrb (extf .f32 B hw) A (i 1) (i 0)
  rw [e]
  refine (h.trans h').trans (Finset.sum_congr rfl fun k _ => ?_)
  exact (mul_comm _ _).trans (congrArg (· * B (ix2 k (i 1))) (at2 A rfl (Nat.zero_add _).symm))

/-- Rows of it. -/
theorem slice_grad (o : ℕ) (ho : o + M ≤ M₀) (d : DotDims ⟨2, ![K, N]⟩ ⟨2, ![K, M₀]⟩ ⟨2, ![N, M₀]⟩) (hl : d.lhsContracting = [0]) (hr : d.rhsContracting = [0])
    (hln : d.lhsNonContracting = [1]) (hrn : d.rhsNonContracting = [1]) (hlb : d.lhsBatch = []) (hrb : d.rhsBatch = [])
    (A : FVec Ideal ⟨2, ![K, M₀]⟩ .bf16) (B : FVec Ideal ⟨2, ![K, N]⟩ .bf16) (hw : FTy.bits .bf16 < FTy.bits .f32)
    (ht : (⟨2, ![N, M₀]⟩ : Shape).Transposes [1, 0] ⟨2, ![M₀, N]⟩) (hs) :
    (extractStridedSlice ⟨2, ![M, N]⟩ ![o, 0] (truncf .bf16 (transpose ⟨2, ![M₀, N]⟩ [1, 0]
        (Host.dotGeneral (F := Ideal) (φ₁ := .f32) (φ₂ := .bf16) d none (extf .f32 B hw) A : FVec Ideal ⟨2, ![N, M₀]⟩ .f32) ht : FVec Ideal ⟨2, ![M₀, N]⟩ .f32) hw : FVec Ideal ⟨2, ![M₀, N]⟩ .bf16) hs
      : FVec Ideal ⟨2, ![M, N]⟩ .bf16) = gradW o ho A B := by
  rw [ref_grad d hl hr hln hrn hlb hrb]
  funext i
  refine (extractStridedSlice_apply _ _ hs i (ix2 ⟨o + (i 0).val, Nat.lt_of_lt_of_le (Nat.add_lt_add_left (i 0).isLt o) ho⟩ (i 1)) fun a => match a with
    | ⟨0, _⟩ => rfl
    | ⟨1, _⟩ => (Nat.zero_add _).symm).trans ?_
  exact Finset.sum_congr rfl fun k _ => congrArg (· * B (ix2 k (i 1))) (at2 A rfl (Nat.zero_add _))

end Value

end Cert.Prod

end
-- ==== Proof.Prod.DownWgrad.lean ====
/-
  The gradient of the down projection's weight: as for the output projection's.
-/
module

public import proofs.«01_k».proof.Defs
public import proofs.«01_k».proof.Proof.Prod.Wgrad
public import proofs.«01_k».proof.Proof.Gen.KDownWgrad.Frame
public import proofs.«01_k».proof.Proof.Gen.KDownWgradIdeal.Frame
public import proofs.«01_k».proof.Proof.Gen.RDownWgradIdeal.Run

@[expose] public section

set_option maxRecDepth 16384

noncomputable section

namespace Cert.Prod.DownWgrad

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

section Run
open Cert.KDownWgradIdeal Cert.KDownWgradIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first points of the rows of tiles. -/
theorem starts (t : Fin cfg0.N) : k0_cond1 (grid0.coords t) = 1#1 ↔ t.val % 2 = 0 :=
  (by decide +kernel : ∀ t : Fin grid0.N, k0_cond1 (grid0.coords t) = 1#1 ↔ t.val % 2 = 0) t

/-- The scratch holds one tile, so every access of it is at zero. -/
theorem off1 (t : Fin cfg0.N) : k0_off1 (grid0.coords t) = fun _ => 0 :=
  (by decide +kernel : ∀ t : Fin grid0.N, k0_off1 (grid0.coords t) = fun _ => 0) t
theorem off2 (t : Fin cfg0.N) : k0_off2 (grid0.coords t) = fun _ => 0 :=
  (by decide +kernel : ∀ t : Fin grid0.N, k0_off2 (grid0.coords t) = fun _ => 0) t

/-- The tiles that a point is given, -/
def x (t : Fin cfg0.N) : Vec F S4096x512 .bf16 := iblk m c 0 t
def y (t : Fin cfg0.N) : Vec F S4096x1024 .bf16 := iblk m c 1 t
/-- what it leaves in the scratch, -/
def held (t : Fin cfg0.N) : Vec F S1x512x4096 .bf16 := turned (x m c (start 2 t))
/-- the scratch, -/
abbrev scr : Memref sig .tc .vmem S1x512x4096 .bf16 := Memref.whole cc0_scratch0
/-- and what is owned of it before a point. -/
def Phi : (n : ℕ) → n ≤ cfg0.N → sProp 𝕄 :=
  kept (Pipeline.ΦA spec0 c) fun t => iprop(owns (c : Thread nD τ) scr fullShare (held m c t) ∗ (∃ r, prngReg c r))

/-- At the launch it is at anything. -/
theorem PhiA_eq : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem Phi_any (n : ℕ) (h : n ≤ cfg0.N) : Phi m c n h ⊢ Pipeline.ΦA spec0 c :=
  kept_any _ _ (fun t => by
    rw [PhiA_eq]
    iintro ⟨H, Hg⟩
    isplitl [H]
    · iexists _; iexact H
    iexact Hg) n h

/-- The proof data: a point leaves the tiles it is given as they are and the product in the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left (held m c t) (y m c t)
  Φ t := Phi m c t.val (Nat.le_of_lt_succ t.isLt)
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = Phi m c t.val (Nat.le_of_lt t.isLt) := by
  dsimp only [dats]; exact Pipeline.Dat.Φ_castSucc (Phi m c) t
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = left (held m c t) (y m c t) := by dsimp only [dats]
theorem before0 (t : Fin cfg0.N) (d) : (dats m 0 c).before 0 t d = x m c t :=
  before0_0_of m (dats m 0 c) (A_eq m c 0) (after0 m c) t d
theorem before1 (t : Fin cfg0.N) (d) : (dats m 0 c).before 1 t d = y m c t :=
  before0_1_of m (dats m 0 c) (A_eq m c 1) (after1 m c) t d

/-- The body at any point, from what the launch hands it to what it hands back. -/
theorem sound (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  simp only [before0, before1]
  rw [Phi_castSucc]
  refine point (φ := t.val % 2 = 0) (a3 := st0_0 t) (a4 := st0_1 t) (a5 := st0_2 t) (a6 := scr) (fun h => ?_) (fun h => ?_)
    (x m c t) (y m c t) _ (held m c t) (fun h => congrArg (fun t => turned (x m c t)) (start_first t h)) (fun _ => PhiA_eq (F := F) c ▸ Phi_any m c _ _)
    (fun h => (kept_pos _ _ t.val _ fun e => h (by rw [e])).trans (by unfold held; rw [start_later t (by decide) h]))
  · have h1 := (starts t).mpr h
    unfold bodyAt0 cc0_down_wgrad
    simp only [dif_pos h1]
    exact ⟨_, _, _, _, _, _, _, _, _, _, _, _, _, _, off1 t, off2 t, rfl⟩
  · have h1 := fun e => h ((starts t).mp e)
    unfold bodyAt0 cc0_down_wgrad
    simp only [dif_neg h1]
    exact ⟨_, _, _, _, _, _, _, _, off2 t, rfl⟩

theorem row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, row]
  exact triple_restated (sound m c t) rfl .rfl fun _ => .rfl
theorem hin : Pipeline.ΦA spec0 c ⊢ (dats m 0 c).Φ 0 := Entails.refl _
theorem hout : (dats m 0 c).Φ (Fin.last cfg0.N) ⊢ Pipeline.ΦA spec0 c := by
  exact Phi_any m c cfg0.N (Nat.le_refl _)

set_option backward.isDefEq.respectTransparency.types false in
/-- The launch: the arrays end as the proof data say, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's array ends as the proof data say, the arguments unchanged, and the semaphores at zero. -/
theorem run : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (launch m ρ)

end Run

section Value
open Cert.KDownWgradIdeal Cert.KDownWgradIdeal.Gen

variable (m : (ℓ : Loc nD τ sig) → Buf (Elt Ideal) ℓ) (c : Dev nD)

/-- The tiles of a grid point. -/
theorem idx : ∀ t : Fin cfg0.N, win0_0.index t (0 : Fin 2) = 0 ∧ win0_0.index t (1 : Fin 2) = t.val / 2
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

/-- An entry of the first argument's tile. -/
theorem x_apply (t : Fin cfg0.N) (k : Fin 4096) (j : Fin 512) (h : t.val / 2 * 512 + j.val < 5632) :
    x m c t (ix2 k j) = (m ((c : Thread nD τ).loc main_arg0) : Vec Ideal S4096x5632 .bf16) (ix2 k ⟨t.val / 2 * 512 + j.val, h⟩) := by
  obtain ⟨e0, e1, -⟩ := idx t
  refine at2 (m ((c : Thread nD τ).loc main_arg0)) ?_ ?_
  · show win0_0.index t (0 : Fin 2) * 4096 + 1 * k.val = k.val
    rw [e0]; omega
  · show win0_0.index t (1 : Fin 2) * 512 + 1 * j.val = t.val / 2 * 512 + j.val
    rw [e1]; omega

/-- The result's array after the launch. -/
theorem final : (dats m 0 c).arrAt 2 cfg0.N = gradW (M := 5632) 0 (by decide) (m ((c : Thread nD τ).loc main_arg0) : Vec Ideal S4096x5632 .bf16)
    (m ((c : Thread nD τ).loc main_arg1) : Vec Ideal S4096x2048 .bf16) := by
  refine (dats m 0 c).arrAt_eq_of_covers 2 _ (by decide +kernel) fun t hf z => ?_
  show (dats m 0 c).after 2 t ((cfg0.win 2).xinj (grid0.coords t) z) = gradW _ _ _ _ (((cfg0.win 2).blk t).view.emb z)
  rw [after2]
  refine (left_turned _ _ _).trans (Finset.sum_congr rfl fun k _ => ?_)
  obtain ⟨-, -, e2, e3, d0, d1⟩ := idx t
  have ht : t.val < 22 := Nat.lt_of_lt_of_eq t.isLt N_0
  have hz : (z 0).val < 512 := (z 0).isLt
  have hs : (start 2 t).val = t.val - t.val % 2 := rfl
  refine congrArg₂ (· * ·) ((x_apply m c _ k (z 0) (by omega)).trans (at2 (m ((c : Thread nD τ).loc main_arg0)) rfl ?_)) (at2 (m ((c : Thread nD τ).loc main_arg1)) ?_ ?_)
  · show (start 2 t).val / 2 * 512 + (z 0).val = 0 + (win0_2.index t (0 : Fin 2) * 512 + 1 * (z 0).val)
    rw [d0, hs]; omega
  · show win0_1.index t (0 : Fin 2) * 4096 + 1 * k.val = k.val
    rw [e2]; omega
  · show win0_1.index t (1 : Fin 2) * 1024 + 1 * (z 1).val = win0_2.index t (1 : Fin 2) * 1024 + 1 * (z 1).val
    rw [e3, d1]

end Value

/-- The kernel's text is the idealized one's at bit patterns. -/
theorem main_eq : (Cert.KDownWgrad.main (F := Bits) : _) = (Cert.KDownWgradIdeal.main (F := Bits) : _) := by sl_kernel_rfl
theorem defs_eq : (Cert.KDownWgrad.defs (F := Bits) : _) = (Cert.KDownWgradIdeal.defs (F := Bits) : _) := by sl_kernel_rfl

/-- The kernel runs, its arguments unchanged and its semaphores at zero. -/
theorem quiescent_kernel : Cert.quiescent_KDownWgrad := by
  intro m g _
  rw [main_eq, defs_eq]
  exact (θ_run (Cert.KDownWgradIdeal.defs (F := Bits)) _ _).mono (fun r h => ⟨fun c => (h.1 c).2, h.2⟩) (run (F := Bits) m g)
/-- So does the idealized kernel. -/
theorem quiescent_ideal : Cert.quiescent_KDownWgradIdeal := fun m g _ =>
  (θ_run Cert.KDownWgradIdeal.defs _ _).mono (fun r h => ⟨fun c => (h.1 c).2, h.2⟩) (run m g)
/-- So does the reference. -/
theorem quiescent_reference : Cert.quiescent_RDownWgradIdeal := fun m g _ =>
  (θ_run Cert.RDownWgradIdeal.defs _ _).mono (fun r h => ⟨fun c => (h c).2, sem_eq_zero_of_no_sems rfl _⟩) (Cert.RDownWgradIdeal.Value.run m g)

/-- The kernel and the reference end with the same gradient. -/
theorem algebraic : Cert.algebraic_KDownWgradIdeal_RDownWgradIdeal := fun m g m' g' _ harg =>
  ⟨fun c => gradW (M := 5632) 0 (by decide) (m ((c.tc : Thread Cert.KDownWgradIdeal.nD Cert.KDownWgradIdeal.τ).loc Cert.KDownWgradIdeal.main_arg0) : Vec Ideal Cert.KDownWgradIdeal.S4096x5632 .bf16)
      (m ((c.tc : Thread Cert.KDownWgradIdeal.nD Cert.KDownWgradIdeal.τ).loc Cert.KDownWgradIdeal.main_arg1) : Vec Ideal Cert.KDownWgradIdeal.S4096x2048 .bf16),
    (θ_run Cert.KDownWgradIdeal.defs _ _).mono (fun r h c => ⟨(h.1 c).1.trans (final m c), (h.1 c).2⟩) (run m g),
    (θ_run Cert.RDownWgradIdeal.defs _ _).mono (fun r h c => ⟨by
      rw [(h c).1, (harg c).1, (harg c).2]
      exact ref_grad Cert.RDownWgradIdeal.dot_S4096x2048_S4096x5632_S2048x5632_0_0_1_1_n_n rfl rfl rfl rfl rfl rfl _ _ _ _, (h c).2⟩) (Cert.RDownWgradIdeal.Value.run m' g')⟩

end Cert.Prod.DownWgrad

end
-- ==== Proof.Prod.OWgrad.lean ====
/-
  The gradient of the output projection's weight: a grid point leaves the tile of the product of the first argument's
  transpose with the second, the transposed tile staying in the scratch over a row of tiles.
-/
module

public import proofs.«01_k».proof.Defs
public import proofs.«01_k».proof.Proof.Prod.Wgrad
public import proofs.«01_k».proof.Proof.Gen.KOWgrad.Frame
public import proofs.«01_k».proof.Proof.Gen.KOWgradIdeal.Frame
public import proofs.«01_k».proof.Proof.Gen.ROWgradIdeal.Run

@[expose] public section

set_option maxRecDepth 16384

noncomputable section

namespace Cert.Prod.OWgrad

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

section Run
open Cert.KOWgradIdeal Cert.KOWgradIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first points of the rows of tiles. -/
theorem starts (t : Fin cfg0.N) : k0_cond1 (grid0.coords t) = 1#1 ↔ t.val % 2 = 0 :=
  (by decide +kernel : ∀ t : Fin grid0.N, k0_cond1 (grid0.coords t) = 1#1 ↔ t.val % 2 = 0) t

/-- The scratch holds one tile, so every access of it is at zero. -/
theorem off1 (t : Fin cfg0.N) : k0_off1 (grid0.coords t) = fun _ => 0 :=
  (by decide +kernel : ∀ t : Fin grid0.N, k0_off1 (grid0.coords t) = fun _ => 0) t
theorem off2 (t : Fin cfg0.N) : k0_off2 (grid0.coords t) = fun _ => 0 :=
  (by decide +kernel : ∀ t : Fin grid0.N, k0_off2 (grid0.coords t) = fun _ => 0) t

/-- The tiles that a point is given, -/
def x (t : Fin cfg0.N) : Vec F S4096x1024 .bf16 := iblk m c 0 t
def y (t : Fin cfg0.N) : Vec F S4096x1024 .bf16 := iblk m c 1 t
/-- what it leaves in the scratch, -/
def held (t : Fin cfg0.N) : Vec F S1x1024x4096 .bf16 := turned (x m c (start 2 t))
/-- the scratch, -/
abbrev scr : Memref sig .tc .vmem S1x1024x4096 .bf16 := Memref.whole cc0_scratch0
/-- and what is owned of it before a point. -/
def Phi : (n : ℕ) → n ≤ cfg0.N → sProp 𝕄 :=
  kept (Pipeline.ΦA spec0 c) fun t => iprop(owns (c : Thread nD τ) scr fullShare (held m c t) ∗ (∃ r, prngReg c r))

/-- At the launch it is at anything. -/
theorem PhiA_eq : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem Phi_any (n : ℕ) (h : n ≤ cfg0.N) : Phi m c n h ⊢ Pipeline.ΦA spec0 c :=
  kept_any _ _ (fun t => by
    rw [PhiA_eq]
    iintro ⟨H, Hg⟩
    isplitl [H]
    · iexists _; iexact H
    iexact Hg) n h

/-- The proof data: a point leaves the tiles it is given as they are and the product in the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left (held m c t) (y m c t)
  Φ t := Phi m c t.val (Nat.le_of_lt_succ t.isLt)
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = Phi m c t.val (Nat.le_of_lt t.isLt) := by
  dsimp only [dats]; exact Pipeline.Dat.Φ_castSucc (Phi m c) t
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = left (held m c t) (y m c t) := by dsimp only [dats]
theorem before0 (t : Fin cfg0.N) (d) : (dats m 0 c).before 0 t d = x m c t :=
  before0_0_of m (dats m 0 c) (A_eq m c 0) (after0 m c) t d
theorem before1 (t : Fin cfg0.N) (d) : (dats m 0 c).before 1 t d = y m c t :=
  before0_1_of m (dats m 0 c) (A_eq m c 1) (after1 m c) t d

/-- The body at any point, from what the launch hands it to what it hands back. -/
theorem sound (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  simp only [before0, before1]
  rw [Phi_castSucc]
  refine point (φ := t.val % 2 = 0) (a3 := st0_0 t) (a4 := st0_1 t) (a5 := st0_2 t) (a6 := scr) (fun h => ?_) (fun h => ?_)
    (x m c t) (y m c t) _ (held m c t) (fun h => congrArg (fun t => turned (x m c t)) (start_first t h)) (fun _ => PhiA_eq (F := F) c ▸ Phi_any m c _ _)
    (fun h => (kept_pos _ _ t.val _ fun e => h (by rw [e])).trans (by unfold held; rw [start_later t (by decide) h]))
  · have h1 := (starts t).mpr h
    unfold bodyAt0 cc0_o_wgrad
    simp only [dif_pos h1]
    exact ⟨_, _, _, _, _, _, _, _, _, _, _, _, _, _, off1 t, off2 t, rfl⟩
  · have h1 := fun e => h ((starts t).mp e)
    unfold bodyAt0 cc0_o_wgrad
    simp only [dif_neg h1]
    exact ⟨_, _, _, _, _, _, _, _, off2 t, rfl⟩

theorem row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, row]
  exact triple_restated (sound m c t) rfl .rfl fun _ => .rfl
theorem hin : Pipeline.ΦA spec0 c ⊢ (dats m 0 c).Φ 0 := Entails.refl _
theorem hout : (dats m 0 c).Φ (Fin.last cfg0.N) ⊢ Pipeline.ΦA spec0 c := by
  exact Phi_any m c cfg0.N (Nat.le_refl _)

set_option backward.isDefEq.respectTransparency.types false in
/-- The launch: the arrays end as the proof data say, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's array ends as the proof data say, the arguments unchanged, and the semaphores at zero. -/
theorem run : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (launch m ρ)

end Run

section Value
open Cert.KOWgradIdeal Cert.KOWgradIdeal.Gen

variable (m : (ℓ : Loc nD τ sig) → Buf (Elt Ideal) ℓ) (c : Dev nD)

/-- The tiles of a grid point. -/
theorem idx : ∀ t : Fin cfg0.N, win0_0.index t (0 : Fin 2) = 0 ∧ win0_0.index t (1 : Fin 2) = t.val / 2
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

/-- An entry of the first argument's tile. -/
theorem x_apply (t : Fin cfg0.N) (k : Fin 4096) (j : Fin 1024) (h : t.val / 2 * 1024 + j.val < 2048) :
    x m c t (ix2 k j) = (m ((c : Thread nD τ).loc main_arg0) : Vec Ideal S4096x2048 .bf16) (ix2 k ⟨t.val / 2 * 1024 + j.val, h⟩) := by
  obtain ⟨e0, e1, -⟩ := idx t
  refine at2 (m ((c : Thread nD τ).loc main_arg0)) ?_ ?_
  · show win0_0.index t (0 : Fin 2) * 4096 + 1 * k.val = k.val
    rw [e0]; omega
  · show win0_0.index t (1 : Fin 2) * 1024 + 1 * j.val = t.val / 2 * 1024 + j.val
    rw [e1]; omega

/-- The result's array after the launch. -/
theorem final : (dats m 0 c).arrAt 2 cfg0.N = gradW (M := 2048) 0 (by decide) (m ((c : Thread nD τ).loc main_arg0) : Vec Ideal S4096x2048 .bf16)
    (m ((c : Thread nD τ).loc main_arg1) : Vec Ideal S4096x2048 .bf16) := by
  refine (dats m 0 c).arrAt_eq_of_covers 2 _ (by decide +kernel) fun t hf z => ?_
  show (dats m 0 c).after 2 t ((cfg0.win 2).xinj (grid0.coords t) z) = gradW _ _ _ _ (((cfg0.win 2).blk t).view.emb z)
  rw [after2]
  refine (left_turned _ _ _).trans (Finset.sum_congr rfl fun k _ => ?_)
  obtain ⟨-, -, e2, e3, d0, d1⟩ := idx t
  have ht : t.val < 4 := Nat.lt_of_lt_of_eq t.isLt N_0
  have hz : (z 0).val < 1024 := (z 0).isLt
  have hs : (start 2 t).val = t.val - t.val % 2 := rfl
  refine congrArg₂ (· * ·) ((x_apply m c _ k (z 0) (by omega)).trans (at2 (m ((c : Thread nD τ).loc main_arg0)) rfl ?_)) (at2 (m ((c : Thread nD τ).loc main_arg1)) ?_ ?_)
  · show (start 2 t).val / 2 * 1024 + (z 0).val = 0 + (win0_2.index t (0 : Fin 2) * 1024 + 1 * (z 0).val)
    rw [d0, hs]; omega
  · show win0_1.index t (0 : Fin 2) * 4096 + 1 * k.val = k.val
    rw [e2]; omega
  · show win0_1.index t (1 : Fin 2) * 1024 + 1 * (z 1).val = win0_2.index t (1 : Fin 2) * 1024 + 1 * (z 1).val
    rw [e3, d1]

end Value

/-- The kernel's text is the idealized one's at bit patterns. -/
theorem main_eq : (Cert.KOWgrad.main (F := Bits) : _) = (Cert.KOWgradIdeal.main (F := Bits) : _) := by sl_kernel_rfl
theorem defs_eq : (Cert.KOWgrad.defs (F := Bits) : _) = (Cert.KOWgradIdeal.defs (F := Bits) : _) := by sl_kernel_rfl

/-- The kernel runs, its arguments unchanged and its semaphores at zero. -/
theorem quiescent_kernel : Cert.quiescent_KOWgrad := by
  intro m g _
  rw [main_eq, defs_eq]
  exact (θ_run (Cert.KOWgradIdeal.defs (F := Bits)) _ _).mono (fun r h => ⟨fun c => (h.1 c).2, h.2⟩) (run (F := Bits) m g)
/-- So does the idealized kernel. -/
theorem quiescent_ideal : Cert.quiescent_KOWgradIdeal := fun m g _ =>
  (θ_run Cert.KOWgradIdeal.defs _ _).mono (fun r h => ⟨fun c => (h.1 c).2, h.2⟩) (run m g)
/-- So does the reference. -/
theorem quiescent_reference : Cert.quiescent_ROWgradIdeal := fun m g _ =>
  (θ_run Cert.ROWgradIdeal.defs _ _).mono (fun r h => ⟨fun c => (h c).2, sem_eq_zero_of_no_sems rfl _⟩) (Cert.ROWgradIdeal.Value.run m g)

/-- The kernel and the reference end with the same gradient. -/
theorem algebraic : Cert.algebraic_KOWgradIdeal_ROWgradIdeal := fun m g m' g' _ harg =>
  ⟨fun c => gradW (M := 2048) 0 (by decide) (m ((c.tc : Thread Cert.KOWgradIdeal.nD Cert.KOWgradIdeal.τ).loc Cert.KOWgradIdeal.main_arg0) : Vec Ideal Cert.KOWgradIdeal.S4096x2048 .bf16)
      (m ((c.tc : Thread Cert.KOWgradIdeal.nD Cert.KOWgradIdeal.τ).loc Cert.KOWgradIdeal.main_arg1) : Vec Ideal Cert.KOWgradIdeal.S4096x2048 .bf16),
    (θ_run Cert.KOWgradIdeal.defs _ _).mono (fun r h c => ⟨(h.1 c).1.trans (final m c), (h.1 c).2⟩) (run m g),
    (θ_run Cert.ROWgradIdeal.defs _ _).mono (fun r h c => ⟨by
      rw [(h c).1, (harg c).1, (harg c).2]
      exact ref_grad Cert.ROWgradIdeal.dot_S4096x2048_S4096x2048_S2048x2048_0_0_1_1_n_n rfl rfl rfl rfl rfl rfl _ _ _ _, (h c).2⟩) (Cert.ROWgradIdeal.Value.run m' g')⟩

end Cert.Prod.OWgrad

end
-- ==== Proof.Prod.OutWgrad.lean ====
/-
  The gradient of the weight of a mixer's projection to the model width: as for the output projection's.
-/
module

public import proofs.«01_k».proof.Defs
public import proofs.«01_k».proof.Proof.Prod.Wgrad
public import proofs.«01_k».proof.Proof.Gen.KOutWgrad.Frame
public import proofs.«01_k».proof.Proof.Gen.KOutWgradIdeal.Frame
public import proofs.«01_k».proof.Proof.Gen.ROutWgradIdeal.Run

@[expose] public section

set_option maxRecDepth 16384

noncomputable section

namespace Cert.Prod.OutWgrad

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

section Run
open Cert.KOutWgradIdeal Cert.KOutWgradIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first points of the rows of tiles. -/
theorem starts (t : Fin cfg0.N) : k0_cond1 (grid0.coords t) = 1#1 ↔ t.val % 2 = 0 :=
  (by decide +kernel : ∀ t : Fin grid0.N, k0_cond1 (grid0.coords t) = 1#1 ↔ t.val % 2 = 0) t

/-- The scratch holds one tile, so every access of it is at zero. -/
theorem off1 (t : Fin cfg0.N) : k0_off1 (grid0.coords t) = fun _ => 0 :=
  (by decide +kernel : ∀ t : Fin grid0.N, k0_off1 (grid0.coords t) = fun _ => 0) t
theorem off2 (t : Fin cfg0.N) : k0_off2 (grid0.coords t) = fun _ => 0 :=
  (by decide +kernel : ∀ t : Fin grid0.N, k0_off2 (grid0.coords t) = fun _ => 0) t

/-- The tiles that a point is given, -/
def x (t : Fin cfg0.N) : Vec F S4096x1024 .bf16 := iblk m c 0 t
def y (t : Fin cfg0.N) : Vec F S4096x1024 .bf16 := iblk m c 1 t
/-- what it leaves in the scratch, -/
def held (t : Fin cfg0.N) : Vec F S1x1024x4096 .bf16 := turned (x m c (start 2 t))
/-- the scratch, -/
abbrev scr : Memref sig .tc .vmem S1x1024x4096 .bf16 := Memref.whole cc0_scratch0
/-- and what is owned of it before a point. -/
def Phi : (n : ℕ) → n ≤ cfg0.N → sProp 𝕄 :=
  kept (Pipeline.ΦA spec0 c) fun t => iprop(owns (c : Thread nD τ) scr fullShare (held m c t) ∗ (∃ r, prngReg c r))

/-- At the launch it is at anything. -/
theorem PhiA_eq : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem Phi_any (n : ℕ) (h : n ≤ cfg0.N) : Phi m c n h ⊢ Pipeline.ΦA spec0 c :=
  kept_any _ _ (fun t => by
    rw [PhiA_eq]
    iintro ⟨H, Hg⟩
    isplitl [H]
    · iexists _; iexact H
    iexact Hg) n h

/-- The proof data: a point leaves the tiles it is given as they are and the product in the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left (held m c t) (y m c t)
  Φ t := Phi m c t.val (Nat.le_of_lt_succ t.isLt)
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = Phi m c t.val (Nat.le_of_lt t.isLt) := by
  dsimp only [dats]; exact Pipeline.Dat.Φ_castSucc (Phi m c) t
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = left (held m c t) (y m c t) := by dsimp only [dats]
theorem before0 (t : Fin cfg0.N) (d) : (dats m 0 c).before 0 t d = x m c t :=
  before0_0_of m (dats m 0 c) (A_eq m c 0) (after0 m c) t d
theorem before1 (t : Fin cfg0.N) (d) : (dats m 0 c).before 1 t d = y m c t :=
  before0_1_of m (dats m 0 c) (A_eq m c 1) (after1 m c) t d

/-- The body at any point, from what the launch hands it to what it hands back. -/
theorem sound (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  simp only [before0, before1]
  rw [Phi_castSucc]
  refine point (φ := t.val % 2 = 0) (a3 := st0_0 t) (a4 := st0_1 t) (a5 := st0_2 t) (a6 := scr) (fun h => ?_) (fun h => ?_)
    (x m c t) (y m c t) _ (held m c t) (fun h => congrArg (fun t => turned (x m c t)) (start_first t h)) (fun _ => PhiA_eq (F := F) c ▸ Phi_any m c _ _)
    (fun h => (kept_pos _ _ t.val _ fun e => h (by rw [e])).trans (by unfold held; rw [start_later t (by decide) h]))
  · have h1 := (starts t).mpr h
    unfold bodyAt0 cc0_out_gla_wgrad
    simp only [dif_pos h1]
    exact ⟨_, _, _, _, _, _, _, _, _, _, _, _, _, _, off1 t, off2 t, rfl⟩
  · have h1 := fun e => h ((starts t).mp e)
    unfold bodyAt0 cc0_out_gla_wgrad
    simp only [dif_neg h1]
    exact ⟨_, _, _, _, _, _, _, _, off2 t, rfl⟩

theorem row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, row]
  exact triple_restated (sound m c t) rfl .rfl fun _ => .rfl
theorem hin : Pipeline.ΦA spec0 c ⊢ (dats m 0 c).Φ 0 := Entails.refl _
theorem hout : (dats m 0 c).Φ (Fin.last cfg0.N) ⊢ Pipeline.ΦA spec0 c := by
  exact Phi_any m c cfg0.N (Nat.le_refl _)

set_option backward.isDefEq.respectTransparency.types false in
/-- The launch: the arrays end as the proof data say, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's array ends as the proof data say, the arguments unchanged, and the semaphores at zero. -/
theorem run : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (launch m ρ)

end Run

section Value
open Cert.KOutWgradIdeal Cert.KOutWgradIdeal.Gen

variable (m : (ℓ : Loc nD τ sig) → Buf (Elt Ideal) ℓ) (c : Dev nD)

/-- The tiles of a grid point. -/
theorem idx : ∀ t : Fin cfg0.N, win0_0.index t (0 : Fin 2) = 0 ∧ win0_0.index t (1 : Fin 2) = t.val / 2
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

/-- An entry of the first argument's tile. -/
theorem x_apply (t : Fin cfg0.N) (k : Fin 4096) (j : Fin 1024) (h : t.val / 2 * 1024 + j.val < 1024) :
    x m c t (ix2 k j) = (m ((c : Thread nD τ).loc main_arg0) : Vec Ideal S4096x1024 .bf16) (ix2 k ⟨t.val / 2 * 1024 + j.val, h⟩) := by
  obtain ⟨e0, e1, -⟩ := idx t
  refine at2 (m ((c : Thread nD τ).loc main_arg0)) ?_ ?_
  · show win0_0.index t (0 : Fin 2) * 4096 + 1 * k.val = k.val
    rw [e0]; omega
  · show win0_0.index t (1 : Fin 2) * 1024 + 1 * j.val = t.val / 2 * 1024 + j.val
    rw [e1]; omega

/-- The result's array after the launch. -/
theorem final : (dats m 0 c).arrAt 2 cfg0.N = gradW (M := 1024) 0 (by decide) (m ((c : Thread nD τ).loc main_arg0) : Vec Ideal S4096x1024 .bf16)
    (m ((c : Thread nD τ).loc main_arg1) : Vec Ideal S4096x2048 .bf16) := by
  refine (dats m 0 c).arrAt_eq_of_covers 2 _ (by decide +kernel) fun t hf z => ?_
  show (dats m 0 c).after 2 t ((cfg0.win 2).xinj (grid0.coords t) z) = gradW _ _ _ _ (((cfg0.win 2).blk t).view.emb z)
  rw [after2]
  refine (left_turned _ _ _).trans (Finset.sum_congr rfl fun k _ => ?_)
  obtain ⟨-, -, e2, e3, d0, d1⟩ := idx t
  have ht : t.val < 2 := Nat.lt_of_lt_of_eq t.isLt N_0
  have hz : (z 0).val < 1024 := (z 0).isLt
  have hs : (start 2 t).val = t.val - t.val % 2 := rfl
  refine congrArg₂ (· * ·) ((x_apply m c _ k (z 0) (by omega)).trans (at2 (m ((c : Thread nD τ).loc main_arg0)) rfl ?_)) (at2 (m ((c : Thread nD τ).loc main_arg1)) ?_ ?_)
  · show (start 2 t).val / 2 * 1024 + (z 0).val = 0 + (win0_2.index t (0 : Fin 2) * 1024 + 1 * (z 0).val)
    rw [d0, hs]; omega
  · show win0_1.index t (0 : Fin 2) * 4096 + 1 * k.val = k.val
    rw [e2]; omega
  · show win0_1.index t (1 : Fin 2) * 1024 + 1 * (z 1).val = win0_2.index t (1 : Fin 2) * 1024 + 1 * (z 1).val
    rw [e3, d1]

end Value

/-- The kernel's text is the idealized one's at bit patterns. -/
theorem main_eq : (Cert.KOutWgrad.main (F := Bits) : _) = (Cert.KOutWgradIdeal.main (F := Bits) : _) := by sl_kernel_rfl
theorem defs_eq : (Cert.KOutWgrad.defs (F := Bits) : _) = (Cert.KOutWgradIdeal.defs (F := Bits) : _) := by sl_kernel_rfl

/-- The kernel runs, its arguments unchanged and its semaphores at zero. -/
theorem quiescent_kernel : Cert.quiescent_KOutWgrad := by
  intro m g _
  rw [main_eq, defs_eq]
  exact (θ_run (Cert.KOutWgradIdeal.defs (F := Bits)) _ _).mono (fun r h => ⟨fun c => (h.1 c).2, h.2⟩) (run (F := Bits) m g)
/-- So does the idealized kernel. -/
theorem quiescent_ideal : Cert.quiescent_KOutWgradIdeal := fun m g _ =>
  (θ_run Cert.KOutWgradIdeal.defs _ _).mono (fun r h => ⟨fun c => (h.1 c).2, h.2⟩) (run m g)
/-- So does the reference. -/
theorem quiescent_reference : Cert.quiescent_ROutWgradIdeal := fun m g _ =>
  (θ_run Cert.ROutWgradIdeal.defs _ _).mono (fun r h => ⟨fun c => (h c).2, sem_eq_zero_of_no_sems rfl _⟩) (Cert.ROutWgradIdeal.Value.run m g)

/-- The kernel and the reference end with the same gradient. -/
theorem algebraic : Cert.algebraic_KOutWgradIdeal_ROutWgradIdeal := fun m g m' g' _ harg =>
  ⟨fun c => gradW (M := 1024) 0 (by decide) (m ((c.tc : Thread Cert.KOutWgradIdeal.nD Cert.KOutWgradIdeal.τ).loc Cert.KOutWgradIdeal.main_arg0) : Vec Ideal Cert.KOutWgradIdeal.S4096x1024 .bf16)
      (m ((c.tc : Thread Cert.KOutWgradIdeal.nD Cert.KOutWgradIdeal.τ).loc Cert.KOutWgradIdeal.main_arg1) : Vec Ideal Cert.KOutWgradIdeal.S4096x2048 .bf16),
    (θ_run Cert.KOutWgradIdeal.defs _ _).mono (fun r h c => ⟨(h.1 c).1.trans (final m c), (h.1 c).2⟩) (run m g),
    (θ_run Cert.ROutWgradIdeal.defs _ _).mono (fun r h c => ⟨by
      rw [(h c).1, (harg c).1, (harg c).2]
      exact ref_grad Cert.ROutWgradIdeal.dot_S4096x2048_S4096x1024_S2048x1024_0_0_1_1_n_n rfl rfl rfl rfl rfl rfl _ _ _ _, (h c).2⟩) (Cert.ROutWgradIdeal.Value.run m' g')⟩

end Cert.Prod.OutWgrad

end
-- ==== Proof.Prod.InWgradA.lean ====
/-
  The gradient of the input projection's weight, its first rows: a grid point leaves the tile of the product of the first
  argument's transpose with the second, the transposed tile staying in the scratch over a row of tiles.
-/
module

public import proofs.«01_k».proof.Defs
public import proofs.«01_k».proof.Proof.Prod.Wgrad
public import proofs.«01_k».proof.Proof.Gen.KInWgradA.Frame
public import proofs.«01_k».proof.Proof.Gen.KInWgradAIdeal.Frame
public import proofs.«01_k».proof.Proof.Gen.RInWgradAIdeal.Run

@[expose] public section

set_option maxRecDepth 16384

noncomputable section

namespace Cert.Prod.InWgradA

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

section Run
open Cert.KInWgradAIdeal Cert.KInWgradAIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first points of the rows of tiles. -/
theorem starts (t : Fin cfg0.N) : k0_cond1 (grid0.coords t) = 1#1 ↔ t.val % 9 = 0 :=
  (by decide +kernel : ∀ t : Fin grid0.N, k0_cond1 (grid0.coords t) = 1#1 ↔ t.val % 9 = 0) t

/-- The scratch holds one tile, so every access of it is at zero. -/
theorem off1 (t : Fin cfg0.N) : k0_off1 (grid0.coords t) = fun _ => 0 :=
  (by decide +kernel : ∀ t : Fin grid0.N, k0_off1 (grid0.coords t) = fun _ => 0) t
theorem off2 (t : Fin cfg0.N) : k0_off2 (grid0.coords t) = fun _ => 0 :=
  (by decide +kernel : ∀ t : Fin grid0.N, k0_off2 (grid0.coords t) = fun _ => 0) t

/-- The tiles that a point is given, -/
def x (t : Fin cfg0.N) : Vec F S4096x768 .bf16 := X0_0 m c t
def y (t : Fin cfg0.N) : Vec F S4096x1152 .bf16 := iblk m c 1 t
/-- what it leaves in the scratch, -/
def held (t : Fin cfg0.N) : Vec F S1x768x4096 .bf16 := turned (x m c (start 9 t))
/-- the scratch, -/
abbrev scr : Memref sig .tc .vmem S1x768x4096 .bf16 := Memref.whole cc0_scratch0
/-- and what is owned of it before a point. -/
def Phi : (n : ℕ) → n ≤ cfg0.N → sProp 𝕄 :=
  kept (Pipeline.ΦA spec0 c) fun t => iprop(owns (c : Thread nD τ) scr fullShare (held m c t) ∗ (∃ r, prngReg c r))

/-- At the launch it is at anything. -/
theorem PhiA_eq : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem Phi_any (n : ℕ) (h : n ≤ cfg0.N) : Phi m c n h ⊢ Pipeline.ΦA spec0 c :=
  kept_any _ _ (fun t => by
    rw [PhiA_eq]
    iintro ⟨H, Hg⟩
    isplitl [H]
    · iexists _; iexact H
    iexact Hg) n h

/-- The proof data: a point leaves the tiles it is given as they are and the product in the result's. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => left (held m c t) (y m c t)
  Φ t := Phi m c t.val (Nat.le_of_lt_succ t.isLt)
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = Phi m c t.val (Nat.le_of_lt t.isLt) := by
  dsimp only [dats]; exact Pipeline.Dat.Φ_castSucc (Phi m c) t
theorem after0 (t : Fin cfg0.N) : (dats m 0 c).after 0 t = X0_0 m c t := by dsimp only [dats]
theorem after1 (t : Fin cfg0.N) : (dats m 0 c).after 1 t = iblk m c 1 t := by dsimp only [dats]
theorem after2 (t : Fin cfg0.N) : (dats m 0 c).after 2 t = left (held m c t) (y m c t) := by dsimp only [dats]
theorem before0 (t : Fin cfg0.N) (d) : (dats m 0 c).before 0 t d = x m c t :=
  before0_0_of m (dats m 0 c) (A_eq m c 0) (after0 m c) t d
theorem before1 (t : Fin cfg0.N) (d) : (dats m 0 c).before 1 t d = y m c t :=
  before0_1_of m (dats m 0 c) (A_eq m c 1) (after1 m c) t d

/-- The body at any point, from what the launch hands it to what it hands back. -/
theorem sound (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  simp only [before0, before1]
  rw [Phi_castSucc]
  refine point (φ := t.val % 9 = 0) (a3 := st0_0 t) (a4 := st0_1 t) (a5 := st0_2 t) (a6 := scr) (fun h => ?_) (fun h => ?_)
    (x m c t) (y m c t) _ (held m c t) (fun h => congrArg (fun t => turned (x m c t)) (start_first t h)) (fun _ => PhiA_eq (F := F) c ▸ Phi_any m c _ _)
    (fun h => (kept_pos _ _ t.val _ fun e => h (by rw [e])).trans (by unfold held; rw [start_later t (by decide) h]))
  · have h1 := (starts t).mpr h
    unfold bodyAt0 cc0_in_wgrad_0
    simp only [dif_pos h1]
    exact ⟨_, _, _, _, _, _, _, _, _, _, _, _, _, _, off1 t, off2 t, rfl⟩
  · have h1 := fun e => h ((starts t).mp e)
    unfold bodyAt0 cc0_in_wgrad_0
    simp only [dif_neg h1]
    exact ⟨_, _, _, _, _, _, _, _, off2 t, rfl⟩

theorem row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, row]
  exact triple_restated (sound m c t) rfl .rfl fun _ => .rfl
theorem hin : Pipeline.ΦA spec0 c ⊢ (dats m 0 c).Φ 0 := Entails.refl _
theorem hout : (dats m 0 c).Φ (Fin.last cfg0.N) ⊢ Pipeline.ΦA spec0 c := by
  exact Phi_any m c cfg0.N (Nat.le_refl _)

set_option backward.isDefEq.respectTransparency.types false in
/-- The launch: the arrays end as the proof data say, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's array ends as the proof data say, the arguments unchanged, and the semaphores at zero. -/
theorem run : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (launch m ρ)

end Run

section Value
open Cert.KInWgradAIdeal Cert.KInWgradAIdeal.Gen

variable (m : (ℓ : Loc nD τ sig) → Buf (Elt Ideal) ℓ) (c : Dev nD)

/-- The tiles of a grid point. -/
theorem idx : ∀ t : Fin cfg0.N, win0_0.index t (0 : Fin 2) = 0 ∧ win0_0.index t (1 : Fin 2) = t.val / 9
    ∧ win0_1.index t (0 : Fin 2) = 0 ∧ win0_1.index t (1 : Fin 2) = t.val % 9
    ∧ win0_2.index t (0 : Fin 2) = t.val / 9 ∧ win0_2.index t (1 : Fin 2) = t.val % 9 :=
  (by decide +kernel : ∀ t : Fin grid0.N, _)

/-- An entry of the first argument's tile. -/
theorem x_apply (t : Fin cfg0.N) (k : Fin 4096) (j : Fin 768) (h : t.val / 9 * 768 + j.val < 2048) :
    x m c t (ix2 k j) = (m ((c : Thread nD τ).loc main_arg0) : Vec Ideal S4096x2048 .bf16) (ix2 k ⟨t.val / 9 * 768 + j.val, h⟩) := by
  obtain ⟨e0, e1, -⟩ := idx t
  unfold x X0_0 Pipeline.Window.fill
  rw [dif_pos (moved0_0 t _)]
  refine at2 (m ((c : Thread nD τ).loc main_arg0)) ?_ ?_
  · show win0_0.index t (0 : Fin 2) * 4096 + 1 * k.val = k.val
    rw [e0]; omega
  · show win0_0.index t (1 : Fin 2) * 768 + 1 * j.val = t.val / 9 * 768 + j.val
    rw [e1]; omega

/-- The result's array after the launch. -/
theorem final : (dats m 0 c).arrAt 2 cfg0.N = gradW (M := 1536) 0 (by decide) (m ((c : Thread nD τ).loc main_arg0) : Vec Ideal S4096x2048 .bf16)
    (m ((c : Thread nD τ).loc main_arg1) : Vec Ideal S4096x10368 .bf16) := by
  refine (dats m 0 c).arrAt_eq_of_covers 2 _ (by decide +kernel) fun t hf z => ?_
  show (dats m 0 c).after 2 t ((cfg0.win 2).xinj (grid0.coords t) z) = gradW _ _ _ _ (((cfg0.win 2).blk t).view.emb z)
  rw [after2]
  refine (left_turned _ _ _).trans (Finset.sum_congr rfl fun k _ => ?_)
  obtain ⟨-, -, e2, e3, d0, d1⟩ := idx t
  have ht : t.val < 18 := Nat.lt_of_lt_of_eq t.isLt N_0
  have hz : (z 0).val < 768 := (z 0).isLt
  have hs : (start 9 t).val = t.val - t.val % 9 := rfl
  refine congrArg₂ (· * ·) ((x_apply m c _ k (z 0) (by omega)).trans (at2 (m ((c : Thread nD τ).loc main_arg0)) rfl ?_)) (at2 (m ((c : Thread nD τ).loc main_arg1)) ?_ ?_)
  · show (start 9 t).val / 9 * 768 + (z 0).val = 0 + (win0_2.index t (0 : Fin 2) * 768 + 1 * (z 0).val)
    rw [d0, hs]; omega
  · show win0_1.index t (0 : Fin 2) * 4096 + 1 * k.val = k.val
    rw [e2]; omega
  · show win0_1.index t (1 : Fin 2) * 1152 + 1 * (z 1).val = win0_2.index t (1 : Fin 2) * 1152 + 1 * (z 1).val
    rw [e3, d1]

end Value

/-- The kernel's text is the idealized one's at bit patterns. -/
theorem main_eq : (Cert.KInWgradA.main (F := Bits) : _) = (Cert.KInWgradAIdeal.main (F := Bits) : _) := by sl_kernel_rfl
theorem defs_eq : (Cert.KInWgradA.defs (F := Bits) : _) = (Cert.KInWgradAIdeal.defs (F := Bits) : _) := by sl_kernel_rfl

/-- The kernel runs, its arguments unchanged and its semaphores at zero. -/
theorem quiescent_kernel : Cert.quiescent_KInWgradA := by
  intro m g _
  rw [main_eq, defs_eq]
  exact (θ_run (Cert.KInWgradAIdeal.defs (F := Bits)) _ _).mono (fun r h => ⟨fun c => (h.1 c).2, h.2⟩) (run (F := Bits) m g)
/-- So does the idealized kernel. -/
theorem quiescent_ideal : Cert.quiescent_KInWgradAIdeal := fun m g _ =>
  (θ_run Cert.KInWgradAIdeal.defs _ _).mono (fun r h => ⟨fun c => (h.1 c).2, h.2⟩) (run m g)
/-- So does the reference. -/
theorem quiescent_reference : Cert.quiescent_RInWgradAIdeal := fun m g _ =>
  (θ_run Cert.RInWgradAIdeal.defs _ _).mono (fun r h => ⟨fun c => (h c).2, sem_eq_zero_of_no_sems rfl _⟩) (Cert.RInWgradAIdeal.Value.run m g)

/-- The kernel and the reference end with the same rows. -/
theorem algebraic : Cert.algebraic_KInWgradAIdeal_RInWgradAIdeal := fun m g m' g' _ harg =>
  ⟨fun c => gradW (M := 1536) 0 (by decide) (m ((c.tc : Thread Cert.KInWgradAIdeal.nD Cert.KInWgradAIdeal.τ).loc Cert.KInWgradAIdeal.main_arg0) : Vec Ideal Cert.KInWgradAIdeal.S4096x2048 .bf16)
      (m ((c.tc : Thread Cert.KInWgradAIdeal.nD Cert.KInWgradAIdeal.τ).loc Cert.KInWgradAIdeal.main_arg1) : Vec Ideal Cert.KInWgradAIdeal.S4096x10368 .bf16),
    (θ_run Cert.KInWgradAIdeal.defs _ _).mono (fun r h c => ⟨(h.1 c).1.trans (final m c), (h.1 c).2⟩) (run m g),
    (θ_run Cert.RInWgradAIdeal.defs _ _).mono (fun r h c => ⟨by
      rw [(h c).1, (harg c).1, (harg c).2]
      exact slice_grad (M := 1536) 0 (by decide) Cert.RInWgradAIdeal.dot_S4096x10368_S4096x2048_S10368x2048_0_0_1_1_n_n rfl rfl rfl rfl rfl rfl _ _ _ _ _, (h c).2⟩) (Cert.RInWgradAIdeal.Value.run m' g')⟩

end Cert.Prod.InWgradA

end
-- ==== Proof.Prod.InWgradB.lean ====
/-
  The gradient of the input projection's weight, its last rows: as in the module of the first rows, from the fourth tile of
  512 columns of the first argument.
-/
module

public import proofs.«01_k».proof.Defs
public import proofs.«01_k».proof.Proof.Prod.Wgrad
public import proofs.«01_k».proof.Proof.Gen.KInWgradB.Frame
public import proofs.«01_k».proof.Proof.Gen.KInWgradBIdeal.Frame
public import proofs.«01_k».proof.Proof.Gen.RInWgradBIdeal.Run

@[expose] public section

set_option maxRecDepth 16384

noncomputable section

namespace Cert.Prod.InWgradB

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

section Run
open Cert.KInWgradBIdeal Cert.KInWgradBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The first points of the rows of tiles. -/
theorem starts (t : Fin cfg0.N) : k0_cond1 (grid0.coords t) = 1#1 ↔ t.val % 9 = 0 :=
  (by decide +kernel : ∀ t : Fin grid0.N, k0_cond1 (grid0.coords t) = 1#1 ↔ t.val % 9 = 0) t

/-- The scratch holds one tile, so every access of it is at zero. -/
theorem off1 (t : Fin cfg0.N) : k0_off1 (grid0.coords t) = fun _ => 0 :=
  (by decide +kernel : ∀ t : Fin grid0.N, k0_off1 (grid0.coords t) = fun _ => 0) t
theorem off2 (t : Fin cfg0.N) : k0_off2 (grid0.coords t) = fun _ => 0 :=
  (by decide +kernel : ∀ t : Fin grid0.N, k0_off2 (grid0.coords t) = fun _ => 0) t

/-- The tiles that a point is given, -/
def x (t : Fin cfg0.N) : Vec F S4096x512 .bf16 := iblk m c 0 t
def y (t : Fin cfg0.N) : Vec F S4096x1152 .bf16 := iblk m c 1 t
/-- what it leaves in the scratch, -/
def held (t : Fin cfg0.N) : Vec F S1x512x4096 .bf16 := turned (x m c (start 9 t))
/-- the scratch, -/
abbrev scr : Memref sig .tc .vmem S1x512x4096 .bf16 := Memref.whole cc0_scratch0
/-- and what is owned of it before a point. -/
def Phi : (n : ℕ) → n ≤ cfg0.N → sProp 𝕄 :=
  kept (Pipeline.ΦA spec0 c) fun t => iprop(owns (c : Thread nD τ) scr fullShare (held m c t) ∗ (∃ r, prngReg c r))

/-- At the launch it is at anything. -/
theorem PhiA_eq : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem Phi_any (n : ℕ) (h : n ≤ cfg0.N) : Phi m c n h ⊢ Pipeline.ΦA spec0 c :=
  kept_any _ _ (fun t => by
    rw [PhiA_eq]
    iintro ⟨H, Hg⟩
    isplitl [H]
    · iexists _; iexact H
    iexact Hg) n h

/-- The proof data: a point leaves the tiles it is given as they are and the product in the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left (held m c t) (y m c t)
  Φ t := Phi m c t.val (Nat.le_of_lt_succ t.isLt)
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = Phi m c t.val (Nat.le_of_lt t.isLt) := by
  dsimp only [dats]; exact Pipeline.Dat.Φ_castSucc (Phi m c) t
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = left (held m c t) (y m c t) := by dsimp only [dats]
theorem before0 (t : Fin cfg0.N) (d) : (dats m 0 c).before 0 t d = x m c t :=
  before0_0_of m (dats m 0 c) (A_eq m c 0) (after0 m c) t d
theorem before1 (t : Fin cfg0.N) (d) : (dats m 0 c).before 1 t d = y m c t :=
  before0_1_of m (dats m 0 c) (A_eq m c 1) (after1 m c) t d

/-- The body at any point, from what the launch hands it to what it hands back. -/
theorem sound (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  simp only [before0, before1]
  rw [Phi_castSucc]
  refine point (φ := t.val % 9 = 0) (a3 := st0_0 t) (a4 := st0_1 t) (a5 := st0_2 t) (a6 := scr) (fun h => ?_) (fun h => ?_)
    (x m c t) (y m c t) _ (held m c t) (fun h => congrArg (fun t => turned (x m c t)) (start_first t h)) (fun _ => PhiA_eq (F := F) c ▸ Phi_any m c _ _)
    (fun h => (kept_pos _ _ t.val _ fun e => h (by rw [e])).trans (by unfold held; rw [start_later t (by decide) h]))
  · have h1 := (starts t).mpr h
    unfold bodyAt0 cc0_in_wgrad_1
    simp only [dif_pos h1]
    exact ⟨_, _, _, _, _, _, _, _, _, _, _, _, _, _, off1 t, off2 t, rfl⟩
  · have h1 := fun e => h ((starts t).mp e)
    unfold bodyAt0 cc0_in_wgrad_1
    simp only [dif_neg h1]
    exact ⟨_, _, _, _, _, _, _, _, off2 t, rfl⟩

theorem row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, row]
  exact triple_restated (sound m c t) rfl .rfl fun _ => .rfl
theorem hin : Pipeline.ΦA spec0 c ⊢ (dats m 0 c).Φ 0 := Entails.refl _
theorem hout : (dats m 0 c).Φ (Fin.last cfg0.N) ⊢ Pipeline.ΦA spec0 c := by
  exact Phi_any m c cfg0.N (Nat.le_refl _)

set_option backward.isDefEq.respectTransparency.types false in
/-- The launch: the arrays end as the proof data say, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's array ends as the proof data say, the arguments unchanged, and the semaphores at zero. -/
theorem run : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (launch m ρ)

end Run

section Value
open Cert.KInWgradBIdeal Cert.KInWgradBIdeal.Gen

variable (m : (ℓ : Loc nD τ sig) → Buf (Elt Ideal) ℓ) (c : Dev nD)

/-- The tiles of a grid point. -/
theorem idx : ∀ t : Fin cfg0.N, win0_0.index t (0 : Fin 2) = 0 ∧ win0_0.index t (1 : Fin 2) = 3 + t.val / 9
    ∧ win0_1.index t (0 : Fin 2) = 0 ∧ win0_1.index t (1 : Fin 2) = t.val % 9
    ∧ win0_2.index t (0 : Fin 2) = t.val / 9 ∧ win0_2.index t (1 : Fin 2) = t.val % 9 :=
  (by decide +kernel : ∀ t : Fin grid0.N, _)

/-- An entry of the first argument's tile. -/
theorem x_apply (t : Fin cfg0.N) (k : Fin 4096) (j : Fin 512) (h : (3 + t.val / 9) * 512 + j.val < 2048) :
    x m c t (ix2 k j) = (m ((c : Thread nD τ).loc main_arg0) : Vec Ideal S4096x2048 .bf16) (ix2 k ⟨(3 + t.val / 9) * 512 + j.val, h⟩) := by
  obtain ⟨e0, e1, -⟩ := idx t
  refine at2 (m ((c : Thread nD τ).loc main_arg0)) ?_ ?_
  · show win0_0.index t (0 : Fin 2) * 4096 + 1 * k.val = k.val
    rw [e0]; omega
  · show win0_0.index t (1 : Fin 2) * 512 + 1 * j.val = (3 + t.val / 9) * 512 + j.val
    rw [e1]; omega

/-- The result's array after the launch. -/
theorem final : (dats m 0 c).arrAt 2 cfg0.N = gradW (M := 512) 1536 (by decide) (m ((c : Thread nD τ).loc main_arg0) : Vec Ideal S4096x2048 .bf16)
    (m ((c : Thread nD τ).loc main_arg1) : Vec Ideal S4096x10368 .bf16) := by
  refine (dats m 0 c).arrAt_eq_of_covers 2 _ (by decide +kernel) fun t hf z => ?_
  show (dats m 0 c).after 2 t ((cfg0.win 2).xinj (grid0.coords t) z) = gradW _ _ _ _ (((cfg0.win 2).blk t).view.emb z)
  rw [after2]
  refine (left_turned _ _ _).trans (Finset.sum_congr rfl fun k _ => ?_)
  obtain ⟨-, -, e2, e3, d0, d1⟩ := idx t
  have ht : t.val < 9 := Nat.lt_of_lt_of_eq t.isLt N_0
  have hz : (z 0).val < 512 := (z 0).isLt
  have hs : (start 9 t).val = t.val - t.val % 9 := rfl
  refine congrArg₂ (· * ·) ((x_apply m c _ k (z 0) (by omega)).trans (at2 (m ((c : Thread nD τ).loc main_arg0)) rfl ?_)) (at2 (m ((c : Thread nD τ).loc main_arg1)) ?_ ?_)
  · show (3 + (start 9 t).val / 9) * 512 + (z 0).val = 1536 + (win0_2.index t (0 : Fin 2) * 512 + 1 * (z 0).val)
    rw [d0, hs]; omega
  · show win0_1.index t (0 : Fin 2) * 4096 + 1 * k.val = k.val
    rw [e2]; omega
  · show win0_1.index t (1 : Fin 2) * 1152 + 1 * (z 1).val = win0_2.index t (1 : Fin 2) * 1152 + 1 * (z 1).val
    rw [e3, d1]

end Value

/-- The kernel's text is the idealized one's at bit patterns. -/
theorem main_eq : (Cert.KInWgradB.main (F := Bits) : _) = (Cert.KInWgradBIdeal.main (F := Bits) : _) := by sl_kernel_rfl
theorem defs_eq : (Cert.KInWgradB.defs (F := Bits) : _) = (Cert.KInWgradBIdeal.defs (F := Bits) : _) := by sl_kernel_rfl

/-- The kernel runs, its arguments unchanged and its semaphores at zero. -/
theorem quiescent_kernel : Cert.quiescent_KInWgradB := by
  intro m g _
  rw [main_eq, defs_eq]
  exact (θ_run (Cert.KInWgradBIdeal.defs (F := Bits)) _ _).mono (fun r h => ⟨fun c => (h.1 c).2, h.2⟩) (run (F := Bits) m g)
/-- So does the idealized kernel. -/
theorem quiescent_ideal : Cert.quiescent_KInWgradBIdeal := fun m g _ =>
  (θ_run Cert.KInWgradBIdeal.defs _ _).mono (fun r h => ⟨fun c => (h.1 c).2, h.2⟩) (run m g)
/-- So does the reference. -/
theorem quiescent_reference : Cert.quiescent_RInWgradBIdeal := fun m g _ =>
  (θ_run Cert.RInWgradBIdeal.defs _ _).mono (fun r h => ⟨fun c => (h c).2, sem_eq_zero_of_no_sems rfl _⟩) (Cert.RInWgradBIdeal.Value.run m g)

/-- The kernel and the reference end with the same rows. -/
theorem algebraic : Cert.algebraic_KInWgradBIdeal_RInWgradBIdeal := fun m g m' g' _ harg =>
  ⟨fun c => gradW (M := 512) 1536 (by decide) (m ((c.tc : Thread Cert.KInWgradBIdeal.nD Cert.KInWgradBIdeal.τ).loc Cert.KInWgradBIdeal.main_arg0) : Vec Ideal Cert.KInWgradBIdeal.S4096x2048 .bf16)
      (m ((c.tc : Thread Cert.KInWgradBIdeal.nD Cert.KInWgradBIdeal.τ).loc Cert.KInWgradBIdeal.main_arg1) : Vec Ideal Cert.KInWgradBIdeal.S4096x10368 .bf16),
    (θ_run Cert.KInWgradBIdeal.defs _ _).mono (fun r h c => ⟨(h.1 c).1.trans (final m c), (h.1 c).2⟩) (run m g),
    (θ_run Cert.RInWgradBIdeal.defs _ _).mono (fun r h c => ⟨by
      rw [(h c).1, (harg c).1, (harg c).2]
      exact slice_grad (M := 512) 1536 (by decide) Cert.RInWgradBIdeal.dot_S4096x10368_S4096x2048_S10368x2048_0_0_1_1_n_n rfl rfl rfl rfl rfl rfl _ _ _ _ _, (h c).2⟩) (Cert.RInWgradBIdeal.Value.run m' g')⟩

end Cert.Prod.InWgradB

end
-- ==== Proof.Prod.Slots.lean ====
/-
  The body of the calls that make a weight's gradient from two tiles of rows, for tiles of any size: the scratch has one
  place for each of the two tiles of the first operand, transposed; an even point leaves its product in the accumulator and
  the odd point after it the sum of the two products in the result's buffer. The transposed tiles are stored at the first
  two points and stay.
-/
module

public import proofs.«01_k».proof.Proof.Prod.Wgrad

@[expose] public section

noncomputable section

namespace Cert.Prod

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ : Labels}

local notation "𝕄" => MT nD τ sig Unit (Elt F) ℕ (UR sig nD τ) ℕ

section Part
variable {defs : Defs nD τ sig (Elt F) Λ} {c : Dev nD} {s : Shape} {e : EltTy}

/-- A load of a part of a buffer gives that part of what the buffer holds. -/
theorem wp_load_part {α : Type} (Q : α → sProp 𝕄) (a : Memref sig .tc .vmem s e) (X : s.Idx → Elt F e) (r : Rect s) {hl : a.view.LoadsAt r.toLoadRect}
    {k : (r.shape.Idx → Elt F e) → Prog (TpuEff nD τ sig (Elt F) Λ .tc) α} :
    owns (c : Thread nD τ) a fullShare X ⊢ iprop((owns (c : Thread nD τ) a fullShare X -∗ wp frame (wpE (Ix := Unit) (Name := ℕ) (U := UR sig nD τ) (Lvl := ℕ) defs Variants.none (c : Thread nD τ) none) Set.univ (k (View.ld X r)) Q)
      -∗ wp frame (wpE (Ix := Unit) (Name := ℕ) (U := UR sig nD τ) (Lvl := ℕ) defs Variants.none (c : Thread nD τ) none) Set.univ (.op (.load a r.toLoadRect hl) k) Q) := by
  unfold owns
  iintro ⟨%f, %hf, H⟩ Hk
  iapply (wp_load_rect (m := a) (r := r) (hl := hl) (k := k) (Q := Q) Variants.none (c : Thread nD τ) none Set.univ
    (a.view.set_slice_subset _)) $$ H
  iintro H
  rw [show (a.access r).read (Elt F) f = View.ld X r from
    (show _ = View.ld (a.view.read (Elt F) f) r from rfl).trans (congrArg (View.ld · r) hf)]
  iapply Hk
  iexists f
  isplitr; · ipureintro; exact hf
  iexact H

/-- A store over a part of a buffer leaves the payload in the part and the rest as it was. -/
theorem wp_store_part {α : Type} (Q : α → sProp 𝕄) (a : Memref sig .tc .vmem s e) (X : s.Idx → Elt F e) (r : Rect s) (w : r.shape.Idx → Elt F e)
    {hx : (a.access r).Stores Finset.univ} {hm : (Finset.univ : Finset r.shape.Idx) = Finset.univ ∨ ∀ a, r.stride a = 1}
    {k : PUnit → Prog (TpuEff nD τ sig (Elt F) Λ .tc) α} :
    owns (c : Thread nD τ) a fullShare X ⊢ iprop(((∃ Y, ⌜View.ld Y r = w ∧ ∀ i, i ∉ r.set → Y i = X i⌝ ∗ owns (c : Thread nD τ) a fullShare Y)
        -∗ wp frame (wpE (Ix := Unit) (Name := ℕ) (U := UR sig nD τ) (Lvl := ℕ) defs Variants.none (c : Thread nD τ) none) Set.univ (k ⟨⟩) Q)
      -∗ wp frame (wpE (Ix := Unit) (Name := ℕ) (U := UR sig nD τ) (Lvl := ℕ) defs Variants.none (c : Thread nD τ) none) Set.univ (.op (.store a r w Finset.univ hx hm) k) Q) := by
  unfold owns
  iintro ⟨%f, %hf, H⟩ Hk
  iapply (wp_store (m := a) (r := r) (w := w) (hx := hx) (hm := hm) (k := k) (Q := Q) Variants.none (c : Thread nD τ) none Set.univ
    (a.setOn_access_subset _ _)) $$ H
  iintro H
  iapply Hk
  iexists (a.view.read (Elt F) ((a.access r).write (Elt F) f w Finset.univ))
  isplitr
  · ipureintro
    refine ⟨funext fun y => View.read_slice_write_emb _ _ _ (Finset.mem_univ y), fun i hi => ?_⟩
    refine (View.read_slice_write_of_not_mem r f w Finset.univ ?_).trans (congrFun hf i)
    rwa [Rect.map_emb_univ]
  iexists _
  isplitr
  swap; · iexact H
  ipureintro
  rfl

end Part

section Body

theorem zero2 : (![0, 0] : Fin 2 → ℕ) = fun _ => 0 := by decide
theorem zero3 : (![0, 0, 0] : Fin 3 → ℕ) = fun _ => 0 := by decide

variable {K M N : ℕ}

theorem place_in (k : ℕ) (hk : k < 2) : ∀ a, (![k, 0, 0] : Fin 3 → ℕ) a + (⟨3, ![1, M, K]⟩ : Shape).size a ≤ (⟨3, ![2, M, K]⟩ : Shape).size a := fun a => match a with
  | ⟨0, _⟩ => hk
  | ⟨1, _⟩ => (Nat.zero_add M).le
  | ⟨2, _⟩ => (Nat.zero_add K).le

/-- One place of the scratch. -/
def place (X : Vec F ⟨3, ![2, M, K]⟩ .bf16) (k : ℕ) (hk : k < 2) : Vec F ⟨3, ![1, M, K]⟩ .bf16 :=
  View.ld X (Rect.unit (s := ⟨3, ![2, M, K]⟩) ![k, 0, 0] (⟨3, ![1, M, K]⟩ : Shape).size (place_in k hk))

/-- The scratch before point `n`: the places below it hold their tiles, transposed. -/
def Held (x : ℕ → Vec F ⟨2, ![K, M]⟩ .bf16) (n : ℕ) (X : Vec F ⟨3, ![2, M, K]⟩ .bf16) : Prop :=
  ∀ k (hk : k < 2), k < n → place X k hk = turned (x k)

/-- Storing a tile at its place keeps those below. -/
theorem held_store (x : ℕ → Vec F ⟨2, ![K, M]⟩ .bf16) (n : ℕ) (hn : n < 2) (X Y : Vec F ⟨3, ![2, M, K]⟩ .bf16) (h : Held x n X)
    (hw : place Y n hn = turned (x n))
    (hr : ∀ i, i ∉ (Rect.unit (s := ⟨3, ![2, M, K]⟩) ![n, 0, 0] (⟨3, ![1, M, K]⟩ : Shape).size (place_in n hn)).set → Y i = X i) : Held x (n + 1) Y := by
  intro k hk hkn
  by_cases e : k = n
  · subst e; exact hw
  · refine Eq.trans ?_ (h k hk (by omega))
    funext y
    refine hr _ fun hm => ?_
    have h0 := (Rect.mem_set_unit.mp hm) (0 : Fin 3)
    have hy : (y 0).val < 1 := (y 0).isLt
    have : n ≤ k + 1 * (y 0).val := h0.1
    omega

/-- The product of a stored tile with a tile of the second operand, as the accumulator takes it. -/
def part (z : Vec F ⟨3, ![1, M, K]⟩ .bf16) (y : Vec F ⟨2, ![K, N]⟩ .bf16) : FVec F ⟨2, ![M, N]⟩ .f32 :=
  matmul (DotDims.plain M K N) none (shapeCast ⟨2, ![M, K]⟩ z casts_from : FVec F ⟨2, ![M, K]⟩ .bf16) (y : FVec F ⟨2, ![K, N]⟩ .bf16)
    (constant ⟨2, ![M, N]⟩ .f32 0x00000000#32)
/-- What an even point leaves in the accumulator. -/
def acc (z : Vec F ⟨3, ![1, M, K]⟩ .bf16) (y : Vec F ⟨2, ![K, N]⟩ .bf16) : Vec F ⟨2, ![M, N]⟩ .f32 := shapeCast ⟨2, ![M, N]⟩ (part z y) rfl
/-- What an odd point leaves in the result's buffer. -/
def both (p : Vec F ⟨2, ![M, N]⟩ .f32) (z : Vec F ⟨3, ![1, M, K]⟩ .bf16) (y : Vec F ⟨2, ![K, N]⟩ .bf16) : Vec F ⟨3, ![1, M, N]⟩ .bf16 :=
  shapeCast ⟨3, ![1, M, N]⟩ (truncf .bf16 (addf (p : FVec F ⟨2, ![M, N]⟩ .f32) (part z y)) (by decide) : FVec F ⟨2, ![M, N]⟩ .bf16) casts_to

variable (a3 : Memref sig .tc .vmem ⟨2, ![K, M]⟩ .bf16) (a4 : Memref sig .tc .vmem ⟨2, ![K, N]⟩ .bf16)
  (a5 : Memref sig .tc .vmem ⟨3, ![1, M, N]⟩ .bf16) (a6 : Memref sig .tc .vmem ⟨2, ![M, N]⟩ .f32) (a7 : Memref sig .tc .vmem ⟨3, ![2, M, K]⟩ .bf16)

section Text
variable (o : Fin 3 → ℕ) (b : ∀ a, o a + (⟨3, ![1, M, K]⟩ : Shape).size a ≤ (⟨3, ![2, M, K]⟩ : Shape).size a)
  (l7 : a7.view.LoadsAt (Rect.unit (s := ⟨3, ![2, M, K]⟩) o (⟨3, ![1, M, K]⟩ : Shape).size b).toLoadRect)
  (s7 : (a7.access (Rect.unit (s := ⟨3, ![2, M, K]⟩) o (⟨3, ![1, M, K]⟩ : Shape).size b)).Stores Finset.univ)
  (b3 : ∀ a, (![0, 0] : Fin 2 → ℕ) a + (⟨2, ![K, M]⟩ : Shape).size a ≤ (⟨2, ![K, M]⟩ : Shape).size a)
  (l3 : a3.view.LoadsAt (Rect.unit (s := ⟨2, ![K, M]⟩) ![0, 0] (⟨2, ![K, M]⟩ : Shape).size b3).toLoadRect)
  (b4 : ∀ a, (![0, 0] : Fin 2 → ℕ) a + (⟨2, ![K, N]⟩ : Shape).size a ≤ (⟨2, ![K, N]⟩ : Shape).size a)
  (l4 : a4.view.LoadsAt (Rect.unit (s := ⟨2, ![K, N]⟩) ![0, 0] (⟨2, ![K, N]⟩ : Shape).size b4).toLoadRect)
  (b6 : ∀ a, (![0, 0] : Fin 2 → ℕ) a + (⟨2, ![M, N]⟩ : Shape).size a ≤ (⟨2, ![M, N]⟩ : Shape).size a)
  (l6 : a6.view.LoadsAt (Rect.unit (s := ⟨2, ![M, N]⟩) ![0, 0] (⟨2, ![M, N]⟩ : Shape).size b6).toLoadRect)
  (s6 : (a6.access (Rect.unit (s := ⟨2, ![M, N]⟩) ![0, 0] (⟨2, ![M, N]⟩ : Shape).size b6)).Stores Finset.univ)
  (b5 : ∀ a, (![0, 0, 0] : Fin 3 → ℕ) a + (⟨3, ![1, M, N]⟩ : Shape).size a ≤ (⟨3, ![1, M, N]⟩ : Shape).size a)
  (l5 : a5.view.LoadsAt (Rect.unit (s := ⟨3, ![1, M, N]⟩) ![0, 0, 0] (⟨3, ![1, M, N]⟩ : Shape).size b5).toLoadRect)
  (s5 : (a5.access (Rect.unit (s := ⟨3, ![1, M, N]⟩) ![0, 0, 0] (⟨3, ![1, M, N]⟩ : Shape).size b5)).Stores Finset.univ)

/-- What the first two points run before the rest: the tile transposed, at its place. -/
def fill (rest : Prog (TpuEff nD τ sig (Elt F) Λ .tc) PUnit) : Prog (TpuEff nD τ sig (Elt F) Λ .tc) PUnit :=
  .op (.load a3 (Rect.unit (s := ⟨2, ![K, M]⟩) ![0, 0] (⟨2, ![K, M]⟩ : Shape).size b3).toLoadRect l3) fun x =>
  .op (.load a7 (Rect.unit (s := ⟨3, ![2, M, K]⟩) o (⟨3, ![1, M, K]⟩ : Shape).size b).toLoadRect l7) fun _ =>
  .op (.store a7 (Rect.unit (s := ⟨3, ![2, M, K]⟩) o (⟨3, ![1, M, K]⟩ : Shape).size b) (turned x) Finset.univ s7 (.inl rfl)) fun _ => rest

/-- What an even point runs. -/
def even : Prog (TpuEff nD τ sig (Elt F) Λ .tc) PUnit :=
  .op (.load a7 (Rect.unit (s := ⟨3, ![2, M, K]⟩) o (⟨3, ![1, M, K]⟩ : Shape).size b).toLoadRect l7) fun z =>
  .op (.load a4 (Rect.unit (s := ⟨2, ![K, N]⟩) ![0, 0] (⟨2, ![K, N]⟩ : Shape).size b4).toLoadRect l4) fun y =>
  .op (.load a6 (Rect.unit (s := ⟨2, ![M, N]⟩) ![0, 0] (⟨2, ![M, N]⟩ : Shape).size b6).toLoadRect l6) fun _ =>
  .op (.store a6 (Rect.unit (s := ⟨2, ![M, N]⟩) ![0, 0] (⟨2, ![M, N]⟩ : Shape).size b6) (acc z y) Finset.univ s6 (.inl rfl)) .ret

/-- What an odd point runs, from the accumulator's contents. -/
def odd (p : Vec F ⟨2, ![M, N]⟩ .f32) : Prog (TpuEff nD τ sig (Elt F) Λ .tc) PUnit :=
  .op (.load a7 (Rect.unit (s := ⟨3, ![2, M, K]⟩) o (⟨3, ![1, M, K]⟩ : Shape).size b).toLoadRect l7) fun z =>
  .op (.load a4 (Rect.unit (s := ⟨2, ![K, N]⟩) ![0, 0] (⟨2, ![K, N]⟩ : Shape).size b4).toLoadRect l4) fun y =>
  .op (.load a5 (Rect.unit (s := ⟨3, ![1, M, N]⟩) ![0, 0, 0] (⟨3, ![1, M, N]⟩ : Shape).size b5).toLoadRect l5) fun _ =>
  .op (.store a5 (Rect.unit (s := ⟨3, ![1, M, N]⟩) ![0, 0, 0] (⟨3, ![1, M, N]⟩ : Shape).size b5) (both p z y) Finset.univ s5 (.inl rfl)) .ret
/-- The accumulator's load, before it. -/
def taken (rest : Vec F ⟨2, ![M, N]⟩ .f32 → Prog (TpuEff nD τ sig (Elt F) Λ .tc) PUnit) : Prog (TpuEff nD τ sig (Elt F) Λ .tc) PUnit :=
  .op (.load a6 (Rect.unit (s := ⟨2, ![M, N]⟩) ![0, 0] (⟨2, ![M, N]⟩ : Shape).size b6).toLoadRect l6) rest

variable {defs : Defs nD τ sig (Elt F) Λ} {c : Dev nD}
variable (x : ℕ → Vec F ⟨2, ![K, M]⟩ .bf16) (n : ℕ) (y : Vec F ⟨2, ![K, N]⟩ .bf16)

/-- Storing a tile, and then the rest. -/
theorem fill_wp (Q : PUnit → sProp 𝕄) (rest : Prog (TpuEff nD τ sig (Elt F) Λ .tc) PUnit) (hn : n < 2) (ho : o = ![n, 0, 0]) :
    iprop(owns (c : Thread nD τ) a3 fullShare (x n) ∗ (∃ X, ⌜Held x n X⌝ ∗ owns (c : Thread nD τ) a7 fullShare X)
      ∗ (iprop(owns (c : Thread nD τ) a3 fullShare (x n) ∗ (∃ X, ⌜Held x (n + 1) X⌝ ∗ owns (c : Thread nD τ) a7 fullShare X))
          -∗ wp frame (wpE (Ix := Unit) (Name := ℕ) (U := UR sig nD τ) (Lvl := ℕ) defs Variants.none (c : Thread nD τ) none) Set.univ rest Q))
    ⊢ wp frame (wpE (Ix := Unit) (Name := ℕ) (U := UR sig nD τ) (Lvl := ℕ) defs Variants.none (c : Thread nD τ) none) Set.univ (fill a3 a7 o b l7 s7 b3 l3 rest) Q := by
  subst ho
  unfold fill
  iintro ⟨H3, ⟨%X, %hX, H7⟩, Hk⟩
  iapply (wp_load_owned Q a3 (x n) zero2 b3) $$ H3
  iintro H3
  iapply (wp_load_part Q a7 X _) $$ H7
  iintro H7
  iapply (wp_store_part Q a7 X _ (turned (x n))) $$ H7
  iintro ⟨%Y, %hY, H7⟩
  iapply Hk
  isplitl [H3]; · iexact H3
  iexists Y
  isplitr; · ipureintro; exact held_store x n hn X Y hX hY.1 hY.2
  iexact H7

/-- An even point leaves its product in the accumulator. -/
theorem even_wp (Q : PUnit → sProp 𝕄) (k : ℕ) (hk : k < 2) (hkn : k < n) (ho : o = ![k, 0, 0]) :
    iprop(owns (c : Thread nD τ) a4 fullShare y ∗ (∃ d, owns (c : Thread nD τ) a6 fullShare d) ∗ (∃ X, ⌜Held x n X⌝ ∗ owns (c : Thread nD τ) a7 fullShare X)
      ∗ (iprop(owns (c : Thread nD τ) a4 fullShare y ∗ owns (c : Thread nD τ) a6 fullShare (acc (turned (x k)) y)
          ∗ (∃ X, ⌜Held x n X⌝ ∗ owns (c : Thread nD τ) a7 fullShare X)) -∗ Q ⟨⟩))
    ⊢ wp frame (wpE (Ix := Unit) (Name := ℕ) (U := UR sig nD τ) (Lvl := ℕ) defs Variants.none (c : Thread nD τ) none) Set.univ (even a4 a6 a7 o b l7 b4 l4 b6 l6 s6) Q := by
  subst ho
  unfold even
  iintro ⟨H4, ⟨%d, H6⟩, ⟨%X, %hX, H7⟩, Hk⟩
  iapply (wp_load_part Q a7 X _) $$ H7
  iintro H7
  iapply (wp_load_owned Q a4 y zero2 b4) $$ H4
  iintro H4
  iapply (wp_load_owned Q a6 d zero2 b6) $$ H6
  iintro H6
  rw [show View.ld X (Rect.unit (s := ⟨3, ![2, M, K]⟩) ![k, 0, 0] (⟨3, ![1, M, K]⟩ : Shape).size b) = turned (x k) from hX k hk hkn]
  iapply (wp_store_owned Q a6 d (acc (turned (x k)) y) zero2 b6) $$ H6
  iintro H6
  iapply (le_wp_ret _ _ _ _ Q)
  iapply Hk
  isplitl [H4]; · iexact H4
  isplitl [H6]; · iexact H6
  iexists X
  isplitr; · ipureintro; exact hX
  iexact H7

/-- An odd point leaves the sum of the accumulator and its product in the result's buffer. -/
theorem odd_wp (Q : PUnit → sProp 𝕄) (p : Vec F ⟨2, ![M, N]⟩ .f32) (k : ℕ) (hk : k < 2) (hkn : k < n) (ho : o = ![k, 0, 0]) :
    iprop(owns (c : Thread nD τ) a4 fullShare y ∗ (∃ d, owns (c : Thread nD τ) a5 fullShare d) ∗ (∃ X, ⌜Held x n X⌝ ∗ owns (c : Thread nD τ) a7 fullShare X)
      ∗ (iprop(owns (c : Thread nD τ) a4 fullShare y ∗ owns (c : Thread nD τ) a5 fullShare (both p (turned (x k)) y)
          ∗ (∃ X, ⌜Held x n X⌝ ∗ owns (c : Thread nD τ) a7 fullShare X)) -∗ Q ⟨⟩))
    ⊢ wp frame (wpE (Ix := Unit) (Name := ℕ) (U := UR sig nD τ) (Lvl := ℕ) defs Variants.none (c : Thread nD τ) none) Set.univ (odd a4 a5 a7 o b l7 b4 l4 b5 l5 s5 p) Q := by
  subst ho
  unfold odd
  iintro ⟨H4, ⟨%d, H5⟩, ⟨%X, %hX, H7⟩, Hk⟩
  iapply (wp_load_part Q a7 X _) $$ H7
  iintro H7
  iapply (wp_load_owned Q a4 y zero2 b4) $$ H4
  iintro H4
  iapply (wp_load_owned Q a5 d zero3 b5) $$ H5
  iintro H5
  rw [show View.ld X (Rect.unit (s := ⟨3, ![2, M, K]⟩) ![k, 0, 0] (⟨3, ![1, M, K]⟩ : Shape).size b) = turned (x k) from hX k hk hkn]
  iapply (wp_store_owned Q a5 d (both p (turned (x k)) y) zero3 b5) $$ H5
  iintro H5
  iapply (le_wp_ret _ _ _ _ Q)
  iapply Hk
  isplitl [H4]; · iexact H4
  isplitl [H5]; · iexact H5
  iexists X
  isplitr; · ipureintro; exact hX
  iexact H7

end Text

variable {defs : Defs nD τ sig (Elt F) Λ} {c : Dev nD}
variable (x : ℕ → Vec F ⟨2, ![K, M]⟩ .bf16) (n : ℕ) (y : ℕ → Vec F ⟨2, ![K, N]⟩ .bf16)

/-- What is owned before point `n`: the accumulator, at the product of the point before if that was an even one; the
    scratch; and `G`. -/
def ready (c : Dev nD) (G : sProp 𝕄) : sProp 𝕄 :=
  iprop((∃ A, ⌜n % 2 = 1 → A = acc (turned (x 0)) (y (n - 1))⌝ ∗ owns (c : Thread nD τ) a6 fullShare A)
    ∗ (∃ X, ⌜Held x n X⌝ ∗ owns (c : Thread nD τ) a7 fullShare X) ∗ G)

/-- Past the first two points nothing is stored. -/
theorem held_on (h : ¬n < 2) (X : Vec F ⟨3, ![2, M, K]⟩ .bf16) (hX : Held x n X) : Held x (n + 1) X :=
  fun k hk _ => hX k hk (by omega)

/-- An even point, from what the launch hands it to what it hands back. -/
theorem even_point {G O : sProp 𝕄} {α β γ : Type} {p : Prog (TpuEff nD τ sig (Elt F) Λ .tc) PUnit} (hn : n % 2 = 0)
    (hf : n < 2 → ∃ o b l7 s7 b3 l3 o' b' l7' b4 l4 b6 l6 s6, o = ![n % 2, 0, 0] ∧ o' = ![n % 2, 0, 0]
      ∧ p = fill a3 a7 o b l7 s7 b3 l3 (even a4 a6 a7 o' b' l7' b4 l4 b6 l6 s6))
    (hl : ¬n < 2 → ∃ o' b' l7' b4 l4 b6 l6 s6, o' = ![n % 2, 0, 0] ∧ p = even a4 a6 a7 o' b' l7' b4 l4 b6 l6 s6)
    (xn : Vec F ⟨2, ![K, M]⟩ .bf16) (hx : n < 2 → xn = x n) (yn : Vec F ⟨2, ![K, N]⟩ .bf16) (hy : yn = y n) (w : γ → Vec F ⟨3, ![1, M, N]⟩ .bf16) :
    iprop(ready a6 a7 x n y c G ∗ O ∗ (∃ _ : α, owns (c : Thread nD τ) a3 fullShare xn) ∗ (∃ _ : β, owns (c : Thread nD τ) a4 fullShare yn)
      ∗ (∃ d, owns (c : Thread nD τ) a5 fullShare (w d)))
    ⊢ wp frame (wpE (Ix := Unit) (Name := ℕ) (U := UR sig nD τ) (Lvl := ℕ) defs Variants.none (c : Thread nD τ) none) Set.univ p (fun _ =>
      iprop(ready a6 a7 x (n + 1) y c G ∗ O ∗ owns (c : Thread nD τ) a3 fullShare xn ∗ owns (c : Thread nD τ) a4 fullShare yn
        ∗ (∃ d, owns (c : Thread nD τ) a5 fullShare (w d)))) := by
  unfold ready
  by_cases h : n < 2
  · obtain ⟨o, b, l7, s7, b3, l3, o', b', l7', b4, l4, b6, l6, s6, h1, h2, rfl⟩ := hf h
    rw [hx h]
    iintro ⟨⟨⟨%A, %hA, H6⟩, H7, Hg⟩, Ho, ⟨%d0, H3⟩, ⟨%d1, H4⟩, H5⟩
    iapply (fill_wp _ _ _ _ _ _ _ _ x n _ _ h (h1.trans (by rw [Nat.mod_eq_of_lt h])))
    isplitl [H3]; · iexact H3
    isplitl [H7]; · iexact H7
    iintro ⟨H3, H7⟩
    iapply (even_wp _ _ _ _ _ _ _ _ _ _ _ x (n + 1) yn _ (n % 2) (by omega) (by omega) h2)
    isplitl [H4]; · iexact H4
    isplitl [H6]; · iexists _; iexact H6
    isplitl [H7]; · iexact H7
    iintro ⟨H4, H6, H7⟩
    isplitl [H6 H7 Hg]
    · isplitl [H6]
      · iexists _
        isplitr
        swap; · iexact H6
        ipureintro
        intro _
        rw [hn, hy]; rfl
      isplitl [H7]; · iexact H7
      iexact Hg
    isplitl [Ho]; · iexact Ho
    isplitl [H3]; · iexact H3
    isplitl [H4]; · iexact H4
    iexact H5
  · obtain ⟨o', b', l7', b4, l4, b6, l6, s6, h2, rfl⟩ := hl h
    iintro ⟨⟨⟨%A, %hA, H6⟩, ⟨%X, %hX, H7⟩, Hg⟩, Ho, ⟨%d0, H3⟩, ⟨%d1, H4⟩, H5⟩
    iapply (even_wp _ _ _ _ _ _ _ _ _ _ _ x (n + 1) yn _ (n % 2) (by omega) (by omega) h2)
    isplitl [H4]; · iexact H4
    isplitl [H6]; · iexists _; iexact H6
    isplitl [H7]
    · iexists X
      isplitr; · ipureintro; exact held_on x n h X hX
      iexact H7
    iintro ⟨H4, H6, H7⟩
    isplitl [H6 H7 Hg]
    · isplitl [H6]
      · iexists _
        isplitr
        swap; · iexact H6
        ipureintro
        intro _
        rw [hn, hy]; rfl
      isplitl [H7]; · iexact H7
      iexact Hg
    isplitl [Ho]; · iexact Ho
    isplitl [H3]; · iexact H3
    isplitl [H4]; · iexact H4
    iexact H5

/-- An odd point: the result's buffer is left at the sum of its product and that of the point before. -/
theorem odd_point {G O : sProp 𝕄} {α β γ : Type} {p : Prog (TpuEff nD τ sig (Elt F) Λ .tc) PUnit} (hn : n % 2 = 1)
    (hf : n < 2 → ∃ b6 l6 o b l7 s7 b3 l3 o' b' l7' b4 l4 b5 l5 s5, o = ![n % 2, 0, 0] ∧ o' = ![n % 2, 0, 0]
      ∧ p = taken a6 b6 l6 fun z => fill a3 a7 o b l7 s7 b3 l3 (odd a4 a5 a7 o' b' l7' b4 l4 b5 l5 s5 z))
    (hl : ¬n < 2 → ∃ b6 l6 o' b' l7' b4 l4 b5 l5 s5, o' = ![n % 2, 0, 0]
      ∧ p = taken a6 b6 l6 fun z => odd a4 a5 a7 o' b' l7' b4 l4 b5 l5 s5 z)
    (xn : Vec F ⟨2, ![K, M]⟩ .bf16) (hx : n < 2 → xn = x n) (yn : Vec F ⟨2, ![K, N]⟩ .bf16) (w : γ → Vec F ⟨3, ![1, M, N]⟩ .bf16) :
    iprop(ready a6 a7 x n y c G ∗ O ∗ (∃ _ : α, owns (c : Thread nD τ) a3 fullShare xn) ∗ (∃ _ : β, owns (c : Thread nD τ) a4 fullShare yn)
      ∗ (∃ d, owns (c : Thread nD τ) a5 fullShare (w d)))
    ⊢ wp frame (wpE (Ix := Unit) (Name := ℕ) (U := UR sig nD τ) (Lvl := ℕ) defs Variants.none (c : Thread nD τ) none) Set.univ p (fun _ =>
      iprop(ready a6 a7 x (n + 1) y c G ∗ O ∗ owns (c : Thread nD τ) a3 fullShare xn ∗ owns (c : Thread nD τ) a4 fullShare yn
        ∗ owns (c : Thread nD τ) a5 fullShare (both (acc (turned (x 0)) (y (n - 1))) (turned (x 1)) yn))) := by
  have e1 : (n + 1) % 2 ≠ 1 := by omega
  unfold ready
  by_cases h : n < 2
  · obtain ⟨b6, l6, o, b, l7, s7, b3, l3, o', b', l7', b4, l4, b5, l5, s5, h1, h2, rfl⟩ := hf h
    rw [hx h]
    unfold taken
    iintro ⟨⟨⟨%A, %hA, H6⟩, H7, Hg⟩, Ho, ⟨%d0, H3⟩, ⟨%d1, H4⟩, ⟨%d2, H5⟩⟩
    rw [hA hn]
    iapply (wp_load_owned _ a6 _ zero2 b6) $$ H6
    iintro H6
    iapply (fill_wp _ _ _ _ _ _ _ _ x n _ _ h (h1.trans (by rw [Nat.mod_eq_of_lt h])))
    isplitl [H3]; · iexact H3
    isplitl [H7]; · iexact H7
    iintro ⟨H3, H7⟩
    iapply (odd_wp _ _ _ _ _ _ _ _ _ _ _ x (n + 1) yn _ _ 1 (by omega) (by omega) (h2.trans (by rw [hn])))
    isplitl [H4]; · iexact H4
    isplitl [H5]; · iexists _; iexact H5
    isplitl [H7]; · iexact H7
    iintro ⟨H4, H5, H7⟩
    isplitl [H6 H7 Hg]
    · isplitl [H6]
      · iexists _
        isplitr
        swap; · iexact H6
        ipureintro
        exact fun e => absurd e e1
      isplitl [H7]; · iexact H7
      iexact Hg
    isplitl [Ho]; · iexact Ho
    isplitl [H3]; · iexact H3
    isplitl [H4]; · iexact H4
    iexact H5
  · obtain ⟨b6, l6, o', b', l7', b4, l4, b5, l5, s5, h2, rfl⟩ := hl h
    unfold taken
    iintro ⟨⟨⟨%A, %hA, H6⟩, ⟨%X, %hX, H7⟩, Hg⟩, Ho, ⟨%d0, H3⟩, ⟨%d1, H4⟩, ⟨%d2, H5⟩⟩
    rw [hA hn]
    iapply (wp_load_owned _ a6 _ zero2 b6) $$ H6
    iintro H6
    iapply (odd_wp _ _ _ _ _ _ _ _ _ _ _ x (n + 1) yn _ _ 1 (by omega) (by omega) (h2.trans (by rw [hn])))
    isplitl [H4]; · iexact H4
    isplitl [H5]; · iexists _; iexact H5
    isplitl [H7]
    · iexists X
      isplitr; · ipureintro; exact held_on x n h X hX
      iexact H7
    iintro ⟨H4, H5, H7⟩
    isplitl [H6 H7 Hg]
    · isplitl [H6]
      · iexists _
        isplitr
        swap; · iexact H6
        ipureintro
        exact fun e => absurd e e1
      isplitl [H7]; · iexact H7
      iexact Hg
    isplitl [Ho]; · iexact Ho
    isplitl [H3]; · iexact H3
    isplitl [H4]; · iexact H4
    iexact H5

end Body

section Value

variable {K M N : ℕ}
open scoped BigOperators

/-- The product of a stored tile with another, over the extended reals. -/
theorem part_turned (x : Vec Ideal ⟨2, ![K, M]⟩ .bf16) (y : Vec Ideal ⟨2, ![K, N]⟩ .bf16) (i : (⟨2, ![M, N]⟩ : Shape).Idx) :
    part (turned x) y i = ∑ k : Fin K, (x (ix2 k (i 0)) : EReal) * y (ix2 k (i 1)) := left_turned x y i

/-- What an odd point leaves, over the extended reals: the sum of the products of its tiles and of those of the point
    before. -/
theorem both_turned (x₀ x₁ : Vec Ideal ⟨2, ![K, M]⟩ .bf16) (y₀ y₁ : Vec Ideal ⟨2, ![K, N]⟩ .bf16) (i : (⟨3, ![1, M, N]⟩ : Shape).Idx) :
    both (acc (turned x₀) y₀) (turned x₁) y₁ i = (∑ k : Fin K, (x₀ (ix2 k (i 1)) : EReal) * y₀ (ix2 k (i 2))) + ∑ k : Fin K, (x₁ (ix2 k (i 1)) : EReal) * y₁ (ix2 k (i 2)) := by
  unfold both acc
  rw [shapeCast_self]
  refine (shapeCast_apply _ _ i (ix2 (i 1) (i 2)) ?_).trans ?_
  · rw [Shape.rowMajor_val_three, Shape.rowMajor_val_two]
    have h0 : (i 0).val = 0 := Nat.lt_one_iff.mp (i 0).isLt
    show (i 1).val * N + (i 2).val = ((i 0).val * M + (i 1).val) * N + (i 2).val
    rw [h0, Nat.zero_mul, Nat.zero_add]
  · exact congrArg₂ (· + ·) (part_turned x₀ y₀ _) (part_turned x₁ y₁ _)

/-- A slab's column is one of the matrix's. -/
theorem slab_col {n b N : ℕ} (hN : n * b = N) (j : Fin n) (k : Fin b) : j.val * b + k.val < N := by
  subst hN
  calc j.val * b + k.val < j.val * b + b := by omega
    _ = (j.val + 1) * b := (Nat.succ_mul _ _).symm
    _ ≤ n * b := Nat.mul_le_mul_right b j.isLt
/-- A matrix cut into `n` slabs of `b` columns. -/
def slabs {n a b N : ℕ} (hN : n * b = N) (W : (⟨2, ![a, N]⟩ : Shape).Idx → EReal) : (⟨3, ![n, a, b]⟩ : Shape).Idx → EReal :=
  fun i => W (ix2 (i 1) ⟨(i 0).val * b + (i 2).val, slab_col hN (i 0) (i 2)⟩)

/-- A term of an entry of the slabs of a gradient. -/
def term {n b M₀ : ℕ} (hN : n * b = N) (o : ℕ) (ho : o + M ≤ M₀) (A : (⟨2, ![K, M₀]⟩ : Shape).Idx → EReal) (B : (⟨2, ![K, N]⟩ : Shape).Idx → EReal)
    (i : (⟨3, ![n, M, b]⟩ : Shape).Idx) (k : Fin K) : EReal :=
  A (ix2 k ⟨o + (i 1).val, Nat.lt_of_lt_of_le (Nat.add_lt_add_left (i 1).isLt o) ho⟩) * B (ix2 k ⟨(i 0).val * b + (i 2).val, slab_col hN (i 0) (i 2)⟩)

/-- Casting the columns' axis to slabs and columns and putting the slabs first cuts the matrix into slabs; rows of the
    slabs are the slabs of the rows. -/
theorem slabs_eq {n a b N a₀ : ℕ} (o : ℕ) (hN : n * b = N) (W : (⟨2, ![a₀, N]⟩ : Shape).Idx → EReal) (V : (⟨2, ![a, N]⟩ : Shape).Idx → EReal)
    (ho : o + a ≤ a₀) (hV : ∀ r c, V (ix2 r c) = W (ix2 ⟨o + r.val, Nat.lt_of_lt_of_le (Nat.add_lt_add_left r.isLt o) ho⟩ c))
    (h' : (⟨2, ![a₀, N]⟩ : Shape).ShapeCasts ⟨3, ![a₀, n, b]⟩) (h : (⟨3, ![a₀, n, b]⟩ : Shape).Transposes [1, 0, 2] ⟨3, ![n, a₀, b]⟩) (hs) :
    (extractStridedSlice ⟨3, ![n, a, b]⟩ ![0, o, 0] (transpose ⟨3, ![n, a₀, b]⟩ [1, 0, 2] (shapeCast ⟨3, ![a₀, n, b]⟩ W h') h) hs) = slabs hN V := by
  funext i
  have hr := Nat.lt_of_lt_of_le (Nat.add_lt_add_left (i 1).isLt o) ho
  refine (extractStridedSlice_apply _ _ hs i (ix3 (i 0) ⟨o + (i 1).val, hr⟩ (i 2)) fun a => match a with
    | ⟨0, _⟩ => (Nat.zero_add _).symm
    | ⟨1, _⟩ => rfl
    | ⟨2, _⟩ => (Nat.zero_add _).symm).trans ?_
  refine (transpose_apply [1, 0, 2] _ h _ (ix3 ⟨o + (i 1).val, hr⟩ (i 0) (i 2)) fun k => ?_).trans ((shapeCast_apply W h' _ (ix2 ⟨o + (i 1).val, hr⟩ ⟨(i 0).val * b + (i 2).val, slab_col hN (i 0) (i 2)⟩) ?_).trans (hV _ _).symm)
  · match k with
    | ⟨0, _⟩ => rfl
    | ⟨1, _⟩ => rfl
    | ⟨2, _⟩ => rfl
  · rw [Shape.rowMajor_val_three, Shape.rowMajor_val_two]
    show (o + (i 1).val) * N + ((i 0).val * b + (i 2).val) = ((o + (i 1).val) * n + (i 0).val) * b + (i 2).val
    rw [Nat.add_mul ((o + (i 1).val) * n), Nat.mul_assoc, hN, Nat.add_assoc]

/-- Rows of a gradient are the whole gradient's. -/
theorem rows_grad {M₀ : ℕ} (o : ℕ) (ho : o + M ≤ M₀) (A : (⟨2, ![K, M₀]⟩ : Shape).Idx → EReal) (B : (⟨2, ![K, N]⟩ : Shape).Idx → EReal) (r : Fin M) (j : Fin N) :
    gradW o ho A B (ix2 r j) = gradW 0 (Nat.zero_add M₀).le A B (ix2 ⟨o + r.val, Nat.lt_of_lt_of_le (Nat.add_lt_add_left r.isLt o) ho⟩ j) :=
  Finset.sum_congr rfl fun k _ => congrArg (· * B (ix2 k j)) (at2 A rfl (Nat.zero_add _).symm)

/-- The slabs of rows of the gradient that the reference makes. -/
theorem slabs_grad {n b M₀ : ℕ} (o : ℕ) (ho : o + M ≤ M₀) (hN : n * b = N) (d : DotDims ⟨2, ![K, N]⟩ ⟨2, ![K, M₀]⟩ ⟨2, ![N, M₀]⟩) (hl : d.lhsContracting = [0]) (hr : d.rhsContracting = [0])
    (hln : d.lhsNonContracting = [1]) (hrn : d.rhsNonContracting = [1]) (hlb : d.lhsBatch = []) (hrb : d.rhsBatch = [])
    (A : FVec Ideal ⟨2, ![K, M₀]⟩ .bf16) (B : FVec Ideal ⟨2, ![K, N]⟩ .bf16) (hw : FTy.bits .bf16 < FTy.bits .f32)
    (ht : (⟨2, ![N, M₀]⟩ : Shape).Transposes [1, 0] ⟨2, ![M₀, N]⟩) (h') (h) (hs) :
    (extractStridedSlice ⟨3, ![n, M, b]⟩ ![0, o, 0] (transpose ⟨3, ![n, M₀, b]⟩ [1, 0, 2] (shapeCast ⟨3, ![M₀, n, b]⟩ (truncf .bf16 (transpose ⟨2, ![M₀, N]⟩ [1, 0]
        (Host.dotGeneral (F := Ideal) (φ₁ := .f32) (φ₂ := .bf16) d none (extf .f32 B hw) A : FVec Ideal ⟨2, ![N, M₀]⟩ .f32) ht : FVec Ideal ⟨2, ![M₀, N]⟩ .f32) hw : FVec Ideal ⟨2, ![M₀, N]⟩ .bf16) h') h) hs
      : FVec Ideal ⟨3, ![n, M, b]⟩ .bf16) = slabs hN (gradW o ho A B) := by
  rw [ref_grad d hl hr hln hrn hlb hrb]
  exact slabs_eq o hN _ _ ho (fun r j => rows_grad o ho A B r j) h' h hs

end Value

end Cert.Prod

end
-- ==== Proof.Prod.UpWgradA.lean ====
/-
  The gradient of the up projection's weight, its first rows: an odd grid point leaves a tile of a slab of the product of
  the first argument's transpose with the second, the sum of the products of the tiles of the upper and the lower half of
  the rows; the transposed tiles stay in the scratch.
-/
module

public import proofs.«01_k».proof.Defs
public import proofs.«01_k».proof.Proof.Prod.Slots
public import proofs.«01_k».proof.Proof.Gen.KUpWgradA.Frame
public import proofs.«01_k».proof.Proof.Gen.KUpWgradAIdeal.Frame
public import proofs.«01_k».proof.Proof.Gen.RUpWgradAIdeal.Run

@[expose] public section

set_option maxRecDepth 16384

noncomputable section

namespace Cert.Prod.UpWgradA

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open scoped BigOperators

section Run
open Cert.KUpWgradAIdeal Cert.KUpWgradAIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- Even points start a product and odd ones end it. -/
theorem evens (t : Fin cfg0.N) : k0_cond1 (grid0.coords t) = 1#1 ↔ t.val % 2 = 0 :=
  (by decide +kernel : ∀ t : Fin grid0.N, k0_cond1 (grid0.coords t) = 1#1 ↔ t.val % 2 = 0) t
theorem between (t : Fin cfg0.N) : ¬k0_cond3 (grid0.coords t) = 1#1 :=
  (by decide +kernel : ∀ t : Fin grid0.N, ¬k0_cond3 (grid0.coords t) = 1#1) t
theorem odds (t : Fin cfg0.N) : k0_cond5 (grid0.coords t) = 1#1 ↔ t.val % 2 = 1 :=
  (by decide +kernel : ∀ t : Fin grid0.N, k0_cond5 (grid0.coords t) = 1#1 ↔ t.val % 2 = 1) t
/-- The first two points store their tiles. -/
theorem starts2 (t : Fin cfg0.N) : k0_cond2 (grid0.coords t) = 1#1 ↔ t.val < 2 :=
  (by decide +kernel : ∀ t : Fin grid0.N, k0_cond2 (grid0.coords t) = 1#1 ↔ t.val < 2) t
theorem starts6 (t : Fin cfg0.N) : k0_cond6 (grid0.coords t) = 1#1 ↔ t.val < 2 :=
  (by decide +kernel : ∀ t : Fin grid0.N, k0_cond6 (grid0.coords t) = 1#1 ↔ t.val < 2) t

/-- A point's place in the scratch. -/
theorem off1 (t : Fin cfg0.N) : k0_off1 (grid0.coords t) = ![t.val % 2, 0, 0] :=
  (by decide +kernel : ∀ t : Fin grid0.N, k0_off1 (grid0.coords t) = ![t.val % 2, 0, 0]) t
theorem off2 (t : Fin cfg0.N) : k0_off2 (grid0.coords t) = ![t.val % 2, 0, 0] := off1 t
theorem off5 (t : Fin cfg0.N) : k0_off5 (grid0.coords t) = ![t.val % 2, 0, 0] := off1 t
theorem off6 (t : Fin cfg0.N) : k0_off6 (grid0.coords t) = ![t.val % 2, 0, 0] := off1 t

/-- The point of a number. -/
def pt (n : ℕ) : Fin cfg0.N := ⟨n % 16, Nat.lt_of_lt_of_eq (Nat.mod_lt n (by decide)) N_0.symm⟩
theorem pt_val (t : Fin cfg0.N) : pt t.val = t := Fin.ext (Nat.mod_eq_of_lt (Nat.lt_of_lt_of_eq t.isLt N_0))

/-- The tiles that a point is given, -/
def x (t : Fin cfg0.N) : Vec F S2048x1024 .bf16 := iblk m c 0 t
def y (t : Fin cfg0.N) : Vec F S2048x1408 .bf16 := iblk m c 1 t
/-- what an odd point leaves in the result's buffer, -/
def sum (t : Fin cfg0.N) : Vec F S1x1024x1408 .bf16 :=
  both (acc (turned (x m c (pt 0))) (y m c (pt (t.val - 1)))) (turned (x m c (pt 1))) (y m c t)
/-- and what is owned before point `n`. -/
def Phi (n : ℕ) : sProp 𝕄 :=
  ready (Memref.whole cc0_scratch0) (Memref.whole cc0_scratch1) (fun n => x m c (pt n)) n (fun n => y m c (pt n)) c iprop(∃ r, prngReg c r)

/-- At the launch the scratch and the accumulator are at anything. -/
theorem PhiA_eq : (Pipeline.ΦA spec0 c : sProp 𝕄) = iprop(((∃ d, owns (c : Thread nD τ) (Memref.whole cc0_scratch0) fullShare d)
    ∗ (∃ d, owns (c : Thread nD τ) (Memref.whole cc0_scratch1) fullShare d)) ∗ (∃ r, prngReg c r)) := by
  unfold Pipeline.ΦA; rw [scopedRest0_eq]; simp only [owns_whole]; try rfl

/-- The proof data: a point leaves the tiles it is given as they are and an odd one the sum in the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sum m c t
  Φ t := Phi m c t.val
  q _ := fullShare
  owed _ := 0

theorem A_eq (w : Fin cfg0.W) : (dats m 0 c).A w = V m c (Pipeline.arrRef spec0 w) := by dsimp only [dats]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = sum m c t := by dsimp only [dats]
theorem before0 (t : Fin cfg0.N) (d) : (dats m 0 c).before 0 t d = x m c t :=
  before0_0_of m (dats m 0 c) (A_eq m c 0) (after0 m c) t d
theorem before1 (t : Fin cfg0.N) (d) : (dats m 0 c).before 1 t d = y m c t :=
  before0_1_of m (dats m 0 c) (A_eq m c 1) (after1 m c) t d

/-- An even point leaves the result's buffer as it found it, and an odd one at the sum. -/
theorem leaves_even (t : Fin cfg0.N) (h : t.val % 2 = 0) :
    (dats m 0 c).leavesExact 2 t = iprop(∃ d, owns (c : Thread nD τ) (st0_2 t) fullShare ((dats m 0 c).before 2 t d)) := by
  refine Dat.leavesExact_idle _ 2 t ?_ ?_
  · show (!(k0_cond5 (grid0.coords t) == 1#1)) = true
    have h5 : ¬k0_cond5 (grid0.coords t) = 1#1 := fun e => by have := (odds t).mp e; omega
    simp [h5]
  · exact Bool.eq_false_iff.mpr fun e => by have := (flush0_2 t).mp e; omega
theorem leaves_odd (t : Fin cfg0.N) (h : t.val % 2 = 1) :
    (dats m 0 c).leavesExact 2 t = owns (c : Thread nD τ) (st0_2 t) fullShare (sum m c t) := by
  have h5 : cfg0.idle 2 (cfg0.grid.coords t) = false := by
    show (!(k0_cond5 (grid0.coords t) == 1#1)) = false
    simp [(odds t).mpr h]
  unfold Dat.leavesExact
  rw [h5, after2]

/-- The body at any point, from what the launch hands it to what it hands back. -/
theorem sound (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  simp only [before0, before1]
  have h3 := between t
  by_cases h : t.val % 2 = 0
  · have h1 := (evens t).mpr h
    have h5 : ¬k0_cond5 (grid0.coords t) = 1#1 := fun e => by have := (odds t).mp e; omega
    rw [leaves_even m c t h]
    unfold bodyAt0 cc0_up_wgrad_0
    refine even_point (a3 := st0_0 t) (a4 := st0_1 t) (a5 := st0_2 t) (n := t.val) (Memref.whole cc0_scratch0) (Memref.whole cc0_scratch1)
      (fun n => x m c (pt n)) (y := fun n => y m c (pt n)) h (fun h2 => ?_) (fun h2 => ?_)
      (x m c t) (fun _ => congrArg (x m c) (pt_val t).symm) (y m c t) (congrArg (y m c) (pt_val t).symm) _
    · iterate 14 apply Exists.intro
      refine ⟨off1 t, off2 t, (dif_pos h1).trans ((dif_pos ((starts2 t).mpr h2)).trans ?_)⟩
      iterate 7 refine congrArg (Prog.op _) (funext fun _ => ?_)
      exact (dif_neg h3).trans (dif_neg h5)
    · iterate 8 apply Exists.intro
      refine ⟨off2 t, (dif_pos h1).trans ((dif_neg fun e => h2 ((starts2 t).mp e)).trans ?_)⟩
      iterate 4 refine congrArg (Prog.op _) (funext fun _ => ?_)
      exact (dif_neg h3).trans (dif_neg h5)
  · have h : t.val % 2 = 1 := by omega
    have h5 := (odds t).mpr h
    have h1 : ¬k0_cond1 (grid0.coords t) = 1#1 := fun e => by have := (evens t).mp e; omega
    rw [leaves_odd m c t h]
    unfold bodyAt0 cc0_up_wgrad_0
    refine odd_point (a3 := st0_0 t) (a4 := st0_1 t) (a5 := st0_2 t) (n := t.val) (Memref.whole cc0_scratch0) (Memref.whole cc0_scratch1)
      (fun n => x m c (pt n)) (y := fun n => y m c (pt n)) h (fun h2 => ?_) (fun h2 => ?_)
      (x m c t) (fun _ => congrArg (x m c) (pt_val t).symm) (y m c t) _
    · iterate 16 apply Exists.intro
      refine ⟨off5 t, off6 t, (dif_neg h1).trans ((dif_neg h3).trans ((dif_pos h5).trans ?_))⟩
      refine congrArg (Prog.op _) (funext fun _ => (dif_pos ((starts6 t).mpr h2)).trans ?_)
      rfl
    · iterate 10 apply Exists.intro
      refine ⟨off6 t, (dif_neg h1).trans ((dif_neg h3).trans ((dif_pos h5).trans ?_))⟩
      exact congrArg (Prog.op _) (funext fun _ => dif_neg fun e => h2 ((starts6 t).mp e))

theorem row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, row]
  exact triple_restated (sound m c t) rfl .rfl fun _ => .rfl
theorem hin : Pipeline.ΦA spec0 c ⊢ (dats m 0 c).Φ 0 := by
  rw [PhiA_eq]
  show _ ⊢ Phi m c 0
  unfold Phi ready
  iintro ⟨⟨⟨%A, H6⟩, ⟨%X, H7⟩⟩, Hg⟩
  isplitl [H6]
  · iexists A
    isplitr; · ipureintro; exact fun e => absurd e (by decide)
    iexact H6
  isplitl [H7]
  · iexists X
    isplitr; · ipureintro; exact fun k _ e => absurd e (Nat.not_lt_zero k)
    iexact H7
  iexact Hg
theorem hout : (dats m 0 c).Φ (Fin.last cfg0.N) ⊢ Pipeline.ΦA spec0 c := by
  rw [PhiA_eq]
  show Phi m c cfg0.N ⊢ _
  unfold Phi ready
  iintro ⟨⟨%A, -, H6⟩, ⟨%X, -, H7⟩, Hg⟩
  isplitl [H6 H7]
  · isplitl [H6]
    · iexists _; iexact H6
    iexists _; iexact H7
  iexact Hg

set_option backward.isDefEq.respectTransparency.types false in
/-- The launch: the arrays end as the proof data say, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's array ends as the proof data say, the arguments unchanged, and the semaphores at zero. -/
theorem run : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (launch m ρ)

end Run

section Value
open Cert.KUpWgradAIdeal Cert.KUpWgradAIdeal.Gen

variable (m : (ℓ : Loc nD τ sig) → Buf (Elt Ideal) ℓ) (c : Dev nD)

/-- The tiles of a grid point. -/
theorem idx : ∀ t : Fin cfg0.N, win0_0.index t (0 : Fin 2) = t.val % 2 ∧ win0_0.index t (1 : Fin 2) = 0
    ∧ win0_1.index t (0 : Fin 2) = t.val % 2 ∧ win0_1.index t (1 : Fin 2) = t.val / 2
    ∧ win0_2.index t (0 : Fin 3) = t.val / 2 ∧ win0_2.index t (1 : Fin 3) = 0 ∧ win0_2.index t (2 : Fin 3) = 0 :=
  (by decide +kernel : ∀ t : Fin grid0.N, _)

/-- The place in the result of an entry of a point's tile. -/
abbrev spot (t : Fin cfg0.N) (z : S1x1024x1408.Idx) : S8x1024x1408.Idx := ((cfg0.win 2).blk t).view.emb z
/-- A term of a point's product is one of the result's. -/
theorem tile (t s p : Fin cfg0.N) (j : ℕ) (hj : j < 2) (hs : s.val % 2 = j) (hp : p.val % 2 = j) (hpt : p.val / 2 = t.val / 2) (z : S1x1024x1408.Idx) (k : Fin 2048) :
    (x m c s (ix2 k (z 1)) : EReal) * y m c p (ix2 k (z 2)) = term (n := 8) (by decide) 0 (by decide) (m ((c : Thread nD τ).loc main_arg0) : Vec Ideal S4096x2048 .bf16)
      (m ((c : Thread nD τ).loc main_arg1) : Vec Ideal S4096x11264 .bf16) (spot t z) ⟨j * 2048 + k.val, by omega⟩ := by
  obtain ⟨e0, e1, -⟩ := idx s
  obtain ⟨-, -, e2, e3, -⟩ := idx p
  obtain ⟨-, -, -, -, d0, d1, d2⟩ := idx t
  have hz : (z 0).val < 1 := (z 0).isLt
  refine congrArg₂ (· * ·) (at2 (m ((c : Thread nD τ).loc main_arg0)) ?_ ?_) (at2 (m ((c : Thread nD τ).loc main_arg1)) ?_ ?_)
  · show win0_0.index s (0 : Fin 2) * 2048 + 1 * k.val = j * 2048 + k.val
    rw [e0, hs]; omega
  · show win0_0.index s (1 : Fin 2) * 1024 + 1 * (z 1).val = 0 + (win0_2.index t (1 : Fin 3) * 1024 + 1 * (z 1).val)
    rw [e1, d1]; omega
  · show win0_1.index p (0 : Fin 2) * 2048 + 1 * k.val = j * 2048 + k.val
    rw [e2, hp]; omega
  · show win0_1.index p (1 : Fin 2) * 1408 + 1 * (z 2).val = (win0_2.index t (0 : Fin 3) * 1 + 1 * (z 0).val) * 1408 + (win0_2.index t (2 : Fin 3) * 1408 + 1 * (z 2).val)
    rw [e3, d0, d2, hpt]; omega

/-- The result's array after the launch. -/
theorem final : (dats m 0 c).arrAt 2 cfg0.N = slabs (n := 8) (b := 1408) (by decide) (gradW (M := 1024) 0 (by decide) (m ((c : Thread nD τ).loc main_arg0) : Vec Ideal S4096x2048 .bf16)
    (m ((c : Thread nD τ).loc main_arg1) : Vec Ideal S4096x11264 .bf16)) := by
  refine (dats m 0 c).arrAt_eq_of_covers 2 _ (by decide +kernel) fun t hf z => ?_
  show (dats m 0 c).after 2 t ((cfg0.win 2).xinj (grid0.coords t) z) = slabs _ _ (spot t z)
  rw [after2]
  have ht : t.val < 16 := Nat.lt_of_lt_of_eq t.isLt N_0
  have h := (flush0_2 t).mp hf
  have hp : (pt (t.val - 1)).val = t.val - 1 := Nat.mod_eq_of_lt (by omega)
  refine (both_turned _ _ _ _ _).trans (Eq.trans ?_ (sum_blocks (J := 2) (t := 2048) rfl (term (n := 8) (by decide) 0 (by decide) _ _ (spot t z))))
  rw [Fin.sum_univ_two]
  exact congrArg₂ (· + ·)
    (Finset.sum_congr rfl fun k _ => tile m c t (pt 0) (pt (t.val - 1)) 0 (by decide) rfl (by rw [hp]; omega) (by rw [hp]; omega) z k)
    (Finset.sum_congr rfl fun k _ => tile m c t (pt 1) t 1 (by decide) rfl h rfl z k)

end Value

/-- The kernel's text is the idealized one's at bit patterns. -/
theorem main_eq : (Cert.KUpWgradA.main (F := Bits) : _) = (Cert.KUpWgradAIdeal.main (F := Bits) : _) := by sl_kernel_rfl
theorem defs_eq : (Cert.KUpWgradA.defs (F := Bits) : _) = (Cert.KUpWgradAIdeal.defs (F := Bits) : _) := by sl_kernel_rfl

/-- The kernel runs, its arguments unchanged and its semaphores at zero. -/
theorem quiescent_kernel : Cert.quiescent_KUpWgradA := by
  intro m g _
  rw [main_eq, defs_eq]
  exact (θ_run (Cert.KUpWgradAIdeal.defs (F := Bits)) _ _).mono (fun r h => ⟨fun c => (h.1 c).2, h.2⟩) (run (F := Bits) m g)
/-- So does the idealized kernel. -/
theorem quiescent_ideal : Cert.quiescent_KUpWgradAIdeal := fun m g _ =>
  (θ_run Cert.KUpWgradAIdeal.defs _ _).mono (fun r h => ⟨fun c => (h.1 c).2, h.2⟩) (run m g)
/-- So does the reference. -/
theorem quiescent_reference : Cert.quiescent_RUpWgradAIdeal := fun m g _ =>
  (θ_run Cert.RUpWgradAIdeal.defs _ _).mono (fun r h => ⟨fun c => (h c).2, sem_eq_zero_of_no_sems rfl _⟩) (Cert.RUpWgradAIdeal.Value.run m g)

/-- The kernel and the reference end with the same slabs. -/
theorem algebraic : Cert.algebraic_KUpWgradAIdeal_RUpWgradAIdeal := fun m g m' g' _ harg =>
  ⟨fun c => slabs (n := 8) (b := 1408) (by decide) (gradW (M := 1024) 0 (by decide) (m ((c.tc : Thread Cert.KUpWgradAIdeal.nD Cert.KUpWgradAIdeal.τ).loc Cert.KUpWgradAIdeal.main_arg0) : Vec Ideal Cert.KUpWgradAIdeal.S4096x2048 .bf16)
      (m ((c.tc : Thread Cert.KUpWgradAIdeal.nD Cert.KUpWgradAIdeal.τ).loc Cert.KUpWgradAIdeal.main_arg1) : Vec Ideal Cert.KUpWgradAIdeal.S4096x11264 .bf16)),
    (θ_run Cert.KUpWgradAIdeal.defs _ _).mono (fun r h c => ⟨(h.1 c).1.trans (final m c), (h.1 c).2⟩) (run m g),
    (θ_run Cert.RUpWgradAIdeal.defs _ _).mono (fun r h c => ⟨by
      rw [(h c).1, (harg c).1, (harg c).2]
      exact slabs_grad (K := 4096) (N := 11264) (M₀ := 2048) (n := 8) (b := 1408) (M := 1024) 0 (by decide) (by decide) Cert.RUpWgradAIdeal.dot_S4096x11264_S4096x2048_S11264x2048_0_0_1_1_n_n rfl rfl rfl rfl rfl rfl _ _ _ _ _ _ _, (h c).2⟩) (Cert.RUpWgradAIdeal.Value.run m' g')⟩

end Cert.Prod.UpWgradA

end
-- ==== Proof.Prod.UpWgradB.lean ====
/-
  The gradient of the up projection's weight, its last rows: an odd grid point leaves a tile of a slab of the product of
  the first argument's transpose with the second, the sum of the products of the tiles of the upper and the lower half of
  the rows; the transposed tiles stay in the scratch.
-/
module

public import proofs.«01_k».proof.Defs
public import proofs.«01_k».proof.Proof.Prod.Slots
public import proofs.«01_k».proof.Proof.Gen.KUpWgradB.Frame
public import proofs.«01_k».proof.Proof.Gen.KUpWgradBIdeal.Frame
public import proofs.«01_k».proof.Proof.Gen.RUpWgradBIdeal.Run

@[expose] public section

set_option maxRecDepth 16384

noncomputable section

namespace Cert.Prod.UpWgradB

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open scoped BigOperators

section Run
open Cert.KUpWgradBIdeal Cert.KUpWgradBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- Even points start a product and odd ones end it. -/
theorem evens (t : Fin cfg0.N) : k0_cond1 (grid0.coords t) = 1#1 ↔ t.val % 2 = 0 :=
  (by decide +kernel : ∀ t : Fin grid0.N, k0_cond1 (grid0.coords t) = 1#1 ↔ t.val % 2 = 0) t
theorem between (t : Fin cfg0.N) : ¬k0_cond3 (grid0.coords t) = 1#1 :=
  (by decide +kernel : ∀ t : Fin grid0.N, ¬k0_cond3 (grid0.coords t) = 1#1) t
theorem odds (t : Fin cfg0.N) : k0_cond5 (grid0.coords t) = 1#1 ↔ t.val % 2 = 1 :=
  (by decide +kernel : ∀ t : Fin grid0.N, k0_cond5 (grid0.coords t) = 1#1 ↔ t.val % 2 = 1) t
/-- The first two points store their tiles. -/
theorem starts2 (t : Fin cfg0.N) : k0_cond2 (grid0.coords t) = 1#1 ↔ t.val < 2 :=
  (by decide +kernel : ∀ t : Fin grid0.N, k0_cond2 (grid0.coords t) = 1#1 ↔ t.val < 2) t
theorem starts6 (t : Fin cfg0.N) : k0_cond6 (grid0.coords t) = 1#1 ↔ t.val < 2 :=
  (by decide +kernel : ∀ t : Fin grid0.N, k0_cond6 (grid0.coords t) = 1#1 ↔ t.val < 2) t

/-- A point's place in the scratch. -/
theorem off1 (t : Fin cfg0.N) : k0_off1 (grid0.coords t) = ![t.val % 2, 0, 0] :=
  (by decide +kernel : ∀ t : Fin grid0.N, k0_off1 (grid0.coords t) = ![t.val % 2, 0, 0]) t
theorem off2 (t : Fin cfg0.N) : k0_off2 (grid0.coords t) = ![t.val % 2, 0, 0] := off1 t
theorem off5 (t : Fin cfg0.N) : k0_off5 (grid0.coords t) = ![t.val % 2, 0, 0] := off1 t
theorem off6 (t : Fin cfg0.N) : k0_off6 (grid0.coords t) = ![t.val % 2, 0, 0] := off1 t

/-- The point of a number. -/
def pt (n : ℕ) : Fin cfg0.N := ⟨n % 16, Nat.lt_of_lt_of_eq (Nat.mod_lt n (by decide)) N_0.symm⟩
theorem pt_val (t : Fin cfg0.N) : pt t.val = t := Fin.ext (Nat.mod_eq_of_lt (Nat.lt_of_lt_of_eq t.isLt N_0))

/-- The tiles that a point is given, -/
def x (t : Fin cfg0.N) : Vec F S2048x1024 .bf16 := iblk m c 0 t
def y (t : Fin cfg0.N) : Vec F S2048x1408 .bf16 := iblk m c 1 t
/-- what an odd point leaves in the result's buffer, -/
def sum (t : Fin cfg0.N) : Vec F S1x1024x1408 .bf16 :=
  both (acc (turned (x m c (pt 0))) (y m c (pt (t.val - 1)))) (turned (x m c (pt 1))) (y m c t)
/-- and what is owned before point `n`. -/
def Phi (n : ℕ) : sProp 𝕄 :=
  ready (Memref.whole cc0_scratch0) (Memref.whole cc0_scratch1) (fun n => x m c (pt n)) n (fun n => y m c (pt n)) c iprop(∃ r, prngReg c r)

/-- At the launch the scratch and the accumulator are at anything. -/
theorem PhiA_eq : (Pipeline.ΦA spec0 c : sProp 𝕄) = iprop(((∃ d, owns (c : Thread nD τ) (Memref.whole cc0_scratch0) fullShare d)
    ∗ (∃ d, owns (c : Thread nD τ) (Memref.whole cc0_scratch1) fullShare d)) ∗ (∃ r, prngReg c r)) := by
  unfold Pipeline.ΦA; rw [scopedRest0_eq]; simp only [owns_whole]; try rfl

/-- The proof data: a point leaves the tiles it is given as they are and an odd one the sum in the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sum m c t
  Φ t := Phi m c t.val
  q _ := fullShare
  owed _ := 0

theorem A_eq (w : Fin cfg0.W) : (dats m 0 c).A w = V m c (Pipeline.arrRef spec0 w) := by dsimp only [dats]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = sum m c t := by dsimp only [dats]
theorem before0 (t : Fin cfg0.N) (d) : (dats m 0 c).before 0 t d = x m c t :=
  before0_0_of m (dats m 0 c) (A_eq m c 0) (after0 m c) t d
theorem before1 (t : Fin cfg0.N) (d) : (dats m 0 c).before 1 t d = y m c t :=
  before0_1_of m (dats m 0 c) (A_eq m c 1) (after1 m c) t d

/-- An even point leaves the result's buffer as it found it, and an odd one at the sum. -/
theorem leaves_even (t : Fin cfg0.N) (h : t.val % 2 = 0) :
    (dats m 0 c).leavesExact 2 t = iprop(∃ d, owns (c : Thread nD τ) (st0_2 t) fullShare ((dats m 0 c).before 2 t d)) := by
  refine Dat.leavesExact_idle _ 2 t ?_ ?_
  · show (!(k0_cond5 (grid0.coords t) == 1#1)) = true
    have h5 : ¬k0_cond5 (grid0.coords t) = 1#1 := fun e => by have := (odds t).mp e; omega
    simp [h5]
  · exact Bool.eq_false_iff.mpr fun e => by have := (flush0_2 t).mp e; omega
theorem leaves_odd (t : Fin cfg0.N) (h : t.val % 2 = 1) :
    (dats m 0 c).leavesExact 2 t = owns (c : Thread nD τ) (st0_2 t) fullShare (sum m c t) := by
  have h5 : cfg0.idle 2 (cfg0.grid.coords t) = false := by
    show (!(k0_cond5 (grid0.coords t) == 1#1)) = false
    simp [(odds t).mpr h]
  unfold Dat.leavesExact
  rw [h5, after2]

/-- The body at any point, from what the launch hands it to what it hands back. -/
theorem sound (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  simp only [before0, before1]
  have h3 := between t
  by_cases h : t.val % 2 = 0
  · have h1 := (evens t).mpr h
    have h5 : ¬k0_cond5 (grid0.coords t) = 1#1 := fun e => by have := (odds t).mp e; omega
    rw [leaves_even m c t h]
    unfold bodyAt0 cc0_up_wgrad_1
    refine even_point (a3 := st0_0 t) (a4 := st0_1 t) (a5 := st0_2 t) (n := t.val) (Memref.whole cc0_scratch0) (Memref.whole cc0_scratch1)
      (fun n => x m c (pt n)) (y := fun n => y m c (pt n)) h (fun h2 => ?_) (fun h2 => ?_)
      (x m c t) (fun _ => congrArg (x m c) (pt_val t).symm) (y m c t) (congrArg (y m c) (pt_val t).symm) _
    · iterate 14 apply Exists.intro
      refine ⟨off1 t, off2 t, (dif_pos h1).trans ((dif_pos ((starts2 t).mpr h2)).trans ?_)⟩
      iterate 7 refine congrArg (Prog.op _) (funext fun _ => ?_)
      exact (dif_neg h3).trans (dif_neg h5)
    · iterate 8 apply Exists.intro
      refine ⟨off2 t, (dif_pos h1).trans ((dif_neg fun e => h2 ((starts2 t).mp e)).trans ?_)⟩
      iterate 4 refine congrArg (Prog.op _) (funext fun _ => ?_)
      exact (dif_neg h3).trans (dif_neg h5)
  · have h : t.val % 2 = 1 := by omega
    have h5 := (odds t).mpr h
    have h1 : ¬k0_cond1 (grid0.coords t) = 1#1 := fun e => by have := (evens t).mp e; omega
    rw [leaves_odd m c t h]
    unfold bodyAt0 cc0_up_wgrad_1
    refine odd_point (a3 := st0_0 t) (a4 := st0_1 t) (a5 := st0_2 t) (n := t.val) (Memref.whole cc0_scratch0) (Memref.whole cc0_scratch1)
      (fun n => x m c (pt n)) (y := fun n => y m c (pt n)) h (fun h2 => ?_) (fun h2 => ?_)
      (x m c t) (fun _ => congrArg (x m c) (pt_val t).symm) (y m c t) _
    · iterate 16 apply Exists.intro
      refine ⟨off5 t, off6 t, (dif_neg h1).trans ((dif_neg h3).trans ((dif_pos h5).trans ?_))⟩
      refine congrArg (Prog.op _) (funext fun _ => (dif_pos ((starts6 t).mpr h2)).trans ?_)
      rfl
    · iterate 10 apply Exists.intro
      refine ⟨off6 t, (dif_neg h1).trans ((dif_neg h3).trans ((dif_pos h5).trans ?_))⟩
      exact congrArg (Prog.op _) (funext fun _ => dif_neg fun e => h2 ((starts6 t).mp e))

theorem row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, row]
  exact triple_restated (sound m c t) rfl .rfl fun _ => .rfl
theorem hin : Pipeline.ΦA spec0 c ⊢ (dats m 0 c).Φ 0 := by
  rw [PhiA_eq]
  show _ ⊢ Phi m c 0
  unfold Phi ready
  iintro ⟨⟨⟨%A, H6⟩, ⟨%X, H7⟩⟩, Hg⟩
  isplitl [H6]
  · iexists A
    isplitr; · ipureintro; exact fun e => absurd e (by decide)
    iexact H6
  isplitl [H7]
  · iexists X
    isplitr; · ipureintro; exact fun k _ e => absurd e (Nat.not_lt_zero k)
    iexact H7
  iexact Hg
theorem hout : (dats m 0 c).Φ (Fin.last cfg0.N) ⊢ Pipeline.ΦA spec0 c := by
  rw [PhiA_eq]
  show Phi m c cfg0.N ⊢ _
  unfold Phi ready
  iintro ⟨⟨%A, -, H6⟩, ⟨%X, -, H7⟩, Hg⟩
  isplitl [H6 H7]
  · isplitl [H6]
    · iexists _; iexact H6
    iexists _; iexact H7
  iexact Hg

set_option backward.isDefEq.respectTransparency.types false in
/-- The launch: the arrays end as the proof data say, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's array ends as the proof data say, the arguments unchanged, and the semaphores at zero. -/
theorem run : θ_run defs (onTc (τ := τ) (main (F := F))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (launch m ρ)

end Run

section Value
open Cert.KUpWgradBIdeal Cert.KUpWgradBIdeal.Gen

variable (m : (ℓ : Loc nD τ sig) → Buf (Elt Ideal) ℓ) (c : Dev nD)

/-- The tiles of a grid point. -/
theorem idx : ∀ t : Fin cfg0.N, win0_0.index t (0 : Fin 2) = t.val % 2 ∧ win0_0.index t (1 : Fin 2) = 1
    ∧ win0_1.index t (0 : Fin 2) = t.val % 2 ∧ win0_1.index t (1 : Fin 2) = t.val / 2
    ∧ win0_2.index t (0 : Fin 3) = t.val / 2 ∧ win0_2.index t (1 : Fin 3) = 0 ∧ win0_2.index t (2 : Fin 3) = 0 :=
  (by decide +kernel : ∀ t : Fin grid0.N, _)

/-- The place in the result of an entry of a point's tile. -/
abbrev spot (t : Fin cfg0.N) (z : S1x1024x1408.Idx) : S8x1024x1408.Idx := ((cfg0.win 2).blk t).view.emb z
/-- A term of a point's product is one of the result's. -/
theorem tile (t s p : Fin cfg0.N) (j : ℕ) (hj : j < 2) (hs : s.val % 2 = j) (hp : p.val % 2 = j) (hpt : p.val / 2 = t.val / 2) (z : S1x1024x1408.Idx) (k : Fin 2048) :
    (x m c s (ix2 k (z 1)) : EReal) * y m c p (ix2 k (z 2)) = term (n := 8) (by decide) 1024 (by decide) (m ((c : Thread nD τ).loc main_arg0) : Vec Ideal S4096x2048 .bf16)
      (m ((c : Thread nD τ).loc main_arg1) : Vec Ideal S4096x11264 .bf16) (spot t z) ⟨j * 2048 + k.val, by omega⟩ := by
  obtain ⟨e0, e1, -⟩ := idx s
  obtain ⟨-, -, e2, e3, -⟩ := idx p
  obtain ⟨-, -, -, -, d0, d1, d2⟩ := idx t
  have hz : (z 0).val < 1 := (z 0).isLt
  refine congrArg₂ (· * ·) (at2 (m ((c : Thread nD τ).loc main_arg0)) ?_ ?_) (at2 (m ((c : Thread nD τ).loc main_arg1)) ?_ ?_)
  · show win0_0.index s (0 : Fin 2) * 2048 + 1 * k.val = j * 2048 + k.val
    rw [e0, hs]; omega
  · show win0_0.index s (1 : Fin 2) * 1024 + 1 * (z 1).val = 1024 + (win0_2.index t (1 : Fin 3) * 1024 + 1 * (z 1).val)
    rw [e1, d1]; omega
  · show win0_1.index p (0 : Fin 2) * 2048 + 1 * k.val = j * 2048 + k.val
    rw [e2, hp]; omega
  · show win0_1.index p (1 : Fin 2) * 1408 + 1 * (z 2).val = (win0_2.index t (0 : Fin 3) * 1 + 1 * (z 0).val) * 1408 + (win0_2.index t (2 : Fin 3) * 1408 + 1 * (z 2).val)
    rw [e3, d0, d2, hpt]; omega

/-- The result's array after the launch. -/
theorem final : (dats m 0 c).arrAt 2 cfg0.N = slabs (n := 8) (b := 1408) (by decide) (gradW (M := 1024) 1024 (by decide) (m ((c : Thread nD τ).loc main_arg0) : Vec Ideal S4096x2048 .bf16)
    (m ((c : Thread nD τ).loc main_arg1) : Vec Ideal S4096x11264 .bf16)) := by
  refine (dats m 0 c).arrAt_eq_of_covers 2 _ (by decide +kernel) fun t hf z => ?_
  show (dats m 0 c).after 2 t ((cfg0.win 2).xinj (grid0.coords t) z) = slabs _ _ (spot t z)
  rw [after2]
  have ht : t.val < 16 := Nat.lt_of_lt_of_eq t.isLt N_0
  have h := (flush0_2 t).mp hf
  have hp : (pt (t.val - 1)).val = t.val - 1 := Nat.mod_eq_of_lt (by omega)
  refine (both_turned _ _ _ _ _).trans (Eq.trans ?_ (sum_blocks (J := 2) (t := 2048) rfl (term (n := 8) (by decide) 1024 (by decide) _ _ (spot t z))))
  rw [Fin.sum_univ_two]
  exact congrArg₂ (· + ·)
    (Finset.sum_congr rfl fun k _ => tile m c t (pt 0) (pt (t.val - 1)) 0 (by decide) rfl (by rw [hp]; omega) (by rw [hp]; omega) z k)
    (Finset.sum_congr rfl fun k _ => tile m c t (pt 1) t 1 (by decide) rfl h rfl z k)

end Value

/-- The kernel's text is the idealized one's at bit patterns. -/
theorem main_eq : (Cert.KUpWgradB.main (F := Bits) : _) = (Cert.KUpWgradBIdeal.main (F := Bits) : _) := by sl_kernel_rfl
theorem defs_eq : (Cert.KUpWgradB.defs (F := Bits) : _) = (Cert.KUpWgradBIdeal.defs (F := Bits) : _) := by sl_kernel_rfl

/-- The kernel runs, its arguments unchanged and its semaphores at zero. -/
theorem quiescent_kernel : Cert.quiescent_KUpWgradB := by
  intro m g _
  rw [main_eq, defs_eq]
  exact (θ_run (Cert.KUpWgradBIdeal.defs (F := Bits)) _ _).mono (fun r h => ⟨fun c => (h.1 c).2, h.2⟩) (run (F := Bits) m g)
/-- So does the idealized kernel. -/
theorem quiescent_ideal : Cert.quiescent_KUpWgradBIdeal := fun m g _ =>
  (θ_run Cert.KUpWgradBIdeal.defs _ _).mono (fun r h => ⟨fun c => (h.1 c).2, h.2⟩) (run m g)
/-- So does the reference. -/
theorem quiescent_reference : Cert.quiescent_RUpWgradBIdeal := fun m g _ =>
  (θ_run Cert.RUpWgradBIdeal.defs _ _).mono (fun r h => ⟨fun c => (h c).2, sem_eq_zero_of_no_sems rfl _⟩) (Cert.RUpWgradBIdeal.Value.run m g)

/-- The kernel and the reference end with the same slabs. -/
theorem algebraic : Cert.algebraic_KUpWgradBIdeal_RUpWgradBIdeal := fun m g m' g' _ harg =>
  ⟨fun c => slabs (n := 8) (b := 1408) (by decide) (gradW (M := 1024) 1024 (by decide) (m ((c.tc : Thread Cert.KUpWgradBIdeal.nD Cert.KUpWgradBIdeal.τ).loc Cert.KUpWgradBIdeal.main_arg0) : Vec Ideal Cert.KUpWgradBIdeal.S4096x2048 .bf16)
      (m ((c.tc : Thread Cert.KUpWgradBIdeal.nD Cert.KUpWgradBIdeal.τ).loc Cert.KUpWgradBIdeal.main_arg1) : Vec Ideal Cert.KUpWgradBIdeal.S4096x11264 .bf16)),
    (θ_run Cert.KUpWgradBIdeal.defs _ _).mono (fun r h c => ⟨(h.1 c).1.trans (final m c), (h.1 c).2⟩) (run m g),
    (θ_run Cert.RUpWgradBIdeal.defs _ _).mono (fun r h c => ⟨by
      rw [(h c).1, (harg c).1, (harg c).2]
      exact slabs_grad (K := 4096) (N := 11264) (M₀ := 2048) (n := 8) (b := 1408) (M := 1024) 1024 (by decide) (by decide) Cert.RUpWgradBIdeal.dot_S4096x11264_S4096x2048_S11264x2048_0_0_1_1_n_n rfl rfl rfl rfl rfl rfl _ _ _ _ _ _ _, (h c).2⟩) (Cert.RUpWgradBIdeal.Value.run m' g')⟩

end Cert.Prod.UpWgradB

end
-- ==== Proof.Adam.Rule.lean ====
/-
  One step of the optimiser over the extended reals: the moments and the weight's change, place by place, from the
  gradient, and the gradient as the sum of the parts that the devices sent.
-/
module

public import proofs.«01_k».proof.Proof.Prod.Sum
public import Idealize.ShloMosaic.Lib.Pointwise
public import Idealize.ShloMosaic.Lib.Pipeline.ValueKit

@[expose] public section

noncomputable section

namespace Cert.Adam

open Idealize.ShloMosaic Idealize.ShloMosaic.ValueIdx
open scoped BigOperators

variable {S : Shape} {n G R C : ℕ}

/-- The gradients' running mean after the step. -/
def mean (m g : EReal) : EReal := Ideal.ofBits .f32 0x3F666666#32 * m + Ideal.ofBits .f32 0x3DCCCCCD#32 * g
/-- The squares' running mean after the step. -/
def square (v g : EReal) : EReal := Ideal.ofBits .f32 0x3F7FBE77#32 * v + Ideal.ofBits .f32 0x3A83126F#32 * (g * g)
/-- The weight's change: the corrected mean over the root of the corrected squares, and the decay. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- The sum of the parts. -/
def total (p : (⟨3, ![n, R, C]⟩ : Shape).Idx → EReal) (r : Fin R) (c : Fin C) : EReal := ∑ d : Fin n, p (ValueIdx.ix3 d r c)
/-- The gradient of a stack of matrices, each the sum of its own parts. -/
def grad (p : Fin G → (⟨3, ![n, R, C]⟩ : Shape).Idx → EReal) : (⟨3, ![G, R, C]⟩ : Shape).Idx → EReal := fun i => total (p (i 0)) (i 1) (i 2)

/-- The four results of the step as arrays: the gradient, the change and the two means. -/
def newMean (m g : S.Idx → EReal) : S.Idx → EReal := fun i => mean (m i) (g i)
def newSquare (v g : S.Idx → EReal) : S.Idx → EReal := fun i => square (v i) (g i)
def newChange (w m v g : S.Idx → EReal) : S.Idx → EReal := fun i => change (w i) (mean (m i) (g i)) (square (v i) (g i))

/-- The host's sum of the parts, as one matrix of the stack. -/
theorem host_sum (p : FVec Ideal ⟨3, ![n, R, C]⟩ .f32) (h : (⟨3, ![n, R, C]⟩ : Shape).ReducesTo [0] ⟨2, ![R, C]⟩) (h' : 0 < (⟨0, ![]⟩ : Shape).numel)
    (b : (⟨2, ![R, C]⟩ : Shape).BroadcastsInDim ⟨3, ![1, R, C]⟩ (![1, 2] : Fin 2 → Fin 3)) (i : (⟨3, ![1, R, C]⟩ : Shape).Idx) :
    broadcastInDim (⟨3, ![1, R, C]⟩ : Shape) ![1, 2] b (Host.reduceAdd p (constant ⟨0, ![]⟩ .f32 0x00000000#32) h h') i = total p (i 1) (i 2) := by
  have one : ∀ {k N : ℕ}, k < N → k = if N = 1 then 0 else k := fun {k N} h => by split <;> omega
  refine (broadcastInDim_apply _ b _ i (ValueIdx.ix2 (i 1) (i 2)) fun a => ?_).trans ?_
  · match a with
    | ⟨0, _⟩ => exact one (i 1).isLt
    | ⟨1, _⟩ => exact one (i 2).isLt
  · refine (Ideal.hostReduceAdd_r3_a0 h p _ _).trans ?_
    show Ideal.ofBits .f32 0x00000000#32 + _ = _
    rw [Ideal.ofBits_zero_f32, zero_add]
    rfl

/-- The host's sum of the parts, as a stack of one. -/
theorem host_sum₁ (p : FVec Ideal ⟨3, ![n, R, C]⟩ .f32) (h : (⟨3, ![n, R, C]⟩ : Shape).ReducesTo [0] ⟨2, ![R, C]⟩) (h' : 0 < (⟨0, ![]⟩ : Shape).numel)
    (b : (⟨2, ![R, C]⟩ : Shape).BroadcastsInDim ⟨3, ![1, R, C]⟩ (![1, 2] : Fin 2 → Fin 3)) :
    broadcastInDim (⟨3, ![1, R, C]⟩ : Shape) ![1, 2] b (Host.reduceAdd p (constant ⟨0, ![]⟩ .f32 0x00000000#32) h h') = grad (G := 1) fun _ => p :=
  funext (host_sum p h h' b)

/-- Two sums, stacked by the host. -/
theorem host_sum₂ (p q : FVec Ideal ⟨3, ![n, R, C]⟩ .f32) (h : (⟨3, ![n, R, C]⟩ : Shape).ReducesTo [0] ⟨2, ![R, C]⟩) (h' : 0 < (⟨0, ![]⟩ : Shape).numel)
    (b : (⟨2, ![R, C]⟩ : Shape).BroadcastsInDim ⟨3, ![1, R, C]⟩ (![1, 2] : Fin 2 → Fin 3)) (k) :
    concatenate (⟨3, ![2, R, C]⟩ : Shape) 0
      [⟨⟨3, ![1, R, C]⟩, broadcastInDim (⟨3, ![1, R, C]⟩ : Shape) ![1, 2] b (Host.reduceAdd p (constant ⟨0, ![]⟩ .f32 0x00000000#32) h h')⟩,
        ⟨⟨3, ![1, R, C]⟩, broadcastInDim (⟨3, ![1, R, C]⟩ : Shape) ![1, 2] b (Host.reduceAdd q (constant ⟨0, ![]⟩ .f32 0x00000000#32) h h')⟩] k = grad ![p, q] := by
  funext E
  rw [host_sum₁, host_sum₁]
  refine (concatenate_ofFn_unit_apply (s₁ := (⟨3, ![1, R, C]⟩ : Shape)) (t := (⟨3, ![2, R, C]⟩ : Shape)) 0 (fun d : Fin 2 => grad (G := 1) fun _ => (![p, q] : Fin 2 → _) d) k rfl rfl E (E 0) rfl
    (ValueIdx.ix3 0 (E 1) (E 2)) fun a ha => ?_).trans rfl
  match a with
  | ⟨0, _⟩ => exact absurd rfl ha
  | ⟨1, _⟩ => rfl
  | ⟨2, _⟩ => rfl

/-- A matrix cast to a stack of one. -/
theorem stack_one (X : (⟨2, ![R, C]⟩ : Shape).Idx → EReal) (h : (⟨2, ![R, C]⟩ : Shape).ShapeCasts ⟨3, ![1, R, C]⟩) (i : (⟨3, ![1, R, C]⟩ : Shape).Idx) :
    shapeCast ⟨3, ![1, R, C]⟩ X h i = X (ValueIdx.ix2 (i 1) (i 2)) :=
  shapeCast_apply X h i (ValueIdx.ix2 (i 1) (i 2)) (by
    have e : (i 0).val = 0 := by have := (i 0).isLt; simpa using this
    rw [Shape.rowMajor_val_three, Shape.rowMajor_val_two, e]
    show (i 1).val * C + (i 2).val = (0 * R + (i 1).val) * C + (i 2).val
    rw [Nat.zero_mul, Nat.zero_add])

/-- An entry of a stack of one. -/
theorem slab_at (Y : (⟨3, ![1, R, C]⟩ : Shape).Idx → EReal) (i : (⟨3, ![1, R, C]⟩ : Shape).Idx) : Prod.slab Y (ValueIdx.ix2 (i 1) (i 2)) = Y i :=
  Prod.at3 Y (by have h : (i 0).val < 1 := (i 0).isLt; show 0 = (i 0).val; omega) rfl rfl
/-- A wider type holds the same numbers. -/
theorem extf_eq {φ : FTy} (X : FVec Ideal S φ) (h) : extf .f32 X h = (X : S.Idx → EReal) := rfl
/-- A window that stays at its only block reads each place where it lies. -/
theorem stay {i b k : ℕ} (h : i = 0) : i * b + 1 * k = k := by rw [h]; omega
/-- So it is written. -/
theorem out {α : Type} (X : (⟨3, ![G, R, C]⟩ : Shape).Idx → α) (i j : (⟨3, ![G, R, C]⟩ : Shape).Idx) (h : ∀ a, (i a).val = (j a).val) : X j = X i :=
  congrArg X (funext fun a => Fin.ext (h a).symm)
/-- Windows at the same block read at the same places. -/
theorem place {i j b k : ℕ} (h : i = j) : j * b + 1 * k = i * b + 1 * k := by rw [h]
/-- The only matrix of a block of a stack. -/
theorem first {i q : ℕ} (h : i = q) (k : Fin 1) : i * 1 + 1 * k.val = q := by rw [h]; omega
/-- A tile's sums are those of its place in its matrix of the stack. -/
theorem tile {r' c' : ℕ} (x : (⟨3, ![n, r', c']⟩ : Shape).Idx → EReal) (p : Fin G → (⟨3, ![n, R, C]⟩ : Shape).Idx → EReal) (q : Fin G)
    (E : (⟨3, ![G, R, C]⟩ : Shape).Idx) {r : Fin r'} {c : Fin c'} (h : (E 0).val = q.val) (e : ∀ d, x (ValueIdx.ix3 d r c) = p q (ValueIdx.ix3 d (E 1) (E 2))) :
    total x r c = grad p E := by
  have hq : E 0 = q := Fin.ext h
  unfold grad total
  rw [hq]
  exact Finset.sum_congr rfl fun d _ => e d
/-- One part of a stack of parts. -/
theorem part {Val : EltTy → Type} {e : EltTy} (x : (⟨3, ![n, R, C]⟩ : Shape).Idx → Val e) (d : ℕ) (hd : d < n) (h) (r : Fin R) (c : Fin C) :
    View.ld x (Rect.unit ![d, 0, 0] ![1, R, C] h) (ValueIdx.ix3 (0 : Fin 1) r c) = x (ValueIdx.ix3 ⟨d, hd⟩ r c) :=
  congrArg x (funext fun a => Fin.ext (match a with
    | ⟨0, _⟩ => by show d + 1 * 0 = d; omega
    | ⟨1, _⟩ => by show 0 + 1 * r.val = r.val; omega
    | ⟨2, _⟩ => by show 0 + 1 * c.val = c.val; omega))

/-- Eight parts added in their order are their sum. -/
theorem sum_eight (x : (⟨3, ![8, R, C]⟩ : Shape).Idx → EReal) (h0 h1 h2 h3 h4 h5 h6 h7) (j : (⟨2, ![R, C]⟩ : Shape).Idx) :
    addf (F := Ideal) (φ := .f32) (addf (addf (addf (addf (addf (addf
      (Prod.slab (View.ld (Val := Elt Ideal) (e' := .f32) x (Rect.unit ![0, 0, 0] ![1, R, C] h0)))
      (Prod.slab (View.ld (Val := Elt Ideal) (e' := .f32) x (Rect.unit ![1, 0, 0] ![1, R, C] h1))))
      (Prod.slab (View.ld (Val := Elt Ideal) (e' := .f32) x (Rect.unit ![2, 0, 0] ![1, R, C] h2))))
      (Prod.slab (View.ld (Val := Elt Ideal) (e' := .f32) x (Rect.unit ![3, 0, 0] ![1, R, C] h3))))
      (Prod.slab (View.ld (Val := Elt Ideal) (e' := .f32) x (Rect.unit ![4, 0, 0] ![1, R, C] h4))))
      (Prod.slab (View.ld (Val := Elt Ideal) (e' := .f32) x (Rect.unit ![5, 0, 0] ![1, R, C] h5))))
      (Prod.slab (View.ld (Val := Elt Ideal) (e' := .f32) x (Rect.unit ![6, 0, 0] ![1, R, C] h6))))
      (Prod.slab (View.ld (Val := Elt Ideal) (e' := .f32) x (Rect.unit ![7, 0, 0] ![1, R, C] h7))) j = total x (j 0) (j 1) := by
  refine Eq.trans ?_ (Fin.sum_univ_eight fun d : Fin 8 => x (ValueIdx.ix3 d (j 0) (j 1))).symm
  have e := fun d hd h => part (Val := Elt Ideal) (e := .f32) x d hd h (j 0) (j 1)
  exact congrArg₂ (· + ·) (congrArg₂ (· + ·) (congrArg₂ (· + ·) (congrArg₂ (· + ·) (congrArg₂ (· + ·) (congrArg₂ (· + ·) (congrArg₂ (· + ·)
    (e 0 (by decide) h0) (e 1 (by decide) h1)) (e 2 (by decide) h2)) (e 3 (by decide) h3)) (e 4 (by decide) h4)) (e 5 (by decide) h5)) (e 6 (by decide) h6)) (e 7 (by decide) h7)

/-- A single part is its own sum. -/
theorem sum_one (x : (⟨3, ![1, R, C]⟩ : Shape).Idx → EReal) (r : Fin R) (c : Fin C) : Prod.slab x (ValueIdx.ix2 r c) = total x r c := (Fin.sum_univ_one fun d => x (ValueIdx.ix3 d r c)).symm

/-- The same of four parts of a narrower type. -/
theorem sum_four (x : (⟨3, ![4, R, C]⟩ : Shape).Idx → EReal) (h0 h1 h2 h3) (k : FTy.bf16.bits < FTy.f32.bits) (r : Fin R) (c : Fin C) :
    addf (F := Ideal) (φ := .f32) (addf (addf
      (extf (F := Ideal) (φ := .bf16) .f32 (Prod.slab (View.ld (Val := Elt Ideal) (e' := .bf16) x (Rect.unit ![0, 0, 0] ![1, R, C] h0)) : FVec Ideal ⟨2, ![R, C]⟩ .bf16) k)
      (extf (F := Ideal) (φ := .bf16) .f32 (Prod.slab (View.ld (Val := Elt Ideal) (e' := .bf16) x (Rect.unit ![1, 0, 0] ![1, R, C] h1)) : FVec Ideal ⟨2, ![R, C]⟩ .bf16) k))
      (extf (F := Ideal) (φ := .bf16) .f32 (Prod.slab (View.ld (Val := Elt Ideal) (e' := .bf16) x (Rect.unit ![2, 0, 0] ![1, R, C] h2)) : FVec Ideal ⟨2, ![R, C]⟩ .bf16) k))
      (extf (F := Ideal) (φ := .bf16) .f32 (Prod.slab (View.ld (Val := Elt Ideal) (e' := .bf16) x (Rect.unit ![3, 0, 0] ![1, R, C] h3)) : FVec Ideal ⟨2, ![R, C]⟩ .bf16) k) (ValueIdx.ix2 r c) = total x r c := by
  refine Eq.trans ?_ (Fin.sum_univ_four fun d : Fin 4 => x (ValueIdx.ix3 d r c)).symm
  have e := fun d hd h => part (Val := Elt Ideal) (e := .bf16) x d hd h r c
  exact congrArg₂ (· + ·) (congrArg₂ (· + ·) (congrArg₂ (· + ·)
    (e 0 (by decide) h0) (e 1 (by decide) h1)) (e 2 (by decide) h2)) (e 3 (by decide) h3)

section Step
variable {w m v : (⟨3, ![1, R, C]⟩ : Shape).Idx → EReal} {s : (⟨2, ![R, C]⟩ : Shape).Idx → EReal} {i : (⟨3, ![1, R, C]⟩ : Shape).Idx}
  {W M V Γ : S.Idx → EReal} {E : S.Idx}

/-- What a body makes of a tile, at one place. -/
theorem mean_of (hm : m i = M E) (hs : s (ValueIdx.ix2 (i 1) (i 2)) = Γ E) : (addf (F := Ideal) (φ := .f32) (mulf (broadcast ⟨2, ![R, C]⟩ (FloatOps.ofBits (F := Ideal) .f32 0x3F666666#32)) (Prod.slab m)) (mulf (broadcast ⟨2, ![R, C]⟩ (FloatOps.ofBits (F := Ideal) .f32 0x3DCCCCCD#32)) s)) (ValueIdx.ix2 (i 1) (i 2)) = newMean M Γ E :=
  congrArg₂ mean ((slab_at m i).trans hm) hs
theorem square_of (hv : v i = V E) (hs : s (ValueIdx.ix2 (i 1) (i 2)) = Γ E) : (addf (F := Ideal) (φ := .f32) (mulf (broadcast ⟨2, ![R, C]⟩ (FloatOps.ofBits (F := Ideal) .f32 0x3F7FBE77#32)) (Prod.slab v)) (mulf (broadcast ⟨2, ![R, C]⟩ (FloatOps.ofBits (F := Ideal) .f32 0x3A83126F#32)) (mulf s s))) (ValueIdx.ix2 (i 1) (i 2)) = newSquare V Γ E :=
  congrArg₂ square ((slab_at v i).trans hv) hs
theorem change_of (hw : w i = W E) (hm : m i = M E) (hv : v i = V E) (hs : s (ValueIdx.ix2 (i 1) (i 2)) = Γ E) :
    (mulf (F := Ideal) (φ := .f32) (broadcast ⟨2, ![R, C]⟩ (FloatOps.ofBits (F := Ideal) .f32 0xBA83126F#32)) (addf (divf (divf (addf (F := Ideal) (φ := .f32) (mulf (broadcast ⟨2, ![R, C]⟩ (FloatOps.ofBits (F := Ideal) .f32 0x3F666666#32)) (Prod.slab m)) (mulf (broadcast ⟨2, ![R, C]⟩ (FloatOps.ofBits (F := Ideal) .f32 0x3DCCCCCD#32)) s)) (broadcast ⟨2, ![R, C]⟩ (FloatOps.ofBits (F := Ideal) .f32 0x3F26BD02#32))) (addf (sqrt (divf (addf (F := Ideal) (φ := .f32) (mulf (broadcast ⟨2, ![R, C]⟩ (FloatOps.ofBits (F := Ideal) .f32 0x3F7FBE77#32)) (Prod.slab v)) (mulf (broadcast ⟨2, ![R, C]⟩ (FloatOps.ofBits (F := Ideal) .f32 0x3A83126F#32)) (mulf s s))) (broadcast ⟨2, ![R, C]⟩ (FloatOps.ofBits (F := Ideal) .f32 0x3C231ACC#32)))) (broadcast ⟨2, ![R, C]⟩ (FloatOps.ofBits (F := Ideal) .f32 0x322BCC77#32)))) (mulf (broadcast ⟨2, ![R, C]⟩ (FloatOps.ofBits (F := Ideal) .f32 0x3C23D70A#32)) (Prod.slab w)))) (ValueIdx.ix2 (i 1) (i 2)) = newChange W M V Γ E :=
  congr (congrArg₂ change ((slab_at w i).trans hw) (mean_of hm hs)) (square_of hv hs)
end Step

end Cert.Adam

end
-- ==== Proof.Adam.AdaB.lean ====
/-
  One step of the optimiser on the modulation's bias.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamAdaB.Frame
public import proofs.«01_k».proof.Proof.Gen.KAdamAdaBIdeal.Value
public import proofs.«01_k».proof.Proof.Gen.RAdamAdaBIdeal.Run

@[expose] public section

set_option maxRecDepth 16384

noncomputable section

namespace Cert.Adam.AdaB

open Idealize.ShloMosaic Idealize.ShloMosaic.TcCoe Idealize.ShloMosaic.ValueIdx Idealize.SL.Sem Cert.Prod

section Kernel
open Cert.KAdamAdaBIdeal Cert.KAdamAdaBIdeal.Gen

variable (m : (ℓ : Loc nD τ sig) → Buf (Elt Ideal) ℓ) (c : Dev nD)

/-- Every window stays at its only block. -/
theorem idx : ∀ t : Fin cfg0.N, (∀ a : Fin 3, win0_0.index t a = 0 ∧ win0_1.index t a = 0 ∧ win0_2.index t a = 0 ∧ win0_3.index t a = 0)
    ∧ ∀ a : Fin 3, win0_4.index t a = 0 ∧ win0_5.index t a = 0 ∧ win0_6.index t a = 0 ∧ win0_7.index t a = 0 :=
  (by decide +kernel : ∀ t : Fin grid0.N, _)

/-- The parts, the gradient, the weight and the moments. -/
abbrev parts : Vec Ideal S8x2x12288 .f32 := m ((c : Thread nD τ).loc main_arg0)
abbrev weight : Vec Ideal S1x2x12288 .f32 := m ((c : Thread nD τ).loc main_arg1)
abbrev mean₀ : Vec Ideal S1x2x12288 .f32 := m ((c : Thread nD τ).loc main_arg2)
abbrev square₀ : Vec Ideal S1x2x12288 .f32 := m ((c : Thread nD τ).loc main_arg3)
def g : S1x2x12288.Idx → EReal := grad (G := 1) fun _ => parts m c

theorem blk (t : Fin cfg0.N) : (iblk m c 0 t : Vec Ideal S8x2x12288 .f32) = parts m c ∧ (iblk m c 1 t : Vec Ideal S1x2x12288 .f32) = weight m c
    ∧ (iblk m c 2 t : Vec Ideal S1x2x12288 .f32) = mean₀ m c ∧ (iblk m c 3 t : Vec Ideal S1x2x12288 .f32) = square₀ m c := by
  obtain ⟨e, -⟩ := idx t
  refine ⟨funext fun i => at3 (parts m c) (stay (e 0).1) (stay (e 1).1) (stay (e 2).1), funext fun i => at3 (weight m c) (stay (e 0).2.1) (stay (e 1).2.1) (stay (e 2).2.1),
    funext fun i => at3 (mean₀ m c) (stay (e 0).2.2.1) (stay (e 1).2.2.1) (stay (e 2).2.2.1), funext fun i => at3 (square₀ m c) (stay (e 0).2.2.2) (stay (e 1).2.2.2) (stay (e 2).2.2.2)⟩

theorem final4 : (dats m 0 c).arrAt 4 cfg0.N = g m c := by
  refine (dats m 0 c).arrAt_eq_of_covers 4 _ (by decide +kernel) fun t hf y => ?_
  show (dats m 0 c).after 4 t ((cfg0.win 4).xinj (grid0.coords t) y) = g m c (((cfg0.win 4).blk t).view.emb y)
  rw [after0_4]
  dsimp only [outsAt0]
  frame_out
  obtain ⟨e0, e1, e2, e3⟩ := blk m c t
  simp only [e0, e1, e2, e3]
  refine Eq.trans ?_ (out (g m c) (((cfg0.win 4).blk t).view.emb y) ((cfg0.win 4).xinj (grid0.coords t) y) fun a => stay ((idx t).2 a).1)
  unfold k0_pay5 k0_pay2
  simp only [slab_eq, stack_one]
  exact sum_eight _ _ _ _ _ _ _ _ _ _

theorem final5 : (dats m 0 c).arrAt 5 cfg0.N = newChange (weight m c) (mean₀ m c) (square₀ m c) (g m c) := by
  refine (dats m 0 c).arrAt_eq_of_covers 5 _ (by decide +kernel) fun t hf y => ?_
  show (dats m 0 c).after 5 t ((cfg0.win 5).xinj (grid0.coords t) y) = newChange (weight m c) (mean₀ m c) (square₀ m c) (g m c) (((cfg0.win 5).blk t).view.emb y)
  rw [after0_5]
  dsimp only [outsAt0]
  frame_out
  obtain ⟨e0, e1, e2, e3⟩ := blk m c t
  simp only [e0, e1, e2, e3]
  refine Eq.trans ?_ (out (newChange (weight m c) (mean₀ m c) (square₀ m c) (g m c)) (((cfg0.win 5).blk t).view.emb y) ((cfg0.win 5).xinj (grid0.coords t) y) fun a => stay ((idx t).2 a).2.1)
  unfold k0_pay1 k0_pay8 k0_pay4 k0_pay3 k0_pay2
  simp only [slab_eq, stack_one]
  exact congr (congrArg₂ change (slab_at _ _) (congrArg₂ mean (slab_at _ _) (sum_eight _ _ _ _ _ _ _ _ _ _))) (congrArg₂ square (slab_at _ _) (sum_eight _ _ _ _ _ _ _ _ _ _))

theorem final6 : (dats m 0 c).arrAt 6 cfg0.N = newMean (mean₀ m c) (g m c) := by
  refine (dats m 0 c).arrAt_eq_of_covers 6 _ (by decide +kernel) fun t hf y => ?_
  show (dats m 0 c).after 6 t ((cfg0.win 6).xinj (grid0.coords t) y) = newMean (mean₀ m c) (g m c) (((cfg0.win 6).blk t).view.emb y)
  rw [after0_6]
  dsimp only [outsAt0]
  frame_out
  obtain ⟨e0, e1, e2, e3⟩ := blk m c t
  simp only [e0, e1, e2, e3]
  refine Eq.trans ?_ (out (newMean (mean₀ m c) (g m c)) (((cfg0.win 6).blk t).view.emb y) ((cfg0.win 6).xinj (grid0.coords t) y) fun a => stay ((idx t).2 a).2.2.1)
  unfold k0_pay6 k0_pay3 k0_pay2
  simp only [slab_eq, stack_one]
  exact congrArg₂ mean (slab_at _ _) (sum_eight _ _ _ _ _ _ _ _ _ _)

theorem final7 : (dats m 0 c).arrAt 7 cfg0.N = newSquare (square₀ m c) (g m c) := by
  refine (dats m 0 c).arrAt_eq_of_covers 7 _ (by decide +kernel) fun t hf y => ?_
  show (dats m 0 c).after 7 t ((cfg0.win 7).xinj (grid0.coords t) y) = newSquare (square₀ m c) (g m c) (((cfg0.win 7).blk t).view.emb y)
  rw [after0_7]
  dsimp only [outsAt0]
  frame_out
  obtain ⟨e0, e1, e2, e3⟩ := blk m c t
  simp only [e0, e1, e2, e3]
  refine Eq.trans ?_ (out (newSquare (square₀ m c) (g m c)) (((cfg0.win 7).blk t).view.emb y) ((cfg0.win 7).xinj (grid0.coords t) y) fun a => stay ((idx t).2 a).2.2.2)
  unfold k0_pay7 k0_pay4 k0_pay2
  simp only [slab_eq, stack_one]
  exact congrArg₂ square (slab_at _ _) (sum_eight _ _ _ _ _ _ _ _ _ _)

end Kernel

/-- The kernel runs, its arguments unchanged and its semaphores at zero. -/
theorem quiescent_kernel : Cert.quiescent_KAdamAdaB := fun m g _ => Cert.KAdamAdaB.Gen.frame m g
/-- So does the idealized kernel. -/
theorem quiescent_ideal : Cert.quiescent_KAdamAdaBIdeal := fun m g _ => Cert.KAdamAdaBIdeal.Gen.frame m g
/-- So does the reference. -/
theorem quiescent_reference : Cert.quiescent_RAdamAdaBIdeal := fun m g _ =>
  (θ_run Cert.RAdamAdaBIdeal.defs _ _).mono (fun r h => ⟨fun c => (h c).2.2.2.2, sem_eq_zero_of_no_sems rfl _⟩) (Cert.RAdamAdaBIdeal.Value.run m g)

/-- The kernel and the reference end with the same gradient, change and moments. -/
theorem algebraic : Cert.algebraic_KAdamAdaBIdeal_RAdamAdaBIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamAdaBIdeal.defs _ _).mono (fun r h c => ⟨(h c).1.trans (final4 m c), (h c).2.1.trans (final5 m c), (h c).2.2.1.trans (final6 m c),
      (h c).2.2.2.1.trans (final7 m c), (h c).2.2.2.2⟩) (Cert.KAdamAdaBIdeal.Value.run_blocks m g₀),
    (θ_run Cert.RAdamAdaBIdeal.defs _ _).mono (fun r h c => by
      obtain ⟨h0, h1, h2, h3, h4⟩ := h c
      obtain ⟨a0, a1, a2, a3⟩ := harg c
      rw [a0] at h0
      rw [a0, a1, a2, a3] at h1
      rw [a0, a2] at h2
      rw [a0, a3] at h3
      exact ⟨h0.trans (host_sum₁ (parts m c) _ _ _), h1.trans (congrArg (newChange (weight m c) (mean₀ m c) (square₀ m c)) (host_sum₁ (parts m c) _ _ _)), h2.trans (congrArg (newMean (mean₀ m c)) (host_sum₁ (parts m c) _ _ _)),
        h3.trans (congrArg (newSquare (square₀ m c)) (host_sum₁ (parts m c) _ _ _)), h4⟩) (Cert.RAdamAdaBIdeal.Value.run m' g')⟩

end Cert.Adam.AdaB

end
-- ==== Proof.Adam.NormG.lean ====
/-
  One step of the optimiser on the norms' gains.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamNormG.Frame
public import proofs.«01_k».proof.Proof.Gen.KAdamNormGIdeal.Value
public import proofs.«01_k».proof.Proof.Gen.RAdamNormGIdeal.Run

@[expose] public section

set_option maxRecDepth 16384

noncomputable section

namespace Cert.Adam.NormG

open Idealize.ShloMosaic Idealize.ShloMosaic.TcCoe Idealize.ShloMosaic.ValueIdx Idealize.SL.Sem Cert.Prod

section Kernel
open Cert.KAdamNormGIdeal Cert.KAdamNormGIdeal.Gen

variable (m : (ℓ : Loc nD τ sig) → Buf (Elt Ideal) ℓ) (c : Dev nD)

/-- Every window stays at its only block. -/
theorem idx : ∀ t : Fin cfg0.N, (∀ a : Fin 3, win0_0.index t a = 0 ∧ win0_1.index t a = 0 ∧ win0_2.index t a = 0 ∧ win0_3.index t a = 0)
    ∧ ∀ a : Fin 3, win0_4.index t a = 0 ∧ win0_5.index t a = 0 ∧ win0_6.index t a = 0 ∧ win0_7.index t a = 0 :=
  (by decide +kernel : ∀ t : Fin grid0.N, _)

/-- The parts, the gradient, the weight and the moments. -/
abbrev parts : Vec Ideal S8x8x256 .f32 := m ((c : Thread nD τ).loc main_arg0)
abbrev weight : Vec Ideal S1x8x256 .f32 := m ((c : Thread nD τ).loc main_arg1)
abbrev mean₀ : Vec Ideal S1x8x256 .f32 := m ((c : Thread nD τ).loc main_arg2)
abbrev square₀ : Vec Ideal S1x8x256 .f32 := m ((c : Thread nD τ).loc main_arg3)
def g : S1x8x256.Idx → EReal := grad (G := 1) fun _ => parts m c

theorem blk (t : Fin cfg0.N) : (iblk m c 0 t : Vec Ideal S8x8x256 .f32) = parts m c ∧ (iblk m c 1 t : Vec Ideal S1x8x256 .f32) = weight m c
    ∧ (iblk m c 2 t : Vec Ideal S1x8x256 .f32) = mean₀ m c ∧ (iblk m c 3 t : Vec Ideal S1x8x256 .f32) = square₀ m c := by
  obtain ⟨e, -⟩ := idx t
  refine ⟨funext fun i => at3 (parts m c) (stay (e 0).1) (stay (e 1).1) (stay (e 2).1), funext fun i => at3 (weight m c) (stay (e 0).2.1) (stay (e 1).2.1) (stay (e 2).2.1),
    funext fun i => at3 (mean₀ m c) (stay (e 0).2.2.1) (stay (e 1).2.2.1) (stay (e 2).2.2.1), funext fun i => at3 (square₀ m c) (stay (e 0).2.2.2) (stay (e 1).2.2.2) (stay (e 2).2.2.2)⟩

theorem final4 : (dats m 0 c).arrAt 4 cfg0.N = g m c := by
  refine (dats m 0 c).arrAt_eq_of_covers 4 _ (by decide +kernel) fun t hf y => ?_
  show (dats m 0 c).after 4 t ((cfg0.win 4).xinj (grid0.coords t) y) = g m c (((cfg0.win 4).blk t).view.emb y)
  rw [after0_4]
  dsimp only [outsAt0]
  frame_out
  obtain ⟨e0, e1, e2, e3⟩ := blk m c t
  simp only [e0, e1, e2, e3]
  refine Eq.trans ?_ (out (g m c) (((cfg0.win 4).blk t).view.emb y) ((cfg0.win 4).xinj (grid0.coords t) y) fun a => stay ((idx t).2 a).1)
  unfold k0_pay5 k0_pay2
  simp only [slab_eq, stack_one]
  exact sum_eight _ _ _ _ _ _ _ _ _ _

theorem final5 : (dats m 0 c).arrAt 5 cfg0.N = newChange (weight m c) (mean₀ m c) (square₀ m c) (g m c) := by
  refine (dats m 0 c).arrAt_eq_of_covers 5 _ (by decide +kernel) fun t hf y => ?_
  show (dats m 0 c).after 5 t ((cfg0.win 5).xinj (grid0.coords t) y) = newChange (weight m c) (mean₀ m c) (square₀ m c) (g m c) (((cfg0.win 5).blk t).view.emb y)
  rw [after0_5]
  dsimp only [outsAt0]
  frame_out
  obtain ⟨e0, e1, e2, e3⟩ := blk m c t
  simp only [e0, e1, e2, e3]
  refine Eq.trans ?_ (out (newChange (weight m c) (mean₀ m c) (square₀ m c) (g m c)) (((cfg0.win 5).blk t).view.emb y) ((cfg0.win 5).xinj (grid0.coords t) y) fun a => stay ((idx t).2 a).2.1)
  unfold k0_pay1 k0_pay8 k0_pay4 k0_pay3 k0_pay2
  simp only [slab_eq, stack_one]
  exact congr (congrArg₂ change (slab_at _ _) (congrArg₂ mean (slab_at _ _) (sum_eight _ _ _ _ _ _ _ _ _ _))) (congrArg₂ square (slab_at _ _) (sum_eight _ _ _ _ _ _ _ _ _ _))

theorem final6 : (dats m 0 c).arrAt 6 cfg0.N = newMean (mean₀ m c) (g m c) := by
  refine (dats m 0 c).arrAt_eq_of_covers 6 _ (by decide +kernel) fun t hf y => ?_
  show (dats m 0 c).after 6 t ((cfg0.win 6).xinj (grid0.coords t) y) = newMean (mean₀ m c) (g m c) (((cfg0.win 6).blk t).view.emb y)
  rw [after0_6]
  dsimp only [outsAt0]
  frame_out
  obtain ⟨e0, e1, e2, e3⟩ := blk m c t
  simp only [e0, e1, e2, e3]
  refine Eq.trans ?_ (out (newMean (mean₀ m c) (g m c)) (((cfg0.win 6).blk t).view.emb y) ((cfg0.win 6).xinj (grid0.coords t) y) fun a => stay ((idx t).2 a).2.2.1)
  unfold k0_pay6 k0_pay3 k0_pay2
  simp only [slab_eq, stack_one]
  exact congrArg₂ mean (slab_at _ _) (sum_eight _ _ _ _ _ _ _ _ _ _)

theorem final7 : (dats m 0 c).arrAt 7 cfg0.N = newSquare (square₀ m c) (g m c) := by
  refine (dats m 0 c).arrAt_eq_of_covers 7 _ (by decide +kernel) fun t hf y => ?_
  show (dats m 0 c).after 7 t ((cfg0.win 7).xinj (grid0.coords t) y) = newSquare (square₀ m c) (g m c) (((cfg0.win 7).blk t).view.emb y)
  rw [after0_7]
  dsimp only [outsAt0]
  frame_out
  obtain ⟨e0, e1, e2, e3⟩ := blk m c t
  simp only [e0, e1, e2, e3]
  refine Eq.trans ?_ (out (newSquare (square₀ m c) (g m c)) (((cfg0.win 7).blk t).view.emb y) ((cfg0.win 7).xinj (grid0.coords t) y) fun a => stay ((idx t).2 a).2.2.2)
  unfold k0_pay7 k0_pay4 k0_pay2
  simp only [slab_eq, stack_one]
  exact congrArg₂ square (slab_at _ _) (sum_eight _ _ _ _ _ _ _ _ _ _)

end Kernel

/-- The kernel runs, its arguments unchanged and its semaphores at zero. -/
theorem quiescent_kernel : Cert.quiescent_KAdamNormG := fun m g _ => Cert.KAdamNormG.Gen.frame m g
/-- So does the idealized kernel. -/
theorem quiescent_ideal : Cert.quiescent_KAdamNormGIdeal := fun m g _ => Cert.KAdamNormGIdeal.Gen.frame m g
/-- So does the reference. -/
theorem quiescent_reference : Cert.quiescent_RAdamNormGIdeal := fun m g _ =>
  (θ_run Cert.RAdamNormGIdeal.defs _ _).mono (fun r h => ⟨fun c => (h c).2.2.2.2, sem_eq_zero_of_no_sems rfl _⟩) (Cert.RAdamNormGIdeal.Value.run m g)

/-- The kernel and the reference end with the same gradient, change and moments. -/
theorem algebraic : Cert.algebraic_KAdamNormGIdeal_RAdamNormGIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamNormGIdeal.defs _ _).mono (fun r h c => ⟨(h c).1.trans (final4 m c), (h c).2.1.trans (final5 m c), (h c).2.2.1.trans (final6 m c),
      (h c).2.2.2.1.trans (final7 m c), (h c).2.2.2.2⟩) (Cert.KAdamNormGIdeal.Value.run_blocks m g₀),
    (θ_run Cert.RAdamNormGIdeal.defs _ _).mono (fun r h c => by
      obtain ⟨h0, h1, h2, h3, h4⟩ := h c
      obtain ⟨a0, a1, a2, a3⟩ := harg c
      rw [a0] at h0
      rw [a0, a1, a2, a3] at h1
      rw [a0, a2] at h2
      rw [a0, a3] at h3
      exact ⟨h0.trans (host_sum₁ (parts m c) _ _ _), h1.trans (congrArg (newChange (weight m c) (mean₀ m c) (square₀ m c)) (host_sum₁ (parts m c) _ _ _)), h2.trans (congrArg (newMean (mean₀ m c)) (host_sum₁ (parts m c) _ _ _)),
        h3.trans (congrArg (newSquare (square₀ m c)) (host_sum₁ (parts m c) _ _ _)), h4⟩) (Cert.RAdamNormGIdeal.Value.run m' g')⟩

end Cert.Adam.NormG

end
-- ==== Proof.Adam.GateW.lean ====
/-
  One step of the optimiser on the gate's weight.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamGateW.Frame
public import proofs.«01_k».proof.Proof.Gen.KAdamGateWIdeal.Value
public import proofs.«01_k».proof.Proof.Gen.RAdamGateWIdeal.Run

@[expose] public section

set_option maxRecDepth 16384

noncomputable section

namespace Cert.Adam.GateW

open Idealize.ShloMosaic Idealize.ShloMosaic.TcCoe Idealize.ShloMosaic.ValueIdx Idealize.SL.Sem Cert.Prod

section Kernel
open Cert.KAdamGateWIdeal Cert.KAdamGateWIdeal.Gen

variable (m : (ℓ : Loc nD τ sig) → Buf (Elt Ideal) ℓ) (c : Dev nD)

/-- Every window stays at its only block. -/
theorem idx : ∀ t : Fin cfg0.N, (∀ a : Fin 3, win0_0.index t a = 0 ∧ win0_1.index t a = 0 ∧ win0_2.index t a = 0 ∧ win0_3.index t a = 0)
    ∧ ∀ a : Fin 3, win0_4.index t a = 0 ∧ win0_5.index t a = 0 ∧ win0_6.index t a = 0 ∧ win0_7.index t a = 0 :=
  (by decide +kernel : ∀ t : Fin grid0.N, _)

/-- The parts, the gradient, the weight and the moments. -/
abbrev parts : Vec Ideal S8x32x64 .f32 := m ((c : Thread nD τ).loc main_arg0)
abbrev weight : Vec Ideal S1x32x64 .f32 := m ((c : Thread nD τ).loc main_arg1)
abbrev mean₀ : Vec Ideal S1x32x64 .f32 := m ((c : Thread nD τ).loc main_arg2)
abbrev square₀ : Vec Ideal S1x32x64 .f32 := m ((c : Thread nD τ).loc main_arg3)
def g : S1x32x64.Idx → EReal := grad (G := 1) fun _ => parts m c

theorem blk (t : Fin cfg0.N) : (iblk m c 0 t : Vec Ideal S8x32x64 .f32) = parts m c ∧ (iblk m c 1 t : Vec Ideal S1x32x64 .f32) = weight m c
    ∧ (iblk m c 2 t : Vec Ideal S1x32x64 .f32) = mean₀ m c ∧ (iblk m c 3 t : Vec Ideal S1x32x64 .f32) = square₀ m c := by
  obtain ⟨e, -⟩ := idx t
  refine ⟨funext fun i => at3 (parts m c) (stay (e 0).1) (stay (e 1).1) (stay (e 2).1), funext fun i => at3 (weight m c) (stay (e 0).2.1) (stay (e 1).2.1) (stay (e 2).2.1),
    funext fun i => at3 (mean₀ m c) (stay (e 0).2.2.1) (stay (e 1).2.2.1) (stay (e 2).2.2.1), funext fun i => at3 (square₀ m c) (stay (e 0).2.2.2) (stay (e 1).2.2.2) (stay (e 2).2.2.2)⟩

theorem final4 : (dats m 0 c).arrAt 4 cfg0.N = g m c := by
  refine (dats m 0 c).arrAt_eq_of_covers 4 _ (by decide +kernel) fun t hf y => ?_
  show (dats m 0 c).after 4 t ((cfg0.win 4).xinj (grid0.coords t) y) = g m c (((cfg0.win 4).blk t).view.emb y)
  rw [after0_4]
  dsimp only [outsAt0]
  frame_out
  obtain ⟨e0, e1, e2, e3⟩ := blk m c t
  simp only [e0, e1, e2, e3]
  refine Eq.trans ?_ (out (g m c) (((cfg0.win 4).blk t).view.emb y) ((cfg0.win 4).xinj (grid0.coords t) y) fun a => stay ((idx t).2 a).1)
  unfold k0_pay5 k0_pay2
  simp only [slab_eq, stack_one]
  exact sum_eight _ _ _ _ _ _ _ _ _ _

theorem final5 : (dats m 0 c).arrAt 5 cfg0.N = newChange (weight m c) (mean₀ m c) (square₀ m c) (g m c) := by
  refine (dats m 0 c).arrAt_eq_of_covers 5 _ (by decide +kernel) fun t hf y => ?_
  show (dats m 0 c).after 5 t ((cfg0.win 5).xinj (grid0.coords t) y) = newChange (weight m c) (mean₀ m c) (square₀ m c) (g m c) (((cfg0.win 5).blk t).view.emb y)
  rw [after0_5]
  dsimp only [outsAt0]
  frame_out
  obtain ⟨e0, e1, e2, e3⟩ := blk m c t
  simp only [e0, e1, e2, e3]
  refine Eq.trans ?_ (out (newChange (weight m c) (mean₀ m c) (square₀ m c) (g m c)) (((cfg0.win 5).blk t).view.emb y) ((cfg0.win 5).xinj (grid0.coords t) y) fun a => stay ((idx t).2 a).2.1)
  unfold k0_pay1 k0_pay8 k0_pay4 k0_pay3 k0_pay2
  simp only [slab_eq, stack_one]
  exact congr (congrArg₂ change (slab_at _ _) (congrArg₂ mean (slab_at _ _) (sum_eight _ _ _ _ _ _ _ _ _ _))) (congrArg₂ square (slab_at _ _) (sum_eight _ _ _ _ _ _ _ _ _ _))

theorem final6 : (dats m 0 c).arrAt 6 cfg0.N = newMean (mean₀ m c) (g m c) := by
  refine (dats m 0 c).arrAt_eq_of_covers 6 _ (by decide +kernel) fun t hf y => ?_
  show (dats m 0 c).after 6 t ((cfg0.win 6).xinj (grid0.coords t) y) = newMean (mean₀ m c) (g m c) (((cfg0.win 6).blk t).view.emb y)
  rw [after0_6]
  dsimp only [outsAt0]
  frame_out
  obtain ⟨e0, e1, e2, e3⟩ := blk m c t
  simp only [e0, e1, e2, e3]
  refine Eq.trans ?_ (out (newMean (mean₀ m c) (g m c)) (((cfg0.win 6).blk t).view.emb y) ((cfg0.win 6).xinj (grid0.coords t) y) fun a => stay ((idx t).2 a).2.2.1)
  unfold k0_pay6 k0_pay3 k0_pay2
  simp only [slab_eq, stack_one]
  exact congrArg₂ mean (slab_at _ _) (sum_eight _ _ _ _ _ _ _ _ _ _)

theorem final7 : (dats m 0 c).arrAt 7 cfg0.N = newSquare (square₀ m c) (g m c) := by
  refine (dats m 0 c).arrAt_eq_of_covers 7 _ (by decide +kernel) fun t hf y => ?_
  show (dats m 0 c).after 7 t ((cfg0.win 7).xinj (grid0.coords t) y) = newSquare (square₀ m c) (g m c) (((cfg0.win 7).blk t).view.emb y)
  rw [after0_7]
  dsimp only [outsAt0]
  frame_out
  obtain ⟨e0, e1, e2, e3⟩ := blk m c t
  simp only [e0, e1, e2, e3]
  refine Eq.trans ?_ (out (newSquare (square₀ m c) (g m c)) (((cfg0.win 7).blk t).view.emb y) ((cfg0.win 7).xinj (grid0.coords t) y) fun a => stay ((idx t).2 a).2.2.2)
  unfold k0_pay7 k0_pay4 k0_pay2
  simp only [slab_eq, stack_one]
  exact congrArg₂ square (slab_at _ _) (sum_eight _ _ _ _ _ _ _ _ _ _)

end Kernel

/-- The kernel runs, its arguments unchanged and its semaphores at zero. -/
theorem quiescent_kernel : Cert.quiescent_KAdamGateW := fun m g _ => Cert.KAdamGateW.Gen.frame m g
/-- So does the idealized kernel. -/
theorem quiescent_ideal : Cert.quiescent_KAdamGateWIdeal := fun m g _ => Cert.KAdamGateWIdeal.Gen.frame m g
/-- So does the reference. -/
theorem quiescent_reference : Cert.quiescent_RAdamGateWIdeal := fun m g _ =>
  (θ_run Cert.RAdamGateWIdeal.defs _ _).mono (fun r h => ⟨fun c => (h c).2.2.2.2, sem_eq_zero_of_no_sems rfl _⟩) (Cert.RAdamGateWIdeal.Value.run m g)

/-- The kernel and the reference end with the same gradient, change and moments. -/
theorem algebraic : Cert.algebraic_KAdamGateWIdeal_RAdamGateWIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamGateWIdeal.defs _ _).mono (fun r h c => ⟨(h c).1.trans (final4 m c), (h c).2.1.trans (final5 m c), (h c).2.2.1.trans (final6 m c),
      (h c).2.2.2.1.trans (final7 m c), (h c).2.2.2.2⟩) (Cert.KAdamGateWIdeal.Value.run_blocks m g₀),
    (θ_run Cert.RAdamGateWIdeal.defs _ _).mono (fun r h c => by
      obtain ⟨h0, h1, h2, h3, h4⟩ := h c
      obtain ⟨a0, a1, a2, a3⟩ := harg c
      rw [a0] at h0
      rw [a0, a1, a2, a3] at h1
      rw [a0, a2] at h2
      rw [a0, a3] at h3
      exact ⟨h0.trans (host_sum₁ (parts m c) _ _ _), h1.trans (congrArg (newChange (weight m c) (mean₀ m c) (square₀ m c)) (host_sum₁ (parts m c) _ _ _)), h2.trans (congrArg (newMean (mean₀ m c)) (host_sum₁ (parts m c) _ _ _)),
        h3.trans (congrArg (newSquare (square₀ m c)) (host_sum₁ (parts m c) _ _ _)), h4⟩) (Cert.RAdamGateWIdeal.Value.run m' g')⟩

end Cert.Adam.GateW

end
-- ==== Proof.Adam.GateB.lean ====
/-
  One step of the optimiser on the gate's bias.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamGateB.Frame
public import proofs.«01_k».proof.Proof.Gen.KAdamGateBIdeal.Value
public import proofs.«01_k».proof.Proof.Gen.RAdamGateBIdeal.Run

@[expose] public section

set_option maxRecDepth 16384

noncomputable section

namespace Cert.Adam.GateB

open Idealize.ShloMosaic Idealize.ShloMosaic.TcCoe Idealize.ShloMosaic.ValueIdx Idealize.SL.Sem Cert.Prod

section Kernel
open Cert.KAdamGateBIdeal Cert.KAdamGateBIdeal.Gen

variable (m : (ℓ : Loc nD τ sig) → Buf (Elt Ideal) ℓ) (c : Dev nD)

/-- Every window stays at its only block. -/
theorem idx : ∀ t : Fin cfg0.N, (∀ a : Fin 3, win0_0.index t a = 0 ∧ win0_1.index t a = 0 ∧ win0_2.index t a = 0 ∧ win0_3.index t a = 0)
    ∧ ∀ a : Fin 3, win0_4.index t a = 0 ∧ win0_5.index t a = 0 ∧ win0_6.index t a = 0 ∧ win0_7.index t a = 0 :=
  (by decide +kernel : ∀ t : Fin grid0.N, _)

/-- The parts, the gradient, the weight and the moments. -/
abbrev parts : Vec Ideal S8x2x512 .f32 := m ((c : Thread nD τ).loc main_arg0)
abbrev weight : Vec Ideal S1x2x512 .f32 := m ((c : Thread nD τ).loc main_arg1)
abbrev mean₀ : Vec Ideal S1x2x512 .f32 := m ((c : Thread nD τ).loc main_arg2)
abbrev square₀ : Vec Ideal S1x2x512 .f32 := m ((c : Thread nD τ).loc main_arg3)
def g : S1x2x512.Idx → EReal := grad (G := 1) fun _ => parts m c

theorem blk (t : Fin cfg0.N) : (iblk m c 0 t : Vec Ideal S8x2x512 .f32) = parts m c ∧ (iblk m c 1 t : Vec Ideal S1x2x512 .f32) = weight m c
    ∧ (iblk m c 2 t : Vec Ideal S1x2x512 .f32) = mean₀ m c ∧ (iblk m c 3 t : Vec Ideal S1x2x512 .f32) = square₀ m c := by
  obtain ⟨e, -⟩ := idx t
  refine ⟨funext fun i => at3 (parts m c) (stay (e 0).1) (stay (e 1).1) (stay (e 2).1), funext fun i => at3 (weight m c) (stay (e 0).2.1) (stay (e 1).2.1) (stay (e 2).2.1),
    funext fun i => at3 (mean₀ m c) (stay (e 0).2.2.1) (stay (e 1).2.2.1) (stay (e 2).2.2.1), funext fun i => at3 (square₀ m c) (stay (e 0).2.2.2) (stay (e 1).2.2.2) (stay (e 2).2.2.2)⟩

theorem final4 : (dats m 0 c).arrAt 4 cfg0.N = g m c := by
  refine (dats m 0 c).arrAt_eq_of_covers 4 _ (by decide +kernel) fun t hf y => ?_
  show (dats m 0 c).after 4 t ((cfg0.win 4).xinj (grid0.coords t) y) = g m c (((cfg0.win 4).blk t).view.emb y)
  rw [after0_4]
  dsimp only [outsAt0]
  frame_out
  obtain ⟨e0, e1, e2, e3⟩ := blk m c t
  simp only [e0, e1, e2, e3]
  refine Eq.trans ?_ (out (g m c) (((cfg0.win 4).blk t).view.emb y) ((cfg0.win 4).xinj (grid0.coords t) y) fun a => stay ((idx t).2 a).1)
  unfold k0_pay5 k0_pay2
  simp only [slab_eq, stack_one]
  exact sum_eight _ _ _ _ _ _ _ _ _ _

theorem final5 : (dats m 0 c).arrAt 5 cfg0.N = newChange (weight m c) (mean₀ m c) (square₀ m c) (g m c) := by
  refine (dats m 0 c).arrAt_eq_of_covers 5 _ (by decide +kernel) fun t hf y => ?_
  show (dats m 0 c).after 5 t ((cfg0.win 5).xinj (grid0.coords t) y) = newChange (weight m c) (mean₀ m c) (square₀ m c) (g m c) (((cfg0.win 5).blk t).view.emb y)
  rw [after0_5]
  dsimp only [outsAt0]
  frame_out
  obtain ⟨e0, e1, e2, e3⟩ := blk m c t
  simp only [e0, e1, e2, e3]
  refine Eq.trans ?_ (out (newChange (weight m c) (mean₀ m c) (square₀ m c) (g m c)) (((cfg0.win 5).blk t).view.emb y) ((cfg0.win 5).xinj (grid0.coords t) y) fun a => stay ((idx t).2 a).2.1)
  unfold k0_pay1 k0_pay8 k0_pay4 k0_pay3 k0_pay2
  simp only [slab_eq, stack_one]
  exact congr (congrArg₂ change (slab_at _ _) (congrArg₂ mean (slab_at _ _) (sum_eight _ _ _ _ _ _ _ _ _ _))) (congrArg₂ square (slab_at _ _) (sum_eight _ _ _ _ _ _ _ _ _ _))

theorem final6 : (dats m 0 c).arrAt 6 cfg0.N = newMean (mean₀ m c) (g m c) := by
  refine (dats m 0 c).arrAt_eq_of_covers 6 _ (by decide +kernel) fun t hf y => ?_
  show (dats m 0 c).after 6 t ((cfg0.win 6).xinj (grid0.coords t) y) = newMean (mean₀ m c) (g m c) (((cfg0.win 6).blk t).view.emb y)
  rw [after0_6]
  dsimp only [outsAt0]
  frame_out
  obtain ⟨e0, e1, e2, e3⟩ := blk m c t
  simp only [e0, e1, e2, e3]
  refine Eq.trans ?_ (out (newMean (mean₀ m c) (g m c)) (((cfg0.win 6).blk t).view.emb y) ((cfg0.win 6).xinj (grid0.coords t) y) fun a => stay ((idx t).2 a).2.2.1)
  unfold k0_pay6 k0_pay3 k0_pay2
  simp only [slab_eq, stack_one]
  exact congrArg₂ mean (slab_at _ _) (sum_eight _ _ _ _ _ _ _ _ _ _)

theorem final7 : (dats m 0 c).arrAt 7 cfg0.N = newSquare (square₀ m c) (g m c) := by
  refine (dats m 0 c).arrAt_eq_of_covers 7 _ (by decide +kernel) fun t hf y => ?_
  show (dats m 0 c).after 7 t ((cfg0.win 7).xinj (grid0.coords t) y) = newSquare (square₀ m c) (g m c) (((cfg0.win 7).blk t).view.emb y)
  rw [after0_7]
  dsimp only [outsAt0]
  frame_out
  obtain ⟨e0, e1, e2, e3⟩ := blk m c t
  simp only [e0, e1, e2, e3]
  refine Eq.trans ?_ (out (newSquare (square₀ m c) (g m c)) (((cfg0.win 7).blk t).view.emb y) ((cfg0.win 7).xinj (grid0.coords t) y) fun a => stay ((idx t).2 a).2.2.2)
  unfold k0_pay7 k0_pay4 k0_pay2
  simp only [slab_eq, stack_one]
  exact congrArg₂ square (slab_at _ _) (sum_eight _ _ _ _ _ _ _ _ _ _)

end Kernel

/-- The kernel runs, its arguments unchanged and its semaphores at zero. -/
theorem quiescent_kernel : Cert.quiescent_KAdamGateB := fun m g _ => Cert.KAdamGateB.Gen.frame m g
/-- So does the idealized kernel. -/
theorem quiescent_ideal : Cert.quiescent_KAdamGateBIdeal := fun m g _ => Cert.KAdamGateBIdeal.Gen.frame m g
/-- So does the reference. -/
theorem quiescent_reference : Cert.quiescent_RAdamGateBIdeal := fun m g _ =>
  (θ_run Cert.RAdamGateBIdeal.defs _ _).mono (fun r h => ⟨fun c => (h c).2.2.2.2, sem_eq_zero_of_no_sems rfl _⟩) (Cert.RAdamGateBIdeal.Value.run m g)

/-- The kernel and the reference end with the same gradient, change and moments. -/
theorem algebraic : Cert.algebraic_KAdamGateBIdeal_RAdamGateBIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamGateBIdeal.defs _ _).mono (fun r h c => ⟨(h c).1.trans (final4 m c), (h c).2.1.trans (final5 m c), (h c).2.2.1.trans (final6 m c),
      (h c).2.2.2.1.trans (final7 m c), (h c).2.2.2.2⟩) (Cert.KAdamGateBIdeal.Value.run_blocks m g₀),
    (θ_run Cert.RAdamGateBIdeal.defs _ _).mono (fun r h c => by
      obtain ⟨h0, h1, h2, h3, h4⟩ := h c
      obtain ⟨a0, a1, a2, a3⟩ := harg c
      rw [a0] at h0
      rw [a0, a1, a2, a3] at h1
      rw [a0, a2] at h2
      rw [a0, a3] at h3
      exact ⟨h0.trans (host_sum₁ (parts m c) _ _ _), h1.trans (congrArg (newChange (weight m c) (mean₀ m c) (square₀ m c)) (host_sum₁ (parts m c) _ _ _)), h2.trans (congrArg (newMean (mean₀ m c)) (host_sum₁ (parts m c) _ _ _)),
        h3.trans (congrArg (newSquare (square₀ m c)) (host_sum₁ (parts m c) _ _ _)), h4⟩) (Cert.RAdamGateBIdeal.Value.run m' g')⟩

end Cert.Adam.GateB

end
-- ==== Proof.Adam.GlaNorm.lean ====
/-
  One step of the optimiser on the gain of the attention's norm.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamGlaNorm.Frame
public import proofs.«01_k».proof.Proof.Gen.KAdamGlaNormIdeal.Value
public import proofs.«01_k».proof.Proof.Gen.RAdamGlaNormIdeal.Run

@[expose] public section

set_option maxRecDepth 16384

noncomputable section

namespace Cert.Adam.GlaNorm

open Idealize.ShloMosaic Idealize.ShloMosaic.TcCoe Idealize.ShloMosaic.ValueIdx Idealize.SL.Sem Cert.Prod

section Kernel
open Cert.KAdamGlaNormIdeal Cert.KAdamGlaNormIdeal.Gen

variable (m : (ℓ : Loc nD τ sig) → Buf (Elt Ideal) ℓ) (c : Dev nD)

/-- Every window stays at its only block. -/
theorem idx : ∀ t : Fin cfg0.N, (∀ a : Fin 3, win0_0.index t a = 0 ∧ win0_1.index t a = 0 ∧ win0_2.index t a = 0 ∧ win0_3.index t a = 0)
    ∧ ∀ a : Fin 3, win0_4.index t a = 0 ∧ win0_5.index t a = 0 ∧ win0_6.index t a = 0 ∧ win0_7.index t a = 0 :=
  (by decide +kernel : ∀ t : Fin grid0.N, _)

/-- The parts, the gradient, the weight and the moments. -/
abbrev parts : Vec Ideal S8x2x256 .f32 := m ((c : Thread nD τ).loc main_arg0)
abbrev weight : Vec Ideal S1x2x256 .f32 := m ((c : Thread nD τ).loc main_arg1)
abbrev mean₀ : Vec Ideal S1x2x256 .f32 := m ((c : Thread nD τ).loc main_arg2)
abbrev square₀ : Vec Ideal S1x2x256 .f32 := m ((c : Thread nD τ).loc main_arg3)
def g : S1x2x256.Idx → EReal := grad (G := 1) fun _ => parts m c

theorem blk (t : Fin cfg0.N) : (iblk m c 0 t : Vec Ideal S8x2x256 .f32) = parts m c ∧ (iblk m c 1 t : Vec Ideal S1x2x256 .f32) = weight m c
    ∧ (iblk m c 2 t : Vec Ideal S1x2x256 .f32) = mean₀ m c ∧ (iblk m c 3 t : Vec Ideal S1x2x256 .f32) = square₀ m c := by
  obtain ⟨e, -⟩ := idx t
  refine ⟨funext fun i => at3 (parts m c) (stay (e 0).1) (stay (e 1).1) (stay (e 2).1), funext fun i => at3 (weight m c) (stay (e 0).2.1) (stay (e 1).2.1) (stay (e 2).2.1),
    funext fun i => at3 (mean₀ m c) (stay (e 0).2.2.1) (stay (e 1).2.2.1) (stay (e 2).2.2.1), funext fun i => at3 (square₀ m c) (stay (e 0).2.2.2) (stay (e 1).2.2.2) (stay (e 2).2.2.2)⟩

theorem final4 : (dats m 0 c).arrAt 4 cfg0.N = g m c := by
  refine (dats m 0 c).arrAt_eq_of_covers 4 _ (by decide +kernel) fun t hf y => ?_
  show (dats m 0 c).after 4 t ((cfg0.win 4).xinj (grid0.coords t) y) = g m c (((cfg0.win 4).blk t).view.emb y)
  rw [after0_4]
  dsimp only [outsAt0]
  frame_out
  obtain ⟨e0, e1, e2, e3⟩ := blk m c t
  simp only [e0, e1, e2, e3]
  refine Eq.trans ?_ (out (g m c) (((cfg0.win 4).blk t).view.emb y) ((cfg0.win 4).xinj (grid0.coords t) y) fun a => stay ((idx t).2 a).1)
  unfold k0_pay5 k0_pay2
  simp only [slab_eq, stack_one]
  exact sum_eight _ _ _ _ _ _ _ _ _ _

theorem final5 : (dats m 0 c).arrAt 5 cfg0.N = newChange (weight m c) (mean₀ m c) (square₀ m c) (g m c) := by
  refine (dats m 0 c).arrAt_eq_of_covers 5 _ (by decide +kernel) fun t hf y => ?_
  show (dats m 0 c).after 5 t ((cfg0.win 5).xinj (grid0.coords t) y) = newChange (weight m c) (mean₀ m c) (square₀ m c) (g m c) (((cfg0.win 5).blk t).view.emb y)
  rw [after0_5]
  dsimp only [outsAt0]
  frame_out
  obtain ⟨e0, e1, e2, e3⟩ := blk m c t
  simp only [e0, e1, e2, e3]
  refine Eq.trans ?_ (out (newChange (weight m c) (mean₀ m c) (square₀ m c) (g m c)) (((cfg0.win 5).blk t).view.emb y) ((cfg0.win 5).xinj (grid0.coords t) y) fun a => stay ((idx t).2 a).2.1)
  unfold k0_pay1 k0_pay8 k0_pay4 k0_pay3 k0_pay2
  simp only [slab_eq, stack_one]
  exact congr (congrArg₂ change (slab_at _ _) (congrArg₂ mean (slab_at _ _) (sum_eight _ _ _ _ _ _ _ _ _ _))) (congrArg₂ square (slab_at _ _) (sum_eight _ _ _ _ _ _ _ _ _ _))

theorem final6 : (dats m 0 c).arrAt 6 cfg0.N = newMean (mean₀ m c) (g m c) := by
  refine (dats m 0 c).arrAt_eq_of_covers 6 _ (by decide +kernel) fun t hf y => ?_
  show (dats m 0 c).after 6 t ((cfg0.win 6).xinj (grid0.coords t) y) = newMean (mean₀ m c) (g m c) (((cfg0.win 6).blk t).view.emb y)
  rw [after0_6]
  dsimp only [outsAt0]
  frame_out
  obtain ⟨e0, e1, e2, e3⟩ := blk m c t
  simp only [e0, e1, e2, e3]
  refine Eq.trans ?_ (out (newMean (mean₀ m c) (g m c)) (((cfg0.win 6).blk t).view.emb y) ((cfg0.win 6).xinj (grid0.coords t) y) fun a => stay ((idx t).2 a).2.2.1)
  unfold k0_pay6 k0_pay3 k0_pay2
  simp only [slab_eq, stack_one]
  exact congrArg₂ mean (slab_at _ _) (sum_eight _ _ _ _ _ _ _ _ _ _)

theorem final7 : (dats m 0 c).arrAt 7 cfg0.N = newSquare (square₀ m c) (g m c) := by
  refine (dats m 0 c).arrAt_eq_of_covers 7 _ (by decide +kernel) fun t hf y => ?_
  show (dats m 0 c).after 7 t ((cfg0.win 7).xinj (grid0.coords t) y) = newSquare (square₀ m c) (g m c) (((cfg0.win 7).blk t).view.emb y)
  rw [after0_7]
  dsimp only [outsAt0]
  frame_out
  obtain ⟨e0, e1, e2, e3⟩ := blk m c t
  simp only [e0, e1, e2, e3]
  refine Eq.trans ?_ (out (newSquare (square₀ m c) (g m c)) (((cfg0.win 7).blk t).view.emb y) ((cfg0.win 7).xinj (grid0.coords t) y) fun a => stay ((idx t).2 a).2.2.2)
  unfold k0_pay7 k0_pay4 k0_pay2
  simp only [slab_eq, stack_one]
  exact congrArg₂ square (slab_at _ _) (sum_eight _ _ _ _ _ _ _ _ _ _)

end Kernel

/-- The kernel runs, its arguments unchanged and its semaphores at zero. -/
theorem quiescent_kernel : Cert.quiescent_KAdamGlaNorm := fun m g _ => Cert.KAdamGlaNorm.Gen.frame m g
/-- So does the idealized kernel. -/
theorem quiescent_ideal : Cert.quiescent_KAdamGlaNormIdeal := fun m g _ => Cert.KAdamGlaNormIdeal.Gen.frame m g
/-- So does the reference. -/
theorem quiescent_reference : Cert.quiescent_RAdamGlaNormIdeal := fun m g _ =>
  (θ_run Cert.RAdamGlaNormIdeal.defs _ _).mono (fun r h => ⟨fun c => (h c).2.2.2.2, sem_eq_zero_of_no_sems rfl _⟩) (Cert.RAdamGlaNormIdeal.Value.run m g)

/-- The kernel and the reference end with the same gradient, change and moments. -/
theorem algebraic : Cert.algebraic_KAdamGlaNormIdeal_RAdamGlaNormIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamGlaNormIdeal.defs _ _).mono (fun r h c => ⟨(h c).1.trans (final4 m c), (h c).2.1.trans (final5 m c), (h c).2.2.1.trans (final6 m c),
      (h c).2.2.2.1.trans (final7 m c), (h c).2.2.2.2⟩) (Cert.KAdamGlaNormIdeal.Value.run_blocks m g₀),
    (θ_run Cert.RAdamGlaNormIdeal.defs _ _).mono (fun r h c => by
      obtain ⟨h0, h1, h2, h3, h4⟩ := h c
      obtain ⟨a0, a1, a2, a3⟩ := harg c
      rw [a0] at h0
      rw [a0, a1, a2, a3] at h1
      rw [a0, a2] at h2
      rw [a0, a3] at h3
      exact ⟨h0.trans (host_sum₁ (parts m c) _ _ _), h1.trans (congrArg (newChange (weight m c) (mean₀ m c) (square₀ m c)) (host_sum₁ (parts m c) _ _ _)), h2.trans (congrArg (newMean (mean₀ m c)) (host_sum₁ (parts m c) _ _ _)),
        h3.trans (congrArg (newSquare (square₀ m c)) (host_sum₁ (parts m c) _ _ _)), h4⟩) (Cert.RAdamGlaNormIdeal.Value.run m' g')⟩

end Cert.Adam.GlaNorm

end
-- ==== Proof.Adam.ConvW.lean ====
/-
  One step of the optimiser on the convolution's taps.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamConvW.Frame
public import proofs.«01_k».proof.Proof.Gen.KAdamConvWIdeal.Value
public import proofs.«01_k».proof.Proof.Gen.RAdamConvWIdeal.Run

@[expose] public section

set_option maxRecDepth 16384

noncomputable section

namespace Cert.Adam.ConvW

open Idealize.ShloMosaic Idealize.ShloMosaic.TcCoe Idealize.ShloMosaic.ValueIdx Idealize.SL.Sem Cert.Prod

section Kernel
open Cert.KAdamConvWIdeal Cert.KAdamConvWIdeal.Gen

variable (m : (ℓ : Loc nD τ sig) → Buf (Elt Ideal) ℓ) (c : Dev nD)

/-- Every window stays at its only block. -/
theorem idx : ∀ t : Fin cfg0.N, (∀ a : Fin 3, win0_0.index t a = 0 ∧ win0_1.index t a = 0 ∧ win0_2.index t a = 0 ∧ win0_3.index t a = 0)
    ∧ ∀ a : Fin 3, win0_4.index t a = 0 ∧ win0_5.index t a = 0 ∧ win0_6.index t a = 0 ∧ win0_7.index t a = 0 :=
  (by decide +kernel : ∀ t : Fin grid0.N, _)

/-- The parts, the gradient, the weight and the moments. -/
abbrev parts : Vec Ideal S8x6x128 .f32 := m ((c : Thread nD τ).loc main_arg0)
abbrev weight : Vec Ideal S1x6x128 .f32 := m ((c : Thread nD τ).loc main_arg1)
abbrev mean₀ : Vec Ideal S1x6x128 .f32 := m ((c : Thread nD τ).loc main_arg2)
abbrev square₀ : Vec Ideal S1x6x128 .f32 := m ((c : Thread nD τ).loc main_arg3)
def g : S1x6x128.Idx → EReal := grad (G := 1) fun _ => parts m c

theorem blk (t : Fin cfg0.N) : (iblk m c 0 t : Vec Ideal S8x6x128 .f32) = parts m c ∧ (iblk m c 1 t : Vec Ideal S1x6x128 .f32) = weight m c
    ∧ (iblk m c 2 t : Vec Ideal S1x6x128 .f32) = mean₀ m c ∧ (iblk m c 3 t : Vec Ideal S1x6x128 .f32) = square₀ m c := by
  obtain ⟨e, -⟩ := idx t
  refine ⟨funext fun i => at3 (parts m c) (stay (e 0).1) (stay (e 1).1) (stay (e 2).1), funext fun i => at3 (weight m c) (stay (e 0).2.1) (stay (e 1).2.1) (stay (e 2).2.1),
    funext fun i => at3 (mean₀ m c) (stay (e 0).2.2.1) (stay (e 1).2.2.1) (stay (e 2).2.2.1), funext fun i => at3 (square₀ m c) (stay (e 0).2.2.2) (stay (e 1).2.2.2) (stay (e 2).2.2.2)⟩

theorem final4 : (dats m 0 c).arrAt 4 cfg0.N = g m c := by
  refine (dats m 0 c).arrAt_eq_of_covers 4 _ (by decide +kernel) fun t hf y => ?_
  show (dats m 0 c).after 4 t ((cfg0.win 4).xinj (grid0.coords t) y) = g m c (((cfg0.win 4).blk t).view.emb y)
  rw [after0_4]
  dsimp only [outsAt0]
  frame_out
  obtain ⟨e0, e1, e2, e3⟩ := blk m c t
  simp only [e0, e1, e2, e3]
  refine Eq.trans ?_ (out (g m c) (((cfg0.win 4).blk t).view.emb y) ((cfg0.win 4).xinj (grid0.coords t) y) fun a => stay ((idx t).2 a).1)
  unfold k0_pay5 k0_pay2
  simp only [slab_eq, stack_one]
  exact sum_eight _ _ _ _ _ _ _ _ _ _

theorem final5 : (dats m 0 c).arrAt 5 cfg0.N = newChange (weight m c) (mean₀ m c) (square₀ m c) (g m c) := by
  refine (dats m 0 c).arrAt_eq_of_covers 5 _ (by decide +kernel) fun t hf y => ?_
  show (dats m 0 c).after 5 t ((cfg0.win 5).xinj (grid0.coords t) y) = newChange (weight m c) (mean₀ m c) (square₀ m c) (g m c) (((cfg0.win 5).blk t).view.emb y)
  rw [after0_5]
  dsimp only [outsAt0]
  frame_out
  obtain ⟨e0, e1, e2, e3⟩ := blk m c t
  simp only [e0, e1, e2, e3]
  refine Eq.trans ?_ (out (newChange (weight m c) (mean₀ m c) (square₀ m c) (g m c)) (((cfg0.win 5).blk t).view.emb y) ((cfg0.win 5).xinj (grid0.coords t) y) fun a => stay ((idx t).2 a).2.1)
  unfold k0_pay1 k0_pay8 k0_pay4 k0_pay3 k0_pay2
  simp only [slab_eq, stack_one]
  exact congr (congrArg₂ change (slab_at _ _) (congrArg₂ mean (slab_at _ _) (sum_eight _ _ _ _ _ _ _ _ _ _))) (congrArg₂ square (slab_at _ _) (sum_eight _ _ _ _ _ _ _ _ _ _))

theorem final6 : (dats m 0 c).arrAt 6 cfg0.N = newMean (mean₀ m c) (g m c) := by
  refine (dats m 0 c).arrAt_eq_of_covers 6 _ (by decide +kernel) fun t hf y => ?_
  show (dats m 0 c).after 6 t ((cfg0.win 6).xinj (grid0.coords t) y) = newMean (mean₀ m c) (g m c) (((cfg0.win 6).blk t).view.emb y)
  rw [after0_6]
  dsimp only [outsAt0]
  frame_out
  obtain ⟨e0, e1, e2, e3⟩ := blk m c t
  simp only [e0, e1, e2, e3]
  refine Eq.trans ?_ (out (newMean (mean₀ m c) (g m c)) (((cfg0.win 6).blk t).view.emb y) ((cfg0.win 6).xinj (grid0.coords t) y) fun a => stay ((idx t).2 a).2.2.1)
  unfold k0_pay6 k0_pay3 k0_pay2
  simp only [slab_eq, stack_one]
  exact congrArg₂ mean (slab_at _ _) (sum_eight _ _ _ _ _ _ _ _ _ _)

theorem final7 : (dats m 0 c).arrAt 7 cfg0.N = newSquare (square₀ m c) (g m c) := by
  refine (dats m 0 c).arrAt_eq_of_covers 7 _ (by decide +kernel) fun t hf y => ?_
  show (dats m 0 c).after 7 t ((cfg0.win 7).xinj (grid0.coords t) y) = newSquare (square₀ m c) (g m c) (((cfg0.win 7).blk t).view.emb y)
  rw [after0_7]
  dsimp only [outsAt0]
  frame_out
  obtain ⟨e0, e1, e2, e3⟩ := blk m c t
  simp only [e0, e1, e2, e3]
  refine Eq.trans ?_ (out (newSquare (square₀ m c) (g m c)) (((cfg0.win 7).blk t).view.emb y) ((cfg0.win 7).xinj (grid0.coords t) y) fun a => stay ((idx t).2 a).2.2.2)
  unfold k0_pay7 k0_pay4 k0_pay2
  simp only [slab_eq, stack_one]
  exact congrArg₂ square (slab_at _ _) (sum_eight _ _ _ _ _ _ _ _ _ _)

end Kernel

/-- The kernel runs, its arguments unchanged and its semaphores at zero. -/
theorem quiescent_kernel : Cert.quiescent_KAdamConvW := fun m g _ => Cert.KAdamConvW.Gen.frame m g
/-- So does the idealized kernel. -/
theorem quiescent_ideal : Cert.quiescent_KAdamConvWIdeal := fun m g _ => Cert.KAdamConvWIdeal.Gen.frame m g
/-- So does the reference. -/
theorem quiescent_reference : Cert.quiescent_RAdamConvWIdeal := fun m g _ =>
  (θ_run Cert.RAdamConvWIdeal.defs _ _).mono (fun r h => ⟨fun c => (h c).2.2.2.2, sem_eq_zero_of_no_sems rfl _⟩) (Cert.RAdamConvWIdeal.Value.run m g)

/-- The kernel and the reference end with the same gradient, change and moments. -/
theorem algebraic : Cert.algebraic_KAdamConvWIdeal_RAdamConvWIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamConvWIdeal.defs _ _).mono (fun r h c => ⟨(h c).1.trans (final4 m c), (h c).2.1.trans (final5 m c), (h c).2.2.1.trans (final6 m c),
      (h c).2.2.2.1.trans (final7 m c), (h c).2.2.2.2⟩) (Cert.KAdamConvWIdeal.Value.run_blocks m g₀),
    (θ_run Cert.RAdamConvWIdeal.defs _ _).mono (fun r h c => by
      obtain ⟨h0, h1, h2, h3, h4⟩ := h c
      obtain ⟨a0, a1, a2, a3⟩ := harg c
      rw [a0] at h0
      rw [a0, a1, a2, a3] at h1
      rw [a0, a2] at h2
      rw [a0, a3] at h3
      exact ⟨h0.trans (host_sum₁ (parts m c) _ _ _), h1.trans (congrArg (newChange (weight m c) (mean₀ m c) (square₀ m c)) (host_sum₁ (parts m c) _ _ _)), h2.trans (congrArg (newMean (mean₀ m c)) (host_sum₁ (parts m c) _ _ _)),
        h3.trans (congrArg (newSquare (square₀ m c)) (host_sum₁ (parts m c) _ _ _)), h4⟩) (Cert.RAdamConvWIdeal.Value.run m' g')⟩

end Cert.Adam.ConvW

end
-- ==== Proof.Adam.FfnConv.lean ====
/-
  One step of the optimiser on the taps of the feed-forward's convolution.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamFfnConv.Frame
public import proofs.«01_k».proof.Proof.Gen.KAdamFfnConvIdeal.Value
public import proofs.«01_k».proof.Proof.Gen.RAdamFfnConvIdeal.Run

@[expose] public section

set_option maxRecDepth 16384

noncomputable section

namespace Cert.Adam.FfnConv

open Idealize.ShloMosaic Idealize.ShloMosaic.TcCoe Idealize.ShloMosaic.ValueIdx Idealize.SL.Sem Cert.Prod

section Kernel
open Cert.KAdamFfnConvIdeal Cert.KAdamFfnConvIdeal.Gen

variable (m : (ℓ : Loc nD τ sig) → Buf (Elt Ideal) ℓ) (c : Dev nD)

/-- Every window stays at its only block. -/
theorem idx : ∀ t : Fin cfg0.N, (∀ a : Fin 3, win0_0.index t a = 0 ∧ win0_1.index t a = 0 ∧ win0_2.index t a = 0 ∧ win0_3.index t a = 0)
    ∧ ∀ a : Fin 3, win0_4.index t a = 0 ∧ win0_5.index t a = 0 ∧ win0_6.index t a = 0 ∧ win0_7.index t a = 0 :=
  (by decide +kernel : ∀ t : Fin grid0.N, _)

/-- The parts, the gradient, the weight and the moments. -/
abbrev parts : Vec Ideal S8x6x704 .f32 := m ((c : Thread nD τ).loc main_arg0)
abbrev weight : Vec Ideal S1x6x704 .f32 := m ((c : Thread nD τ).loc main_arg1)
abbrev mean₀ : Vec Ideal S1x6x704 .f32 := m ((c : Thread nD τ).loc main_arg2)
abbrev square₀ : Vec Ideal S1x6x704 .f32 := m ((c : Thread nD τ).loc main_arg3)
def g : S1x6x704.Idx → EReal := grad (G := 1) fun _ => parts m c

theorem blk (t : Fin cfg0.N) : (iblk m c 0 t : Vec Ideal S8x6x704 .f32) = parts m c ∧ (iblk m c 1 t : Vec Ideal S1x6x704 .f32) = weight m c
    ∧ (iblk m c 2 t : Vec Ideal S1x6x704 .f32) = mean₀ m c ∧ (iblk m c 3 t : Vec Ideal S1x6x704 .f32) = square₀ m c := by
  obtain ⟨e, -⟩ := idx t
  refine ⟨funext fun i => at3 (parts m c) (stay (e 0).1) (stay (e 1).1) (stay (e 2).1), funext fun i => at3 (weight m c) (stay (e 0).2.1) (stay (e 1).2.1) (stay (e 2).2.1),
    funext fun i => at3 (mean₀ m c) (stay (e 0).2.2.1) (stay (e 1).2.2.1) (stay (e 2).2.2.1), funext fun i => at3 (square₀ m c) (stay (e 0).2.2.2) (stay (e 1).2.2.2) (stay (e 2).2.2.2)⟩

theorem final4 : (dats m 0 c).arrAt 4 cfg0.N = g m c := by
  refine (dats m 0 c).arrAt_eq_of_covers 4 _ (by decide +kernel) fun t hf y => ?_
  show (dats m 0 c).after 4 t ((cfg0.win 4).xinj (grid0.coords t) y) = g m c (((cfg0.win 4).blk t).view.emb y)
  rw [after0_4]
  dsimp only [outsAt0]
  frame_out
  obtain ⟨e0, e1, e2, e3⟩ := blk m c t
  simp only [e0, e1, e2, e3]
  refine Eq.trans ?_ (out (g m c) (((cfg0.win 4).blk t).view.emb y) ((cfg0.win 4).xinj (grid0.coords t) y) fun a => stay ((idx t).2 a).1)
  unfold k0_pay5 k0_pay2
  simp only [slab_eq, stack_one]
  exact sum_eight _ _ _ _ _ _ _ _ _ _

theorem final5 : (dats m 0 c).arrAt 5 cfg0.N = newChange (weight m c) (mean₀ m c) (square₀ m c) (g m c) := by
  refine (dats m 0 c).arrAt_eq_of_covers 5 _ (by decide +kernel) fun t hf y => ?_
  show (dats m 0 c).after 5 t ((cfg0.win 5).xinj (grid0.coords t) y) = newChange (weight m c) (mean₀ m c) (square₀ m c) (g m c) (((cfg0.win 5).blk t).view.emb y)
  rw [after0_5]
  dsimp only [outsAt0]
  frame_out
  obtain ⟨e0, e1, e2, e3⟩ := blk m c t
  simp only [e0, e1, e2, e3]
  refine Eq.trans ?_ (out (newChange (weight m c) (mean₀ m c) (square₀ m c) (g m c)) (((cfg0.win 5).blk t).view.emb y) ((cfg0.win 5).xinj (grid0.coords t) y) fun a => stay ((idx t).2 a).2.1)
  unfold k0_pay1 k0_pay8 k0_pay4 k0_pay3 k0_pay2
  simp only [slab_eq, stack_one]
  exact congr (congrArg₂ change (slab_at _ _) (congrArg₂ mean (slab_at _ _) (sum_eight _ _ _ _ _ _ _ _ _ _))) (congrArg₂ square (slab_at _ _) (sum_eight _ _ _ _ _ _ _ _ _ _))

theorem final6 : (dats m 0 c).arrAt 6 cfg0.N = newMean (mean₀ m c) (g m c) := by
  refine (dats m 0 c).arrAt_eq_of_covers 6 _ (by decide +kernel) fun t hf y => ?_
  show (dats m 0 c).after 6 t ((cfg0.win 6).xinj (grid0.coords t) y) = newMean (mean₀ m c) (g m c) (((cfg0.win 6).blk t).view.emb y)
  rw [after0_6]
  dsimp only [outsAt0]
  frame_out
  obtain ⟨e0, e1, e2, e3⟩ := blk m c t
  simp only [e0, e1, e2, e3]
  refine Eq.trans ?_ (out (newMean (mean₀ m c) (g m c)) (((cfg0.win 6).blk t).view.emb y) ((cfg0.win 6).xinj (grid0.coords t) y) fun a => stay ((idx t).2 a).2.2.1)
  unfold k0_pay6 k0_pay3 k0_pay2
  simp only [slab_eq, stack_one]
  exact congrArg₂ mean (slab_at _ _) (sum_eight _ _ _ _ _ _ _ _ _ _)

theorem final7 : (dats m 0 c).arrAt 7 cfg0.N = newSquare (square₀ m c) (g m c) := by
  refine (dats m 0 c).arrAt_eq_of_covers 7 _ (by decide +kernel) fun t hf y => ?_
  show (dats m 0 c).after 7 t ((cfg0.win 7).xinj (grid0.coords t) y) = newSquare (square₀ m c) (g m c) (((cfg0.win 7).blk t).view.emb y)
  rw [after0_7]
  dsimp only [outsAt0]
  frame_out
  obtain ⟨e0, e1, e2, e3⟩ := blk m c t
  simp only [e0, e1, e2, e3]
  refine Eq.trans ?_ (out (newSquare (square₀ m c) (g m c)) (((cfg0.win 7).blk t).view.emb y) ((cfg0.win 7).xinj (grid0.coords t) y) fun a => stay ((idx t).2 a).2.2.2)
  unfold k0_pay7 k0_pay4 k0_pay2
  simp only [slab_eq, stack_one]
  exact congrArg₂ square (slab_at _ _) (sum_eight _ _ _ _ _ _ _ _ _ _)

end Kernel

/-- The kernel runs, its arguments unchanged and its semaphores at zero. -/
theorem quiescent_kernel : Cert.quiescent_KAdamFfnConv := fun m g _ => Cert.KAdamFfnConv.Gen.frame m g
/-- So does the idealized kernel. -/
theorem quiescent_ideal : Cert.quiescent_KAdamFfnConvIdeal := fun m g _ => Cert.KAdamFfnConvIdeal.Gen.frame m g
/-- So does the reference. -/
theorem quiescent_reference : Cert.quiescent_RAdamFfnConvIdeal := fun m g _ =>
  (θ_run Cert.RAdamFfnConvIdeal.defs _ _).mono (fun r h => ⟨fun c => (h c).2.2.2.2, sem_eq_zero_of_no_sems rfl _⟩) (Cert.RAdamFfnConvIdeal.Value.run m g)

/-- The kernel and the reference end with the same gradient, change and moments. -/
theorem algebraic : Cert.algebraic_KAdamFfnConvIdeal_RAdamFfnConvIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamFfnConvIdeal.defs _ _).mono (fun r h c => ⟨(h c).1.trans (final4 m c), (h c).2.1.trans (final5 m c), (h c).2.2.1.trans (final6 m c),
      (h c).2.2.2.1.trans (final7 m c), (h c).2.2.2.2⟩) (Cert.KAdamFfnConvIdeal.Value.run_blocks m g₀),
    (θ_run Cert.RAdamFfnConvIdeal.defs _ _).mono (fun r h c => by
      obtain ⟨h0, h1, h2, h3, h4⟩ := h c
      obtain ⟨a0, a1, a2, a3⟩ := harg c
      rw [a0] at h0
      rw [a0, a1, a2, a3] at h1
      rw [a0, a2] at h2
      rw [a0, a3] at h3
      exact ⟨h0.trans (host_sum₁ (parts m c) _ _ _), h1.trans (congrArg (newChange (weight m c) (mean₀ m c) (square₀ m c)) (host_sum₁ (parts m c) _ _ _)), h2.trans (congrArg (newMean (mean₀ m c)) (host_sum₁ (parts m c) _ _ _)),
        h3.trans (congrArg (newSquare (square₀ m c)) (host_sum₁ (parts m c) _ _ _)), h4⟩) (Cert.RAdamFfnConvIdeal.Value.run m' g')⟩

end Cert.Adam.FfnConv

end
-- ==== Proof.Adam.O.lean ====
/-
  One step of the optimiser on the mixing weight: a grid point makes one tile of the four results from the tile of the
  layer's parts.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamO.Frame
public import proofs.«01_k».proof.Proof.Gen.KAdamOIdeal.Value
public import proofs.«01_k».proof.Proof.Gen.RAdamOIdeal.Run

@[expose] public section

set_option maxRecDepth 16384

noncomputable section

namespace Cert.Adam.O

open Idealize.ShloMosaic Idealize.ShloMosaic.TcCoe Idealize.ShloMosaic.ValueIdx Idealize.SL.Sem Cert.Prod

section Kernel
open Cert.KAdamOIdeal Cert.KAdamOIdeal.Gen

variable (m : (ℓ : Loc nD τ sig) → Buf (Elt Ideal) ℓ) (c : Dev nD)

/-- The tiles of the weight, the moments and the results go together. -/
theorem idx : ∀ (t : Fin cfg0.N) (a : Fin 3), win0_2.index t a = win0_5.index t a ∧ win0_3.index t a = win0_5.index t a ∧ win0_4.index t a = win0_5.index t a
    ∧ win0_6.index t a = win0_5.index t a ∧ win0_7.index t a = win0_5.index t a ∧ win0_8.index t a = win0_5.index t a :=
  (by decide +kernel : ∀ t : Fin grid0.N, _)
/-- A layer's points read the layer's parts, at the rows of their tile. -/
theorem idxA : ∀ (t : Fin cfg0.N), t.val < 2 → win0_5.index t 0 = 0 ∧ win0_0.index t 0 = 0 ∧ win0_0.index t 1 = win0_5.index t 1 ∧ win0_0.index t 2 = win0_5.index t 2 :=
  (by decide +kernel : ∀ t : Fin grid0.N, _)
theorem idxB : ∀ (t : Fin cfg0.N), 2 ≤ t.val → win0_5.index t 0 = 1 ∧ win0_1.index t 0 = 0 ∧ win0_1.index t 1 = win0_5.index t 1 ∧ win0_1.index t 2 = win0_5.index t 2 :=
  (by decide +kernel : ∀ t : Fin grid0.N, _)

/-- The parts, the gradient, the weight and the moments. -/
abbrev parts₀ : Vec Ideal S4x256x2048 .bf16 := m ((c : Thread nD τ).loc main_arg0)
abbrev parts₁ : Vec Ideal S4x256x2048 .bf16 := m ((c : Thread nD τ).loc main_arg1)
abbrev weight : Vec Ideal S2x256x2048 .f32 := m ((c : Thread nD τ).loc main_arg2)
abbrev mean₀ : Vec Ideal S2x256x2048 .f32 := m ((c : Thread nD τ).loc main_arg3)
abbrev square₀ : Vec Ideal S2x256x2048 .f32 := m ((c : Thread nD τ).loc main_arg4)
def g : S2x256x2048.Idx → EReal := grad ![parts₀ m c, parts₁ m c]

section Tile
variable (t : Fin cfg0.N) (i : S1x128x2048.Idx) (E : S2x256x2048.Idx) (hE : ∀ a, (E a).val = win0_5.index t a * S1x128x2048.size a + 1 * (i a).val)
include hE

theorem blk : (iblk m c 2 t : Vec Ideal S1x128x2048 .f32) i = weight m c E ∧ (iblk m c 3 t : Vec Ideal S1x128x2048 .f32) i = mean₀ m c E
    ∧ (iblk m c 4 t : Vec Ideal S1x128x2048 .f32) i = square₀ m c E :=
  ⟨out (weight m c) _ _ fun a => (hE a).trans (place (idx t a).1), out (mean₀ m c) _ _ fun a => (hE a).trans (place (idx t a).2.1),
    out (square₀ m c) _ _ fun a => (hE a).trans (place (idx t a).2.2.1)⟩
theorem gradA (h : t.val < 2) : total (iblk m c 0 t : Vec Ideal S4x128x2048 .bf16) (i 1) (i 2) = g m c E :=
  tile _ ![parts₀ m c, parts₁ m c] 0 E ((hE 0).trans (first (idxA t h).1 (i 0))) fun d =>
    at3 (parts₀ m c) (stay (idxA t h).2.1) ((hE 1).trans (place (idxA t h).2.2.1)).symm ((hE 2).trans (place (idxA t h).2.2.2)).symm
theorem gradB (h : 2 ≤ t.val) : total (iblk m c 1 t : Vec Ideal S4x128x2048 .bf16) (i 1) (i 2) = g m c E :=
  tile _ ![parts₀ m c, parts₁ m c] 1 E ((hE 0).trans (first (idxB t h).1 (i 0))) fun d =>
    at3 (parts₁ m c) (stay (idxB t h).2.1) ((hE 1).trans (place (idxB t h).2.2.1)).symm ((hE 2).trans (place (idxB t h).2.2.2)).symm

/-- A point's four tiles. -/
theorem outs : (outsAt0 m c t.val t.isLt).1 i = g m c E ∧ (outsAt0 m c t.val t.isLt).2.1 i = newChange (weight m c) (mean₀ m c) (square₀ m c) (g m c) E
    ∧ (outsAt0 m c t.val t.isLt).2.2.1 i = newMean (mean₀ m c) (g m c) E ∧ (outsAt0 m c t.val t.isLt).2.2.2 i = newSquare (square₀ m c) (g m c) E := by
  obtain ⟨e2, e3, e4⟩ := blk m c t i E hE
  by_cases h : t.val < 2
  · rw [outsAt0_A m c t h (Nat.not_le.2 h)]
    dsimp only
    frame_out
    simp only [k0_pay1, k0_pay2, k0_pay3, k0_pay4, k0_pay5, k0_pay6, k0_pay7, k0_pay8, k0_pay9, k0_pay10, k0_pay11, k0_pay12, k0_pay13, k0_pay14, slab_eq, stack_one]
    have s := (sum_four (iblk m c 0 t : Vec Ideal S4x128x2048 .bf16) inb_S4x128x2048_S1x128x2048_0_0_0 inb_S4x128x2048_S1x128x2048_1_0_0
      inb_S4x128x2048_S1x128x2048_2_0_0 inb_S4x128x2048_S1x128x2048_3_0_0 bitsLt_bf16_f32 (i 1) (i 2)).trans (gradA m c t i E hE h)
    exact ⟨s, change_of e2 e3 e4 s, mean_of e3 s, square_of e4 s⟩
  · rw [outsAt0_B m c t h (Nat.not_lt.1 h)]
    dsimp only
    frame_out
    simp only [k0_pay1, k0_pay2, k0_pay3, k0_pay4, k0_pay5, k0_pay6, k0_pay7, k0_pay8, k0_pay9, k0_pay10, k0_pay11, k0_pay12, k0_pay13, k0_pay14, slab_eq, stack_one]
    have s := (sum_four (iblk m c 1 t : Vec Ideal S4x128x2048 .bf16) inb_S4x128x2048_S1x128x2048_0_0_0 inb_S4x128x2048_S1x128x2048_1_0_0
      inb_S4x128x2048_S1x128x2048_2_0_0 inb_S4x128x2048_S1x128x2048_3_0_0 bitsLt_bf16_f32 (i 1) (i 2)).trans (gradB m c t i E hE (Nat.not_lt.1 h))
    exact ⟨s, change_of e2 e3 e4 s, mean_of e3 s, square_of e4 s⟩
end Tile

theorem final5 : (dats m 0 c).arrAt 5 cfg0.N = g m c :=
  (dats m 0 c).arrAt_eq_of_covers 5 _ (by decide +kernel) fun t hf y =>
    (congrFun (after0_5 m c t) _).trans (outs m c t _ (((cfg0.win 5).blk t).view.emb y) fun a => rfl).1
theorem final6 : (dats m 0 c).arrAt 6 cfg0.N = newChange (weight m c) (mean₀ m c) (square₀ m c) (g m c) :=
  (dats m 0 c).arrAt_eq_of_covers 6 _ (by decide +kernel) fun t hf y =>
    (congrFun (after0_6 m c t) _).trans (outs m c t _ (((cfg0.win 6).blk t).view.emb y) fun a => place (idx t a).2.2.2.1.symm).2.1
theorem final7 : (dats m 0 c).arrAt 7 cfg0.N = newMean (mean₀ m c) (g m c) :=
  (dats m 0 c).arrAt_eq_of_covers 7 _ (by decide +kernel) fun t hf y =>
    (congrFun (after0_7 m c t) _).trans (outs m c t _ (((cfg0.win 7).blk t).view.emb y) fun a => place (idx t a).2.2.2.2.1.symm).2.2.1
theorem final8 : (dats m 0 c).arrAt 8 cfg0.N = newSquare (square₀ m c) (g m c) :=
  (dats m 0 c).arrAt_eq_of_covers 8 _ (by decide +kernel) fun t hf y =>
    (congrFun (after0_8 m c t) _).trans (outs m c t _ (((cfg0.win 8).blk t).view.emb y) fun a => place (idx t a).2.2.2.2.2.symm).2.2.2

end Kernel

/-- The kernel runs, its arguments unchanged and its semaphores at zero. -/
theorem quiescent_kernel : Cert.quiescent_KAdamO := fun m g _ => Cert.KAdamO.Gen.frame m g
/-- So does the idealized kernel. -/
theorem quiescent_ideal : Cert.quiescent_KAdamOIdeal := fun m g _ => Cert.KAdamOIdeal.Gen.frame m g
/-- So does the reference. -/
theorem quiescent_reference : Cert.quiescent_RAdamOIdeal := fun m g _ =>
  (θ_run Cert.RAdamOIdeal.defs _ _).mono (fun r h => ⟨fun c => (h c).2.2.2.2, sem_eq_zero_of_no_sems rfl _⟩) (Cert.RAdamOIdeal.Value.run m g)

/-- The kernel and the reference end with the same gradient, change and moments. -/
theorem algebraic : Cert.algebraic_KAdamOIdeal_RAdamOIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamOIdeal.defs _ _).mono (fun r h c => ⟨(h c).1.trans (final5 m c), (h c).2.1.trans (final6 m c), (h c).2.2.1.trans (final7 m c),
      (h c).2.2.2.1.trans (final8 m c), (h c).2.2.2.2⟩) (Cert.KAdamOIdeal.Value.run_blocks m g₀),
    (θ_run Cert.RAdamOIdeal.defs _ _).mono (fun r h c => by
      obtain ⟨h0, h1, h2, h3, h4⟩ := h c
      obtain ⟨a0, a1, a2, a3, a4⟩ := harg c
      rw [a0, a1] at h0
      rw [a0, a1, a2, a3, a4] at h1
      rw [a0, a1, a3] at h2
      rw [a0, a1, a4] at h3
      exact ⟨h0.trans (host_sum₂ (parts₀ m c) (parts₁ m c) _ _ _ _), h1.trans (congrArg (newChange (weight m c) (mean₀ m c) (square₀ m c)) (host_sum₂ (parts₀ m c) (parts₁ m c) _ _ _ _)),
        h2.trans (congrArg (newMean (mean₀ m c)) (host_sum₂ (parts₀ m c) (parts₁ m c) _ _ _ _)), h3.trans (congrArg (newSquare (square₀ m c)) (host_sum₂ (parts₀ m c) (parts₁ m c) _ _ _ _)), h4⟩)
      (Cert.RAdamOIdeal.Value.run m' g')⟩

end Cert.Adam.O

end
-- ==== Proof.Adam.Down.lean ====
/-
  One step of the optimiser on the down projection: a grid point makes one tile of the four results from the tile of the
  layer's parts.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamDown.Frame
public import proofs.«01_k».proof.Proof.Gen.KAdamDownIdeal.Value
public import proofs.«01_k».proof.Proof.Gen.RAdamDownIdeal.Run

@[expose] public section

set_option maxRecDepth 16384

noncomputable section

namespace Cert.Adam.Down

open Idealize.ShloMosaic Idealize.ShloMosaic.TcCoe Idealize.ShloMosaic.ValueIdx Idealize.SL.Sem Cert.Prod

section Kernel
open Cert.KAdamDownIdeal Cert.KAdamDownIdeal.Gen

variable (m : (ℓ : Loc nD τ sig) → Buf (Elt Ideal) ℓ) (c : Dev nD)

/-- The tiles of the weight, the moments and the results go together. -/
theorem idx : ∀ (t : Fin cfg0.N) (a : Fin 3), win0_2.index t a = win0_5.index t a ∧ win0_3.index t a = win0_5.index t a ∧ win0_4.index t a = win0_5.index t a
    ∧ win0_6.index t a = win0_5.index t a ∧ win0_7.index t a = win0_5.index t a ∧ win0_8.index t a = win0_5.index t a :=
  (by decide +kernel : ∀ t : Fin grid0.N, _)
/-- A layer's points read the layer's parts, at the rows of their tile. -/
theorem idxA : ∀ (t : Fin cfg0.N), t.val < 11 → win0_5.index t 0 = 0 ∧ win0_0.index t 0 = 0 ∧ win0_0.index t 1 = win0_5.index t 1 ∧ win0_0.index t 2 = win0_5.index t 2 :=
  (by decide +kernel : ∀ t : Fin grid0.N, _)
theorem idxB : ∀ (t : Fin cfg0.N), 11 ≤ t.val → win0_5.index t 0 = 1 ∧ win0_1.index t 0 = 0 ∧ win0_1.index t 1 = win0_5.index t 1 ∧ win0_1.index t 2 = win0_5.index t 2 :=
  (by decide +kernel : ∀ t : Fin grid0.N, _)

/-- The parts, the gradient, the weight and the moments. -/
abbrev parts₀ : Vec Ideal S4x704x2048 .bf16 := m ((c : Thread nD τ).loc main_arg0)
abbrev parts₁ : Vec Ideal S4x704x2048 .bf16 := m ((c : Thread nD τ).loc main_arg1)
abbrev weight : Vec Ideal S2x704x2048 .f32 := m ((c : Thread nD τ).loc main_arg2)
abbrev mean₀ : Vec Ideal S2x704x2048 .f32 := m ((c : Thread nD τ).loc main_arg3)
abbrev square₀ : Vec Ideal S2x704x2048 .f32 := m ((c : Thread nD τ).loc main_arg4)
def g : S2x704x2048.Idx → EReal := grad ![parts₀ m c, parts₁ m c]

section Tile
variable (t : Fin cfg0.N) (i : S1x64x2048.Idx) (E : S2x704x2048.Idx) (hE : ∀ a, (E a).val = win0_5.index t a * S1x64x2048.size a + 1 * (i a).val)
include hE

theorem blk : (iblk m c 2 t : Vec Ideal S1x64x2048 .f32) i = weight m c E ∧ (iblk m c 3 t : Vec Ideal S1x64x2048 .f32) i = mean₀ m c E
    ∧ (iblk m c 4 t : Vec Ideal S1x64x2048 .f32) i = square₀ m c E :=
  ⟨out (weight m c) _ _ fun a => (hE a).trans (place (idx t a).1), out (mean₀ m c) _ _ fun a => (hE a).trans (place (idx t a).2.1),
    out (square₀ m c) _ _ fun a => (hE a).trans (place (idx t a).2.2.1)⟩
theorem gradA (h : t.val < 11) : total (iblk m c 0 t : Vec Ideal S4x64x2048 .bf16) (i 1) (i 2) = g m c E :=
  tile _ ![parts₀ m c, parts₁ m c] 0 E ((hE 0).trans (first (idxA t h).1 (i 0))) fun d =>
    at3 (parts₀ m c) (stay (idxA t h).2.1) ((hE 1).trans (place (idxA t h).2.2.1)).symm ((hE 2).trans (place (idxA t h).2.2.2)).symm
theorem gradB (h : 11 ≤ t.val) : total (iblk m c 1 t : Vec Ideal S4x64x2048 .bf16) (i 1) (i 2) = g m c E :=
  tile _ ![parts₀ m c, parts₁ m c] 1 E ((hE 0).trans (first (idxB t h).1 (i 0))) fun d =>
    at3 (parts₁ m c) (stay (idxB t h).2.1) ((hE 1).trans (place (idxB t h).2.2.1)).symm ((hE 2).trans (place (idxB t h).2.2.2)).symm

/-- A point's four tiles. -/
theorem outs : (outsAt0 m c t.val t.isLt).1 i = g m c E ∧ (outsAt0 m c t.val t.isLt).2.1 i = newChange (weight m c) (mean₀ m c) (square₀ m c) (g m c) E
    ∧ (outsAt0 m c t.val t.isLt).2.2.1 i = newMean (mean₀ m c) (g m c) E ∧ (outsAt0 m c t.val t.isLt).2.2.2 i = newSquare (square₀ m c) (g m c) E := by
  obtain ⟨e2, e3, e4⟩ := blk m c t i E hE
  by_cases h : t.val < 11
  · rw [outsAt0_A m c t h (Nat.not_le.2 h)]
    dsimp only
    frame_out
    simp only [k0_pay1, k0_pay2, k0_pay3, k0_pay4, k0_pay5, k0_pay6, k0_pay7, k0_pay8, k0_pay9, k0_pay10, k0_pay11, k0_pay12, k0_pay13, k0_pay14, slab_eq, stack_one]
    have s := (sum_four (iblk m c 0 t : Vec Ideal S4x64x2048 .bf16) inb_S4x64x2048_S1x64x2048_0_0_0 inb_S4x64x2048_S1x64x2048_1_0_0
      inb_S4x64x2048_S1x64x2048_2_0_0 inb_S4x64x2048_S1x64x2048_3_0_0 bitsLt_bf16_f32 (i 1) (i 2)).trans (gradA m c t i E hE h)
    exact ⟨s, change_of e2 e3 e4 s, mean_of e3 s, square_of e4 s⟩
  · rw [outsAt0_B m c t h (Nat.not_lt.1 h)]
    dsimp only
    frame_out
    simp only [k0_pay1, k0_pay2, k0_pay3, k0_pay4, k0_pay5, k0_pay6, k0_pay7, k0_pay8, k0_pay9, k0_pay10, k0_pay11, k0_pay12, k0_pay13, k0_pay14, slab_eq, stack_one]
    have s := (sum_four (iblk m c 1 t : Vec Ideal S4x64x2048 .bf16) inb_S4x64x2048_S1x64x2048_0_0_0 inb_S4x64x2048_S1x64x2048_1_0_0
      inb_S4x64x2048_S1x64x2048_2_0_0 inb_S4x64x2048_S1x64x2048_3_0_0 bitsLt_bf16_f32 (i 1) (i 2)).trans (gradB m c t i E hE (Nat.not_lt.1 h))
    exact ⟨s, change_of e2 e3 e4 s, mean_of e3 s, square_of e4 s⟩
end Tile

theorem final5 : (dats m 0 c).arrAt 5 cfg0.N = g m c :=
  (dats m 0 c).arrAt_eq_of_covers 5 _ (by decide +kernel) fun t hf y =>
    (congrFun (after0_5 m c t) _).trans (outs m c t _ (((cfg0.win 5).blk t).view.emb y) fun a => rfl).1
theorem final6 : (dats m 0 c).arrAt 6 cfg0.N = newChange (weight m c) (mean₀ m c) (square₀ m c) (g m c) :=
  (dats m 0 c).arrAt_eq_of_covers 6 _ (by decide +kernel) fun t hf y =>
    (congrFun (after0_6 m c t) _).trans (outs m c t _ (((cfg0.win 6).blk t).view.emb y) fun a => place (idx t a).2.2.2.1.symm).2.1
theorem final7 : (dats m 0 c).arrAt 7 cfg0.N = newMean (mean₀ m c) (g m c) :=
  (dats m 0 c).arrAt_eq_of_covers 7 _ (by decide +kernel) fun t hf y =>
    (congrFun (after0_7 m c t) _).trans (outs m c t _ (((cfg0.win 7).blk t).view.emb y) fun a => place (idx t a).2.2.2.2.1.symm).2.2.1
theorem final8 : (dats m 0 c).arrAt 8 cfg0.N = newSquare (square₀ m c) (g m c) :=
  (dats m 0 c).arrAt_eq_of_covers 8 _ (by decide +kernel) fun t hf y =>
    (congrFun (after0_8 m c t) _).trans (outs m c t _ (((cfg0.win 8).blk t).view.emb y) fun a => place (idx t a).2.2.2.2.2.symm).2.2.2

end Kernel

/-- The kernel runs, its arguments unchanged and its semaphores at zero. -/
theorem quiescent_kernel : Cert.quiescent_KAdamDown := fun m g _ => Cert.KAdamDown.Gen.frame m g
/-- So does the idealized kernel. -/
theorem quiescent_ideal : Cert.quiescent_KAdamDownIdeal := fun m g _ => Cert.KAdamDownIdeal.Gen.frame m g
/-- So does the reference. -/
theorem quiescent_reference : Cert.quiescent_RAdamDownIdeal := fun m g _ =>
  (θ_run Cert.RAdamDownIdeal.defs _ _).mono (fun r h => ⟨fun c => (h c).2.2.2.2, sem_eq_zero_of_no_sems rfl _⟩) (Cert.RAdamDownIdeal.Value.run m g)

/-- The kernel and the reference end with the same gradient, change and moments. -/
theorem algebraic : Cert.algebraic_KAdamDownIdeal_RAdamDownIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamDownIdeal.defs _ _).mono (fun r h c => ⟨(h c).1.trans (final5 m c), (h c).2.1.trans (final6 m c), (h c).2.2.1.trans (final7 m c),
      (h c).2.2.2.1.trans (final8 m c), (h c).2.2.2.2⟩) (Cert.KAdamDownIdeal.Value.run_blocks m g₀),
    (θ_run Cert.RAdamDownIdeal.defs _ _).mono (fun r h c => by
      obtain ⟨h0, h1, h2, h3, h4⟩ := h c
      obtain ⟨a0, a1, a2, a3, a4⟩ := harg c
      rw [a0, a1] at h0
      rw [a0, a1, a2, a3, a4] at h1
      rw [a0, a1, a3] at h2
      rw [a0, a1, a4] at h3
      exact ⟨h0.trans (host_sum₂ (parts₀ m c) (parts₁ m c) _ _ _ _), h1.trans (congrArg (newChange (weight m c) (mean₀ m c) (square₀ m c)) (host_sum₂ (parts₀ m c) (parts₁ m c) _ _ _ _)),
        h2.trans (congrArg (newMean (mean₀ m c)) (host_sum₂ (parts₀ m c) (parts₁ m c) _ _ _ _)), h3.trans (congrArg (newSquare (square₀ m c)) (host_sum₂ (parts₀ m c) (parts₁ m c) _ _ _ _)), h4⟩)
      (Cert.RAdamDownIdeal.Value.run m' g')⟩

end Cert.Adam.Down

end
-- ==== Proof.Adam.Out.lean ====
/-
  One step of the optimiser on an output projection: a grid point makes one tile of the four results from the tile of the
  layer's parts.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamOut.Frame
public import proofs.«01_k».proof.Proof.Gen.KAdamOutIdeal.Value
public import proofs.«01_k».proof.Proof.Gen.RAdamOutIdeal.Run

@[expose] public section

set_option maxRecDepth 16384

noncomputable section

namespace Cert.Adam.Out

open Idealize.ShloMosaic Idealize.ShloMosaic.TcCoe Idealize.ShloMosaic.ValueIdx Idealize.SL.Sem Cert.Prod

section Kernel
open Cert.KAdamOutIdeal Cert.KAdamOutIdeal.Gen

variable (m : (ℓ : Loc nD τ sig) → Buf (Elt Ideal) ℓ) (c : Dev nD)

/-- The tiles of the weight, the moments and the results go together. -/
theorem idx : ∀ (t : Fin cfg0.N) (a : Fin 3), win0_2.index t a = win0_5.index t a ∧ win0_3.index t a = win0_5.index t a ∧ win0_4.index t a = win0_5.index t a
    ∧ win0_6.index t a = win0_5.index t a ∧ win0_7.index t a = win0_5.index t a ∧ win0_8.index t a = win0_5.index t a :=
  (by decide +kernel : ∀ t : Fin grid0.N, _)
/-- A layer's points read the layer's parts, at the rows of their tile. -/
theorem idxA : ∀ (t : Fin cfg0.N), t.val % 2 = 0 → win0_5.index t 0 = 0 ∧ win0_0.index t 0 = 0 ∧ win0_0.index t 1 = win0_5.index t 1 ∧ win0_0.index t 2 = win0_5.index t 2 :=
  (by decide +kernel : ∀ t : Fin grid0.N, _)
theorem idxB : ∀ (t : Fin cfg0.N), t.val % 2 = 1 → win0_5.index t 0 = 1 ∧ win0_1.index t 0 = 0 ∧ win0_1.index t 1 = win0_5.index t 1 ∧ win0_1.index t 2 = win0_5.index t 2 :=
  (by decide +kernel : ∀ t : Fin grid0.N, _)

/-- The parts, the gradient, the weight and the moments. -/
abbrev parts₀ : Vec Ideal S4x1024x256 .bf16 := m ((c : Thread nD τ).loc main_arg0)
abbrev parts₁ : Vec Ideal S4x1024x256 .bf16 := m ((c : Thread nD τ).loc main_arg1)
abbrev weight : Vec Ideal S2x1024x256 .f32 := m ((c : Thread nD τ).loc main_arg2)
abbrev mean₀ : Vec Ideal S2x1024x256 .f32 := m ((c : Thread nD τ).loc main_arg3)
abbrev square₀ : Vec Ideal S2x1024x256 .f32 := m ((c : Thread nD τ).loc main_arg4)
def g : S2x1024x256.Idx → EReal := grad ![parts₀ m c, parts₁ m c]

section Tile
variable (t : Fin cfg0.N) (i : S1x1024x256.Idx) (E : S2x1024x256.Idx) (hE : ∀ a, (E a).val = win0_5.index t a * S1x1024x256.size a + 1 * (i a).val)
include hE

theorem blk : (iblk m c 2 t : Vec Ideal S1x1024x256 .f32) i = weight m c E ∧ (iblk m c 3 t : Vec Ideal S1x1024x256 .f32) i = mean₀ m c E
    ∧ (iblk m c 4 t : Vec Ideal S1x1024x256 .f32) i = square₀ m c E :=
  ⟨out (weight m c) _ _ fun a => (hE a).trans (place (idx t a).1), out (mean₀ m c) _ _ fun a => (hE a).trans (place (idx t a).2.1),
    out (square₀ m c) _ _ fun a => (hE a).trans (place (idx t a).2.2.1)⟩
theorem gradA (h : t.val % 2 = 0) : total (iblk m c 0 t : Vec Ideal S4x1024x256 .bf16) (i 1) (i 2) = g m c E :=
  tile _ ![parts₀ m c, parts₁ m c] 0 E ((hE 0).trans (first (idxA t h).1 (i 0))) fun d =>
    at3 (parts₀ m c) (stay (idxA t h).2.1) ((hE 1).trans (place (idxA t h).2.2.1)).symm ((hE 2).trans (place (idxA t h).2.2.2)).symm
theorem gradB (h : t.val % 2 = 1) : total (iblk m c 1 t : Vec Ideal S4x1024x256 .bf16) (i 1) (i 2) = g m c E :=
  tile _ ![parts₀ m c, parts₁ m c] 1 E ((hE 0).trans (first (idxB t h).1 (i 0))) fun d =>
    at3 (parts₁ m c) (stay (idxB t h).2.1) ((hE 1).trans (place (idxB t h).2.2.1)).symm ((hE 2).trans (place (idxB t h).2.2.2)).symm

/-- A point's four tiles. -/
theorem outs : (outsAt0 m c t.val t.isLt).1 i = g m c E ∧ (outsAt0 m c t.val t.isLt).2.1 i = newChange (weight m c) (mean₀ m c) (square₀ m c) (g m c) E
    ∧ (outsAt0 m c t.val t.isLt).2.2.1 i = newMean (mean₀ m c) (g m c) E ∧ (outsAt0 m c t.val t.isLt).2.2.2 i = newSquare (square₀ m c) (g m c) E := by
  obtain ⟨e2, e3, e4⟩ := blk m c t i E hE
  by_cases h : t.val % 2 = 0
  · rw [outsAt0_A m c t h (by omega)]
    dsimp only
    frame_out
    simp only [k0_pay1, k0_pay2, k0_pay3, k0_pay4, k0_pay5, k0_pay6, k0_pay7, k0_pay8, k0_pay9, k0_pay10, k0_pay11, k0_pay12, k0_pay13, k0_pay14, slab_eq, stack_one]
    have s := (sum_four (iblk m c 0 t : Vec Ideal S4x1024x256 .bf16) inb_S4x1024x256_S1x1024x256_0_0_0 inb_S4x1024x256_S1x1024x256_1_0_0
      inb_S4x1024x256_S1x1024x256_2_0_0 inb_S4x1024x256_S1x1024x256_3_0_0 bitsLt_bf16_f32 (i 1) (i 2)).trans (gradA m c t i E hE h)
    exact ⟨s, change_of e2 e3 e4 s, mean_of e3 s, square_of e4 s⟩
  · rw [outsAt0_B m c t h (by omega)]
    dsimp only
    frame_out
    simp only [k0_pay1, k0_pay2, k0_pay3, k0_pay4, k0_pay5, k0_pay6, k0_pay7, k0_pay8, k0_pay9, k0_pay10, k0_pay11, k0_pay12, k0_pay13, k0_pay14, slab_eq, stack_one]
    have s := (sum_four (iblk m c 1 t : Vec Ideal S4x1024x256 .bf16) inb_S4x1024x256_S1x1024x256_0_0_0 inb_S4x1024x256_S1x1024x256_1_0_0
      inb_S4x1024x256_S1x1024x256_2_0_0 inb_S4x1024x256_S1x1024x256_3_0_0 bitsLt_bf16_f32 (i 1) (i 2)).trans (gradB m c t i E hE (by omega))
    exact ⟨s, change_of e2 e3 e4 s, mean_of e3 s, square_of e4 s⟩
end Tile

theorem final5 : (dats m 0 c).arrAt 5 cfg0.N = g m c :=
  (dats m 0 c).arrAt_eq_of_covers 5 _ (by decide +kernel) fun t hf y =>
    (congrFun (after0_5 m c t) _).trans (outs m c t _ (((cfg0.win 5).blk t).view.emb y) fun a => rfl).1
theorem final6 : (dats m 0 c).arrAt 6 cfg0.N = newChange (weight m c) (mean₀ m c) (square₀ m c) (g m c) :=
  (dats m 0 c).arrAt_eq_of_covers 6 _ (by decide +kernel) fun t hf y =>
    (congrFun (after0_6 m c t) _).trans (outs m c t _ (((cfg0.win 6).blk t).view.emb y) fun a => place (idx t a).2.2.2.1.symm).2.1
theorem final7 : (dats m 0 c).arrAt 7 cfg0.N = newMean (mean₀ m c) (g m c) :=
  (dats m 0 c).arrAt_eq_of_covers 7 _ (by decide +kernel) fun t hf y =>
    (congrFun (after0_7 m c t) _).trans (outs m c t _ (((cfg0.win 7).blk t).view.emb y) fun a => place (idx t a).2.2.2.2.1.symm).2.2.1
theorem final8 : (dats m 0 c).arrAt 8 cfg0.N = newSquare (square₀ m c) (g m c) :=
  (dats m 0 c).arrAt_eq_of_covers 8 _ (by decide +kernel) fun t hf y =>
    (congrFun (after0_8 m c t) _).trans (outs m c t _ (((cfg0.win 8).blk t).view.emb y) fun a => place (idx t a).2.2.2.2.2.symm).2.2.2

end Kernel

/-- The kernel runs, its arguments unchanged and its semaphores at zero. -/
theorem quiescent_kernel : Cert.quiescent_KAdamOut := fun m g _ => Cert.KAdamOut.Gen.frame m g
/-- So does the idealized kernel. -/
theorem quiescent_ideal : Cert.quiescent_KAdamOutIdeal := fun m g _ => Cert.KAdamOutIdeal.Gen.frame m g
/-- So does the reference. -/
theorem quiescent_reference : Cert.quiescent_RAdamOutIdeal := fun m g _ =>
  (θ_run Cert.RAdamOutIdeal.defs _ _).mono (fun r h => ⟨fun c => (h c).2.2.2.2, sem_eq_zero_of_no_sems rfl _⟩) (Cert.RAdamOutIdeal.Value.run m g)

/-- The kernel and the reference end with the same gradient, change and moments. -/
theorem algebraic : Cert.algebraic_KAdamOutIdeal_RAdamOutIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamOutIdeal.defs _ _).mono (fun r h c => ⟨(h c).1.trans (final5 m c), (h c).2.1.trans (final6 m c), (h c).2.2.1.trans (final7 m c),
      (h c).2.2.2.1.trans (final8 m c), (h c).2.2.2.2⟩) (Cert.KAdamOutIdeal.Value.run_blocks m g₀),
    (θ_run Cert.RAdamOutIdeal.defs _ _).mono (fun r h c => by
      obtain ⟨h0, h1, h2, h3, h4⟩ := h c
      obtain ⟨a0, a1, a2, a3, a4⟩ := harg c
      rw [a0, a1] at h0
      rw [a0, a1, a2, a3, a4] at h1
      rw [a0, a1, a3] at h2
      rw [a0, a1, a4] at h3
      exact ⟨h0.trans (host_sum₂ (parts₀ m c) (parts₁ m c) _ _ _ _), h1.trans (congrArg (newChange (weight m c) (mean₀ m c) (square₀ m c)) (host_sum₂ (parts₀ m c) (parts₁ m c) _ _ _ _)),
        h2.trans (congrArg (newMean (mean₀ m c)) (host_sum₂ (parts₀ m c) (parts₁ m c) _ _ _ _)), h3.trans (congrArg (newSquare (square₀ m c)) (host_sum₂ (parts₀ m c) (parts₁ m c) _ _ _ _)), h4⟩)
      (Cert.RAdamOutIdeal.Value.run m' g')⟩

end Cert.Adam.Out

end
-- ==== Proof.Adam.Ada.lean ====
/-
  One step of the optimiser on the modulation weight: a grid point makes one tile of the four results from the tile of the
  layer's parts.
-/
module

public import proofs.«01_k».proof.Defs
public import proofs.«01_k».proof.Proof.Adam.Rule
public import Idealize.ShloMosaic.Lib.Pipeline.ValueKit
public import Idealize.ShloMosaic.Lib.Pipeline.ReadBack
public import proofs.«01_k».proof.Proof.Gen.KAdamAda.Frame
public import proofs.«01_k».proof.Proof.Gen.KAdamAdaIdeal.Value
public import proofs.«01_k».proof.Proof.Gen.RAdamAdaIdeal.Run

@[expose] public section

set_option maxRecDepth 16384

noncomputable section

namespace Cert.Adam.Ada

open Idealize.ShloMosaic Idealize.ShloMosaic.TcCoe Idealize.ShloMosaic.ValueIdx Idealize.SL.Sem Cert.Prod

section Kernel
open Cert.KAdamAdaIdeal Cert.KAdamAdaIdeal.Gen

variable (m : (ℓ : Loc nD τ sig) → Buf (Elt Ideal) ℓ) (c : Dev nD)

/-- The tiles of the weight, the moments and the results go together. -/
theorem idx : ∀ (t : Fin cfg0.N) (a : Fin 3), win0_2.index t a = win0_5.index t a ∧ win0_3.index t a = win0_5.index t a ∧ win0_4.index t a = win0_5.index t a
    ∧ win0_6.index t a = win0_5.index t a ∧ win0_7.index t a = win0_5.index t a ∧ win0_8.index t a = win0_5.index t a :=
  (by decide +kernel : ∀ t : Fin grid0.N, _)
/-- A layer's points read the layer's parts, at the rows of their tile. -/
theorem idxA : ∀ (t : Fin cfg0.N), t.val < 16 → win0_5.index t 0 = 0 ∧ win0_0.index t 0 = 0 ∧ win0_0.index t 1 = win0_5.index t 1 ∧ win0_0.index t 2 = win0_5.index t 2 :=
  (by decide +kernel : ∀ t : Fin grid0.N, _)
theorem idxB : ∀ (t : Fin cfg0.N), 16 ≤ t.val → win0_5.index t 0 = 1 ∧ win0_1.index t 0 = 0 ∧ win0_1.index t 1 = win0_5.index t 1 ∧ win0_1.index t 2 = win0_5.index t 2 :=
  (by decide +kernel : ∀ t : Fin grid0.N, _)

/-- The parts, the gradient, the weight and the moments. -/
abbrev parts₀ : Vec Ideal S1x2048x1536 .f32 := m ((c : Thread nD τ).loc main_arg0)
abbrev parts₁ : Vec Ideal S1x2048x1536 .f32 := m ((c : Thread nD τ).loc main_arg1)
abbrev weight : Vec Ideal S2x2048x1536 .f32 := m ((c : Thread nD τ).loc main_arg2)
abbrev mean₀ : Vec Ideal S2x2048x1536 .f32 := m ((c : Thread nD τ).loc main_arg3)
abbrev square₀ : Vec Ideal S2x2048x1536 .f32 := m ((c : Thread nD τ).loc main_arg4)
def g : S2x2048x1536.Idx → EReal := grad ![parts₀ m c, parts₁ m c]

section Tile
variable (t : Fin cfg0.N) (i : S1x128x1536.Idx) (E : S2x2048x1536.Idx) (hE : ∀ a, (E a).val = win0_5.index t a * S1x128x1536.size a + 1 * (i a).val)
include hE

theorem blk : (iblk m c 2 t : Vec Ideal S1x128x1536 .f32) i = weight m c E ∧ (iblk m c 3 t : Vec Ideal S1x128x1536 .f32) i = mean₀ m c E
    ∧ (iblk m c 4 t : Vec Ideal S1x128x1536 .f32) i = square₀ m c E :=
  ⟨out (weight m c) _ _ fun a => (hE a).trans (place (idx t a).1), out (mean₀ m c) _ _ fun a => (hE a).trans (place (idx t a).2.1),
    out (square₀ m c) _ _ fun a => (hE a).trans (place (idx t a).2.2.1)⟩
theorem gradA (h : t.val < 16) : total (iblk m c 0 t : Vec Ideal S1x128x1536 .f32) (i 1) (i 2) = g m c E :=
  tile _ ![parts₀ m c, parts₁ m c] 0 E ((hE 0).trans (first (idxA t h).1 (i 0))) fun d =>
    at3 (parts₀ m c) (stay (idxA t h).2.1) ((hE 1).trans (place (idxA t h).2.2.1)).symm ((hE 2).trans (place (idxA t h).2.2.2)).symm
theorem gradB (h : 16 ≤ t.val) : total (iblk m c 1 t : Vec Ideal S1x128x1536 .f32) (i 1) (i 2) = g m c E :=
  tile _ ![parts₀ m c, parts₁ m c] 1 E ((hE 0).trans (first (idxB t h).1 (i 0))) fun d =>
    at3 (parts₁ m c) (stay (idxB t h).2.1) ((hE 1).trans (place (idxB t h).2.2.1)).symm ((hE 2).trans (place (idxB t h).2.2.2)).symm

/-- A point's four tiles. -/
theorem outs : (outsAt0 m c t.val t.isLt).1 i = g m c E ∧ (outsAt0 m c t.val t.isLt).2.1 i = newChange (weight m c) (mean₀ m c) (square₀ m c) (g m c) E
    ∧ (outsAt0 m c t.val t.isLt).2.2.1 i = newMean (mean₀ m c) (g m c) E ∧ (outsAt0 m c t.val t.isLt).2.2.2 i = newSquare (square₀ m c) (g m c) E := by
  obtain ⟨e2, e3, e4⟩ := blk m c t i E hE
  by_cases h : t.val < 16
  · rw [outsAt0_A m c t h (Nat.not_le.2 h)]
    dsimp only
    frame_out
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, slab_eq, stack_one]
    have s := (sum_one (iblk m c 0 t : Vec Ideal S1x128x1536 .f32) (i 1) (i 2)).trans (gradA m c t i E hE h)
    exact ⟨s, change_of e2 e3 e4 s, mean_of e3 s, square_of e4 s⟩
  · rw [outsAt0_B m c t h (Nat.not_lt.1 h)]
    dsimp only
    frame_out
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, slab_eq, stack_one]
    have s := (sum_one (iblk m c 1 t : Vec Ideal S1x128x1536 .f32) (i 1) (i 2)).trans (gradB m c t i E hE (Nat.not_lt.1 h))
    exact ⟨s, change_of e2 e3 e4 s, mean_of e3 s, square_of e4 s⟩
end Tile

theorem final5 : (dats m 0 c).arrAt 5 cfg0.N = g m c :=
  (dats m 0 c).arrAt_eq_of_covers 5 _ (by decide +kernel) fun t hf y =>
    (congrFun (after0_5 m c t) _).trans (outs m c t _ (((cfg0.win 5).blk t).view.emb y) fun a => rfl).1
theorem final6 : (dats m 0 c).arrAt 6 cfg0.N = newChange (weight m c) (mean₀ m c) (square₀ m c) (g m c) :=
  (dats m 0 c).arrAt_eq_of_covers 6 _ (by decide +kernel) fun t hf y =>
    (congrFun (after0_6 m c t) _).trans (outs m c t _ (((cfg0.win 6).blk t).view.emb y) fun a => place (idx t a).2.2.2.1.symm).2.1
theorem final7 : (dats m 0 c).arrAt 7 cfg0.N = newMean (mean₀ m c) (g m c) :=
  (dats m 0 c).arrAt_eq_of_covers 7 _ (by decide +kernel) fun t hf y =>
    (congrFun (after0_7 m c t) _).trans (outs m c t _ (((cfg0.win 7).blk t).view.emb y) fun a => place (idx t a).2.2.2.2.1.symm).2.2.1
theorem final8 : (dats m 0 c).arrAt 8 cfg0.N = newSquare (square₀ m c) (g m c) :=
  (dats m 0 c).arrAt_eq_of_covers 8 _ (by decide +kernel) fun t hf y =>
    (congrFun (after0_8 m c t) _).trans (outs m c t _ (((cfg0.win 8).blk t).view.emb y) fun a => place (idx t a).2.2.2.2.2.symm).2.2.2

end Kernel

/-- The kernel runs, its arguments unchanged and its semaphores at zero. -/
theorem quiescent_kernel : Cert.quiescent_KAdamAda := fun m g _ => Cert.KAdamAda.Gen.frame m g
/-- So does the idealized kernel. -/
theorem quiescent_ideal : Cert.quiescent_KAdamAdaIdeal := fun m g _ => Cert.KAdamAdaIdeal.Gen.frame m g
/-- So does the reference. -/
theorem quiescent_reference : Cert.quiescent_RAdamAdaIdeal := fun m g _ =>
  (θ_run Cert.RAdamAdaIdeal.defs _ _).mono (fun r h => ⟨fun c => (h c).2.2.2.2, sem_eq_zero_of_no_sems rfl _⟩) (Cert.RAdamAdaIdeal.Value.run m g)

/-- The kernel and the reference end with the same gradient, change and moments. -/
theorem algebraic : Cert.algebraic_KAdamAdaIdeal_RAdamAdaIdeal := fun m g₀ m' g' _ harg =>
  ⟨fun c => g m c, fun c => newChange (weight m c) (mean₀ m c) (square₀ m c) (g m c), fun c => newMean (mean₀ m c) (g m c), fun c => newSquare (square₀ m c) (g m c),
    (θ_run Cert.KAdamAdaIdeal.defs _ _).mono (fun r h c => ⟨(h c).1.trans (final5 m c), (h c).2.1.trans (final6 m c), (h c).2.2.1.trans (final7 m c),
      (h c).2.2.2.1.trans (final8 m c), (h c).2.2.2.2⟩) (Cert.KAdamAdaIdeal.Value.run_blocks m g₀),
    (θ_run Cert.RAdamAdaIdeal.defs _ _).mono (fun r h c => by
      obtain ⟨h0, h1, h2, h3, h4⟩ := h c
      obtain ⟨a0, a1, a2, a3, a4⟩ := harg c
      rw [a0, a1] at h0
      rw [a0, a1, a2, a3, a4] at h1
      rw [a0, a1, a3] at h2
      rw [a0, a1, a4] at h3
      exact ⟨h0.trans (host_sum₂ (parts₀ m c) (parts₁ m c) _ _ _ _), h1.trans (congrArg (newChange (weight m c) (mean₀ m c) (square₀ m c)) (host_sum₂ (parts₀ m c) (parts₁ m c) _ _ _ _)),
        h2.trans (congrArg (newMean (mean₀ m c)) (host_sum₂ (parts₀ m c) (parts₁ m c) _ _ _ _)), h3.trans (congrArg (newSquare (square₀ m c)) (host_sum₂ (parts₀ m c) (parts₁ m c) _ _ _ _)), h4⟩)
      (Cert.RAdamAdaIdeal.Value.run m' g')⟩

end Cert.Adam.Ada

end
-- ==== Proof.lean ====
/-
  The certificate: of the gated linear attention, of each product with the weights, of each product that makes a
  weight's gradient and of the optimiser's step on each weight listed, the frames of the three programs, the rewrites of the idealized kernel, and the equality of the
  kernel's results with the reference's.
-/
module

public import proofs.«01_k».proof.Defs
public import proofs.«01_k».proof.Proof.Frames
public import proofs.«01_k».proof.Proof.Algebraic
public import proofs.«01_k».proof.Proof.Prod.DownDgrad
public import proofs.«01_k».proof.Proof.Prod.UpDgrad
public import proofs.«01_k».proof.Proof.Prod.ODgrad
public import proofs.«01_k».proof.Proof.Prod.OutDgrad
public import proofs.«01_k».proof.Proof.Prod.InDgrad
public import proofs.«01_k».proof.Proof.Prod.InProj
public import proofs.«01_k».proof.Proof.Prod.OutProj
public import proofs.«01_k».proof.Proof.Prod.OProj
public import proofs.«01_k».proof.Proof.Prod.UpProj
public import proofs.«01_k».proof.Proof.Prod.DownProj
public import proofs.«01_k».proof.Proof.Prod.DownWgrad
public import proofs.«01_k».proof.Proof.Prod.OWgrad
public import proofs.«01_k».proof.Proof.Prod.OutWgrad
public import proofs.«01_k».proof.Proof.Prod.InWgradA
public import proofs.«01_k».proof.Proof.Prod.InWgradB
public import proofs.«01_k».proof.Proof.Prod.UpWgradA
public import proofs.«01_k».proof.Proof.Prod.UpWgradB
public import proofs.«01_k».proof.Proof.Adam.AdaB
public import proofs.«01_k».proof.Proof.Adam.NormG
public import proofs.«01_k».proof.Proof.Adam.GateW
public import proofs.«01_k».proof.Proof.Adam.GateB
public import proofs.«01_k».proof.Proof.Adam.GlaNorm
public import proofs.«01_k».proof.Proof.Adam.ConvW
public import proofs.«01_k».proof.Proof.Adam.FfnConv
public import proofs.«01_k».proof.Proof.Adam.O
public import proofs.«01_k».proof.Proof.Adam.Down
public import proofs.«01_k».proof.Proof.Adam.Out
public import proofs.«01_k».proof.Proof.Adam.Ada

@[expose] public section

noncomputable section

namespace Cert.Proof

/-- Everything that the certificate claims. -/
theorem claim : Cert.Claim :=
  ⟨Cert.Kernel.Gen.facts, Cert.KernelIdeal.Gen.facts, Cert.ReferenceIdeal.Gen.facts,
    Cert.KDownDgrad.Gen.facts, Cert.KDownDgradIdeal.Gen.facts, Cert.RDownDgradIdeal.Gen.facts,
    Cert.KUpDgrad.Gen.facts, Cert.KUpDgradIdeal.Gen.facts, Cert.RUpDgradIdeal.Gen.facts,
    Cert.KODgrad.Gen.facts, Cert.KODgradIdeal.Gen.facts, Cert.RODgradIdeal.Gen.facts,
    Cert.KOutDgrad.Gen.facts, Cert.KOutDgradIdeal.Gen.facts, Cert.ROutDgradIdeal.Gen.facts,
    Cert.KInDgrad.Gen.facts, Cert.KInDgradIdeal.Gen.facts, Cert.RInDgradIdeal.Gen.facts,
    Cert.KInProj.Gen.facts, Cert.KInProjIdeal.Gen.facts, Cert.RInProjIdeal.Gen.facts,
    Cert.KOutProj.Gen.facts, Cert.KOutProjIdeal.Gen.facts, Cert.ROutProjIdeal.Gen.facts,
    Cert.KOProj.Gen.facts, Cert.KOProjIdeal.Gen.facts, Cert.ROProjIdeal.Gen.facts,
    Cert.KUpProj.Gen.facts, Cert.KUpProjIdeal.Gen.facts, Cert.RUpProjIdeal.Gen.facts,
    Cert.KDownProj.Gen.facts, Cert.KDownProjIdeal.Gen.facts, Cert.RDownProjIdeal.Gen.facts,
    Cert.KDownWgrad.Gen.facts, Cert.KDownWgradIdeal.Gen.facts, Cert.RDownWgradIdeal.Gen.facts,
    Cert.KOWgrad.Gen.facts, Cert.KOWgradIdeal.Gen.facts, Cert.ROWgradIdeal.Gen.facts,
    Cert.KOutWgrad.Gen.facts, Cert.KOutWgradIdeal.Gen.facts, Cert.ROutWgradIdeal.Gen.facts,
    Cert.KInWgradA.Gen.facts, Cert.KInWgradAIdeal.Gen.facts, Cert.RInWgradAIdeal.Gen.facts,
    Cert.KInWgradB.Gen.facts, Cert.KInWgradBIdeal.Gen.facts, Cert.RInWgradBIdeal.Gen.facts,
    Cert.KUpWgradA.Gen.facts, Cert.KUpWgradAIdeal.Gen.facts, Cert.RUpWgradAIdeal.Gen.facts,
    Cert.KUpWgradB.Gen.facts, Cert.KUpWgradBIdeal.Gen.facts, Cert.RUpWgradBIdeal.Gen.facts,
    Cert.KAdamAdaB.Gen.facts, Cert.KAdamAdaBIdeal.Gen.facts, Cert.RAdamAdaBIdeal.Gen.facts,
    Cert.KAdamNormG.Gen.facts, Cert.KAdamNormGIdeal.Gen.facts, Cert.RAdamNormGIdeal.Gen.facts,
    Cert.KAdamGateW.Gen.facts, Cert.KAdamGateWIdeal.Gen.facts, Cert.RAdamGateWIdeal.Gen.facts,
    Cert.KAdamGateB.Gen.facts, Cert.KAdamGateBIdeal.Gen.facts, Cert.RAdamGateBIdeal.Gen.facts,
    Cert.KAdamGlaNorm.Gen.facts, Cert.KAdamGlaNormIdeal.Gen.facts, Cert.RAdamGlaNormIdeal.Gen.facts,
    Cert.KAdamConvW.Gen.facts, Cert.KAdamConvWIdeal.Gen.facts, Cert.RAdamConvWIdeal.Gen.facts,
    Cert.KAdamFfnConv.Gen.facts, Cert.KAdamFfnConvIdeal.Gen.facts, Cert.RAdamFfnConvIdeal.Gen.facts,
    Cert.KAdamO.Gen.facts, Cert.KAdamOIdeal.Gen.facts, Cert.RAdamOIdeal.Gen.facts,
    Cert.KAdamDown.Gen.facts, Cert.KAdamDownIdeal.Gen.facts, Cert.RAdamDownIdeal.Gen.facts,
    Cert.KAdamOut.Gen.facts, Cert.KAdamOutIdeal.Gen.facts, Cert.RAdamOutIdeal.Gen.facts,
    Cert.KAdamAda.Gen.facts, Cert.KAdamAdaIdeal.Gen.facts, Cert.RAdamAdaIdeal.Gen.facts,
    Cert.Pre_finite.Gen.facts,
    quiescent_kernel, quiescent_kernelIdeal, quiescent_kernelIdeal_pre, quiescent_reference, quiescent_reference_pre,
    Prod.DownDgrad.quiescent_kernel, Prod.DownDgrad.quiescent_ideal, Prod.DownDgrad.quiescent_reference,
    Prod.UpDgrad.quiescent_kernel, Prod.UpDgrad.quiescent_ideal, Prod.UpDgrad.quiescent_reference,
    Prod.ODgrad.quiescent_kernel, Prod.ODgrad.quiescent_ideal, Prod.ODgrad.quiescent_reference,
    Prod.OutDgrad.quiescent_kernel, Prod.OutDgrad.quiescent_ideal, Prod.OutDgrad.quiescent_reference,
    Prod.InDgrad.quiescent_kernel, Prod.InDgrad.quiescent_ideal, Prod.InDgrad.quiescent_reference,
    Prod.InProj.quiescent_kernel, Prod.InProj.quiescent_ideal, Prod.InProj.quiescent_reference,
    Prod.OutProj.quiescent_kernel, Prod.OutProj.quiescent_ideal, Prod.OutProj.quiescent_reference,
    Prod.OProj.quiescent_kernel, Prod.OProj.quiescent_ideal, Prod.OProj.quiescent_reference,
    Prod.UpProj.quiescent_kernel, Prod.UpProj.quiescent_ideal, Prod.UpProj.quiescent_reference,
    Prod.DownProj.quiescent_kernel, Prod.DownProj.quiescent_ideal, Prod.DownProj.quiescent_reference,
    Prod.DownWgrad.quiescent_kernel, Prod.DownWgrad.quiescent_ideal, Prod.DownWgrad.quiescent_reference,
    Prod.OWgrad.quiescent_kernel, Prod.OWgrad.quiescent_ideal, Prod.OWgrad.quiescent_reference,
    Prod.OutWgrad.quiescent_kernel, Prod.OutWgrad.quiescent_ideal, Prod.OutWgrad.quiescent_reference,
    Prod.InWgradA.quiescent_kernel, Prod.InWgradA.quiescent_ideal, Prod.InWgradA.quiescent_reference,
    Prod.InWgradB.quiescent_kernel, Prod.InWgradB.quiescent_ideal, Prod.InWgradB.quiescent_reference,
    Prod.UpWgradA.quiescent_kernel, Prod.UpWgradA.quiescent_ideal, Prod.UpWgradA.quiescent_reference,
    Prod.UpWgradB.quiescent_kernel, Prod.UpWgradB.quiescent_ideal, Prod.UpWgradB.quiescent_reference,
    Adam.AdaB.quiescent_kernel, Adam.AdaB.quiescent_ideal, Adam.AdaB.quiescent_reference,
    Adam.NormG.quiescent_kernel, Adam.NormG.quiescent_ideal, Adam.NormG.quiescent_reference,
    Adam.GateW.quiescent_kernel, Adam.GateW.quiescent_ideal, Adam.GateW.quiescent_reference,
    Adam.GateB.quiescent_kernel, Adam.GateB.quiescent_ideal, Adam.GateB.quiescent_reference,
    Adam.GlaNorm.quiescent_kernel, Adam.GlaNorm.quiescent_ideal, Adam.GlaNorm.quiescent_reference,
    Adam.ConvW.quiescent_kernel, Adam.ConvW.quiescent_ideal, Adam.ConvW.quiescent_reference,
    Adam.FfnConv.quiescent_kernel, Adam.FfnConv.quiescent_ideal, Adam.FfnConv.quiescent_reference,
    Adam.O.quiescent_kernel, Adam.O.quiescent_ideal, Adam.O.quiescent_reference,
    Adam.Down.quiescent_kernel, Adam.Down.quiescent_ideal, Adam.Down.quiescent_reference,
    Adam.Out.quiescent_kernel, Adam.Out.quiescent_ideal, Adam.Out.quiescent_reference,
    Adam.Ada.quiescent_kernel, Adam.Ada.quiescent_ideal, Adam.Ada.quiescent_reference,
    preserves, algebraic,
    trivial, Prod.DownDgrad.algebraic,
    trivial, Prod.UpDgrad.algebraic,
    trivial, Prod.ODgrad.algebraic,
    trivial, Prod.OutDgrad.algebraic,
    trivial, Prod.InDgrad.algebraic,
    trivial, Prod.InProj.algebraic,
    trivial, Prod.OutProj.algebraic,
    trivial, Prod.OProj.algebraic,
    trivial, Prod.UpProj.algebraic,
    trivial, Prod.DownProj.algebraic,
    trivial, Prod.DownWgrad.algebraic,
    trivial, Prod.OWgrad.algebraic,
    trivial, Prod.OutWgrad.algebraic,
    trivial, Prod.InWgradA.algebraic,
    trivial, Prod.InWgradB.algebraic,
    trivial, Prod.UpWgradA.algebraic,
    trivial, Prod.UpWgradB.algebraic,
    trivial, Adam.AdaB.algebraic,
    trivial, Adam.NormG.algebraic,
    trivial, Adam.GateW.algebraic,
    trivial, Adam.GateB.algebraic,
    trivial, Adam.GlaNorm.algebraic,
    trivial, Adam.ConvW.algebraic,
    trivial, Adam.FfnConv.algebraic,
    trivial, Adam.O.algebraic,
    trivial, Adam.Down.algebraic,
    trivial, Adam.Out.algebraic,
    trivial, Adam.Ada.algebraic⟩

end Cert.Proof

end
